-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_KernelAct (m : (ℓ : Loc Cert.KernelAct.nD Cert.KernelAct.τ Cert.KernelAct.sig) → Buf (Elt Bits) ℓ) : Prop :=
  True

def Pre_KernelActIdeal (m : (ℓ : Loc Cert.KernelActIdeal.nD Cert.KernelActIdeal.τ Cert.KernelActIdeal.sig) → Buf (Elt Ideal) ℓ) : Prop :=
  True

def Pre_KernelActIdeal_finite_act [hPre_finite_act : Cert.Pre_finite_act.Facts] (m : (ℓ : Loc Cert.KernelActIdeal.nD Cert.KernelActIdeal.τ Cert.KernelActIdeal.sig) → Buf (Elt Ideal) ℓ) : Prop :=
  ∀ c : Dev Cert.KernelActIdeal.nD,
    (Cert.Pre_finite_act.fn (F := Ideal) (m ((c.tc : Thread Cert.KernelActIdeal.nD Cert.KernelActIdeal.τ).loc Cert.KernelActIdeal.main_arg0)) (m ((c.tc : Thread Cert.KernelActIdeal.nD Cert.KernelActIdeal.τ).loc Cert.KernelActIdeal.main_arg1)) (m ((c.tc : Thread Cert.KernelActIdeal.nD Cert.KernelActIdeal.τ).loc Cert.KernelActIdeal.main_arg2))) = (fun _ => 1#1)

def Pre_ReferenceActIdeal (m : (ℓ : Loc Cert.ReferenceActIdeal.nD Cert.ReferenceActIdeal.τ Cert.ReferenceActIdeal.sig) → Buf (Elt Ideal) ℓ) : Prop :=
  True

def Pre_ReferenceActIdeal_finite_act [hPre_finite_act : Cert.Pre_finite_act.Facts] (m : (ℓ : Loc Cert.ReferenceActIdeal.nD Cert.ReferenceActIdeal.τ Cert.ReferenceActIdeal.sig) → Buf (Elt Ideal) ℓ) : Prop :=
  ∀ c : Dev Cert.ReferenceActIdeal.nD,
    (Cert.Pre_finite_act.fn (F := Ideal) (m ((c.tc : Thread Cert.ReferenceActIdeal.nD Cert.ReferenceActIdeal.τ).loc Cert.ReferenceActIdeal.main_arg0)) (m ((c.tc : Thread Cert.ReferenceActIdeal.nD Cert.ReferenceActIdeal.τ).loc Cert.ReferenceActIdeal.main_arg1)) (m ((c.tc : Thread Cert.ReferenceActIdeal.nD Cert.ReferenceActIdeal.τ).loc Cert.ReferenceActIdeal.main_arg2))) = (fun _ => 1#1)

def Pre_KernelDwGu (m : (ℓ : Loc Cert.KernelDwGu.nD Cert.KernelDwGu.τ Cert.KernelDwGu.sig) → Buf (Elt Bits) ℓ) : Prop :=
  True

def Pre_KernelDwGuIdeal (m : (ℓ : Loc Cert.KernelDwGuIdeal.nD Cert.KernelDwGuIdeal.τ Cert.KernelDwGuIdeal.sig) → Buf (Elt Ideal) ℓ) : Prop :=
  True

def Pre_ReferenceDwGuIdeal (m : (ℓ : Loc Cert.ReferenceDwGuIdeal.nD Cert.ReferenceDwGuIdeal.τ Cert.ReferenceDwGuIdeal.sig) → Buf (Elt Ideal) ℓ) : Prop :=
  True

def Pre_KernelDx1 (m : (ℓ : Loc Cert.KernelDx1.nD Cert.KernelDx1.τ Cert.KernelDx1.sig) → Buf (Elt Bits) ℓ) : Prop :=
  True

def Pre_KernelDx1Ideal (m : (ℓ : Loc Cert.KernelDx1Ideal.nD Cert.KernelDx1Ideal.τ Cert.KernelDx1Ideal.sig) → Buf (Elt Ideal) ℓ) : Prop :=
  True

def Pre_ReferenceDx1Ideal (m : (ℓ : Loc Cert.ReferenceDx1Ideal.nD Cert.ReferenceDx1Ideal.τ Cert.ReferenceDx1Ideal.sig) → Buf (Elt Ideal) ℓ) : Prop :=
  True

def Pre_KernelDwDown (m : (ℓ : Loc Cert.KernelDwDown.nD Cert.KernelDwDown.τ Cert.KernelDwDown.sig) → Buf (Elt Bits) ℓ) : Prop :=
  True

def Pre_KernelDwDownIdeal (m : (ℓ : Loc Cert.KernelDwDownIdeal.nD Cert.KernelDwDownIdeal.τ Cert.KernelDwDownIdeal.sig) → Buf (Elt Ideal) ℓ) : Prop :=
  True

def Pre_ReferenceDwDownIdeal (m : (ℓ : Loc Cert.ReferenceDwDownIdeal.nD Cert.ReferenceDwDownIdeal.τ Cert.ReferenceDwDownIdeal.sig) → Buf (Elt Ideal) ℓ) : Prop :=
  True

def Pre_KernelDwIn (m : (ℓ : Loc Cert.KernelDwIn.nD Cert.KernelDwIn.τ Cert.KernelDwIn.sig) → Buf (Elt Bits) ℓ) : Prop :=
  True

def Pre_KernelDwInIdeal (m : (ℓ : Loc Cert.KernelDwInIdeal.nD Cert.KernelDwInIdeal.τ Cert.KernelDwInIdeal.sig) → Buf (Elt Ideal) ℓ) : Prop :=
  True

def Pre_ReferenceDwInIdeal (m : (ℓ : Loc Cert.ReferenceDwInIdeal.nD Cert.ReferenceDwInIdeal.τ Cert.ReferenceDwInIdeal.sig) → Buf (Elt Ideal) ℓ) : Prop :=
  True

def Pre_KernelDxl (m : (ℓ : Loc Cert.KernelDxl.nD Cert.KernelDxl.τ Cert.KernelDxl.sig) → Buf (Elt Bits) ℓ) : Prop :=
  True

def Pre_KernelDxlIdeal (m : (ℓ : Loc Cert.KernelDxlIdeal.nD Cert.KernelDxlIdeal.τ Cert.KernelDxlIdeal.sig) → Buf (Elt Ideal) ℓ) : Prop :=
  True

def Pre_ReferenceDxlIdeal (m : (ℓ : Loc Cert.ReferenceDxlIdeal.nD Cert.ReferenceDxlIdeal.τ Cert.ReferenceDxlIdeal.sig) → Buf (Elt Ideal) ℓ) : Prop :=
  True

def Pre_KernelDwOut (m : (ℓ : Loc Cert.KernelDwOut.nD Cert.KernelDwOut.τ Cert.KernelDwOut.sig) → Buf (Elt Bits) ℓ) : Prop :=
  True

def Pre_KernelDwOutIdeal (m : (ℓ : Loc Cert.KernelDwOutIdeal.nD Cert.KernelDwOutIdeal.τ Cert.KernelDwOutIdeal.sig) → Buf (Elt Ideal) ℓ) : Prop :=
  True

def Pre_ReferenceDwOutIdeal (m : (ℓ : Loc Cert.ReferenceDwOutIdeal.nD Cert.ReferenceDwOutIdeal.τ Cert.ReferenceDwOutIdeal.sig) → Buf (Elt Ideal) ℓ) : Prop :=
  True

def Pre_KernelDmixin (m : (ℓ : Loc Cert.KernelDmixin.nD Cert.KernelDmixin.τ Cert.KernelDmixin.sig) → Buf (Elt Bits) ℓ) : Prop :=
  True

def Pre_KernelDmixinIdeal (m : (ℓ : Loc Cert.KernelDmixinIdeal.nD Cert.KernelDmixinIdeal.τ Cert.KernelDmixinIdeal.sig) → Buf (Elt Ideal) ℓ) : Prop :=
  True

def Pre_ReferenceDmixinIdeal (m : (ℓ : Loc Cert.ReferenceDmixinIdeal.nD Cert.ReferenceDmixinIdeal.τ Cert.ReferenceDmixinIdeal.sig) → Buf (Elt Ideal) ℓ) : Prop :=
  True

def Pre_KernelDwUq (m : (ℓ : Loc Cert.KernelDwUq.nD Cert.KernelDwUq.τ Cert.KernelDwUq.sig) → Buf (Elt Bits) ℓ) : Prop :=
  True

def Pre_KernelDwUqIdeal (m : (ℓ : Loc Cert.KernelDwUqIdeal.nD Cert.KernelDwUqIdeal.τ Cert.KernelDwUqIdeal.sig) → Buf (Elt Ideal) ℓ) : Prop :=
  True

def Pre_ReferenceDwUqIdeal (m : (ℓ : Loc Cert.ReferenceDwUqIdeal.nD Cert.ReferenceDwUqIdeal.τ Cert.ReferenceDwUqIdeal.sig) → Buf (Elt Ideal) ℓ) : Prop :=
  True

def Pre_KernelDqn (m : (ℓ : Loc Cert.KernelDqn.nD Cert.KernelDqn.τ Cert.KernelDqn.sig) → Buf (Elt Bits) ℓ) : Prop :=
  True

def Pre_KernelDqnIdeal (m : (ℓ : Loc Cert.KernelDqnIdeal.nD Cert.KernelDqnIdeal.τ Cert.KernelDqnIdeal.sig) → Buf (Elt Ideal) ℓ) : Prop :=
  True

def Pre_ReferenceDqnIdeal (m : (ℓ : Loc Cert.ReferenceDqnIdeal.nD Cert.ReferenceDqnIdeal.τ Cert.ReferenceDqnIdeal.sig) → Buf (Elt Ideal) ℓ) : Prop :=
  True

def Pre_KernelDwUkv (m : (ℓ : Loc Cert.KernelDwUkv.nD Cert.KernelDwUkv.τ Cert.KernelDwUkv.sig) → Buf (Elt Bits) ℓ) : Prop :=
  True

def Pre_KernelDwUkvIdeal (m : (ℓ : Loc Cert.KernelDwUkvIdeal.nD Cert.KernelDwUkvIdeal.τ Cert.KernelDwUkvIdeal.sig) → Buf (Elt Ideal) ℓ) : Prop :=
  True

def Pre_ReferenceDwUkvIdeal (m : (ℓ : Loc Cert.ReferenceDwUkvIdeal.nD Cert.ReferenceDwUkvIdeal.τ Cert.ReferenceDwUkvIdeal.sig) → Buf (Elt Ideal) ℓ) : Prop :=
  True

def Pre_KernelDkvn (m : (ℓ : Loc Cert.KernelDkvn.nD Cert.KernelDkvn.τ Cert.KernelDkvn.sig) → Buf (Elt Bits) ℓ) : Prop :=
  True

def Pre_KernelDkvnIdeal (m : (ℓ : Loc Cert.KernelDkvnIdeal.nD Cert.KernelDkvnIdeal.τ Cert.KernelDkvnIdeal.sig) → Buf (Elt Ideal) ℓ) : Prop :=
  True

def Pre_ReferenceDkvnIdeal (m : (ℓ : Loc Cert.ReferenceDkvnIdeal.nD Cert.ReferenceDkvnIdeal.τ Cert.ReferenceDkvnIdeal.sig) → Buf (Elt Ideal) ℓ) : Prop :=
  True

def Pre_KernelGu (m : (ℓ : Loc Cert.KernelGu.nD Cert.KernelGu.τ Cert.KernelGu.sig) → Buf (Elt Bits) ℓ) : Prop :=
  True

def Pre_KernelGuIdeal (m : (ℓ : Loc Cert.KernelGuIdeal.nD Cert.KernelGuIdeal.τ Cert.KernelGuIdeal.sig) → Buf (Elt Ideal) ℓ) : Prop :=
  True

def Pre_ReferenceGuIdeal (m : (ℓ : Loc Cert.ReferenceGuIdeal.nD Cert.ReferenceGuIdeal.τ Cert.ReferenceGuIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelH (m : (ℓ : Loc Cert.KernelH.nD Cert.KernelH.τ Cert.KernelH.sig) → Buf (Elt Bits) ℓ) : Prop :=
  True

def Pre_KernelHIdeal (m : (ℓ : Loc Cert.KernelHIdeal.nD Cert.KernelHIdeal.τ Cert.KernelHIdeal.sig) → Buf (Elt Ideal) ℓ) : Prop :=
  True

def Pre_ReferenceHIdeal (m : (ℓ : Loc Cert.ReferenceHIdeal.nD Cert.ReferenceHIdeal.τ Cert.ReferenceHIdeal.sig) → Buf (Elt Ideal) ℓ) : Prop :=
  True

def Pre_KernelQ (m : (ℓ : Loc Cert.KernelQ.nD Cert.KernelQ.τ Cert.KernelQ.sig) → Buf (Elt Bits) ℓ) : Prop :=
  True

def Pre_KernelQIdeal (m : (ℓ : Loc Cert.KernelQIdeal.nD Cert.KernelQIdeal.τ Cert.KernelQIdeal.sig) → Buf (Elt Ideal) ℓ) : Prop :=
  True

def Pre_ReferenceQIdeal (m : (ℓ : Loc Cert.ReferenceQIdeal.nD Cert.ReferenceQIdeal.τ Cert.ReferenceQIdeal.sig) → Buf (Elt Ideal) ℓ) : Prop :=
  True

def Pre_KernelKv (m : (ℓ : Loc Cert.KernelKv.nD Cert.KernelKv.τ Cert.KernelKv.sig) → Buf (Elt Bits) ℓ) : Prop :=
  True

def Pre_KernelKvIdeal (m : (ℓ : Loc Cert.KernelKvIdeal.nD Cert.KernelKvIdeal.τ Cert.KernelKvIdeal.sig) → Buf (Elt Ideal) ℓ) : Prop :=
  True

def Pre_ReferenceKvIdeal (m : (ℓ : Loc Cert.ReferenceKvIdeal.nD Cert.ReferenceKvIdeal.τ Cert.ReferenceKvIdeal.sig) → Buf (Elt Ideal) ℓ) : Prop :=
  True

def Pre_KernelMix (m : (ℓ : Loc Cert.KernelMix.nD Cert.KernelMix.τ Cert.KernelMix.sig) → Buf (Elt Bits) ℓ) : Prop :=
  True

def Pre_KernelMixIdeal (m : (ℓ : Loc Cert.KernelMixIdeal.nD Cert.KernelMixIdeal.τ Cert.KernelMixIdeal.sig) → Buf (Elt Ideal) ℓ) : Prop :=
  True

def Pre_ReferenceMixIdeal (m : (ℓ : Loc Cert.ReferenceMixIdeal.nD Cert.ReferenceMixIdeal.τ Cert.ReferenceMixIdeal.sig) → Buf (Elt Ideal) ℓ) : Prop :=
  True

def Pre_KernelNorm (m : (ℓ : Loc Cert.KernelNorm.nD Cert.KernelNorm.τ Cert.KernelNorm.sig) → Buf (Elt Bits) ℓ) : Prop :=
  True

def Pre_KernelNormIdeal (m : (ℓ : Loc Cert.KernelNormIdeal.nD Cert.KernelNormIdeal.τ Cert.KernelNormIdeal.sig) → Buf (Elt Ideal) ℓ) : Prop :=
  True

def Pre_ReferenceNormIdeal (m : (ℓ : Loc Cert.ReferenceNormIdeal.nD Cert.ReferenceNormIdeal.τ Cert.ReferenceNormIdeal.sig) → Buf (Elt Ideal) ℓ) : Prop :=
  True

def Pre_KernelRet (m : (ℓ : Loc Cert.KernelRet.nD Cert.KernelRet.τ Cert.KernelRet.sig) → Buf (Elt Bits) ℓ) : Prop :=
  True

def Pre_KernelRetIdeal (m : (ℓ : Loc Cert.KernelRetIdeal.nD Cert.KernelRetIdeal.τ Cert.KernelRetIdeal.sig) → Buf (Elt Ideal) ℓ) : Prop :=
  True

def Pre_KernelRetIdeal_finite_ret [hPre_finite_ret : Cert.Pre_finite_ret.Facts] (m : (ℓ : Loc Cert.KernelRetIdeal.nD Cert.KernelRetIdeal.τ Cert.KernelRetIdeal.sig) → Buf (Elt Ideal) ℓ) : Prop :=
  ∀ c : Dev Cert.KernelRetIdeal.nD,
    (Cert.Pre_finite_ret.fn (F := Ideal) (m ((c.tc : Thread Cert.KernelRetIdeal.nD Cert.KernelRetIdeal.τ).loc Cert.KernelRetIdeal.main_arg0)) (m ((c.tc : Thread Cert.KernelRetIdeal.nD Cert.KernelRetIdeal.τ).loc Cert.KernelRetIdeal.main_arg1)) (m ((c.tc : Thread Cert.KernelRetIdeal.nD Cert.KernelRetIdeal.τ).loc Cert.KernelRetIdeal.main_arg2))) = (fun _ => 1#1)

def Pre_ReferenceRetIdeal (m : (ℓ : Loc Cert.ReferenceRetIdeal.nD Cert.ReferenceRetIdeal.τ Cert.ReferenceRetIdeal.sig) → Buf (Elt Ideal) ℓ) : Prop :=
  True

def Pre_ReferenceRetIdeal_finite_ret [hPre_finite_ret : Cert.Pre_finite_ret.Facts] (m : (ℓ : Loc Cert.ReferenceRetIdeal.nD Cert.ReferenceRetIdeal.τ Cert.ReferenceRetIdeal.sig) → Buf (Elt Ideal) ℓ) : Prop :=
  ∀ c : Dev Cert.ReferenceRetIdeal.nD,
    (Cert.Pre_finite_ret.fn (F := Ideal) (m ((c.tc : Thread Cert.ReferenceRetIdeal.nD Cert.ReferenceRetIdeal.τ).loc Cert.ReferenceRetIdeal.main_arg0)) (m ((c.tc : Thread Cert.ReferenceRetIdeal.nD Cert.ReferenceRetIdeal.τ).loc Cert.ReferenceRetIdeal.main_arg1)) (m ((c.tc : Thread Cert.ReferenceRetIdeal.nD Cert.ReferenceRetIdeal.τ).loc Cert.ReferenceRetIdeal.main_arg2))) = (fun _ => 1#1)

def Pre_KernelMla (m : (ℓ : Loc Cert.KernelMla.nD Cert.KernelMla.τ Cert.KernelMla.sig) → Buf (Elt Bits) ℓ) : Prop :=
  True

def Pre_KernelMlaIdeal (m : (ℓ : Loc Cert.KernelMlaIdeal.nD Cert.KernelMlaIdeal.τ Cert.KernelMlaIdeal.sig) → Buf (Elt Ideal) ℓ) : Prop :=
  True

def Pre_KernelMlaIdeal_finite_mla [hPre_finite_mla : Cert.Pre_finite_mla.Facts] (m : (ℓ : Loc Cert.KernelMlaIdeal.nD Cert.KernelMlaIdeal.τ Cert.KernelMlaIdeal.sig) → Buf (Elt Ideal) ℓ) : Prop :=
  ∀ c : Dev Cert.KernelMlaIdeal.nD,
    (Cert.Pre_finite_mla.fn (F := Ideal) (m ((c.tc : Thread Cert.KernelMlaIdeal.nD Cert.KernelMlaIdeal.τ).loc Cert.KernelMlaIdeal.main_arg0)) (m ((c.tc : Thread Cert.KernelMlaIdeal.nD Cert.KernelMlaIdeal.τ).loc Cert.KernelMlaIdeal.main_arg1)) (m ((c.tc : Thread Cert.KernelMlaIdeal.nD Cert.KernelMlaIdeal.τ).loc Cert.KernelMlaIdeal.main_arg2))) = (fun _ => 1#1)

def Pre_ReferenceMlaIdeal (m : (ℓ : Loc Cert.ReferenceMlaIdeal.nD Cert.ReferenceMlaIdeal.τ Cert.ReferenceMlaIdeal.sig) → Buf (Elt Ideal) ℓ) : Prop :=
  True

def Pre_ReferenceMlaIdeal_finite_mla [hPre_finite_mla : Cert.Pre_finite_mla.Facts] (m : (ℓ : Loc Cert.ReferenceMlaIdeal.nD Cert.ReferenceMlaIdeal.τ Cert.ReferenceMlaIdeal.sig) → Buf (Elt Ideal) ℓ) : Prop :=
  ∀ c : Dev Cert.ReferenceMlaIdeal.nD,
    (Cert.Pre_finite_mla.fn (F := Ideal) (m ((c.tc : Thread Cert.ReferenceMlaIdeal.nD Cert.ReferenceMlaIdeal.τ).loc Cert.ReferenceMlaIdeal.main_arg0)) (m ((c.tc : Thread Cert.ReferenceMlaIdeal.nD Cert.ReferenceMlaIdeal.τ).loc Cert.ReferenceMlaIdeal.main_arg1)) (m ((c.tc : Thread Cert.ReferenceMlaIdeal.nD Cert.ReferenceMlaIdeal.τ).loc Cert.ReferenceMlaIdeal.main_arg2))) = (fun _ => 1#1)

def Pre_KernelMlaBwd (m : (ℓ : Loc Cert.KernelMlaBwd.nD Cert.KernelMlaBwd.τ Cert.KernelMlaBwd.sig) → Buf (Elt Bits) ℓ) : Prop :=
  True

def Pre_KernelMlaBwdIdeal (m : (ℓ : Loc Cert.KernelMlaBwdIdeal.nD Cert.KernelMlaBwdIdeal.τ Cert.KernelMlaBwdIdeal.sig) → Buf (Elt Ideal) ℓ) : Prop :=
  True

def Pre_KernelMlaBwdIdeal_finite_mla_bwd [hPre_finite_mla_bwd : Cert.Pre_finite_mla_bwd.Facts] (m : (ℓ : Loc Cert.KernelMlaBwdIdeal.nD Cert.KernelMlaBwdIdeal.τ Cert.KernelMlaBwdIdeal.sig) → Buf (Elt Ideal) ℓ) : Prop :=
  ∀ c : Dev Cert.KernelMlaBwdIdeal.nD,
    (Cert.Pre_finite_mla_bwd.fn (F := Ideal) (m ((c.tc : Thread Cert.KernelMlaBwdIdeal.nD Cert.KernelMlaBwdIdeal.τ).loc Cert.KernelMlaBwdIdeal.main_arg0)) (m ((c.tc : Thread Cert.KernelMlaBwdIdeal.nD Cert.KernelMlaBwdIdeal.τ).loc Cert.KernelMlaBwdIdeal.main_arg1)) (m ((c.tc : Thread Cert.KernelMlaBwdIdeal.nD Cert.KernelMlaBwdIdeal.τ).loc Cert.KernelMlaBwdIdeal.main_arg2)) (m ((c.tc : Thread Cert.KernelMlaBwdIdeal.nD Cert.KernelMlaBwdIdeal.τ).loc Cert.KernelMlaBwdIdeal.main_arg3))) = (fun _ => 1#1)

def Pre_ReferenceMlaBwdIdeal (m : (ℓ : Loc Cert.ReferenceMlaBwdIdeal.nD Cert.ReferenceMlaBwdIdeal.τ Cert.ReferenceMlaBwdIdeal.sig) → Buf (Elt Ideal) ℓ) : Prop :=
  True

def Pre_ReferenceMlaBwdIdeal_finite_mla_bwd [hPre_finite_mla_bwd : Cert.Pre_finite_mla_bwd.Facts] (m : (ℓ : Loc Cert.ReferenceMlaBwdIdeal.nD Cert.ReferenceMlaBwdIdeal.τ Cert.ReferenceMlaBwdIdeal.sig) → Buf (Elt Ideal) ℓ) : Prop :=
  ∀ c : Dev Cert.ReferenceMlaBwdIdeal.nD,
    (Cert.Pre_finite_mla_bwd.fn (F := Ideal) (m ((c.tc : Thread Cert.ReferenceMlaBwdIdeal.nD Cert.ReferenceMlaBwdIdeal.τ).loc Cert.ReferenceMlaBwdIdeal.main_arg0)) (m ((c.tc : Thread Cert.ReferenceMlaBwdIdeal.nD Cert.ReferenceMlaBwdIdeal.τ).loc Cert.ReferenceMlaBwdIdeal.main_arg1)) (m ((c.tc : Thread Cert.ReferenceMlaBwdIdeal.nD Cert.ReferenceMlaBwdIdeal.τ).loc Cert.ReferenceMlaBwdIdeal.main_arg2)) (m ((c.tc : Thread Cert.ReferenceMlaBwdIdeal.nD Cert.ReferenceMlaBwdIdeal.τ).loc Cert.ReferenceMlaBwdIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelAct [hKernelAct : Cert.KernelAct.Facts] : Prop :=
  ∀ (m : (ℓ : Loc Cert.KernelAct.nD Cert.KernelAct.τ Cert.KernelAct.sig) → Buf (Elt Bits) ℓ) (g : Dev Cert.KernelAct.nD → PrngReg), Pre_KernelAct m →
    θ_run (Cert.KernelAct.defs (F := Bits)) (onTc (τ := Cert.KernelAct.τ) (Cert.KernelAct.main (F := Bits))) ⟨m, fun _ => 0, g⟩ (fun r => (∀ c : Dev Cert.KernelAct.nD,
      r.2.mem ((c.tc : Thread Cert.KernelAct.nD Cert.KernelAct.τ).loc Cert.KernelAct.main_arg0) = m ((c.tc : Thread Cert.KernelAct.nD Cert.KernelAct.τ).loc Cert.KernelAct.main_arg0)
      ∧ r.2.mem ((c.tc : Thread Cert.KernelAct.nD Cert.KernelAct.τ).loc Cert.KernelAct.main_arg1) = m ((c.tc : Thread Cert.KernelAct.nD Cert.KernelAct.τ).loc Cert.KernelAct.main_arg1)
      ∧ r.2.mem ((c.tc : Thread Cert.KernelAct.nD Cert.KernelAct.τ).loc Cert.KernelAct.main_arg2) = m ((c.tc : Thread Cert.KernelAct.nD Cert.KernelAct.τ).loc Cert.KernelAct.main_arg2))
      ∧ r.2.sem = fun _ => 0)

def quiescent_KernelActIdeal [hKernelActIdeal : Cert.KernelActIdeal.Facts] : Prop :=
  ∀ (m : (ℓ : Loc Cert.KernelActIdeal.nD Cert.KernelActIdeal.τ Cert.KernelActIdeal.sig) → Buf (Elt Ideal) ℓ) (g : Dev Cert.KernelActIdeal.nD → PrngReg), Pre_KernelActIdeal m →
    θ_run (Cert.KernelActIdeal.defs (F := Ideal)) (onTc (τ := Cert.KernelActIdeal.τ) (Cert.KernelActIdeal.main (F := Ideal))) ⟨m, fun _ => 0, g⟩ (fun r => (∀ c : Dev Cert.KernelActIdeal.nD,
      r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0)
      ∧ r.2.mem ((c.tc : Thread Cert.KernelActIdeal.nD Cert.KernelActIdeal.τ).loc Cert.KernelActIdeal.main_arg1) = m ((c.tc : Thread Cert.KernelActIdeal.nD Cert.KernelActIdeal.τ).loc Cert.KernelActIdeal.main_arg1)
      ∧ r.2.mem ((c.tc : Thread Cert.KernelActIdeal.nD Cert.KernelActIdeal.τ).loc Cert.KernelActIdeal.main_arg2) = m ((c.tc : Thread Cert.KernelActIdeal.nD Cert.KernelActIdeal.τ).loc Cert.KernelActIdeal.main_arg2))
      ∧ r.2.sem = fun _ => 0)

def quiescent_KernelActIdeal_pre_finite_act [hKernelActIdeal : Cert.KernelActIdeal.Facts] [hPre_finite_act : Cert.Pre_finite_act.Facts] : Prop :=
  ∀ (m : (ℓ : Loc Cert.KernelActIdeal.nD Cert.KernelActIdeal.τ Cert.KernelActIdeal.sig) → Buf (Elt Ideal) ℓ) (g : Dev Cert.KernelActIdeal.nD → PrngReg), Pre_KernelActIdeal_finite_act m →
    θ_run (Cert.KernelActIdeal.defs (F := Ideal)) (onTc (τ := Cert.KernelActIdeal.τ) (Cert.KernelActIdeal.main (F := Ideal))) ⟨m, fun _ => 0, g⟩ (fun r => (∀ c : Dev Cert.KernelActIdeal.nD,
      r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0)
      ∧ r.2.mem ((c.tc : Thread Cert.KernelActIdeal.nD Cert.KernelActIdeal.τ).loc Cert.KernelActIdeal.main_arg1) = m ((c.tc : Thread Cert.KernelActIdeal.nD Cert.KernelActIdeal.τ).loc Cert.KernelActIdeal.main_arg1)
      ∧ r.2.mem ((c.tc : Thread Cert.KernelActIdeal.nD Cert.KernelActIdeal.τ).loc Cert.KernelActIdeal.main_arg2) = m ((c.tc : Thread Cert.KernelActIdeal.nD Cert.KernelActIdeal.τ).loc Cert.KernelActIdeal.main_arg2))
      ∧ r.2.sem = fun _ => 0)

def quiescent_ReferenceActIdeal [hReferenceActIdeal : Cert.ReferenceActIdeal.Facts] : Prop :=
  ∀ (m : (ℓ : Loc Cert.ReferenceActIdeal.nD Cert.ReferenceActIdeal.τ Cert.ReferenceActIdeal.sig) → Buf (Elt Ideal) ℓ) (g : Dev Cert.ReferenceActIdeal.nD → PrngReg), Pre_ReferenceActIdeal m →
    θ_run (Cert.ReferenceActIdeal.defs (F := Ideal)) (onTc (τ := Cert.ReferenceActIdeal.τ) (Cert.ReferenceActIdeal.main (F := Ideal))) ⟨m, fun _ => 0, g⟩ (fun r => (∀ c : Dev Cert.ReferenceActIdeal.nD,
      r.2.mem ((c.tc : Thread Cert.ReferenceActIdeal.nD Cert.ReferenceActIdeal.τ).loc Cert.ReferenceActIdeal.main_arg0) = m ((c.tc : Thread Cert.ReferenceActIdeal.nD Cert.ReferenceActIdeal.τ).loc Cert.ReferenceActIdeal.main_arg0)
      ∧ r.2.mem ((c.tc : Thread Cert.ReferenceActIdeal.nD Cert.ReferenceActIdeal.τ).loc Cert.ReferenceActIdeal.main_arg1) = m ((c.tc : Thread Cert.ReferenceActIdeal.nD Cert.ReferenceActIdeal.τ).loc Cert.ReferenceActIdeal.main_arg1)
      ∧ r.2.mem ((c.tc : Thread Cert.ReferenceActIdeal.nD Cert.ReferenceActIdeal.τ).loc Cert.ReferenceActIdeal.main_arg2) = m ((c.tc : Thread Cert.ReferenceActIdeal.nD Cert.ReferenceActIdeal.τ).loc Cert.ReferenceActIdeal.main_arg2))
      ∧ r.2.sem = fun _ => 0)

def quiescent_ReferenceActIdeal_pre_finite_act [hReferenceActIdeal : Cert.ReferenceActIdeal.Facts] [hPre_finite_act : Cert.Pre_finite_act.Facts] : Prop :=
  ∀ (m : (ℓ : Loc Cert.ReferenceActIdeal.nD Cert.ReferenceActIdeal.τ Cert.ReferenceActIdeal.sig) → Buf (Elt Ideal) ℓ) (g : Dev Cert.ReferenceActIdeal.nD → PrngReg), Pre_ReferenceActIdeal_finite_act m →
    θ_run (Cert.ReferenceActIdeal.defs (F := Ideal)) (onTc (τ := Cert.ReferenceActIdeal.τ) (Cert.ReferenceActIdeal.main (F := Ideal))) ⟨m, fun _ => 0, g⟩ (fun r => (∀ c : Dev Cert.ReferenceActIdeal.nD,
      r.2.mem ((c.tc : Thread Cert.ReferenceActIdeal.nD Cert.ReferenceActIdeal.τ).loc Cert.ReferenceActIdeal.main_arg0) = m ((c.tc : Thread Cert.ReferenceActIdeal.nD Cert.ReferenceActIdeal.τ).loc Cert.ReferenceActIdeal.main_arg0)
      ∧ r.2.mem ((c.tc : Thread Cert.ReferenceActIdeal.nD Cert.ReferenceActIdeal.τ).loc Cert.ReferenceActIdeal.main_arg1) = m ((c.tc : Thread Cert.ReferenceActIdeal.nD Cert.ReferenceActIdeal.τ).loc Cert.ReferenceActIdeal.main_arg1)
      ∧ r.2.mem ((c.tc : Thread Cert.ReferenceActIdeal.nD Cert.ReferenceActIdeal.τ).loc Cert.ReferenceActIdeal.main_arg2) = m ((c.tc : Thread Cert.ReferenceActIdeal.nD Cert.ReferenceActIdeal.τ).loc Cert.ReferenceActIdeal.main_arg2))
      ∧ r.2.sem = fun _ => 0)

def quiescent_KernelDwGu [hKernelDwGu : Cert.KernelDwGu.Facts] : Prop :=
  ∀ (m : (ℓ : Loc Cert.KernelDwGu.nD Cert.KernelDwGu.τ Cert.KernelDwGu.sig) → Buf (Elt Bits) ℓ) (g : Dev Cert.KernelDwGu.nD → PrngReg), Pre_KernelDwGu m →
    θ_run (Cert.KernelDwGu.defs (F := Bits)) (onTc (τ := Cert.KernelDwGu.τ) (Cert.KernelDwGu.main (F := Bits))) ⟨m, fun _ => 0, g⟩ (fun r => (∀ c : Dev Cert.KernelDwGu.nD,
      r.2.mem ((c.tc : Thread Cert.KernelDwGu.nD Cert.KernelDwGu.τ).loc Cert.KernelDwGu.main_arg0) = m ((c.tc : Thread Cert.KernelDwGu.nD Cert.KernelDwGu.τ).loc Cert.KernelDwGu.main_arg0)
      ∧ r.2.mem ((c.tc : Thread Cert.KernelDwGu.nD Cert.KernelDwGu.τ).loc Cert.KernelDwGu.main_arg1) = m ((c.tc : Thread Cert.KernelDwGu.nD Cert.KernelDwGu.τ).loc Cert.KernelDwGu.main_arg1))
      ∧ r.2.sem = fun _ => 0)

def quiescent_KernelDwGuIdeal [hKernelDwGuIdeal : Cert.KernelDwGuIdeal.Facts] : Prop :=
  ∀ (m : (ℓ : Loc Cert.KernelDwGuIdeal.nD Cert.KernelDwGuIdeal.τ Cert.KernelDwGuIdeal.sig) → Buf (Elt Ideal) ℓ) (g : Dev Cert.KernelDwGuIdeal.nD → PrngReg), Pre_KernelDwGuIdeal m →
    θ_run (Cert.KernelDwGuIdeal.defs (F := Ideal)) (onTc (τ := Cert.KernelDwGuIdeal.τ) (Cert.KernelDwGuIdeal.main (F := Ideal))) ⟨m, fun _ => 0, g⟩ (fun r => (∀ c : Dev Cert.KernelDwGuIdeal.nD,
      r.2.mem ((c.tc : Thread Cert.KernelDwGuIdeal.nD Cert.KernelDwGuIdeal.τ).loc Cert.KernelDwGuIdeal.main_arg0) = m ((c.tc : Thread Cert.KernelDwGuIdeal.nD Cert.KernelDwGuIdeal.τ).loc Cert.KernelDwGuIdeal.main_arg0)
      ∧ r.2.mem ((c.tc : Thread Cert.KernelDwGuIdeal.nD Cert.KernelDwGuIdeal.τ).loc Cert.KernelDwGuIdeal.main_arg1) = m ((c.tc : Thread Cert.KernelDwGuIdeal.nD Cert.KernelDwGuIdeal.τ).loc Cert.KernelDwGuIdeal.main_arg1))
      ∧ r.2.sem = fun _ => 0)

def quiescent_ReferenceDwGuIdeal [hReferenceDwGuIdeal : Cert.ReferenceDwGuIdeal.Facts] : Prop :=
  ∀ (m : (ℓ : Loc Cert.ReferenceDwGuIdeal.nD Cert.ReferenceDwGuIdeal.τ Cert.ReferenceDwGuIdeal.sig) → Buf (Elt Ideal) ℓ) (g : Dev Cert.ReferenceDwGuIdeal.nD → PrngReg), Pre_ReferenceDwGuIdeal m →
    θ_run (Cert.ReferenceDwGuIdeal.defs (F := Ideal)) (onTc (τ := Cert.ReferenceDwGuIdeal.τ) (Cert.ReferenceDwGuIdeal.main (F := Ideal))) ⟨m, fun _ => 0, g⟩ (fun r => (∀ c : Dev Cert.ReferenceDwGuIdeal.nD,
      r.2.mem ((c.tc : Thread Cert.ReferenceDwGuIdeal.nD Cert.ReferenceDwGuIdeal.τ).loc Cert.ReferenceDwGuIdeal.main_arg0) = m ((c.tc : Thread Cert.ReferenceDwGuIdeal.nD Cert.ReferenceDwGuIdeal.τ).loc Cert.ReferenceDwGuIdeal.main_arg0)
      ∧ r.2.mem ((c.tc : Thread Cert.ReferenceDwGuIdeal.nD Cert.ReferenceDwGuIdeal.τ).loc Cert.ReferenceDwGuIdeal.main_arg1) = m ((c.tc : Thread Cert.ReferenceDwGuIdeal.nD Cert.ReferenceDwGuIdeal.τ).loc Cert.ReferenceDwGuIdeal.main_arg1))
      ∧ r.2.sem = fun _ => 0)

def quiescent_KernelDx1 [hKernelDx1 : Cert.KernelDx1.Facts] : Prop :=
  ∀ (m : (ℓ : Loc Cert.KernelDx1.nD Cert.KernelDx1.τ Cert.KernelDx1.sig) → Buf (Elt Bits) ℓ) (g : Dev Cert.KernelDx1.nD → PrngReg), Pre_KernelDx1 m →
    θ_run (Cert.KernelDx1.defs (F := Bits)) (onTc (τ := Cert.KernelDx1.τ) (Cert.KernelDx1.main (F := Bits))) ⟨m, fun _ => 0, g⟩ (fun r => (∀ c : Dev Cert.KernelDx1.nD,
      r.2.mem ((c.tc : Thread Cert.KernelDx1.nD Cert.KernelDx1.τ).loc Cert.KernelDx1.main_arg0) = m ((c.tc : Thread Cert.KernelDx1.nD Cert.KernelDx1.τ).loc Cert.KernelDx1.main_arg0)
      ∧ r.2.mem ((c.tc : Thread Cert.KernelDx1.nD Cert.KernelDx1.τ).loc Cert.KernelDx1.main_arg1) = m ((c.tc : Thread Cert.KernelDx1.nD Cert.KernelDx1.τ).loc Cert.KernelDx1.main_arg1))
      ∧ r.2.sem = fun _ => 0)

def quiescent_KernelDx1Ideal [hKernelDx1Ideal : Cert.KernelDx1Ideal.Facts] : Prop :=
  ∀ (m : (ℓ : Loc Cert.KernelDx1Ideal.nD Cert.KernelDx1Ideal.τ Cert.KernelDx1Ideal.sig) → Buf (Elt Ideal) ℓ) (g : Dev Cert.KernelDx1Ideal.nD → PrngReg), Pre_KernelDx1Ideal m →
    θ_run (Cert.KernelDx1Ideal.defs (F := Ideal)) (onTc (τ := Cert.KernelDx1Ideal.τ) (Cert.KernelDx1Ideal.main (F := Ideal))) ⟨m, fun _ => 0, g⟩ (fun r => (∀ c : Dev Cert.KernelDx1Ideal.nD,
      r.2.mem ((c.tc : Thread Cert.KernelDx1Ideal.nD Cert.KernelDx1Ideal.τ).loc Cert.KernelDx1Ideal.main_arg0) = m ((c.tc : Thread Cert.KernelDx1Ideal.nD Cert.KernelDx1Ideal.τ).loc Cert.KernelDx1Ideal.main_arg0)
      ∧ r.2.mem ((c.tc : Thread Cert.KernelDx1Ideal.nD Cert.KernelDx1Ideal.τ).loc Cert.KernelDx1Ideal.main_arg1) = m ((c.tc : Thread Cert.KernelDx1Ideal.nD Cert.KernelDx1Ideal.τ).loc Cert.KernelDx1Ideal.main_arg1))
      ∧ r.2.sem = fun _ => 0)

def quiescent_ReferenceDx1Ideal [hReferenceDx1Ideal : Cert.ReferenceDx1Ideal.Facts] : Prop :=
  ∀ (m : (ℓ : Loc Cert.ReferenceDx1Ideal.nD Cert.ReferenceDx1Ideal.τ Cert.ReferenceDx1Ideal.sig) → Buf (Elt Ideal) ℓ) (g : Dev Cert.ReferenceDx1Ideal.nD → PrngReg), Pre_ReferenceDx1Ideal m →
    θ_run (Cert.ReferenceDx1Ideal.defs (F := Ideal)) (onTc (τ := Cert.ReferenceDx1Ideal.τ) (Cert.ReferenceDx1Ideal.main (F := Ideal))) ⟨m, fun _ => 0, g⟩ (fun r => (∀ c : Dev Cert.ReferenceDx1Ideal.nD,
      r.2.mem ((c.tc : Thread Cert.ReferenceDx1Ideal.nD Cert.ReferenceDx1Ideal.τ).loc Cert.ReferenceDx1Ideal.main_arg0) = m ((c.tc : Thread Cert.ReferenceDx1Ideal.nD Cert.ReferenceDx1Ideal.τ).loc Cert.ReferenceDx1Ideal.main_arg0)
      ∧ r.2.mem ((c.tc : Thread Cert.ReferenceDx1Ideal.nD Cert.ReferenceDx1Ideal.τ).loc Cert.ReferenceDx1Ideal.main_arg1) = m ((c.tc : Thread Cert.ReferenceDx1Ideal.nD Cert.ReferenceDx1Ideal.τ).loc Cert.ReferenceDx1Ideal.main_arg1))
      ∧ r.2.sem = fun _ => 0)

def quiescent_KernelDwDown [hKernelDwDown : Cert.KernelDwDown.Facts] : Prop :=
  ∀ (m : (ℓ : Loc Cert.KernelDwDown.nD Cert.KernelDwDown.τ Cert.KernelDwDown.sig) → Buf (Elt Bits) ℓ) (g : Dev Cert.KernelDwDown.nD → PrngReg), Pre_KernelDwDown m →
    θ_run (Cert.KernelDwDown.defs (F := Bits)) (onTc (τ := Cert.KernelDwDown.τ) (Cert.KernelDwDown.main (F := Bits))) ⟨m, fun _ => 0, g⟩ (fun r => (∀ c : Dev Cert.KernelDwDown.nD,
      r.2.mem ((c.tc : Thread Cert.KernelDwDown.nD Cert.KernelDwDown.τ).loc Cert.KernelDwDown.main_arg0) = m ((c.tc : Thread Cert.KernelDwDown.nD Cert.KernelDwDown.τ).loc Cert.KernelDwDown.main_arg0)
      ∧ r.2.mem ((c.tc : Thread Cert.KernelDwDown.nD Cert.KernelDwDown.τ).loc Cert.KernelDwDown.main_arg1) = m ((c.tc : Thread Cert.KernelDwDown.nD Cert.KernelDwDown.τ).loc Cert.KernelDwDown.main_arg1))
      ∧ r.2.sem = fun _ => 0)

def quiescent_KernelDwDownIdeal [hKernelDwDownIdeal : Cert.KernelDwDownIdeal.Facts] : Prop :=
  ∀ (m : (ℓ : Loc Cert.KernelDwDownIdeal.nD Cert.KernelDwDownIdeal.τ Cert.KernelDwDownIdeal.sig) → Buf (Elt Ideal) ℓ) (g : Dev Cert.KernelDwDownIdeal.nD → PrngReg), Pre_KernelDwDownIdeal m →
    θ_run (Cert.KernelDwDownIdeal.defs (F := Ideal)) (onTc (τ := Cert.KernelDwDownIdeal.τ) (Cert.KernelDwDownIdeal.main (F := Ideal))) ⟨m, fun _ => 0, g⟩ (fun r => (∀ c : Dev Cert.KernelDwDownIdeal.nD,
      r.2.mem ((c.tc : Thread Cert.KernelDwDownIdeal.nD Cert.KernelDwDownIdeal.τ).loc Cert.KernelDwDownIdeal.main_arg0) = m ((c.tc : Thread Cert.KernelDwDownIdeal.nD Cert.KernelDwDownIdeal.τ).loc Cert.KernelDwDownIdeal.main_arg0)
      ∧ r.2.mem ((c.tc : Thread Cert.KernelDwDownIdeal.nD Cert.KernelDwDownIdeal.τ).loc Cert.KernelDwDownIdeal.main_arg1) = m ((c.tc : Thread Cert.KernelDwDownIdeal.nD Cert.KernelDwDownIdeal.τ).loc Cert.KernelDwDownIdeal.main_arg1))
      ∧ r.2.sem = fun _ => 0)

def quiescent_ReferenceDwDownIdeal [hReferenceDwDownIdeal : Cert.ReferenceDwDownIdeal.Facts] : Prop :=
  ∀ (m : (ℓ : Loc Cert.ReferenceDwDownIdeal.nD Cert.ReferenceDwDownIdeal.τ Cert.ReferenceDwDownIdeal.sig) → Buf (Elt Ideal) ℓ) (g : Dev Cert.ReferenceDwDownIdeal.nD → PrngReg), Pre_ReferenceDwDownIdeal m →
    θ_run (Cert.ReferenceDwDownIdeal.defs (F := Ideal)) (onTc (τ := Cert.ReferenceDwDownIdeal.τ) (Cert.ReferenceDwDownIdeal.main (F := Ideal))) ⟨m, fun _ => 0, g⟩ (fun r => (∀ c : Dev Cert.ReferenceDwDownIdeal.nD,
      r.2.mem ((c.tc : Thread Cert.ReferenceDwDownIdeal.nD Cert.ReferenceDwDownIdeal.τ).loc Cert.ReferenceDwDownIdeal.main_arg0) = m ((c.tc : Thread Cert.ReferenceDwDownIdeal.nD Cert.ReferenceDwDownIdeal.τ).loc Cert.ReferenceDwDownIdeal.main_arg0)
      ∧ r.2.mem ((c.tc : Thread Cert.ReferenceDwDownIdeal.nD Cert.ReferenceDwDownIdeal.τ).loc Cert.ReferenceDwDownIdeal.main_arg1) = m ((c.tc : Thread Cert.ReferenceDwDownIdeal.nD Cert.ReferenceDwDownIdeal.τ).loc Cert.ReferenceDwDownIdeal.main_arg1))
      ∧ r.2.sem = fun _ => 0)

def quiescent_KernelDwIn [hKernelDwIn : Cert.KernelDwIn.Facts] : Prop :=
  ∀ (m : (ℓ : Loc Cert.KernelDwIn.nD Cert.KernelDwIn.τ Cert.KernelDwIn.sig) → Buf (Elt Bits) ℓ) (g : Dev Cert.KernelDwIn.nD → PrngReg), Pre_KernelDwIn m →
    θ_run (Cert.KernelDwIn.defs (F := Bits)) (onTc (τ := Cert.KernelDwIn.τ) (Cert.KernelDwIn.main (F := Bits))) ⟨m, fun _ => 0, g⟩ (fun r => (∀ c : Dev Cert.KernelDwIn.nD,
      r.2.mem ((c.tc : Thread Cert.KernelDwIn.nD Cert.KernelDwIn.τ).loc Cert.KernelDwIn.main_arg0) = m ((c.tc : Thread Cert.KernelDwIn.nD Cert.KernelDwIn.τ).loc Cert.KernelDwIn.main_arg0)
      ∧ r.2.mem ((c.tc : Thread Cert.KernelDwIn.nD Cert.KernelDwIn.τ).loc Cert.KernelDwIn.main_arg1) = m ((c.tc : Thread Cert.KernelDwIn.nD Cert.KernelDwIn.τ).loc Cert.KernelDwIn.main_arg1))
      ∧ r.2.sem = fun _ => 0)

def quiescent_KernelDwInIdeal [hKernelDwInIdeal : Cert.KernelDwInIdeal.Facts] : Prop :=
  ∀ (m : (ℓ : Loc Cert.KernelDwInIdeal.nD Cert.KernelDwInIdeal.τ Cert.KernelDwInIdeal.sig) → Buf (Elt Ideal) ℓ) (g : Dev Cert.KernelDwInIdeal.nD → PrngReg), Pre_KernelDwInIdeal m →
    θ_run (Cert.KernelDwInIdeal.defs (F := Ideal)) (onTc (τ := Cert.KernelDwInIdeal.τ) (Cert.KernelDwInIdeal.main (F := Ideal))) ⟨m, fun _ => 0, g⟩ (fun r => (∀ c : Dev Cert.KernelDwInIdeal.nD,
      r.2.mem ((c.tc : Thread Cert.KernelDwInIdeal.nD Cert.KernelDwInIdeal.τ).loc Cert.KernelDwInIdeal.main_arg0) = m ((c.tc : Thread Cert.KernelDwInIdeal.nD Cert.KernelDwInIdeal.τ).loc Cert.KernelDwInIdeal.main_arg0)
      ∧ r.2.mem ((c.tc : Thread Cert.KernelDwInIdeal.nD Cert.KernelDwInIdeal.τ).loc Cert.KernelDwInIdeal.main_arg1) = m ((c.tc : Thread Cert.KernelDwInIdeal.nD Cert.KernelDwInIdeal.τ).loc Cert.KernelDwInIdeal.main_arg1))
      ∧ r.2.sem = fun _ => 0)

def quiescent_ReferenceDwInIdeal [hReferenceDwInIdeal : Cert.ReferenceDwInIdeal.Facts] : Prop :=
  ∀ (m : (ℓ : Loc Cert.ReferenceDwInIdeal.nD Cert.ReferenceDwInIdeal.τ Cert.ReferenceDwInIdeal.sig) → Buf (Elt Ideal) ℓ) (g : Dev Cert.ReferenceDwInIdeal.nD → PrngReg), Pre_ReferenceDwInIdeal m →
    θ_run (Cert.ReferenceDwInIdeal.defs (F := Ideal)) (onTc (τ := Cert.ReferenceDwInIdeal.τ) (Cert.ReferenceDwInIdeal.main (F := Ideal))) ⟨m, fun _ => 0, g⟩ (fun r => (∀ c : Dev Cert.ReferenceDwInIdeal.nD,
      r.2.mem ((c.tc : Thread Cert.ReferenceDwInIdeal.nD Cert.ReferenceDwInIdeal.τ).loc Cert.ReferenceDwInIdeal.main_arg0) = m ((c.tc : Thread Cert.ReferenceDwInIdeal.nD Cert.ReferenceDwInIdeal.τ).loc Cert.ReferenceDwInIdeal.main_arg0)
      ∧ r.2.mem ((c.tc : Thread Cert.ReferenceDwInIdeal.nD Cert.ReferenceDwInIdeal.τ).loc Cert.ReferenceDwInIdeal.main_arg1) = m ((c.tc : Thread Cert.ReferenceDwInIdeal.nD Cert.ReferenceDwInIdeal.τ).loc Cert.ReferenceDwInIdeal.main_arg1))
      ∧ r.2.sem = fun _ => 0)

def quiescent_KernelDxl [hKernelDxl : Cert.KernelDxl.Facts] : Prop :=
  ∀ (m : (ℓ : Loc Cert.KernelDxl.nD Cert.KernelDxl.τ Cert.KernelDxl.sig) → Buf (Elt Bits) ℓ) (g : Dev Cert.KernelDxl.nD → PrngReg), Pre_KernelDxl m →
    θ_run (Cert.KernelDxl.defs (F := Bits)) (onTc (τ := Cert.KernelDxl.τ) (Cert.KernelDxl.main (F := Bits))) ⟨m, fun _ => 0, g⟩ (fun r => (∀ c : Dev Cert.KernelDxl.nD,
      r.2.mem ((c.tc : Thread Cert.KernelDxl.nD Cert.KernelDxl.τ).loc Cert.KernelDxl.main_arg0) = m ((c.tc : Thread Cert.KernelDxl.nD Cert.KernelDxl.τ).loc Cert.KernelDxl.main_arg0)
      ∧ r.2.mem ((c.tc : Thread Cert.KernelDxl.nD Cert.KernelDxl.τ).loc Cert.KernelDxl.main_arg1) = m ((c.tc : Thread Cert.KernelDxl.nD Cert.KernelDxl.τ).loc Cert.KernelDxl.main_arg1))
      ∧ r.2.sem = fun _ => 0)

def quiescent_KernelDxlIdeal [hKernelDxlIdeal : Cert.KernelDxlIdeal.Facts] : Prop :=
  ∀ (m : (ℓ : Loc Cert.KernelDxlIdeal.nD Cert.KernelDxlIdeal.τ Cert.KernelDxlIdeal.sig) → Buf (Elt Ideal) ℓ) (g : Dev Cert.KernelDxlIdeal.nD → PrngReg), Pre_KernelDxlIdeal m →
    θ_run (Cert.KernelDxlIdeal.defs (F := Ideal)) (onTc (τ := Cert.KernelDxlIdeal.τ) (Cert.KernelDxlIdeal.main (F := Ideal))) ⟨m, fun _ => 0, g⟩ (fun r => (∀ c : Dev Cert.KernelDxlIdeal.nD,
      r.2.mem ((c.tc : Thread Cert.KernelDxlIdeal.nD Cert.KernelDxlIdeal.τ).loc Cert.KernelDxlIdeal.main_arg0) = m ((c.tc : Thread Cert.KernelDxlIdeal.nD Cert.KernelDxlIdeal.τ).loc Cert.KernelDxlIdeal.main_arg0)
      ∧ r.2.mem ((c.tc : Thread Cert.KernelDxlIdeal.nD Cert.KernelDxlIdeal.τ).loc Cert.KernelDxlIdeal.main_arg1) = m ((c.tc : Thread Cert.KernelDxlIdeal.nD Cert.KernelDxlIdeal.τ).loc Cert.KernelDxlIdeal.main_arg1))
      ∧ r.2.sem = fun _ => 0)

def quiescent_ReferenceDxlIdeal [hReferenceDxlIdeal : Cert.ReferenceDxlIdeal.Facts] : Prop :=
  ∀ (m : (ℓ : Loc Cert.ReferenceDxlIdeal.nD Cert.ReferenceDxlIdeal.τ Cert.ReferenceDxlIdeal.sig) → Buf (Elt Ideal) ℓ) (g : Dev Cert.ReferenceDxlIdeal.nD → PrngReg), Pre_ReferenceDxlIdeal m →
    θ_run (Cert.ReferenceDxlIdeal.defs (F := Ideal)) (onTc (τ := Cert.ReferenceDxlIdeal.τ) (Cert.ReferenceDxlIdeal.main (F := Ideal))) ⟨m, fun _ => 0, g⟩ (fun r => (∀ c : Dev Cert.ReferenceDxlIdeal.nD,
      r.2.mem ((c.tc : Thread Cert.ReferenceDxlIdeal.nD Cert.ReferenceDxlIdeal.τ).loc Cert.ReferenceDxlIdeal.main_arg0) = m ((c.tc : Thread Cert.ReferenceDxlIdeal.nD Cert.ReferenceDxlIdeal.τ).loc Cert.ReferenceDxlIdeal.main_arg0)
      ∧ r.2.mem ((c.tc : Thread Cert.ReferenceDxlIdeal.nD Cert.ReferenceDxlIdeal.τ).loc Cert.ReferenceDxlIdeal.main_arg1) = m ((c.tc : Thread Cert.ReferenceDxlIdeal.nD Cert.ReferenceDxlIdeal.τ).loc Cert.ReferenceDxlIdeal.main_arg1))
      ∧ r.2.sem = fun _ => 0)

def quiescent_KernelDwOut [hKernelDwOut : Cert.KernelDwOut.Facts] : Prop :=
  ∀ (m : (ℓ : Loc Cert.KernelDwOut.nD Cert.KernelDwOut.τ Cert.KernelDwOut.sig) → Buf (Elt Bits) ℓ) (g : Dev Cert.KernelDwOut.nD → PrngReg), Pre_KernelDwOut m →
    θ_run (Cert.KernelDwOut.defs (F := Bits)) (onTc (τ := Cert.KernelDwOut.τ) (Cert.KernelDwOut.main (F := Bits))) ⟨m, fun _ => 0, g⟩ (fun r => (∀ c : Dev Cert.KernelDwOut.nD,
      r.2.mem ((c.tc : Thread Cert.KernelDwOut.nD Cert.KernelDwOut.τ).loc Cert.KernelDwOut.main_arg0) = m ((c.tc : Thread Cert.KernelDwOut.nD Cert.KernelDwOut.τ).loc Cert.KernelDwOut.main_arg0)
      ∧ r.2.mem ((c.tc : Thread Cert.KernelDwOut.nD Cert.KernelDwOut.τ).loc Cert.KernelDwOut.main_arg1) = m ((c.tc : Thread Cert.KernelDwOut.nD Cert.KernelDwOut.τ).loc Cert.KernelDwOut.main_arg1))
      ∧ r.2.sem = fun _ => 0)

def quiescent_KernelDwOutIdeal [hKernelDwOutIdeal : Cert.KernelDwOutIdeal.Facts] : Prop :=
  ∀ (m : (ℓ : Loc Cert.KernelDwOutIdeal.nD Cert.KernelDwOutIdeal.τ Cert.KernelDwOutIdeal.sig) → Buf (Elt Ideal) ℓ) (g : Dev Cert.KernelDwOutIdeal.nD → PrngReg), Pre_KernelDwOutIdeal m →
    θ_run (Cert.KernelDwOutIdeal.defs (F := Ideal)) (onTc (τ := Cert.KernelDwOutIdeal.τ) (Cert.KernelDwOutIdeal.main (F := Ideal))) ⟨m, fun _ => 0, g⟩ (fun r => (∀ c : Dev Cert.KernelDwOutIdeal.nD,
      r.2.mem ((c.tc : Thread Cert.KernelDwOutIdeal.nD Cert.KernelDwOutIdeal.τ).loc Cert.KernelDwOutIdeal.main_arg0) = m ((c.tc : Thread Cert.KernelDwOutIdeal.nD Cert.KernelDwOutIdeal.τ).loc Cert.KernelDwOutIdeal.main_arg0)
      ∧ r.2.mem ((c.tc : Thread Cert.KernelDwOutIdeal.nD Cert.KernelDwOutIdeal.τ).loc Cert.KernelDwOutIdeal.main_arg1) = m ((c.tc : Thread Cert.KernelDwOutIdeal.nD Cert.KernelDwOutIdeal.τ).loc Cert.KernelDwOutIdeal.main_arg1))
      ∧ r.2.sem = fun _ => 0)

def quiescent_ReferenceDwOutIdeal [hReferenceDwOutIdeal : Cert.ReferenceDwOutIdeal.Facts] : Prop :=
  ∀ (m : (ℓ : Loc Cert.ReferenceDwOutIdeal.nD Cert.ReferenceDwOutIdeal.τ Cert.ReferenceDwOutIdeal.sig) → Buf (Elt Ideal) ℓ) (g : Dev Cert.ReferenceDwOutIdeal.nD → PrngReg), Pre_ReferenceDwOutIdeal m →
    θ_run (Cert.ReferenceDwOutIdeal.defs (F := Ideal)) (onTc (τ := Cert.ReferenceDwOutIdeal.τ) (Cert.ReferenceDwOutIdeal.main (F := Ideal))) ⟨m, fun _ => 0, g⟩ (fun r => (∀ c : Dev Cert.ReferenceDwOutIdeal.nD,
      r.2.mem ((c.tc : Thread Cert.ReferenceDwOutIdeal.nD Cert.ReferenceDwOutIdeal.τ).loc Cert.ReferenceDwOutIdeal.main_arg0) = m ((c.tc : Thread Cert.ReferenceDwOutIdeal.nD Cert.ReferenceDwOutIdeal.τ).loc Cert.ReferenceDwOutIdeal.main_arg0)
      ∧ r.2.mem ((c.tc : Thread Cert.ReferenceDwOutIdeal.nD Cert.ReferenceDwOutIdeal.τ).loc Cert.ReferenceDwOutIdeal.main_arg1) = m ((c.tc : Thread Cert.ReferenceDwOutIdeal.nD Cert.ReferenceDwOutIdeal.τ).loc Cert.ReferenceDwOutIdeal.main_arg1))
      ∧ r.2.sem = fun _ => 0)

def quiescent_KernelDmixin [hKernelDmixin : Cert.KernelDmixin.Facts] : Prop :=
  ∀ (m : (ℓ : Loc Cert.KernelDmixin.nD Cert.KernelDmixin.τ Cert.KernelDmixin.sig) → Buf (Elt Bits) ℓ) (g : Dev Cert.KernelDmixin.nD → PrngReg), Pre_KernelDmixin m →
    θ_run (Cert.KernelDmixin.defs (F := Bits)) (onTc (τ := Cert.KernelDmixin.τ) (Cert.KernelDmixin.main (F := Bits))) ⟨m, fun _ => 0, g⟩ (fun r => (∀ c : Dev Cert.KernelDmixin.nD,
      r.2.mem ((c.tc : Thread Cert.KernelDmixin.nD Cert.KernelDmixin.τ).loc Cert.KernelDmixin.main_arg0) = m ((c.tc : Thread Cert.KernelDmixin.nD Cert.KernelDmixin.τ).loc Cert.KernelDmixin.main_arg0)
      ∧ r.2.mem ((c.tc : Thread Cert.KernelDmixin.nD Cert.KernelDmixin.τ).loc Cert.KernelDmixin.main_arg1) = m ((c.tc : Thread Cert.KernelDmixin.nD Cert.KernelDmixin.τ).loc Cert.KernelDmixin.main_arg1))
      ∧ r.2.sem = fun _ => 0)

def quiescent_KernelDmixinIdeal [hKernelDmixinIdeal : Cert.KernelDmixinIdeal.Facts] : Prop :=
  ∀ (m : (ℓ : Loc Cert.KernelDmixinIdeal.nD Cert.KernelDmixinIdeal.τ Cert.KernelDmixinIdeal.sig) → Buf (Elt Ideal) ℓ) (g : Dev Cert.KernelDmixinIdeal.nD → PrngReg), Pre_KernelDmixinIdeal m →
    θ_run (Cert.KernelDmixinIdeal.defs (F := Ideal)) (onTc (τ := Cert.KernelDmixinIdeal.τ) (Cert.KernelDmixinIdeal.main (F := Ideal))) ⟨m, fun _ => 0, g⟩ (fun r => (∀ c : Dev Cert.KernelDmixinIdeal.nD,
      r.2.mem ((c.tc : Thread Cert.KernelDmixinIdeal.nD Cert.KernelDmixinIdeal.τ).loc Cert.KernelDmixinIdeal.main_arg0) = m ((c.tc : Thread Cert.KernelDmixinIdeal.nD Cert.KernelDmixinIdeal.τ).loc Cert.KernelDmixinIdeal.main_arg0)
      ∧ r.2.mem ((c.tc : Thread Cert.KernelDmixinIdeal.nD Cert.KernelDmixinIdeal.τ).loc Cert.KernelDmixinIdeal.main_arg1) = m ((c.tc : Thread Cert.KernelDmixinIdeal.nD Cert.KernelDmixinIdeal.τ).loc Cert.KernelDmixinIdeal.main_arg1))
      ∧ r.2.sem = fun _ => 0)

def quiescent_ReferenceDmixinIdeal [hReferenceDmixinIdeal : Cert.ReferenceDmixinIdeal.Facts] : Prop :=
  ∀ (m : (ℓ : Loc Cert.ReferenceDmixinIdeal.nD Cert.ReferenceDmixinIdeal.τ Cert.ReferenceDmixinIdeal.sig) → Buf (Elt Ideal) ℓ) (g : Dev Cert.ReferenceDmixinIdeal.nD → PrngReg), Pre_ReferenceDmixinIdeal m →
    θ_run (Cert.ReferenceDmixinIdeal.defs (F := Ideal)) (onTc (τ := Cert.ReferenceDmixinIdeal.τ) (Cert.ReferenceDmixinIdeal.main (F := Ideal))) ⟨m, fun _ => 0, g⟩ (fun r => (∀ c : Dev Cert.ReferenceDmixinIdeal.nD,
      r.2.mem ((c.tc : Thread Cert.ReferenceDmixinIdeal.nD Cert.ReferenceDmixinIdeal.τ).loc Cert.ReferenceDmixinIdeal.main_arg0) = m ((c.tc : Thread Cert.ReferenceDmixinIdeal.nD Cert.ReferenceDmixinIdeal.τ).loc Cert.ReferenceDmixinIdeal.main_arg0)
      ∧ r.2.mem ((c.tc : Thread Cert.ReferenceDmixinIdeal.nD Cert.ReferenceDmixinIdeal.τ).loc Cert.ReferenceDmixinIdeal.main_arg1) = m ((c.tc : Thread Cert.ReferenceDmixinIdeal.nD Cert.ReferenceDmixinIdeal.τ).loc Cert.ReferenceDmixinIdeal.main_arg1))
      ∧ r.2.sem = fun _ => 0)

def quiescent_KernelDwUq [hKernelDwUq : Cert.KernelDwUq.Facts] : Prop :=
  ∀ (m : (ℓ : Loc Cert.KernelDwUq.nD Cert.KernelDwUq.τ Cert.KernelDwUq.sig) → Buf (Elt Bits) ℓ) (g : Dev Cert.KernelDwUq.nD → PrngReg), Pre_KernelDwUq m →
    θ_run (Cert.KernelDwUq.defs (F := Bits)) (onTc (τ := Cert.KernelDwUq.τ) (Cert.KernelDwUq.main (F := Bits))) ⟨m, fun _ => 0, g⟩ (fun r => (∀ c : Dev Cert.KernelDwUq.nD,
      r.2.mem ((c.tc : Thread Cert.KernelDwUq.nD Cert.KernelDwUq.τ).loc Cert.KernelDwUq.main_arg0) = m ((c.tc : Thread Cert.KernelDwUq.nD Cert.KernelDwUq.τ).loc Cert.KernelDwUq.main_arg0)
      ∧ r.2.mem ((c.tc : Thread Cert.KernelDwUq.nD Cert.KernelDwUq.τ).loc Cert.KernelDwUq.main_arg1) = m ((c.tc : Thread Cert.KernelDwUq.nD Cert.KernelDwUq.τ).loc Cert.KernelDwUq.main_arg1))
      ∧ r.2.sem = fun _ => 0)

def quiescent_KernelDwUqIdeal [hKernelDwUqIdeal : Cert.KernelDwUqIdeal.Facts] : Prop :=
  ∀ (m : (ℓ : Loc Cert.KernelDwUqIdeal.nD Cert.KernelDwUqIdeal.τ Cert.KernelDwUqIdeal.sig) → Buf (Elt Ideal) ℓ) (g : Dev Cert.KernelDwUqIdeal.nD → PrngReg), Pre_KernelDwUqIdeal m →
    θ_run (Cert.KernelDwUqIdeal.defs (F := Ideal)) (onTc (τ := Cert.KernelDwUqIdeal.τ) (Cert.KernelDwUqIdeal.main (F := Ideal))) ⟨m, fun _ => 0, g⟩ (fun r => (∀ c : Dev Cert.KernelDwUqIdeal.nD,
      r.2.mem ((c.tc : Thread Cert.KernelDwUqIdeal.nD Cert.KernelDwUqIdeal.τ).loc Cert.KernelDwUqIdeal.main_arg0) = m ((c.tc : Thread Cert.KernelDwUqIdeal.nD Cert.KernelDwUqIdeal.τ).loc Cert.KernelDwUqIdeal.main_arg0)
      ∧ r.2.mem ((c.tc : Thread Cert.KernelDwUqIdeal.nD Cert.KernelDwUqIdeal.τ).loc Cert.KernelDwUqIdeal.main_arg1) = m ((c.tc : Thread Cert.KernelDwUqIdeal.nD Cert.KernelDwUqIdeal.τ).loc Cert.KernelDwUqIdeal.main_arg1))
      ∧ r.2.sem = fun _ => 0)

def quiescent_ReferenceDwUqIdeal [hReferenceDwUqIdeal : Cert.ReferenceDwUqIdeal.Facts] : Prop :=
  ∀ (m : (ℓ : Loc Cert.ReferenceDwUqIdeal.nD Cert.ReferenceDwUqIdeal.τ Cert.ReferenceDwUqIdeal.sig) → Buf (Elt Ideal) ℓ) (g : Dev Cert.ReferenceDwUqIdeal.nD → PrngReg), Pre_ReferenceDwUqIdeal m →
    θ_run (Cert.ReferenceDwUqIdeal.defs (F := Ideal)) (onTc (τ := Cert.ReferenceDwUqIdeal.τ) (Cert.ReferenceDwUqIdeal.main (F := Ideal))) ⟨m, fun _ => 0, g⟩ (fun r => (∀ c : Dev Cert.ReferenceDwUqIdeal.nD,
      r.2.mem ((c.tc : Thread Cert.ReferenceDwUqIdeal.nD Cert.ReferenceDwUqIdeal.τ).loc Cert.ReferenceDwUqIdeal.main_arg0) = m ((c.tc : Thread Cert.ReferenceDwUqIdeal.nD Cert.ReferenceDwUqIdeal.τ).loc Cert.ReferenceDwUqIdeal.main_arg0)
      ∧ r.2.mem ((c.tc : Thread Cert.ReferenceDwUqIdeal.nD Cert.ReferenceDwUqIdeal.τ).loc Cert.ReferenceDwUqIdeal.main_arg1) = m ((c.tc : Thread Cert.ReferenceDwUqIdeal.nD Cert.ReferenceDwUqIdeal.τ).loc Cert.ReferenceDwUqIdeal.main_arg1))
      ∧ r.2.sem = fun _ => 0)

def quiescent_KernelDqn [hKernelDqn : Cert.KernelDqn.Facts] : Prop :=
  ∀ (m : (ℓ : Loc Cert.KernelDqn.nD Cert.KernelDqn.τ Cert.KernelDqn.sig) → Buf (Elt Bits) ℓ) (g : Dev Cert.KernelDqn.nD → PrngReg), Pre_KernelDqn m →
    θ_run (Cert.KernelDqn.defs (F := Bits)) (onTc (τ := Cert.KernelDqn.τ) (Cert.KernelDqn.main (F := Bits))) ⟨m, fun _ => 0, g⟩ (fun r => (∀ c : Dev Cert.KernelDqn.nD,
      r.2.mem ((c.tc : Thread Cert.KernelDqn.nD Cert.KernelDqn.τ).loc Cert.KernelDqn.main_arg0) = m ((c.tc : Thread Cert.KernelDqn.nD Cert.KernelDqn.τ).loc Cert.KernelDqn.main_arg0)
      ∧ r.2.mem ((c.tc : Thread Cert.KernelDqn.nD Cert.KernelDqn.τ).loc Cert.KernelDqn.main_arg1) = m ((c.tc : Thread Cert.KernelDqn.nD Cert.KernelDqn.τ).loc Cert.KernelDqn.main_arg1))
      ∧ r.2.sem = fun _ => 0)

def quiescent_KernelDqnIdeal [hKernelDqnIdeal : Cert.KernelDqnIdeal.Facts] : Prop :=
  ∀ (m : (ℓ : Loc Cert.KernelDqnIdeal.nD Cert.KernelDqnIdeal.τ Cert.KernelDqnIdeal.sig) → Buf (Elt Ideal) ℓ) (g : Dev Cert.KernelDqnIdeal.nD → PrngReg), Pre_KernelDqnIdeal m →
    θ_run (Cert.KernelDqnIdeal.defs (F := Ideal)) (onTc (τ := Cert.KernelDqnIdeal.τ) (Cert.KernelDqnIdeal.main (F := Ideal))) ⟨m, fun _ => 0, g⟩ (fun r => (∀ c : Dev Cert.KernelDqnIdeal.nD,
      r.2.mem ((c.tc : Thread Cert.KernelDqnIdeal.nD Cert.KernelDqnIdeal.τ).loc Cert.KernelDqnIdeal.main_arg0) = m ((c.tc : Thread Cert.KernelDqnIdeal.nD Cert.KernelDqnIdeal.τ).loc Cert.KernelDqnIdeal.main_arg0)
      ∧ r.2.mem ((c.tc : Thread Cert.KernelDqnIdeal.nD Cert.KernelDqnIdeal.τ).loc Cert.KernelDqnIdeal.main_arg1) = m ((c.tc : Thread Cert.KernelDqnIdeal.nD Cert.KernelDqnIdeal.τ).loc Cert.KernelDqnIdeal.main_arg1))
      ∧ r.2.sem = fun _ => 0)

def quiescent_ReferenceDqnIdeal [hReferenceDqnIdeal : Cert.ReferenceDqnIdeal.Facts] : Prop :=
  ∀ (m : (ℓ : Loc Cert.ReferenceDqnIdeal.nD Cert.ReferenceDqnIdeal.τ Cert.ReferenceDqnIdeal.sig) → Buf (Elt Ideal) ℓ) (g : Dev Cert.ReferenceDqnIdeal.nD → PrngReg), Pre_ReferenceDqnIdeal m →
    θ_run (Cert.ReferenceDqnIdeal.defs (F := Ideal)) (onTc (τ := Cert.ReferenceDqnIdeal.τ) (Cert.ReferenceDqnIdeal.main (F := Ideal))) ⟨m, fun _ => 0, g⟩ (fun r => (∀ c : Dev Cert.ReferenceDqnIdeal.nD,
      r.2.mem ((c.tc : Thread Cert.ReferenceDqnIdeal.nD Cert.ReferenceDqnIdeal.τ).loc Cert.ReferenceDqnIdeal.main_arg0) = m ((c.tc : Thread Cert.ReferenceDqnIdeal.nD Cert.ReferenceDqnIdeal.τ).loc Cert.ReferenceDqnIdeal.main_arg0)
      ∧ r.2.mem ((c.tc : Thread Cert.ReferenceDqnIdeal.nD Cert.ReferenceDqnIdeal.τ).loc Cert.ReferenceDqnIdeal.main_arg1) = m ((c.tc : Thread Cert.ReferenceDqnIdeal.nD Cert.ReferenceDqnIdeal.τ).loc Cert.ReferenceDqnIdeal.main_arg1))
      ∧ r.2.sem = fun _ => 0)

def quiescent_KernelDwUkv [hKernelDwUkv : Cert.KernelDwUkv.Facts] : Prop :=
  ∀ (m : (ℓ : Loc Cert.KernelDwUkv.nD Cert.KernelDwUkv.τ Cert.KernelDwUkv.sig) → Buf (Elt Bits) ℓ) (g : Dev Cert.KernelDwUkv.nD → PrngReg), Pre_KernelDwUkv m →
    θ_run (Cert.KernelDwUkv.defs (F := Bits)) (onTc (τ := Cert.KernelDwUkv.τ) (Cert.KernelDwUkv.main (F := Bits))) ⟨m, fun _ => 0, g⟩ (fun r => (∀ c : Dev Cert.KernelDwUkv.nD,
      r.2.mem ((c.tc : Thread Cert.KernelDwUkv.nD Cert.KernelDwUkv.τ).loc Cert.KernelDwUkv.main_arg0) = m ((c.tc : Thread Cert.KernelDwUkv.nD Cert.KernelDwUkv.τ).loc Cert.KernelDwUkv.main_arg0)
      ∧ r.2.mem ((c.tc : Thread Cert.KernelDwUkv.nD Cert.KernelDwUkv.τ).loc Cert.KernelDwUkv.main_arg1) = m ((c.tc : Thread Cert.KernelDwUkv.nD Cert.KernelDwUkv.τ).loc Cert.KernelDwUkv.main_arg1))
      ∧ r.2.sem = fun _ => 0)

def quiescent_KernelDwUkvIdeal [hKernelDwUkvIdeal : Cert.KernelDwUkvIdeal.Facts] : Prop :=
  ∀ (m : (ℓ : Loc Cert.KernelDwUkvIdeal.nD Cert.KernelDwUkvIdeal.τ Cert.KernelDwUkvIdeal.sig) → Buf (Elt Ideal) ℓ) (g : Dev Cert.KernelDwUkvIdeal.nD → PrngReg), Pre_KernelDwUkvIdeal m →
    θ_run (Cert.KernelDwUkvIdeal.defs (F := Ideal)) (onTc (τ := Cert.KernelDwUkvIdeal.τ) (Cert.KernelDwUkvIdeal.main (F := Ideal))) ⟨m, fun _ => 0, g⟩ (fun r => (∀ c : Dev Cert.KernelDwUkvIdeal.nD,
      r.2.mem ((c.tc : Thread Cert.KernelDwUkvIdeal.nD Cert.KernelDwUkvIdeal.τ).loc Cert.KernelDwUkvIdeal.main_arg0) = m ((c.tc : Thread Cert.KernelDwUkvIdeal.nD Cert.KernelDwUkvIdeal.τ).loc Cert.KernelDwUkvIdeal.main_arg0)
      ∧ r.2.mem ((c.tc : Thread Cert.KernelDwUkvIdeal.nD Cert.KernelDwUkvIdeal.τ).loc Cert.KernelDwUkvIdeal.main_arg1) = m ((c.tc : Thread Cert.KernelDwUkvIdeal.nD Cert.KernelDwUkvIdeal.τ).loc Cert.KernelDwUkvIdeal.main_arg1))
      ∧ r.2.sem = fun _ => 0)

def quiescent_ReferenceDwUkvIdeal [hReferenceDwUkvIdeal : Cert.ReferenceDwUkvIdeal.Facts] : Prop :=
  ∀ (m : (ℓ : Loc Cert.ReferenceDwUkvIdeal.nD Cert.ReferenceDwUkvIdeal.τ Cert.ReferenceDwUkvIdeal.sig) → Buf (Elt Ideal) ℓ) (g : Dev Cert.ReferenceDwUkvIdeal.nD → PrngReg), Pre_ReferenceDwUkvIdeal m →
    θ_run (Cert.ReferenceDwUkvIdeal.defs (F := Ideal)) (onTc (τ := Cert.ReferenceDwUkvIdeal.τ) (Cert.ReferenceDwUkvIdeal.main (F := Ideal))) ⟨m, fun _ => 0, g⟩ (fun r => (∀ c : Dev Cert.ReferenceDwUkvIdeal.nD,
      r.2.mem ((c.tc : Thread Cert.ReferenceDwUkvIdeal.nD Cert.ReferenceDwUkvIdeal.τ).loc Cert.ReferenceDwUkvIdeal.main_arg0) = m ((c.tc : Thread Cert.ReferenceDwUkvIdeal.nD Cert.ReferenceDwUkvIdeal.τ).loc Cert.ReferenceDwUkvIdeal.main_arg0)
      ∧ r.2.mem ((c.tc : Thread Cert.ReferenceDwUkvIdeal.nD Cert.ReferenceDwUkvIdeal.τ).loc Cert.ReferenceDwUkvIdeal.main_arg1) = m ((c.tc : Thread Cert.ReferenceDwUkvIdeal.nD Cert.ReferenceDwUkvIdeal.τ).loc Cert.ReferenceDwUkvIdeal.main_arg1))
      ∧ r.2.sem = fun _ => 0)

def quiescent_KernelDkvn [hKernelDkvn : Cert.KernelDkvn.Facts] : Prop :=
  ∀ (m : (ℓ : Loc Cert.KernelDkvn.nD Cert.KernelDkvn.τ Cert.KernelDkvn.sig) → Buf (Elt Bits) ℓ) (g : Dev Cert.KernelDkvn.nD → PrngReg), Pre_KernelDkvn m →
    θ_run (Cert.KernelDkvn.defs (F := Bits)) (onTc (τ := Cert.KernelDkvn.τ) (Cert.KernelDkvn.main (F := Bits))) ⟨m, fun _ => 0, g⟩ (fun r => (∀ c : Dev Cert.KernelDkvn.nD,
      r.2.mem ((c.tc : Thread Cert.KernelDkvn.nD Cert.KernelDkvn.τ).loc Cert.KernelDkvn.main_arg0) = m ((c.tc : Thread Cert.KernelDkvn.nD Cert.KernelDkvn.τ).loc Cert.KernelDkvn.main_arg0)
      ∧ r.2.mem ((c.tc : Thread Cert.KernelDkvn.nD Cert.KernelDkvn.τ).loc Cert.KernelDkvn.main_arg1) = m ((c.tc : Thread Cert.KernelDkvn.nD Cert.KernelDkvn.τ).loc Cert.KernelDkvn.main_arg1))
      ∧ r.2.sem = fun _ => 0)

def quiescent_KernelDkvnIdeal [hKernelDkvnIdeal : Cert.KernelDkvnIdeal.Facts] : Prop :=
  ∀ (m : (ℓ : Loc Cert.KernelDkvnIdeal.nD Cert.KernelDkvnIdeal.τ Cert.KernelDkvnIdeal.sig) → Buf (Elt Ideal) ℓ) (g : Dev Cert.KernelDkvnIdeal.nD → PrngReg), Pre_KernelDkvnIdeal m →
    θ_run (Cert.KernelDkvnIdeal.defs (F := Ideal)) (onTc (τ := Cert.KernelDkvnIdeal.τ) (Cert.KernelDkvnIdeal.main (F := Ideal))) ⟨m, fun _ => 0, g⟩ (fun r => (∀ c : Dev Cert.KernelDkvnIdeal.nD,
      r.2.mem ((c.tc : Thread Cert.KernelDkvnIdeal.nD Cert.KernelDkvnIdeal.τ).loc Cert.KernelDkvnIdeal.main_arg0) = m ((c.tc : Thread Cert.KernelDkvnIdeal.nD Cert.KernelDkvnIdeal.τ).loc Cert.KernelDkvnIdeal.main_arg0)
      ∧ r.2.mem ((c.tc : Thread Cert.KernelDkvnIdeal.nD Cert.KernelDkvnIdeal.τ).loc Cert.KernelDkvnIdeal.main_arg1) = m ((c.tc : Thread Cert.KernelDkvnIdeal.nD Cert.KernelDkvnIdeal.τ).loc Cert.KernelDkvnIdeal.main_arg1))
      ∧ r.2.sem = fun _ => 0)

def quiescent_ReferenceDkvnIdeal [hReferenceDkvnIdeal : Cert.ReferenceDkvnIdeal.Facts] : Prop :=
  ∀ (m : (ℓ : Loc Cert.ReferenceDkvnIdeal.nD Cert.ReferenceDkvnIdeal.τ Cert.ReferenceDkvnIdeal.sig) → Buf (Elt Ideal) ℓ) (g : Dev Cert.ReferenceDkvnIdeal.nD → PrngReg), Pre_ReferenceDkvnIdeal m →
    θ_run (Cert.ReferenceDkvnIdeal.defs (F := Ideal)) (onTc (τ := Cert.ReferenceDkvnIdeal.τ) (Cert.ReferenceDkvnIdeal.main (F := Ideal))) ⟨m, fun _ => 0, g⟩ (fun r => (∀ c : Dev Cert.ReferenceDkvnIdeal.nD,
      r.2.mem ((c.tc : Thread Cert.ReferenceDkvnIdeal.nD Cert.ReferenceDkvnIdeal.τ).loc Cert.ReferenceDkvnIdeal.main_arg0) = m ((c.tc : Thread Cert.ReferenceDkvnIdeal.nD Cert.ReferenceDkvnIdeal.τ).loc Cert.ReferenceDkvnIdeal.main_arg0)
      ∧ r.2.mem ((c.tc : Thread Cert.ReferenceDkvnIdeal.nD Cert.ReferenceDkvnIdeal.τ).loc Cert.ReferenceDkvnIdeal.main_arg1) = m ((c.tc : Thread Cert.ReferenceDkvnIdeal.nD Cert.ReferenceDkvnIdeal.τ).loc Cert.ReferenceDkvnIdeal.main_arg1))
      ∧ r.2.sem = fun _ => 0)

def quiescent_KernelGu [hKernelGu : Cert.KernelGu.Facts] : Prop :=
  ∀ (m : (ℓ : Loc Cert.KernelGu.nD Cert.KernelGu.τ Cert.KernelGu.sig) → Buf (Elt Bits) ℓ) (g : Dev Cert.KernelGu.nD → PrngReg), Pre_KernelGu m →
    θ_run (Cert.KernelGu.defs (F := Bits)) (onTc (τ := Cert.KernelGu.τ) (Cert.KernelGu.main (F := Bits))) ⟨m, fun _ => 0, g⟩ (fun r => (∀ c : Dev Cert.KernelGu.nD,
      r.2.mem ((c.tc : Thread Cert.KernelGu.nD Cert.KernelGu.τ).loc Cert.KernelGu.main_arg0) = m ((c.tc : Thread Cert.KernelGu.nD Cert.KernelGu.τ).loc Cert.KernelGu.main_arg0)
      ∧ r.2.mem ((c.tc : Thread Cert.KernelGu.nD Cert.KernelGu.τ).loc Cert.KernelGu.main_arg1) = m ((c.tc : Thread Cert.KernelGu.nD Cert.KernelGu.τ).loc Cert.KernelGu.main_arg1))
      ∧ r.2.sem = fun _ => 0)

def quiescent_KernelGuIdeal [hKernelGuIdeal : Cert.KernelGuIdeal.Facts] : Prop :=
  ∀ (m : (ℓ : Loc Cert.KernelGuIdeal.nD Cert.KernelGuIdeal.τ Cert.KernelGuIdeal.sig) → Buf (Elt Ideal) ℓ) (g : Dev Cert.KernelGuIdeal.nD → PrngReg), Pre_KernelGuIdeal m →
    θ_run (Cert.KernelGuIdeal.defs (F := Ideal)) (onTc (τ := Cert.KernelGuIdeal.τ) (Cert.KernelGuIdeal.main (F := Ideal))) ⟨m, fun _ => 0, g⟩ (fun r => (∀ c : Dev Cert.KernelGuIdeal.nD,
      r.2.mem ((c.tc : Thread Cert.KernelGuIdeal.nD Cert.KernelGuIdeal.τ).loc Cert.KernelGuIdeal.main_arg0) = m ((c.tc : Thread Cert.KernelGuIdeal.nD Cert.KernelGuIdeal.τ).loc Cert.KernelGuIdeal.main_arg0)
      ∧ r.2.mem ((c.tc : Thread Cert.KernelGuIdeal.nD Cert.KernelGuIdeal.τ).loc Cert.KernelGuIdeal.main_arg1) = m ((c.tc : Thread Cert.KernelGuIdeal.nD Cert.KernelGuIdeal.τ).loc Cert.KernelGuIdeal.main_arg1))
      ∧ r.2.sem = fun _ => 0)

def quiescent_ReferenceGuIdeal [hReferenceGuIdeal : Cert.ReferenceGuIdeal.Facts] : Prop :=
  ∀ (m : (ℓ : Loc Cert.ReferenceGuIdeal.nD Cert.ReferenceGuIdeal.τ Cert.ReferenceGuIdeal.sig) → Buf (Elt Ideal) ℓ) (g : Dev Cert.ReferenceGuIdeal.nD → PrngReg), Pre_ReferenceGuIdeal m →
    θ_run (Cert.ReferenceGuIdeal.defs (F := Ideal)) (onTc (τ := Cert.ReferenceGuIdeal.τ) (Cert.ReferenceGuIdeal.main (F := Ideal))) ⟨m, fun _ => 0, g⟩ (fun r => (∀ c : Dev Cert.ReferenceGuIdeal.nD,
      r.2.mem ((c.tc : Thread Cert.ReferenceGuIdeal.nD Cert.ReferenceGuIdeal.τ).loc Cert.ReferenceGuIdeal.main_arg0) = m ((c.tc : Thread Cert.ReferenceGuIdeal.nD Cert.ReferenceGuIdeal.τ).loc Cert.ReferenceGuIdeal.main_arg0)
      ∧ r.2.mem ((c.tc : Thread Cert.ReferenceGuIdeal.nD Cert.ReferenceGuIdeal.τ).loc Cert.ReferenceGuIdeal.main_arg1) = m ((c.tc : Thread Cert.ReferenceGuIdeal.nD Cert.ReferenceGuIdeal.τ).loc Cert.ReferenceGuIdeal.main_arg1))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1))
      ∧ r.2.sem = fun _ => 0)

def quiescent_KernelH [hKernelH : Cert.KernelH.Facts] : Prop :=
  ∀ (m : (ℓ : Loc Cert.KernelH.nD Cert.KernelH.τ Cert.KernelH.sig) → Buf (Elt Bits) ℓ) (g : Dev Cert.KernelH.nD → PrngReg), Pre_KernelH m →
    θ_run (Cert.KernelH.defs (F := Bits)) (onTc (τ := Cert.KernelH.τ) (Cert.KernelH.main (F := Bits))) ⟨m, fun _ => 0, g⟩ (fun r => (∀ c : Dev Cert.KernelH.nD,
      r.2.mem ((c.tc : Thread Cert.KernelH.nD Cert.KernelH.τ).loc Cert.KernelH.main_arg0) = m ((c.tc : Thread Cert.KernelH.nD Cert.KernelH.τ).loc Cert.KernelH.main_arg0)
      ∧ r.2.mem ((c.tc : Thread Cert.KernelH.nD Cert.KernelH.τ).loc Cert.KernelH.main_arg1) = m ((c.tc : Thread Cert.KernelH.nD Cert.KernelH.τ).loc Cert.KernelH.main_arg1))
      ∧ r.2.sem = fun _ => 0)

def quiescent_KernelHIdeal [hKernelHIdeal : Cert.KernelHIdeal.Facts] : Prop :=
  ∀ (m : (ℓ : Loc Cert.KernelHIdeal.nD Cert.KernelHIdeal.τ Cert.KernelHIdeal.sig) → Buf (Elt Ideal) ℓ) (g : Dev Cert.KernelHIdeal.nD → PrngReg), Pre_KernelHIdeal m →
    θ_run (Cert.KernelHIdeal.defs (F := Ideal)) (onTc (τ := Cert.KernelHIdeal.τ) (Cert.KernelHIdeal.main (F := Ideal))) ⟨m, fun _ => 0, g⟩ (fun r => (∀ c : Dev Cert.KernelHIdeal.nD,
      r.2.mem ((c.tc : Thread Cert.KernelHIdeal.nD Cert.KernelHIdeal.τ).loc Cert.KernelHIdeal.main_arg0) = m ((c.tc : Thread Cert.KernelHIdeal.nD Cert.KernelHIdeal.τ).loc Cert.KernelHIdeal.main_arg0)
      ∧ r.2.mem ((c.tc : Thread Cert.KernelHIdeal.nD Cert.KernelHIdeal.τ).loc Cert.KernelHIdeal.main_arg1) = m ((c.tc : Thread Cert.KernelHIdeal.nD Cert.KernelHIdeal.τ).loc Cert.KernelHIdeal.main_arg1))
      ∧ r.2.sem = fun _ => 0)

def quiescent_ReferenceHIdeal [hReferenceHIdeal : Cert.ReferenceHIdeal.Facts] : Prop :=
  ∀ (m : (ℓ : Loc Cert.ReferenceHIdeal.nD Cert.ReferenceHIdeal.τ Cert.ReferenceHIdeal.sig) → Buf (Elt Ideal) ℓ) (g : Dev Cert.ReferenceHIdeal.nD → PrngReg), Pre_ReferenceHIdeal m →
    θ_run (Cert.ReferenceHIdeal.defs (F := Ideal)) (onTc (τ := Cert.ReferenceHIdeal.τ) (Cert.ReferenceHIdeal.main (F := Ideal))) ⟨m, fun _ => 0, g⟩ (fun r => (∀ c : Dev Cert.ReferenceHIdeal.nD,
      r.2.mem ((c.tc : Thread Cert.ReferenceHIdeal.nD Cert.ReferenceHIdeal.τ).loc Cert.ReferenceHIdeal.main_arg0) = m ((c.tc : Thread Cert.ReferenceHIdeal.nD Cert.ReferenceHIdeal.τ).loc Cert.ReferenceHIdeal.main_arg0)
      ∧ r.2.mem ((c.tc : Thread Cert.ReferenceHIdeal.nD Cert.ReferenceHIdeal.τ).loc Cert.ReferenceHIdeal.main_arg1) = m ((c.tc : Thread Cert.ReferenceHIdeal.nD Cert.ReferenceHIdeal.τ).loc Cert.ReferenceHIdeal.main_arg1))
      ∧ r.2.sem = fun _ => 0)

def quiescent_KernelQ [hKernelQ : Cert.KernelQ.Facts] : Prop :=
  ∀ (m : (ℓ : Loc Cert.KernelQ.nD Cert.KernelQ.τ Cert.KernelQ.sig) → Buf (Elt Bits) ℓ) (g : Dev Cert.KernelQ.nD → PrngReg), Pre_KernelQ m →
    θ_run (Cert.KernelQ.defs (F := Bits)) (onTc (τ := Cert.KernelQ.τ) (Cert.KernelQ.main (F := Bits))) ⟨m, fun _ => 0, g⟩ (fun r => (∀ c : Dev Cert.KernelQ.nD,
      r.2.mem ((c.tc : Thread Cert.KernelQ.nD Cert.KernelQ.τ).loc Cert.KernelQ.main_arg0) = m ((c.tc : Thread Cert.KernelQ.nD Cert.KernelQ.τ).loc Cert.KernelQ.main_arg0)
      ∧ r.2.mem ((c.tc : Thread Cert.KernelQ.nD Cert.KernelQ.τ).loc Cert.KernelQ.main_arg1) = m ((c.tc : Thread Cert.KernelQ.nD Cert.KernelQ.τ).loc Cert.KernelQ.main_arg1))
      ∧ r.2.sem = fun _ => 0)

def quiescent_KernelQIdeal [hKernelQIdeal : Cert.KernelQIdeal.Facts] : Prop :=
  ∀ (m : (ℓ : Loc Cert.KernelQIdeal.nD Cert.KernelQIdeal.τ Cert.KernelQIdeal.sig) → Buf (Elt Ideal) ℓ) (g : Dev Cert.KernelQIdeal.nD → PrngReg), Pre_KernelQIdeal m →
    θ_run (Cert.KernelQIdeal.defs (F := Ideal)) (onTc (τ := Cert.KernelQIdeal.τ) (Cert.KernelQIdeal.main (F := Ideal))) ⟨m, fun _ => 0, g⟩ (fun r => (∀ c : Dev Cert.KernelQIdeal.nD,
      r.2.mem ((c.tc : Thread Cert.KernelQIdeal.nD Cert.KernelQIdeal.τ).loc Cert.KernelQIdeal.main_arg0) = m ((c.tc : Thread Cert.KernelQIdeal.nD Cert.KernelQIdeal.τ).loc Cert.KernelQIdeal.main_arg0)
      ∧ r.2.mem ((c.tc : Thread Cert.KernelQIdeal.nD Cert.KernelQIdeal.τ).loc Cert.KernelQIdeal.main_arg1) = m ((c.tc : Thread Cert.KernelQIdeal.nD Cert.KernelQIdeal.τ).loc Cert.KernelQIdeal.main_arg1))
      ∧ r.2.sem = fun _ => 0)

def quiescent_ReferenceQIdeal [hReferenceQIdeal : Cert.ReferenceQIdeal.Facts] : Prop :=
  ∀ (m : (ℓ : Loc Cert.ReferenceQIdeal.nD Cert.ReferenceQIdeal.τ Cert.ReferenceQIdeal.sig) → Buf (Elt Ideal) ℓ) (g : Dev Cert.ReferenceQIdeal.nD → PrngReg), Pre_ReferenceQIdeal m →
    θ_run (Cert.ReferenceQIdeal.defs (F := Ideal)) (onTc (τ := Cert.ReferenceQIdeal.τ) (Cert.ReferenceQIdeal.main (F := Ideal))) ⟨m, fun _ => 0, g⟩ (fun r => (∀ c : Dev Cert.ReferenceQIdeal.nD,
      r.2.mem ((c.tc : Thread Cert.ReferenceQIdeal.nD Cert.ReferenceQIdeal.τ).loc Cert.ReferenceQIdeal.main_arg0) = m ((c.tc : Thread Cert.ReferenceQIdeal.nD Cert.ReferenceQIdeal.τ).loc Cert.ReferenceQIdeal.main_arg0)
      ∧ r.2.mem ((c.tc : Thread Cert.ReferenceQIdeal.nD Cert.ReferenceQIdeal.τ).loc Cert.ReferenceQIdeal.main_arg1) = m ((c.tc : Thread Cert.ReferenceQIdeal.nD Cert.ReferenceQIdeal.τ).loc Cert.ReferenceQIdeal.main_arg1))
      ∧ r.2.sem = fun _ => 0)

def quiescent_KernelKv [hKernelKv : Cert.KernelKv.Facts] : Prop :=
  ∀ (m : (ℓ : Loc Cert.KernelKv.nD Cert.KernelKv.τ Cert.KernelKv.sig) → Buf (Elt Bits) ℓ) (g : Dev Cert.KernelKv.nD → PrngReg), Pre_KernelKv m →
    θ_run (Cert.KernelKv.defs (F := Bits)) (onTc (τ := Cert.KernelKv.τ) (Cert.KernelKv.main (F := Bits))) ⟨m, fun _ => 0, g⟩ (fun r => (∀ c : Dev Cert.KernelKv.nD,
      r.2.mem ((c.tc : Thread Cert.KernelKv.nD Cert.KernelKv.τ).loc Cert.KernelKv.main_arg0) = m ((c.tc : Thread Cert.KernelKv.nD Cert.KernelKv.τ).loc Cert.KernelKv.main_arg0)
      ∧ r.2.mem ((c.tc : Thread Cert.KernelKv.nD Cert.KernelKv.τ).loc Cert.KernelKv.main_arg1) = m ((c.tc : Thread Cert.KernelKv.nD Cert.KernelKv.τ).loc Cert.KernelKv.main_arg1))
      ∧ r.2.sem = fun _ => 0)

def quiescent_KernelKvIdeal [hKernelKvIdeal : Cert.KernelKvIdeal.Facts] : Prop :=
  ∀ (m : (ℓ : Loc Cert.KernelKvIdeal.nD Cert.KernelKvIdeal.τ Cert.KernelKvIdeal.sig) → Buf (Elt Ideal) ℓ) (g : Dev Cert.KernelKvIdeal.nD → PrngReg), Pre_KernelKvIdeal m →
    θ_run (Cert.KernelKvIdeal.defs (F := Ideal)) (onTc (τ := Cert.KernelKvIdeal.τ) (Cert.KernelKvIdeal.main (F := Ideal))) ⟨m, fun _ => 0, g⟩ (fun r => (∀ c : Dev Cert.KernelKvIdeal.nD,
      r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
      ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1))
      ∧ r.2.sem = fun _ => 0)

def quiescent_ReferenceKvIdeal [hReferenceKvIdeal : Cert.ReferenceKvIdeal.Facts] : Prop :=
  ∀ (m : (ℓ : Loc Cert.ReferenceKvIdeal.nD Cert.ReferenceKvIdeal.τ Cert.ReferenceKvIdeal.sig) → Buf (Elt Ideal) ℓ) (g : Dev Cert.ReferenceKvIdeal.nD → PrngReg), Pre_ReferenceKvIdeal m →
    θ_run (Cert.ReferenceKvIdeal.defs (F := Ideal)) (onTc (τ := Cert.ReferenceKvIdeal.τ) (Cert.ReferenceKvIdeal.main (F := Ideal))) ⟨m, fun _ => 0, g⟩ (fun r => (∀ c : Dev Cert.ReferenceKvIdeal.nD,
      r.2.mem ((c.tc : Thread Cert.ReferenceKvIdeal.nD Cert.ReferenceKvIdeal.τ).loc Cert.ReferenceKvIdeal.main_arg0) = m ((c.tc : Thread Cert.ReferenceKvIdeal.nD Cert.ReferenceKvIdeal.τ).loc Cert.ReferenceKvIdeal.main_arg0)
      ∧ r.2.mem ((c.tc : Thread Cert.ReferenceKvIdeal.nD Cert.ReferenceKvIdeal.τ).loc Cert.ReferenceKvIdeal.main_arg1) = m ((c.tc : Thread Cert.ReferenceKvIdeal.nD Cert.ReferenceKvIdeal.τ).loc Cert.ReferenceKvIdeal.main_arg1))
      ∧ r.2.sem = fun _ => 0)

def quiescent_KernelMix [hKernelMix : Cert.KernelMix.Facts] : Prop :=
  ∀ (m : (ℓ : Loc Cert.KernelMix.nD Cert.KernelMix.τ Cert.KernelMix.sig) → Buf (Elt Bits) ℓ) (g : Dev Cert.KernelMix.nD → PrngReg), Pre_KernelMix m →
    θ_run (Cert.KernelMix.defs (F := Bits)) (onTc (τ := Cert.KernelMix.τ) (Cert.KernelMix.main (F := Bits))) ⟨m, fun _ => 0, g⟩ (fun r => (∀ c : Dev Cert.KernelMix.nD,
      r.2.mem ((c.tc : Thread Cert.KernelMix.nD Cert.KernelMix.τ).loc Cert.KernelMix.main_arg0) = m ((c.tc : Thread Cert.KernelMix.nD Cert.KernelMix.τ).loc Cert.KernelMix.main_arg0)
      ∧ r.2.mem ((c.tc : Thread Cert.KernelMix.nD Cert.KernelMix.τ).loc Cert.KernelMix.main_arg1) = m ((c.tc : Thread Cert.KernelMix.nD Cert.KernelMix.τ).loc Cert.KernelMix.main_arg1)
      ∧ r.2.mem ((c.tc : Thread Cert.KernelMix.nD Cert.KernelMix.τ).loc Cert.KernelMix.main_arg2) = m ((c.tc : Thread Cert.KernelMix.nD Cert.KernelMix.τ).loc Cert.KernelMix.main_arg2)
      ∧ r.2.mem ((c.tc : Thread Cert.KernelMix.nD Cert.KernelMix.τ).loc Cert.KernelMix.main_arg3) = m ((c.tc : Thread Cert.KernelMix.nD Cert.KernelMix.τ).loc Cert.KernelMix.main_arg3)
      ∧ r.2.mem ((c.tc : Thread Cert.KernelMix.nD Cert.KernelMix.τ).loc Cert.KernelMix.main_arg4) = m ((c.tc : Thread Cert.KernelMix.nD Cert.KernelMix.τ).loc Cert.KernelMix.main_arg4))
      ∧ r.2.sem = fun _ => 0)

def quiescent_KernelMixIdeal [hKernelMixIdeal : Cert.KernelMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
      ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
      ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4))
      ∧ r.2.sem = fun _ => 0)

def quiescent_ReferenceMixIdeal [hReferenceMixIdeal : Cert.ReferenceMixIdeal.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2)
      ∧ r.2.mem ((c.tc : Thread Cert.ReferenceMixIdeal.nD Cert.ReferenceMixIdeal.τ).loc Cert.ReferenceMixIdeal.main_arg3) = m ((c.tc : Thread Cert.ReferenceMixIdeal.nD Cert.ReferenceMixIdeal.τ).loc Cert.ReferenceMixIdeal.main_arg3)
      ∧ r.2.mem ((c.tc : Thread Cert.ReferenceMixIdeal.nD Cert.ReferenceMixIdeal.τ).loc Cert.ReferenceMixIdeal.main_arg4) = m ((c.tc : Thread Cert.ReferenceMixIdeal.nD Cert.ReferenceMixIdeal.τ).loc Cert.ReferenceMixIdeal.main_arg4))
      ∧ r.2.sem = fun _ => 0)

def quiescent_KernelNorm [hKernelNorm : Cert.KernelNorm.Facts] : Prop :=
  ∀ (m : (ℓ : Loc Cert.KernelNorm.nD Cert.KernelNorm.τ Cert.KernelNorm.sig) → Buf (Elt Bits) ℓ) (g : Dev Cert.KernelNorm.nD → PrngReg), Pre_KernelNorm m →
    θ_run (Cert.KernelNorm.defs (F := Bits)) (onTc (τ := Cert.KernelNorm.τ) (Cert.KernelNorm.main (F := Bits))) ⟨m, fun _ => 0, g⟩ (fun r => (∀ c : Dev Cert.KernelNorm.nD,
      r.2.mem ((c.tc : Thread Cert.KernelNorm.nD Cert.KernelNorm.τ).loc Cert.KernelNorm.main_arg0) = m ((c.tc : Thread Cert.KernelNorm.nD Cert.KernelNorm.τ).loc Cert.KernelNorm.main_arg0)
      ∧ r.2.mem ((c.tc : Thread Cert.KernelNorm.nD Cert.KernelNorm.τ).loc Cert.KernelNorm.main_arg1) = m ((c.tc : Thread Cert.KernelNorm.nD Cert.KernelNorm.τ).loc Cert.KernelNorm.main_arg1)
      ∧ r.2.mem ((c.tc : Thread Cert.KernelNorm.nD Cert.KernelNorm.τ).loc Cert.KernelNorm.main_arg2) = m ((c.tc : Thread Cert.KernelNorm.nD Cert.KernelNorm.τ).loc Cert.KernelNorm.main_arg2)
      ∧ r.2.mem ((c.tc : Thread Cert.KernelNorm.nD Cert.KernelNorm.τ).loc Cert.KernelNorm.main_arg3) = m ((c.tc : Thread Cert.KernelNorm.nD Cert.KernelNorm.τ).loc Cert.KernelNorm.main_arg3))
      ∧ r.2.sem = fun _ => 0)

def quiescent_KernelNormIdeal [hKernelNormIdeal : Cert.KernelNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
      ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
      ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1)
      ∧ r.2.mem ((c.tc : Thread Cert.ReferenceNormIdeal.nD Cert.ReferenceNormIdeal.τ).loc Cert.ReferenceNormIdeal.main_arg2) = m ((c.tc : Thread Cert.ReferenceNormIdeal.nD Cert.ReferenceNormIdeal.τ).loc Cert.ReferenceNormIdeal.main_arg2)
      ∧ r.2.mem ((c.tc : Thread Cert.ReferenceNormIdeal.nD Cert.ReferenceNormIdeal.τ).loc Cert.ReferenceNormIdeal.main_arg3) = m ((c.tc : Thread Cert.ReferenceNormIdeal.nD Cert.ReferenceNormIdeal.τ).loc Cert.ReferenceNormIdeal.main_arg3))
      ∧ r.2.sem = fun _ => 0)

def quiescent_KernelRet [hKernelRet : Cert.KernelRet.Facts] : Prop :=
  ∀ (m : (ℓ : Loc Cert.KernelRet.nD Cert.KernelRet.τ Cert.KernelRet.sig) → Buf (Elt Bits) ℓ) (g : Dev Cert.KernelRet.nD → PrngReg), Pre_KernelRet m →
    θ_run (Cert.KernelRet.defs (F := Bits)) (onTc (τ := Cert.KernelRet.τ) (Cert.KernelRet.main (F := Bits))) ⟨m, fun _ => 0, g⟩ (fun r => (∀ c : Dev Cert.KernelRet.nD,
      r.2.mem ((c.tc : Thread Cert.KernelRet.nD Cert.KernelRet.τ).loc Cert.KernelRet.main_arg0) = m ((c.tc : Thread Cert.KernelRet.nD Cert.KernelRet.τ).loc Cert.KernelRet.main_arg0)
      ∧ r.2.mem ((c.tc : Thread Cert.KernelRet.nD Cert.KernelRet.τ).loc Cert.KernelRet.main_arg1) = m ((c.tc : Thread Cert.KernelRet.nD Cert.KernelRet.τ).loc Cert.KernelRet.main_arg1)
      ∧ r.2.mem ((c.tc : Thread Cert.KernelRet.nD Cert.KernelRet.τ).loc Cert.KernelRet.main_arg2) = m ((c.tc : Thread Cert.KernelRet.nD Cert.KernelRet.τ).loc Cert.KernelRet.main_arg2))
      ∧ r.2.sem = fun _ => 0)

def quiescent_KernelRetIdeal [hKernelRetIdeal : Cert.KernelRetIdeal.Facts] : Prop :=
  ∀ (m : (ℓ : Loc Cert.KernelRetIdeal.nD Cert.KernelRetIdeal.τ Cert.KernelRetIdeal.sig) → Buf (Elt Ideal) ℓ) (g : Dev Cert.KernelRetIdeal.nD → PrngReg), Pre_KernelRetIdeal m →
    θ_run (Cert.KernelRetIdeal.defs (F := Ideal)) (onTc (τ := Cert.KernelRetIdeal.τ) (Cert.KernelRetIdeal.main (F := Ideal))) ⟨m, fun _ => 0, g⟩ (fun r => (∀ c : Dev Cert.KernelRetIdeal.nD,
      r.2.mem ((c.tc : Thread Cert.KernelRetIdeal.nD Cert.KernelRetIdeal.τ).loc Cert.KernelRetIdeal.main_arg0) = m ((c.tc : Thread Cert.KernelRetIdeal.nD Cert.KernelRetIdeal.τ).loc Cert.KernelRetIdeal.main_arg0)
      ∧ r.2.mem ((c.tc : Thread Cert.KernelRetIdeal.nD Cert.KernelRetIdeal.τ).loc Cert.KernelRetIdeal.main_arg1) = m ((c.tc : Thread Cert.KernelRetIdeal.nD Cert.KernelRetIdeal.τ).loc Cert.KernelRetIdeal.main_arg1)
      ∧ r.2.mem ((c.tc : Thread Cert.KernelRetIdeal.nD Cert.KernelRetIdeal.τ).loc Cert.KernelRetIdeal.main_arg2) = m ((c.tc : Thread Cert.KernelRetIdeal.nD Cert.KernelRetIdeal.τ).loc Cert.KernelRetIdeal.main_arg2))
      ∧ r.2.sem = fun _ => 0)

def quiescent_KernelRetIdeal_pre_finite_ret [hKernelRetIdeal : Cert.KernelRetIdeal.Facts] [hPre_finite_ret : Cert.Pre_finite_ret.Facts] : Prop :=
  ∀ (m : (ℓ : Loc Cert.KernelRetIdeal.nD Cert.KernelRetIdeal.τ Cert.KernelRetIdeal.sig) → Buf (Elt Ideal) ℓ) (g : Dev Cert.KernelRetIdeal.nD → PrngReg), Pre_KernelRetIdeal_finite_ret m →
    θ_run (Cert.KernelRetIdeal.defs (F := Ideal)) (onTc (τ := Cert.KernelRetIdeal.τ) (Cert.KernelRetIdeal.main (F := Ideal))) ⟨m, fun _ => 0, g⟩ (fun r => (∀ c : Dev Cert.KernelRetIdeal.nD,
      r.2.mem ((c.tc : Thread Cert.KernelRetIdeal.nD Cert.KernelRetIdeal.τ).loc Cert.KernelRetIdeal.main_arg0) = m ((c.tc : Thread Cert.KernelRetIdeal.nD Cert.KernelRetIdeal.τ).loc Cert.KernelRetIdeal.main_arg0)
      ∧ r.2.mem ((c.tc : Thread Cert.KernelRetIdeal.nD Cert.KernelRetIdeal.τ).loc Cert.KernelRetIdeal.main_arg1) = m ((c.tc : Thread Cert.KernelRetIdeal.nD Cert.KernelRetIdeal.τ).loc Cert.KernelRetIdeal.main_arg1)
      ∧ r.2.mem ((c.tc : Thread Cert.KernelRetIdeal.nD Cert.KernelRetIdeal.τ).loc Cert.KernelRetIdeal.main_arg2) = m ((c.tc : Thread Cert.KernelRetIdeal.nD Cert.KernelRetIdeal.τ).loc Cert.KernelRetIdeal.main_arg2))
      ∧ r.2.sem = fun _ => 0)

def quiescent_ReferenceRetIdeal [hReferenceRetIdeal : Cert.ReferenceRetIdeal.Facts] : Prop :=
  ∀ (m : (ℓ : Loc Cert.ReferenceRetIdeal.nD Cert.ReferenceRetIdeal.τ Cert.ReferenceRetIdeal.sig) → Buf (Elt Ideal) ℓ) (g : Dev Cert.ReferenceRetIdeal.nD → PrngReg), Pre_ReferenceRetIdeal m →
    θ_run (Cert.ReferenceRetIdeal.defs (F := Ideal)) (onTc (τ := Cert.ReferenceRetIdeal.τ) (Cert.ReferenceRetIdeal.main (F := Ideal))) ⟨m, fun _ => 0, g⟩ (fun r => (∀ c : Dev Cert.ReferenceRetIdeal.nD,
      r.2.mem ((c.tc : Thread Cert.ReferenceRetIdeal.nD Cert.ReferenceRetIdeal.τ).loc Cert.ReferenceRetIdeal.main_arg0) = m ((c.tc : Thread Cert.ReferenceRetIdeal.nD Cert.ReferenceRetIdeal.τ).loc Cert.ReferenceRetIdeal.main_arg0)
      ∧ r.2.mem ((c.tc : Thread Cert.ReferenceRetIdeal.nD Cert.ReferenceRetIdeal.τ).loc Cert.ReferenceRetIdeal.main_arg1) = m ((c.tc : Thread Cert.ReferenceRetIdeal.nD Cert.ReferenceRetIdeal.τ).loc Cert.ReferenceRetIdeal.main_arg1)
      ∧ r.2.mem ((c.tc : Thread Cert.ReferenceRetIdeal.nD Cert.ReferenceRetIdeal.τ).loc Cert.ReferenceRetIdeal.main_arg2) = m ((c.tc : Thread Cert.ReferenceRetIdeal.nD Cert.ReferenceRetIdeal.τ).loc Cert.ReferenceRetIdeal.main_arg2))
      ∧ r.2.sem = fun _ => 0)

def quiescent_ReferenceRetIdeal_pre_finite_ret [hReferenceRetIdeal : Cert.ReferenceRetIdeal.Facts] [hPre_finite_ret : Cert.Pre_finite_ret.Facts] : Prop :=
  ∀ (m : (ℓ : Loc Cert.ReferenceRetIdeal.nD Cert.ReferenceRetIdeal.τ Cert.ReferenceRetIdeal.sig) → Buf (Elt Ideal) ℓ) (g : Dev Cert.ReferenceRetIdeal.nD → PrngReg), Pre_ReferenceRetIdeal_finite_ret m →
    θ_run (Cert.ReferenceRetIdeal.defs (F := Ideal)) (onTc (τ := Cert.ReferenceRetIdeal.τ) (Cert.ReferenceRetIdeal.main (F := Ideal))) ⟨m, fun _ => 0, g⟩ (fun r => (∀ c : Dev Cert.ReferenceRetIdeal.nD,
      r.2.mem ((c.tc : Thread Cert.ReferenceRetIdeal.nD Cert.ReferenceRetIdeal.τ).loc Cert.ReferenceRetIdeal.main_arg0) = m ((c.tc : Thread Cert.ReferenceRetIdeal.nD Cert.ReferenceRetIdeal.τ).loc Cert.ReferenceRetIdeal.main_arg0)
      ∧ r.2.mem ((c.tc : Thread Cert.ReferenceRetIdeal.nD Cert.ReferenceRetIdeal.τ).loc Cert.ReferenceRetIdeal.main_arg1) = m ((c.tc : Thread Cert.ReferenceRetIdeal.nD Cert.ReferenceRetIdeal.τ).loc Cert.ReferenceRetIdeal.main_arg1)
      ∧ r.2.mem ((c.tc : Thread Cert.ReferenceRetIdeal.nD Cert.ReferenceRetIdeal.τ).loc Cert.ReferenceRetIdeal.main_arg2) = m ((c.tc : Thread Cert.ReferenceRetIdeal.nD Cert.ReferenceRetIdeal.τ).loc Cert.ReferenceRetIdeal.main_arg2))
      ∧ r.2.sem = fun _ => 0)

def quiescent_KernelMla [hKernelMla : Cert.KernelMla.Facts] : Prop :=
  ∀ (m : (ℓ : Loc Cert.KernelMla.nD Cert.KernelMla.τ Cert.KernelMla.sig) → Buf (Elt Bits) ℓ) (g : Dev Cert.KernelMla.nD → PrngReg), Pre_KernelMla m →
    θ_run (Cert.KernelMla.defs (F := Bits)) (onTc (τ := Cert.KernelMla.τ) (Cert.KernelMla.main (F := Bits))) ⟨m, fun _ => 0, g⟩ (fun r => (∀ c : Dev Cert.KernelMla.nD,
      r.2.mem ((c.tc : Thread Cert.KernelMla.nD Cert.KernelMla.τ).loc Cert.KernelMla.main_arg0) = m ((c.tc : Thread Cert.KernelMla.nD Cert.KernelMla.τ).loc Cert.KernelMla.main_arg0)
      ∧ r.2.mem ((c.tc : Thread Cert.KernelMla.nD Cert.KernelMla.τ).loc Cert.KernelMla.main_arg1) = m ((c.tc : Thread Cert.KernelMla.nD Cert.KernelMla.τ).loc Cert.KernelMla.main_arg1)
      ∧ r.2.mem ((c.tc : Thread Cert.KernelMla.nD Cert.KernelMla.τ).loc Cert.KernelMla.main_arg2) = m ((c.tc : Thread Cert.KernelMla.nD Cert.KernelMla.τ).loc Cert.KernelMla.main_arg2))
      ∧ r.2.sem = fun _ => 0)

def quiescent_KernelMlaIdeal [hKernelMlaIdeal : Cert.KernelMlaIdeal.Facts] : Prop :=
  ∀ (m : (ℓ : Loc Cert.KernelMlaIdeal.nD Cert.KernelMlaIdeal.τ Cert.KernelMlaIdeal.sig) → Buf (Elt Ideal) ℓ) (g : Dev Cert.KernelMlaIdeal.nD → PrngReg), Pre_KernelMlaIdeal m →
    θ_run (Cert.KernelMlaIdeal.defs (F := Ideal)) (onTc (τ := Cert.KernelMlaIdeal.τ) (Cert.KernelMlaIdeal.main (F := Ideal))) ⟨m, fun _ => 0, g⟩ (fun r => (∀ c : Dev Cert.KernelMlaIdeal.nD,
      r.2.mem ((c.tc : Thread Cert.KernelMlaIdeal.nD Cert.KernelMlaIdeal.τ).loc Cert.KernelMlaIdeal.main_arg0) = m ((c.tc : Thread Cert.KernelMlaIdeal.nD Cert.KernelMlaIdeal.τ).loc Cert.KernelMlaIdeal.main_arg0)
      ∧ r.2.mem ((c.tc : Thread Cert.KernelMlaIdeal.nD Cert.KernelMlaIdeal.τ).loc Cert.KernelMlaIdeal.main_arg1) = m ((c.tc : Thread Cert.KernelMlaIdeal.nD Cert.KernelMlaIdeal.τ).loc Cert.KernelMlaIdeal.main_arg1)
      ∧ r.2.mem ((c.tc : Thread Cert.KernelMlaIdeal.nD Cert.KernelMlaIdeal.τ).loc Cert.KernelMlaIdeal.main_arg2) = m ((c.tc : Thread Cert.KernelMlaIdeal.nD Cert.KernelMlaIdeal.τ).loc Cert.KernelMlaIdeal.main_arg2))
      ∧ r.2.sem = fun _ => 0)

def quiescent_KernelMlaIdeal_pre_finite_mla [hKernelMlaIdeal : Cert.KernelMlaIdeal.Facts] [hPre_finite_mla : Cert.Pre_finite_mla.Facts] : Prop :=
  ∀ (m : (ℓ : Loc Cert.KernelMlaIdeal.nD Cert.KernelMlaIdeal.τ Cert.KernelMlaIdeal.sig) → Buf (Elt Ideal) ℓ) (g : Dev Cert.KernelMlaIdeal.nD → PrngReg), Pre_KernelMlaIdeal_finite_mla m →
    θ_run (Cert.KernelMlaIdeal.defs (F := Ideal)) (onTc (τ := Cert.KernelMlaIdeal.τ) (Cert.KernelMlaIdeal.main (F := Ideal))) ⟨m, fun _ => 0, g⟩ (fun r => (∀ c : Dev Cert.KernelMlaIdeal.nD,
      r.2.mem ((c.tc : Thread Cert.KernelMlaIdeal.nD Cert.KernelMlaIdeal.τ).loc Cert.KernelMlaIdeal.main_arg0) = m ((c.tc : Thread Cert.KernelMlaIdeal.nD Cert.KernelMlaIdeal.τ).loc Cert.KernelMlaIdeal.main_arg0)
      ∧ r.2.mem ((c.tc : Thread Cert.KernelMlaIdeal.nD Cert.KernelMlaIdeal.τ).loc Cert.KernelMlaIdeal.main_arg1) = m ((c.tc : Thread Cert.KernelMlaIdeal.nD Cert.KernelMlaIdeal.τ).loc Cert.KernelMlaIdeal.main_arg1)
      ∧ r.2.mem ((c.tc : Thread Cert.KernelMlaIdeal.nD Cert.KernelMlaIdeal.τ).loc Cert.KernelMlaIdeal.main_arg2) = m ((c.tc : Thread Cert.KernelMlaIdeal.nD Cert.KernelMlaIdeal.τ).loc Cert.KernelMlaIdeal.main_arg2))
      ∧ r.2.sem = fun _ => 0)

def quiescent_ReferenceMlaIdeal [hReferenceMlaIdeal : Cert.ReferenceMlaIdeal.Facts] : Prop :=
  ∀ (m : (ℓ : Loc Cert.ReferenceMlaIdeal.nD Cert.ReferenceMlaIdeal.τ Cert.ReferenceMlaIdeal.sig) → Buf (Elt Ideal) ℓ) (g : Dev Cert.ReferenceMlaIdeal.nD → PrngReg), Pre_ReferenceMlaIdeal m →
    θ_run (Cert.ReferenceMlaIdeal.defs (F := Ideal)) (onTc (τ := Cert.ReferenceMlaIdeal.τ) (Cert.ReferenceMlaIdeal.main (F := Ideal))) ⟨m, fun _ => 0, g⟩ (fun r => (∀ c : Dev Cert.ReferenceMlaIdeal.nD,
      r.2.mem ((c.tc : Thread Cert.ReferenceMlaIdeal.nD Cert.ReferenceMlaIdeal.τ).loc Cert.ReferenceMlaIdeal.main_arg0) = m ((c.tc : Thread Cert.ReferenceMlaIdeal.nD Cert.ReferenceMlaIdeal.τ).loc Cert.ReferenceMlaIdeal.main_arg0)
      ∧ r.2.mem ((c.tc : Thread Cert.ReferenceMlaIdeal.nD Cert.ReferenceMlaIdeal.τ).loc Cert.ReferenceMlaIdeal.main_arg1) = m ((c.tc : Thread Cert.ReferenceMlaIdeal.nD Cert.ReferenceMlaIdeal.τ).loc Cert.ReferenceMlaIdeal.main_arg1)
      ∧ r.2.mem ((c.tc : Thread Cert.ReferenceMlaIdeal.nD Cert.ReferenceMlaIdeal.τ).loc Cert.ReferenceMlaIdeal.main_arg2) = m ((c.tc : Thread Cert.ReferenceMlaIdeal.nD Cert.ReferenceMlaIdeal.τ).loc Cert.ReferenceMlaIdeal.main_arg2))
      ∧ r.2.sem = fun _ => 0)

def quiescent_ReferenceMlaIdeal_pre_finite_mla [hReferenceMlaIdeal : Cert.ReferenceMlaIdeal.Facts] [hPre_finite_mla : Cert.Pre_finite_mla.Facts] : Prop :=
  ∀ (m : (ℓ : Loc Cert.ReferenceMlaIdeal.nD Cert.ReferenceMlaIdeal.τ Cert.ReferenceMlaIdeal.sig) → Buf (Elt Ideal) ℓ) (g : Dev Cert.ReferenceMlaIdeal.nD → PrngReg), Pre_ReferenceMlaIdeal_finite_mla m →
    θ_run (Cert.ReferenceMlaIdeal.defs (F := Ideal)) (onTc (τ := Cert.ReferenceMlaIdeal.τ) (Cert.ReferenceMlaIdeal.main (F := Ideal))) ⟨m, fun _ => 0, g⟩ (fun r => (∀ c : Dev Cert.ReferenceMlaIdeal.nD,
      r.2.mem ((c.tc : Thread Cert.ReferenceMlaIdeal.nD Cert.ReferenceMlaIdeal.τ).loc Cert.ReferenceMlaIdeal.main_arg0) = m ((c.tc : Thread Cert.ReferenceMlaIdeal.nD Cert.ReferenceMlaIdeal.τ).loc Cert.ReferenceMlaIdeal.main_arg0)
      ∧ r.2.mem ((c.tc : Thread Cert.ReferenceMlaIdeal.nD Cert.ReferenceMlaIdeal.τ).loc Cert.ReferenceMlaIdeal.main_arg1) = m ((c.tc : Thread Cert.ReferenceMlaIdeal.nD Cert.ReferenceMlaIdeal.τ).loc Cert.ReferenceMlaIdeal.main_arg1)
      ∧ r.2.mem ((c.tc : Thread Cert.ReferenceMlaIdeal.nD Cert.ReferenceMlaIdeal.τ).loc Cert.ReferenceMlaIdeal.main_arg2) = m ((c.tc : Thread Cert.ReferenceMlaIdeal.nD Cert.ReferenceMlaIdeal.τ).loc Cert.ReferenceMlaIdeal.main_arg2))
      ∧ r.2.sem = fun _ => 0)

def quiescent_KernelMlaBwd [hKernelMlaBwd : Cert.KernelMlaBwd.Facts] : Prop :=
  ∀ (m : (ℓ : Loc Cert.KernelMlaBwd.nD Cert.KernelMlaBwd.τ Cert.KernelMlaBwd.sig) → Buf (Elt Bits) ℓ) (g : Dev Cert.KernelMlaBwd.nD → PrngReg), Pre_KernelMlaBwd m →
    θ_run (Cert.KernelMlaBwd.defs (F := Bits)) (onTc (τ := Cert.KernelMlaBwd.τ) (Cert.KernelMlaBwd.main (F := Bits))) ⟨m, fun _ => 0, g⟩ (fun r => (∀ c : Dev Cert.KernelMlaBwd.nD,
      r.2.mem ((c.tc : Thread Cert.KernelMlaBwd.nD Cert.KernelMlaBwd.τ).loc Cert.KernelMlaBwd.main_arg0) = m ((c.tc : Thread Cert.KernelMlaBwd.nD Cert.KernelMlaBwd.τ).loc Cert.KernelMlaBwd.main_arg0)
      ∧ r.2.mem ((c.tc : Thread Cert.KernelMlaBwd.nD Cert.KernelMlaBwd.τ).loc Cert.KernelMlaBwd.main_arg1) = m ((c.tc : Thread Cert.KernelMlaBwd.nD Cert.KernelMlaBwd.τ).loc Cert.KernelMlaBwd.main_arg1)
      ∧ r.2.mem ((c.tc : Thread Cert.KernelMlaBwd.nD Cert.KernelMlaBwd.τ).loc Cert.KernelMlaBwd.main_arg2) = m ((c.tc : Thread Cert.KernelMlaBwd.nD Cert.KernelMlaBwd.τ).loc Cert.KernelMlaBwd.main_arg2)
      ∧ r.2.mem ((c.tc : Thread Cert.KernelMlaBwd.nD Cert.KernelMlaBwd.τ).loc Cert.KernelMlaBwd.main_arg3) = m ((c.tc : Thread Cert.KernelMlaBwd.nD Cert.KernelMlaBwd.τ).loc Cert.KernelMlaBwd.main_arg3))
      ∧ r.2.sem = fun _ => 0)

def quiescent_KernelMlaBwdIdeal [hKernelMlaBwdIdeal : Cert.KernelMlaBwdIdeal.Facts] : Prop :=
  ∀ (m : (ℓ : Loc Cert.KernelMlaBwdIdeal.nD Cert.KernelMlaBwdIdeal.τ Cert.KernelMlaBwdIdeal.sig) → Buf (Elt Ideal) ℓ) (g : Dev Cert.KernelMlaBwdIdeal.nD → PrngReg), Pre_KernelMlaBwdIdeal m →
    θ_run (Cert.KernelMlaBwdIdeal.defs (F := Ideal)) (onTc (τ := Cert.KernelMlaBwdIdeal.τ) (Cert.KernelMlaBwdIdeal.main (F := Ideal))) ⟨m, fun _ => 0, g⟩ (fun r => (∀ c : Dev Cert.KernelMlaBwdIdeal.nD,
      r.2.mem ((c.tc : Thread Cert.KernelMlaBwdIdeal.nD Cert.KernelMlaBwdIdeal.τ).loc Cert.KernelMlaBwdIdeal.main_arg0) = m ((c.tc : Thread Cert.KernelMlaBwdIdeal.nD Cert.KernelMlaBwdIdeal.τ).loc Cert.KernelMlaBwdIdeal.main_arg0)
      ∧ r.2.mem ((c.tc : Thread Cert.KernelMlaBwdIdeal.nD Cert.KernelMlaBwdIdeal.τ).loc Cert.KernelMlaBwdIdeal.main_arg1) = m ((c.tc : Thread Cert.KernelMlaBwdIdeal.nD Cert.KernelMlaBwdIdeal.τ).loc Cert.KernelMlaBwdIdeal.main_arg1)
      ∧ r.2.mem ((c.tc : Thread Cert.KernelMlaBwdIdeal.nD Cert.KernelMlaBwdIdeal.τ).loc Cert.KernelMlaBwdIdeal.main_arg2) = m ((c.tc : Thread Cert.KernelMlaBwdIdeal.nD Cert.KernelMlaBwdIdeal.τ).loc Cert.KernelMlaBwdIdeal.main_arg2)
      ∧ r.2.mem ((c.tc : Thread Cert.KernelMlaBwdIdeal.nD Cert.KernelMlaBwdIdeal.τ).loc Cert.KernelMlaBwdIdeal.main_arg3) = m ((c.tc : Thread Cert.KernelMlaBwdIdeal.nD Cert.KernelMlaBwdIdeal.τ).loc Cert.KernelMlaBwdIdeal.main_arg3))
      ∧ r.2.sem = fun _ => 0)

def quiescent_KernelMlaBwdIdeal_pre_finite_mla_bwd [hKernelMlaBwdIdeal : Cert.KernelMlaBwdIdeal.Facts] [hPre_finite_mla_bwd : Cert.Pre_finite_mla_bwd.Facts] : Prop :=
  ∀ (m : (ℓ : Loc Cert.KernelMlaBwdIdeal.nD Cert.KernelMlaBwdIdeal.τ Cert.KernelMlaBwdIdeal.sig) → Buf (Elt Ideal) ℓ) (g : Dev Cert.KernelMlaBwdIdeal.nD → PrngReg), Pre_KernelMlaBwdIdeal_finite_mla_bwd m →
    θ_run (Cert.KernelMlaBwdIdeal.defs (F := Ideal)) (onTc (τ := Cert.KernelMlaBwdIdeal.τ) (Cert.KernelMlaBwdIdeal.main (F := Ideal))) ⟨m, fun _ => 0, g⟩ (fun r => (∀ c : Dev Cert.KernelMlaBwdIdeal.nD,
      r.2.mem ((c.tc : Thread Cert.KernelMlaBwdIdeal.nD Cert.KernelMlaBwdIdeal.τ).loc Cert.KernelMlaBwdIdeal.main_arg0) = m ((c.tc : Thread Cert.KernelMlaBwdIdeal.nD Cert.KernelMlaBwdIdeal.τ).loc Cert.KernelMlaBwdIdeal.main_arg0)
      ∧ r.2.mem ((c.tc : Thread Cert.KernelMlaBwdIdeal.nD Cert.KernelMlaBwdIdeal.τ).loc Cert.KernelMlaBwdIdeal.main_arg1) = m ((c.tc : Thread Cert.KernelMlaBwdIdeal.nD Cert.KernelMlaBwdIdeal.τ).loc Cert.KernelMlaBwdIdeal.main_arg1)
      ∧ r.2.mem ((c.tc : Thread Cert.KernelMlaBwdIdeal.nD Cert.KernelMlaBwdIdeal.τ).loc Cert.KernelMlaBwdIdeal.main_arg2) = m ((c.tc : Thread Cert.KernelMlaBwdIdeal.nD Cert.KernelMlaBwdIdeal.τ).loc Cert.KernelMlaBwdIdeal.main_arg2)
      ∧ r.2.mem ((c.tc : Thread Cert.KernelMlaBwdIdeal.nD Cert.KernelMlaBwdIdeal.τ).loc Cert.KernelMlaBwdIdeal.main_arg3) = m ((c.tc : Thread Cert.KernelMlaBwdIdeal.nD Cert.KernelMlaBwdIdeal.τ).loc Cert.KernelMlaBwdIdeal.main_arg3))
      ∧ r.2.sem = fun _ => 0)

def quiescent_ReferenceMlaBwdIdeal [hReferenceMlaBwdIdeal : Cert.ReferenceMlaBwdIdeal.Facts] : Prop :=
  ∀ (m : (ℓ : Loc Cert.ReferenceMlaBwdIdeal.nD Cert.ReferenceMlaBwdIdeal.τ Cert.ReferenceMlaBwdIdeal.sig) → Buf (Elt Ideal) ℓ) (g : Dev Cert.ReferenceMlaBwdIdeal.nD → PrngReg), Pre_ReferenceMlaBwdIdeal m →
    θ_run (Cert.ReferenceMlaBwdIdeal.defs (F := Ideal)) (onTc (τ := Cert.ReferenceMlaBwdIdeal.τ) (Cert.ReferenceMlaBwdIdeal.main (F := Ideal))) ⟨m, fun _ => 0, g⟩ (fun r => (∀ c : Dev Cert.ReferenceMlaBwdIdeal.nD,
      r.2.mem ((c.tc : Thread Cert.ReferenceMlaBwdIdeal.nD Cert.ReferenceMlaBwdIdeal.τ).loc Cert.ReferenceMlaBwdIdeal.main_arg0) = m ((c.tc : Thread Cert.ReferenceMlaBwdIdeal.nD Cert.ReferenceMlaBwdIdeal.τ).loc Cert.ReferenceMlaBwdIdeal.main_arg0)
      ∧ r.2.mem ((c.tc : Thread Cert.ReferenceMlaBwdIdeal.nD Cert.ReferenceMlaBwdIdeal.τ).loc Cert.ReferenceMlaBwdIdeal.main_arg1) = m ((c.tc : Thread Cert.ReferenceMlaBwdIdeal.nD Cert.ReferenceMlaBwdIdeal.τ).loc Cert.ReferenceMlaBwdIdeal.main_arg1)
      ∧ r.2.mem ((c.tc : Thread Cert.ReferenceMlaBwdIdeal.nD Cert.ReferenceMlaBwdIdeal.τ).loc Cert.ReferenceMlaBwdIdeal.main_arg2) = m ((c.tc : Thread Cert.ReferenceMlaBwdIdeal.nD Cert.ReferenceMlaBwdIdeal.τ).loc Cert.ReferenceMlaBwdIdeal.main_arg2)
      ∧ r.2.mem ((c.tc : Thread Cert.ReferenceMlaBwdIdeal.nD Cert.ReferenceMlaBwdIdeal.τ).loc Cert.ReferenceMlaBwdIdeal.main_arg3) = m ((c.tc : Thread Cert.ReferenceMlaBwdIdeal.nD Cert.ReferenceMlaBwdIdeal.τ).loc Cert.ReferenceMlaBwdIdeal.main_arg3))
      ∧ r.2.sem = fun _ => 0)

def quiescent_ReferenceMlaBwdIdeal_pre_finite_mla_bwd [hReferenceMlaBwdIdeal : Cert.ReferenceMlaBwdIdeal.Facts] [hPre_finite_mla_bwd : Cert.Pre_finite_mla_bwd.Facts] : Prop :=
  ∀ (m : (ℓ : Loc Cert.ReferenceMlaBwdIdeal.nD Cert.ReferenceMlaBwdIdeal.τ Cert.ReferenceMlaBwdIdeal.sig) → Buf (Elt Ideal) ℓ) (g : Dev Cert.ReferenceMlaBwdIdeal.nD → PrngReg), Pre_ReferenceMlaBwdIdeal_finite_mla_bwd m →
    θ_run (Cert.ReferenceMlaBwdIdeal.defs (F := Ideal)) (onTc (τ := Cert.ReferenceMlaBwdIdeal.τ) (Cert.ReferenceMlaBwdIdeal.main (F := Ideal))) ⟨m, fun _ => 0, g⟩ (fun r => (∀ c : Dev Cert.ReferenceMlaBwdIdeal.nD,
      r.2.mem ((c.tc : Thread Cert.ReferenceMlaBwdIdeal.nD Cert.ReferenceMlaBwdIdeal.τ).loc Cert.ReferenceMlaBwdIdeal.main_arg0) = m ((c.tc : Thread Cert.ReferenceMlaBwdIdeal.nD Cert.ReferenceMlaBwdIdeal.τ).loc Cert.ReferenceMlaBwdIdeal.main_arg0)
      ∧ r.2.mem ((c.tc : Thread Cert.ReferenceMlaBwdIdeal.nD Cert.ReferenceMlaBwdIdeal.τ).loc Cert.ReferenceMlaBwdIdeal.main_arg1) = m ((c.tc : Thread Cert.ReferenceMlaBwdIdeal.nD Cert.ReferenceMlaBwdIdeal.τ).loc Cert.ReferenceMlaBwdIdeal.main_arg1)
      ∧ r.2.mem ((c.tc : Thread Cert.ReferenceMlaBwdIdeal.nD Cert.ReferenceMlaBwdIdeal.τ).loc Cert.ReferenceMlaBwdIdeal.main_arg2) = m ((c.tc : Thread Cert.ReferenceMlaBwdIdeal.nD Cert.ReferenceMlaBwdIdeal.τ).loc Cert.ReferenceMlaBwdIdeal.main_arg2)
      ∧ r.2.mem ((c.tc : Thread Cert.ReferenceMlaBwdIdeal.nD Cert.ReferenceMlaBwdIdeal.τ).loc Cert.ReferenceMlaBwdIdeal.main_arg3) = m ((c.tc : Thread Cert.ReferenceMlaBwdIdeal.nD Cert.ReferenceMlaBwdIdeal.τ).loc Cert.ReferenceMlaBwdIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v40_0)) (v1 : (c : Dev Cert.KernelIdeal.nD) → Buf (Elt Ideal) ((c.tc : Thread Cert.KernelIdeal.nD Cert.KernelIdeal.τ).loc Cert.KernelIdeal.main_v40_1)) (v2 : (c : Dev Cert.KernelIdeal.nD) → Buf (Elt Ideal) ((c.tc : Thread Cert.KernelIdeal.nD Cert.KernelIdeal.τ).loc Cert.KernelIdeal.main_v40_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40_0) = v0 c
          ∧ r.2.mem ((c.tc : Thread Cert.KernelIdeal.nD Cert.KernelIdeal.τ).loc Cert.KernelIdeal.main_v40_1) = v1 c
          ∧ r.2.mem ((c.tc : Thread Cert.KernelIdeal.nD Cert.KernelIdeal.τ).loc Cert.KernelIdeal.main_v40_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_v98) = v1 c
          ∧ r.2.mem ((c.tc : Thread Cert.ReferenceIdeal.nD Cert.ReferenceIdeal.τ).loc Cert.ReferenceIdeal.main_v97) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelAct_KernelActIdeal : Prop :=
  True

def algebraic_KernelActIdeal_ReferenceActIdeal_pre_finite_act [hKernelActIdeal : Cert.KernelActIdeal.Facts] [hReferenceActIdeal : Cert.ReferenceActIdeal.Facts] [hPre_finite_act : Cert.Pre_finite_act.Facts] : Prop :=
  ∀ (m : (ℓ : Loc Cert.KernelActIdeal.nD Cert.KernelActIdeal.τ Cert.KernelActIdeal.sig) → Buf (Elt Ideal) ℓ) (g : Dev Cert.KernelActIdeal.nD → PrngReg)
    (m' : (ℓ : Loc Cert.ReferenceActIdeal.nD Cert.ReferenceActIdeal.τ Cert.ReferenceActIdeal.sig) → Buf (Elt Ideal) ℓ) (g' : Dev Cert.ReferenceActIdeal.nD → PrngReg), Pre_KernelActIdeal_finite_act m →
    (∀ c : Dev Cert.KernelActIdeal.nD,
      m' ((c.tc : Thread Cert.ReferenceActIdeal.nD Cert.ReferenceActIdeal.τ).loc Cert.ReferenceActIdeal.main_arg0) = m ((c.tc : Thread Cert.KernelActIdeal.nD Cert.KernelActIdeal.τ).loc Cert.KernelActIdeal.main_arg0)
      ∧ m' ((c.tc : Thread Cert.ReferenceActIdeal.nD Cert.ReferenceActIdeal.τ).loc Cert.ReferenceActIdeal.main_arg1) = m ((c.tc : Thread Cert.KernelActIdeal.nD Cert.KernelActIdeal.τ).loc Cert.KernelActIdeal.main_arg1)
      ∧ m' ((c.tc : Thread Cert.ReferenceActIdeal.nD Cert.ReferenceActIdeal.τ).loc Cert.ReferenceActIdeal.main_arg2) = m ((c.tc : Thread Cert.KernelActIdeal.nD Cert.KernelActIdeal.τ).loc Cert.KernelActIdeal.main_arg2)) →
    ∃ (v0 : (c : Dev Cert.KernelActIdeal.nD) → Buf (Elt Ideal) ((c.tc : Thread Cert.KernelActIdeal.nD Cert.KernelActIdeal.τ).loc Cert.KernelActIdeal.main_v0)),
      θ_run (Cert.KernelActIdeal.defs (F := Ideal)) (onTc (τ := Cert.KernelActIdeal.τ) (Cert.KernelActIdeal.main (F := Ideal))) ⟨m, fun _ => 0, g⟩ (fun r => ∀ c : Dev Cert.KernelActIdeal.nD,
          r.2.mem ((c.tc : Thread Cert.KernelActIdeal.nD Cert.KernelActIdeal.τ).loc Cert.KernelActIdeal.main_v0) = v0 c
          ∧ r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0)
          ∧ r.2.mem ((c.tc : Thread Cert.KernelActIdeal.nD Cert.KernelActIdeal.τ).loc Cert.KernelActIdeal.main_arg1) = m ((c.tc : Thread Cert.KernelActIdeal.nD Cert.KernelActIdeal.τ).loc Cert.KernelActIdeal.main_arg1)
          ∧ r.2.mem ((c.tc : Thread Cert.KernelActIdeal.nD Cert.KernelActIdeal.τ).loc Cert.KernelActIdeal.main_arg2) = m ((c.tc : Thread Cert.KernelActIdeal.nD Cert.KernelActIdeal.τ).loc Cert.KernelActIdeal.main_arg2))
      ∧ θ_run (Cert.ReferenceActIdeal.defs (F := Ideal)) (onTc (τ := Cert.ReferenceActIdeal.τ) (Cert.ReferenceActIdeal.main (F := Ideal))) ⟨m', fun _ => 0, g'⟩ (fun r => ∀ c : Dev Cert.ReferenceActIdeal.nD,
          r.2.mem ((c.tc : Thread Cert.ReferenceActIdeal.nD Cert.ReferenceActIdeal.τ).loc Cert.ReferenceActIdeal.main_v25) = v0 c
          ∧ r.2.mem ((c.tc : Thread Cert.ReferenceActIdeal.nD Cert.ReferenceActIdeal.τ).loc Cert.ReferenceActIdeal.main_arg0) = m' ((c.tc : Thread Cert.ReferenceActIdeal.nD Cert.ReferenceActIdeal.τ).loc Cert.ReferenceActIdeal.main_arg0)
          ∧ r.2.mem ((c.tc : Thread Cert.ReferenceActIdeal.nD Cert.ReferenceActIdeal.τ).loc Cert.ReferenceActIdeal.main_arg1) = m' ((c.tc : Thread Cert.ReferenceActIdeal.nD Cert.ReferenceActIdeal.τ).loc Cert.ReferenceActIdeal.main_arg1)
          ∧ r.2.mem ((c.tc : Thread Cert.ReferenceActIdeal.nD Cert.ReferenceActIdeal.τ).loc Cert.ReferenceActIdeal.main_arg2) = m' ((c.tc : Thread Cert.ReferenceActIdeal.nD Cert.ReferenceActIdeal.τ).loc Cert.ReferenceActIdeal.main_arg2))

def preserves_KernelDwGu_KernelDwGuIdeal : Prop :=
  True

def algebraic_KernelDwGuIdeal_ReferenceDwGuIdeal [hKernelDwGuIdeal : Cert.KernelDwGuIdeal.Facts] [hReferenceDwGuIdeal : Cert.ReferenceDwGuIdeal.Facts] : Prop :=
  ∀ (m : (ℓ : Loc Cert.KernelDwGuIdeal.nD Cert.KernelDwGuIdeal.τ Cert.KernelDwGuIdeal.sig) → Buf (Elt Ideal) ℓ) (g : Dev Cert.KernelDwGuIdeal.nD → PrngReg)
    (m' : (ℓ : Loc Cert.ReferenceDwGuIdeal.nD Cert.ReferenceDwGuIdeal.τ Cert.ReferenceDwGuIdeal.sig) → Buf (Elt Ideal) ℓ) (g' : Dev Cert.ReferenceDwGuIdeal.nD → PrngReg), Pre_KernelDwGuIdeal m →
    (∀ c : Dev Cert.KernelDwGuIdeal.nD,
      m' ((c.tc : Thread Cert.ReferenceDwGuIdeal.nD Cert.ReferenceDwGuIdeal.τ).loc Cert.ReferenceDwGuIdeal.main_arg0) = m ((c.tc : Thread Cert.KernelDwGuIdeal.nD Cert.KernelDwGuIdeal.τ).loc Cert.KernelDwGuIdeal.main_arg0)
      ∧ m' ((c.tc : Thread Cert.ReferenceDwGuIdeal.nD Cert.ReferenceDwGuIdeal.τ).loc Cert.ReferenceDwGuIdeal.main_arg1) = m ((c.tc : Thread Cert.KernelDwGuIdeal.nD Cert.KernelDwGuIdeal.τ).loc Cert.KernelDwGuIdeal.main_arg1)) →
    ∃ (v0 : (c : Dev Cert.KernelDwGuIdeal.nD) → Buf (Elt Ideal) ((c.tc : Thread Cert.KernelDwGuIdeal.nD Cert.KernelDwGuIdeal.τ).loc Cert.KernelDwGuIdeal.main_v0)),
      θ_run (Cert.KernelDwGuIdeal.defs (F := Ideal)) (onTc (τ := Cert.KernelDwGuIdeal.τ) (Cert.KernelDwGuIdeal.main (F := Ideal))) ⟨m, fun _ => 0, g⟩ (fun r => ∀ c : Dev Cert.KernelDwGuIdeal.nD,
          r.2.mem ((c.tc : Thread Cert.KernelDwGuIdeal.nD Cert.KernelDwGuIdeal.τ).loc Cert.KernelDwGuIdeal.main_v0) = v0 c
          ∧ r.2.mem ((c.tc : Thread Cert.KernelDwGuIdeal.nD Cert.KernelDwGuIdeal.τ).loc Cert.KernelDwGuIdeal.main_arg0) = m ((c.tc : Thread Cert.KernelDwGuIdeal.nD Cert.KernelDwGuIdeal.τ).loc Cert.KernelDwGuIdeal.main_arg0)
          ∧ r.2.mem ((c.tc : Thread Cert.KernelDwGuIdeal.nD Cert.KernelDwGuIdeal.τ).loc Cert.KernelDwGuIdeal.main_arg1) = m ((c.tc : Thread Cert.KernelDwGuIdeal.nD Cert.KernelDwGuIdeal.τ).loc Cert.KernelDwGuIdeal.main_arg1))
      ∧ θ_run (Cert.ReferenceDwGuIdeal.defs (F := Ideal)) (onTc (τ := Cert.ReferenceDwGuIdeal.τ) (Cert.ReferenceDwGuIdeal.main (F := Ideal))) ⟨m', fun _ => 0, g'⟩ (fun r => ∀ c : Dev Cert.ReferenceDwGuIdeal.nD,
          r.2.mem ((c.tc : Thread Cert.ReferenceDwGuIdeal.nD Cert.ReferenceDwGuIdeal.τ).loc Cert.ReferenceDwGuIdeal.main_v6) = v0 c
          ∧ r.2.mem ((c.tc : Thread Cert.ReferenceDwGuIdeal.nD Cert.ReferenceDwGuIdeal.τ).loc Cert.ReferenceDwGuIdeal.main_arg0) = m' ((c.tc : Thread Cert.ReferenceDwGuIdeal.nD Cert.ReferenceDwGuIdeal.τ).loc Cert.ReferenceDwGuIdeal.main_arg0)
          ∧ r.2.mem ((c.tc : Thread Cert.ReferenceDwGuIdeal.nD Cert.ReferenceDwGuIdeal.τ).loc Cert.ReferenceDwGuIdeal.main_arg1) = m' ((c.tc : Thread Cert.ReferenceDwGuIdeal.nD Cert.ReferenceDwGuIdeal.τ).loc Cert.ReferenceDwGuIdeal.main_arg1))

def preserves_KernelDx1_KernelDx1Ideal : Prop :=
  True

def algebraic_KernelDx1Ideal_ReferenceDx1Ideal [hKernelDx1Ideal : Cert.KernelDx1Ideal.Facts] [hReferenceDx1Ideal : Cert.ReferenceDx1Ideal.Facts] : Prop :=
  ∀ (m : (ℓ : Loc Cert.KernelDx1Ideal.nD Cert.KernelDx1Ideal.τ Cert.KernelDx1Ideal.sig) → Buf (Elt Ideal) ℓ) (g : Dev Cert.KernelDx1Ideal.nD → PrngReg)
    (m' : (ℓ : Loc Cert.ReferenceDx1Ideal.nD Cert.ReferenceDx1Ideal.τ Cert.ReferenceDx1Ideal.sig) → Buf (Elt Ideal) ℓ) (g' : Dev Cert.ReferenceDx1Ideal.nD → PrngReg), Pre_KernelDx1Ideal m →
    (∀ c : Dev Cert.KernelDx1Ideal.nD,
      m' ((c.tc : Thread Cert.ReferenceDx1Ideal.nD Cert.ReferenceDx1Ideal.τ).loc Cert.ReferenceDx1Ideal.main_arg0) = m ((c.tc : Thread Cert.KernelDx1Ideal.nD Cert.KernelDx1Ideal.τ).loc Cert.KernelDx1Ideal.main_arg0)
      ∧ m' ((c.tc : Thread Cert.ReferenceDx1Ideal.nD Cert.ReferenceDx1Ideal.τ).loc Cert.ReferenceDx1Ideal.main_arg1) = m ((c.tc : Thread Cert.KernelDx1Ideal.nD Cert.KernelDx1Ideal.τ).loc Cert.KernelDx1Ideal.main_arg1)) →
    ∃ (v0 : (c : Dev Cert.KernelDx1Ideal.nD) → Buf (Elt Ideal) ((c.tc : Thread Cert.KernelDx1Ideal.nD Cert.KernelDx1Ideal.τ).loc Cert.KernelDx1Ideal.main_v0)),
      θ_run (Cert.KernelDx1Ideal.defs (F := Ideal)) (onTc (τ := Cert.KernelDx1Ideal.τ) (Cert.KernelDx1Ideal.main (F := Ideal))) ⟨m, fun _ => 0, g⟩ (fun r => ∀ c : Dev Cert.KernelDx1Ideal.nD,
          r.2.mem ((c.tc : Thread Cert.KernelDx1Ideal.nD Cert.KernelDx1Ideal.τ).loc Cert.KernelDx1Ideal.main_v0) = v0 c
          ∧ r.2.mem ((c.tc : Thread Cert.KernelDx1Ideal.nD Cert.KernelDx1Ideal.τ).loc Cert.KernelDx1Ideal.main_arg0) = m ((c.tc : Thread Cert.KernelDx1Ideal.nD Cert.KernelDx1Ideal.τ).loc Cert.KernelDx1Ideal.main_arg0)
          ∧ r.2.mem ((c.tc : Thread Cert.KernelDx1Ideal.nD Cert.KernelDx1Ideal.τ).loc Cert.KernelDx1Ideal.main_arg1) = m ((c.tc : Thread Cert.KernelDx1Ideal.nD Cert.KernelDx1Ideal.τ).loc Cert.KernelDx1Ideal.main_arg1))
      ∧ θ_run (Cert.ReferenceDx1Ideal.defs (F := Ideal)) (onTc (τ := Cert.ReferenceDx1Ideal.τ) (Cert.ReferenceDx1Ideal.main (F := Ideal))) ⟨m', fun _ => 0, g'⟩ (fun r => ∀ c : Dev Cert.ReferenceDx1Ideal.nD,
          r.2.mem ((c.tc : Thread Cert.ReferenceDx1Ideal.nD Cert.ReferenceDx1Ideal.τ).loc Cert.ReferenceDx1Ideal.main_v4) = v0 c
          ∧ r.2.mem ((c.tc : Thread Cert.ReferenceDx1Ideal.nD Cert.ReferenceDx1Ideal.τ).loc Cert.ReferenceDx1Ideal.main_arg0) = m' ((c.tc : Thread Cert.ReferenceDx1Ideal.nD Cert.ReferenceDx1Ideal.τ).loc Cert.ReferenceDx1Ideal.main_arg0)
          ∧ r.2.mem ((c.tc : Thread Cert.ReferenceDx1Ideal.nD Cert.ReferenceDx1Ideal.τ).loc Cert.ReferenceDx1Ideal.main_arg1) = m' ((c.tc : Thread Cert.ReferenceDx1Ideal.nD Cert.ReferenceDx1Ideal.τ).loc Cert.ReferenceDx1Ideal.main_arg1))

def preserves_KernelDwDown_KernelDwDownIdeal : Prop :=
  True

def algebraic_KernelDwDownIdeal_ReferenceDwDownIdeal [hKernelDwDownIdeal : Cert.KernelDwDownIdeal.Facts] [hReferenceDwDownIdeal : Cert.ReferenceDwDownIdeal.Facts] : Prop :=
  ∀ (m : (ℓ : Loc Cert.KernelDwDownIdeal.nD Cert.KernelDwDownIdeal.τ Cert.KernelDwDownIdeal.sig) → Buf (Elt Ideal) ℓ) (g : Dev Cert.KernelDwDownIdeal.nD → PrngReg)
    (m' : (ℓ : Loc Cert.ReferenceDwDownIdeal.nD Cert.ReferenceDwDownIdeal.τ Cert.ReferenceDwDownIdeal.sig) → Buf (Elt Ideal) ℓ) (g' : Dev Cert.ReferenceDwDownIdeal.nD → PrngReg), Pre_KernelDwDownIdeal m →
    (∀ c : Dev Cert.KernelDwDownIdeal.nD,
      m' ((c.tc : Thread Cert.ReferenceDwDownIdeal.nD Cert.ReferenceDwDownIdeal.τ).loc Cert.ReferenceDwDownIdeal.main_arg0) = m ((c.tc : Thread Cert.KernelDwDownIdeal.nD Cert.KernelDwDownIdeal.τ).loc Cert.KernelDwDownIdeal.main_arg0)
      ∧ m' ((c.tc : Thread Cert.ReferenceDwDownIdeal.nD Cert.ReferenceDwDownIdeal.τ).loc Cert.ReferenceDwDownIdeal.main_arg1) = m ((c.tc : Thread Cert.KernelDwDownIdeal.nD Cert.KernelDwDownIdeal.τ).loc Cert.KernelDwDownIdeal.main_arg1)) →
    ∃ (v0 : (c : Dev Cert.KernelDwDownIdeal.nD) → Buf (Elt Ideal) ((c.tc : Thread Cert.KernelDwDownIdeal.nD Cert.KernelDwDownIdeal.τ).loc Cert.KernelDwDownIdeal.main_v0)),
      θ_run (Cert.KernelDwDownIdeal.defs (F := Ideal)) (onTc (τ := Cert.KernelDwDownIdeal.τ) (Cert.KernelDwDownIdeal.main (F := Ideal))) ⟨m, fun _ => 0, g⟩ (fun r => ∀ c : Dev Cert.KernelDwDownIdeal.nD,
          r.2.mem ((c.tc : Thread Cert.KernelDwDownIdeal.nD Cert.KernelDwDownIdeal.τ).loc Cert.KernelDwDownIdeal.main_v0) = v0 c
          ∧ r.2.mem ((c.tc : Thread Cert.KernelDwDownIdeal.nD Cert.KernelDwDownIdeal.τ).loc Cert.KernelDwDownIdeal.main_arg0) = m ((c.tc : Thread Cert.KernelDwDownIdeal.nD Cert.KernelDwDownIdeal.τ).loc Cert.KernelDwDownIdeal.main_arg0)
          ∧ r.2.mem ((c.tc : Thread Cert.KernelDwDownIdeal.nD Cert.KernelDwDownIdeal.τ).loc Cert.KernelDwDownIdeal.main_arg1) = m ((c.tc : Thread Cert.KernelDwDownIdeal.nD Cert.KernelDwDownIdeal.τ).loc Cert.KernelDwDownIdeal.main_arg1))
      ∧ θ_run (Cert.ReferenceDwDownIdeal.defs (F := Ideal)) (onTc (τ := Cert.ReferenceDwDownIdeal.τ) (Cert.ReferenceDwDownIdeal.main (F := Ideal))) ⟨m', fun _ => 0, g'⟩ (fun r => ∀ c : Dev Cert.ReferenceDwDownIdeal.nD,
          r.2.mem ((c.tc : Thread Cert.ReferenceDwDownIdeal.nD Cert.ReferenceDwDownIdeal.τ).loc Cert.ReferenceDwDownIdeal.main_v6) = v0 c
          ∧ r.2.mem ((c.tc : Thread Cert.ReferenceDwDownIdeal.nD Cert.ReferenceDwDownIdeal.τ).loc Cert.ReferenceDwDownIdeal.main_arg0) = m' ((c.tc : Thread Cert.ReferenceDwDownIdeal.nD Cert.ReferenceDwDownIdeal.τ).loc Cert.ReferenceDwDownIdeal.main_arg0)
          ∧ r.2.mem ((c.tc : Thread Cert.ReferenceDwDownIdeal.nD Cert.ReferenceDwDownIdeal.τ).loc Cert.ReferenceDwDownIdeal.main_arg1) = m' ((c.tc : Thread Cert.ReferenceDwDownIdeal.nD Cert.ReferenceDwDownIdeal.τ).loc Cert.ReferenceDwDownIdeal.main_arg1))

def preserves_KernelDwIn_KernelDwInIdeal : Prop :=
  True

def algebraic_KernelDwInIdeal_ReferenceDwInIdeal [hKernelDwInIdeal : Cert.KernelDwInIdeal.Facts] [hReferenceDwInIdeal : Cert.ReferenceDwInIdeal.Facts] : Prop :=
  ∀ (m : (ℓ : Loc Cert.KernelDwInIdeal.nD Cert.KernelDwInIdeal.τ Cert.KernelDwInIdeal.sig) → Buf (Elt Ideal) ℓ) (g : Dev Cert.KernelDwInIdeal.nD → PrngReg)
    (m' : (ℓ : Loc Cert.ReferenceDwInIdeal.nD Cert.ReferenceDwInIdeal.τ Cert.ReferenceDwInIdeal.sig) → Buf (Elt Ideal) ℓ) (g' : Dev Cert.ReferenceDwInIdeal.nD → PrngReg), Pre_KernelDwInIdeal m →
    (∀ c : Dev Cert.KernelDwInIdeal.nD,
      m' ((c.tc : Thread Cert.ReferenceDwInIdeal.nD Cert.ReferenceDwInIdeal.τ).loc Cert.ReferenceDwInIdeal.main_arg0) = m ((c.tc : Thread Cert.KernelDwInIdeal.nD Cert.KernelDwInIdeal.τ).loc Cert.KernelDwInIdeal.main_arg0)
      ∧ m' ((c.tc : Thread Cert.ReferenceDwInIdeal.nD Cert.ReferenceDwInIdeal.τ).loc Cert.ReferenceDwInIdeal.main_arg1) = m ((c.tc : Thread Cert.KernelDwInIdeal.nD Cert.KernelDwInIdeal.τ).loc Cert.KernelDwInIdeal.main_arg1)) →
    ∃ (v0 : (c : Dev Cert.KernelDwInIdeal.nD) → Buf (Elt Ideal) ((c.tc : Thread Cert.KernelDwInIdeal.nD Cert.KernelDwInIdeal.τ).loc Cert.KernelDwInIdeal.main_v0)),
      θ_run (Cert.KernelDwInIdeal.defs (F := Ideal)) (onTc (τ := Cert.KernelDwInIdeal.τ) (Cert.KernelDwInIdeal.main (F := Ideal))) ⟨m, fun _ => 0, g⟩ (fun r => ∀ c : Dev Cert.KernelDwInIdeal.nD,
          r.2.mem ((c.tc : Thread Cert.KernelDwInIdeal.nD Cert.KernelDwInIdeal.τ).loc Cert.KernelDwInIdeal.main_v0) = v0 c
          ∧ r.2.mem ((c.tc : Thread Cert.KernelDwInIdeal.nD Cert.KernelDwInIdeal.τ).loc Cert.KernelDwInIdeal.main_arg0) = m ((c.tc : Thread Cert.KernelDwInIdeal.nD Cert.KernelDwInIdeal.τ).loc Cert.KernelDwInIdeal.main_arg0)
          ∧ r.2.mem ((c.tc : Thread Cert.KernelDwInIdeal.nD Cert.KernelDwInIdeal.τ).loc Cert.KernelDwInIdeal.main_arg1) = m ((c.tc : Thread Cert.KernelDwInIdeal.nD Cert.KernelDwInIdeal.τ).loc Cert.KernelDwInIdeal.main_arg1))
      ∧ θ_run (Cert.ReferenceDwInIdeal.defs (F := Ideal)) (onTc (τ := Cert.ReferenceDwInIdeal.τ) (Cert.ReferenceDwInIdeal.main (F := Ideal))) ⟨m', fun _ => 0, g'⟩ (fun r => ∀ c : Dev Cert.ReferenceDwInIdeal.nD,
          r.2.mem ((c.tc : Thread Cert.ReferenceDwInIdeal.nD Cert.ReferenceDwInIdeal.τ).loc Cert.ReferenceDwInIdeal.main_v6) = v0 c
          ∧ r.2.mem ((c.tc : Thread Cert.ReferenceDwInIdeal.nD Cert.ReferenceDwInIdeal.τ).loc Cert.ReferenceDwInIdeal.main_arg0) = m' ((c.tc : Thread Cert.ReferenceDwInIdeal.nD Cert.ReferenceDwInIdeal.τ).loc Cert.ReferenceDwInIdeal.main_arg0)
          ∧ r.2.mem ((c.tc : Thread Cert.ReferenceDwInIdeal.nD Cert.ReferenceDwInIdeal.τ).loc Cert.ReferenceDwInIdeal.main_arg1) = m' ((c.tc : Thread Cert.ReferenceDwInIdeal.nD Cert.ReferenceDwInIdeal.τ).loc Cert.ReferenceDwInIdeal.main_arg1))

def preserves_KernelDxl_KernelDxlIdeal : Prop :=
  True

def algebraic_KernelDxlIdeal_ReferenceDxlIdeal [hKernelDxlIdeal : Cert.KernelDxlIdeal.Facts] [hReferenceDxlIdeal : Cert.ReferenceDxlIdeal.Facts] : Prop :=
  ∀ (m : (ℓ : Loc Cert.KernelDxlIdeal.nD Cert.KernelDxlIdeal.τ Cert.KernelDxlIdeal.sig) → Buf (Elt Ideal) ℓ) (g : Dev Cert.KernelDxlIdeal.nD → PrngReg)
    (m' : (ℓ : Loc Cert.ReferenceDxlIdeal.nD Cert.ReferenceDxlIdeal.τ Cert.ReferenceDxlIdeal.sig) → Buf (Elt Ideal) ℓ) (g' : Dev Cert.ReferenceDxlIdeal.nD → PrngReg), Pre_KernelDxlIdeal m →
    (∀ c : Dev Cert.KernelDxlIdeal.nD,
      m' ((c.tc : Thread Cert.ReferenceDxlIdeal.nD Cert.ReferenceDxlIdeal.τ).loc Cert.ReferenceDxlIdeal.main_arg0) = m ((c.tc : Thread Cert.KernelDxlIdeal.nD Cert.KernelDxlIdeal.τ).loc Cert.KernelDxlIdeal.main_arg0)
      ∧ m' ((c.tc : Thread Cert.ReferenceDxlIdeal.nD Cert.ReferenceDxlIdeal.τ).loc Cert.ReferenceDxlIdeal.main_arg1) = m ((c.tc : Thread Cert.KernelDxlIdeal.nD Cert.KernelDxlIdeal.τ).loc Cert.KernelDxlIdeal.main_arg1)) →
    ∃ (v0 : (c : Dev Cert.KernelDxlIdeal.nD) → Buf (Elt Ideal) ((c.tc : Thread Cert.KernelDxlIdeal.nD Cert.KernelDxlIdeal.τ).loc Cert.KernelDxlIdeal.main_v0)),
      θ_run (Cert.KernelDxlIdeal.defs (F := Ideal)) (onTc (τ := Cert.KernelDxlIdeal.τ) (Cert.KernelDxlIdeal.main (F := Ideal))) ⟨m, fun _ => 0, g⟩ (fun r => ∀ c : Dev Cert.KernelDxlIdeal.nD,
          r.2.mem ((c.tc : Thread Cert.KernelDxlIdeal.nD Cert.KernelDxlIdeal.τ).loc Cert.KernelDxlIdeal.main_v0) = v0 c
          ∧ r.2.mem ((c.tc : Thread Cert.KernelDxlIdeal.nD Cert.KernelDxlIdeal.τ).loc Cert.KernelDxlIdeal.main_arg0) = m ((c.tc : Thread Cert.KernelDxlIdeal.nD Cert.KernelDxlIdeal.τ).loc Cert.KernelDxlIdeal.main_arg0)
          ∧ r.2.mem ((c.tc : Thread Cert.KernelDxlIdeal.nD Cert.KernelDxlIdeal.τ).loc Cert.KernelDxlIdeal.main_arg1) = m ((c.tc : Thread Cert.KernelDxlIdeal.nD Cert.KernelDxlIdeal.τ).loc Cert.KernelDxlIdeal.main_arg1))
      ∧ θ_run (Cert.ReferenceDxlIdeal.defs (F := Ideal)) (onTc (τ := Cert.ReferenceDxlIdeal.τ) (Cert.ReferenceDxlIdeal.main (F := Ideal))) ⟨m', fun _ => 0, g'⟩ (fun r => ∀ c : Dev Cert.ReferenceDxlIdeal.nD,
          r.2.mem ((c.tc : Thread Cert.ReferenceDxlIdeal.nD Cert.ReferenceDxlIdeal.τ).loc Cert.ReferenceDxlIdeal.main_v4) = v0 c
          ∧ r.2.mem ((c.tc : Thread Cert.ReferenceDxlIdeal.nD Cert.ReferenceDxlIdeal.τ).loc Cert.ReferenceDxlIdeal.main_arg0) = m' ((c.tc : Thread Cert.ReferenceDxlIdeal.nD Cert.ReferenceDxlIdeal.τ).loc Cert.ReferenceDxlIdeal.main_arg0)
          ∧ r.2.mem ((c.tc : Thread Cert.ReferenceDxlIdeal.nD Cert.ReferenceDxlIdeal.τ).loc Cert.ReferenceDxlIdeal.main_arg1) = m' ((c.tc : Thread Cert.ReferenceDxlIdeal.nD Cert.ReferenceDxlIdeal.τ).loc Cert.ReferenceDxlIdeal.main_arg1))

def preserves_KernelDwOut_KernelDwOutIdeal : Prop :=
  True

def algebraic_KernelDwOutIdeal_ReferenceDwOutIdeal [hKernelDwOutIdeal : Cert.KernelDwOutIdeal.Facts] [hReferenceDwOutIdeal : Cert.ReferenceDwOutIdeal.Facts] : Prop :=
  ∀ (m : (ℓ : Loc Cert.KernelDwOutIdeal.nD Cert.KernelDwOutIdeal.τ Cert.KernelDwOutIdeal.sig) → Buf (Elt Ideal) ℓ) (g : Dev Cert.KernelDwOutIdeal.nD → PrngReg)
    (m' : (ℓ : Loc Cert.ReferenceDwOutIdeal.nD Cert.ReferenceDwOutIdeal.τ Cert.ReferenceDwOutIdeal.sig) → Buf (Elt Ideal) ℓ) (g' : Dev Cert.ReferenceDwOutIdeal.nD → PrngReg), Pre_KernelDwOutIdeal m →
    (∀ c : Dev Cert.KernelDwOutIdeal.nD,
      m' ((c.tc : Thread Cert.ReferenceDwOutIdeal.nD Cert.ReferenceDwOutIdeal.τ).loc Cert.ReferenceDwOutIdeal.main_arg0) = m ((c.tc : Thread Cert.KernelDwOutIdeal.nD Cert.KernelDwOutIdeal.τ).loc Cert.KernelDwOutIdeal.main_arg0)
      ∧ m' ((c.tc : Thread Cert.ReferenceDwOutIdeal.nD Cert.ReferenceDwOutIdeal.τ).loc Cert.ReferenceDwOutIdeal.main_arg1) = m ((c.tc : Thread Cert.KernelDwOutIdeal.nD Cert.KernelDwOutIdeal.τ).loc Cert.KernelDwOutIdeal.main_arg1)) →
    ∃ (v0 : (c : Dev Cert.KernelDwOutIdeal.nD) → Buf (Elt Ideal) ((c.tc : Thread Cert.KernelDwOutIdeal.nD Cert.KernelDwOutIdeal.τ).loc Cert.KernelDwOutIdeal.main_v0)),
      θ_run (Cert.KernelDwOutIdeal.defs (F := Ideal)) (onTc (τ := Cert.KernelDwOutIdeal.τ) (Cert.KernelDwOutIdeal.main (F := Ideal))) ⟨m, fun _ => 0, g⟩ (fun r => ∀ c : Dev Cert.KernelDwOutIdeal.nD,
          r.2.mem ((c.tc : Thread Cert.KernelDwOutIdeal.nD Cert.KernelDwOutIdeal.τ).loc Cert.KernelDwOutIdeal.main_v0) = v0 c
          ∧ r.2.mem ((c.tc : Thread Cert.KernelDwOutIdeal.nD Cert.KernelDwOutIdeal.τ).loc Cert.KernelDwOutIdeal.main_arg0) = m ((c.tc : Thread Cert.KernelDwOutIdeal.nD Cert.KernelDwOutIdeal.τ).loc Cert.KernelDwOutIdeal.main_arg0)
          ∧ r.2.mem ((c.tc : Thread Cert.KernelDwOutIdeal.nD Cert.KernelDwOutIdeal.τ).loc Cert.KernelDwOutIdeal.main_arg1) = m ((c.tc : Thread Cert.KernelDwOutIdeal.nD Cert.KernelDwOutIdeal.τ).loc Cert.KernelDwOutIdeal.main_arg1))
      ∧ θ_run (Cert.ReferenceDwOutIdeal.defs (F := Ideal)) (onTc (τ := Cert.ReferenceDwOutIdeal.τ) (Cert.ReferenceDwOutIdeal.main (F := Ideal))) ⟨m', fun _ => 0, g'⟩ (fun r => ∀ c : Dev Cert.ReferenceDwOutIdeal.nD,
          r.2.mem ((c.tc : Thread Cert.ReferenceDwOutIdeal.nD Cert.ReferenceDwOutIdeal.τ).loc Cert.ReferenceDwOutIdeal.main_v6) = v0 c
          ∧ r.2.mem ((c.tc : Thread Cert.ReferenceDwOutIdeal.nD Cert.ReferenceDwOutIdeal.τ).loc Cert.ReferenceDwOutIdeal.main_arg0) = m' ((c.tc : Thread Cert.ReferenceDwOutIdeal.nD Cert.ReferenceDwOutIdeal.τ).loc Cert.ReferenceDwOutIdeal.main_arg0)
          ∧ r.2.mem ((c.tc : Thread Cert.ReferenceDwOutIdeal.nD Cert.ReferenceDwOutIdeal.τ).loc Cert.ReferenceDwOutIdeal.main_arg1) = m' ((c.tc : Thread Cert.ReferenceDwOutIdeal.nD Cert.ReferenceDwOutIdeal.τ).loc Cert.ReferenceDwOutIdeal.main_arg1))

def preserves_KernelDmixin_KernelDmixinIdeal : Prop :=
  True

def algebraic_KernelDmixinIdeal_ReferenceDmixinIdeal [hKernelDmixinIdeal : Cert.KernelDmixinIdeal.Facts] [hReferenceDmixinIdeal : Cert.ReferenceDmixinIdeal.Facts] : Prop :=
  ∀ (m : (ℓ : Loc Cert.KernelDmixinIdeal.nD Cert.KernelDmixinIdeal.τ Cert.KernelDmixinIdeal.sig) → Buf (Elt Ideal) ℓ) (g : Dev Cert.KernelDmixinIdeal.nD → PrngReg)
    (m' : (ℓ : Loc Cert.ReferenceDmixinIdeal.nD Cert.ReferenceDmixinIdeal.τ Cert.ReferenceDmixinIdeal.sig) → Buf (Elt Ideal) ℓ) (g' : Dev Cert.ReferenceDmixinIdeal.nD → PrngReg), Pre_KernelDmixinIdeal m →
    (∀ c : Dev Cert.KernelDmixinIdeal.nD,
      m' ((c.tc : Thread Cert.ReferenceDmixinIdeal.nD Cert.ReferenceDmixinIdeal.τ).loc Cert.ReferenceDmixinIdeal.main_arg0) = m ((c.tc : Thread Cert.KernelDmixinIdeal.nD Cert.KernelDmixinIdeal.τ).loc Cert.KernelDmixinIdeal.main_arg0)
      ∧ m' ((c.tc : Thread Cert.ReferenceDmixinIdeal.nD Cert.ReferenceDmixinIdeal.τ).loc Cert.ReferenceDmixinIdeal.main_arg1) = m ((c.tc : Thread Cert.KernelDmixinIdeal.nD Cert.KernelDmixinIdeal.τ).loc Cert.KernelDmixinIdeal.main_arg1)) →
    ∃ (v0 : (c : Dev Cert.KernelDmixinIdeal.nD) → Buf (Elt Ideal) ((c.tc : Thread Cert.KernelDmixinIdeal.nD Cert.KernelDmixinIdeal.τ).loc Cert.KernelDmixinIdeal.main_v0)),
      θ_run (Cert.KernelDmixinIdeal.defs (F := Ideal)) (onTc (τ := Cert.KernelDmixinIdeal.τ) (Cert.KernelDmixinIdeal.main (F := Ideal))) ⟨m, fun _ => 0, g⟩ (fun r => ∀ c : Dev Cert.KernelDmixinIdeal.nD,
          r.2.mem ((c.tc : Thread Cert.KernelDmixinIdeal.nD Cert.KernelDmixinIdeal.τ).loc Cert.KernelDmixinIdeal.main_v0) = v0 c
          ∧ r.2.mem ((c.tc : Thread Cert.KernelDmixinIdeal.nD Cert.KernelDmixinIdeal.τ).loc Cert.KernelDmixinIdeal.main_arg0) = m ((c.tc : Thread Cert.KernelDmixinIdeal.nD Cert.KernelDmixinIdeal.τ).loc Cert.KernelDmixinIdeal.main_arg0)
          ∧ r.2.mem ((c.tc : Thread Cert.KernelDmixinIdeal.nD Cert.KernelDmixinIdeal.τ).loc Cert.KernelDmixinIdeal.main_arg1) = m ((c.tc : Thread Cert.KernelDmixinIdeal.nD Cert.KernelDmixinIdeal.τ).loc Cert.KernelDmixinIdeal.main_arg1))
      ∧ θ_run (Cert.ReferenceDmixinIdeal.defs (F := Ideal)) (onTc (τ := Cert.ReferenceDmixinIdeal.τ) (Cert.ReferenceDmixinIdeal.main (F := Ideal))) ⟨m', fun _ => 0, g'⟩ (fun r => ∀ c : Dev Cert.ReferenceDmixinIdeal.nD,
          r.2.mem ((c.tc : Thread Cert.ReferenceDmixinIdeal.nD Cert.ReferenceDmixinIdeal.τ).loc Cert.ReferenceDmixinIdeal.main_v4) = v0 c
          ∧ r.2.mem ((c.tc : Thread Cert.ReferenceDmixinIdeal.nD Cert.ReferenceDmixinIdeal.τ).loc Cert.ReferenceDmixinIdeal.main_arg0) = m' ((c.tc : Thread Cert.ReferenceDmixinIdeal.nD Cert.ReferenceDmixinIdeal.τ).loc Cert.ReferenceDmixinIdeal.main_arg0)
          ∧ r.2.mem ((c.tc : Thread Cert.ReferenceDmixinIdeal.nD Cert.ReferenceDmixinIdeal.τ).loc Cert.ReferenceDmixinIdeal.main_arg1) = m' ((c.tc : Thread Cert.ReferenceDmixinIdeal.nD Cert.ReferenceDmixinIdeal.τ).loc Cert.ReferenceDmixinIdeal.main_arg1))

def preserves_KernelDwUq_KernelDwUqIdeal : Prop :=
  True

def algebraic_KernelDwUqIdeal_ReferenceDwUqIdeal [hKernelDwUqIdeal : Cert.KernelDwUqIdeal.Facts] [hReferenceDwUqIdeal : Cert.ReferenceDwUqIdeal.Facts] : Prop :=
  ∀ (m : (ℓ : Loc Cert.KernelDwUqIdeal.nD Cert.KernelDwUqIdeal.τ Cert.KernelDwUqIdeal.sig) → Buf (Elt Ideal) ℓ) (g : Dev Cert.KernelDwUqIdeal.nD → PrngReg)
    (m' : (ℓ : Loc Cert.ReferenceDwUqIdeal.nD Cert.ReferenceDwUqIdeal.τ Cert.ReferenceDwUqIdeal.sig) → Buf (Elt Ideal) ℓ) (g' : Dev Cert.ReferenceDwUqIdeal.nD → PrngReg), Pre_KernelDwUqIdeal m →
    (∀ c : Dev Cert.KernelDwUqIdeal.nD,
      m' ((c.tc : Thread Cert.ReferenceDwUqIdeal.nD Cert.ReferenceDwUqIdeal.τ).loc Cert.ReferenceDwUqIdeal.main_arg0) = m ((c.tc : Thread Cert.KernelDwUqIdeal.nD Cert.KernelDwUqIdeal.τ).loc Cert.KernelDwUqIdeal.main_arg0)
      ∧ m' ((c.tc : Thread Cert.ReferenceDwUqIdeal.nD Cert.ReferenceDwUqIdeal.τ).loc Cert.ReferenceDwUqIdeal.main_arg1) = m ((c.tc : Thread Cert.KernelDwUqIdeal.nD Cert.KernelDwUqIdeal.τ).loc Cert.KernelDwUqIdeal.main_arg1)) →
    ∃ (v0 : (c : Dev Cert.KernelDwUqIdeal.nD) → Buf (Elt Ideal) ((c.tc : Thread Cert.KernelDwUqIdeal.nD Cert.KernelDwUqIdeal.τ).loc Cert.KernelDwUqIdeal.main_v0)),
      θ_run (Cert.KernelDwUqIdeal.defs (F := Ideal)) (onTc (τ := Cert.KernelDwUqIdeal.τ) (Cert.KernelDwUqIdeal.main (F := Ideal))) ⟨m, fun _ => 0, g⟩ (fun r => ∀ c : Dev Cert.KernelDwUqIdeal.nD,
          r.2.mem ((c.tc : Thread Cert.KernelDwUqIdeal.nD Cert.KernelDwUqIdeal.τ).loc Cert.KernelDwUqIdeal.main_v0) = v0 c
          ∧ r.2.mem ((c.tc : Thread Cert.KernelDwUqIdeal.nD Cert.KernelDwUqIdeal.τ).loc Cert.KernelDwUqIdeal.main_arg0) = m ((c.tc : Thread Cert.KernelDwUqIdeal.nD Cert.KernelDwUqIdeal.τ).loc Cert.KernelDwUqIdeal.main_arg0)
          ∧ r.2.mem ((c.tc : Thread Cert.KernelDwUqIdeal.nD Cert.KernelDwUqIdeal.τ).loc Cert.KernelDwUqIdeal.main_arg1) = m ((c.tc : Thread Cert.KernelDwUqIdeal.nD Cert.KernelDwUqIdeal.τ).loc Cert.KernelDwUqIdeal.main_arg1))
      ∧ θ_run (Cert.ReferenceDwUqIdeal.defs (F := Ideal)) (onTc (τ := Cert.ReferenceDwUqIdeal.τ) (Cert.ReferenceDwUqIdeal.main (F := Ideal))) ⟨m', fun _ => 0, g'⟩ (fun r => ∀ c : Dev Cert.ReferenceDwUqIdeal.nD,
          r.2.mem ((c.tc : Thread Cert.ReferenceDwUqIdeal.nD Cert.ReferenceDwUqIdeal.τ).loc Cert.ReferenceDwUqIdeal.main_v6) = v0 c
          ∧ r.2.mem ((c.tc : Thread Cert.ReferenceDwUqIdeal.nD Cert.ReferenceDwUqIdeal.τ).loc Cert.ReferenceDwUqIdeal.main_arg0) = m' ((c.tc : Thread Cert.ReferenceDwUqIdeal.nD Cert.ReferenceDwUqIdeal.τ).loc Cert.ReferenceDwUqIdeal.main_arg0)
          ∧ r.2.mem ((c.tc : Thread Cert.ReferenceDwUqIdeal.nD Cert.ReferenceDwUqIdeal.τ).loc Cert.ReferenceDwUqIdeal.main_arg1) = m' ((c.tc : Thread Cert.ReferenceDwUqIdeal.nD Cert.ReferenceDwUqIdeal.τ).loc Cert.ReferenceDwUqIdeal.main_arg1))

def preserves_KernelDqn_KernelDqnIdeal : Prop :=
  True

def algebraic_KernelDqnIdeal_ReferenceDqnIdeal [hKernelDqnIdeal : Cert.KernelDqnIdeal.Facts] [hReferenceDqnIdeal : Cert.ReferenceDqnIdeal.Facts] : Prop :=
  ∀ (m : (ℓ : Loc Cert.KernelDqnIdeal.nD Cert.KernelDqnIdeal.τ Cert.KernelDqnIdeal.sig) → Buf (Elt Ideal) ℓ) (g : Dev Cert.KernelDqnIdeal.nD → PrngReg)
    (m' : (ℓ : Loc Cert.ReferenceDqnIdeal.nD Cert.ReferenceDqnIdeal.τ Cert.ReferenceDqnIdeal.sig) → Buf (Elt Ideal) ℓ) (g' : Dev Cert.ReferenceDqnIdeal.nD → PrngReg), Pre_KernelDqnIdeal m →
    (∀ c : Dev Cert.KernelDqnIdeal.nD,
      m' ((c.tc : Thread Cert.ReferenceDqnIdeal.nD Cert.ReferenceDqnIdeal.τ).loc Cert.ReferenceDqnIdeal.main_arg0) = m ((c.tc : Thread Cert.KernelDqnIdeal.nD Cert.KernelDqnIdeal.τ).loc Cert.KernelDqnIdeal.main_arg0)
      ∧ m' ((c.tc : Thread Cert.ReferenceDqnIdeal.nD Cert.ReferenceDqnIdeal.τ).loc Cert.ReferenceDqnIdeal.main_arg1) = m ((c.tc : Thread Cert.KernelDqnIdeal.nD Cert.KernelDqnIdeal.τ).loc Cert.KernelDqnIdeal.main_arg1)) →
    ∃ (v0 : (c : Dev Cert.KernelDqnIdeal.nD) → Buf (Elt Ideal) ((c.tc : Thread Cert.KernelDqnIdeal.nD Cert.KernelDqnIdeal.τ).loc Cert.KernelDqnIdeal.main_v0)),
      θ_run (Cert.KernelDqnIdeal.defs (F := Ideal)) (onTc (τ := Cert.KernelDqnIdeal.τ) (Cert.KernelDqnIdeal.main (F := Ideal))) ⟨m, fun _ => 0, g⟩ (fun r => ∀ c : Dev Cert.KernelDqnIdeal.nD,
          r.2.mem ((c.tc : Thread Cert.KernelDqnIdeal.nD Cert.KernelDqnIdeal.τ).loc Cert.KernelDqnIdeal.main_v0) = v0 c
          ∧ r.2.mem ((c.tc : Thread Cert.KernelDqnIdeal.nD Cert.KernelDqnIdeal.τ).loc Cert.KernelDqnIdeal.main_arg0) = m ((c.tc : Thread Cert.KernelDqnIdeal.nD Cert.KernelDqnIdeal.τ).loc Cert.KernelDqnIdeal.main_arg0)
          ∧ r.2.mem ((c.tc : Thread Cert.KernelDqnIdeal.nD Cert.KernelDqnIdeal.τ).loc Cert.KernelDqnIdeal.main_arg1) = m ((c.tc : Thread Cert.KernelDqnIdeal.nD Cert.KernelDqnIdeal.τ).loc Cert.KernelDqnIdeal.main_arg1))
      ∧ θ_run (Cert.ReferenceDqnIdeal.defs (F := Ideal)) (onTc (τ := Cert.ReferenceDqnIdeal.τ) (Cert.ReferenceDqnIdeal.main (F := Ideal))) ⟨m', fun _ => 0, g'⟩ (fun r => ∀ c : Dev Cert.ReferenceDqnIdeal.nD,
          r.2.mem ((c.tc : Thread Cert.ReferenceDqnIdeal.nD Cert.ReferenceDqnIdeal.τ).loc Cert.ReferenceDqnIdeal.main_v4) = v0 c
          ∧ r.2.mem ((c.tc : Thread Cert.ReferenceDqnIdeal.nD Cert.ReferenceDqnIdeal.τ).loc Cert.ReferenceDqnIdeal.main_arg0) = m' ((c.tc : Thread Cert.ReferenceDqnIdeal.nD Cert.ReferenceDqnIdeal.τ).loc Cert.ReferenceDqnIdeal.main_arg0)
          ∧ r.2.mem ((c.tc : Thread Cert.ReferenceDqnIdeal.nD Cert.ReferenceDqnIdeal.τ).loc Cert.ReferenceDqnIdeal.main_arg1) = m' ((c.tc : Thread Cert.ReferenceDqnIdeal.nD Cert.ReferenceDqnIdeal.τ).loc Cert.ReferenceDqnIdeal.main_arg1))

def preserves_KernelDwUkv_KernelDwUkvIdeal : Prop :=
  True

def algebraic_KernelDwUkvIdeal_ReferenceDwUkvIdeal [hKernelDwUkvIdeal : Cert.KernelDwUkvIdeal.Facts] [hReferenceDwUkvIdeal : Cert.ReferenceDwUkvIdeal.Facts] : Prop :=
  ∀ (m : (ℓ : Loc Cert.KernelDwUkvIdeal.nD Cert.KernelDwUkvIdeal.τ Cert.KernelDwUkvIdeal.sig) → Buf (Elt Ideal) ℓ) (g : Dev Cert.KernelDwUkvIdeal.nD → PrngReg)
    (m' : (ℓ : Loc Cert.ReferenceDwUkvIdeal.nD Cert.ReferenceDwUkvIdeal.τ Cert.ReferenceDwUkvIdeal.sig) → Buf (Elt Ideal) ℓ) (g' : Dev Cert.ReferenceDwUkvIdeal.nD → PrngReg), Pre_KernelDwUkvIdeal m →
    (∀ c : Dev Cert.KernelDwUkvIdeal.nD,
      m' ((c.tc : Thread Cert.ReferenceDwUkvIdeal.nD Cert.ReferenceDwUkvIdeal.τ).loc Cert.ReferenceDwUkvIdeal.main_arg0) = m ((c.tc : Thread Cert.KernelDwUkvIdeal.nD Cert.KernelDwUkvIdeal.τ).loc Cert.KernelDwUkvIdeal.main_arg0)
      ∧ m' ((c.tc : Thread Cert.ReferenceDwUkvIdeal.nD Cert.ReferenceDwUkvIdeal.τ).loc Cert.ReferenceDwUkvIdeal.main_arg1) = m ((c.tc : Thread Cert.KernelDwUkvIdeal.nD Cert.KernelDwUkvIdeal.τ).loc Cert.KernelDwUkvIdeal.main_arg1)) →
    ∃ (v0 : (c : Dev Cert.KernelDwUkvIdeal.nD) → Buf (Elt Ideal) ((c.tc : Thread Cert.KernelDwUkvIdeal.nD Cert.KernelDwUkvIdeal.τ).loc Cert.KernelDwUkvIdeal.main_v0)),
      θ_run (Cert.KernelDwUkvIdeal.defs (F := Ideal)) (onTc (τ := Cert.KernelDwUkvIdeal.τ) (Cert.KernelDwUkvIdeal.main (F := Ideal))) ⟨m, fun _ => 0, g⟩ (fun r => ∀ c : Dev Cert.KernelDwUkvIdeal.nD,
          r.2.mem ((c.tc : Thread Cert.KernelDwUkvIdeal.nD Cert.KernelDwUkvIdeal.τ).loc Cert.KernelDwUkvIdeal.main_v0) = v0 c
          ∧ r.2.mem ((c.tc : Thread Cert.KernelDwUkvIdeal.nD Cert.KernelDwUkvIdeal.τ).loc Cert.KernelDwUkvIdeal.main_arg0) = m ((c.tc : Thread Cert.KernelDwUkvIdeal.nD Cert.KernelDwUkvIdeal.τ).loc Cert.KernelDwUkvIdeal.main_arg0)
          ∧ r.2.mem ((c.tc : Thread Cert.KernelDwUkvIdeal.nD Cert.KernelDwUkvIdeal.τ).loc Cert.KernelDwUkvIdeal.main_arg1) = m ((c.tc : Thread Cert.KernelDwUkvIdeal.nD Cert.KernelDwUkvIdeal.τ).loc Cert.KernelDwUkvIdeal.main_arg1))
      ∧ θ_run (Cert.ReferenceDwUkvIdeal.defs (F := Ideal)) (onTc (τ := Cert.ReferenceDwUkvIdeal.τ) (Cert.ReferenceDwUkvIdeal.main (F := Ideal))) ⟨m', fun _ => 0, g'⟩ (fun r => ∀ c : Dev Cert.ReferenceDwUkvIdeal.nD,
          r.2.mem ((c.tc : Thread Cert.ReferenceDwUkvIdeal.nD Cert.ReferenceDwUkvIdeal.τ).loc Cert.ReferenceDwUkvIdeal.main_v6) = v0 c
          ∧ r.2.mem ((c.tc : Thread Cert.ReferenceDwUkvIdeal.nD Cert.ReferenceDwUkvIdeal.τ).loc Cert.ReferenceDwUkvIdeal.main_arg0) = m' ((c.tc : Thread Cert.ReferenceDwUkvIdeal.nD Cert.ReferenceDwUkvIdeal.τ).loc Cert.ReferenceDwUkvIdeal.main_arg0)
          ∧ r.2.mem ((c.tc : Thread Cert.ReferenceDwUkvIdeal.nD Cert.ReferenceDwUkvIdeal.τ).loc Cert.ReferenceDwUkvIdeal.main_arg1) = m' ((c.tc : Thread Cert.ReferenceDwUkvIdeal.nD Cert.ReferenceDwUkvIdeal.τ).loc Cert.ReferenceDwUkvIdeal.main_arg1))

def preserves_KernelDkvn_KernelDkvnIdeal : Prop :=
  True

def algebraic_KernelDkvnIdeal_ReferenceDkvnIdeal [hKernelDkvnIdeal : Cert.KernelDkvnIdeal.Facts] [hReferenceDkvnIdeal : Cert.ReferenceDkvnIdeal.Facts] : Prop :=
  ∀ (m : (ℓ : Loc Cert.KernelDkvnIdeal.nD Cert.KernelDkvnIdeal.τ Cert.KernelDkvnIdeal.sig) → Buf (Elt Ideal) ℓ) (g : Dev Cert.KernelDkvnIdeal.nD → PrngReg)
    (m' : (ℓ : Loc Cert.ReferenceDkvnIdeal.nD Cert.ReferenceDkvnIdeal.τ Cert.ReferenceDkvnIdeal.sig) → Buf (Elt Ideal) ℓ) (g' : Dev Cert.ReferenceDkvnIdeal.nD → PrngReg), Pre_KernelDkvnIdeal m →
    (∀ c : Dev Cert.KernelDkvnIdeal.nD,
      m' ((c.tc : Thread Cert.ReferenceDkvnIdeal.nD Cert.ReferenceDkvnIdeal.τ).loc Cert.ReferenceDkvnIdeal.main_arg0) = m ((c.tc : Thread Cert.KernelDkvnIdeal.nD Cert.KernelDkvnIdeal.τ).loc Cert.KernelDkvnIdeal.main_arg0)
      ∧ m' ((c.tc : Thread Cert.ReferenceDkvnIdeal.nD Cert.ReferenceDkvnIdeal.τ).loc Cert.ReferenceDkvnIdeal.main_arg1) = m ((c.tc : Thread Cert.KernelDkvnIdeal.nD Cert.KernelDkvnIdeal.τ).loc Cert.KernelDkvnIdeal.main_arg1)) →
    ∃ (v0 : (c : Dev Cert.KernelDkvnIdeal.nD) → Buf (Elt Ideal) ((c.tc : Thread Cert.KernelDkvnIdeal.nD Cert.KernelDkvnIdeal.τ).loc Cert.KernelDkvnIdeal.main_v0)),
      θ_run (Cert.KernelDkvnIdeal.defs (F := Ideal)) (onTc (τ := Cert.KernelDkvnIdeal.τ) (Cert.KernelDkvnIdeal.main (F := Ideal))) ⟨m, fun _ => 0, g⟩ (fun r => ∀ c : Dev Cert.KernelDkvnIdeal.nD,
          r.2.mem ((c.tc : Thread Cert.KernelDkvnIdeal.nD Cert.KernelDkvnIdeal.τ).loc Cert.KernelDkvnIdeal.main_v0) = v0 c
          ∧ r.2.mem ((c.tc : Thread Cert.KernelDkvnIdeal.nD Cert.KernelDkvnIdeal.τ).loc Cert.KernelDkvnIdeal.main_arg0) = m ((c.tc : Thread Cert.KernelDkvnIdeal.nD Cert.KernelDkvnIdeal.τ).loc Cert.KernelDkvnIdeal.main_arg0)
          ∧ r.2.mem ((c.tc : Thread Cert.KernelDkvnIdeal.nD Cert.KernelDkvnIdeal.τ).loc Cert.KernelDkvnIdeal.main_arg1) = m ((c.tc : Thread Cert.KernelDkvnIdeal.nD Cert.KernelDkvnIdeal.τ).loc Cert.KernelDkvnIdeal.main_arg1))
      ∧ θ_run (Cert.ReferenceDkvnIdeal.defs (F := Ideal)) (onTc (τ := Cert.ReferenceDkvnIdeal.τ) (Cert.ReferenceDkvnIdeal.main (F := Ideal))) ⟨m', fun _ => 0, g'⟩ (fun r => ∀ c : Dev Cert.ReferenceDkvnIdeal.nD,
          r.2.mem ((c.tc : Thread Cert.ReferenceDkvnIdeal.nD Cert.ReferenceDkvnIdeal.τ).loc Cert.ReferenceDkvnIdeal.main_v4) = v0 c
          ∧ r.2.mem ((c.tc : Thread Cert.ReferenceDkvnIdeal.nD Cert.ReferenceDkvnIdeal.τ).loc Cert.ReferenceDkvnIdeal.main_arg0) = m' ((c.tc : Thread Cert.ReferenceDkvnIdeal.nD Cert.ReferenceDkvnIdeal.τ).loc Cert.ReferenceDkvnIdeal.main_arg0)
          ∧ r.2.mem ((c.tc : Thread Cert.ReferenceDkvnIdeal.nD Cert.ReferenceDkvnIdeal.τ).loc Cert.ReferenceDkvnIdeal.main_arg1) = m' ((c.tc : Thread Cert.ReferenceDkvnIdeal.nD Cert.ReferenceDkvnIdeal.τ).loc Cert.ReferenceDkvnIdeal.main_arg1))

def preserves_KernelGu_KernelGuIdeal : Prop :=
  True

def algebraic_KernelGuIdeal_ReferenceGuIdeal [hKernelGuIdeal : Cert.KernelGuIdeal.Facts] [hReferenceGuIdeal : Cert.ReferenceGuIdeal.Facts] : Prop :=
  ∀ (m : (ℓ : Loc Cert.KernelGuIdeal.nD Cert.KernelGuIdeal.τ Cert.KernelGuIdeal.sig) → Buf (Elt Ideal) ℓ) (g : Dev Cert.KernelGuIdeal.nD → PrngReg)
    (m' : (ℓ : Loc Cert.ReferenceGuIdeal.nD Cert.ReferenceGuIdeal.τ Cert.ReferenceGuIdeal.sig) → Buf (Elt Ideal) ℓ) (g' : Dev Cert.ReferenceGuIdeal.nD → PrngReg), Pre_KernelGuIdeal m →
    (∀ c : Dev Cert.KernelGuIdeal.nD,
      m' ((c.tc : Thread Cert.ReferenceGuIdeal.nD Cert.ReferenceGuIdeal.τ).loc Cert.ReferenceGuIdeal.main_arg0) = m ((c.tc : Thread Cert.KernelGuIdeal.nD Cert.KernelGuIdeal.τ).loc Cert.KernelGuIdeal.main_arg0)
      ∧ m' ((c.tc : Thread Cert.ReferenceGuIdeal.nD Cert.ReferenceGuIdeal.τ).loc Cert.ReferenceGuIdeal.main_arg1) = m ((c.tc : Thread Cert.KernelGuIdeal.nD Cert.KernelGuIdeal.τ).loc Cert.KernelGuIdeal.main_arg1)) →
    ∃ (v0 : (c : Dev Cert.KernelGuIdeal.nD) → Buf (Elt Ideal) ((c.tc : Thread Cert.KernelGuIdeal.nD Cert.KernelGuIdeal.τ).loc Cert.KernelGuIdeal.main_v0_0)) (v1 : (c : Dev Cert.KernelGuIdeal.nD) → Buf (Elt Ideal) ((c.tc : Thread Cert.KernelGuIdeal.nD Cert.KernelGuIdeal.τ).loc Cert.KernelGuIdeal.main_v0_1)),
      θ_run (Cert.KernelGuIdeal.defs (F := Ideal)) (onTc (τ := Cert.KernelGuIdeal.τ) (Cert.KernelGuIdeal.main (F := Ideal))) ⟨m, fun _ => 0, g⟩ (fun r => ∀ c : Dev Cert.KernelGuIdeal.nD,
          r.2.mem ((c.tc : Thread Cert.KernelGuIdeal.nD Cert.KernelGuIdeal.τ).loc Cert.KernelGuIdeal.main_v0_0) = v0 c
          ∧ r.2.mem ((c.tc : Thread Cert.KernelGuIdeal.nD Cert.KernelGuIdeal.τ).loc Cert.KernelGuIdeal.main_v0_1) = v1 c
          ∧ r.2.mem ((c.tc : Thread Cert.KernelGuIdeal.nD Cert.KernelGuIdeal.τ).loc Cert.KernelGuIdeal.main_arg0) = m ((c.tc : Thread Cert.KernelGuIdeal.nD Cert.KernelGuIdeal.τ).loc Cert.KernelGuIdeal.main_arg0)
          ∧ r.2.mem ((c.tc : Thread Cert.KernelGuIdeal.nD Cert.KernelGuIdeal.τ).loc Cert.KernelGuIdeal.main_arg1) = m ((c.tc : Thread Cert.KernelGuIdeal.nD Cert.KernelGuIdeal.τ).loc Cert.KernelGuIdeal.main_arg1))
      ∧ θ_run (Cert.ReferenceGuIdeal.defs (F := Ideal)) (onTc (τ := Cert.ReferenceGuIdeal.τ) (Cert.ReferenceGuIdeal.main (F := Ideal))) ⟨m', fun _ => 0, g'⟩ (fun r => ∀ c : Dev Cert.ReferenceGuIdeal.nD,
          r.2.mem ((c.tc : Thread Cert.ReferenceGuIdeal.nD Cert.ReferenceGuIdeal.τ).loc Cert.ReferenceGuIdeal.main_v17) = v0 c
          ∧ r.2.mem ((c.tc : Thread Cert.ReferenceGuIdeal.nD Cert.ReferenceGuIdeal.τ).loc Cert.ReferenceGuIdeal.main_v20) = v1 c
          ∧ r.2.mem ((c.tc : Thread Cert.ReferenceGuIdeal.nD Cert.ReferenceGuIdeal.τ).loc Cert.ReferenceGuIdeal.main_arg0) = m' ((c.tc : Thread Cert.ReferenceGuIdeal.nD Cert.ReferenceGuIdeal.τ).loc Cert.ReferenceGuIdeal.main_arg0)
          ∧ r.2.mem ((c.tc : Thread Cert.ReferenceGuIdeal.nD Cert.ReferenceGuIdeal.τ).loc Cert.ReferenceGuIdeal.main_arg1) = m' ((c.tc : Thread Cert.ReferenceGuIdeal.nD Cert.ReferenceGuIdeal.τ).loc Cert.ReferenceGuIdeal.main_arg1))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)) →
    ∃ (v0 : (c : Dev Cert.KernelDownIdeal.nD) → Buf (Elt Ideal) ((c.tc : Thread Cert.KernelDownIdeal.nD Cert.KernelDownIdeal.τ).loc Cert.KernelDownIdeal.main_v0)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v0) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v2) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1))

def preserves_KernelH_KernelHIdeal : Prop :=
  True

def algebraic_KernelHIdeal_ReferenceHIdeal [hKernelHIdeal : Cert.KernelHIdeal.Facts] [hReferenceHIdeal : Cert.ReferenceHIdeal.Facts] : Prop :=
  ∀ (m : (ℓ : Loc Cert.KernelHIdeal.nD Cert.KernelHIdeal.τ Cert.KernelHIdeal.sig) → Buf (Elt Ideal) ℓ) (g : Dev Cert.KernelHIdeal.nD → PrngReg)
    (m' : (ℓ : Loc Cert.ReferenceHIdeal.nD Cert.ReferenceHIdeal.τ Cert.ReferenceHIdeal.sig) → Buf (Elt Ideal) ℓ) (g' : Dev Cert.ReferenceHIdeal.nD → PrngReg), Pre_KernelHIdeal m →
    (∀ c : Dev Cert.KernelHIdeal.nD,
      m' ((c.tc : Thread Cert.ReferenceHIdeal.nD Cert.ReferenceHIdeal.τ).loc Cert.ReferenceHIdeal.main_arg0) = m ((c.tc : Thread Cert.KernelHIdeal.nD Cert.KernelHIdeal.τ).loc Cert.KernelHIdeal.main_arg0)
      ∧ m' ((c.tc : Thread Cert.ReferenceHIdeal.nD Cert.ReferenceHIdeal.τ).loc Cert.ReferenceHIdeal.main_arg1) = m ((c.tc : Thread Cert.KernelHIdeal.nD Cert.KernelHIdeal.τ).loc Cert.KernelHIdeal.main_arg1)) →
    ∃ (v0 : (c : Dev Cert.KernelHIdeal.nD) → Buf (Elt Ideal) ((c.tc : Thread Cert.KernelHIdeal.nD Cert.KernelHIdeal.τ).loc Cert.KernelHIdeal.main_v0)),
      θ_run (Cert.KernelHIdeal.defs (F := Ideal)) (onTc (τ := Cert.KernelHIdeal.τ) (Cert.KernelHIdeal.main (F := Ideal))) ⟨m, fun _ => 0, g⟩ (fun r => ∀ c : Dev Cert.KernelHIdeal.nD,
          r.2.mem ((c.tc : Thread Cert.KernelHIdeal.nD Cert.KernelHIdeal.τ).loc Cert.KernelHIdeal.main_v0) = v0 c
          ∧ r.2.mem ((c.tc : Thread Cert.KernelHIdeal.nD Cert.KernelHIdeal.τ).loc Cert.KernelHIdeal.main_arg0) = m ((c.tc : Thread Cert.KernelHIdeal.nD Cert.KernelHIdeal.τ).loc Cert.KernelHIdeal.main_arg0)
          ∧ r.2.mem ((c.tc : Thread Cert.KernelHIdeal.nD Cert.KernelHIdeal.τ).loc Cert.KernelHIdeal.main_arg1) = m ((c.tc : Thread Cert.KernelHIdeal.nD Cert.KernelHIdeal.τ).loc Cert.KernelHIdeal.main_arg1))
      ∧ θ_run (Cert.ReferenceHIdeal.defs (F := Ideal)) (onTc (τ := Cert.ReferenceHIdeal.τ) (Cert.ReferenceHIdeal.main (F := Ideal))) ⟨m', fun _ => 0, g'⟩ (fun r => ∀ c : Dev Cert.ReferenceHIdeal.nD,
          r.2.mem ((c.tc : Thread Cert.ReferenceHIdeal.nD Cert.ReferenceHIdeal.τ).loc Cert.ReferenceHIdeal.main_v2) = v0 c
          ∧ r.2.mem ((c.tc : Thread Cert.ReferenceHIdeal.nD Cert.ReferenceHIdeal.τ).loc Cert.ReferenceHIdeal.main_arg0) = m' ((c.tc : Thread Cert.ReferenceHIdeal.nD Cert.ReferenceHIdeal.τ).loc Cert.ReferenceHIdeal.main_arg0)
          ∧ r.2.mem ((c.tc : Thread Cert.ReferenceHIdeal.nD Cert.ReferenceHIdeal.τ).loc Cert.ReferenceHIdeal.main_arg1) = m' ((c.tc : Thread Cert.ReferenceHIdeal.nD Cert.ReferenceHIdeal.τ).loc Cert.ReferenceHIdeal.main_arg1))

def preserves_KernelQ_KernelQIdeal : Prop :=
  True

def algebraic_KernelQIdeal_ReferenceQIdeal [hKernelQIdeal : Cert.KernelQIdeal.Facts] [hReferenceQIdeal : Cert.ReferenceQIdeal.Facts] : Prop :=
  ∀ (m : (ℓ : Loc Cert.KernelQIdeal.nD Cert.KernelQIdeal.τ Cert.KernelQIdeal.sig) → Buf (Elt Ideal) ℓ) (g : Dev Cert.KernelQIdeal.nD → PrngReg)
    (m' : (ℓ : Loc Cert.ReferenceQIdeal.nD Cert.ReferenceQIdeal.τ Cert.ReferenceQIdeal.sig) → Buf (Elt Ideal) ℓ) (g' : Dev Cert.ReferenceQIdeal.nD → PrngReg), Pre_KernelQIdeal m →
    (∀ c : Dev Cert.KernelQIdeal.nD,
      m' ((c.tc : Thread Cert.ReferenceQIdeal.nD Cert.ReferenceQIdeal.τ).loc Cert.ReferenceQIdeal.main_arg0) = m ((c.tc : Thread Cert.KernelQIdeal.nD Cert.KernelQIdeal.τ).loc Cert.KernelQIdeal.main_arg0)
      ∧ m' ((c.tc : Thread Cert.ReferenceQIdeal.nD Cert.ReferenceQIdeal.τ).loc Cert.ReferenceQIdeal.main_arg1) = m ((c.tc : Thread Cert.KernelQIdeal.nD Cert.KernelQIdeal.τ).loc Cert.KernelQIdeal.main_arg1)) →
    ∃ (v0 : (c : Dev Cert.KernelQIdeal.nD) → Buf (Elt Ideal) ((c.tc : Thread Cert.KernelQIdeal.nD Cert.KernelQIdeal.τ).loc Cert.KernelQIdeal.main_v0)),
      θ_run (Cert.KernelQIdeal.defs (F := Ideal)) (onTc (τ := Cert.KernelQIdeal.τ) (Cert.KernelQIdeal.main (F := Ideal))) ⟨m, fun _ => 0, g⟩ (fun r => ∀ c : Dev Cert.KernelQIdeal.nD,
          r.2.mem ((c.tc : Thread Cert.KernelQIdeal.nD Cert.KernelQIdeal.τ).loc Cert.KernelQIdeal.main_v0) = v0 c
          ∧ r.2.mem ((c.tc : Thread Cert.KernelQIdeal.nD Cert.KernelQIdeal.τ).loc Cert.KernelQIdeal.main_arg0) = m ((c.tc : Thread Cert.KernelQIdeal.nD Cert.KernelQIdeal.τ).loc Cert.KernelQIdeal.main_arg0)
          ∧ r.2.mem ((c.tc : Thread Cert.KernelQIdeal.nD Cert.KernelQIdeal.τ).loc Cert.KernelQIdeal.main_arg1) = m ((c.tc : Thread Cert.KernelQIdeal.nD Cert.KernelQIdeal.τ).loc Cert.KernelQIdeal.main_arg1))
      ∧ θ_run (Cert.ReferenceQIdeal.defs (F := Ideal)) (onTc (τ := Cert.ReferenceQIdeal.τ) (Cert.ReferenceQIdeal.main (F := Ideal))) ⟨m', fun _ => 0, g'⟩ (fun r => ∀ c : Dev Cert.ReferenceQIdeal.nD,
          r.2.mem ((c.tc : Thread Cert.ReferenceQIdeal.nD Cert.ReferenceQIdeal.τ).loc Cert.ReferenceQIdeal.main_v2) = v0 c
          ∧ r.2.mem ((c.tc : Thread Cert.ReferenceQIdeal.nD Cert.ReferenceQIdeal.τ).loc Cert.ReferenceQIdeal.main_arg0) = m' ((c.tc : Thread Cert.ReferenceQIdeal.nD Cert.ReferenceQIdeal.τ).loc Cert.ReferenceQIdeal.main_arg0)
          ∧ r.2.mem ((c.tc : Thread Cert.ReferenceQIdeal.nD Cert.ReferenceQIdeal.τ).loc Cert.ReferenceQIdeal.main_arg1) = m' ((c.tc : Thread Cert.ReferenceQIdeal.nD Cert.ReferenceQIdeal.τ).loc Cert.ReferenceQIdeal.main_arg1))

def preserves_KernelKv_KernelKvIdeal : Prop :=
  True

def algebraic_KernelKvIdeal_ReferenceKvIdeal [hKernelKvIdeal : Cert.KernelKvIdeal.Facts] [hReferenceKvIdeal : Cert.ReferenceKvIdeal.Facts] : Prop :=
  ∀ (m : (ℓ : Loc Cert.KernelKvIdeal.nD Cert.KernelKvIdeal.τ Cert.KernelKvIdeal.sig) → Buf (Elt Ideal) ℓ) (g : Dev Cert.KernelKvIdeal.nD → PrngReg)
    (m' : (ℓ : Loc Cert.ReferenceKvIdeal.nD Cert.ReferenceKvIdeal.τ Cert.ReferenceKvIdeal.sig) → Buf (Elt Ideal) ℓ) (g' : Dev Cert.ReferenceKvIdeal.nD → PrngReg), Pre_KernelKvIdeal m →
    (∀ c : Dev Cert.KernelKvIdeal.nD,
      m' ((c.tc : Thread Cert.ReferenceKvIdeal.nD Cert.ReferenceKvIdeal.τ).loc Cert.ReferenceKvIdeal.main_arg0) = m ((c.tc : Thread Cert.KernelKvIdeal.nD Cert.KernelKvIdeal.τ).loc Cert.KernelKvIdeal.main_arg0)
      ∧ m' ((c.tc : Thread Cert.ReferenceKvIdeal.nD Cert.ReferenceKvIdeal.τ).loc Cert.ReferenceKvIdeal.main_arg1) = m ((c.tc : Thread Cert.KernelKvIdeal.nD Cert.KernelKvIdeal.τ).loc Cert.KernelKvIdeal.main_arg1)) →
    ∃ (v0 : (c : Dev Cert.KernelKvIdeal.nD) → Buf (Elt Ideal) ((c.tc : Thread Cert.KernelKvIdeal.nD Cert.KernelKvIdeal.τ).loc Cert.KernelKvIdeal.main_v0)),
      θ_run (Cert.KernelKvIdeal.defs (F := Ideal)) (onTc (τ := Cert.KernelKvIdeal.τ) (Cert.KernelKvIdeal.main (F := Ideal))) ⟨m, fun _ => 0, g⟩ (fun r => ∀ c : Dev Cert.KernelKvIdeal.nD,
          r.2.mem ((c.tc : Thread Cert.KernelKvIdeal.nD Cert.KernelKvIdeal.τ).loc Cert.KernelKvIdeal.main_v0) = v0 c
          ∧ r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
          ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1))
      ∧ θ_run (Cert.ReferenceKvIdeal.defs (F := Ideal)) (onTc (τ := Cert.ReferenceKvIdeal.τ) (Cert.ReferenceKvIdeal.main (F := Ideal))) ⟨m', fun _ => 0, g'⟩ (fun r => ∀ c : Dev Cert.ReferenceKvIdeal.nD,
          r.2.mem ((c.tc : Thread Cert.ReferenceKvIdeal.nD Cert.ReferenceKvIdeal.τ).loc Cert.ReferenceKvIdeal.main_v2) = v0 c
          ∧ r.2.mem ((c.tc : Thread Cert.ReferenceKvIdeal.nD Cert.ReferenceKvIdeal.τ).loc Cert.ReferenceKvIdeal.main_arg0) = m' ((c.tc : Thread Cert.ReferenceKvIdeal.nD Cert.ReferenceKvIdeal.τ).loc Cert.ReferenceKvIdeal.main_arg0)
          ∧ r.2.mem ((c.tc : Thread Cert.ReferenceKvIdeal.nD Cert.ReferenceKvIdeal.τ).loc Cert.ReferenceKvIdeal.main_arg1) = m' ((c.tc : Thread Cert.ReferenceKvIdeal.nD Cert.ReferenceKvIdeal.τ).loc Cert.ReferenceKvIdeal.main_arg1))

def preserves_KernelMix_KernelMixIdeal : Prop :=
  True

def algebraic_KernelMixIdeal_ReferenceMixIdeal [hKernelMixIdeal : Cert.KernelMixIdeal.Facts] [hReferenceMixIdeal : Cert.ReferenceMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg)
    (m' : (ℓ : Loc Cert.ReferenceMixIdeal.nD Cert.ReferenceMixIdeal.τ Cert.ReferenceMixIdeal.sig) → Buf (Elt Ideal) ℓ) (g' : Dev Cert.ReferenceMixIdeal.nD → PrngReg), Pre_KernelMixIdeal m →
    (∀ c : Dev Cert.KernelMixIdeal.nD,
      m' ((c.tc : Thread Cert.ReferenceMixIdeal.nD Cert.ReferenceMixIdeal.τ).loc Cert.ReferenceMixIdeal.main_arg0) = m ((c.tc : Thread Cert.KernelMixIdeal.nD Cert.KernelMixIdeal.τ).loc Cert.KernelMixIdeal.main_arg0)
      ∧ m' ((c.tc : Thread Cert.ReferenceMixIdeal.nD Cert.ReferenceMixIdeal.τ).loc Cert.ReferenceMixIdeal.main_arg1) = m ((c.tc : Thread Cert.KernelMixIdeal.nD Cert.KernelMixIdeal.τ).loc Cert.KernelMixIdeal.main_arg1)
      ∧ m' ((c.tc : Thread Cert.ReferenceMixIdeal.nD Cert.ReferenceMixIdeal.τ).loc Cert.ReferenceMixIdeal.main_arg2) = m ((c.tc : Thread Cert.KernelMixIdeal.nD Cert.KernelMixIdeal.τ).loc Cert.KernelMixIdeal.main_arg2)
      ∧ m' ((c.tc : Thread Cert.ReferenceMixIdeal.nD Cert.ReferenceMixIdeal.τ).loc Cert.ReferenceMixIdeal.main_arg3) = m ((c.tc : Thread Cert.KernelMixIdeal.nD Cert.KernelMixIdeal.τ).loc Cert.KernelMixIdeal.main_arg3)
      ∧ m' ((c.tc : Thread Cert.ReferenceMixIdeal.nD Cert.ReferenceMixIdeal.τ).loc Cert.ReferenceMixIdeal.main_arg4) = m ((c.tc : Thread Cert.KernelMixIdeal.nD Cert.KernelMixIdeal.τ).loc Cert.KernelMixIdeal.main_arg4)) →
    ∃ (v0 : (c : Dev Cert.KernelMixIdeal.nD) → Buf (Elt Ideal) ((c.tc : Thread Cert.KernelMixIdeal.nD Cert.KernelMixIdeal.τ).loc Cert.KernelMixIdeal.main_v0_0)) (v1 : (c : Dev Cert.KernelMixIdeal.nD) → Buf (Elt Ideal) ((c.tc : Thread Cert.KernelMixIdeal.nD Cert.KernelMixIdeal.τ).loc Cert.KernelMixIdeal.main_v0_1)) (v2 : (c : Dev Cert.KernelMixIdeal.nD) → Buf (Elt Ideal) ((c.tc : Thread Cert.KernelMixIdeal.nD Cert.KernelMixIdeal.τ).loc Cert.KernelMixIdeal.main_v0_2)),
      θ_run (Cert.KernelMixIdeal.defs (F := Ideal)) (onTc (τ := Cert.KernelMixIdeal.τ) (Cert.KernelMixIdeal.main (F := Ideal))) ⟨m, fun _ => 0, g⟩ (fun r => ∀ c : Dev Cert.KernelMixIdeal.nD,
          r.2.mem ((c.tc : Thread Cert.KernelMixIdeal.nD Cert.KernelMixIdeal.τ).loc Cert.KernelMixIdeal.main_v0_0) = v0 c
          ∧ r.2.mem ((c.tc : Thread Cert.KernelMixIdeal.nD Cert.KernelMixIdeal.τ).loc Cert.KernelMixIdeal.main_v0_1) = v1 c
          ∧ r.2.mem ((c.tc : Thread Cert.KernelMixIdeal.nD Cert.KernelMixIdeal.τ).loc Cert.KernelMixIdeal.main_v0_2) = v2 c
          ∧ r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
          ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
          ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
          ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
          ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4))
      ∧ θ_run (Cert.ReferenceMixIdeal.defs (F := Ideal)) (onTc (τ := Cert.ReferenceMixIdeal.τ) (Cert.ReferenceMixIdeal.main (F := Ideal))) ⟨m', fun _ => 0, g'⟩ (fun r => ∀ c : Dev Cert.ReferenceMixIdeal.nD,
          r.2.mem ((c.tc : Thread Cert.ReferenceMixIdeal.nD Cert.ReferenceMixIdeal.τ).loc Cert.ReferenceMixIdeal.main_v5) = v0 c
          ∧ r.2.mem ((c.tc : Thread Cert.ReferenceMixIdeal.nD Cert.ReferenceMixIdeal.τ).loc Cert.ReferenceMixIdeal.main_v31) = v1 c
          ∧ r.2.mem ((c.tc : Thread Cert.ReferenceMixIdeal.nD Cert.ReferenceMixIdeal.τ).loc Cert.ReferenceMixIdeal.main_v32) = v2 c
          ∧ r.2.mem ((c.tc : Thread Cert.ReferenceMixIdeal.nD Cert.ReferenceMixIdeal.τ).loc Cert.ReferenceMixIdeal.main_arg0) = m' ((c.tc : Thread Cert.ReferenceMixIdeal.nD Cert.ReferenceMixIdeal.τ).loc Cert.ReferenceMixIdeal.main_arg0)
          ∧ r.2.mem ((c.tc : Thread Cert.ReferenceMixIdeal.nD Cert.ReferenceMixIdeal.τ).loc Cert.ReferenceMixIdeal.main_arg1) = m' ((c.tc : Thread Cert.ReferenceMixIdeal.nD Cert.ReferenceMixIdeal.τ).loc Cert.ReferenceMixIdeal.main_arg1)
          ∧ r.2.mem ((c.tc : Thread Cert.ReferenceMixIdeal.nD Cert.ReferenceMixIdeal.τ).loc Cert.ReferenceMixIdeal.main_arg2) = m' ((c.tc : Thread Cert.ReferenceMixIdeal.nD Cert.ReferenceMixIdeal.τ).loc Cert.ReferenceMixIdeal.main_arg2)
          ∧ r.2.mem ((c.tc : Thread Cert.ReferenceMixIdeal.nD Cert.ReferenceMixIdeal.τ).loc Cert.ReferenceMixIdeal.main_arg3) = m' ((c.tc : Thread Cert.ReferenceMixIdeal.nD Cert.ReferenceMixIdeal.τ).loc Cert.ReferenceMixIdeal.main_arg3)
          ∧ r.2.mem ((c.tc : Thread Cert.ReferenceMixIdeal.nD Cert.ReferenceMixIdeal.τ).loc Cert.ReferenceMixIdeal.main_arg4) = m' ((c.tc : Thread Cert.ReferenceMixIdeal.nD Cert.ReferenceMixIdeal.τ).loc Cert.ReferenceMixIdeal.main_arg4))

def preserves_KernelNorm_KernelNormIdeal : Prop :=
  True

def algebraic_KernelNormIdeal_ReferenceNormIdeal [hKernelNormIdeal : Cert.KernelNormIdeal.Facts] [hReferenceNormIdeal : Cert.ReferenceNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_KernelNormIdeal m →
    (∀ c : Dev Cert.KernelNormIdeal.nD,
      m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0)
      ∧ m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)
      ∧ m' ((c.tc : Thread Cert.ReferenceNormIdeal.nD Cert.ReferenceNormIdeal.τ).loc Cert.ReferenceNormIdeal.main_arg2) = m ((c.tc : Thread Cert.KernelNormIdeal.nD Cert.KernelNormIdeal.τ).loc Cert.KernelNormIdeal.main_arg2)
      ∧ m' ((c.tc : Thread Cert.ReferenceNormIdeal.nD Cert.ReferenceNormIdeal.τ).loc Cert.ReferenceNormIdeal.main_arg3) = m ((c.tc : Thread Cert.KernelNormIdeal.nD Cert.KernelNormIdeal.τ).loc Cert.KernelNormIdeal.main_arg3)) →
    ∃ (v0 : (c : Dev Cert.KernelNormIdeal.nD) → Buf (Elt Ideal) ((c.tc : Thread Cert.KernelNormIdeal.nD Cert.KernelNormIdeal.τ).loc Cert.KernelNormIdeal.main_v0_0)) (v1 : (c : Dev Cert.KernelNormIdeal.nD) → Buf (Elt Ideal) ((c.tc : Thread Cert.KernelNormIdeal.nD Cert.KernelNormIdeal.τ).loc Cert.KernelNormIdeal.main_v0_1)) (v2 : (c : Dev Cert.KernelNormIdeal.nD) → Buf (Elt Ideal) ((c.tc : Thread Cert.KernelNormIdeal.nD Cert.KernelNormIdeal.τ).loc Cert.KernelNormIdeal.main_v0_2)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          r.2.mem ((c.tc : Thread Cert.KernelNormIdeal.nD Cert.KernelNormIdeal.τ).loc Cert.KernelNormIdeal.main_v0_0) = v0 c
          ∧ r.2.mem ((c.tc : Thread Cert.KernelNormIdeal.nD Cert.KernelNormIdeal.τ).loc Cert.KernelNormIdeal.main_v0_1) = v1 c
          ∧ r.2.mem ((c.tc : Thread Cert.KernelNormIdeal.nD Cert.KernelNormIdeal.τ).loc Cert.KernelNormIdeal.main_v0_2) = v2 c
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
          ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
          ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v2) = v0 c
          ∧ r.2.mem ((c.tc : Thread Cert.ReferenceNormIdeal.nD Cert.ReferenceNormIdeal.τ).loc Cert.ReferenceNormIdeal.main_v28) = v1 c
          ∧ r.2.mem ((c.tc : Thread Cert.ReferenceNormIdeal.nD Cert.ReferenceNormIdeal.τ).loc Cert.ReferenceNormIdeal.main_v29) = v2 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1)
          ∧ r.2.mem ((c.tc : Thread Cert.ReferenceNormIdeal.nD Cert.ReferenceNormIdeal.τ).loc Cert.ReferenceNormIdeal.main_arg2) = m' ((c.tc : Thread Cert.ReferenceNormIdeal.nD Cert.ReferenceNormIdeal.τ).loc Cert.ReferenceNormIdeal.main_arg2)
          ∧ r.2.mem ((c.tc : Thread Cert.ReferenceNormIdeal.nD Cert.ReferenceNormIdeal.τ).loc Cert.ReferenceNormIdeal.main_arg3) = m' ((c.tc : Thread Cert.ReferenceNormIdeal.nD Cert.ReferenceNormIdeal.τ).loc Cert.ReferenceNormIdeal.main_arg3))

def preserves_KernelRet_KernelRetIdeal : Prop :=
  True

def algebraic_KernelRetIdeal_ReferenceRetIdeal_pre_finite_ret [hKernelRetIdeal : Cert.KernelRetIdeal.Facts] [hReferenceRetIdeal : Cert.ReferenceRetIdeal.Facts] [hPre_finite_ret : Cert.Pre_finite_ret.Facts] : Prop :=
  ∀ (m : (ℓ : Loc Cert.KernelRetIdeal.nD Cert.KernelRetIdeal.τ Cert.KernelRetIdeal.sig) → Buf (Elt Ideal) ℓ) (g : Dev Cert.KernelRetIdeal.nD → PrngReg)
    (m' : (ℓ : Loc Cert.ReferenceRetIdeal.nD Cert.ReferenceRetIdeal.τ Cert.ReferenceRetIdeal.sig) → Buf (Elt Ideal) ℓ) (g' : Dev Cert.ReferenceRetIdeal.nD → PrngReg), Pre_KernelRetIdeal_finite_ret m →
    (∀ c : Dev Cert.KernelRetIdeal.nD,
      m' ((c.tc : Thread Cert.ReferenceRetIdeal.nD Cert.ReferenceRetIdeal.τ).loc Cert.ReferenceRetIdeal.main_arg0) = m ((c.tc : Thread Cert.KernelRetIdeal.nD Cert.KernelRetIdeal.τ).loc Cert.KernelRetIdeal.main_arg0)
      ∧ m' ((c.tc : Thread Cert.ReferenceRetIdeal.nD Cert.ReferenceRetIdeal.τ).loc Cert.ReferenceRetIdeal.main_arg1) = m ((c.tc : Thread Cert.KernelRetIdeal.nD Cert.KernelRetIdeal.τ).loc Cert.KernelRetIdeal.main_arg1)
      ∧ m' ((c.tc : Thread Cert.ReferenceRetIdeal.nD Cert.ReferenceRetIdeal.τ).loc Cert.ReferenceRetIdeal.main_arg2) = m ((c.tc : Thread Cert.KernelRetIdeal.nD Cert.KernelRetIdeal.τ).loc Cert.KernelRetIdeal.main_arg2)) →
    ∃ (v0 : (c : Dev Cert.KernelRetIdeal.nD) → Buf (Elt Ideal) ((c.tc : Thread Cert.KernelRetIdeal.nD Cert.KernelRetIdeal.τ).loc Cert.KernelRetIdeal.main_v40)),
      θ_run (Cert.KernelRetIdeal.defs (F := Ideal)) (onTc (τ := Cert.KernelRetIdeal.τ) (Cert.KernelRetIdeal.main (F := Ideal))) ⟨m, fun _ => 0, g⟩ (fun r => ∀ c : Dev Cert.KernelRetIdeal.nD,
          r.2.mem ((c.tc : Thread Cert.KernelRetIdeal.nD Cert.KernelRetIdeal.τ).loc Cert.KernelRetIdeal.main_v40) = v0 c
          ∧ r.2.mem ((c.tc : Thread Cert.KernelRetIdeal.nD Cert.KernelRetIdeal.τ).loc Cert.KernelRetIdeal.main_arg0) = m ((c.tc : Thread Cert.KernelRetIdeal.nD Cert.KernelRetIdeal.τ).loc Cert.KernelRetIdeal.main_arg0)
          ∧ r.2.mem ((c.tc : Thread Cert.KernelRetIdeal.nD Cert.KernelRetIdeal.τ).loc Cert.KernelRetIdeal.main_arg1) = m ((c.tc : Thread Cert.KernelRetIdeal.nD Cert.KernelRetIdeal.τ).loc Cert.KernelRetIdeal.main_arg1)
          ∧ r.2.mem ((c.tc : Thread Cert.KernelRetIdeal.nD Cert.KernelRetIdeal.τ).loc Cert.KernelRetIdeal.main_arg2) = m ((c.tc : Thread Cert.KernelRetIdeal.nD Cert.KernelRetIdeal.τ).loc Cert.KernelRetIdeal.main_arg2))
      ∧ θ_run (Cert.ReferenceRetIdeal.defs (F := Ideal)) (onTc (τ := Cert.ReferenceRetIdeal.τ) (Cert.ReferenceRetIdeal.main (F := Ideal))) ⟨m', fun _ => 0, g'⟩ (fun r => ∀ c : Dev Cert.ReferenceRetIdeal.nD,
          r.2.mem ((c.tc : Thread Cert.ReferenceRetIdeal.nD Cert.ReferenceRetIdeal.τ).loc Cert.ReferenceRetIdeal.main_v63) = v0 c
          ∧ r.2.mem ((c.tc : Thread Cert.ReferenceRetIdeal.nD Cert.ReferenceRetIdeal.τ).loc Cert.ReferenceRetIdeal.main_arg0) = m' ((c.tc : Thread Cert.ReferenceRetIdeal.nD Cert.ReferenceRetIdeal.τ).loc Cert.ReferenceRetIdeal.main_arg0)
          ∧ r.2.mem ((c.tc : Thread Cert.ReferenceRetIdeal.nD Cert.ReferenceRetIdeal.τ).loc Cert.ReferenceRetIdeal.main_arg1) = m' ((c.tc : Thread Cert.ReferenceRetIdeal.nD Cert.ReferenceRetIdeal.τ).loc Cert.ReferenceRetIdeal.main_arg1)
          ∧ r.2.mem ((c.tc : Thread Cert.ReferenceRetIdeal.nD Cert.ReferenceRetIdeal.τ).loc Cert.ReferenceRetIdeal.main_arg2) = m' ((c.tc : Thread Cert.ReferenceRetIdeal.nD Cert.ReferenceRetIdeal.τ).loc Cert.ReferenceRetIdeal.main_arg2))

def preserves_KernelMla_KernelMlaIdeal : Prop :=
  IdealRules.named_const.Statement Cert.KernelMlaIdeal.κ "mask" .f32 0xF149F2CA#32 ⊥

def algebraic_KernelMlaIdeal_ReferenceMlaIdeal_pre_finite_mla [hKernelMlaIdeal : Cert.KernelMlaIdeal.Facts] [hReferenceMlaIdeal : Cert.ReferenceMlaIdeal.Facts] [hPre_finite_mla : Cert.Pre_finite_mla.Facts] : Prop :=
  ∀ (m : (ℓ : Loc Cert.KernelMlaIdeal.nD Cert.KernelMlaIdeal.τ Cert.KernelMlaIdeal.sig) → Buf (Elt Ideal) ℓ) (g : Dev Cert.KernelMlaIdeal.nD → PrngReg)
    (m' : (ℓ : Loc Cert.ReferenceMlaIdeal.nD Cert.ReferenceMlaIdeal.τ Cert.ReferenceMlaIdeal.sig) → Buf (Elt Ideal) ℓ) (g' : Dev Cert.ReferenceMlaIdeal.nD → PrngReg), Pre_KernelMlaIdeal_finite_mla m →
    (∀ c : Dev Cert.KernelMlaIdeal.nD,
      m' ((c.tc : Thread Cert.ReferenceMlaIdeal.nD Cert.ReferenceMlaIdeal.τ).loc Cert.ReferenceMlaIdeal.main_arg0) = m ((c.tc : Thread Cert.KernelMlaIdeal.nD Cert.KernelMlaIdeal.τ).loc Cert.KernelMlaIdeal.main_arg0)
      ∧ m' ((c.tc : Thread Cert.ReferenceMlaIdeal.nD Cert.ReferenceMlaIdeal.τ).loc Cert.ReferenceMlaIdeal.main_arg1) = m ((c.tc : Thread Cert.KernelMlaIdeal.nD Cert.KernelMlaIdeal.τ).loc Cert.KernelMlaIdeal.main_arg1)
      ∧ m' ((c.tc : Thread Cert.ReferenceMlaIdeal.nD Cert.ReferenceMlaIdeal.τ).loc Cert.ReferenceMlaIdeal.main_arg2) = m ((c.tc : Thread Cert.KernelMlaIdeal.nD Cert.KernelMlaIdeal.τ).loc Cert.KernelMlaIdeal.main_arg2)) →
    ∃ (v0 : (c : Dev Cert.KernelMlaIdeal.nD) → Buf (Elt Ideal) ((c.tc : Thread Cert.KernelMlaIdeal.nD Cert.KernelMlaIdeal.τ).loc Cert.KernelMlaIdeal.main_v4_0)) (v1 : (c : Dev Cert.KernelMlaIdeal.nD) → Buf (Elt Ideal) ((c.tc : Thread Cert.KernelMlaIdeal.nD Cert.KernelMlaIdeal.τ).loc Cert.KernelMlaIdeal.main_v4_1)),
      θ_run (Cert.KernelMlaIdeal.defs (F := Ideal)) (onTc (τ := Cert.KernelMlaIdeal.τ) (Cert.KernelMlaIdeal.main (F := Ideal))) ⟨m, fun _ => 0, g⟩ (fun r => ∀ c : Dev Cert.KernelMlaIdeal.nD,
          r.2.mem ((c.tc : Thread Cert.KernelMlaIdeal.nD Cert.KernelMlaIdeal.τ).loc Cert.KernelMlaIdeal.main_v4_0) = v0 c
          ∧ r.2.mem ((c.tc : Thread Cert.KernelMlaIdeal.nD Cert.KernelMlaIdeal.τ).loc Cert.KernelMlaIdeal.main_v4_1) = v1 c
          ∧ r.2.mem ((c.tc : Thread Cert.KernelMlaIdeal.nD Cert.KernelMlaIdeal.τ).loc Cert.KernelMlaIdeal.main_arg0) = m ((c.tc : Thread Cert.KernelMlaIdeal.nD Cert.KernelMlaIdeal.τ).loc Cert.KernelMlaIdeal.main_arg0)
          ∧ r.2.mem ((c.tc : Thread Cert.KernelMlaIdeal.nD Cert.KernelMlaIdeal.τ).loc Cert.KernelMlaIdeal.main_arg1) = m ((c.tc : Thread Cert.KernelMlaIdeal.nD Cert.KernelMlaIdeal.τ).loc Cert.KernelMlaIdeal.main_arg1)
          ∧ r.2.mem ((c.tc : Thread Cert.KernelMlaIdeal.nD Cert.KernelMlaIdeal.τ).loc Cert.KernelMlaIdeal.main_arg2) = m ((c.tc : Thread Cert.KernelMlaIdeal.nD Cert.KernelMlaIdeal.τ).loc Cert.KernelMlaIdeal.main_arg2))
      ∧ θ_run (Cert.ReferenceMlaIdeal.defs (F := Ideal)) (onTc (τ := Cert.ReferenceMlaIdeal.τ) (Cert.ReferenceMlaIdeal.main (F := Ideal))) ⟨m', fun _ => 0, g'⟩ (fun r => ∀ c : Dev Cert.ReferenceMlaIdeal.nD,
          r.2.mem ((c.tc : Thread Cert.ReferenceMlaIdeal.nD Cert.ReferenceMlaIdeal.τ).loc Cert.ReferenceMlaIdeal.main_v37) = v0 c
          ∧ r.2.mem ((c.tc : Thread Cert.ReferenceMlaIdeal.nD Cert.ReferenceMlaIdeal.τ).loc Cert.ReferenceMlaIdeal.main_v40) = v1 c
          ∧ r.2.mem ((c.tc : Thread Cert.ReferenceMlaIdeal.nD Cert.ReferenceMlaIdeal.τ).loc Cert.ReferenceMlaIdeal.main_arg0) = m' ((c.tc : Thread Cert.ReferenceMlaIdeal.nD Cert.ReferenceMlaIdeal.τ).loc Cert.ReferenceMlaIdeal.main_arg0)
          ∧ r.2.mem ((c.tc : Thread Cert.ReferenceMlaIdeal.nD Cert.ReferenceMlaIdeal.τ).loc Cert.ReferenceMlaIdeal.main_arg1) = m' ((c.tc : Thread Cert.ReferenceMlaIdeal.nD Cert.ReferenceMlaIdeal.τ).loc Cert.ReferenceMlaIdeal.main_arg1)
          ∧ r.2.mem ((c.tc : Thread Cert.ReferenceMlaIdeal.nD Cert.ReferenceMlaIdeal.τ).loc Cert.ReferenceMlaIdeal.main_arg2) = m' ((c.tc : Thread Cert.ReferenceMlaIdeal.nD Cert.ReferenceMlaIdeal.τ).loc Cert.ReferenceMlaIdeal.main_arg2))

def preserves_KernelMlaBwd_KernelMlaBwdIdeal : Prop :=
  IdealRules.named_const.Statement Cert.KernelMlaBwdIdeal.κ "mask" .f32 0xF149F2CA#32 ⊥

def algebraic_KernelMlaBwdIdeal_ReferenceMlaBwdIdeal_pre_finite_mla_bwd [hKernelMlaBwdIdeal : Cert.KernelMlaBwdIdeal.Facts] [hReferenceMlaBwdIdeal : Cert.ReferenceMlaBwdIdeal.Facts] [hPre_finite_mla_bwd : Cert.Pre_finite_mla_bwd.Facts] : Prop :=
  ∀ (m : (ℓ : Loc Cert.KernelMlaBwdIdeal.nD Cert.KernelMlaBwdIdeal.τ Cert.KernelMlaBwdIdeal.sig) → Buf (Elt Ideal) ℓ) (g : Dev Cert.KernelMlaBwdIdeal.nD → PrngReg)
    (m' : (ℓ : Loc Cert.ReferenceMlaBwdIdeal.nD Cert.ReferenceMlaBwdIdeal.τ Cert.ReferenceMlaBwdIdeal.sig) → Buf (Elt Ideal) ℓ) (g' : Dev Cert.ReferenceMlaBwdIdeal.nD → PrngReg), Pre_KernelMlaBwdIdeal_finite_mla_bwd m →
    (∀ c : Dev Cert.KernelMlaBwdIdeal.nD,
      m' ((c.tc : Thread Cert.ReferenceMlaBwdIdeal.nD Cert.ReferenceMlaBwdIdeal.τ).loc Cert.ReferenceMlaBwdIdeal.main_arg0) = m ((c.tc : Thread Cert.KernelMlaBwdIdeal.nD Cert.KernelMlaBwdIdeal.τ).loc Cert.KernelMlaBwdIdeal.main_arg0)
      ∧ m' ((c.tc : Thread Cert.ReferenceMlaBwdIdeal.nD Cert.ReferenceMlaBwdIdeal.τ).loc Cert.ReferenceMlaBwdIdeal.main_arg1) = m ((c.tc : Thread Cert.KernelMlaBwdIdeal.nD Cert.KernelMlaBwdIdeal.τ).loc Cert.KernelMlaBwdIdeal.main_arg1)
      ∧ m' ((c.tc : Thread Cert.ReferenceMlaBwdIdeal.nD Cert.ReferenceMlaBwdIdeal.τ).loc Cert.ReferenceMlaBwdIdeal.main_arg2) = m ((c.tc : Thread Cert.KernelMlaBwdIdeal.nD Cert.KernelMlaBwdIdeal.τ).loc Cert.KernelMlaBwdIdeal.main_arg2)
      ∧ m' ((c.tc : Thread Cert.ReferenceMlaBwdIdeal.nD Cert.ReferenceMlaBwdIdeal.τ).loc Cert.ReferenceMlaBwdIdeal.main_arg3) = m ((c.tc : Thread Cert.KernelMlaBwdIdeal.nD Cert.KernelMlaBwdIdeal.τ).loc Cert.KernelMlaBwdIdeal.main_arg3)) →
    ∃ (v0 : (c : Dev Cert.KernelMlaBwdIdeal.nD) → Buf (Elt Ideal) ((c.tc : Thread Cert.KernelMlaBwdIdeal.nD Cert.KernelMlaBwdIdeal.τ).loc Cert.KernelMlaBwdIdeal.main_v45_0)) (v1 : (c : Dev Cert.KernelMlaBwdIdeal.nD) → Buf (Elt Ideal) ((c.tc : Thread Cert.KernelMlaBwdIdeal.nD Cert.KernelMlaBwdIdeal.τ).loc Cert.KernelMlaBwdIdeal.main_v45_1)) (v2 : (c : Dev Cert.KernelMlaBwdIdeal.nD) → Buf (Elt Ideal) ((c.tc : Thread Cert.KernelMlaBwdIdeal.nD Cert.KernelMlaBwdIdeal.τ).loc Cert.KernelMlaBwdIdeal.main_v45_2)),
      θ_run (Cert.KernelMlaBwdIdeal.defs (F := Ideal)) (onTc (τ := Cert.KernelMlaBwdIdeal.τ) (Cert.KernelMlaBwdIdeal.main (F := Ideal))) ⟨m, fun _ => 0, g⟩ (fun r => ∀ c : Dev Cert.KernelMlaBwdIdeal.nD,
          r.2.mem ((c.tc : Thread Cert.KernelMlaBwdIdeal.nD Cert.KernelMlaBwdIdeal.τ).loc Cert.KernelMlaBwdIdeal.main_v45_0) = v0 c
          ∧ r.2.mem ((c.tc : Thread Cert.KernelMlaBwdIdeal.nD Cert.KernelMlaBwdIdeal.τ).loc Cert.KernelMlaBwdIdeal.main_v45_1) = v1 c
          ∧ r.2.mem ((c.tc : Thread Cert.KernelMlaBwdIdeal.nD Cert.KernelMlaBwdIdeal.τ).loc Cert.KernelMlaBwdIdeal.main_v45_2) = v2 c
          ∧ r.2.mem ((c.tc : Thread Cert.KernelMlaBwdIdeal.nD Cert.KernelMlaBwdIdeal.τ).loc Cert.KernelMlaBwdIdeal.main_arg0) = m ((c.tc : Thread Cert.KernelMlaBwdIdeal.nD Cert.KernelMlaBwdIdeal.τ).loc Cert.KernelMlaBwdIdeal.main_arg0)
          ∧ r.2.mem ((c.tc : Thread Cert.KernelMlaBwdIdeal.nD Cert.KernelMlaBwdIdeal.τ).loc Cert.KernelMlaBwdIdeal.main_arg1) = m ((c.tc : Thread Cert.KernelMlaBwdIdeal.nD Cert.KernelMlaBwdIdeal.τ).loc Cert.KernelMlaBwdIdeal.main_arg1)
          ∧ r.2.mem ((c.tc : Thread Cert.KernelMlaBwdIdeal.nD Cert.KernelMlaBwdIdeal.τ).loc Cert.KernelMlaBwdIdeal.main_arg2) = m ((c.tc : Thread Cert.KernelMlaBwdIdeal.nD Cert.KernelMlaBwdIdeal.τ).loc Cert.KernelMlaBwdIdeal.main_arg2)
          ∧ r.2.mem ((c.tc : Thread Cert.KernelMlaBwdIdeal.nD Cert.KernelMlaBwdIdeal.τ).loc Cert.KernelMlaBwdIdeal.main_arg3) = m ((c.tc : Thread Cert.KernelMlaBwdIdeal.nD Cert.KernelMlaBwdIdeal.τ).loc Cert.KernelMlaBwdIdeal.main_arg3))
      ∧ θ_run (Cert.ReferenceMlaBwdIdeal.defs (F := Ideal)) (onTc (τ := Cert.ReferenceMlaBwdIdeal.τ) (Cert.ReferenceMlaBwdIdeal.main (F := Ideal))) ⟨m', fun _ => 0, g'⟩ (fun r => ∀ c : Dev Cert.ReferenceMlaBwdIdeal.nD,
          r.2.mem ((c.tc : Thread Cert.ReferenceMlaBwdIdeal.nD Cert.ReferenceMlaBwdIdeal.τ).loc Cert.ReferenceMlaBwdIdeal.main_v87) = v0 c
          ∧ r.2.mem ((c.tc : Thread Cert.ReferenceMlaBwdIdeal.nD Cert.ReferenceMlaBwdIdeal.τ).loc Cert.ReferenceMlaBwdIdeal.main_v86) = v1 c
          ∧ r.2.mem ((c.tc : Thread Cert.ReferenceMlaBwdIdeal.nD Cert.ReferenceMlaBwdIdeal.τ).loc Cert.ReferenceMlaBwdIdeal.main_v85) = v2 c
          ∧ r.2.mem ((c.tc : Thread Cert.ReferenceMlaBwdIdeal.nD Cert.ReferenceMlaBwdIdeal.τ).loc Cert.ReferenceMlaBwdIdeal.main_arg0) = m' ((c.tc : Thread Cert.ReferenceMlaBwdIdeal.nD Cert.ReferenceMlaBwdIdeal.τ).loc Cert.ReferenceMlaBwdIdeal.main_arg0)
          ∧ r.2.mem ((c.tc : Thread Cert.ReferenceMlaBwdIdeal.nD Cert.ReferenceMlaBwdIdeal.τ).loc Cert.ReferenceMlaBwdIdeal.main_arg1) = m' ((c.tc : Thread Cert.ReferenceMlaBwdIdeal.nD Cert.ReferenceMlaBwdIdeal.τ).loc Cert.ReferenceMlaBwdIdeal.main_arg1)
          ∧ r.2.mem ((c.tc : Thread Cert.ReferenceMlaBwdIdeal.nD Cert.ReferenceMlaBwdIdeal.τ).loc Cert.ReferenceMlaBwdIdeal.main_arg2) = m' ((c.tc : Thread Cert.ReferenceMlaBwdIdeal.nD Cert.ReferenceMlaBwdIdeal.τ).loc Cert.ReferenceMlaBwdIdeal.main_arg2)
          ∧ r.2.mem ((c.tc : Thread Cert.ReferenceMlaBwdIdeal.nD Cert.ReferenceMlaBwdIdeal.τ).loc Cert.ReferenceMlaBwdIdeal.main_arg3) = m' ((c.tc : Thread Cert.ReferenceMlaBwdIdeal.nD Cert.ReferenceMlaBwdIdeal.τ).loc Cert.ReferenceMlaBwdIdeal.main_arg3))

def Claim : Prop :=
  ∃ (hKernel : Cert.Kernel.Facts) (hKernelIdeal : Cert.KernelIdeal.Facts) (hReferenceIdeal : Cert.ReferenceIdeal.Facts) (hKernelAct : Cert.KernelAct.Facts) (hKernelActIdeal : Cert.KernelActIdeal.Facts) (hReferenceActIdeal : Cert.ReferenceActIdeal.Facts) (hKernelDwGu : Cert.KernelDwGu.Facts) (hKernelDwGuIdeal : Cert.KernelDwGuIdeal.Facts) (hReferenceDwGuIdeal : Cert.ReferenceDwGuIdeal.Facts) (hKernelDx1 : Cert.KernelDx1.Facts) (hKernelDx1Ideal : Cert.KernelDx1Ideal.Facts) (hReferenceDx1Ideal : Cert.ReferenceDx1Ideal.Facts) (hKernelDwDown : Cert.KernelDwDown.Facts) (hKernelDwDownIdeal : Cert.KernelDwDownIdeal.Facts) (hReferenceDwDownIdeal : Cert.ReferenceDwDownIdeal.Facts) (hKernelDwIn : Cert.KernelDwIn.Facts) (hKernelDwInIdeal : Cert.KernelDwInIdeal.Facts) (hReferenceDwInIdeal : Cert.ReferenceDwInIdeal.Facts) (hKernelDxl : Cert.KernelDxl.Facts) (hKernelDxlIdeal : Cert.KernelDxlIdeal.Facts) (hReferenceDxlIdeal : Cert.ReferenceDxlIdeal.Facts) (hKernelDwOut : Cert.KernelDwOut.Facts) (hKernelDwOutIdeal : Cert.KernelDwOutIdeal.Facts) (hReferenceDwOutIdeal : Cert.ReferenceDwOutIdeal.Facts) (hKernelDmixin : Cert.KernelDmixin.Facts) (hKernelDmixinIdeal : Cert.KernelDmixinIdeal.Facts) (hReferenceDmixinIdeal : Cert.ReferenceDmixinIdeal.Facts) (hKernelDwUq : Cert.KernelDwUq.Facts) (hKernelDwUqIdeal : Cert.KernelDwUqIdeal.Facts) (hReferenceDwUqIdeal : Cert.ReferenceDwUqIdeal.Facts) (hKernelDqn : Cert.KernelDqn.Facts) (hKernelDqnIdeal : Cert.KernelDqnIdeal.Facts) (hReferenceDqnIdeal : Cert.ReferenceDqnIdeal.Facts) (hKernelDwUkv : Cert.KernelDwUkv.Facts) (hKernelDwUkvIdeal : Cert.KernelDwUkvIdeal.Facts) (hReferenceDwUkvIdeal : Cert.ReferenceDwUkvIdeal.Facts) (hKernelDkvn : Cert.KernelDkvn.Facts) (hKernelDkvnIdeal : Cert.KernelDkvnIdeal.Facts) (hReferenceDkvnIdeal : Cert.ReferenceDkvnIdeal.Facts) (hKernelGu : Cert.KernelGu.Facts) (hKernelGuIdeal : Cert.KernelGuIdeal.Facts) (hReferenceGuIdeal : Cert.ReferenceGuIdeal.Facts) (hKernelDown : Cert.KernelDown.Facts) (hKernelDownIdeal : Cert.KernelDownIdeal.Facts) (hReferenceDownIdeal : Cert.ReferenceDownIdeal.Facts) (hKernelH : Cert.KernelH.Facts) (hKernelHIdeal : Cert.KernelHIdeal.Facts) (hReferenceHIdeal : Cert.ReferenceHIdeal.Facts) (hKernelQ : Cert.KernelQ.Facts) (hKernelQIdeal : Cert.KernelQIdeal.Facts) (hReferenceQIdeal : Cert.ReferenceQIdeal.Facts) (hKernelKv : Cert.KernelKv.Facts) (hKernelKvIdeal : Cert.KernelKvIdeal.Facts) (hReferenceKvIdeal : Cert.ReferenceKvIdeal.Facts) (hKernelMix : Cert.KernelMix.Facts) (hKernelMixIdeal : Cert.KernelMixIdeal.Facts) (hReferenceMixIdeal : Cert.ReferenceMixIdeal.Facts) (hKernelNorm : Cert.KernelNorm.Facts) (hKernelNormIdeal : Cert.KernelNormIdeal.Facts) (hReferenceNormIdeal : Cert.ReferenceNormIdeal.Facts) (hKernelRet : Cert.KernelRet.Facts) (hKernelRetIdeal : Cert.KernelRetIdeal.Facts) (hReferenceRetIdeal : Cert.ReferenceRetIdeal.Facts) (hKernelMla : Cert.KernelMla.Facts) (hKernelMlaIdeal : Cert.KernelMlaIdeal.Facts) (hReferenceMlaIdeal : Cert.ReferenceMlaIdeal.Facts) (hKernelMlaBwd : Cert.KernelMlaBwd.Facts) (hKernelMlaBwdIdeal : Cert.KernelMlaBwdIdeal.Facts) (hReferenceMlaBwdIdeal : Cert.ReferenceMlaBwdIdeal.Facts) (hPre_finite : Cert.Pre_finite.Facts) (hPre_finite_act : Cert.Pre_finite_act.Facts) (hPre_finite_ret : Cert.Pre_finite_ret.Facts) (hPre_finite_mla : Cert.Pre_finite_mla.Facts) (hPre_finite_mla_bwd : Cert.Pre_finite_mla_bwd.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelAct (hKernelAct := hKernelAct)
    ∧ quiescent_KernelActIdeal (hKernelActIdeal := hKernelActIdeal)
    ∧ quiescent_KernelActIdeal_pre_finite_act (hKernelActIdeal := hKernelActIdeal) (hPre_finite_act := hPre_finite_act)
    ∧ quiescent_ReferenceActIdeal (hReferenceActIdeal := hReferenceActIdeal)
    ∧ quiescent_ReferenceActIdeal_pre_finite_act (hReferenceActIdeal := hReferenceActIdeal) (hPre_finite_act := hPre_finite_act)
    ∧ quiescent_KernelDwGu (hKernelDwGu := hKernelDwGu)
    ∧ quiescent_KernelDwGuIdeal (hKernelDwGuIdeal := hKernelDwGuIdeal)
    ∧ quiescent_ReferenceDwGuIdeal (hReferenceDwGuIdeal := hReferenceDwGuIdeal)
    ∧ quiescent_KernelDx1 (hKernelDx1 := hKernelDx1)
    ∧ quiescent_KernelDx1Ideal (hKernelDx1Ideal := hKernelDx1Ideal)
    ∧ quiescent_ReferenceDx1Ideal (hReferenceDx1Ideal := hReferenceDx1Ideal)
    ∧ quiescent_KernelDwDown (hKernelDwDown := hKernelDwDown)
    ∧ quiescent_KernelDwDownIdeal (hKernelDwDownIdeal := hKernelDwDownIdeal)
    ∧ quiescent_ReferenceDwDownIdeal (hReferenceDwDownIdeal := hReferenceDwDownIdeal)
    ∧ quiescent_KernelDwIn (hKernelDwIn := hKernelDwIn)
    ∧ quiescent_KernelDwInIdeal (hKernelDwInIdeal := hKernelDwInIdeal)
    ∧ quiescent_ReferenceDwInIdeal (hReferenceDwInIdeal := hReferenceDwInIdeal)
    ∧ quiescent_KernelDxl (hKernelDxl := hKernelDxl)
    ∧ quiescent_KernelDxlIdeal (hKernelDxlIdeal := hKernelDxlIdeal)
    ∧ quiescent_ReferenceDxlIdeal (hReferenceDxlIdeal := hReferenceDxlIdeal)
    ∧ quiescent_KernelDwOut (hKernelDwOut := hKernelDwOut)
    ∧ quiescent_KernelDwOutIdeal (hKernelDwOutIdeal := hKernelDwOutIdeal)
    ∧ quiescent_ReferenceDwOutIdeal (hReferenceDwOutIdeal := hReferenceDwOutIdeal)
    ∧ quiescent_KernelDmixin (hKernelDmixin := hKernelDmixin)
    ∧ quiescent_KernelDmixinIdeal (hKernelDmixinIdeal := hKernelDmixinIdeal)
    ∧ quiescent_ReferenceDmixinIdeal (hReferenceDmixinIdeal := hReferenceDmixinIdeal)
    ∧ quiescent_KernelDwUq (hKernelDwUq := hKernelDwUq)
    ∧ quiescent_KernelDwUqIdeal (hKernelDwUqIdeal := hKernelDwUqIdeal)
    ∧ quiescent_ReferenceDwUqIdeal (hReferenceDwUqIdeal := hReferenceDwUqIdeal)
    ∧ quiescent_KernelDqn (hKernelDqn := hKernelDqn)
    ∧ quiescent_KernelDqnIdeal (hKernelDqnIdeal := hKernelDqnIdeal)
    ∧ quiescent_ReferenceDqnIdeal (hReferenceDqnIdeal := hReferenceDqnIdeal)
    ∧ quiescent_KernelDwUkv (hKernelDwUkv := hKernelDwUkv)
    ∧ quiescent_KernelDwUkvIdeal (hKernelDwUkvIdeal := hKernelDwUkvIdeal)
    ∧ quiescent_ReferenceDwUkvIdeal (hReferenceDwUkvIdeal := hReferenceDwUkvIdeal)
    ∧ quiescent_KernelDkvn (hKernelDkvn := hKernelDkvn)
    ∧ quiescent_KernelDkvnIdeal (hKernelDkvnIdeal := hKernelDkvnIdeal)
    ∧ quiescent_ReferenceDkvnIdeal (hReferenceDkvnIdeal := hReferenceDkvnIdeal)
    ∧ quiescent_KernelGu (hKernelGu := hKernelGu)
    ∧ quiescent_KernelGuIdeal (hKernelGuIdeal := hKernelGuIdeal)
    ∧ quiescent_ReferenceGuIdeal (hReferenceGuIdeal := hReferenceGuIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelH (hKernelH := hKernelH)
    ∧ quiescent_KernelHIdeal (hKernelHIdeal := hKernelHIdeal)
    ∧ quiescent_ReferenceHIdeal (hReferenceHIdeal := hReferenceHIdeal)
    ∧ quiescent_KernelQ (hKernelQ := hKernelQ)
    ∧ quiescent_KernelQIdeal (hKernelQIdeal := hKernelQIdeal)
    ∧ quiescent_ReferenceQIdeal (hReferenceQIdeal := hReferenceQIdeal)
    ∧ quiescent_KernelKv (hKernelKv := hKernelKv)
    ∧ quiescent_KernelKvIdeal (hKernelKvIdeal := hKernelKvIdeal)
    ∧ quiescent_ReferenceKvIdeal (hReferenceKvIdeal := hReferenceKvIdeal)
    ∧ quiescent_KernelMix (hKernelMix := hKernelMix)
    ∧ quiescent_KernelMixIdeal (hKernelMixIdeal := hKernelMixIdeal)
    ∧ quiescent_ReferenceMixIdeal (hReferenceMixIdeal := hReferenceMixIdeal)
    ∧ quiescent_KernelNorm (hKernelNorm := hKernelNorm)
    ∧ quiescent_KernelNormIdeal (hKernelNormIdeal := hKernelNormIdeal)
    ∧ quiescent_ReferenceNormIdeal (hReferenceNormIdeal := hReferenceNormIdeal)
    ∧ quiescent_KernelRet (hKernelRet := hKernelRet)
    ∧ quiescent_KernelRetIdeal (hKernelRetIdeal := hKernelRetIdeal)
    ∧ quiescent_KernelRetIdeal_pre_finite_ret (hKernelRetIdeal := hKernelRetIdeal) (hPre_finite_ret := hPre_finite_ret)
    ∧ quiescent_ReferenceRetIdeal (hReferenceRetIdeal := hReferenceRetIdeal)
    ∧ quiescent_ReferenceRetIdeal_pre_finite_ret (hReferenceRetIdeal := hReferenceRetIdeal) (hPre_finite_ret := hPre_finite_ret)
    ∧ quiescent_KernelMla (hKernelMla := hKernelMla)
    ∧ quiescent_KernelMlaIdeal (hKernelMlaIdeal := hKernelMlaIdeal)
    ∧ quiescent_KernelMlaIdeal_pre_finite_mla (hKernelMlaIdeal := hKernelMlaIdeal) (hPre_finite_mla := hPre_finite_mla)
    ∧ quiescent_ReferenceMlaIdeal (hReferenceMlaIdeal := hReferenceMlaIdeal)
    ∧ quiescent_ReferenceMlaIdeal_pre_finite_mla (hReferenceMlaIdeal := hReferenceMlaIdeal) (hPre_finite_mla := hPre_finite_mla)
    ∧ quiescent_KernelMlaBwd (hKernelMlaBwd := hKernelMlaBwd)
    ∧ quiescent_KernelMlaBwdIdeal (hKernelMlaBwdIdeal := hKernelMlaBwdIdeal)
    ∧ quiescent_KernelMlaBwdIdeal_pre_finite_mla_bwd (hKernelMlaBwdIdeal := hKernelMlaBwdIdeal) (hPre_finite_mla_bwd := hPre_finite_mla_bwd)
    ∧ quiescent_ReferenceMlaBwdIdeal (hReferenceMlaBwdIdeal := hReferenceMlaBwdIdeal)
    ∧ quiescent_ReferenceMlaBwdIdeal_pre_finite_mla_bwd (hReferenceMlaBwdIdeal := hReferenceMlaBwdIdeal) (hPre_finite_mla_bwd := hPre_finite_mla_bwd)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelAct_KernelActIdeal
    ∧ algebraic_KernelActIdeal_ReferenceActIdeal_pre_finite_act (hKernelActIdeal := hKernelActIdeal) (hReferenceActIdeal := hReferenceActIdeal) (hPre_finite_act := hPre_finite_act)
    ∧ preserves_KernelDwGu_KernelDwGuIdeal
    ∧ algebraic_KernelDwGuIdeal_ReferenceDwGuIdeal (hKernelDwGuIdeal := hKernelDwGuIdeal) (hReferenceDwGuIdeal := hReferenceDwGuIdeal)
    ∧ preserves_KernelDx1_KernelDx1Ideal
    ∧ algebraic_KernelDx1Ideal_ReferenceDx1Ideal (hKernelDx1Ideal := hKernelDx1Ideal) (hReferenceDx1Ideal := hReferenceDx1Ideal)
    ∧ preserves_KernelDwDown_KernelDwDownIdeal
    ∧ algebraic_KernelDwDownIdeal_ReferenceDwDownIdeal (hKernelDwDownIdeal := hKernelDwDownIdeal) (hReferenceDwDownIdeal := hReferenceDwDownIdeal)
    ∧ preserves_KernelDwIn_KernelDwInIdeal
    ∧ algebraic_KernelDwInIdeal_ReferenceDwInIdeal (hKernelDwInIdeal := hKernelDwInIdeal) (hReferenceDwInIdeal := hReferenceDwInIdeal)
    ∧ preserves_KernelDxl_KernelDxlIdeal
    ∧ algebraic_KernelDxlIdeal_ReferenceDxlIdeal (hKernelDxlIdeal := hKernelDxlIdeal) (hReferenceDxlIdeal := hReferenceDxlIdeal)
    ∧ preserves_KernelDwOut_KernelDwOutIdeal
    ∧ algebraic_KernelDwOutIdeal_ReferenceDwOutIdeal (hKernelDwOutIdeal := hKernelDwOutIdeal) (hReferenceDwOutIdeal := hReferenceDwOutIdeal)
    ∧ preserves_KernelDmixin_KernelDmixinIdeal
    ∧ algebraic_KernelDmixinIdeal_ReferenceDmixinIdeal (hKernelDmixinIdeal := hKernelDmixinIdeal) (hReferenceDmixinIdeal := hReferenceDmixinIdeal)
    ∧ preserves_KernelDwUq_KernelDwUqIdeal
    ∧ algebraic_KernelDwUqIdeal_ReferenceDwUqIdeal (hKernelDwUqIdeal := hKernelDwUqIdeal) (hReferenceDwUqIdeal := hReferenceDwUqIdeal)
    ∧ preserves_KernelDqn_KernelDqnIdeal
    ∧ algebraic_KernelDqnIdeal_ReferenceDqnIdeal (hKernelDqnIdeal := hKernelDqnIdeal) (hReferenceDqnIdeal := hReferenceDqnIdeal)
    ∧ preserves_KernelDwUkv_KernelDwUkvIdeal
    ∧ algebraic_KernelDwUkvIdeal_ReferenceDwUkvIdeal (hKernelDwUkvIdeal := hKernelDwUkvIdeal) (hReferenceDwUkvIdeal := hReferenceDwUkvIdeal)
    ∧ preserves_KernelDkvn_KernelDkvnIdeal
    ∧ algebraic_KernelDkvnIdeal_ReferenceDkvnIdeal (hKernelDkvnIdeal := hKernelDkvnIdeal) (hReferenceDkvnIdeal := hReferenceDkvnIdeal)
    ∧ preserves_KernelGu_KernelGuIdeal
    ∧ algebraic_KernelGuIdeal_ReferenceGuIdeal (hKernelGuIdeal := hKernelGuIdeal) (hReferenceGuIdeal := hReferenceGuIdeal)
    ∧ preserves_KernelDown_KernelDownIdeal
    ∧ algebraic_KernelDownIdeal_ReferenceDownIdeal (hKernelDownIdeal := hKernelDownIdeal) (hReferenceDownIdeal := hReferenceDownIdeal)
    ∧ preserves_KernelH_KernelHIdeal
    ∧ algebraic_KernelHIdeal_ReferenceHIdeal (hKernelHIdeal := hKernelHIdeal) (hReferenceHIdeal := hReferenceHIdeal)
    ∧ preserves_KernelQ_KernelQIdeal
    ∧ algebraic_KernelQIdeal_ReferenceQIdeal (hKernelQIdeal := hKernelQIdeal) (hReferenceQIdeal := hReferenceQIdeal)
    ∧ preserves_KernelKv_KernelKvIdeal
    ∧ algebraic_KernelKvIdeal_ReferenceKvIdeal (hKernelKvIdeal := hKernelKvIdeal) (hReferenceKvIdeal := hReferenceKvIdeal)
    ∧ preserves_KernelMix_KernelMixIdeal
    ∧ algebraic_KernelMixIdeal_ReferenceMixIdeal (hKernelMixIdeal := hKernelMixIdeal) (hReferenceMixIdeal := hReferenceMixIdeal)
    ∧ preserves_KernelNorm_KernelNormIdeal
    ∧ algebraic_KernelNormIdeal_ReferenceNormIdeal (hKernelNormIdeal := hKernelNormIdeal) (hReferenceNormIdeal := hReferenceNormIdeal)
    ∧ preserves_KernelRet_KernelRetIdeal
    ∧ algebraic_KernelRetIdeal_ReferenceRetIdeal_pre_finite_ret (hKernelRetIdeal := hKernelRetIdeal) (hReferenceRetIdeal := hReferenceRetIdeal) (hPre_finite_ret := hPre_finite_ret)
    ∧ preserves_KernelMla_KernelMlaIdeal
    ∧ algebraic_KernelMlaIdeal_ReferenceMlaIdeal_pre_finite_mla (hKernelMlaIdeal := hKernelMlaIdeal) (hReferenceMlaIdeal := hReferenceMlaIdeal) (hPre_finite_mla := hPre_finite_mla)
    ∧ preserves_KernelMlaBwd_KernelMlaBwdIdeal
    ∧ algebraic_KernelMlaBwdIdeal_ReferenceMlaBwdIdeal_pre_finite_mla_bwd (hKernelMlaBwdIdeal := hKernelMlaBwdIdeal) (hReferenceMlaBwdIdeal := hReferenceMlaBwdIdeal) (hPre_finite_mla_bwd := hPre_finite_mla_bwd)
-- ==== Pre_finite.lean ====
abbrev S4096x1024 : Shape := ⟨2, ![4096, 1024]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn_part1 {F : FTy → Type} [FloatOps F] (main_v11 : IVec S4096x1024 1) (main_v15 : IVec S4096x1024 1) (main_v16 : IVec S_ 1) (main_v17 : IVec S_ 1) : IVec S_ 1 :=
  let main_v18 : IVec S_ 1 := andi main_v16 main_v17
  let main_c_4 : IVec S_ 1 := constantI S_ 1 1#1
  let main_v19 : IVec S_ 1 := (fun x v => Host.reduce IntOp.andi x v reducesTo_S4096x1024_S_d0_1 h_S_) main_v11 main_c_4
  let main_v20 : IVec S_ 1 := andi main_v18 main_v19
  let main_c_5 : IVec S_ 1 := constantI S_ 1 1#1
  let main_v21 : IVec S_ 1 := (fun x v => Host.reduce IntOp.andi x v reducesTo_S4096x1024_S_d0_1 h_S_) main_v15 main_c_5
  let main_v22 : IVec S_ 1 := andi main_v20 main_v21
  main_v22

def fn {F : FTy → Type} [FloatOps F] (main_arg0 : FVec F S4096x1024 .bf16) (main_arg1 : FVec F S4096x1024 .bf16) (main_arg2 : FVec F S4096x1024 .bf16) (main_arg3 : FVec F S4096x1024 .bf16) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S4096x1024 .f32 := (extf .f32 · bitsLt_bf16_f32) main_arg1
  let main_v5 : FVec F S4096x1024 .f32 := Host.absf main_v4
  let main_cst_0 : FVec F S_ .f32 := constant S_ .f32 0x7F800000#32
  let main_v6 : FVec F S4096x1024 .f32 := broadcastInDim S4096x1024 ![] bcast_S_S4096x1024 main_cst_0
  let main_v7 : IVec S4096x1024 1 := cmpf .olt main_v5 main_v6
  let main_v8 : FVec F S4096x1024 .f32 := (extf .f32 · bitsLt_bf16_f32) main_arg2
  let main_v9 : FVec F S4096x1024 .f32 := Host.absf main_v8
  let main_cst_1 : FVec F S_ .f32 := constant S_ .f32 0x7F800000#32
  let main_v10 : FVec F S4096x1024 .f32 := broadcastInDim S4096x1024 ![] bcast_S_S4096x1024 main_cst_1
  let main_v11 : IVec S4096x1024 1 := cmpf .olt main_v9 main_v10
  let main_v12 : FVec F S4096x1024 .f32 := (extf .f32 · bitsLt_bf16_f32) main_arg3
  let main_v13 : FVec F S4096x1024 .f32 := Host.absf main_v12
  let main_cst_2 : FVec F S_ .f32 := constant S_ .f32 0x7F800000#32
  let main_v14 : FVec F S4096x1024 .f32 := broadcastInDim S4096x1024 ![] bcast_S_S4096x1024 main_cst_2
  let main_v15 : IVec S4096x1024 1 := cmpf .olt main_v13 main_v14
  let main_c : IVec S_ 1 := constantI S_ 1 1#1
  let main_v16 : IVec S_ 1 := (fun x v => Host.reduce IntOp.andi x v reducesTo_S4096x1024_S_d0_1 h_S_) main_v3 main_c
  let main_c_3 : IVec S_ 1 := constantI S_ 1 1#1
  let main_v17 : IVec S_ 1 := (fun x v => Host.reduce IntOp.andi x v reducesTo_S4096x1024_S_d0_1 h_S_) main_v7 main_c_3
  fn_part1 (F := F) main_v11 main_v15 main_v16 main_v17
-- ==== Pre_finite_act.lean ====
abbrev S4096x2048 : Shape := ⟨2, ![4096, 2048]⟩
abbrev S5632x2048 : Shape := ⟨2, ![5632, 2048]⟩
abbrev S4096x11264 : Shape := ⟨2, ![4096, 11264]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  bcast_S_S5632x2048 : S_.BroadcastsInDim S5632x2048 (![] : Fin 0 → Fin S5632x2048.rank)
  bcast_S_S4096x11264 : S_.BroadcastsInDim S4096x11264 (![] : Fin 0 → Fin S4096x11264.rank)
  reducesTo_S4096x2048_S_d0_1 : S4096x2048.ReducesTo [0, 1] S_
  h_S_ : 0 < S_.numel
  reducesTo_S5632x2048_S_d0_1 : S5632x2048.ReducesTo [0, 1] S_
  reducesTo_S4096x11264_S_d0_1 : S4096x11264.ReducesTo [0, 1] S_

variable [Facts]

def fn {F : FTy → Type} [FloatOps F] (main_arg0 : FVec F S4096x2048 .bf16) (main_arg1 : FVec F S5632x2048 .bf16) (main_arg2 : FVec F S4096x11264 .bf16) : IVec S_ 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_v4 : FVec F S5632x2048 .f32 := (extf .f32 · bitsLt_bf16_f32) main_arg1
  let main_v5 : FVec F S5632x2048 .f32 := Host.absf main_v4
  let main_cst_0 : FVec F S_ .f32 := constant S_ .f32 0x7F800000#32
  let main_v6 : FVec F S5632x2048 .f32 := broadcastInDim S5632x2048 ![] bcast_S_S5632x2048 main_cst_0
  let main_v7 : IVec S5632x2048 1 := cmpf .olt main_v5 main_v6
  let main_v8 : FVec F S4096x11264 .f32 := (extf .f32 · bitsLt_bf16_f32) main_arg2
  let main_v9 : FVec F S4096x11264 .f32 := Host.absf main_v8
  let main_cst_1 : FVec F S_ .f32 := constant S_ .f32 0x7F800000#32
  let main_v10 : FVec F S4096x11264 .f32 := broadcastInDim S4096x11264 ![] bcast_S_S4096x11264 main_cst_1
  let main_v11 : IVec S4096x11264 1 := cmpf .olt main_v9 main_v10
  let main_c : IVec S_ 1 := constantI S_ 1 1#1
  let main_v12 : IVec S_ 1 := (fun x v => Host.reduce IntOp.andi x v reducesTo_S4096x2048_S_d0_1 h_S_) main_v3 main_c
  let main_c_2 : IVec S_ 1 := constantI S_ 1 1#1
  let main_v13 : IVec S_ 1 := (fun x v => Host.reduce IntOp.andi x v reducesTo_S5632x2048_S_d0_1 h_S_) main_v7 main_c_2
  let main_v14 : IVec S_ 1 := andi main_v12 main_v13
  let main_c_3 : IVec S_ 1 := constantI S_ 1 1#1
  let main_v15 : IVec S_ 1 := (fun x v => Host.reduce IntOp.andi x v reducesTo_S4096x11264_S_d0_1 h_S_) main_v11 main_c_3
  let main_v16 : IVec S_ 1 := andi main_v14 main_v15
  main_v16
-- ==== Pre_finite_mla.lean ====
abbrev S4096x2048 : Shape := ⟨2, ![4096, 2048]⟩
abbrev S4096x1024 : Shape := ⟨2, ![4096, 1024]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  bcast_S_S4096x1024 : S_.BroadcastsInDim S4096x1024 (![] : Fin 0 → Fin S4096x1024.rank)
  reducesTo_S4096x2048_S_d0_1 : S4096x2048.ReducesTo [0, 1] S_
  h_S_ : 0 < S_.numel
  reducesTo_S4096x1024_S_d0_1 : S4096x1024.ReducesTo [0, 1] S_

variable [Facts]

def fn {F : FTy → Type} [FloatOps F] (main_arg0 : FVec F S4096x2048 .bf16) (main_arg1 : FVec F S4096x2048 .bf16) (main_arg2 : FVec F S4096x1024 .bf16) : IVec S_ 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_v4 : FVec F S4096x2048 .f32 := (extf .f32 · bitsLt_bf16_f32) main_arg1
  let main_v5 : FVec F S4096x2048 .f32 := Host.absf main_v4
  let main_cst_0 : FVec F S_ .f32 := constant S_ .f32 0x7F800000#32
  let main_v6 : FVec F S4096x2048 .f32 := broadcastInDim S4096x2048 ![] bcast_S_S4096x2048 main_cst_0
  let main_v7 : IVec S4096x2048 1 := cmpf .olt main_v5 main_v6
  let main_v8 : FVec F S4096x1024 .f32 := (extf .f32 · bitsLt_bf16_f32) main_arg2
  let main_v9 : FVec F S4096x1024 .f32 := Host.absf main_v8
  let main_cst_1 : FVec F S_ .f32 := constant S_ .f32 0x7F800000#32
  let main_v10 : FVec F S4096x1024 .f32 := broadcastInDim S4096x1024 ![] bcast_S_S4096x1024 main_cst_1
  let main_v11 : IVec S4096x1024 1 := cmpf .olt main_v9 main_v10
  let main_c : IVec S_ 1 := constantI S_ 1 1#1
  let main_v12 : IVec S_ 1 := (fun x v => Host.reduce IntOp.andi x v reducesTo_S4096x2048_S_d0_1 h_S_) main_v3 main_c
  let main_c_2 : IVec S_ 1 := constantI S_ 1 1#1
  let main_v13 : IVec S_ 1 := (fun x v => Host.reduce IntOp.andi x v reducesTo_S4096x2048_S_d0_1 h_S_) main_v7 main_c_2
  let main_v14 : IVec S_ 1 := andi main_v12 main_v13
  let main_c_3 : IVec S_ 1 := constantI S_ 1 1#1
  let main_v15 : IVec S_ 1 := (fun x v => Host.reduce IntOp.andi x v reducesTo_S4096x1024_S_d0_1 h_S_) main_v11 main_c_3
  let main_v16 : IVec S_ 1 := andi main_v14 main_v15
  main_v16
-- ==== Pre_finite_mla_bwd.lean ====
abbrev S4096x2048 : Shape := ⟨2, ![4096, 2048]⟩
abbrev S4096x1024 : Shape := ⟨2, ![4096, 1024]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  bcast_S_S4096x1024 : S_.BroadcastsInDim S4096x1024 (![] : Fin 0 → Fin S4096x1024.rank)
  reducesTo_S4096x2048_S_d0_1 : S4096x2048.ReducesTo [0, 1] S_
  h_S_ : 0 < S_.numel
  reducesTo_S4096x1024_S_d0_1 : S4096x1024.ReducesTo [0, 1] S_

variable [Facts]

def fn_part1 {F : FTy → Type} [FloatOps F] (main_v11 : IVec S4096x1024 1) (main_v14 : IVec S4096x1024 1) (main_v17 : IVec S_ 1) : IVec S_ 1 :=
  let main_c_4 : IVec S_ 1 := constantI S_ 1 1#1
  let main_v18 : IVec S_ 1 := (fun x v => Host.reduce IntOp.andi x v reducesTo_S4096x1024_S_d0_1 h_S_) main_v11 main_c_4
  let main_v19 : IVec S_ 1 := andi main_v17 main_v18
  let main_c_5 : IVec S_ 1 := constantI S_ 1 1#1
  let main_v20 : IVec S_ 1 := (fun x v => Host.reduce IntOp.andi x v reducesTo_S4096x1024_S_d0_1 h_S_) main_v14 main_c_5
  let main_v21 : IVec S_ 1 := andi main_v19 main_v20
  main_v21

def fn {F : FTy → Type} [FloatOps F] (main_arg0 : FVec F S4096x2048 .bf16) (main_arg1 : FVec F S4096x2048 .bf16) (main_arg2 : FVec F S4096x1024 .bf16) (main_arg3 : FVec F S4096x1024 .f32) : IVec S_ 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_v4 : FVec F S4096x2048 .f32 := (extf .f32 · bitsLt_bf16_f32) main_arg1
  let main_v5 : FVec F S4096x2048 .f32 := Host.absf main_v4
  let main_cst_0 : FVec F S_ .f32 := constant S_ .f32 0x7F800000#32
  let main_v6 : FVec F S4096x2048 .f32 := broadcastInDim S4096x2048 ![] bcast_S_S4096x2048 main_cst_0
  let main_v7 : IVec S4096x2048 1 := cmpf .olt main_v5 main_v6
  let main_v8 : FVec F S4096x1024 .f32 := (extf .f32 · bitsLt_bf16_f32) main_arg2
  let main_v9 : FVec F S4096x1024 .f32 := Host.absf main_v8
  let main_cst_1 : FVec F S_ .f32 := constant S_ .f32 0x7F800000#32
  let main_v10 : FVec F S4096x1024 .f32 := broadcastInDim S4096x1024 ![] bcast_S_S4096x1024 main_cst_1
  let main_v11 : IVec S4096x1024 1 := cmpf .olt main_v9 main_v10
  let main_v12 : FVec F S4096x1024 .f32 := Host.absf main_arg3
  let main_cst_2 : FVec F S_ .f32 := constant S_ .f32 0x7F800000#32
  let main_v13 : FVec F S4096x1024 .f32 := broadcastInDim S4096x1024 ![] bcast_S_S4096x1024 main_cst_2
  let main_v14 : IVec S4096x1024 1 := cmpf .olt main_v12 main_v13
  let main_c : IVec S_ 1 := constantI S_ 1 1#1
  let main_v15 : IVec S_ 1 := (fun x v => Host.reduce IntOp.andi x v reducesTo_S4096x2048_S_d0_1 h_S_) main_v3 main_c
  let main_c_3 : IVec S_ 1 := constantI S_ 1 1#1
  let main_v16 : IVec S_ 1 := (fun x v => Host.reduce IntOp.andi x v reducesTo_S4096x2048_S_d0_1 h_S_) main_v7 main_c_3
  let main_v17 : IVec S_ 1 := andi main_v15 main_v16
  fn_part1 (F := F) main_v11 main_v14 main_v17
-- ==== Pre_finite_ret.lean ====
abbrev S4096x1024 : Shape := ⟨2, ![4096, 1024]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .bf16) (main_arg1 : FVec F S4096x1024 .bf16) (main_arg2 : FVec F S4096x1024 .bf16) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S4096x1024 .f32 := (extf .f32 · bitsLt_bf16_f32) main_arg1
  let main_v5 : FVec F S4096x1024 .f32 := Host.absf main_v4
  let main_cst_0 : FVec F S_ .f32 := constant S_ .f32 0x7F800000#32
  let main_v6 : FVec F S4096x1024 .f32 := broadcastInDim S4096x1024 ![] bcast_S_S4096x1024 main_cst_0
  let main_v7 : IVec S4096x1024 1 := cmpf .olt main_v5 main_v6
  let main_v8 : FVec F S4096x1024 .f32 := (extf .f32 · bitsLt_bf16_f32) main_arg2
  let main_v9 : FVec F S4096x1024 .f32 := Host.absf main_v8
  let main_cst_1 : FVec F S_ .f32 := constant S_ .f32 0x7F800000#32
  let main_v10 : FVec F S4096x1024 .f32 := broadcastInDim S4096x1024 ![] bcast_S_S4096x1024 main_cst_1
  let main_v11 : IVec S4096x1024 1 := cmpf .olt main_v9 main_v10
  let main_c : IVec S_ 1 := constantI S_ 1 1#1
  let main_v12 : IVec S_ 1 := (fun x v => Host.reduce IntOp.andi x v reducesTo_S4096x1024_S_d0_1 h_S_) main_v3 main_c
  let main_c_2 : IVec S_ 1 := constantI S_ 1 1#1
  let main_v13 : IVec S_ 1 := (fun x v => Host.reduce IntOp.andi x v reducesTo_S4096x1024_S_d0_1 h_S_) main_v7 main_c_2
  let main_v14 : IVec S_ 1 := andi main_v12 main_v13
  let main_c_3 : IVec S_ 1 := constantI S_ 1 1#1
  let main_v15 : IVec S_ 1 := (fun x v => Host.reduce IntOp.andi x v reducesTo_S4096x1024_S_d0_1 h_S_) main_v11 main_c_3
  let main_v16 : IVec S_ 1 := andi main_v14 main_v15
  main_v16
-- ==== Kernel.lean ====
abbrev S4096x1024 : Shape := ⟨2, ![4096, 1024]⟩
abbrev S4 : Shape := ⟨1, ![4]⟩
abbrev S_ : Shape := ⟨0, ![]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S4x1x1 : Shape := ⟨3, ![4, 1, 1]⟩
abbrev S1x512x512 : Shape := ⟨3, ![1, 512, 512]⟩
abbrev S4x512x512 : Shape := ⟨3, ![4, 512, 512]⟩
abbrev S4x1x128 : Shape := ⟨3, ![4, 1, 128]⟩
abbrev S512x256 : Shape := ⟨2, ![512, 256]⟩
abbrev S4096x256 : Shape := ⟨2, ![4096, 256]⟩
abbrev S1x1x128 : Shape := ⟨3, ![1, 1, 128]⟩
abbrev S1x128 : Shape := ⟨2, ![1, 128]⟩

abbrev nBuf : Space → Nat
  | .hbm => 66
  | .vmem => 21
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4, .f32⟩
  | .hbm, ⟨5, _⟩ => ⟨S_, .f32⟩
  | .hbm, ⟨6, _⟩ => ⟨S4, .f32⟩
  | .hbm, ⟨7, _⟩ => ⟨S4, .f32⟩
  | .hbm, ⟨8, _⟩ => ⟨S_, .f32⟩
  | .hbm, ⟨9, _⟩ => ⟨S4, .f32⟩
  | .hbm, ⟨10, _⟩ => ⟨S4, .f32⟩
  | .hbm, ⟨11, _⟩ => ⟨S4, .f32⟩
  | .hbm, ⟨12, _⟩ => ⟨S4, .f32⟩
  | .hbm, ⟨13, _⟩ => ⟨S4, .f32⟩
  | .hbm, ⟨14, _⟩ => ⟨S512, .f32⟩
  | .hbm, ⟨15, _⟩ => ⟨S512x1, .f32⟩
  | .hbm, ⟨16, _⟩ => ⟨S1x512, .f32⟩
  | .hbm, ⟨17, _⟩ => ⟨S512x512, .f32⟩
  | .hbm, ⟨18, _⟩ => ⟨S512x512, .f32⟩
  | .hbm, ⟨19, _⟩ => ⟨S512x512, .f32⟩
  | .hbm, ⟨20, _⟩ => ⟨S4x1x1, .f32⟩
  | .hbm, ⟨21, _⟩ => ⟨S1x512x512, .f32⟩
  | .hbm, ⟨22, _⟩ => ⟨S4x512x512, .f32⟩
  | .hbm, ⟨23, _⟩ => ⟨S4x512x512, .f32⟩
  | .hbm, ⟨24, _⟩ => ⟨S4x512x512, .f32⟩
  | .hbm, ⟨25, _⟩ => ⟨S4x512x512, .f32⟩
  | .hbm, ⟨26, _⟩ => ⟨S512, .i32⟩
  | .hbm, ⟨27, _⟩ => ⟨S_, .i32⟩
  | .hbm, ⟨28, _⟩ => ⟨S_, .i32⟩
  | .hbm, ⟨29, _⟩ => ⟨S512, .i32⟩
  | .hbm, ⟨30, _⟩ => ⟨S512, .i32⟩
  | .hbm, ⟨31, _⟩ => ⟨S512, .i32⟩
  | .hbm, ⟨32, _⟩ => ⟨S_, .i32⟩
  | .hbm, ⟨33, _⟩ => ⟨S512, .i32⟩
  | .hbm, ⟨34, _⟩ => ⟨S512, .i1⟩
  | .hbm, ⟨35, _⟩ => ⟨S512, .i32⟩
  | .hbm, ⟨36, _⟩ => ⟨S512, .i32⟩
  | .hbm, ⟨37, _⟩ => ⟨S_, .i32⟩
  | .hbm, ⟨38, _⟩ => ⟨S512, .i32⟩
  | .hbm, ⟨39, _⟩ => ⟨S512, .i1⟩
  | .hbm, ⟨40, _⟩ => ⟨S512, .i1⟩
  | .hbm, ⟨41, _⟩ => ⟨S_, .i32⟩
  | .hbm, ⟨42, _⟩ => ⟨S512, .i32⟩
  | .hbm, ⟨43, _⟩ => ⟨S512, .i32⟩
  | .hbm, ⟨44, _⟩ => ⟨S512, .i32⟩
  | .hbm, ⟨45, _⟩ => ⟨S512x1, .i32⟩
  | .hbm, ⟨46, _⟩ => ⟨S1x512, .i32⟩
  | .hbm, ⟨47, _⟩ => ⟨S512x512, .i32⟩
  | .hbm, ⟨48, _⟩ => ⟨S512x512, .i32⟩
  | .hbm, ⟨49, _⟩ => ⟨S512x512, .i1⟩
  | .hbm, ⟨50, _⟩ => ⟨S512x512, .f32⟩
  | .hbm, ⟨51, _⟩ => ⟨S4x1x1, .f32⟩
  | .hbm, ⟨52, _⟩ => ⟨S512x512, .f32⟩
  | .hbm, ⟨53, _⟩ => ⟨S1x512x512, .f32⟩
  | .hbm, ⟨54, _⟩ => ⟨S4x512x512, .f32⟩
  | .hbm, ⟨55, _⟩ => ⟨S4x512x512, .f32⟩
  | .hbm, ⟨56, _⟩ => ⟨S4x512x512, .f32⟩
  | .hbm, ⟨57, _⟩ => ⟨S4x512x512, .f32⟩
  | .hbm, ⟨58, _⟩ => ⟨S1x512x512, .f32⟩
  | .hbm, ⟨59, _⟩ => ⟨S4x512x512, .f32⟩
  | .hbm, ⟨60, _⟩ => ⟨S4x512x512, .f32⟩
  | .hbm, ⟨61, _⟩ => ⟨S4x1x1, .f32⟩
  | .hbm, ⟨62, _⟩ => ⟨S4x1x128, .f32⟩
  | .hbm, ⟨63, _⟩ => ⟨S4096x1024, .f32⟩
  | .hbm, ⟨64, _⟩ => ⟨S4096x1024, .f32⟩
  | .hbm, ⟨65, _⟩ => ⟨S4096x1024, .f32⟩
  | .local _ .vmem, ⟨0, _⟩ => ⟨S512x256, .bf16⟩
  | .local _ .vmem, ⟨1, _⟩ => ⟨S512x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S512x256, .bf16⟩
  | .local _ .vmem, ⟨7, _⟩ => ⟨S512x256, .bf16⟩
  | .local _ .vmem, ⟨8, _⟩ => ⟨S1x1x128, .f32⟩
  | .local _ .vmem, ⟨9, _⟩ => ⟨S1x1x128, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S512x256, .f32⟩
  | .local _ .vmem, ⟨15, _⟩ => ⟨S512x256, .f32⟩
  | .local _ .vmem, ⟨16, _⟩ => ⟨S4096x256, .f32⟩
  | .local _ .vmem, ⟨17, _⟩ => ⟨S4096x256, .f32⟩
  | .local _ .vmem, ⟨18, _⟩ => ⟨S4096x256, .f32⟩
  | .local _ .vmem, ⟨19, _⟩ => ⟨S4096x256, .f32⟩
  | .local _ .vmem, ⟨20, _⟩ => ⟨S512x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_c : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_0 : Ref sig .tc := ⟨.hbm, 41, rfl⟩
abbrev main_call0_v12 : Ref sig .tc := ⟨.hbm, 42, rfl⟩
abbrev main_call0_v13 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40_0 : Ref sig .tc := ⟨.hbm, 63, rfl⟩
abbrev main_v40_1 : Ref sig .tc := ⟨.hbm, 64, rfl⟩
abbrev main_v40_2 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c512_i32 : BitVec 32 := 512#32
  let v11 : BitVec 32 := Scalar.muli arg1 c512_i32
  v11
def k0_off1 (i : grid0.Coords) : Fin 2 → Nat :=
  let arg1 : BitVec 32 := BitVec.ofNat 32 (i 1).val
  let c512_i32 : BitVec 32 := 512#32
  let v11 : BitVec 32 := Scalar.muli arg1 c512_i32
  let v12 : BitVec 32 := v11
  let v13 : Index := Scalar.indexCast v12
  let c0_6 : Index := 0#32
  ![v13.toNat, 0]
@[reducible] def k0_t1_loop (i : grid0.Coords) : Scf.Loop 32 :=
  let c0_i32_30 : BitVec 32 := 0#32
  let arg1 : BitVec 32 := BitVec.ofNat 32 (i 1).val
  let c0_i32_24 : BitVec 32 := 0#32
  let v46 : BitVec 1 := Scalar.cmpi .sgt arg1 c0_i32_24
  let v47 : BitVec 32 := Scalar.extui v46
  let c0_i32_25 : BitVec 32 := 0#32
  let v48 : BitVec 1 := Scalar.cmpi .slt arg1 c0_i32_25
  let v49 : BitVec 32 := Scalar.extui v48
  let v50 : BitVec 32 := Scalar.subi v47 v49
  let c2_i32 : BitVec 32 := 2#32
  let c0_i32_26 : BitVec 32 := 0#32
  let v51 : BitVec 1 := Scalar.cmpi .sgt c2_i32 c0_i32_26
  let v52 : BitVec 32 := Scalar.extui v51
  let c0_i32_27 : BitVec 32 := 0#32
  let v53 : BitVec 1 := Scalar.cmpi .slt c2_i32 c0_i32_27
  let v54 : BitVec 32 := Scalar.extui v53
  let v55 : BitVec 32 := Scalar.subi v52 v54
  let v56 : BitVec 1 := Scalar.cmpi .ne v50 v55
  let v57 : BitVec 32 := Scalar.remsi arg1 c2_i32
  let c0_i32_28 : BitVec 32 := 0#32
  let v58 : BitVec 1 := Scalar.cmpi .ne v57 c0_i32_28
  let v59 : BitVec 1 := Scalar.andi v56 v58
  let v45 : BitVec 32 := Scalar.divsi arg1 c2_i32
  let c1_i32 : BitVec 32 := 1#32
  let v60 : BitVec 32 := Scalar.subi v45 c1_i32
  let v61 : BitVec 32 := Scalar.select v59 v60 v45
  let v62 : BitVec 32 := Scalar.subi v61 c0_i32_30
  let c1_i32_31 : BitVec 32 := 1#32
  let v64 : BitVec 32 := Scalar.divsi v62 c1_i32_31
  let v65 : BitVec 32 := Scalar.muli v64 c1_i32_31
  let v66 : BitVec 32 := Scalar.addi c0_i32_30 v65
  let c1_i32_32 : BitVec 32 := 1#32
  ⟨c0_i32_30, v66, c1_i32_32⟩
def k0_mult2 (i : grid0.Coords) (k0_t1 : Fin (k0_t1_loop i).trips) : BitVec 32 :=
  let c2_i32_46 : BitVec 32 := 2#32
  let c0_i32_30 : BitVec 32 := 0#32
  let c1_i32_32 : BitVec 32 := 1#32
  let arg13 : BitVec 32 := Scf.iv c0_i32_30 c1_i32_32 k0_t1
  let v82 : BitVec 32 := Scalar.muli c2_i32_46 arg13
  let c512_i32_47 : BitVec 32 := 512#32
  let v83 : BitVec 32 := Scalar.muli v82 c512_i32_47
  v83
def k0_off2 (i : grid0.Coords) (k0_t1 : Fin (k0_t1_loop i).trips) : Fin 2 → Nat :=
  let c2_i32_46 : BitVec 32 := 2#32
  let c0_i32_30 : BitVec 32 := 0#32
  let c1_i32_32 : BitVec 32 := 1#32
  let arg13 : BitVec 32 := Scf.iv c0_i32_30 c1_i32_32 k0_t1
  let v82 : BitVec 32 := Scalar.muli c2_i32_46 arg13
  let c512_i32_47 : BitVec 32 := 512#32
  let v83 : BitVec 32 := Scalar.muli v82 c512_i32_47
  let v84 : BitVec 32 := v83
  let v85 : Index := Scalar.indexCast v84
  let c0_48 : Index := 0#32
  ![v85.toNat, 0]
def k0_mult3 (i : grid0.Coords) (k0_t1 : Fin (k0_t1_loop i).trips) : BitVec 32 :=
  let c2_i32_52 : BitVec 32 := 2#32
  let c0_i32_30 : BitVec 32 := 0#32
  let c1_i32_32 : BitVec 32 := 1#32
  let arg13 : BitVec 32 := Scf.iv c0_i32_30 c1_i32_32 k0_t1
  let v91 : BitVec 32 := Scalar.muli c2_i32_52 arg13
  let c1_i32_53 : BitVec 32 := 1#32
  let v92 : BitVec 32 := Scalar.addi v91 c1_i32_53
  let c512_i32_54 : BitVec 32 := 512#32
  let v93 : BitVec 32 := Scalar.muli v92 c512_i32_54
  v93
def k0_off3 (i : grid0.Coords) (k0_t1 : Fin (k0_t1_loop i).trips) : Fin 2 → Nat :=
  let c2_i32_52 : BitVec 32 := 2#32
  let c0_i32_30 : BitVec 32 := 0#32
  let c1_i32_32 : BitVec 32 := 1#32
  let arg13 : BitVec 32 := Scf.iv c0_i32_30 c1_i32_32 k0_t1
  let v91 : BitVec 32 := Scalar.muli c2_i32_52 arg13
  let c1_i32_53 : BitVec 32 := 1#32
  let v92 : BitVec 32 := Scalar.addi v91 c1_i32_53
  let c512_i32_54 : BitVec 32 := 512#32
  let v93 : BitVec 32 := Scalar.muli v92 c512_i32_54
  let v94 : BitVec 32 := v93
  let v95 : Index := Scalar.indexCast v94
  let c0_55 : Index := 0#32
  ![v95.toNat, 0]
@[reducible] def k0_t2_loop (i : grid0.Coords) : Scf.Loop 32 :=
  let c0_i32_30 : BitVec 32 := 0#32
  let arg1 : BitVec 32 := BitVec.ofNat 32 (i 1).val
  let c0_i32_24 : BitVec 32 := 0#32
  let v46 : BitVec 1 := Scalar.cmpi .sgt arg1 c0_i32_24
  let v47 : BitVec 32 := Scalar.extui v46
  let c0_i32_25 : BitVec 32 := 0#32
  let v48 : BitVec 1 := Scalar.cmpi .slt arg1 c0_i32_25
  let v49 : BitVec 32 := Scalar.extui v48
  let v50 : BitVec 32 := Scalar.subi v47 v49
  let c2_i32 : BitVec 32 := 2#32
  let c0_i32_26 : BitVec 32 := 0#32
  let v51 : BitVec 1 := Scalar.cmpi .sgt c2_i32 c0_i32_26
  let v52 : BitVec 32 := Scalar.extui v51
  let c0_i32_27 : BitVec 32 := 0#32
  let v53 : BitVec 1 := Scalar.cmpi .slt c2_i32 c0_i32_27
  let v54 : BitVec 32 := Scalar.extui v53
  let v55 : BitVec 32 := Scalar.subi v52 v54
  let v56 : BitVec 1 := Scalar.cmpi .ne v50 v55
  let v57 : BitVec 32 := Scalar.remsi arg1 c2_i32
  let c0_i32_28 : BitVec 32 := 0#32
  let v58 : BitVec 1 := Scalar.cmpi .ne v57 c0_i32_28
  let v59 : BitVec 1 := Scalar.andi v56 v58
  let v45 : BitVec 32 := Scalar.divsi arg1 c2_i32
  let c1_i32 : BitVec 32 := 1#32
  let v60 : BitVec 32 := Scalar.subi v45 c1_i32
  let v61 : BitVec 32 := Scalar.select v59 v60 v45
  let v62 : BitVec 32 := Scalar.subi v61 c0_i32_30
  let c1_i32_31 : BitVec 32 := 1#32
  let v64 : BitVec 32 := Scalar.divsi v62 c1_i32_31
  let v65 : BitVec 32 := Scalar.muli v64 c1_i32_31
  let v66 : BitVec 32 := Scalar.addi c0_i32_30 v65
  let v63 : BitVec 32 := Scalar.addi c0_i32_30 v62
  let c1_i32_33 : BitVec 32 := 1#32
  ⟨v66, v63, c1_i32_33⟩
def k0_mult4 (i : grid0.Coords) (k0_t2 : Fin (k0_t2_loop i).trips) : BitVec 32 :=
  let c2_i32_46 : BitVec 32 := 2#32
  let c0_i32_30 : BitVec 32 := 0#32
  let arg1 : BitVec 32 := BitVec.ofNat 32 (i 1).val
  let c0_i32_24 : BitVec 32 := 0#32
  let v46 : BitVec 1 := Scalar.cmpi .sgt arg1 c0_i32_24
  let v47 : BitVec 32 := Scalar.extui v46
  let c0_i32_25 : BitVec 32 := 0#32
  let v48 : BitVec 1 := Scalar.cmpi .slt arg1 c0_i32_25
  let v49 : BitVec 32 := Scalar.extui v48
  let v50 : BitVec 32 := Scalar.subi v47 v49
  let c2_i32 : BitVec 32 := 2#32
  let c0_i32_26 : BitVec 32 := 0#32
  let v51 : BitVec 1 := Scalar.cmpi .sgt c2_i32 c0_i32_26
  let v52 : BitVec 32 := Scalar.extui v51
  let c0_i32_27 : BitVec 32 := 0#32
  let v53 : BitVec 1 := Scalar.cmpi .slt c2_i32 c0_i32_27
  let v54 : BitVec 32 := Scalar.extui v53
  let v55 : BitVec 32 := Scalar.subi v52 v54
  let v56 : BitVec 1 := Scalar.cmpi .ne v50 v55
  let v57 : BitVec 32 := Scalar.remsi arg1 c2_i32
  let c0_i32_28 : BitVec 32 := 0#32
  let v58 : BitVec 1 := Scalar.cmpi .ne v57 c0_i32_28
  let v59 : BitVec 1 := Scalar.andi v56 v58
  let v45 : BitVec 32 := Scalar.divsi arg1 c2_i32
  let c1_i32 : BitVec 32 := 1#32
  let v60 : BitVec 32 := Scalar.subi v45 c1_i32
  let v61 : BitVec 32 := Scalar.select v59 v60 v45
  let v62 : BitVec 32 := Scalar.subi v61 c0_i32_30
  let c1_i32_31 : BitVec 32 := 1#32
  let v64 : BitVec 32 := Scalar.divsi v62 c1_i32_31
  let v65 : BitVec 32 := Scalar.muli v64 c1_i32_31
  let v66 : BitVec 32 := Scalar.addi c0_i32_30 v65
  let c1_i32_33 : BitVec 32 := 1#32
  let arg13 : BitVec 32 := Scf.iv v66 c1_i32_33 k0_t2
  let v82 : BitVec 32 := Scalar.muli c2_i32_46 arg13
  let c512_i32_47 : BitVec 32 := 512#32
  let v83 : BitVec 32 := Scalar.muli v82 c512_i32_47
  v83
def k0_off4 (i : grid0.Coords) (k0_t2 : Fin (k0_t2_loop i).trips) : Fin 2 → Nat :=
  let c2_i32_46 : BitVec 32 := 2#32
  let c0_i32_30 : BitVec 32 := 0#32
  let arg1 : BitVec 32 := BitVec.ofNat 32 (i 1).val
  let c0_i32_24 : BitVec 32 := 0#32
  let v46 : BitVec 1 := Scalar.cmpi .sgt arg1 c0_i32_24
  let v47 : BitVec 32 := Scalar.extui v46
  let c0_i32_25 : BitVec 32 := 0#32
  let v48 : BitVec 1 := Scalar.cmpi .slt arg1 c0_i32_25
  let v49 : BitVec 32 := Scalar.extui v48
  let v50 : BitVec 32 := Scalar.subi v47 v49
  let c2_i32 : BitVec 32 := 2#32
  let c0_i32_26 : BitVec 32 := 0#32
  let v51 : BitVec 1 := Scalar.cmpi .sgt c2_i32 c0_i32_26
  let v52 : BitVec 32 := Scalar.extui v51
  let c0_i32_27 : BitVec 32 := 0#32
  let v53 : BitVec 1 := Scalar.cmpi .slt c2_i32 c0_i32_27
  let v54 : BitVec 32 := Scalar.extui v53
  let v55 : BitVec 32 := Scalar.subi v52 v54
  let v56 : BitVec 1 := Scalar.cmpi .ne v50 v55
  let v57 : BitVec 32 := Scalar.remsi arg1 c2_i32
  let c0_i32_28 : BitVec 32 := 0#32
  let v58 : BitVec 1 := Scalar.cmpi .ne v57 c0_i32_28
  let v59 : BitVec 1 := Scalar.andi v56 v58
  let v45 : BitVec 32 := Scalar.divsi arg1 c2_i32
  let c1_i32 : BitVec 32 := 1#32
  let v60 : BitVec 32 := Scalar.subi v45 c1_i32
  let v61 : BitVec 32 := Scalar.select v59 v60 v45
  let v62 : BitVec 32 := Scalar.subi v61 c0_i32_30
  let c1_i32_31 : BitVec 32 := 1#32
  let v64 : BitVec 32 := Scalar.divsi v62 c1_i32_31
  let v65 : BitVec 32 := Scalar.muli v64 c1_i32_31
  let v66 : BitVec 32 := Scalar.addi c0_i32_30 v65
  let c1_i32_33 : BitVec 32 := 1#32
  let arg13 : BitVec 32 := Scf.iv v66 c1_i32_33 k0_t2
  let v82 : BitVec 32 := Scalar.muli c2_i32_46 arg13
  let c512_i32_47 : BitVec 32 := 512#32
  let v83 : BitVec 32 := Scalar.muli v82 c512_i32_47
  let v84 : BitVec 32 := v83
  let v85 : Index := Scalar.indexCast v84
  let c0_48 : Index := 0#32
  ![v85.toNat, 0]
def k0_mult5 (i : grid0.Coords) (k0_t2 : Fin (k0_t2_loop i).trips) : BitVec 32 :=
  let c2_i32_52 : BitVec 32 := 2#32
  let c0_i32_30 : BitVec 32 := 0#32
  let arg1 : BitVec 32 := BitVec.ofNat 32 (i 1).val
  let c0_i32_24 : BitVec 32 := 0#32
  let v46 : BitVec 1 := Scalar.cmpi .sgt arg1 c0_i32_24
  let v47 : BitVec 32 := Scalar.extui v46
  let c0_i32_25 : BitVec 32 := 0#32
  let v48 : BitVec 1 := Scalar.cmpi .slt arg1 c0_i32_25
  let v49 : BitVec 32 := Scalar.extui v48
  let v50 : BitVec 32 := Scalar.subi v47 v49
  let c2_i32 : BitVec 32 := 2#32
  let c0_i32_26 : BitVec 32 := 0#32
  let v51 : BitVec 1 := Scalar.cmpi .sgt c2_i32 c0_i32_26
  let v52 : BitVec 32 := Scalar.extui v51
  let c0_i32_27 : BitVec 32 := 0#32
  let v53 : BitVec 1 := Scalar.cmpi .slt c2_i32 c0_i32_27
  let v54 : BitVec 32 := Scalar.extui v53
  let v55 : BitVec 32 := Scalar.subi v52 v54
  let v56 : BitVec 1 := Scalar.cmpi .ne v50 v55
  let v57 : BitVec 32 := Scalar.remsi arg1 c2_i32
  let c0_i32_28 : BitVec 32 := 0#32
  let v58 : BitVec 1 := Scalar.cmpi .ne v57 c0_i32_28
  let v59 : BitVec 1 := Scalar.andi v56 v58
  let v45 : BitVec 32 := Scalar.divsi arg1 c2_i32
  let c1_i32 : BitVec 32 := 1#32
  let v60 : BitVec 32 := Scalar.subi v45 c1_i32
  let v61 : BitVec 32 := Scalar.select v59 v60 v45
  let v62 : BitVec 32 := Scalar.subi v61 c0_i32_30
  let c1_i32_31 : BitVec 32 := 1#32
  let v64 : BitVec 32 := Scalar.divsi v62 c1_i32_31
  let v65 : BitVec 32 := Scalar.muli v64 c1_i32_31
  let v66 : BitVec 32 := Scalar.addi c0_i32_30 v65
  let c1_i32_33 : BitVec 32 := 1#32
  let arg13 : BitVec 32 := Scf.iv v66 c1_i32_33 k0_t2
  let v91 : BitVec 32 := Scalar.muli c2_i32_52 arg13
  let c1_i32_53 : BitVec 32 := 1#32
  let v92 : BitVec 32 := Scalar.addi v91 c1_i32_53
  let c512_i32_54 : BitVec 32 := 512#32
  let v93 : BitVec 32 := Scalar.muli v92 c512_i32_54
  v93
def k0_off5 (i : grid0.Coords) (k0_t2 : Fin (k0_t2_loop i).trips) : Fin 2 → Nat :=
  let c2_i32_52 : BitVec 32 := 2#32
  let c0_i32_30 : BitVec 32 := 0#32
  let arg1 : BitVec 32 := BitVec.ofNat 32 (i 1).val
  let c0_i32_24 : BitVec 32 := 0#32
  let v46 : BitVec 1 := Scalar.cmpi .sgt arg1 c0_i32_24
  let v47 : BitVec 32 := Scalar.extui v46
  let c0_i32_25 : BitVec 32 := 0#32
  let v48 : BitVec 1 := Scalar.cmpi .slt arg1 c0_i32_25
  let v49 : BitVec 32 := Scalar.extui v48
  let v50 : BitVec 32 := Scalar.subi v47 v49
  let c2_i32 : BitVec 32 := 2#32
  let c0_i32_26 : BitVec 32 := 0#32
  let v51 : BitVec 1 := Scalar.cmpi .sgt c2_i32 c0_i32_26
  let v52 : BitVec 32 := Scalar.extui v51
  let c0_i32_27 : BitVec 32 := 0#32
  let v53 : BitVec 1 := Scalar.cmpi .slt c2_i32 c0_i32_27
  let v54 : BitVec 32 := Scalar.extui v53
  let v55 : BitVec 32 := Scalar.subi v52 v54
  let v56 : BitVec 1 := Scalar.cmpi .ne v50 v55
  let v57 : BitVec 32 := Scalar.remsi arg1 c2_i32
  let c0_i32_28 : BitVec 32 := 0#32
  let v58 : BitVec 1 := Scalar.cmpi .ne v57 c0_i32_28
  let v59 : BitVec 1 := Scalar.andi v56 v58
  let v45 : BitVec 32 := Scalar.divsi arg1 c2_i32
  let c1_i32 : BitVec 32 := 1#32
  let v60 : BitVec 32 := Scalar.subi v45 c1_i32
  let v61 : BitVec 32 := Scalar.select v59 v60 v45
  let v62 : BitVec 32 := Scalar.subi v61 c0_i32_30
  let c1_i32_31 : BitVec 32 := 1#32
  let v64 : BitVec 32 := Scalar.divsi v62 c1_i32_31
  let v65 : BitVec 32 := Scalar.muli v64 c1_i32_31
  let v66 : BitVec 32 := Scalar.addi c0_i32_30 v65
  let c1_i32_33 : BitVec 32 := 1#32
  let arg13 : BitVec 32 := Scf.iv v66 c1_i32_33 k0_t2
  let v91 : BitVec 32 := Scalar.muli c2_i32_52 arg13
  let c1_i32_53 : BitVec 32 := 1#32
  let v92 : BitVec 32 := Scalar.addi v91 c1_i32_53
  let c512_i32_54 : BitVec 32 := 512#32
  let v93 : BitVec 32 := Scalar.muli v92 c512_i32_54
  let v94 : BitVec 32 := v93
  let v95 : Index := Scalar.indexCast v94
  let c0_55 : Index := 0#32
  ![v95.toNat, 0]
def k0_cond2 (i : grid0.Coords) : BitVec 1 :=
  let arg1 : BitVec 32 := BitVec.ofNat 32 (i 1).val
  let c2_i32_34 : BitVec 32 := 2#32
  let c0_i32_35 : BitVec 32 := 0#32
  let v67 : BitVec 1 := Scalar.cmpi .eq c2_i32_34 c0_i32_35
  let c1_i32_36 : BitVec 32 := 1#32
  let v68 : BitVec 32 := Scalar.select v67 c1_i32_36 c2_i32_34
  let v69 : BitVec 32 := Scalar.remsi arg1 v68
  let c0_i32_38 : BitVec 32 := 0#32
  let v71 : BitVec 1 := Scalar.cmpi .slt v69 c0_i32_38
  let c0_i32_39 : BitVec 32 := 0#32
  let v72 : BitVec 1 := Scalar.cmpi .slt v68 c0_i32_39
  let v73 : BitVec 1 := Scalar.xori v71 v72
  let c0_i32_37 : BitVec 32 := 0#32
  let v70 : BitVec 1 := Scalar.cmpi .ne v69 c0_i32_37
  let v74 : BitVec 1 := Scalar.andi v73 v70
  let v75 : BitVec 32 := Scalar.addi v69 v68
  let v76 : BitVec 32 := Scalar.select v74 v75 v69
  let c1_i32_40 : BitVec 32 := 1#32
  let v77 : BitVec 1 := Scalar.cmpi .eq v76 c1_i32_40
  let v78 : BitVec 32 := Scalar.extui v77
  let c0_i32_41 : BitVec 32 := 0#32
  let v79 : BitVec 1 := Scalar.cmpi .ne v78 c0_i32_41
  v79

def k0_mult6 (i : grid0.Coords) : BitVec 32 :=
  let arg1 : BitVec 32 := BitVec.ofNat 32 (i 1).val
  let c1_i32_47 : BitVec 32 := 1#32
  let v83 : BitVec 32 := Scalar.subi arg1 c1_i32_47
  let c512_i32_48 : BitVec 32 := 512#32
  let v84 : BitVec 32 := Scalar.muli v83 c512_i32_48
  v84
def k0_off6 (i : grid0.Coords) : Fin 2 → Nat :=
  let arg1 : BitVec 32 := BitVec.ofNat 32 (i 1).val
  let c1_i32_47 : BitVec 32 := 1#32
  let v83 : BitVec 32 := Scalar.subi arg1 c1_i32_47
  let c512_i32_48 : BitVec 32 := 512#32
  let v84 : BitVec 32 := Scalar.muli v83 c512_i32_48
  let v85 : BitVec 32 := v84
  let v86 : Index := Scalar.indexCast v85
  let c0_49 : Index := 0#32
  ![v86.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4096x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S4096x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S4096x1024 : Shape := ⟨2, ![4096, 1024]⟩
abbrev S1x64x64x4x256 : Shape := ⟨5, ![1, 64, 64, 4, 256]⟩
abbrev S4 : Shape := ⟨1, ![4]⟩
abbrev S_ : Shape := ⟨0, ![]⟩
abbrev S64 : Shape := ⟨1, ![64]⟩
abbrev S4x1x1 : Shape := ⟨3, ![4, 1, 1]⟩
abbrev S64x1 : Shape := ⟨2, ![64, 1]⟩
abbrev S1x64 : Shape := ⟨2, ![1, 64]⟩
abbrev S64x64 : Shape := ⟨2, ![64, 64]⟩
abbrev S1x64x64 : Shape := ⟨3, ![1, 64, 64]⟩
abbrev S4x64x64 : Shape := ⟨3, ![4, 64, 64]⟩
abbrev S1x64x4x64x64 : Shape := ⟨5, ![1, 64, 4, 64, 64]⟩
abbrev S1x1x4x64x64 : Shape := ⟨5, ![1, 1, 4, 64, 64]⟩
abbrev S1x64x4x256x64 : Shape := ⟨5, ![1, 64, 4, 256, 64]⟩
abbrev S4x1 : Shape := ⟨2, ![4, 1]⟩
abbrev S4x64 : Shape := ⟨2, ![4, 64]⟩
abbrev S1x4x64 : Shape := ⟨3, ![1, 4, 64]⟩
abbrev S1x4x256x256 : Shape := ⟨4, ![1, 4, 256, 256]⟩
abbrev S64x1x64x4x256 : Shape := ⟨5, ![64, 1, 64, 4, 256]⟩
abbrev S64x4 : Shape := ⟨2, ![64, 4]⟩
abbrev S1x64x4x1 : Shape := ⟨4, ![1, 64, 4, 1]⟩
abbrev S1x4x1x1 : Shape := ⟨4, ![1, 4, 1, 1]⟩
abbrev S64x1x4x256x256 : Shape := ⟨5, ![64, 1, 4, 256, 256]⟩
abbrev S1x1x64x4x256 : Shape := ⟨5, ![1, 1, 64, 4, 256]⟩
abbrev S1x64x4x256 : Shape := ⟨4, ![1, 64, 4, 256]⟩
abbrev S1x4x256x64 : Shape := ⟨4, ![1, 4, 256, 64]⟩
abbrev S1x1x4x256x256 : Shape := ⟨5, ![1, 1, 4, 256, 256]⟩
abbrev S1x4096x4x256 : Shape := ⟨4, ![1, 4096, 4, 256]⟩
abbrev S1x4x64x256 : Shape := ⟨4, ![1, 4, 64, 256]⟩
abbrev S1x64x4x64x256 : Shape := ⟨5, ![1, 64, 4, 64, 256]⟩

abbrev nBuf : Space → Nat
  | .hbm => 264
  | .vmem => 0
  | .smem => 0
  | _ => 0

abbrev hbmTy0_0 (i : Nat) : BufTy := match i % 128 with
  | 0 => ⟨S4096x1024, .bf16⟩
  | 1 => ⟨S4096x1024, .bf16⟩
  | 2 => ⟨S4096x1024, .bf16⟩
  | 3 => ⟨S4096x1024, .bf16⟩
  | 4 => ⟨S4096x1024, .f32⟩
  | 5 => ⟨S4096x1024, .f32⟩
  | 6 => ⟨S4096x1024, .f32⟩
  | 7 => ⟨S4096x1024, .f32⟩
  | 8 => ⟨S1x64x64x4x256, .f32⟩
  | 9 => ⟨S1x64x64x4x256, .f32⟩
  | 10 => ⟨S1x64x64x4x256, .f32⟩
  | 11 => ⟨S4, .f32⟩
  | 12 => ⟨S_, .f32⟩
  | 13 => ⟨S4, .f32⟩
  | 14 => ⟨S4, .f32⟩
  | 15 => ⟨S_, .f32⟩
  | 16 => ⟨S4, .f32⟩
  | 17 => ⟨S4, .f32⟩
  | 18 => ⟨S4, .f32⟩
  | 19 => ⟨S4, .f32⟩
  | 20 => ⟨S4, .f32⟩
  | 21 => ⟨S64, .f32⟩
  | 22 => ⟨S4x1x1, .f32⟩
  | 23 => ⟨S64x1, .f32⟩
  | 24 => ⟨S1x64, .f32⟩
  | 25 => ⟨S64x64, .f32⟩
  | 26 => ⟨S64x64, .f32⟩
  | 27 => ⟨S64x64, .f32⟩
  | 28 => ⟨S64x64, .f32⟩
  | 29 => ⟨S1x64x64, .f32⟩
  | 30 => ⟨S4x64x64, .f32⟩
  | 31 => ⟨S4x64x64, .f32⟩
  | 32 => ⟨S4x64x64, .f32⟩
  | 33 => ⟨S4x64x64, .f32⟩
  | 34 => ⟨S1x64x4x64x64, .f32⟩
  | 35 => ⟨S1x1x4x64x64, .f32⟩
  | 36 => ⟨S1x64x4x64x64, .f32⟩
  | 37 => ⟨S1x64x4x64x64, .f32⟩
  | 38 => ⟨S1x64x4x256x64, .f32⟩
  | 39 => ⟨S1x64x64x4x256, .f32⟩
  | 40 => ⟨S4x1, .f32⟩
  | 41 => ⟨S_, .f32⟩
  | 42 => ⟨S64, .f32⟩
  | 43 => ⟨S64, .f32⟩
  | 44 => ⟨S1x64, .f32⟩
  | 45 => ⟨S4x64, .f32⟩
  | 46 => ⟨S4x64, .f32⟩
  | 47 => ⟨S4x64, .f32⟩
  | 48 => ⟨S4x64, .f32⟩
  | 49 => ⟨S1x4x64, .f32⟩
  | 50 => ⟨S4x1, .f32⟩
  | 51 => ⟨S_, .f32⟩
  | 52 => ⟨S64, .f32⟩
  | 53 => ⟨S64, .f32⟩
  | 54 => ⟨S1x64, .f32⟩
  | 55 => ⟨S4x64, .f32⟩
  | 56 => ⟨S4x64, .f32⟩
  | 57 => ⟨S4x64, .f32⟩
  | 58 => ⟨S4x64, .f32⟩
  | 59 => ⟨S_, .f32⟩
  | 60 => ⟨S4, .f32⟩
  | 61 => ⟨S4, .f32⟩
  | 62 => ⟨S4, .f32⟩
  | 63 => ⟨S4x64, .f32⟩
  | 64 => ⟨S_, .f32⟩
  | 65 => ⟨S1x4x256x256, .f32⟩
  | 66 => ⟨S64x1x64x4x256, .f32⟩
  | 67 => ⟨S64x1x64x4x256, .f32⟩
  | 68 => ⟨S64x1x64x4x256, .f32⟩
  | 69 => ⟨S64x4, .f32⟩
  | 70 => ⟨S1x64x4x1, .f32⟩
  | 71 => ⟨S1x4x1x1, .f32⟩
  | 72 => ⟨S64x4, .f32⟩
  | 73 => ⟨S1x64x4x1, .f32⟩
  | 74 => ⟨S_, .f32⟩
  | 75 => ⟨S64x1x64x4x256, .f32⟩
  | 76 => ⟨S_, .f32⟩
  | 77 => ⟨S64x1x4x256x256, .f32⟩
  | 78 => ⟨S_, .f32⟩
  | 79 => ⟨S64x1x64x4x256, .f32⟩
  | 80 => ⟨S_, .i32⟩
  | 81 => ⟨S64x1x64x4x256, .f32⟩
  | 82 => ⟨S64x1x64x4x256, .f32⟩
  | 83 => ⟨S64x1x64x4x256, .f32⟩
  | 84 => ⟨S1x4x1x1, .f32⟩
  | 85 => ⟨S1x64x4x1, .f32⟩
  | 86 => ⟨S1x64x4x1, .f32⟩
  | 87 => ⟨S_, .i32⟩
  | 88 => ⟨S1x4x256x256, .f32⟩
  | 89 => ⟨S64x1x64x4x256, .f32⟩
  | 90 => ⟨S64x1x4x256x256, .f32⟩
  | 91 => ⟨S64x1x64x4x256, .f32⟩
  | 92 => ⟨S_, .i32⟩
  | 93 => ⟨S_, .i1⟩
  | 94 => ⟨S_, .i32⟩
  | 95 => ⟨S_, .i32⟩
  | 96 => ⟨S_, .i32⟩
  | 97 => ⟨S_, .i32⟩
  | 98 => ⟨S1x1x64x4x256, .f32⟩
  | 99 => ⟨S1x64x4x256, .f32⟩
  | 100 => ⟨S_, .i32⟩
  | 101 => ⟨S_, .i32⟩
  | 102 => ⟨S_, .i32⟩
  | 103 => ⟨S_, .i32⟩
  | 104 => ⟨S1x1x64x4x256, .f32⟩
  | 105 => ⟨S1x64x4x256, .f32⟩
  | 106 => ⟨S_, .i32⟩
  | 107 => ⟨S_, .i32⟩
  | 108 => ⟨S_, .i32⟩
  | 109 => ⟨S_, .i32⟩
  | 110 => ⟨S1x1x64x4x256, .f32⟩
  | 111 => ⟨S1x64x4x256, .f32⟩
  | 112 => ⟨S1x4x256x64, .f32⟩
  | 113 => ⟨S1x64x4x256, .f32⟩
  | 114 => ⟨S1x64x4x256, .f32⟩
  | 115 => ⟨S1x64x4x256, .f32⟩
  | 116 => ⟨S1x4x256x256, .f32⟩
  | 117 => ⟨S1x4x256x256, .f32⟩
  | 118 => ⟨S1x64x4x256, .f32⟩
  | 119 => ⟨S1x64x4x256, .f32⟩
  | 120 => ⟨S1x4x256x256, .f32⟩
  | 121 => ⟨S1x4x256x256, .f32⟩
  | 122 => ⟨S1x1x64x4x256, .f32⟩
  | 123 => ⟨S_, .i32⟩
  | 124 => ⟨S_, .i32⟩
  | 125 => ⟨S_, .i32⟩
  | 126 => ⟨S_, .i32⟩
  | 127 => ⟨S64x1x64x4x256, .f32⟩
  | _ => ⟨S4096x1024, .bf16⟩

abbrev hbmTy0_1 (i : Nat) : BufTy := match i % 128 with
  | 0 => ⟨S1x1x4x256x256, .f32⟩
  | 1 => ⟨S_, .i32⟩
  | 2 => ⟨S_, .i32⟩
  | 3 => ⟨S_, .i32⟩
  | 4 => ⟨S_, .i32⟩
  | 5 => ⟨S64x1x4x256x256, .f32⟩
  | 6 => ⟨S1x1x64x4x256, .f32⟩
  | 7 => ⟨S_, .i32⟩
  | 8 => ⟨S_, .i32⟩
  | 9 => ⟨S_, .i32⟩
  | 10 => ⟨S_, .i32⟩
  | 11 => ⟨S64x1x64x4x256, .f32⟩
  | 12 => ⟨S_, .i32⟩
  | 13 => ⟨S_, .i32⟩
  | 14 => ⟨S1x64x64x4x256, .f32⟩
  | 15 => ⟨S1x64x64x4x256, .f32⟩
  | 16 => ⟨S1x4096x4x256, .f32⟩
  | 17 => ⟨S4096x1024, .f32⟩
  | 18 => ⟨S_, .f32⟩
  | 19 => ⟨S1x4x256x256, .f32⟩
  | 20 => ⟨S1x4096x4x256, .f32⟩
  | 21 => ⟨S1x64x64x4x256, .f32⟩
  | 22 => ⟨S64x1x64x4x256, .f32⟩
  | 23 => ⟨S_, .f32⟩
  | 24 => ⟨S1x4x256x256, .f32⟩
  | 25 => ⟨S_, .f32⟩
  | 26 => ⟨S64x1x64x4x256, .f32⟩
  | 27 => ⟨S_, .f32⟩
  | 28 => ⟨S64x1x64x4x256, .f32⟩
  | 29 => ⟨S_, .f32⟩
  | 30 => ⟨S64x1x64x4x256, .f32⟩
  | 31 => ⟨S_, .i32⟩
  | 32 => ⟨S64x1x64x4x256, .f32⟩
  | 33 => ⟨S64x1x64x4x256, .f32⟩
  | 34 => ⟨S64x1x4x256x256, .f32⟩
  | 35 => ⟨S64x1x64x4x256, .f32⟩
  | 36 => ⟨S64x1x64x4x256, .f32⟩
  | 37 => ⟨S1x64x4x1, .f32⟩
  | 38 => ⟨S1x4x1x1, .f32⟩
  | 39 => ⟨S1x64x4x1, .f32⟩
  | 40 => ⟨S_, .i32⟩
  | 41 => ⟨S1x4x256x256, .f32⟩
  | 42 => ⟨S64x1x64x4x256, .f32⟩
  | 43 => ⟨S64x1x64x4x256, .f32⟩
  | 44 => ⟨S64x1x64x4x256, .f32⟩
  | 45 => ⟨S_, .i32⟩
  | 46 => ⟨S_, .i1⟩
  | 47 => ⟨S_, .i32⟩
  | 48 => ⟨S_, .i32⟩
  | 49 => ⟨S_, .i32⟩
  | 50 => ⟨S_, .i32⟩
  | 51 => ⟨S_, .i32⟩
  | 52 => ⟨S_, .i32⟩
  | 53 => ⟨S_, .i32⟩
  | 54 => ⟨S_, .i32⟩
  | 55 => ⟨S1x1x64x4x256, .f32⟩
  | 56 => ⟨S1x64x4x256, .f32⟩
  | 57 => ⟨S_, .i32⟩
  | 58 => ⟨S_, .i32⟩
  | 59 => ⟨S_, .i32⟩
  | 60 => ⟨S_, .i32⟩
  | 61 => ⟨S1x1x64x4x256, .f32⟩
  | 62 => ⟨S1x64x4x256, .f32⟩
  | 63 => ⟨S_, .i32⟩
  | 64 => ⟨S_, .i32⟩
  | 65 => ⟨S_, .i32⟩
  | 66 => ⟨S_, .i32⟩
  | 67 => ⟨S1x1x4x256x256, .f32⟩
  | 68 => ⟨S1x4x256x256, .f32⟩
  | 69 => ⟨S_, .i32⟩
  | 70 => ⟨S_, .i32⟩
  | 71 => ⟨S_, .i32⟩
  | 72 => ⟨S_, .i32⟩
  | 73 => ⟨S1x1x64x4x256, .f32⟩
  | 74 => ⟨S1x64x4x256, .f32⟩
  | 75 => ⟨S_, .i32⟩
  | 76 => ⟨S_, .i32⟩
  | 77 => ⟨S_, .i32⟩
  | 78 => ⟨S_, .i32⟩
  | 79 => ⟨S1x1x64x4x256, .f32⟩
  | 80 => ⟨S1x64x4x256, .f32⟩
  | 81 => ⟨S1x4x256x64, .f32⟩
  | 82 => ⟨S1x64x4x256, .f32⟩
  | 83 => ⟨S1x4x256x64, .f32⟩
  | 84 => ⟨S1x64x4x256, .f32⟩
  | 85 => ⟨S1x64x4x256, .f32⟩
  | 86 => ⟨S1x64x4x256, .f32⟩
  | 87 => ⟨S1x4x256x256, .f32⟩
  | 88 => ⟨S1x4x256x256, .f32⟩
  | 89 => ⟨S1x64x4x256, .f32⟩
  | 90 => ⟨S1x64x4x256, .f32⟩
  | 91 => ⟨S1x4x256x64, .f32⟩
  | 92 => ⟨S1x4x64x256, .f32⟩
  | 93 => ⟨S1x64x4x256, .f32⟩
  | 94 => ⟨S1x4x256x256, .f32⟩
  | 95 => ⟨S1x4x256x256, .f32⟩
  | 96 => ⟨S1x4x256x256, .f32⟩
  | 97 => ⟨S1x1x64x4x256, .f32⟩
  | 98 => ⟨S_, .i32⟩
  | 99 => ⟨S_, .i32⟩
  | 100 => ⟨S_, .i32⟩
  | 101 => ⟨S_, .i32⟩
  | 102 => ⟨S64x1x64x4x256, .f32⟩
  | 103 => ⟨S1x1x64x4x256, .f32⟩
  | 104 => ⟨S_, .i32⟩
  | 105 => ⟨S_, .i32⟩
  | 106 => ⟨S_, .i32⟩
  | 107 => ⟨S_, .i32⟩
  | 108 => ⟨S64x1x64x4x256, .f32⟩
  | 109 => ⟨S1x1x64x4x256, .f32⟩
  | 110 => ⟨S_, .i32⟩
  | 111 => ⟨S_, .i32⟩
  | 112 => ⟨S_, .i32⟩
  | 113 => ⟨S_, .i32⟩
  | 114 => ⟨S64x1x64x4x256, .f32⟩
  | 115 => ⟨S_, .i32⟩
  | 116 => ⟨S_, .i32⟩
  | 117 => ⟨S1x64x64x4x256, .f32⟩
  | 118 => ⟨S1x64x64x4x256, .f32⟩
  | 119 => ⟨S1x64x64x4x256, .f32⟩
  | 120 => ⟨S1x64x4x256x64, .f32⟩
  | 121 => ⟨S1x64x4x64x64, .f32⟩
  | 122 => ⟨S1x64x4x256x64, .f32⟩
  | 123 => ⟨S1x64x64x4x256, .f32⟩
  | 124 => ⟨S1x64x64x4x256, .f32⟩
  | 125 => ⟨S1x64x4x64x64, .f32⟩
  | 126 => ⟨S1x64x4x64x64, .f32⟩
  | 127 => ⟨S1x64x4x64x256, .f32⟩
  | _ => ⟨S4096x1024, .bf16⟩

abbrev hbmTy0_2 (i : Nat) : BufTy := match i % 128 with
  | 0 => ⟨S1x64x64x4x256, .f32⟩
  | 1 => ⟨S1x64x64x4x256, .f32⟩
  | 2 => ⟨S1x64x4x64x256, .f32⟩
  | 3 => ⟨S1x64x64x4x256, .f32⟩
  | 4 => ⟨S1x64x64x4x256, .f32⟩
  | 5 => ⟨S4096x1024, .f32⟩
  | 6 => ⟨S4096x1024, .f32⟩
  | 7 => ⟨S4096x1024, .f32⟩
  | _ => ⟨S4096x1024, .bf16⟩

abbrev hbmTy (i : Nat) : BufTy := match i / 128 with
  | 0 => hbmTy0_0 i
  | 1 => hbmTy0_1 i
  | 2 => hbmTy0_2 i
  | _ => ⟨S4096x1024, .bf16⟩

abbrev bufTy : (tb : Table) → Fin (tcTables nBuf tb) → BufTy
  | .hbm, ⟨i, _⟩ => hbmTy i
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_1 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_cst_2 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_cst_3 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_cst_4 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_cst_5 : Ref sig .tc := ⟨.hbm, 74, rfl⟩
abbrev main_v64 : Ref sig .tc := ⟨.hbm, 75, rfl⟩
abbrev main_cst_6 : Ref sig .tc := ⟨.hbm, 76, rfl⟩
abbrev main_v65 : Ref sig .tc := ⟨.hbm, 77, rfl⟩
abbrev main_cst_7 : Ref sig .tc := ⟨.hbm, 78, rfl⟩
abbrev main_v66 : Ref sig .tc := ⟨.hbm, 79, rfl⟩
abbrev main_c : Ref sig .tc := ⟨.hbm, 80, rfl⟩
abbrev main_v67_0 : Ref sig .tc := ⟨.hbm, 81, rfl⟩
abbrev main_v67_1 : Ref sig .tc := ⟨.hbm, 82, rfl⟩
abbrev main_v67_2 : Ref sig .tc := ⟨.hbm, 83, rfl⟩
abbrev main_v67_3 : Ref sig .tc := ⟨.hbm, 84, rfl⟩
abbrev main_v67_4 : Ref sig .tc := ⟨.hbm, 85, rfl⟩
abbrev main_v67_5 : Ref sig .tc := ⟨.hbm, 86, rfl⟩
abbrev main_v67_6 : Ref sig .tc := ⟨.hbm, 87, rfl⟩
abbrev main_v67_7 : Ref sig .tc := ⟨.hbm, 88, rfl⟩
abbrev main_v67_8 : Ref sig .tc := ⟨.hbm, 89, rfl⟩
abbrev main_v67_9 : Ref sig .tc := ⟨.hbm, 90, rfl⟩
abbrev main_v67_10 : Ref sig .tc := ⟨.hbm, 91, rfl⟩
abbrev main_while0c_c_24 : Ref sig .tc := ⟨.hbm, 92, rfl⟩
abbrev main_while0c_v100 : Ref sig .tc := ⟨.hbm, 93, rfl⟩
abbrev main_while0b_call0_c : Ref sig .tc := ⟨.hbm, 94, rfl⟩
abbrev main_while0b_call0_c_0 : Ref sig .tc := ⟨.hbm, 95, rfl⟩
abbrev main_while0b_call0_c_1 : Ref sig .tc := ⟨.hbm, 96, rfl⟩
abbrev main_while0b_call0_c_2 : Ref sig .tc := ⟨.hbm, 97, rfl⟩
abbrev main_while0b_call0_v0 : Ref sig .tc := ⟨.hbm, 98, rfl⟩
abbrev main_while0b_v100 : Ref sig .tc := ⟨.hbm, 99, rfl⟩
abbrev main_while0b_call1_c : Ref sig .tc := ⟨.hbm, 100, rfl⟩
abbrev main_while0b_call1_c_0 : Ref sig .tc := ⟨.hbm, 101, rfl⟩
abbrev main_while0b_call1_c_1 : Ref sig .tc := ⟨.hbm, 102, rfl⟩
abbrev main_while0b_call1_c_2 : Ref sig .tc := ⟨.hbm, 103, rfl⟩
abbrev main_while0b_call1_v0 : Ref sig .tc := ⟨.hbm, 104, rfl⟩
abbrev main_while0b_v101 : Ref sig .tc := ⟨.hbm, 105, rfl⟩
abbrev main_while0b_call2_c : Ref sig .tc := ⟨.hbm, 106, rfl⟩
abbrev main_while0b_call2_c_0 : Ref sig .tc := ⟨.hbm, 107, rfl⟩
abbrev main_while0b_call2_c_1 : Ref sig .tc := ⟨.hbm, 108, rfl⟩
abbrev main_while0b_call2_c_2 : Ref sig .tc := ⟨.hbm, 109, rfl⟩
abbrev main_while0b_call2_v0 : Ref sig .tc := ⟨.hbm, 110, rfl⟩
abbrev main_while0b_v102 : Ref sig .tc := ⟨.hbm, 111, rfl⟩
abbrev main_while0b_v103 : Ref sig .tc := ⟨.hbm, 112, rfl⟩
abbrev main_while0b_v104 : Ref sig .tc := ⟨.hbm, 113, rfl⟩
abbrev main_while0b_v105 : Ref sig .tc := ⟨.hbm, 114, rfl⟩
abbrev main_while0b_v106 : Ref sig .tc := ⟨.hbm, 115, rfl⟩
abbrev main_while0b_v107 : Ref sig .tc := ⟨.hbm, 116, rfl⟩
abbrev main_while0b_v108 : Ref sig .tc := ⟨.hbm, 117, rfl⟩
abbrev main_while0b_v109 : Ref sig .tc := ⟨.hbm, 118, rfl⟩
abbrev main_while0b_v110 : Ref sig .tc := ⟨.hbm, 119, rfl⟩
abbrev main_while0b_v111 : Ref sig .tc := ⟨.hbm, 120, rfl⟩
abbrev main_while0b_v112 : Ref sig .tc := ⟨.hbm, 121, rfl⟩
abbrev main_while0b_call3_v0 : Ref sig .tc := ⟨.hbm, 122, rfl⟩
abbrev main_while0b_call3_c : Ref sig .tc := ⟨.hbm, 123, rfl⟩
abbrev main_while0b_call3_c_0 : Ref sig .tc := ⟨.hbm, 124, rfl⟩
abbrev main_while0b_call3_c_1 : Ref sig .tc := ⟨.hbm, 125, rfl⟩
abbrev main_while0b_call3_c_2 : Ref sig .tc := ⟨.hbm, 126, rfl⟩
abbrev main_while0b_v113 : Ref sig .tc := ⟨.hbm, 127, rfl⟩
abbrev main_while0b_call4_v0 : Ref sig .tc := ⟨.hbm, 128, rfl⟩
abbrev main_while0b_call4_c : Ref sig .tc := ⟨.hbm, 129, rfl⟩
abbrev main_while0b_call4_c_0 : Ref sig .tc := ⟨.hbm, 130, rfl⟩
abbrev main_while0b_call4_c_1 : Ref sig .tc := ⟨.hbm, 131, rfl⟩
abbrev main_while0b_call4_c_2 : Ref sig .tc := ⟨.hbm, 132, rfl⟩
abbrev main_while0b_v114 : Ref sig .tc := ⟨.hbm, 133, rfl⟩
abbrev main_while0b_call5_v0 : Ref sig .tc := ⟨.hbm, 134, rfl⟩
abbrev main_while0b_call5_c : Ref sig .tc := ⟨.hbm, 135, rfl⟩
abbrev main_while0b_call5_c_0 : Ref sig .tc := ⟨.hbm, 136, rfl⟩
abbrev main_while0b_call5_c_1 : Ref sig .tc := ⟨.hbm, 137, rfl⟩
abbrev main_while0b_call5_c_2 : Ref sig .tc := ⟨.hbm, 138, rfl⟩
abbrev main_while0b_v115 : Ref sig .tc := ⟨.hbm, 139, rfl⟩
abbrev main_while0b_c_24 : Ref sig .tc := ⟨.hbm, 140, rfl⟩
abbrev main_while0b_v116 : Ref sig .tc := ⟨.hbm, 141, rfl⟩
abbrev main_v68 : Ref sig .tc := ⟨.hbm, 142, rfl⟩
abbrev main_v69 : Ref sig .tc := ⟨.hbm, 143, rfl⟩
abbrev main_v70 : Ref sig .tc := ⟨.hbm, 144, rfl⟩
abbrev main_v71 : Ref sig .tc := ⟨.hbm, 145, rfl⟩
abbrev main_cst_8 : Ref sig .tc := ⟨.hbm, 146, rfl⟩
abbrev main_v72 : Ref sig .tc := ⟨.hbm, 147, rfl⟩
abbrev main_v73 : Ref sig .tc := ⟨.hbm, 148, rfl⟩
abbrev main_v74 : Ref sig .tc := ⟨.hbm, 149, rfl⟩
abbrev main_v75 : Ref sig .tc := ⟨.hbm, 150, rfl⟩
abbrev main_cst_9 : Ref sig .tc := ⟨.hbm, 151, rfl⟩
abbrev main_v76 : Ref sig .tc := ⟨.hbm, 152, rfl⟩
abbrev main_cst_10 : Ref sig .tc := ⟨.hbm, 153, rfl⟩
abbrev main_v77 : Ref sig .tc := ⟨.hbm, 154, rfl⟩
abbrev main_cst_11 : Ref sig .tc := ⟨.hbm, 155, rfl⟩
abbrev main_v78 : Ref sig .tc := ⟨.hbm, 156, rfl⟩
abbrev main_cst_12 : Ref sig .tc := ⟨.hbm, 157, rfl⟩
abbrev main_v79 : Ref sig .tc := ⟨.hbm, 158, rfl⟩
abbrev main_c_13 : Ref sig .tc := ⟨.hbm, 159, rfl⟩
abbrev main_v80_0 : Ref sig .tc := ⟨.hbm, 160, rfl⟩
abbrev main_v80_1 : Ref sig .tc := ⟨.hbm, 161, rfl⟩
abbrev main_v80_2 : Ref sig .tc := ⟨.hbm, 162, rfl⟩
abbrev main_v80_3 : Ref sig .tc := ⟨.hbm, 163, rfl⟩
abbrev main_v80_4 : Ref sig .tc := ⟨.hbm, 164, rfl⟩
abbrev main_v80_5 : Ref sig .tc := ⟨.hbm, 165, rfl⟩
abbrev main_v80_6 : Ref sig .tc := ⟨.hbm, 166, rfl⟩
abbrev main_v80_7 : Ref sig .tc := ⟨.hbm, 167, rfl⟩
abbrev main_v80_8 : Ref sig .tc := ⟨.hbm, 168, rfl⟩
abbrev main_v80_9 : Ref sig .tc := ⟨.hbm, 169, rfl⟩
abbrev main_v80_10 : Ref sig .tc := ⟨.hbm, 170, rfl⟩
abbrev main_v80_11 : Ref sig .tc := ⟨.hbm, 171, rfl⟩
abbrev main_v80_12 : Ref sig .tc := ⟨.hbm, 172, rfl⟩
abbrev main_while1c_c_26 : Ref sig .tc := ⟨.hbm, 173, rfl⟩
abbrev main_while1c_v100 : Ref sig .tc := ⟨.hbm, 174, rfl⟩
abbrev main_while1b_c_26 : Ref sig .tc := ⟨.hbm, 175, rfl⟩
abbrev main_while1b_v100 : Ref sig .tc := ⟨.hbm, 176, rfl⟩
abbrev main_while1b_c_27 : Ref sig .tc := ⟨.hbm, 177, rfl⟩
abbrev main_while1b_v101 : Ref sig .tc := ⟨.hbm, 178, rfl⟩
abbrev main_while1b_call6_c : Ref sig .tc := ⟨.hbm, 179, rfl⟩
abbrev main_while1b_call6_c_0 : Ref sig .tc := ⟨.hbm, 180, rfl⟩
abbrev main_while1b_call6_c_1 : Ref sig .tc := ⟨.hbm, 181, rfl⟩
abbrev main_while1b_call6_c_2 : Ref sig .tc := ⟨.hbm, 182, rfl⟩
abbrev main_while1b_call6_v0 : Ref sig .tc := ⟨.hbm, 183, rfl⟩
abbrev main_while1b_v102 : Ref sig .tc := ⟨.hbm, 184, rfl⟩
abbrev main_while1b_call7_c : Ref sig .tc := ⟨.hbm, 185, rfl⟩
abbrev main_while1b_call7_c_0 : Ref sig .tc := ⟨.hbm, 186, rfl⟩
abbrev main_while1b_call7_c_1 : Ref sig .tc := ⟨.hbm, 187, rfl⟩
abbrev main_while1b_call7_c_2 : Ref sig .tc := ⟨.hbm, 188, rfl⟩
abbrev main_while1b_call7_v0 : Ref sig .tc := ⟨.hbm, 189, rfl⟩
abbrev main_while1b_v103 : Ref sig .tc := ⟨.hbm, 190, rfl⟩
abbrev main_while1b_call8_c : Ref sig .tc := ⟨.hbm, 191, rfl⟩
abbrev main_while1b_call8_c_0 : Ref sig .tc := ⟨.hbm, 192, rfl⟩
abbrev main_while1b_call8_c_1 : Ref sig .tc := ⟨.hbm, 193, rfl⟩
abbrev main_while1b_call8_c_2 : Ref sig .tc := ⟨.hbm, 194, rfl⟩
abbrev main_while1b_call8_v0 : Ref sig .tc := ⟨.hbm, 195, rfl⟩
abbrev main_while1b_v104 : Ref sig .tc := ⟨.hbm, 196, rfl⟩
abbrev main_while1b_call9_c : Ref sig .tc := ⟨.hbm, 197, rfl⟩
abbrev main_while1b_call9_c_0 : Ref sig .tc := ⟨.hbm, 198, rfl⟩
abbrev main_while1b_call9_c_1 : Ref sig .tc := ⟨.hbm, 199, rfl⟩
abbrev main_while1b_call9_c_2 : Ref sig .tc := ⟨.hbm, 200, rfl⟩
abbrev main_while1b_call9_v0 : Ref sig .tc := ⟨.hbm, 201, rfl⟩
abbrev main_while1b_v105 : Ref sig .tc := ⟨.hbm, 202, rfl⟩
abbrev main_while1b_call10_c : Ref sig .tc := ⟨.hbm, 203, rfl⟩
abbrev main_while1b_call10_c_0 : Ref sig .tc := ⟨.hbm, 204, rfl⟩
abbrev main_while1b_call10_c_1 : Ref sig .tc := ⟨.hbm, 205, rfl⟩
abbrev main_while1b_call10_c_2 : Ref sig .tc := ⟨.hbm, 206, rfl⟩
abbrev main_while1b_call10_v0 : Ref sig .tc := ⟨.hbm, 207, rfl⟩
abbrev main_while1b_v106 : Ref sig .tc := ⟨.hbm, 208, rfl⟩
abbrev main_while1b_v107 : Ref sig .tc := ⟨.hbm, 209, rfl⟩
abbrev main_while1b_v108 : Ref sig .tc := ⟨.hbm, 210, rfl⟩
abbrev main_while1b_v109 : Ref sig .tc := ⟨.hbm, 211, rfl⟩
abbrev main_while1b_v110 : Ref sig .tc := ⟨.hbm, 212, rfl⟩
abbrev main_while1b_v111 : Ref sig .tc := ⟨.hbm, 213, rfl⟩
abbrev main_while1b_v112 : Ref sig .tc := ⟨.hbm, 214, rfl⟩
abbrev main_while1b_v113 : Ref sig .tc := ⟨.hbm, 215, rfl⟩
abbrev main_while1b_v114 : Ref sig .tc := ⟨.hbm, 216, rfl⟩
abbrev main_while1b_v115 : Ref sig .tc := ⟨.hbm, 217, rfl⟩
abbrev main_while1b_v116 : Ref sig .tc := ⟨.hbm, 218, rfl⟩
abbrev main_while1b_v117 : Ref sig .tc := ⟨.hbm, 219, rfl⟩
abbrev main_while1b_v118 : Ref sig .tc := ⟨.hbm, 220, rfl⟩
abbrev main_while1b_v119 : Ref sig .tc := ⟨.hbm, 221, rfl⟩
abbrev main_while1b_v120 : Ref sig .tc := ⟨.hbm, 222, rfl⟩
abbrev main_while1b_v121 : Ref sig .tc := ⟨.hbm, 223, rfl⟩
abbrev main_while1b_v122 : Ref sig .tc := ⟨.hbm, 224, rfl⟩
abbrev main_while1b_call11_v0 : Ref sig .tc := ⟨.hbm, 225, rfl⟩
abbrev main_while1b_call11_c : Ref sig .tc := ⟨.hbm, 226, rfl⟩
abbrev main_while1b_call11_c_0 : Ref sig .tc := ⟨.hbm, 227, rfl⟩
abbrev main_while1b_call11_c_1 : Ref sig .tc := ⟨.hbm, 228, rfl⟩
abbrev main_while1b_call11_c_2 : Ref sig .tc := ⟨.hbm, 229, rfl⟩
abbrev main_while1b_v123 : Ref sig .tc := ⟨.hbm, 230, rfl⟩
abbrev main_while1b_call12_v0 : Ref sig .tc := ⟨.hbm, 231, rfl⟩
abbrev main_while1b_call12_c : Ref sig .tc := ⟨.hbm, 232, rfl⟩
abbrev main_while1b_call12_c_0 : Ref sig .tc := ⟨.hbm, 233, rfl⟩
abbrev main_while1b_call12_c_1 : Ref sig .tc := ⟨.hbm, 234, rfl⟩
abbrev main_while1b_call12_c_2 : Ref sig .tc := ⟨.hbm, 235, rfl⟩
abbrev main_while1b_v124 : Ref sig .tc := ⟨.hbm, 236, rfl⟩
abbrev main_while1b_call13_v0 : Ref sig .tc := ⟨.hbm, 237, rfl⟩
abbrev main_while1b_call13_c : Ref sig .tc := ⟨.hbm, 238, rfl⟩
abbrev main_while1b_call13_c_0 : Ref sig .tc := ⟨.hbm, 239, rfl⟩
abbrev main_while1b_call13_c_1 : Ref sig .tc := ⟨.hbm, 240, rfl⟩
abbrev main_while1b_call13_c_2 : Ref sig .tc := ⟨.hbm, 241, rfl⟩
abbrev main_while1b_v125 : Ref sig .tc := ⟨.hbm, 242, rfl⟩
abbrev main_while1b_c_28 : Ref sig .tc := ⟨.hbm, 243, rfl⟩
abbrev main_while1b_v126 : Ref sig .tc := ⟨.hbm, 244, rfl⟩
abbrev main_v81 : Ref sig .tc := ⟨.hbm, 245, rfl⟩
abbrev main_v82 : Ref sig .tc := ⟨.hbm, 246, rfl⟩
abbrev main_v83 : Ref sig .tc := ⟨.hbm, 247, rfl⟩
abbrev main_v84 : Ref sig .tc := ⟨.hbm, 248, rfl⟩
abbrev main_v85 : Ref sig .tc := ⟨.hbm, 249, rfl⟩
abbrev main_v86 : Ref sig .tc := ⟨.hbm, 250, rfl⟩
abbrev main_v87 : Ref sig .tc := ⟨.hbm, 251, rfl⟩
abbrev main_v88 : Ref sig .tc := ⟨.hbm, 252, rfl⟩
abbrev main_v89 : Ref sig .tc := ⟨.hbm, 253, rfl⟩
abbrev main_v90 : Ref sig .tc := ⟨.hbm, 254, rfl⟩
abbrev main_v91 : Ref sig .tc := ⟨.hbm, 255, rfl⟩
abbrev main_v92 : Ref sig .tc := ⟨.hbm, 256, rfl⟩
abbrev main_v93 : Ref sig .tc := ⟨.hbm, 257, rfl⟩
abbrev main_v94 : Ref sig .tc := ⟨.hbm, 258, rfl⟩
abbrev main_v95 : Ref sig .tc := ⟨.hbm, 259, rfl⟩
abbrev main_v96 : Ref sig .tc := ⟨.hbm, 260, rfl⟩
abbrev main_v97 : Ref sig .tc := ⟨.hbm, 261, rfl⟩
abbrev main_v98 : Ref sig .tc := ⟨.hbm, 262, rfl⟩
abbrev main_v99 : Ref sig .tc := ⟨.hbm, 263, rfl⟩

abbrev nD : Nat := 1
abbrev τ : Topo := Topo.v7x

variable {F : FTy → Type} [FloatOps F]

abbrev main_while0_count : Scf.Loop 32 := ⟨0#32, 64#32, 1#32⟩

abbrev main_while1_count : Scf.Loop 32 := ⟨0#32, 64#32, 1#32⟩
-- ==== KernelAct.lean ====
abbrev S4096x2048 : Shape := ⟨2, ![4096, 2048]⟩
abbrev S5632x2048 : Shape := ⟨2, ![5632, 2048]⟩
abbrev S4096x11264 : Shape := ⟨2, ![4096, 11264]⟩
abbrev S512x2048 : Shape := ⟨2, ![512, 2048]⟩
abbrev S1408x2048 : Shape := ⟨2, ![1408, 2048]⟩
abbrev S512x2816 : Shape := ⟨2, ![512, 2816]⟩
abbrev S512x1408 : Shape := ⟨2, ![512, 1408]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x11264, .bf16⟩
  | .hbm, ⟨3, _⟩ => ⟨S4096x11264, .bf16⟩
  | .local _ .vmem, ⟨0, _⟩ => ⟨S512x2048, .bf16⟩
  | .local _ .vmem, ⟨1, _⟩ => ⟨S512x2048, .bf16⟩
  | .local _ .vmem, ⟨2, _⟩ => ⟨S1408x2048, .bf16⟩
  | .local _ .vmem, ⟨3, _⟩ => ⟨S1408x2048, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceActIdeal.lean ====
abbrev S4096x2048 : Shape := ⟨2, ![4096, 2048]⟩
abbrev S5632x2048 : Shape := ⟨2, ![5632, 2048]⟩
abbrev S4096x11264 : Shape := ⟨2, ![4096, 11264]⟩
abbrev S4096x4x2x1408 : Shape := ⟨4, ![4096, 4, 2, 1408]⟩
abbrev S4096x4x1x1408 : Shape := ⟨4, ![4096, 4, 1, 1408]⟩
abbrev S4096x4x1408 : Shape := ⟨3, ![4096, 4, 1408]⟩
abbrev S4096x5632 : Shape := ⟨2, ![4096, 5632]⟩
abbrev S_ : Shape := ⟨0, ![]⟩
abbrev S2048x5632 : Shape := ⟨2, ![2048, 5632]⟩

abbrev nBuf : Space → Nat
  | .hbm => 44
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x11264, .bf16⟩
  | .hbm, ⟨3, _⟩ => ⟨S4096x2048, .f32⟩
  | .hbm, ⟨4, _⟩ => ⟨S5632x2048, .f32⟩
  | .hbm, ⟨5, _⟩ => ⟨S4096x11264, .f32⟩
  | .hbm, ⟨6, _⟩ => ⟨S4096x4x2x1408, .f32⟩
  | .hbm, ⟨7, _⟩ => ⟨S4096x4x1x1408, .f32⟩
  | .hbm, ⟨8, _⟩ => ⟨S4096x4x1408, .f32⟩
  | .hbm, ⟨9, _⟩ => ⟨S4096x5632, .f32⟩
  | .hbm, ⟨10, _⟩ => ⟨S4096x4x1x1408, .f32⟩
  | .hbm, ⟨11, _⟩ => ⟨S4096x4x1408, .f32⟩
  | .hbm, ⟨12, _⟩ => ⟨S4096x5632, .f32⟩
  | .hbm, ⟨13, _⟩ => ⟨S4096x5632, .f32⟩
  | .hbm, ⟨14, _⟩ => ⟨S4096x5632, .f32⟩
  | .hbm, ⟨15, _⟩ => ⟨S_, .f32⟩
  | .hbm, ⟨16, _⟩ => ⟨S4096x5632, .f32⟩
  | .hbm, ⟨17, _⟩ => ⟨S4096x5632, .f32⟩
  | .hbm, ⟨18, _⟩ => ⟨S_, .f32⟩
  | .hbm, ⟨19, _⟩ => ⟨S4096x5632, .f32⟩
  | .hbm, ⟨20, _⟩ => ⟨S4096x5632, .f32⟩
  | .hbm, ⟨21, _⟩ => ⟨S_, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S4096x2048, .f32⟩
  | .hbm, ⟨28, _⟩ => ⟨S2048x5632, .f32⟩
  | .hbm, ⟨29, _⟩ => ⟨S5632x2048, .f32⟩
  | .hbm, ⟨30, _⟩ => ⟨S4096x5632, .f32⟩
  | .hbm, ⟨31, _⟩ => ⟨S4096x5632, .f32⟩
  | .hbm, ⟨32, _⟩ => ⟨S4096x5632, .f32⟩
  | .hbm, ⟨33, _⟩ => ⟨S4096x5632, .f32⟩
  | .hbm, ⟨34, _⟩ => ⟨S4096x5632, .f32⟩
  | .hbm, ⟨35, _⟩ => ⟨S4096x5632, .f32⟩
  | .hbm, ⟨36, _⟩ => ⟨S4096x5632, .f32⟩
  | .hbm, ⟨37, _⟩ => ⟨S4096x4x1408, .f32⟩
  | .hbm, ⟨38, _⟩ => ⟨S4096x4x1408, .f32⟩
  | .hbm, ⟨39, _⟩ => ⟨S4096x4x1x1408, .f32⟩
  | .hbm, ⟨40, _⟩ => ⟨S4096x4x1x1408, .f32⟩
  | .hbm, ⟨41, _⟩ => ⟨S4096x4x2x1408, .f32⟩
  | .hbm, ⟨42, _⟩ => ⟨S4096x11264, .f32⟩
  | .hbm, ⟨43, _⟩ => ⟨S4096x11264, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_v10_2 : Ref sig .tc := ⟨.hbm, 20, rfl⟩
abbrev main_call0_cst_1 : Ref sig .tc := ⟨.hbm, 21, rfl⟩
abbrev main_call0_v6 : Ref sig .tc := ⟨.hbm, 22, rfl⟩
abbrev main_call0_v7 : Ref sig .tc := ⟨.hbm, 23, rfl⟩
abbrev main_v10_1 : Ref sig .tc := ⟨.hbm, 24, rfl⟩
abbrev main_v10_0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩

abbrev nD : Nat := 1
abbrev τ : Topo := Topo.v7x

variable {F : FTy → Type} [FloatOps F]
-- ==== KernelDwGu.lean ====
abbrev S4096x2048 : Shape := ⟨2, ![4096, 2048]⟩
abbrev S4096x11264 : Shape := ⟨2, ![4096, 11264]⟩
abbrev S2048x11264 : Shape := ⟨2, ![2048, 11264]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x11264, .bf16⟩
  | .hbm, ⟨2, _⟩ => ⟨S2048x11264, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwGuIdeal.lean ====
abbrev S4096x2048 : Shape := ⟨2, ![4096, 2048]⟩
abbrev S4096x11264 : Shape := ⟨2, ![4096, 11264]⟩
abbrev S_ : Shape := ⟨0, ![]⟩
abbrev S2048x11264 : Shape := ⟨2, ![2048, 11264]⟩
abbrev S11264x2048 : Shape := ⟨2, ![11264, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x11264, .bf16⟩
  | .hbm, ⟨2, _⟩ => ⟨S4096x2048, .f32⟩
  | .hbm, ⟨3, _⟩ => ⟨S4096x11264, .f32⟩
  | .hbm, ⟨4, _⟩ => ⟨S_, .f32⟩
  | .hbm, ⟨5, _⟩ => ⟨S2048x11264, .f32⟩
  | .hbm, ⟨6, _⟩ => ⟨S4096x11264, .f32⟩
  | .hbm, ⟨7, _⟩ => ⟨S11264x2048, .f32⟩
  | .hbm, ⟨8, _⟩ => ⟨S2048x11264, .f32⟩
  | .hbm, ⟨9, _⟩ => ⟨S2048x11264, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDx1.lean ====
abbrev S4096x11264 : Shape := ⟨2, ![4096, 11264]⟩
abbrev S2048x11264 : Shape := ⟨2, ![2048, 11264]⟩
abbrev S4096x2048 : Shape := ⟨2, ![4096, 2048]⟩
abbrev S1024x2816 : Shape := ⟨2, ![1024, 2816]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x11264, .bf16⟩
  | .hbm, ⟨1, _⟩ => ⟨S2048x11264, .bf16⟩
  | .hbm, ⟨2, _⟩ => ⟨S4096x2048, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDx1Ideal.lean ====
abbrev S4096x11264 : Shape := ⟨2, ![4096, 11264]⟩
abbrev S2048x11264 : Shape := ⟨2, ![2048, 11264]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S2048x11264, .bf16⟩
  | .hbm, ⟨2, _⟩ => ⟨S4096x11264, .f32⟩
  | .hbm, ⟨3, _⟩ => ⟨S2048x11264, .f32⟩
  | .hbm, ⟨4, _⟩ => ⟨S_, .f32⟩
  | .hbm, ⟨5, _⟩ => ⟨S4096x2048, .f32⟩
  | .hbm, ⟨6, _⟩ => ⟨S4096x11264, .f32⟩
  | .hbm, ⟨7, _⟩ => ⟨S4096x2048, .f32⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelDwDown.lean ====
abbrev S4096x5632 : Shape := ⟨2, ![4096, 5632]⟩
abbrev S4096x2048 : Shape := ⟨2, ![4096, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwDownIdeal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S4096x5632, .f32⟩
  | .hbm, ⟨3, _⟩ => ⟨S4096x2048, .f32⟩
  | .hbm, ⟨4, _⟩ => ⟨S_, .f32⟩
  | .hbm, ⟨5, _⟩ => ⟨S5632x2048, .f32⟩
  | .hbm, ⟨6, _⟩ => ⟨S4096x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDwIn.lean ====
abbrev S4096x2048 : Shape := ⟨2, ![4096, 2048]⟩
abbrev S4096x5120 : Shape := ⟨2, ![4096, 5120]⟩
abbrev S2048x5120 : Shape := ⟨2, ![2048, 5120]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x5120, .bf16⟩
  | .hbm, ⟨2, _⟩ => ⟨S2048x5120, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 5, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwInIdeal.lean ====
abbrev S4096x2048 : Shape := ⟨2, ![4096, 2048]⟩
abbrev S4096x5120 : Shape := ⟨2, ![4096, 5120]⟩
abbrev S_ : Shape := ⟨0, ![]⟩
abbrev S2048x5120 : Shape := ⟨2, ![2048, 5120]⟩
abbrev S5120x2048 : Shape := ⟨2, ![5120, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x5120, .bf16⟩
  | .hbm, ⟨2, _⟩ => ⟨S4096x2048, .f32⟩
  | .hbm, ⟨3, _⟩ => ⟨S4096x5120, .f32⟩
  | .hbm, ⟨4, _⟩ => ⟨S_, .f32⟩
  | .hbm, ⟨5, _⟩ => ⟨S2048x5120, .f32⟩
  | .hbm, ⟨6, _⟩ => ⟨S4096x5120, .f32⟩
  | .hbm, ⟨7, _⟩ => ⟨S5120x2048, .f32⟩
  | .hbm, ⟨8, _⟩ => ⟨S2048x5120, .f32⟩
  | .hbm, ⟨9, _⟩ => ⟨S2048x5120, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDxl.lean ====
abbrev S4096x5120 : Shape := ⟨2, ![4096, 5120]⟩
abbrev S2048x5120 : Shape := ⟨2, ![2048, 5120]⟩
abbrev S4096x2048 : Shape := ⟨2, ![4096, 2048]⟩
abbrev S1024x2560 : Shape := ⟨2, ![1024, 2560]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5120, .bf16⟩
  | .hbm, ⟨1, _⟩ => ⟨S2048x5120, .bf16⟩
  | .hbm, ⟨2, _⟩ => ⟨S4096x2048, .f32⟩
  | .local _ .vmem, ⟨0, _⟩ => ⟨S1024x2560, .bf16⟩
  | .local _ .vmem, ⟨1, _⟩ => ⟨S1024x2560, .bf16⟩
  | .local _ .vmem, ⟨2, _⟩ => ⟨S1024x2560, .bf16⟩
  | .local _ .vmem, ⟨3, _⟩ => ⟨S1024x2560, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDxlIdeal.lean ====
abbrev S4096x5120 : Shape := ⟨2, ![4096, 5120]⟩
abbrev S2048x5120 : Shape := ⟨2, ![2048, 5120]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x5120, .bf16⟩
  | .hbm, ⟨1, _⟩ => ⟨S2048x5120, .bf16⟩
  | .hbm, ⟨2, _⟩ => ⟨S4096x5120, .f32⟩
  | .hbm, ⟨3, _⟩ => ⟨S2048x5120, .f32⟩
  | .hbm, ⟨4, _⟩ => ⟨S_, .f32⟩
  | .hbm, ⟨5, _⟩ => ⟨S4096x2048, .f32⟩
  | .hbm, ⟨6, _⟩ => ⟨S4096x5120, .f32⟩
  | .hbm, ⟨7, _⟩ => ⟨S4096x2048, .f32⟩
  | _, _ => ⟨S4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelDwOut.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwOutIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S2048x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDmixin.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDmixinIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelDwUq.lean ====
abbrev S4096x512 : Shape := ⟨2, ![4096, 512]⟩
abbrev S4096x2048 : Shape := ⟨2, ![4096, 2048]⟩
abbrev S512x2048 : Shape := ⟨2, ![512, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x512, .bf16⟩
  | .hbm, ⟨1, _⟩ => ⟨S4096x2048, .bf16⟩
  | .hbm, ⟨2, _⟩ => ⟨S512x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwUqIdeal.lean ====
abbrev S4096x512 : Shape := ⟨2, ![4096, 512]⟩
abbrev S4096x2048 : Shape := ⟨2, ![4096, 2048]⟩
abbrev S_ : Shape := ⟨0, ![]⟩
abbrev S512x2048 : Shape := ⟨2, ![512, 2048]⟩
abbrev S2048x512 : Shape := ⟨2, ![2048, 512]⟩

abbrev nBuf : Space → Nat
  | .hbm => 10
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x2048, .bf16⟩
  | .hbm, ⟨2, _⟩ => ⟨S4096x512, .f32⟩
  | .hbm, ⟨3, _⟩ => ⟨S4096x2048, .f32⟩
  | .hbm, ⟨4, _⟩ => ⟨S_, .f32⟩
  | .hbm, ⟨5, _⟩ => ⟨S512x2048, .f32⟩
  | .hbm, ⟨6, _⟩ => ⟨S4096x2048, .f32⟩
  | .hbm, ⟨7, _⟩ => ⟨S2048x512, .f32⟩
  | .hbm, ⟨8, _⟩ => ⟨S512x2048, .f32⟩
  | .hbm, ⟨9, _⟩ => ⟨S512x2048, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDqn.lean ====
abbrev S4096x2048 : Shape := ⟨2, ![4096, 2048]⟩
abbrev S512x2048 : Shape := ⟨2, ![512, 2048]⟩
abbrev S4096x512 : Shape := ⟨2, ![4096, 512]⟩
abbrev S1024x2048 : Shape := ⟨2, ![1024, 2048]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S512x2048, .bf16⟩
  | .hbm, ⟨2, _⟩ => ⟨S4096x512, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDqnIdeal.lean ====
abbrev S4096x2048 : Shape := ⟨2, ![4096, 2048]⟩
abbrev S512x2048 : Shape := ⟨2, ![512, 2048]⟩
abbrev S_ : Shape := ⟨0, ![]⟩
abbrev S4096x512 : Shape := ⟨2, ![4096, 512]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S512x2048, .bf16⟩
  | .hbm, ⟨2, _⟩ => ⟨S4096x2048, .f32⟩
  | .hbm, ⟨3, _⟩ => ⟨S512x2048, .f32⟩
  | .hbm, ⟨4, _⟩ => ⟨S_, .f32⟩
  | .hbm, ⟨5, _⟩ => ⟨S4096x512, .f32⟩
  | .hbm, ⟨6, _⟩ => ⟨S4096x2048, .f32⟩
  | .hbm, ⟨7, _⟩ => ⟨S4096x512, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelDwUkv.lean ====
abbrev S4096x256 : Shape := ⟨2, ![4096, 256]⟩
abbrev S4096x2048 : Shape := ⟨2, ![4096, 2048]⟩
abbrev S256x2048 : Shape := ⟨2, ![256, 2048]⟩
abbrev S2048x256 : Shape := ⟨2, ![2048, 256]⟩
abbrev S2048x1024 : Shape := ⟨2, ![2048, 1024]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x256, .bf16⟩
  | .hbm, ⟨1, _⟩ => ⟨S4096x2048, .bf16⟩
  | .hbm, ⟨2, _⟩ => ⟨S256x2048, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwUkvIdeal.lean ====
abbrev S4096x256 : Shape := ⟨2, ![4096, 256]⟩
abbrev S4096x2048 : Shape := ⟨2, ![4096, 2048]⟩
abbrev S_ : Shape := ⟨0, ![]⟩
abbrev S256x2048 : Shape := ⟨2, ![256, 2048]⟩
abbrev S2048x256 : Shape := ⟨2, ![2048, 256]⟩

abbrev nBuf : Space → Nat
  | .hbm => 10
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S4096x2048, .bf16⟩
  | .hbm, ⟨2, _⟩ => ⟨S4096x256, .f32⟩
  | .hbm, ⟨3, _⟩ => ⟨S4096x2048, .f32⟩
  | .hbm, ⟨4, _⟩ => ⟨S_, .f32⟩
  | .hbm, ⟨5, _⟩ => ⟨S256x2048, .f32⟩
  | .hbm, ⟨6, _⟩ => ⟨S4096x2048, .f32⟩
  | .hbm, ⟨7, _⟩ => ⟨S2048x256, .f32⟩
  | .hbm, ⟨8, _⟩ => ⟨S256x2048, .f32⟩
  | .hbm, ⟨9, _⟩ => ⟨S256x2048, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDkvn.lean ====
abbrev S4096x2048 : Shape := ⟨2, ![4096, 2048]⟩
abbrev S256x2048 : Shape := ⟨2, ![256, 2048]⟩
abbrev S4096x256 : Shape := ⟨2, ![4096, 256]⟩
abbrev S1024x2048 : Shape := ⟨2, ![1024, 2048]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S256x2048, .bf16⟩
  | .hbm, ⟨2, _⟩ => ⟨S4096x256, .f32⟩
  | .local _ .vmem, ⟨0, _⟩ => ⟨S1024x2048, .bf16⟩
  | .local _ .vmem, ⟨1, _⟩ => ⟨S1024x2048, .bf16⟩
  | .local _ .vmem, ⟨2, _⟩ => ⟨S256x2048, .bf16⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDkvnIdeal.lean ====
abbrev S4096x2048 : Shape := ⟨2, ![4096, 2048]⟩
abbrev S256x2048 : Shape := ⟨2, ![256, 2048]⟩
abbrev S_ : Shape := ⟨0, ![]⟩
abbrev S4096x256 : Shape := ⟨2, ![4096, 256]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S256x2048, .bf16⟩
  | .hbm, ⟨2, _⟩ => ⟨S4096x2048, .f32⟩
  | .hbm, ⟨3, _⟩ => ⟨S256x2048, .f32⟩
  | .hbm, ⟨4, _⟩ => ⟨S_, .f32⟩
  | .hbm, ⟨5, _⟩ => ⟨S4096x256, .f32⟩
  | .hbm, ⟨6, _⟩ => ⟨S4096x2048, .f32⟩
  | .hbm, ⟨7, _⟩ => ⟨S4096x256, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelGu.lean ====
abbrev S4096x2048 : Shape := ⟨2, ![4096, 2048]⟩
abbrev S2048x11264 : Shape := ⟨2, ![2048, 11264]⟩
abbrev S4096x11264 : Shape := ⟨2, ![4096, 11264]⟩
abbrev S4096x5632 : Shape := ⟨2, ![4096, 5632]⟩
abbrev S512x2048 : Shape := ⟨2, ![512, 2048]⟩
abbrev S2048x2816 : Shape := ⟨2, ![2048, 2816]⟩
abbrev S512x2816 : Shape := ⟨2, ![512, 2816]⟩
abbrev S512x1408 : Shape := ⟨2, ![512, 1408]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .bf16⟩
  | .hbm, ⟨2, _⟩ => ⟨S4096x11264, .bf16⟩
  | .hbm, ⟨3, _⟩ => ⟨S4096x5632, .bf16⟩
  | .local _ .vmem, ⟨0, _⟩ => ⟨S512x2048, .bf16⟩
  | .local _ .vmem, ⟨1, _⟩ => ⟨S512x2048, .bf16⟩
  | .local _ .vmem, ⟨2, _⟩ => ⟨S2048x2816, .bf16⟩
  | .local _ .vmem, ⟨3, _⟩ => ⟨S2048x2816, .bf16⟩
  | .local _ .vmem, ⟨4, _⟩ => ⟨S512x2816, .bf16⟩
  | .local _ .vmem, ⟨5, _⟩ => ⟨S512x2816, .bf16⟩
  | .local _ .vmem, ⟨6, _⟩ => ⟨S512x1408, .bf16⟩
  | .local _ .vmem, ⟨7, _⟩ => ⟨S512x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceGuIdeal.lean ====
abbrev S4096x2048 : Shape := ⟨2, ![4096, 2048]⟩
abbrev S2048x11264 : Shape := ⟨2, ![2048, 11264]⟩
abbrev S2048x4x2x1408 : Shape := ⟨4, ![2048, 4, 2, 1408]⟩
abbrev S2048x4x1x1408 : Shape := ⟨4, ![2048, 4, 1, 1408]⟩
abbrev S2048x4x1408 : Shape := ⟨3, ![2048, 4, 1408]⟩
abbrev S2048x5632 : Shape := ⟨2, ![2048, 5632]⟩
abbrev S4096x5632 : Shape := ⟨2, ![4096, 5632]⟩
abbrev S4096x4x1408 : Shape := ⟨3, ![4096, 4, 1408]⟩
abbrev S4096x4x1x1408 : Shape := ⟨4, ![4096, 4, 1, 1408]⟩
abbrev S4096x4x2x1408 : Shape := ⟨4, ![4096, 4, 2, 1408]⟩
abbrev S4096x11264 : Shape := ⟨2, ![4096, 11264]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .bf16⟩
  | .hbm, ⟨2, _⟩ => ⟨S4096x2048, .f32⟩
  | .hbm, ⟨3, _⟩ => ⟨S2048x11264, .f32⟩
  | .hbm, ⟨4, _⟩ => ⟨S2048x4x2x1408, .f32⟩
  | .hbm, ⟨5, _⟩ => ⟨S2048x4x1x1408, .f32⟩
  | .hbm, ⟨6, _⟩ => ⟨S2048x4x1408, .f32⟩
  | .hbm, ⟨7, _⟩ => ⟨S2048x5632, .f32⟩
  | .hbm, ⟨8, _⟩ => ⟨S4096x5632, .f32⟩
  | .hbm, ⟨9, _⟩ => ⟨S2048x4x1x1408, .f32⟩
  | .hbm, ⟨10, _⟩ => ⟨S2048x4x1408, .f32⟩
  | .hbm, ⟨11, _⟩ => ⟨S2048x5632, .f32⟩
  | .hbm, ⟨12, _⟩ => ⟨S4096x5632, .f32⟩
  | .hbm, ⟨13, _⟩ => ⟨S4096x4x1408, .f32⟩
  | .hbm, ⟨14, _⟩ => ⟨S4096x4x1408, .f32⟩
  | .hbm, ⟨15, _⟩ => ⟨S4096x4x1x1408, .f32⟩
  | .hbm, ⟨16, _⟩ => ⟨S4096x4x1x1408, .f32⟩
  | .hbm, ⟨17, _⟩ => ⟨S4096x4x2x1408, .f32⟩
  | .hbm, ⟨18, _⟩ => ⟨S4096x11264, .f32⟩
  | .hbm, ⟨19, _⟩ => ⟨S4096x11264, .bf16⟩
  | .hbm, ⟨20, _⟩ => ⟨S4096x5632, .f32⟩
  | .hbm, ⟨21, _⟩ => ⟨S4096x5632, .f32⟩
  | .hbm, ⟨22, _⟩ => ⟨S_, .f32⟩
  | .hbm, ⟨23, _⟩ => ⟨S4096x5632, .f32⟩
  | .hbm, ⟨24, _⟩ => ⟨S4096x5632, .f32⟩
  | .hbm, ⟨25, _⟩ => ⟨S_, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S4096x5632, .f32⟩
  | .hbm, ⟨30, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_call0_v5 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== KernelDown.lean ====
abbrev S4096x5632 : Shape := ⟨2, ![4096, 5632]⟩
abbrev S5632x2048 : Shape := ⟨2, ![5632, 2048]⟩
abbrev S4096x2048 : Shape := ⟨2, ![4096, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDownIdeal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x5632, .f32⟩
  | .hbm, ⟨3, _⟩ => ⟨S5632x2048, .f32⟩
  | .hbm, ⟨4, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelH.lean ====
abbrev S4096x2048 : Shape := ⟨2, ![4096, 2048]⟩
abbrev S2048x5120 : Shape := ⟨2, ![2048, 5120]⟩
abbrev S4096x5120 : Shape := ⟨2, ![4096, 5120]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x5120, .bf16⟩
  | .hbm, ⟨2, _⟩ => ⟨S4096x5120, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceHIdeal.lean ====
abbrev S4096x2048 : Shape := ⟨2, ![4096, 2048]⟩
abbrev S2048x5120 : Shape := ⟨2, ![2048, 5120]⟩
abbrev S4096x5120 : Shape := ⟨2, ![4096, 5120]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x5120, .bf16⟩
  | .hbm, ⟨2, _⟩ => ⟨S4096x2048, .f32⟩
  | .hbm, ⟨3, _⟩ => ⟨S2048x5120, .f32⟩
  | .hbm, ⟨4, _⟩ => ⟨S4096x5120, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelQ.lean ====
abbrev S4096x512 : Shape := ⟨2, ![4096, 512]⟩
abbrev S512x2048 : Shape := ⟨2, ![512, 2048]⟩
abbrev S4096x2048 : Shape := ⟨2, ![4096, 2048]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x512, .bf16⟩
  | .hbm, ⟨1, _⟩ => ⟨S512x2048, .bf16⟩
  | .hbm, ⟨2, _⟩ => ⟨S4096x2048, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceQIdeal.lean ====
abbrev S4096x512 : Shape := ⟨2, ![4096, 512]⟩
abbrev S512x2048 : Shape := ⟨2, ![512, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x2048, .bf16⟩
  | .hbm, ⟨2, _⟩ => ⟨S4096x512, .f32⟩
  | .hbm, ⟨3, _⟩ => ⟨S512x2048, .f32⟩
  | .hbm, ⟨4, _⟩ => ⟨S4096x2048, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelKv.lean ====
abbrev S4096x256 : Shape := ⟨2, ![4096, 256]⟩
abbrev S256x2048 : Shape := ⟨2, ![256, 2048]⟩
abbrev S4096x2048 : Shape := ⟨2, ![4096, 2048]⟩
abbrev S1024x256 : Shape := ⟨2, ![1024, 256]⟩
abbrev S256x1024 : Shape := ⟨2, ![256, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x256, .bf16⟩
  | .hbm, ⟨1, _⟩ => ⟨S256x2048, .bf16⟩
  | .hbm, ⟨2, _⟩ => ⟨S4096x2048, .f32⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S256x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceKvIdeal.lean ====
abbrev S4096x256 : Shape := ⟨2, ![4096, 256]⟩
abbrev S256x2048 : Shape := ⟨2, ![256, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S256x2048, .bf16⟩
  | .hbm, ⟨2, _⟩ => ⟨S4096x256, .f32⟩
  | .hbm, ⟨3, _⟩ => ⟨S256x2048, .f32⟩
  | .hbm, ⟨4, _⟩ => ⟨S4096x2048, .f32⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelMix.lean ====
abbrev S4096x2048 : Shape := ⟨2, ![4096, 2048]⟩
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 13
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S4096x2048, .f32⟩
  | .hbm, ⟨6, _⟩ => ⟨S4096x2048, .f32⟩
  | .hbm, ⟨7, _⟩ => ⟨S4096x2048, .bf16⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceMixIdeal.lean ====
abbrev S4096x2048 : Shape := ⟨2, ![4096, 2048]⟩
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S4096 : Shape := ⟨1, ![4096]⟩
abbrev S4096x1 : Shape := ⟨2, ![4096, 1]⟩

abbrev nBuf : Space → Nat
  | .hbm => 44
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S2048x2048, .f32⟩
  | .hbm, ⟨10, _⟩ => ⟨S4096x2048, .f32⟩
  | .hbm, ⟨11, _⟩ => ⟨S4096x2048, .f32⟩
  | .hbm, ⟨12, _⟩ => ⟨S2048, .f32⟩
  | .hbm, ⟨13, _⟩ => ⟨S2048, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x2048, .f32⟩
  | .hbm, ⟨36, _⟩ => ⟨S4096x2048, .f32⟩
  | .hbm, ⟨37, _⟩ => ⟨S1x2048, .f32⟩
  | .hbm, ⟨38, _⟩ => ⟨S4096x2048, .f32⟩
  | .hbm, ⟨39, _⟩ => ⟨S4096x2048, .f32⟩
  | .hbm, ⟨40, _⟩ => ⟨S1x2048, .f32⟩
  | .hbm, ⟨41, _⟩ => ⟨S4096x2048, .f32⟩
  | .hbm, ⟨42, _⟩ => ⟨S4096x2048, .f32⟩
  | .hbm, ⟨43, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== KernelNorm.lean ====
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S4096x2048, .f32⟩
  | .hbm, ⟨6, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceNormIdeal.lean ====
abbrev S4096x2048 : Shape := ⟨2, ![4096, 2048]⟩
abbrev S1x2048 : Shape := ⟨2, ![1, 2048]⟩
abbrev S_ : Shape := ⟨0, ![]⟩
abbrev S2048 : Shape := ⟨1, ![2048]⟩
abbrev S4096 : Shape := ⟨1, ![4096]⟩
abbrev S4096x1 : Shape := ⟨2, ![4096, 1]⟩

abbrev nBuf : Space → Nat
  | .hbm => 40
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S2048, .f32⟩
  | .hbm, ⟨9, _⟩ => ⟨S2048, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x2048, .f32⟩
  | .hbm, ⟨32, _⟩ => ⟨S4096x2048, .f32⟩
  | .hbm, ⟨33, _⟩ => ⟨S1x2048, .f32⟩
  | .hbm, ⟨34, _⟩ => ⟨S4096x2048, .f32⟩
  | .hbm, ⟨35, _⟩ => ⟨S4096x2048, .f32⟩
  | .hbm, ⟨36, _⟩ => ⟨S1x2048, .f32⟩
  | .hbm, ⟨37, _⟩ => ⟨S4096x2048, .f32⟩
  | .hbm, ⟨38, _⟩ => ⟨S4096x2048, .f32⟩
  | .hbm, ⟨39, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== KernelRet.lean ====
abbrev S4096x1024 : Shape := ⟨2, ![4096, 1024]⟩
abbrev S4 : Shape := ⟨1, ![4]⟩
abbrev S_ : Shape := ⟨0, ![]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S4x1x1 : Shape := ⟨3, ![4, 1, 1]⟩
abbrev S1x512x512 : Shape := ⟨3, ![1, 512, 512]⟩
abbrev S4x512x512 : Shape := ⟨3, ![4, 512, 512]⟩
abbrev S4x1x128 : Shape := ⟨3, ![4, 1, 128]⟩
abbrev S512x256 : Shape := ⟨2, ![512, 256]⟩
abbrev S4096x256 : Shape := ⟨2, ![4096, 256]⟩
abbrev S1x1x128 : Shape := ⟨3, ![1, 1, 128]⟩
abbrev S1x128 : Shape := ⟨2, ![1, 128]⟩

abbrev nBuf : Space → Nat
  | .hbm => 63
  | .vmem => 15
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4, .f32⟩
  | .hbm, ⟨4, _⟩ => ⟨S_, .f32⟩
  | .hbm, ⟨5, _⟩ => ⟨S4, .f32⟩
  | .hbm, ⟨6, _⟩ => ⟨S4, .f32⟩
  | .hbm, ⟨7, _⟩ => ⟨S_, .f32⟩
  | .hbm, ⟨8, _⟩ => ⟨S4, .f32⟩
  | .hbm, ⟨9, _⟩ => ⟨S4, .f32⟩
  | .hbm, ⟨10, _⟩ => ⟨S4, .f32⟩
  | .hbm, ⟨11, _⟩ => ⟨S4, .f32⟩
  | .hbm, ⟨12, _⟩ => ⟨S4, .f32⟩
  | .hbm, ⟨13, _⟩ => ⟨S512, .f32⟩
  | .hbm, ⟨14, _⟩ => ⟨S512x1, .f32⟩
  | .hbm, ⟨15, _⟩ => ⟨S1x512, .f32⟩
  | .hbm, ⟨16, _⟩ => ⟨S512x512, .f32⟩
  | .hbm, ⟨17, _⟩ => ⟨S512x512, .f32⟩
  | .hbm, ⟨18, _⟩ => ⟨S512x512, .f32⟩
  | .hbm, ⟨19, _⟩ => ⟨S4x1x1, .f32⟩
  | .hbm, ⟨20, _⟩ => ⟨S1x512x512, .f32⟩
  | .hbm, ⟨21, _⟩ => ⟨S4x512x512, .f32⟩
  | .hbm, ⟨22, _⟩ => ⟨S4x512x512, .f32⟩
  | .hbm, ⟨23, _⟩ => ⟨S4x512x512, .f32⟩
  | .hbm, ⟨24, _⟩ => ⟨S4x512x512, .f32⟩
  | .hbm, ⟨25, _⟩ => ⟨S512, .i32⟩
  | .hbm, ⟨26, _⟩ => ⟨S_, .i32⟩
  | .hbm, ⟨27, _⟩ => ⟨S_, .i32⟩
  | .hbm, ⟨28, _⟩ => ⟨S512, .i32⟩
  | .hbm, ⟨29, _⟩ => ⟨S512, .i32⟩
  | .hbm, ⟨30, _⟩ => ⟨S512, .i32⟩
  | .hbm, ⟨31, _⟩ => ⟨S_, .i32⟩
  | .hbm, ⟨32, _⟩ => ⟨S512, .i32⟩
  | .hbm, ⟨33, _⟩ => ⟨S512, .i1⟩
  | .hbm, ⟨34, _⟩ => ⟨S512, .i32⟩
  | .hbm, ⟨35, _⟩ => ⟨S512, .i32⟩
  | .hbm, ⟨36, _⟩ => ⟨S_, .i32⟩
  | .hbm, ⟨37, _⟩ => ⟨S512, .i32⟩
  | .hbm, ⟨38, _⟩ => ⟨S512, .i1⟩
  | .hbm, ⟨39, _⟩ => ⟨S512, .i1⟩
  | .hbm, ⟨40, _⟩ => ⟨S_, .i32⟩
  | .hbm, ⟨41, _⟩ => ⟨S512, .i32⟩
  | .hbm, ⟨42, _⟩ => ⟨S512, .i32⟩
  | .hbm, ⟨43, _⟩ => ⟨S512, .i32⟩
  | .hbm, ⟨44, _⟩ => ⟨S512x1, .i32⟩
  | .hbm, ⟨45, _⟩ => ⟨S1x512, .i32⟩
  | .hbm, ⟨46, _⟩ => ⟨S512x512, .i32⟩
  | .hbm, ⟨47, _⟩ => ⟨S512x512, .i32⟩
  | .hbm, ⟨48, _⟩ => ⟨S512x512, .i1⟩
  | .hbm, ⟨49, _⟩ => ⟨S512x512, .f32⟩
  | .hbm, ⟨50, _⟩ => ⟨S4x1x1, .f32⟩
  | .hbm, ⟨51, _⟩ => ⟨S512x512, .f32⟩
  | .hbm, ⟨52, _⟩ => ⟨S1x512x512, .f32⟩
  | .hbm, ⟨53, _⟩ => ⟨S4x512x512, .f32⟩
  | .hbm, ⟨54, _⟩ => ⟨S4x512x512, .f32⟩
  | .hbm, ⟨55, _⟩ => ⟨S4x512x512, .f32⟩
  | .hbm, ⟨56, _⟩ => ⟨S4x512x512, .f32⟩
  | .hbm, ⟨57, _⟩ => ⟨S1x512x512, .f32⟩
  | .hbm, ⟨58, _⟩ => ⟨S4x512x512, .f32⟩
  | .hbm, ⟨59, _⟩ => ⟨S4x512x512, .f32⟩
  | .hbm, ⟨60, _⟩ => ⟨S4x1x1, .f32⟩
  | .hbm, ⟨61, _⟩ => ⟨S4x1x128, .f32⟩
  | .hbm, ⟨62, _⟩ => ⟨S4096x1024, .f32⟩
  | .local _ .vmem, ⟨0, _⟩ => ⟨S512x256, .bf16⟩
  | .local _ .vmem, ⟨1, _⟩ => ⟨S512x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S1x1x128, .f32⟩
  | .local _ .vmem, ⟨7, _⟩ => ⟨S1x1x128, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_c : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_c : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_0 : Ref sig .tc := ⟨.hbm, 40, rfl⟩
abbrev main_call0_v12 : Ref sig .tc := ⟨.hbm, 41, rfl⟩
abbrev main_call0_v13 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c512_i32 : BitVec 32 := 512#32
  let v1 : BitVec 32 := Scalar.muli arg1 c512_i32
  v1
def k0_off1 (i : grid0.Coords) : Fin 2 → Nat :=
  let arg1 : BitVec 32 := BitVec.ofNat 32 (i 1).val
  let c512_i32 : BitVec 32 := 512#32
  let v1 : BitVec 32 := Scalar.muli arg1 c512_i32
  let v2 : BitVec 32 := v1
  let v3 : Index := Scalar.indexCast v2
  let c0_1 : Index := 0#32
  ![v3.toNat, 0]
@[reducible] def k0_t1_loop (i : grid0.Coords) : Scf.Loop 32 :=
  let c0_i32_14 : BitVec 32 := 0#32
  let arg1 : BitVec 32 := BitVec.ofNat 32 (i 1).val
  let c0_i32 : BitVec 32 := 0#32
  let v17 : BitVec 1 := Scalar.cmpi .sgt arg1 c0_i32
  let v18 : BitVec 32 := Scalar.extui v17
  let c0_i32_9 : BitVec 32 := 0#32
  let v19 : BitVec 1 := Scalar.cmpi .slt arg1 c0_i32_9
  let v20 : BitVec 32 := Scalar.extui v19
  let v21 : BitVec 32 := Scalar.subi v18 v20
  let c2_i32 : BitVec 32 := 2#32
  let c0_i32_10 : BitVec 32 := 0#32
  let v22 : BitVec 1 := Scalar.cmpi .sgt c2_i32 c0_i32_10
  let v23 : BitVec 32 := Scalar.extui v22
  let c0_i32_11 : BitVec 32 := 0#32
  let v24 : BitVec 1 := Scalar.cmpi .slt c2_i32 c0_i32_11
  let v25 : BitVec 32 := Scalar.extui v24
  let v26 : BitVec 32 := Scalar.subi v23 v25
  let v27 : BitVec 1 := Scalar.cmpi .ne v21 v26
  let v28 : BitVec 32 := Scalar.remsi arg1 c2_i32
  let c0_i32_12 : BitVec 32 := 0#32
  let v29 : BitVec 1 := Scalar.cmpi .ne v28 c0_i32_12
  let v30 : BitVec 1 := Scalar.andi v27 v29
  let v16 : BitVec 32 := Scalar.divsi arg1 c2_i32
  let c1_i32 : BitVec 32 := 1#32
  let v31 : BitVec 32 := Scalar.subi v16 c1_i32
  let v32 : BitVec 32 := Scalar.select v30 v31 v16
  let v33 : BitVec 32 := Scalar.subi v32 c0_i32_14
  let c1_i32_15 : BitVec 32 := 1#32
  let v35 : BitVec 32 := Scalar.divsi v33 c1_i32_15
  let v36 : BitVec 32 := Scalar.muli v35 c1_i32_15
  let v37 : BitVec 32 := Scalar.addi c0_i32_14 v36
  let c1_i32_16 : BitVec 32 := 1#32
  ⟨c0_i32_14, v37, c1_i32_16⟩
def k0_mult2 (i : grid0.Coords) (k0_t1 : Fin (k0_t1_loop i).trips) : BitVec 32 :=
  let c2_i32_30 : BitVec 32 := 2#32
  let c0_i32_14 : BitVec 32 := 0#32
  let c1_i32_16 : BitVec 32 := 1#32
  let arg10 : BitVec 32 := Scf.iv c0_i32_14 c1_i32_16 k0_t1
  let v53 : BitVec 32 := Scalar.muli c2_i32_30 arg10
  let c512_i32_31 : BitVec 32 := 512#32
  let v54 : BitVec 32 := Scalar.muli v53 c512_i32_31
  v54
def k0_off2 (i : grid0.Coords) (k0_t1 : Fin (k0_t1_loop i).trips) : Fin 2 → Nat :=
  let c2_i32_30 : BitVec 32 := 2#32
  let c0_i32_14 : BitVec 32 := 0#32
  let c1_i32_16 : BitVec 32 := 1#32
  let arg10 : BitVec 32 := Scf.iv c0_i32_14 c1_i32_16 k0_t1
  let v53 : BitVec 32 := Scalar.muli c2_i32_30 arg10
  let c512_i32_31 : BitVec 32 := 512#32
  let v54 : BitVec 32 := Scalar.muli v53 c512_i32_31
  let v55 : BitVec 32 := v54
  let v56 : Index := Scalar.indexCast v55
  let c0_32 : Index := 0#32
  ![v56.toNat, 0]
def k0_mult3 (i : grid0.Coords) (k0_t1 : Fin (k0_t1_loop i).trips) : BitVec 32 :=
  let c2_i32_35 : BitVec 32 := 2#32
  let c0_i32_14 : BitVec 32 := 0#32
  let c1_i32_16 : BitVec 32 := 1#32
  let arg10 : BitVec 32 := Scf.iv c0_i32_14 c1_i32_16 k0_t1
  let v61 : BitVec 32 := Scalar.muli c2_i32_35 arg10
  let c1_i32_36 : BitVec 32 := 1#32
  let v62 : BitVec 32 := Scalar.addi v61 c1_i32_36
  let c512_i32_37 : BitVec 32 := 512#32
  let v63 : BitVec 32 := Scalar.muli v62 c512_i32_37
  v63
def k0_off3 (i : grid0.Coords) (k0_t1 : Fin (k0_t1_loop i).trips) : Fin 2 → Nat :=
  let c2_i32_35 : BitVec 32 := 2#32
  let c0_i32_14 : BitVec 32 := 0#32
  let c1_i32_16 : BitVec 32 := 1#32
  let arg10 : BitVec 32 := Scf.iv c0_i32_14 c1_i32_16 k0_t1
  let v61 : BitVec 32 := Scalar.muli c2_i32_35 arg10
  let c1_i32_36 : BitVec 32 := 1#32
  let v62 : BitVec 32 := Scalar.addi v61 c1_i32_36
  let c512_i32_37 : BitVec 32 := 512#32
  let v63 : BitVec 32 := Scalar.muli v62 c512_i32_37
  let v64 : BitVec 32 := v63
  let v65 : Index := Scalar.indexCast v64
  let c0_38 : Index := 0#32
  ![v65.toNat, 0]
@[reducible] def k0_t2_loop (i : grid0.Coords) : Scf.Loop 32 :=
  let c0_i32_14 : BitVec 32 := 0#32
  let arg1 : BitVec 32 := BitVec.ofNat 32 (i 1).val
  let c0_i32 : BitVec 32 := 0#32
  let v17 : BitVec 1 := Scalar.cmpi .sgt arg1 c0_i32
  let v18 : BitVec 32 := Scalar.extui v17
  let c0_i32_9 : BitVec 32 := 0#32
  let v19 : BitVec 1 := Scalar.cmpi .slt arg1 c0_i32_9
  let v20 : BitVec 32 := Scalar.extui v19
  let v21 : BitVec 32 := Scalar.subi v18 v20
  let c2_i32 : BitVec 32 := 2#32
  let c0_i32_10 : BitVec 32 := 0#32
  let v22 : BitVec 1 := Scalar.cmpi .sgt c2_i32 c0_i32_10
  let v23 : BitVec 32 := Scalar.extui v22
  let c0_i32_11 : BitVec 32 := 0#32
  let v24 : BitVec 1 := Scalar.cmpi .slt c2_i32 c0_i32_11
  let v25 : BitVec 32 := Scalar.extui v24
  let v26 : BitVec 32 := Scalar.subi v23 v25
  let v27 : BitVec 1 := Scalar.cmpi .ne v21 v26
  let v28 : BitVec 32 := Scalar.remsi arg1 c2_i32
  let c0_i32_12 : BitVec 32 := 0#32
  let v29 : BitVec 1 := Scalar.cmpi .ne v28 c0_i32_12
  let v30 : BitVec 1 := Scalar.andi v27 v29
  let v16 : BitVec 32 := Scalar.divsi arg1 c2_i32
  let c1_i32 : BitVec 32 := 1#32
  let v31 : BitVec 32 := Scalar.subi v16 c1_i32
  let v32 : BitVec 32 := Scalar.select v30 v31 v16
  let v33 : BitVec 32 := Scalar.subi v32 c0_i32_14
  let c1_i32_15 : BitVec 32 := 1#32
  let v35 : BitVec 32 := Scalar.divsi v33 c1_i32_15
  let v36 : BitVec 32 := Scalar.muli v35 c1_i32_15
  let v37 : BitVec 32 := Scalar.addi c0_i32_14 v36
  let v34 : BitVec 32 := Scalar.addi c0_i32_14 v33
  let c1_i32_17 : BitVec 32 := 1#32
  ⟨v37, v34, c1_i32_17⟩
def k0_mult4 (i : grid0.Coords) (k0_t2 : Fin (k0_t2_loop i).trips) : BitVec 32 :=
  let c2_i32_30 : BitVec 32 := 2#32
  let c0_i32_14 : BitVec 32 := 0#32
  let arg1 : BitVec 32 := BitVec.ofNat 32 (i 1).val
  let c0_i32 : BitVec 32 := 0#32
  let v17 : BitVec 1 := Scalar.cmpi .sgt arg1 c0_i32
  let v18 : BitVec 32 := Scalar.extui v17
  let c0_i32_9 : BitVec 32 := 0#32
  let v19 : BitVec 1 := Scalar.cmpi .slt arg1 c0_i32_9
  let v20 : BitVec 32 := Scalar.extui v19
  let v21 : BitVec 32 := Scalar.subi v18 v20
  let c2_i32 : BitVec 32 := 2#32
  let c0_i32_10 : BitVec 32 := 0#32
  let v22 : BitVec 1 := Scalar.cmpi .sgt c2_i32 c0_i32_10
  let v23 : BitVec 32 := Scalar.extui v22
  let c0_i32_11 : BitVec 32 := 0#32
  let v24 : BitVec 1 := Scalar.cmpi .slt c2_i32 c0_i32_11
  let v25 : BitVec 32 := Scalar.extui v24
  let v26 : BitVec 32 := Scalar.subi v23 v25
  let v27 : BitVec 1 := Scalar.cmpi .ne v21 v26
  let v28 : BitVec 32 := Scalar.remsi arg1 c2_i32
  let c0_i32_12 : BitVec 32 := 0#32
  let v29 : BitVec 1 := Scalar.cmpi .ne v28 c0_i32_12
  let v30 : BitVec 1 := Scalar.andi v27 v29
  let v16 : BitVec 32 := Scalar.divsi arg1 c2_i32
  let c1_i32 : BitVec 32 := 1#32
  let v31 : BitVec 32 := Scalar.subi v16 c1_i32
  let v32 : BitVec 32 := Scalar.select v30 v31 v16
  let v33 : BitVec 32 := Scalar.subi v32 c0_i32_14
  let c1_i32_15 : BitVec 32 := 1#32
  let v35 : BitVec 32 := Scalar.divsi v33 c1_i32_15
  let v36 : BitVec 32 := Scalar.muli v35 c1_i32_15
  let v37 : BitVec 32 := Scalar.addi c0_i32_14 v36
  let c1_i32_17 : BitVec 32 := 1#32
  let arg10 : BitVec 32 := Scf.iv v37 c1_i32_17 k0_t2
  let v53 : BitVec 32 := Scalar.muli c2_i32_30 arg10
  let c512_i32_31 : BitVec 32 := 512#32
  let v54 : BitVec 32 := Scalar.muli v53 c512_i32_31
  v54
def k0_off4 (i : grid0.Coords) (k0_t2 : Fin (k0_t2_loop i).trips) : Fin 2 → Nat :=
  let c2_i32_30 : BitVec 32 := 2#32
  let c0_i32_14 : BitVec 32 := 0#32
  let arg1 : BitVec 32 := BitVec.ofNat 32 (i 1).val
  let c0_i32 : BitVec 32 := 0#32
  let v17 : BitVec 1 := Scalar.cmpi .sgt arg1 c0_i32
  let v18 : BitVec 32 := Scalar.extui v17
  let c0_i32_9 : BitVec 32 := 0#32
  let v19 : BitVec 1 := Scalar.cmpi .slt arg1 c0_i32_9
  let v20 : BitVec 32 := Scalar.extui v19
  let v21 : BitVec 32 := Scalar.subi v18 v20
  let c2_i32 : BitVec 32 := 2#32
  let c0_i32_10 : BitVec 32 := 0#32
  let v22 : BitVec 1 := Scalar.cmpi .sgt c2_i32 c0_i32_10
  let v23 : BitVec 32 := Scalar.extui v22
  let c0_i32_11 : BitVec 32 := 0#32
  let v24 : BitVec 1 := Scalar.cmpi .slt c2_i32 c0_i32_11
  let v25 : BitVec 32 := Scalar.extui v24
  let v26 : BitVec 32 := Scalar.subi v23 v25
  let v27 : BitVec 1 := Scalar.cmpi .ne v21 v26
  let v28 : BitVec 32 := Scalar.remsi arg1 c2_i32
  let c0_i32_12 : BitVec 32 := 0#32
  let v29 : BitVec 1 := Scalar.cmpi .ne v28 c0_i32_12
  let v30 : BitVec 1 := Scalar.andi v27 v29
  let v16 : BitVec 32 := Scalar.divsi arg1 c2_i32
  let c1_i32 : BitVec 32 := 1#32
  let v31 : BitVec 32 := Scalar.subi v16 c1_i32
  let v32 : BitVec 32 := Scalar.select v30 v31 v16
  let v33 : BitVec 32 := Scalar.subi v32 c0_i32_14
  let c1_i32_15 : BitVec 32 := 1#32
  let v35 : BitVec 32 := Scalar.divsi v33 c1_i32_15
  let v36 : BitVec 32 := Scalar.muli v35 c1_i32_15
  let v37 : BitVec 32 := Scalar.addi c0_i32_14 v36
  let c1_i32_17 : BitVec 32 := 1#32
  let arg10 : BitVec 32 := Scf.iv v37 c1_i32_17 k0_t2
  let v53 : BitVec 32 := Scalar.muli c2_i32_30 arg10
  let c512_i32_31 : BitVec 32 := 512#32
  let v54 : BitVec 32 := Scalar.muli v53 c512_i32_31
  let v55 : BitVec 32 := v54
  let v56 : Index := Scalar.indexCast v55
  let c0_32 : Index := 0#32
  ![v56.toNat, 0]
def k0_mult5 (i : grid0.Coords) (k0_t2 : Fin (k0_t2_loop i).trips) : BitVec 32 :=
  let c2_i32_35 : BitVec 32 := 2#32
  let c0_i32_14 : BitVec 32 := 0#32
  let arg1 : BitVec 32 := BitVec.ofNat 32 (i 1).val
  let c0_i32 : BitVec 32 := 0#32
  let v17 : BitVec 1 := Scalar.cmpi .sgt arg1 c0_i32
  let v18 : BitVec 32 := Scalar.extui v17
  let c0_i32_9 : BitVec 32 := 0#32
  let v19 : BitVec 1 := Scalar.cmpi .slt arg1 c0_i32_9
  let v20 : BitVec 32 := Scalar.extui v19
  let v21 : BitVec 32 := Scalar.subi v18 v20
  let c2_i32 : BitVec 32 := 2#32
  let c0_i32_10 : BitVec 32 := 0#32
  let v22 : BitVec 1 := Scalar.cmpi .sgt c2_i32 c0_i32_10
  let v23 : BitVec 32 := Scalar.extui v22
  let c0_i32_11 : BitVec 32 := 0#32
  let v24 : BitVec 1 := Scalar.cmpi .slt c2_i32 c0_i32_11
  let v25 : BitVec 32 := Scalar.extui v24
  let v26 : BitVec 32 := Scalar.subi v23 v25
  let v27 : BitVec 1 := Scalar.cmpi .ne v21 v26
  let v28 : BitVec 32 := Scalar.remsi arg1 c2_i32
  let c0_i32_12 : BitVec 32 := 0#32
  let v29 : BitVec 1 := Scalar.cmpi .ne v28 c0_i32_12
  let v30 : BitVec 1 := Scalar.andi v27 v29
  let v16 : BitVec 32 := Scalar.divsi arg1 c2_i32
  let c1_i32 : BitVec 32 := 1#32
  let v31 : BitVec 32 := Scalar.subi v16 c1_i32
  let v32 : BitVec 32 := Scalar.select v30 v31 v16
  let v33 : BitVec 32 := Scalar.subi v32 c0_i32_14
  let c1_i32_15 : BitVec 32 := 1#32
  let v35 : BitVec 32 := Scalar.divsi v33 c1_i32_15
  let v36 : BitVec 32 := Scalar.muli v35 c1_i32_15
  let v37 : BitVec 32 := Scalar.addi c0_i32_14 v36
  let c1_i32_17 : BitVec 32 := 1#32
  let arg10 : BitVec 32 := Scf.iv v37 c1_i32_17 k0_t2
  let v61 : BitVec 32 := Scalar.muli c2_i32_35 arg10
  let c1_i32_36 : BitVec 32 := 1#32
  let v62 : BitVec 32 := Scalar.addi v61 c1_i32_36
  let c512_i32_37 : BitVec 32 := 512#32
  let v63 : BitVec 32 := Scalar.muli v62 c512_i32_37
  v63
def k0_off5 (i : grid0.Coords) (k0_t2 : Fin (k0_t2_loop i).trips) : Fin 2 → Nat :=
  let c2_i32_35 : BitVec 32 := 2#32
  let c0_i32_14 : BitVec 32 := 0#32
  let arg1 : BitVec 32 := BitVec.ofNat 32 (i 1).val
  let c0_i32 : BitVec 32 := 0#32
  let v17 : BitVec 1 := Scalar.cmpi .sgt arg1 c0_i32
  let v18 : BitVec 32 := Scalar.extui v17
  let c0_i32_9 : BitVec 32 := 0#32
  let v19 : BitVec 1 := Scalar.cmpi .slt arg1 c0_i32_9
  let v20 : BitVec 32 := Scalar.extui v19
  let v21 : BitVec 32 := Scalar.subi v18 v20
  let c2_i32 : BitVec 32 := 2#32
  let c0_i32_10 : BitVec 32 := 0#32
  let v22 : BitVec 1 := Scalar.cmpi .sgt c2_i32 c0_i32_10
  let v23 : BitVec 32 := Scalar.extui v22
  let c0_i32_11 : BitVec 32 := 0#32
  let v24 : BitVec 1 := Scalar.cmpi .slt c2_i32 c0_i32_11
  let v25 : BitVec 32 := Scalar.extui v24
  let v26 : BitVec 32 := Scalar.subi v23 v25
  let v27 : BitVec 1 := Scalar.cmpi .ne v21 v26
  let v28 : BitVec 32 := Scalar.remsi arg1 c2_i32
  let c0_i32_12 : BitVec 32 := 0#32
  let v29 : BitVec 1 := Scalar.cmpi .ne v28 c0_i32_12
  let v30 : BitVec 1 := Scalar.andi v27 v29
  let v16 : BitVec 32 := Scalar.divsi arg1 c2_i32
  let c1_i32 : BitVec 32 := 1#32
  let v31 : BitVec 32 := Scalar.subi v16 c1_i32
  let v32 : BitVec 32 := Scalar.select v30 v31 v16
  let v33 : BitVec 32 := Scalar.subi v32 c0_i32_14
  let c1_i32_15 : BitVec 32 := 1#32
  let v35 : BitVec 32 := Scalar.divsi v33 c1_i32_15
  let v36 : BitVec 32 := Scalar.muli v35 c1_i32_15
  let v37 : BitVec 32 := Scalar.addi c0_i32_14 v36
  let c1_i32_17 : BitVec 32 := 1#32
  let arg10 : BitVec 32 := Scf.iv v37 c1_i32_17 k0_t2
  let v61 : BitVec 32 := Scalar.muli c2_i32_35 arg10
  let c1_i32_36 : BitVec 32 := 1#32
  let v62 : BitVec 32 := Scalar.addi v61 c1_i32_36
  let c512_i32_37 : BitVec 32 := 512#32
  let v63 : BitVec 32 := Scalar.muli v62 c512_i32_37
  let v64 : BitVec 32 := v63
  let v65 : Index := Scalar.indexCast v64
  let c0_38 : Index := 0#32
  ![v65.toNat, 0]
def k0_cond1 (i : grid0.Coords) : BitVec 1 :=
  let arg1 : BitVec 32 := BitVec.ofNat 32 (i 1).val
  let c2_i32_18 : BitVec 32 := 2#32
  let c0_i32_19 : BitVec 32 := 0#32
  let v38 : BitVec 1 := Scalar.cmpi .eq c2_i32_18 c0_i32_19
  let c1_i32_20 : BitVec 32 := 1#32
  let v39 : BitVec 32 := Scalar.select v38 c1_i32_20 c2_i32_18
  let v40 : BitVec 32 := Scalar.remsi arg1 v39
  let c0_i32_22 : BitVec 32 := 0#32
  let v42 : BitVec 1 := Scalar.cmpi .slt v40 c0_i32_22
  let c0_i32_23 : BitVec 32 := 0#32
  let v43 : BitVec 1 := Scalar.cmpi .slt v39 c0_i32_23
  let v44 : BitVec 1 := Scalar.xori v42 v43
  let c0_i32_21 : BitVec 32 := 0#32
  let v41 : BitVec 1 := Scalar.cmpi .ne v40 c0_i32_21
  let v45 : BitVec 1 := Scalar.andi v44 v41
  let v46 : BitVec 32 := Scalar.addi v40 v39
  let v47 : BitVec 32 := Scalar.select v45 v46 v40
  let c1_i32_24 : BitVec 32 := 1#32
  let v48 : BitVec 1 := Scalar.cmpi .eq v47 c1_i32_24
  let v49 : BitVec 32 := Scalar.extui v48
  let c0_i32_25 : BitVec 32 := 0#32
  let v50 : BitVec 1 := Scalar.cmpi .ne v49 c0_i32_25
  v50

def k0_mult6 (i : grid0.Coords) : BitVec 32 :=
  let arg1 : BitVec 32 := BitVec.ofNat 32 (i 1).val
  let c1_i32_31 : BitVec 32 := 1#32
  let v54 : BitVec 32 := Scalar.subi arg1 c1_i32_31
  let c512_i32_32 : BitVec 32 := 512#32
  let v55 : BitVec 32 := Scalar.muli v54 c512_i32_32
  v55
def k0_off6 (i : grid0.Coords) : Fin 2 → Nat :=
  let arg1 : BitVec 32 := BitVec.ofNat 32 (i 1).val
  let c1_i32_31 : BitVec 32 := 1#32
  let v54 : BitVec 32 := Scalar.subi arg1 c1_i32_31
  let c512_i32_32 : BitVec 32 := 512#32
  let v55 : BitVec 32 := Scalar.muli v54 c512_i32_32
  let v56 : BitVec 32 := v55
  let v57 : Index := Scalar.indexCast v56
  let c0_33 : Index := 0#32
  ![v57.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceRetIdeal.lean ====
abbrev S4096x1024 : Shape := ⟨2, ![4096, 1024]⟩
abbrev S1x64x64x4x256 : Shape := ⟨5, ![1, 64, 64, 4, 256]⟩
abbrev S4 : Shape := ⟨1, ![4]⟩
abbrev S_ : Shape := ⟨0, ![]⟩
abbrev S64 : Shape := ⟨1, ![64]⟩
abbrev S4x1x1 : Shape := ⟨3, ![4, 1, 1]⟩
abbrev S64x1 : Shape := ⟨2, ![64, 1]⟩
abbrev S1x64 : Shape := ⟨2, ![1, 64]⟩
abbrev S64x64 : Shape := ⟨2, ![64, 64]⟩
abbrev S1x64x64 : Shape := ⟨3, ![1, 64, 64]⟩
abbrev S4x64x64 : Shape := ⟨3, ![4, 64, 64]⟩
abbrev S1x64x4x64x64 : Shape := ⟨5, ![1, 64, 4, 64, 64]⟩
abbrev S1x1x4x64x64 : Shape := ⟨5, ![1, 1, 4, 64, 64]⟩
abbrev S1x64x4x256x64 : Shape := ⟨5, ![1, 64, 4, 256, 64]⟩
abbrev S4x1 : Shape := ⟨2, ![4, 1]⟩
abbrev S4x64 : Shape := ⟨2, ![4, 64]⟩
abbrev S1x4x64 : Shape := ⟨3, ![1, 4, 64]⟩
abbrev S1x4x256x256 : Shape := ⟨4, ![1, 4, 256, 256]⟩
abbrev S64x1x64x4x256 : Shape := ⟨5, ![64, 1, 64, 4, 256]⟩
abbrev S1x1x64x4x256 : Shape := ⟨5, ![1, 1, 64, 4, 256]⟩
abbrev S1x64x4x256 : Shape := ⟨4, ![1, 64, 4, 256]⟩
abbrev S1x4x256x64 : Shape := ⟨4, ![1, 4, 256, 64]⟩
abbrev S64x4 : Shape := ⟨2, ![64, 4]⟩
abbrev S1x64x4x1 : Shape := ⟨4, ![1, 64, 4, 1]⟩
abbrev S1x4x1x1 : Shape := ⟨4, ![1, 4, 1, 1]⟩
abbrev S1x4096x4x256 : Shape := ⟨4, ![1, 4096, 4, 256]⟩

abbrev nBuf : Space → Nat
  | .hbm => 126
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S1x64x64x4x256, .f32⟩
  | .hbm, ⟨7, _⟩ => ⟨S1x64x64x4x256, .f32⟩
  | .hbm, ⟨8, _⟩ => ⟨S1x64x64x4x256, .f32⟩
  | .hbm, ⟨9, _⟩ => ⟨S4, .f32⟩
  | .hbm, ⟨10, _⟩ => ⟨S_, .f32⟩
  | .hbm, ⟨11, _⟩ => ⟨S4, .f32⟩
  | .hbm, ⟨12, _⟩ => ⟨S4, .f32⟩
  | .hbm, ⟨13, _⟩ => ⟨S_, .f32⟩
  | .hbm, ⟨14, _⟩ => ⟨S4, .f32⟩
  | .hbm, ⟨15, _⟩ => ⟨S4, .f32⟩
  | .hbm, ⟨16, _⟩ => ⟨S4, .f32⟩
  | .hbm, ⟨17, _⟩ => ⟨S4, .f32⟩
  | .hbm, ⟨18, _⟩ => ⟨S4, .f32⟩
  | .hbm, ⟨19, _⟩ => ⟨S64, .f32⟩
  | .hbm, ⟨20, _⟩ => ⟨S4x1x1, .f32⟩
  | .hbm, ⟨21, _⟩ => ⟨S64x1, .f32⟩
  | .hbm, ⟨22, _⟩ => ⟨S1x64, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S64x64, .f32⟩
  | .hbm, ⟨27, _⟩ => ⟨S1x64x64, .f32⟩
  | .hbm, ⟨28, _⟩ => ⟨S4x64x64, .f32⟩
  | .hbm, ⟨29, _⟩ => ⟨S4x64x64, .f32⟩
  | .hbm, ⟨30, _⟩ => ⟨S4x64x64, .f32⟩
  | .hbm, ⟨31, _⟩ => ⟨S4x64x64, .f32⟩
  | .hbm, ⟨32, _⟩ => ⟨S1x64x4x64x64, .f32⟩
  | .hbm, ⟨33, _⟩ => ⟨S1x1x4x64x64, .f32⟩
  | .hbm, ⟨34, _⟩ => ⟨S1x64x4x64x64, .f32⟩
  | .hbm, ⟨35, _⟩ => ⟨S1x64x4x64x64, .f32⟩
  | .hbm, ⟨36, _⟩ => ⟨S1x64x4x256x64, .f32⟩
  | .hbm, ⟨37, _⟩ => ⟨S1x64x64x4x256, .f32⟩
  | .hbm, ⟨38, _⟩ => ⟨S4x1, .f32⟩
  | .hbm, ⟨39, _⟩ => ⟨S_, .f32⟩
  | .hbm, ⟨40, _⟩ => ⟨S64, .f32⟩
  | .hbm, ⟨41, _⟩ => ⟨S64, .f32⟩
  | .hbm, ⟨42, _⟩ => ⟨S1x64, .f32⟩
  | .hbm, ⟨43, _⟩ => ⟨S4x64, .f32⟩
  | .hbm, ⟨44, _⟩ => ⟨S4x64, .f32⟩
  | .hbm, ⟨45, _⟩ => ⟨S4x64, .f32⟩
  | .hbm, ⟨46, _⟩ => ⟨S4x64, .f32⟩
  | .hbm, ⟨47, _⟩ => ⟨S1x4x64, .f32⟩
  | .hbm, ⟨48, _⟩ => ⟨S4x1, .f32⟩
  | .hbm, ⟨49, _⟩ => ⟨S_, .f32⟩
  | .hbm, ⟨50, _⟩ => ⟨S64, .f32⟩
  | .hbm, ⟨51, _⟩ => ⟨S64, .f32⟩
  | .hbm, ⟨52, _⟩ => ⟨S1x64, .f32⟩
  | .hbm, ⟨53, _⟩ => ⟨S4x64, .f32⟩
  | .hbm, ⟨54, _⟩ => ⟨S4x64, .f32⟩
  | .hbm, ⟨55, _⟩ => ⟨S4x64, .f32⟩
  | .hbm, ⟨56, _⟩ => ⟨S4x64, .f32⟩
  | .hbm, ⟨57, _⟩ => ⟨S_, .f32⟩
  | .hbm, ⟨58, _⟩ => ⟨S4, .f32⟩
  | .hbm, ⟨59, _⟩ => ⟨S4, .f32⟩
  | .hbm, ⟨60, _⟩ => ⟨S4, .f32⟩
  | .hbm, ⟨61, _⟩ => ⟨S4x64, .f32⟩
  | .hbm, ⟨62, _⟩ => ⟨S_, .f32⟩
  | .hbm, ⟨63, _⟩ => ⟨S1x4x256x256, .f32⟩
  | .hbm, ⟨64, _⟩ => ⟨S64x1x64x4x256, .f32⟩
  | .hbm, ⟨65, _⟩ => ⟨S64x1x64x4x256, .f32⟩
  | .hbm, ⟨66, _⟩ => ⟨S64x1x64x4x256, .f32⟩
  | .hbm, ⟨67, _⟩ => ⟨S_, .f32⟩
  | .hbm, ⟨68, _⟩ => ⟨S64x1x64x4x256, .f32⟩
  | .hbm, ⟨69, _⟩ => ⟨S_, .i32⟩
  | .hbm, ⟨70, _⟩ => ⟨S64x1x64x4x256, .f32⟩
  | .hbm, ⟨71, _⟩ => ⟨S64x1x64x4x256, .f32⟩
  | .hbm, ⟨72, _⟩ => ⟨S64x1x64x4x256, .f32⟩
  | .hbm, ⟨73, _⟩ => ⟨S4x64, .f32⟩
  | .hbm, ⟨74, _⟩ => ⟨S4, .f32⟩
  | .hbm, ⟨75, _⟩ => ⟨S4x64, .f32⟩
  | .hbm, ⟨76, _⟩ => ⟨S_, .i32⟩
  | .hbm, ⟨77, _⟩ => ⟨S1x4x256x256, .f32⟩
  | .hbm, ⟨78, _⟩ => ⟨S64x1x64x4x256, .f32⟩
  | .hbm, ⟨79, _⟩ => ⟨S_, .i32⟩
  | .hbm, ⟨80, _⟩ => ⟨S_, .i1⟩
  | .hbm, ⟨81, _⟩ => ⟨S_, .i32⟩
  | .hbm, ⟨82, _⟩ => ⟨S_, .i32⟩
  | .hbm, ⟨83, _⟩ => ⟨S_, .i32⟩
  | .hbm, ⟨84, _⟩ => ⟨S_, .i32⟩
  | .hbm, ⟨85, _⟩ => ⟨S1x1x64x4x256, .f32⟩
  | .hbm, ⟨86, _⟩ => ⟨S1x64x4x256, .f32⟩
  | .hbm, ⟨87, _⟩ => ⟨S_, .i32⟩
  | .hbm, ⟨88, _⟩ => ⟨S_, .i32⟩
  | .hbm, ⟨89, _⟩ => ⟨S_, .i32⟩
  | .hbm, ⟨90, _⟩ => ⟨S_, .i32⟩
  | .hbm, ⟨91, _⟩ => ⟨S1x1x64x4x256, .f32⟩
  | .hbm, ⟨92, _⟩ => ⟨S1x64x4x256, .f32⟩
  | .hbm, ⟨93, _⟩ => ⟨S_, .i32⟩
  | .hbm, ⟨94, _⟩ => ⟨S_, .i32⟩
  | .hbm, ⟨95, _⟩ => ⟨S_, .i32⟩
  | .hbm, ⟨96, _⟩ => ⟨S_, .i32⟩
  | .hbm, ⟨97, _⟩ => ⟨S1x1x64x4x256, .f32⟩
  | .hbm, ⟨98, _⟩ => ⟨S1x64x4x256, .f32⟩
  | .hbm, ⟨99, _⟩ => ⟨S1x4x256x64, .f32⟩
  | .hbm, ⟨100, _⟩ => ⟨S1x64x4x256, .f32⟩
  | .hbm, ⟨101, _⟩ => ⟨S64x4, .f32⟩
  | .hbm, ⟨102, _⟩ => ⟨S1x64x4x1, .f32⟩
  | .hbm, ⟨103, _⟩ => ⟨S1x64x4x256, .f32⟩
  | .hbm, ⟨104, _⟩ => ⟨S1x64x4x256, .f32⟩
  | .hbm, ⟨105, _⟩ => ⟨S1x4x1x1, .f32⟩
  | .hbm, ⟨106, _⟩ => ⟨S1x4x256x256, .f32⟩
  | .hbm, ⟨107, _⟩ => ⟨S1x4x256x256, .f32⟩
  | .hbm, ⟨108, _⟩ => ⟨S64x4, .f32⟩
  | .hbm, ⟨109, _⟩ => ⟨S1x64x4x1, .f32⟩
  | .hbm, ⟨110, _⟩ => ⟨S1x64x4x256, .f32⟩
  | .hbm, ⟨111, _⟩ => ⟨S1x64x4x256, .f32⟩
  | .hbm, ⟨112, _⟩ => ⟨S1x4x256x256, .f32⟩
  | .hbm, ⟨113, _⟩ => ⟨S1x4x256x256, .f32⟩
  | .hbm, ⟨114, _⟩ => ⟨S1x1x64x4x256, .f32⟩
  | .hbm, ⟨115, _⟩ => ⟨S_, .i32⟩
  | .hbm, ⟨116, _⟩ => ⟨S_, .i32⟩
  | .hbm, ⟨117, _⟩ => ⟨S_, .i32⟩
  | .hbm, ⟨118, _⟩ => ⟨S_, .i32⟩
  | .hbm, ⟨119, _⟩ => ⟨S64x1x64x4x256, .f32⟩
  | .hbm, ⟨120, _⟩ => ⟨S_, .i32⟩
  | .hbm, ⟨121, _⟩ => ⟨S_, .i32⟩
  | .hbm, ⟨122, _⟩ => ⟨S1x64x64x4x256, .f32⟩
  | .hbm, ⟨123, _⟩ => ⟨S1x64x64x4x256, .f32⟩
  | .hbm, ⟨124, _⟩ => ⟨S1x4096x4x256, .f32⟩
  | .hbm, ⟨125, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_cst_1 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_cst_2 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_cst_3 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_cst_4 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_cst_5 : Ref sig .tc := ⟨.hbm, 67, rfl⟩
abbrev main_v58 : Ref sig .tc := ⟨.hbm, 68, rfl⟩
abbrev main_c : Ref sig .tc := ⟨.hbm, 69, rfl⟩
abbrev main_v59_0 : Ref sig .tc := ⟨.hbm, 70, rfl⟩
abbrev main_v59_1 : Ref sig .tc := ⟨.hbm, 71, rfl⟩
abbrev main_v59_2 : Ref sig .tc := ⟨.hbm, 72, rfl⟩
abbrev main_v59_3 : Ref sig .tc := ⟨.hbm, 73, rfl⟩
abbrev main_v59_4 : Ref sig .tc := ⟨.hbm, 74, rfl⟩
abbrev main_v59_5 : Ref sig .tc := ⟨.hbm, 75, rfl⟩
abbrev main_v59_6 : Ref sig .tc := ⟨.hbm, 76, rfl⟩
abbrev main_v59_7 : Ref sig .tc := ⟨.hbm, 77, rfl⟩
abbrev main_v59_8 : Ref sig .tc := ⟨.hbm, 78, rfl⟩
abbrev main_while0c_c_14 : Ref sig .tc := ⟨.hbm, 79, rfl⟩
abbrev main_while0c_v64 : Ref sig .tc := ⟨.hbm, 80, rfl⟩
abbrev main_while0b_call0_c : Ref sig .tc := ⟨.hbm, 81, rfl⟩
abbrev main_while0b_call0_c_0 : Ref sig .tc := ⟨.hbm, 82, rfl⟩
abbrev main_while0b_call0_c_1 : Ref sig .tc := ⟨.hbm, 83, rfl⟩
abbrev main_while0b_call0_c_2 : Ref sig .tc := ⟨.hbm, 84, rfl⟩
abbrev main_while0b_call0_v0 : Ref sig .tc := ⟨.hbm, 85, rfl⟩
abbrev main_while0b_v64 : Ref sig .tc := ⟨.hbm, 86, rfl⟩
abbrev main_while0b_call1_c : Ref sig .tc := ⟨.hbm, 87, rfl⟩
abbrev main_while0b_call1_c_0 : Ref sig .tc := ⟨.hbm, 88, rfl⟩
abbrev main_while0b_call1_c_1 : Ref sig .tc := ⟨.hbm, 89, rfl⟩
abbrev main_while0b_call1_c_2 : Ref sig .tc := ⟨.hbm, 90, rfl⟩
abbrev main_while0b_call1_v0 : Ref sig .tc := ⟨.hbm, 91, rfl⟩
abbrev main_while0b_v65 : Ref sig .tc := ⟨.hbm, 92, rfl⟩
abbrev main_while0b_call2_c : Ref sig .tc := ⟨.hbm, 93, rfl⟩
abbrev main_while0b_call2_c_0 : Ref sig .tc := ⟨.hbm, 94, rfl⟩
abbrev main_while0b_call2_c_1 : Ref sig .tc := ⟨.hbm, 95, rfl⟩
abbrev main_while0b_call2_c_2 : Ref sig .tc := ⟨.hbm, 96, rfl⟩
abbrev main_while0b_call2_v0 : Ref sig .tc := ⟨.hbm, 97, rfl⟩
abbrev main_while0b_v66 : Ref sig .tc := ⟨.hbm, 98, rfl⟩
abbrev main_while0b_v67 : Ref sig .tc := ⟨.hbm, 99, rfl⟩
abbrev main_while0b_v68 : Ref sig .tc := ⟨.hbm, 100, rfl⟩
abbrev main_while0b_v69 : Ref sig .tc := ⟨.hbm, 101, rfl⟩
abbrev main_while0b_v70 : Ref sig .tc := ⟨.hbm, 102, rfl⟩
abbrev main_while0b_v71 : Ref sig .tc := ⟨.hbm, 103, rfl⟩
abbrev main_while0b_v72 : Ref sig .tc := ⟨.hbm, 104, rfl⟩
abbrev main_while0b_v73 : Ref sig .tc := ⟨.hbm, 105, rfl⟩
abbrev main_while0b_v74 : Ref sig .tc := ⟨.hbm, 106, rfl⟩
abbrev main_while0b_v75 : Ref sig .tc := ⟨.hbm, 107, rfl⟩
abbrev main_while0b_v76 : Ref sig .tc := ⟨.hbm, 108, rfl⟩
abbrev main_while0b_v77 : Ref sig .tc := ⟨.hbm, 109, rfl⟩
abbrev main_while0b_v78 : Ref sig .tc := ⟨.hbm, 110, rfl⟩
abbrev main_while0b_v79 : Ref sig .tc := ⟨.hbm, 111, rfl⟩
abbrev main_while0b_v80 : Ref sig .tc := ⟨.hbm, 112, rfl⟩
abbrev main_while0b_v81 : Ref sig .tc := ⟨.hbm, 113, rfl⟩
abbrev main_while0b_call3_v0 : Ref sig .tc := ⟨.hbm, 114, rfl⟩
abbrev main_while0b_call3_c : Ref sig .tc := ⟨.hbm, 115, rfl⟩
abbrev main_while0b_call3_c_0 : Ref sig .tc := ⟨.hbm, 116, rfl⟩
abbrev main_while0b_call3_c_1 : Ref sig .tc := ⟨.hbm, 117, rfl⟩
abbrev main_while0b_call3_c_2 : Ref sig .tc := ⟨.hbm, 118, rfl⟩
abbrev main_while0b_v82 : Ref sig .tc := ⟨.hbm, 119, rfl⟩
abbrev main_while0b_c_14 : Ref sig .tc := ⟨.hbm, 120, rfl⟩
abbrev main_while0b_v83 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩

abbrev nD : Nat := 1
abbrev τ : Topo := Topo.v7x

variable {F : FTy → Type} [FloatOps F]

abbrev main_while0_count : Scf.Loop 32 := ⟨0#32, 64#32, 1#32⟩
-- ==== KernelMla.lean ====
abbrev S4096x2048 : Shape := ⟨2, ![4096, 2048]⟩
abbrev S4096x1024 : Shape := ⟨2, ![4096, 1024]⟩
abbrev S_ : Shape := ⟨0, ![]⟩
abbrev S4096x8x128 : Shape := ⟨3, ![4096, 8, 128]⟩
abbrev S4096x8x256 : Shape := ⟨3, ![4096, 8, 256]⟩
abbrev S512x256 : Shape := ⟨2, ![512, 256]⟩
abbrev S4096x256 : Shape := ⟨2, ![4096, 256]⟩
abbrev S512x128 : Shape := ⟨2, ![512, 128]⟩
abbrev S512x512 : Shape := ⟨2, ![512, 512]⟩
abbrev S512 : Shape := ⟨1, ![512]⟩
abbrev S512x1 : Shape := ⟨2, ![512, 1]⟩

abbrev nBuf : Space → Nat
  | .hbm => 10
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x1024, .bf16⟩
  | .hbm, ⟨3, _⟩ => ⟨S_, .bf16⟩
  | .hbm, ⟨4, _⟩ => ⟨S4096x8x128, .bf16⟩
  | .hbm, ⟨5, _⟩ => ⟨S4096x8x128, .bf16⟩
  | .hbm, ⟨6, _⟩ => ⟨S4096x8x256, .bf16⟩
  | .hbm, ⟨7, _⟩ => ⟨S4096x2048, .bf16⟩
  | .hbm, ⟨8, _⟩ => ⟨S4096x1024, .f32⟩
  | .hbm, ⟨9, _⟩ => ⟨S4096x1024, .f32⟩
  | .local _ .vmem, ⟨0, _⟩ => ⟨S512x256, .bf16⟩
  | .local _ .vmem, ⟨1, _⟩ => ⟨S512x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x256, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c512_i32 : BitVec 32 := 512#32
  let v1 : BitVec 32 := Scalar.muli arg1 c512_i32
  v1
def k0_off1 (i : grid0.Coords) : Fin 2 → Nat :=
  let arg1 : BitVec 32 := BitVec.ofNat 32 (i 1).val
  let c512_i32 : BitVec 32 := 512#32
  let v1 : BitVec 32 := Scalar.muli arg1 c512_i32
  let v2 : BitVec 32 := v1
  let v3 : Index := Scalar.indexCast v2
  let c0_1 : Index := 0#32
  ![v3.toNat, 0]
@[reducible] def k0_t1_loop (i : grid0.Coords) : Scf.Loop 32 :=
  let c0_i32_16 : BitVec 32 := 0#32
  let arg1 : BitVec 32 := BitVec.ofNat 32 (i 1).val
  let c0_i32 : BitVec 32 := 0#32
  let v34 : BitVec 1 := Scalar.cmpi .sgt arg1 c0_i32
  let v35 : BitVec 32 := Scalar.extui v34
  let c0_i32_11 : BitVec 32 := 0#32
  let v36 : BitVec 1 := Scalar.cmpi .slt arg1 c0_i32_11
  let v37 : BitVec 32 := Scalar.extui v36
  let v38 : BitVec 32 := Scalar.subi v35 v37
  let c2_i32 : BitVec 32 := 2#32
  let c0_i32_12 : BitVec 32 := 0#32
  let v39 : BitVec 1 := Scalar.cmpi .sgt c2_i32 c0_i32_12
  let v40 : BitVec 32 := Scalar.extui v39
  let c0_i32_13 : BitVec 32 := 0#32
  let v41 : BitVec 1 := Scalar.cmpi .slt c2_i32 c0_i32_13
  let v42 : BitVec 32 := Scalar.extui v41
  let v43 : BitVec 32 := Scalar.subi v40 v42
  let v44 : BitVec 1 := Scalar.cmpi .ne v38 v43
  let v45 : BitVec 32 := Scalar.remsi arg1 c2_i32
  let c0_i32_14 : BitVec 32 := 0#32
  let v46 : BitVec 1 := Scalar.cmpi .ne v45 c0_i32_14
  let v47 : BitVec 1 := Scalar.andi v44 v46
  let v33 : BitVec 32 := Scalar.divsi arg1 c2_i32
  let c1_i32 : BitVec 32 := 1#32
  let v48 : BitVec 32 := Scalar.subi v33 c1_i32
  let v49 : BitVec 32 := Scalar.select v47 v48 v33
  let v50 : BitVec 32 := Scalar.subi v49 c0_i32_16
  let c1_i32_17 : BitVec 32 := 1#32
  let v52 : BitVec 32 := Scalar.divsi v50 c1_i32_17
  let v53 : BitVec 32 := Scalar.muli v52 c1_i32_17
  let v54 : BitVec 32 := Scalar.addi c0_i32_16 v53
  let c1_i32_18 : BitVec 32 := 1#32
  ⟨c0_i32_16, v54, c1_i32_18⟩
def k0_mult2 (i : grid0.Coords) (k0_t1 : Fin (k0_t1_loop i).trips) : BitVec 32 :=
  let c2_i32_37 : BitVec 32 := 2#32
  let c0_i32_16 : BitVec 32 := 0#32
  let c1_i32_18 : BitVec 32 := 1#32
  let arg9 : BitVec 32 := Scf.iv c0_i32_16 c1_i32_18 k0_t1
  let v76 : BitVec 32 := Scalar.muli c2_i32_37 arg9
  let c512_i32_38 : BitVec 32 := 512#32
  let v77 : BitVec 32 := Scalar.muli v76 c512_i32_38
  v77
def k0_off2 (i : grid0.Coords) (k0_t1 : Fin (k0_t1_loop i).trips) : Fin 2 → Nat :=
  let c2_i32_37 : BitVec 32 := 2#32
  let c0_i32_16 : BitVec 32 := 0#32
  let c1_i32_18 : BitVec 32 := 1#32
  let arg9 : BitVec 32 := Scf.iv c0_i32_16 c1_i32_18 k0_t1
  let v76 : BitVec 32 := Scalar.muli c2_i32_37 arg9
  let c512_i32_38 : BitVec 32 := 512#32
  let v77 : BitVec 32 := Scalar.muli v76 c512_i32_38
  let v78 : BitVec 32 := v77
  let v79 : Index := Scalar.indexCast v78
  let c0_39 : Index := 0#32
  ![v79.toNat, 0]
def k0_mult3 (i : grid0.Coords) (k0_t1 : Fin (k0_t1_loop i).trips) : BitVec 32 :=
  let c2_i32_42 : BitVec 32 := 2#32
  let c0_i32_16 : BitVec 32 := 0#32
  let c1_i32_18 : BitVec 32 := 1#32
  let arg9 : BitVec 32 := Scf.iv c0_i32_16 c1_i32_18 k0_t1
  let v85 : BitVec 32 := Scalar.muli c2_i32_42 arg9
  let c1_i32_43 : BitVec 32 := 1#32
  let v86 : BitVec 32 := Scalar.addi v85 c1_i32_43
  let c512_i32_44 : BitVec 32 := 512#32
  let v87 : BitVec 32 := Scalar.muli v86 c512_i32_44
  v87
def k0_off3 (i : grid0.Coords) (k0_t1 : Fin (k0_t1_loop i).trips) : Fin 2 → Nat :=
  let c2_i32_42 : BitVec 32 := 2#32
  let c0_i32_16 : BitVec 32 := 0#32
  let c1_i32_18 : BitVec 32 := 1#32
  let arg9 : BitVec 32 := Scf.iv c0_i32_16 c1_i32_18 k0_t1
  let v85 : BitVec 32 := Scalar.muli c2_i32_42 arg9
  let c1_i32_43 : BitVec 32 := 1#32
  let v86 : BitVec 32 := Scalar.addi v85 c1_i32_43
  let c512_i32_44 : BitVec 32 := 512#32
  let v87 : BitVec 32 := Scalar.muli v86 c512_i32_44
  let v88 : BitVec 32 := v87
  let v89 : Index := Scalar.indexCast v88
  let c0_45 : Index := 0#32
  ![v89.toNat, 0]
@[reducible] def k0_t2_loop (i : grid0.Coords) : Scf.Loop 32 :=
  let c0_i32_16 : BitVec 32 := 0#32
  let arg1 : BitVec 32 := BitVec.ofNat 32 (i 1).val
  let c0_i32 : BitVec 32 := 0#32
  let v34 : BitVec 1 := Scalar.cmpi .sgt arg1 c0_i32
  let v35 : BitVec 32 := Scalar.extui v34
  let c0_i32_11 : BitVec 32 := 0#32
  let v36 : BitVec 1 := Scalar.cmpi .slt arg1 c0_i32_11
  let v37 : BitVec 32 := Scalar.extui v36
  let v38 : BitVec 32 := Scalar.subi v35 v37
  let c2_i32 : BitVec 32 := 2#32
  let c0_i32_12 : BitVec 32 := 0#32
  let v39 : BitVec 1 := Scalar.cmpi .sgt c2_i32 c0_i32_12
  let v40 : BitVec 32 := Scalar.extui v39
  let c0_i32_13 : BitVec 32 := 0#32
  let v41 : BitVec 1 := Scalar.cmpi .slt c2_i32 c0_i32_13
  let v42 : BitVec 32 := Scalar.extui v41
  let v43 : BitVec 32 := Scalar.subi v40 v42
  let v44 : BitVec 1 := Scalar.cmpi .ne v38 v43
  let v45 : BitVec 32 := Scalar.remsi arg1 c2_i32
  let c0_i32_14 : BitVec 32 := 0#32
  let v46 : BitVec 1 := Scalar.cmpi .ne v45 c0_i32_14
  let v47 : BitVec 1 := Scalar.andi v44 v46
  let v33 : BitVec 32 := Scalar.divsi arg1 c2_i32
  let c1_i32 : BitVec 32 := 1#32
  let v48 : BitVec 32 := Scalar.subi v33 c1_i32
  let v49 : BitVec 32 := Scalar.select v47 v48 v33
  let v50 : BitVec 32 := Scalar.subi v49 c0_i32_16
  let c1_i32_17 : BitVec 32 := 1#32
  let v52 : BitVec 32 := Scalar.divsi v50 c1_i32_17
  let v53 : BitVec 32 := Scalar.muli v52 c1_i32_17
  let v54 : BitVec 32 := Scalar.addi c0_i32_16 v53
  let v51 : BitVec 32 := Scalar.addi c0_i32_16 v50
  let c1_i32_19 : BitVec 32 := 1#32
  ⟨v54, v51, c1_i32_19⟩
def k0_mult4 (i : grid0.Coords) (k0_t2 : Fin (k0_t2_loop i).trips) : BitVec 32 :=
  let c2_i32_37 : BitVec 32 := 2#32
  let c0_i32_16 : BitVec 32 := 0#32
  let arg1 : BitVec 32 := BitVec.ofNat 32 (i 1).val
  let c0_i32 : BitVec 32 := 0#32
  let v34 : BitVec 1 := Scalar.cmpi .sgt arg1 c0_i32
  let v35 : BitVec 32 := Scalar.extui v34
  let c0_i32_11 : BitVec 32 := 0#32
  let v36 : BitVec 1 := Scalar.cmpi .slt arg1 c0_i32_11
  let v37 : BitVec 32 := Scalar.extui v36
  let v38 : BitVec 32 := Scalar.subi v35 v37
  let c2_i32 : BitVec 32 := 2#32
  let c0_i32_12 : BitVec 32 := 0#32
  let v39 : BitVec 1 := Scalar.cmpi .sgt c2_i32 c0_i32_12
  let v40 : BitVec 32 := Scalar.extui v39
  let c0_i32_13 : BitVec 32 := 0#32
  let v41 : BitVec 1 := Scalar.cmpi .slt c2_i32 c0_i32_13
  let v42 : BitVec 32 := Scalar.extui v41
  let v43 : BitVec 32 := Scalar.subi v40 v42
  let v44 : BitVec 1 := Scalar.cmpi .ne v38 v43
  let v45 : BitVec 32 := Scalar.remsi arg1 c2_i32
  let c0_i32_14 : BitVec 32 := 0#32
  let v46 : BitVec 1 := Scalar.cmpi .ne v45 c0_i32_14
  let v47 : BitVec 1 := Scalar.andi v44 v46
  let v33 : BitVec 32 := Scalar.divsi arg1 c2_i32
  let c1_i32 : BitVec 32 := 1#32
  let v48 : BitVec 32 := Scalar.subi v33 c1_i32
  let v49 : BitVec 32 := Scalar.select v47 v48 v33
  let v50 : BitVec 32 := Scalar.subi v49 c0_i32_16
  let c1_i32_17 : BitVec 32 := 1#32
  let v52 : BitVec 32 := Scalar.divsi v50 c1_i32_17
  let v53 : BitVec 32 := Scalar.muli v52 c1_i32_17
  let v54 : BitVec 32 := Scalar.addi c0_i32_16 v53
  let c1_i32_19 : BitVec 32 := 1#32
  let arg9 : BitVec 32 := Scf.iv v54 c1_i32_19 k0_t2
  let v76 : BitVec 32 := Scalar.muli c2_i32_37 arg9
  let c512_i32_38 : BitVec 32 := 512#32
  let v77 : BitVec 32 := Scalar.muli v76 c512_i32_38
  v77
def k0_off4 (i : grid0.Coords) (k0_t2 : Fin (k0_t2_loop i).trips) : Fin 2 → Nat :=
  let c2_i32_37 : BitVec 32 := 2#32
  let c0_i32_16 : BitVec 32 := 0#32
  let arg1 : BitVec 32 := BitVec.ofNat 32 (i 1).val
  let c0_i32 : BitVec 32 := 0#32
  let v34 : BitVec 1 := Scalar.cmpi .sgt arg1 c0_i32
  let v35 : BitVec 32 := Scalar.extui v34
  let c0_i32_11 : BitVec 32 := 0#32
  let v36 : BitVec 1 := Scalar.cmpi .slt arg1 c0_i32_11
  let v37 : BitVec 32 := Scalar.extui v36
  let v38 : BitVec 32 := Scalar.subi v35 v37
  let c2_i32 : BitVec 32 := 2#32
  let c0_i32_12 : BitVec 32 := 0#32
  let v39 : BitVec 1 := Scalar.cmpi .sgt c2_i32 c0_i32_12
  let v40 : BitVec 32 := Scalar.extui v39
  let c0_i32_13 : BitVec 32 := 0#32
  let v41 : BitVec 1 := Scalar.cmpi .slt c2_i32 c0_i32_13
  let v42 : BitVec 32 := Scalar.extui v41
  let v43 : BitVec 32 := Scalar.subi v40 v42
  let v44 : BitVec 1 := Scalar.cmpi .ne v38 v43
  let v45 : BitVec 32 := Scalar.remsi arg1 c2_i32
  let c0_i32_14 : BitVec 32 := 0#32
  let v46 : BitVec 1 := Scalar.cmpi .ne v45 c0_i32_14
  let v47 : BitVec 1 := Scalar.andi v44 v46
  let v33 : BitVec 32 := Scalar.divsi arg1 c2_i32
  let c1_i32 : BitVec 32 := 1#32
  let v48 : BitVec 32 := Scalar.subi v33 c1_i32
  let v49 : BitVec 32 := Scalar.select v47 v48 v33
  let v50 : BitVec 32 := Scalar.subi v49 c0_i32_16
  let c1_i32_17 : BitVec 32 := 1#32
  let v52 : BitVec 32 := Scalar.divsi v50 c1_i32_17
  let v53 : BitVec 32 := Scalar.muli v52 c1_i32_17
  let v54 : BitVec 32 := Scalar.addi c0_i32_16 v53
  let c1_i32_19 : BitVec 32 := 1#32
  let arg9 : BitVec 32 := Scf.iv v54 c1_i32_19 k0_t2
  let v76 : BitVec 32 := Scalar.muli c2_i32_37 arg9
  let c512_i32_38 : BitVec 32 := 512#32
  let v77 : BitVec 32 := Scalar.muli v76 c512_i32_38
  let v78 : BitVec 32 := v77
  let v79 : Index := Scalar.indexCast v78
  let c0_39 : Index := 0#32
  ![v79.toNat, 0]
def k0_mult5 (i : grid0.Coords) (k0_t2 : Fin (k0_t2_loop i).trips) : BitVec 32 :=
  let c2_i32_42 : BitVec 32 := 2#32
  let c0_i32_16 : BitVec 32 := 0#32
  let arg1 : BitVec 32 := BitVec.ofNat 32 (i 1).val
  let c0_i32 : BitVec 32 := 0#32
  let v34 : BitVec 1 := Scalar.cmpi .sgt arg1 c0_i32
  let v35 : BitVec 32 := Scalar.extui v34
  let c0_i32_11 : BitVec 32 := 0#32
  let v36 : BitVec 1 := Scalar.cmpi .slt arg1 c0_i32_11
  let v37 : BitVec 32 := Scalar.extui v36
  let v38 : BitVec 32 := Scalar.subi v35 v37
  let c2_i32 : BitVec 32 := 2#32
  let c0_i32_12 : BitVec 32 := 0#32
  let v39 : BitVec 1 := Scalar.cmpi .sgt c2_i32 c0_i32_12
  let v40 : BitVec 32 := Scalar.extui v39
  let c0_i32_13 : BitVec 32 := 0#32
  let v41 : BitVec 1 := Scalar.cmpi .slt c2_i32 c0_i32_13
  let v42 : BitVec 32 := Scalar.extui v41
  let v43 : BitVec 32 := Scalar.subi v40 v42
  let v44 : BitVec 1 := Scalar.cmpi .ne v38 v43
  let v45 : BitVec 32 := Scalar.remsi arg1 c2_i32
  let c0_i32_14 : BitVec 32 := 0#32
  let v46 : BitVec 1 := Scalar.cmpi .ne v45 c0_i32_14
  let v47 : BitVec 1 := Scalar.andi v44 v46
  let v33 : BitVec 32 := Scalar.divsi arg1 c2_i32
  let c1_i32 : BitVec 32 := 1#32
  let v48 : BitVec 32 := Scalar.subi v33 c1_i32
  let v49 : BitVec 32 := Scalar.select v47 v48 v33
  let v50 : BitVec 32 := Scalar.subi v49 c0_i32_16
  let c1_i32_17 : BitVec 32 := 1#32
  let v52 : BitVec 32 := Scalar.divsi v50 c1_i32_17
  let v53 : BitVec 32 := Scalar.muli v52 c1_i32_17
  let v54 : BitVec 32 := Scalar.addi c0_i32_16 v53
  let c1_i32_19 : BitVec 32 := 1#32
  let arg9 : BitVec 32 := Scf.iv v54 c1_i32_19 k0_t2
  let v85 : BitVec 32 := Scalar.muli c2_i32_42 arg9
  let c1_i32_43 : BitVec 32 := 1#32
  let v86 : BitVec 32 := Scalar.addi v85 c1_i32_43
  let c512_i32_44 : BitVec 32 := 512#32
  let v87 : BitVec 32 := Scalar.muli v86 c512_i32_44
  v87
def k0_off5 (i : grid0.Coords) (k0_t2 : Fin (k0_t2_loop i).trips) : Fin 2 → Nat :=
  let c2_i32_42 : BitVec 32 := 2#32
  let c0_i32_16 : BitVec 32 := 0#32
  let arg1 : BitVec 32 := BitVec.ofNat 32 (i 1).val
  let c0_i32 : BitVec 32 := 0#32
  let v34 : BitVec 1 := Scalar.cmpi .sgt arg1 c0_i32
  let v35 : BitVec 32 := Scalar.extui v34
  let c0_i32_11 : BitVec 32 := 0#32
  let v36 : BitVec 1 := Scalar.cmpi .slt arg1 c0_i32_11
  let v37 : BitVec 32 := Scalar.extui v36
  let v38 : BitVec 32 := Scalar.subi v35 v37
  let c2_i32 : BitVec 32 := 2#32
  let c0_i32_12 : BitVec 32 := 0#32
  let v39 : BitVec 1 := Scalar.cmpi .sgt c2_i32 c0_i32_12
  let v40 : BitVec 32 := Scalar.extui v39
  let c0_i32_13 : BitVec 32 := 0#32
  let v41 : BitVec 1 := Scalar.cmpi .slt c2_i32 c0_i32_13
  let v42 : BitVec 32 := Scalar.extui v41
  let v43 : BitVec 32 := Scalar.subi v40 v42
  let v44 : BitVec 1 := Scalar.cmpi .ne v38 v43
  let v45 : BitVec 32 := Scalar.remsi arg1 c2_i32
  let c0_i32_14 : BitVec 32 := 0#32
  let v46 : BitVec 1 := Scalar.cmpi .ne v45 c0_i32_14
  let v47 : BitVec 1 := Scalar.andi v44 v46
  let v33 : BitVec 32 := Scalar.divsi arg1 c2_i32
  let c1_i32 : BitVec 32 := 1#32
  let v48 : BitVec 32 := Scalar.subi v33 c1_i32
  let v49 : BitVec 32 := Scalar.select v47 v48 v33
  let v50 : BitVec 32 := Scalar.subi v49 c0_i32_16
  let c1_i32_17 : BitVec 32 := 1#32
  let v52 : BitVec 32 := Scalar.divsi v50 c1_i32_17
  let v53 : BitVec 32 := Scalar.muli v52 c1_i32_17
  let v54 : BitVec 32 := Scalar.addi c0_i32_16 v53
  let c1_i32_19 : BitVec 32 := 1#32
  let arg9 : BitVec 32 := Scf.iv v54 c1_i32_19 k0_t2
  let v85 : BitVec 32 := Scalar.muli c2_i32_42 arg9
  let c1_i32_43 : BitVec 32 := 1#32
  let v86 : BitVec 32 := Scalar.addi v85 c1_i32_43
  let c512_i32_44 : BitVec 32 := 512#32
  let v87 : BitVec 32 := Scalar.muli v86 c512_i32_44
  let v88 : BitVec 32 := v87
  let v89 : Index := Scalar.indexCast v88
  let c0_45 : Index := 0#32
  ![v89.toNat, 0]
def k0_cond1 (i : grid0.Coords) : BitVec 1 :=
  let arg1 : BitVec 32 := BitVec.ofNat 32 (i 1).val
  let c2_i32_20 : BitVec 32 := 2#32
  let c0_i32_21 : BitVec 32 := 0#32
  let v55 : BitVec 1 := Scalar.cmpi .eq c2_i32_20 c0_i32_21
  let c1_i32_22 : BitVec 32 := 1#32
  let v56 : BitVec 32 := Scalar.select v55 c1_i32_22 c2_i32_20
  let v57 : BitVec 32 := Scalar.remsi arg1 v56
  let c0_i32_24 : BitVec 32 := 0#32
  let v59 : BitVec 1 := Scalar.cmpi .slt v57 c0_i32_24
  let c0_i32_25 : BitVec 32 := 0#32
  let v60 : BitVec 1 := Scalar.cmpi .slt v56 c0_i32_25
  let v61 : BitVec 1 := Scalar.xori v59 v60
  let c0_i32_23 : BitVec 32 := 0#32
  let v58 : BitVec 1 := Scalar.cmpi .ne v57 c0_i32_23
  let v62 : BitVec 1 := Scalar.andi v61 v58
  let v63 : BitVec 32 := Scalar.addi v57 v56
  let v64 : BitVec 32 := Scalar.select v62 v63 v57
  let c1_i32_26 : BitVec 32 := 1#32
  let v65 : BitVec 1 := Scalar.cmpi .eq v64 c1_i32_26
  let v66 : BitVec 32 := Scalar.extui v65
  let c0_i32_27 : BitVec 32 := 0#32
  let v67 : BitVec 1 := Scalar.cmpi .ne v66 c0_i32_27
  v67

def k0_mult6 (i : grid0.Coords) : BitVec 32 :=
  let arg1 : BitVec 32 := BitVec.ofNat 32 (i 1).val
  let c1_i32_37 : BitVec 32 := 1#32
  let v76 : BitVec 32 := Scalar.subi arg1 c1_i32_37
  let c512_i32_38 : BitVec 32 := 512#32
  let v77 : BitVec 32 := Scalar.muli v76 c512_i32_38
  v77
def k0_off6 (i : grid0.Coords) : Fin 2 → Nat :=
  let arg1 : BitVec 32 := BitVec.ofNat 32 (i 1).val
  let c1_i32_37 : BitVec 32 := 1#32
  let v76 : BitVec 32 := Scalar.subi arg1 c1_i32_37
  let c512_i32_38 : BitVec 32 := 512#32
  let v77 : BitVec 32 := Scalar.muli v76 c512_i32_38
  let v78 : BitVec 32 := v77
  let v79 : Index := Scalar.indexCast v78
  let c0_39 : Index := 0#32
  ![v79.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelMlaIdeal.lean ====
variable {F : FTy → Type} [FloatOps F] [Named F]
def κ : String → Option EReal := fun
  | "mask" => some ⊥
  | _ => none
-- ==== ReferenceMlaIdeal.lean ====
abbrev S4096x2048 : Shape := ⟨2, ![4096, 2048]⟩
abbrev S4096x1024 : Shape := ⟨2, ![4096, 1024]⟩
abbrev S4096x8x256 : Shape := ⟨3, ![4096, 8, 256]⟩
abbrev S4096x8x128 : Shape := ⟨3, ![4096, 8, 128]⟩
abbrev S8x4096x4096 : Shape := ⟨3, ![8, 4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S1x4096x4096 : Shape := ⟨3, ![1, 4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S4096x8 : Shape := ⟨2, ![4096, 8]⟩

abbrev nBuf : Space → Nat
  | .hbm => 70
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x1024, .bf16⟩
  | .hbm, ⟨3, _⟩ => ⟨S4096x2048, .f32⟩
  | .hbm, ⟨4, _⟩ => ⟨S4096x8x256, .f32⟩
  | .hbm, ⟨5, _⟩ => ⟨S4096x2048, .f32⟩
  | .hbm, ⟨6, _⟩ => ⟨S4096x8x256, .f32⟩
  | .hbm, ⟨7, _⟩ => ⟨S4096x1024, .f32⟩
  | .hbm, ⟨8, _⟩ => ⟨S4096x8x128, .f32⟩
  | .hbm, ⟨9, _⟩ => ⟨S8x4096x4096, .f32⟩
  | .hbm, ⟨10, _⟩ => ⟨S4096, .i32⟩
  | .hbm, ⟨11, _⟩ => ⟨S_, .i32⟩
  | .hbm, ⟨12, _⟩ => ⟨S_, .i32⟩
  | .hbm, ⟨13, _⟩ => ⟨S4096, .i32⟩
  | .hbm, ⟨14, _⟩ => ⟨S4096, .i32⟩
  | .hbm, ⟨15, _⟩ => ⟨S4096, .i32⟩
  | .hbm, ⟨16, _⟩ => ⟨S_, .i32⟩
  | .hbm, ⟨17, _⟩ => ⟨S4096, .i32⟩
  | .hbm, ⟨18, _⟩ => ⟨S4096, .i1⟩
  | .hbm, ⟨19, _⟩ => ⟨S4096, .i32⟩
  | .hbm, ⟨20, _⟩ => ⟨S4096, .i32⟩
  | .hbm, ⟨21, _⟩ => ⟨S_, .i32⟩
  | .hbm, ⟨22, _⟩ => ⟨S4096, .i32⟩
  | .hbm, ⟨23, _⟩ => ⟨S4096, .i1⟩
  | .hbm, ⟨24, _⟩ => ⟨S4096, .i1⟩
  | .hbm, ⟨25, _⟩ => ⟨S_, .i32⟩
  | .hbm, ⟨26, _⟩ => ⟨S4096, .i32⟩
  | .hbm, ⟨27, _⟩ => ⟨S4096, .i32⟩
  | .hbm, ⟨28, _⟩ => ⟨S4096, .i32⟩
  | .hbm, ⟨29, _⟩ => ⟨S4096x1, .i32⟩
  | .hbm, ⟨30, _⟩ => ⟨S1x4096, .i32⟩
  | .hbm, ⟨31, _⟩ => ⟨S4096x4096, .i32⟩
  | .hbm, ⟨32, _⟩ => ⟨S4096x4096, .i32⟩
  | .hbm, ⟨33, _⟩ => ⟨S4096x4096, .i1⟩
  | .hbm, ⟨34, _⟩ => ⟨S1x4096x4096, .i1⟩
  | .hbm, ⟨35, _⟩ => ⟨S_, .f32⟩
  | .hbm, ⟨36, _⟩ => ⟨S_, .f32⟩
  | .hbm, ⟨37, _⟩ => ⟨S8x4096x4096, .i1⟩
  | .hbm, ⟨38, _⟩ => ⟨S8x4096x4096, .f32⟩
  | .hbm, ⟨39, _⟩ => ⟨S8x4096x4096, .f32⟩
  | .hbm, ⟨40, _⟩ => ⟨S_, .f32⟩
  | .hbm, ⟨41, _⟩ => ⟨S8x4096, .f32⟩
  | .hbm, ⟨42, _⟩ => ⟨S_, .f32⟩
  | .hbm, ⟨43, _⟩ => ⟨S8x4096, .f32⟩
  | .hbm, ⟨44, _⟩ => ⟨S8x4096, .f32⟩
  | .hbm, ⟨45, _⟩ => ⟨S8x4096x1, .f32⟩
  | .hbm, ⟨46, _⟩ => ⟨S8x4096x4096, .f32⟩
  | .hbm, ⟨47, _⟩ => ⟨S8x4096x4096, .f32⟩
  | .hbm, ⟨48, _⟩ => ⟨S8x4096x4096, .f32⟩
  | .hbm, ⟨49, _⟩ => ⟨S_, .f32⟩
  | .hbm, ⟨50, _⟩ => ⟨S8x4096, .f32⟩
  | .hbm, ⟨51, _⟩ => ⟨S8x4096x1, .f32⟩
  | .hbm, ⟨52, _⟩ => ⟨S8x4096x4096, .f32⟩
  | .hbm, ⟨53, _⟩ => ⟨S8x4096x4096, .f32⟩
  | .hbm, ⟨54, _⟩ => ⟨S8x128x4096, .f32⟩
  | .hbm, ⟨55, _⟩ => ⟨S4096x8x128, .f32⟩
  | .hbm, ⟨56, _⟩ => ⟨S_, .f32⟩
  | .hbm, ⟨57, _⟩ => ⟨S8x4096, .f32⟩
  | .hbm, ⟨58, _⟩ => ⟨S8x4096x1, .f32⟩
  | .hbm, ⟨59, _⟩ => ⟨S8x4096x4096, .f32⟩
  | .hbm, ⟨60, _⟩ => ⟨S8x4096x4096, .f32⟩
  | .hbm, ⟨61, _⟩ => ⟨S8x4096x4096, .f32⟩
  | .hbm, ⟨62, _⟩ => ⟨S_, .f32⟩
  | .hbm, ⟨63, _⟩ => ⟨S8x4096, .f32⟩
  | .hbm, ⟨64, _⟩ => ⟨S8x4096, .f32⟩
  | .hbm, ⟨65, _⟩ => ⟨S8x4096, .f32⟩
  | .hbm, ⟨66, _⟩ => ⟨S4096x1024, .f32⟩
  | .hbm, ⟨67, _⟩ => ⟨S4096x8, .f32⟩
  | .hbm, ⟨68, _⟩ => ⟨S4096x8x128, .f32⟩
  | .hbm, ⟨69, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v15 : Ref sig .tc := ⟨.hbm, 39, rfl⟩
abbrev main_cst_0 : Ref sig .tc := ⟨.hbm, 40, rfl⟩
abbrev main_v16 : Ref sig .tc := ⟨.hbm, 41, rfl⟩
abbrev main_cst_1 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_cst_2 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_3 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_cst_4 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩

abbrev nD : Nat := 1
abbrev τ : Topo := Topo.v7x

variable {F : FTy → Type} [FloatOps F]
-- ==== KernelMlaBwd.lean ====
abbrev S4096x2048 : Shape := ⟨2, ![4096, 2048]⟩
abbrev S4096x1024 : Shape := ⟨2, ![4096, 1024]⟩
abbrev S4096x8x256 : Shape := ⟨3, ![4096, 8, 256]⟩
abbrev S4096x8x128 : Shape := ⟨3, ![4096, 8, 128]⟩
abbrev S8x4096x4096 : Shape := ⟨3, ![8, 4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S1x4096x4096 : Shape := ⟨3, ![1, 4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S4096x8 : Shape := ⟨2, ![4096, 8]⟩
abbrev S512x256 : Shape := ⟨2, ![512, 256]⟩
abbrev S4096x256 : Shape := ⟨2, ![4096, 256]⟩
abbrev S4096x128 : Shape := ⟨2, ![4096, 128]⟩
abbrev S512x128 : Shape := ⟨2, ![512, 128]⟩
abbrev S512 : Shape := ⟨1, ![512]⟩
abbrev S512x1 : Shape := ⟨2, ![512, 1]⟩
abbrev S512x512 : Shape := ⟨2, ![512, 512]⟩

abbrev nBuf : Space → Nat
  | .hbm => 79
  | .vmem => 19
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x1024, .bf16⟩
  | .hbm, ⟨3, _⟩ => ⟨S4096x1024, .f32⟩
  | .hbm, ⟨4, _⟩ => ⟨S4096x2048, .f32⟩
  | .hbm, ⟨5, _⟩ => ⟨S4096x8x256, .f32⟩
  | .hbm, ⟨6, _⟩ => ⟨S4096x2048, .f32⟩
  | .hbm, ⟨7, _⟩ => ⟨S4096x8x256, .f32⟩
  | .hbm, ⟨8, _⟩ => ⟨S4096x1024, .f32⟩
  | .hbm, ⟨9, _⟩ => ⟨S4096x8x128, .f32⟩
  | .hbm, ⟨10, _⟩ => ⟨S8x4096x4096, .f32⟩
  | .hbm, ⟨11, _⟩ => ⟨S4096, .i32⟩
  | .hbm, ⟨12, _⟩ => ⟨S_, .i32⟩
  | .hbm, ⟨13, _⟩ => ⟨S_, .i32⟩
  | .hbm, ⟨14, _⟩ => ⟨S4096, .i32⟩
  | .hbm, ⟨15, _⟩ => ⟨S4096, .i32⟩
  | .hbm, ⟨16, _⟩ => ⟨S4096, .i32⟩
  | .hbm, ⟨17, _⟩ => ⟨S_, .i32⟩
  | .hbm, ⟨18, _⟩ => ⟨S4096, .i32⟩
  | .hbm, ⟨19, _⟩ => ⟨S4096, .i1⟩
  | .hbm, ⟨20, _⟩ => ⟨S4096, .i32⟩
  | .hbm, ⟨21, _⟩ => ⟨S4096, .i32⟩
  | .hbm, ⟨22, _⟩ => ⟨S_, .i32⟩
  | .hbm, ⟨23, _⟩ => ⟨S4096, .i32⟩
  | .hbm, ⟨24, _⟩ => ⟨S4096, .i1⟩
  | .hbm, ⟨25, _⟩ => ⟨S4096, .i1⟩
  | .hbm, ⟨26, _⟩ => ⟨S_, .i32⟩
  | .hbm, ⟨27, _⟩ => ⟨S4096, .i32⟩
  | .hbm, ⟨28, _⟩ => ⟨S4096, .i32⟩
  | .hbm, ⟨29, _⟩ => ⟨S4096, .i32⟩
  | .hbm, ⟨30, _⟩ => ⟨S4096x1, .i32⟩
  | .hbm, ⟨31, _⟩ => ⟨S1x4096, .i32⟩
  | .hbm, ⟨32, _⟩ => ⟨S4096x4096, .i32⟩
  | .hbm, ⟨33, _⟩ => ⟨S4096x4096, .i32⟩
  | .hbm, ⟨34, _⟩ => ⟨S4096x4096, .i1⟩
  | .hbm, ⟨35, _⟩ => ⟨S1x4096x4096, .i1⟩
  | .hbm, ⟨36, _⟩ => ⟨S_, .f32⟩
  | .hbm, ⟨37, _⟩ => ⟨S_, .f32⟩
  | .hbm, ⟨38, _⟩ => ⟨S8x4096x4096, .i1⟩
  | .hbm, ⟨39, _⟩ => ⟨S8x4096x4096, .f32⟩
  | .hbm, ⟨40, _⟩ => ⟨S8x4096x4096, .f32⟩
  | .hbm, ⟨41, _⟩ => ⟨S_, .f32⟩
  | .hbm, ⟨42, _⟩ => ⟨S8x4096, .f32⟩
  | .hbm, ⟨43, _⟩ => ⟨S_, .f32⟩
  | .hbm, ⟨44, _⟩ => ⟨S8x4096, .f32⟩
  | .hbm, ⟨45, _⟩ => ⟨S8x4096, .f32⟩
  | .hbm, ⟨46, _⟩ => ⟨S8x4096x1, .f32⟩
  | .hbm, ⟨47, _⟩ => ⟨S8x4096x4096, .f32⟩
  | .hbm, ⟨48, _⟩ => ⟨S8x4096x4096, .f32⟩
  | .hbm, ⟨49, _⟩ => ⟨S8x4096x4096, .f32⟩
  | .hbm, ⟨50, _⟩ => ⟨S_, .f32⟩
  | .hbm, ⟨51, _⟩ => ⟨S8x4096, .f32⟩
  | .hbm, ⟨52, _⟩ => ⟨S8x4096x1, .f32⟩
  | .hbm, ⟨53, _⟩ => ⟨S8x4096x4096, .f32⟩
  | .hbm, ⟨54, _⟩ => ⟨S8x4096x4096, .f32⟩
  | .hbm, ⟨55, _⟩ => ⟨S8x128x4096, .f32⟩
  | .hbm, ⟨56, _⟩ => ⟨S4096x8x128, .f32⟩
  | .hbm, ⟨57, _⟩ => ⟨S_, .f32⟩
  | .hbm, ⟨58, _⟩ => ⟨S8x4096, .f32⟩
  | .hbm, ⟨59, _⟩ => ⟨S8x4096x1, .f32⟩
  | .hbm, ⟨60, _⟩ => ⟨S8x4096x4096, .f32⟩
  | .hbm, ⟨61, _⟩ => ⟨S8x4096x4096, .f32⟩
  | .hbm, ⟨62, _⟩ => ⟨S8x4096x4096, .f32⟩
  | .hbm, ⟨63, _⟩ => ⟨S_, .f32⟩
  | .hbm, ⟨64, _⟩ => ⟨S8x4096, .f32⟩
  | .hbm, ⟨65, _⟩ => ⟨S8x4096, .f32⟩
  | .hbm, ⟨66, _⟩ => ⟨S8x4096, .f32⟩
  | .hbm, ⟨67, _⟩ => ⟨S4096x1024, .f32⟩
  | .hbm, ⟨68, _⟩ => ⟨S4096x8, .f32⟩
  | .hbm, ⟨69, _⟩ => ⟨S4096x8x128, .f32⟩
  | .hbm, ⟨70, _⟩ => ⟨S4096x1024, .f32⟩
  | .hbm, ⟨71, _⟩ => ⟨S_, .bf16⟩
  | .hbm, ⟨72, _⟩ => ⟨S4096x8x128, .bf16⟩
  | .hbm, ⟨73, _⟩ => ⟨S4096x8x128, .bf16⟩
  | .hbm, ⟨74, _⟩ => ⟨S4096x8x256, .bf16⟩
  | .hbm, ⟨75, _⟩ => ⟨S4096x2048, .bf16⟩
  | .hbm, ⟨76, _⟩ => ⟨S4096x2048, .f32⟩
  | .hbm, ⟨77, _⟩ => ⟨S4096x2048, .f32⟩
  | .hbm, ⟨78, _⟩ => ⟨S4096x1024, .f32⟩
  | .local _ .vmem, ⟨0, _⟩ => ⟨S512x256, .bf16⟩
  | .local _ .vmem, ⟨1, _⟩ => ⟨S512x256, .bf16⟩
  | .local _ .vmem, ⟨2, _⟩ => ⟨S4096x256, .bf16⟩
  | .local _ .vmem, ⟨3, _⟩ => ⟨S4096x256, .bf16⟩
  | .local _ .vmem, ⟨4, _⟩ => ⟨S4096x128, .bf16⟩
  | .local _ .vmem, ⟨5, _⟩ => ⟨S4096x128, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x256, .f32⟩
  | .local _ .vmem, ⟨13, _⟩ => ⟨S512x256, .f32⟩
  | .local _ .vmem, ⟨14, _⟩ => ⟨S4096x256, .f32⟩
  | .local _ .vmem, ⟨15, _⟩ => ⟨S4096x256, .f32⟩
  | .local _ .vmem, ⟨16, _⟩ => ⟨S4096x128, .f32⟩
  | .local _ .vmem, ⟨17, _⟩ => ⟨S4096x128, .f32⟩
  | .local _ .vmem, ⟨18, _⟩ => ⟨S512x256, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v15 : Ref sig .tc := ⟨.hbm, 40, rfl⟩
abbrev main_cst_0 : Ref sig .tc := ⟨.hbm, 41, rfl⟩
abbrev main_v16 : Ref sig .tc := ⟨.hbm, 42, rfl⟩
abbrev main_cst_1 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_cst_2 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_cst_3 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_cst_4 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_cst_5 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45_0 : Ref sig .tc := ⟨.hbm, 76, rfl⟩
abbrev main_v45_1 : Ref sig .tc := ⟨.hbm, 77, rfl⟩
abbrev main_v45_2 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c512_i32 : BitVec 32 := 512#32
  let v18 : BitVec 32 := Scalar.muli arg1 c512_i32
  v18
def k0_off1 (i : grid0.Coords) : Fin 2 → Nat :=
  let arg1 : BitVec 32 := BitVec.ofNat 32 (i 1).val
  let c512_i32 : BitVec 32 := 512#32
  let v18 : BitVec 32 := Scalar.muli arg1 c512_i32
  let v19 : BitVec 32 := v18
  let v20 : Index := Scalar.indexCast v19
  let c0_11 : Index := 0#32
  ![v20.toNat, 0]
def k0_off2 (i : grid0.Coords) : Fin 2 → Nat :=
  let arg1 : BitVec 32 := BitVec.ofNat 32 (i 1).val
  let c512_i32 : BitVec 32 := 512#32
  let v18 : BitVec 32 := Scalar.muli arg1 c512_i32
  let v19 : BitVec 32 := v18
  let v23 : Index := Scalar.indexCast v19
  let c0_13 : Index := 0#32
  ![v23.toNat, 0]
@[reducible] def k0_t1_loop (i : grid0.Coords) : Scf.Loop 32 :=
  let c0_i32_34 : BitVec 32 := 0#32
  let arg1 : BitVec 32 := BitVec.ofNat 32 (i 1).val
  let c0_i32_28 : BitVec 32 := 0#32
  let v64 : BitVec 1 := Scalar.cmpi .sgt arg1 c0_i32_28
  let v65 : BitVec 32 := Scalar.extui v64
  let c0_i32_29 : BitVec 32 := 0#32
  let v66 : BitVec 1 := Scalar.cmpi .slt arg1 c0_i32_29
  let v67 : BitVec 32 := Scalar.extui v66
  let v68 : BitVec 32 := Scalar.subi v65 v67
  let c2_i32 : BitVec 32 := 2#32
  let c0_i32_30 : BitVec 32 := 0#32
  let v69 : BitVec 1 := Scalar.cmpi .sgt c2_i32 c0_i32_30
  let v70 : BitVec 32 := Scalar.extui v69
  let c0_i32_31 : BitVec 32 := 0#32
  let v71 : BitVec 1 := Scalar.cmpi .slt c2_i32 c0_i32_31
  let v72 : BitVec 32 := Scalar.extui v71
  let v73 : BitVec 32 := Scalar.subi v70 v72
  let v74 : BitVec 1 := Scalar.cmpi .ne v68 v73
  let v75 : BitVec 32 := Scalar.remsi arg1 c2_i32
  let c0_i32_32 : BitVec 32 := 0#32
  let v76 : BitVec 1 := Scalar.cmpi .ne v75 c0_i32_32
  let v77 : BitVec 1 := Scalar.andi v74 v76
  let v63 : BitVec 32 := Scalar.divsi arg1 c2_i32
  let c1_i32 : BitVec 32 := 1#32
  let v78 : BitVec 32 := Scalar.subi v63 c1_i32
  let v79 : BitVec 32 := Scalar.select v77 v78 v63
  let v80 : BitVec 32 := Scalar.subi v79 c0_i32_34
  let c1_i32_35 : BitVec 32 := 1#32
  let v82 : BitVec 32 := Scalar.divsi v80 c1_i32_35
  let v83 : BitVec 32 := Scalar.muli v82 c1_i32_35
  let v84 : BitVec 32 := Scalar.addi c0_i32_34 v83
  let c1_i32_36 : BitVec 32 := 1#32
  ⟨c0_i32_34, v84, c1_i32_36⟩
def k0_mult2 (i : grid0.Coords) (k0_t1 : Fin (k0_t1_loop i).trips) : BitVec 32 :=
  let c2_i32_50 : BitVec 32 := 2#32
  let c0_i32_34 : BitVec 32 := 0#32
  let c1_i32_36 : BitVec 32 := 1#32
  let arg12 : BitVec 32 := Scf.iv c0_i32_34 c1_i32_36 k0_t1
  let v100 : BitVec 32 := Scalar.muli c2_i32_50 arg12
  let c512_i32_51 : BitVec 32 := 512#32
  let v101 : BitVec 32 := Scalar.muli v100 c512_i32_51
  v101
def k0_off3 (i : grid0.Coords) (k0_t1 : Fin (k0_t1_loop i).trips) : Fin 2 → Nat :=
  let c2_i32_50 : BitVec 32 := 2#32
  let c0_i32_34 : BitVec 32 := 0#32
  let c1_i32_36 : BitVec 32 := 1#32
  let arg12 : BitVec 32 := Scf.iv c0_i32_34 c1_i32_36 k0_t1
  let v100 : BitVec 32 := Scalar.muli c2_i32_50 arg12
  let c512_i32_51 : BitVec 32 := 512#32
  let v101 : BitVec 32 := Scalar.muli v100 c512_i32_51
  let v102 : BitVec 32 := v101
  let v103 : Index := Scalar.indexCast v102
  let c0_52 : Index := 0#32
  ![v103.toNat, 0]
def k0_off4 (i : grid0.Coords) (k0_t1 : Fin (k0_t1_loop i).trips) : Fin 2 → Nat :=
  let c2_i32_50 : BitVec 32 := 2#32
  let c0_i32_34 : BitVec 32 := 0#32
  let c1_i32_36 : BitVec 32 := 1#32
  let arg12 : BitVec 32 := Scf.iv c0_i32_34 c1_i32_36 k0_t1
  let v100 : BitVec 32 := Scalar.muli c2_i32_50 arg12
  let c512_i32_51 : BitVec 32 := 512#32
  let v101 : BitVec 32 := Scalar.muli v100 c512_i32_51
  let v102 : BitVec 32 := v101
  let v106 : Index := Scalar.indexCast v102
  let c0_54 : Index := 0#32
  ![v106.toNat, 0]
def k0_mult3 (i : grid0.Coords) (k0_t1 : Fin (k0_t1_loop i).trips) : BitVec 32 :=
  let c2_i32_56 : BitVec 32 := 2#32
  let c0_i32_34 : BitVec 32 := 0#32
  let c1_i32_36 : BitVec 32 := 1#32
  let arg12 : BitVec 32 := Scf.iv c0_i32_34 c1_i32_36 k0_t1
  let v110 : BitVec 32 := Scalar.muli c2_i32_56 arg12
  let c1_i32_57 : BitVec 32 := 1#32
  let v111 : BitVec 32 := Scalar.addi v110 c1_i32_57
  let c512_i32_58 : BitVec 32 := 512#32
  let v112 : BitVec 32 := Scalar.muli v111 c512_i32_58
  v112
def k0_off5 (i : grid0.Coords) (k0_t1 : Fin (k0_t1_loop i).trips) : Fin 2 → Nat :=
  let c2_i32_56 : BitVec 32 := 2#32
  let c0_i32_34 : BitVec 32 := 0#32
  let c1_i32_36 : BitVec 32 := 1#32
  let arg12 : BitVec 32 := Scf.iv c0_i32_34 c1_i32_36 k0_t1
  let v110 : BitVec 32 := Scalar.muli c2_i32_56 arg12
  let c1_i32_57 : BitVec 32 := 1#32
  let v111 : BitVec 32 := Scalar.addi v110 c1_i32_57
  let c512_i32_58 : BitVec 32 := 512#32
  let v112 : BitVec 32 := Scalar.muli v111 c512_i32_58
  let v113 : BitVec 32 := v112
  let v114 : Index := Scalar.indexCast v113
  let c0_59 : Index := 0#32
  ![v114.toNat, 0]
def k0_off6 (i : grid0.Coords) (k0_t1 : Fin (k0_t1_loop i).trips) : Fin 2 → Nat :=
  let c2_i32_56 : BitVec 32 := 2#32
  let c0_i32_34 : BitVec 32 := 0#32
  let c1_i32_36 : BitVec 32 := 1#32
  let arg12 : BitVec 32 := Scf.iv c0_i32_34 c1_i32_36 k0_t1
  let v110 : BitVec 32 := Scalar.muli c2_i32_56 arg12
  let c1_i32_57 : BitVec 32 := 1#32
  let v111 : BitVec 32 := Scalar.addi v110 c1_i32_57
  let c512_i32_58 : BitVec 32 := 512#32
  let v112 : BitVec 32 := Scalar.muli v111 c512_i32_58
  let v113 : BitVec 32 := v112
  let v117 : Index := Scalar.indexCast v113
  let c0_61 : Index := 0#32
  ![v117.toNat, 0]
@[reducible] def k0_t2_loop (i : grid0.Coords) : Scf.Loop 32 :=
  let c0_i32_34 : BitVec 32 := 0#32
  let arg1 : BitVec 32 := BitVec.ofNat 32 (i 1).val
  let c0_i32_28 : BitVec 32 := 0#32
  let v64 : BitVec 1 := Scalar.cmpi .sgt arg1 c0_i32_28
  let v65 : BitVec 32 := Scalar.extui v64
  let c0_i32_29 : BitVec 32 := 0#32
  let v66 : BitVec 1 := Scalar.cmpi .slt arg1 c0_i32_29
  let v67 : BitVec 32 := Scalar.extui v66
  let v68 : BitVec 32 := Scalar.subi v65 v67
  let c2_i32 : BitVec 32 := 2#32
  let c0_i32_30 : BitVec 32 := 0#32
  let v69 : BitVec 1 := Scalar.cmpi .sgt c2_i32 c0_i32_30
  let v70 : BitVec 32 := Scalar.extui v69
  let c0_i32_31 : BitVec 32 := 0#32
  let v71 : BitVec 1 := Scalar.cmpi .slt c2_i32 c0_i32_31
  let v72 : BitVec 32 := Scalar.extui v71
  let v73 : BitVec 32 := Scalar.subi v70 v72
  let v74 : BitVec 1 := Scalar.cmpi .ne v68 v73
  let v75 : BitVec 32 := Scalar.remsi arg1 c2_i32
  let c0_i32_32 : BitVec 32 := 0#32
  let v76 : BitVec 1 := Scalar.cmpi .ne v75 c0_i32_32
  let v77 : BitVec 1 := Scalar.andi v74 v76
  let v63 : BitVec 32 := Scalar.divsi arg1 c2_i32
  let c1_i32 : BitVec 32 := 1#32
  let v78 : BitVec 32 := Scalar.subi v63 c1_i32
  let v79 : BitVec 32 := Scalar.select v77 v78 v63
  let v80 : BitVec 32 := Scalar.subi v79 c0_i32_34
  let c1_i32_35 : BitVec 32 := 1#32
  let v82 : BitVec 32 := Scalar.divsi v80 c1_i32_35
  let v83 : BitVec 32 := Scalar.muli v82 c1_i32_35
  let v84 : BitVec 32 := Scalar.addi c0_i32_34 v83
  let v81 : BitVec 32 := Scalar.addi c0_i32_34 v80
  let c1_i32_37 : BitVec 32 := 1#32
  ⟨v84, v81, c1_i32_37⟩
def k0_mult4 (i : grid0.Coords) (k0_t2 : Fin (k0_t2_loop i).trips) : BitVec 32 :=
  let c2_i32_50 : BitVec 32 := 2#32
  let c0_i32_34 : BitVec 32 := 0#32
  let arg1 : BitVec 32 := BitVec.ofNat 32 (i 1).val
  let c0_i32_28 : BitVec 32 := 0#32
  let v64 : BitVec 1 := Scalar.cmpi .sgt arg1 c0_i32_28
  let v65 : BitVec 32 := Scalar.extui v64
  let c0_i32_29 : BitVec 32 := 0#32
  let v66 : BitVec 1 := Scalar.cmpi .slt arg1 c0_i32_29
  let v67 : BitVec 32 := Scalar.extui v66
  let v68 : BitVec 32 := Scalar.subi v65 v67
  let c2_i32 : BitVec 32 := 2#32
  let c0_i32_30 : BitVec 32 := 0#32
  let v69 : BitVec 1 := Scalar.cmpi .sgt c2_i32 c0_i32_30
  let v70 : BitVec 32 := Scalar.extui v69
  let c0_i32_31 : BitVec 32 := 0#32
  let v71 : BitVec 1 := Scalar.cmpi .slt c2_i32 c0_i32_31
  let v72 : BitVec 32 := Scalar.extui v71
  let v73 : BitVec 32 := Scalar.subi v70 v72
  let v74 : BitVec 1 := Scalar.cmpi .ne v68 v73
  let v75 : BitVec 32 := Scalar.remsi arg1 c2_i32
  let c0_i32_32 : BitVec 32 := 0#32
  let v76 : BitVec 1 := Scalar.cmpi .ne v75 c0_i32_32
  let v77 : BitVec 1 := Scalar.andi v74 v76
  let v63 : BitVec 32 := Scalar.divsi arg1 c2_i32
  let c1_i32 : BitVec 32 := 1#32
  let v78 : BitVec 32 := Scalar.subi v63 c1_i32
  let v79 : BitVec 32 := Scalar.select v77 v78 v63
  let v80 : BitVec 32 := Scalar.subi v79 c0_i32_34
  let c1_i32_35 : BitVec 32 := 1#32
  let v82 : BitVec 32 := Scalar.divsi v80 c1_i32_35
  let v83 : BitVec 32 := Scalar.muli v82 c1_i32_35
  let v84 : BitVec 32 := Scalar.addi c0_i32_34 v83
  let c1_i32_37 : BitVec 32 := 1#32
  let arg12 : BitVec 32 := Scf.iv v84 c1_i32_37 k0_t2
  let v100 : BitVec 32 := Scalar.muli c2_i32_50 arg12
  let c512_i32_51 : BitVec 32 := 512#32
  let v101 : BitVec 32 := Scalar.muli v100 c512_i32_51
  v101
def k0_off7 (i : grid0.Coords) (k0_t2 : Fin (k0_t2_loop i).trips) : Fin 2 → Nat :=
  let c2_i32_50 : BitVec 32 := 2#32
  let c0_i32_34 : BitVec 32 := 0#32
  let arg1 : BitVec 32 := BitVec.ofNat 32 (i 1).val
  let c0_i32_28 : BitVec 32 := 0#32
  let v64 : BitVec 1 := Scalar.cmpi .sgt arg1 c0_i32_28
  let v65 : BitVec 32 := Scalar.extui v64
  let c0_i32_29 : BitVec 32 := 0#32
  let v66 : BitVec 1 := Scalar.cmpi .slt arg1 c0_i32_29
  let v67 : BitVec 32 := Scalar.extui v66
  let v68 : BitVec 32 := Scalar.subi v65 v67
  let c2_i32 : BitVec 32 := 2#32
  let c0_i32_30 : BitVec 32 := 0#32
  let v69 : BitVec 1 := Scalar.cmpi .sgt c2_i32 c0_i32_30
  let v70 : BitVec 32 := Scalar.extui v69
  let c0_i32_31 : BitVec 32 := 0#32
  let v71 : BitVec 1 := Scalar.cmpi .slt c2_i32 c0_i32_31
  let v72 : BitVec 32 := Scalar.extui v71
  let v73 : BitVec 32 := Scalar.subi v70 v72
  let v74 : BitVec 1 := Scalar.cmpi .ne v68 v73
  let v75 : BitVec 32 := Scalar.remsi arg1 c2_i32
  let c0_i32_32 : BitVec 32 := 0#32
  let v76 : BitVec 1 := Scalar.cmpi .ne v75 c0_i32_32
  let v77 : BitVec 1 := Scalar.andi v74 v76
  let v63 : BitVec 32 := Scalar.divsi arg1 c2_i32
  let c1_i32 : BitVec 32 := 1#32
  let v78 : BitVec 32 := Scalar.subi v63 c1_i32
  let v79 : BitVec 32 := Scalar.select v77 v78 v63
  let v80 : BitVec 32 := Scalar.subi v79 c0_i32_34
  let c1_i32_35 : BitVec 32 := 1#32
  let v82 : BitVec 32 := Scalar.divsi v80 c1_i32_35
  let v83 : BitVec 32 := Scalar.muli v82 c1_i32_35
  let v84 : BitVec 32 := Scalar.addi c0_i32_34 v83
  let c1_i32_37 : BitVec 32 := 1#32
  let arg12 : BitVec 32 := Scf.iv v84 c1_i32_37 k0_t2
  let v100 : BitVec 32 := Scalar.muli c2_i32_50 arg12
  let c512_i32_51 : BitVec 32 := 512#32
  let v101 : BitVec 32 := Scalar.muli v100 c512_i32_51
  let v102 : BitVec 32 := v101
  let v103 : Index := Scalar.indexCast v102
  let c0_52 : Index := 0#32
  ![v103.toNat, 0]
def k0_off8 (i : grid0.Coords) (k0_t2 : Fin (k0_t2_loop i).trips) : Fin 2 → Nat :=
  let c2_i32_50 : BitVec 32 := 2#32
  let c0_i32_34 : BitVec 32 := 0#32
  let arg1 : BitVec 32 := BitVec.ofNat 32 (i 1).val
  let c0_i32_28 : BitVec 32 := 0#32
  let v64 : BitVec 1 := Scalar.cmpi .sgt arg1 c0_i32_28
  let v65 : BitVec 32 := Scalar.extui v64
  let c0_i32_29 : BitVec 32 := 0#32
  let v66 : BitVec 1 := Scalar.cmpi .slt arg1 c0_i32_29
  let v67 : BitVec 32 := Scalar.extui v66
  let v68 : BitVec 32 := Scalar.subi v65 v67
  let c2_i32 : BitVec 32 := 2#32
  let c0_i32_30 : BitVec 32 := 0#32
  let v69 : BitVec 1 := Scalar.cmpi .sgt c2_i32 c0_i32_30
  let v70 : BitVec 32 := Scalar.extui v69
  let c0_i32_31 : BitVec 32 := 0#32
  let v71 : BitVec 1 := Scalar.cmpi .slt c2_i32 c0_i32_31
  let v72 : BitVec 32 := Scalar.extui v71
  let v73 : BitVec 32 := Scalar.subi v70 v72
  let v74 : BitVec 1 := Scalar.cmpi .ne v68 v73
  let v75 : BitVec 32 := Scalar.remsi arg1 c2_i32
  let c0_i32_32 : BitVec 32 := 0#32
  let v76 : BitVec 1 := Scalar.cmpi .ne v75 c0_i32_32
  let v77 : BitVec 1 := Scalar.andi v74 v76
  let v63 : BitVec 32 := Scalar.divsi arg1 c2_i32
  let c1_i32 : BitVec 32 := 1#32
  let v78 : BitVec 32 := Scalar.subi v63 c1_i32
  let v79 : BitVec 32 := Scalar.select v77 v78 v63
  let v80 : BitVec 32 := Scalar.subi v79 c0_i32_34
  let c1_i32_35 : BitVec 32 := 1#32
  let v82 : BitVec 32 := Scalar.divsi v80 c1_i32_35
  let v83 : BitVec 32 := Scalar.muli v82 c1_i32_35
  let v84 : BitVec 32 := Scalar.addi c0_i32_34 v83
  let c1_i32_37 : BitVec 32 := 1#32
  let arg12 : BitVec 32 := Scf.iv v84 c1_i32_37 k0_t2
  let v100 : BitVec 32 := Scalar.muli c2_i32_50 arg12
  let c512_i32_51 : BitVec 32 := 512#32
  let v101 : BitVec 32 := Scalar.muli v100 c512_i32_51
  let v102 : BitVec 32 := v101
  let v106 : Index := Scalar.indexCast v102
  let c0_54 : Index := 0#32
  ![v106.toNat, 0]
def k0_mult5 (i : grid0.Coords) (k0_t2 : Fin (k0_t2_loop i).trips) : BitVec 32 :=
  let c2_i32_56 : BitVec 32 := 2#32
  let c0_i32_34 : BitVec 32 := 0#32
  let arg1 : BitVec 32 := BitVec.ofNat 32 (i 1).val
  let c0_i32_28 : BitVec 32 := 0#32
  let v64 : BitVec 1 := Scalar.cmpi .sgt arg1 c0_i32_28
  let v65 : BitVec 32 := Scalar.extui v64
  let c0_i32_29 : BitVec 32 := 0#32
  let v66 : BitVec 1 := Scalar.cmpi .slt arg1 c0_i32_29
  let v67 : BitVec 32 := Scalar.extui v66
  let v68 : BitVec 32 := Scalar.subi v65 v67
  let c2_i32 : BitVec 32 := 2#32
  let c0_i32_30 : BitVec 32 := 0#32
  let v69 : BitVec 1 := Scalar.cmpi .sgt c2_i32 c0_i32_30
  let v70 : BitVec 32 := Scalar.extui v69
  let c0_i32_31 : BitVec 32 := 0#32
  let v71 : BitVec 1 := Scalar.cmpi .slt c2_i32 c0_i32_31
  let v72 : BitVec 32 := Scalar.extui v71
  let v73 : BitVec 32 := Scalar.subi v70 v72
  let v74 : BitVec 1 := Scalar.cmpi .ne v68 v73
  let v75 : BitVec 32 := Scalar.remsi arg1 c2_i32
  let c0_i32_32 : BitVec 32 := 0#32
  let v76 : BitVec 1 := Scalar.cmpi .ne v75 c0_i32_32
  let v77 : BitVec 1 := Scalar.andi v74 v76
  let v63 : BitVec 32 := Scalar.divsi arg1 c2_i32
  let c1_i32 : BitVec 32 := 1#32
  let v78 : BitVec 32 := Scalar.subi v63 c1_i32
  let v79 : BitVec 32 := Scalar.select v77 v78 v63
  let v80 : BitVec 32 := Scalar.subi v79 c0_i32_34
  let c1_i32_35 : BitVec 32 := 1#32
  let v82 : BitVec 32 := Scalar.divsi v80 c1_i32_35
  let v83 : BitVec 32 := Scalar.muli v82 c1_i32_35
  let v84 : BitVec 32 := Scalar.addi c0_i32_34 v83
  let c1_i32_37 : BitVec 32 := 1#32
  let arg12 : BitVec 32 := Scf.iv v84 c1_i32_37 k0_t2
  let v110 : BitVec 32 := Scalar.muli c2_i32_56 arg12
  let c1_i32_57 : BitVec 32 := 1#32
  let v111 : BitVec 32 := Scalar.addi v110 c1_i32_57
  let c512_i32_58 : BitVec 32 := 512#32
  let v112 : BitVec 32 := Scalar.muli v111 c512_i32_58
  v112
def k0_off9 (i : grid0.Coords) (k0_t2 : Fin (k0_t2_loop i).trips) : Fin 2 → Nat :=
  let c2_i32_56 : BitVec 32 := 2#32
  let c0_i32_34 : BitVec 32 := 0#32
  let arg1 : BitVec 32 := BitVec.ofNat 32 (i 1).val
  let c0_i32_28 : BitVec 32 := 0#32
  let v64 : BitVec 1 := Scalar.cmpi .sgt arg1 c0_i32_28
  let v65 : BitVec 32 := Scalar.extui v64
  let c0_i32_29 : BitVec 32 := 0#32
  let v66 : BitVec 1 := Scalar.cmpi .slt arg1 c0_i32_29
  let v67 : BitVec 32 := Scalar.extui v66
  let v68 : BitVec 32 := Scalar.subi v65 v67
  let c2_i32 : BitVec 32 := 2#32
  let c0_i32_30 : BitVec 32 := 0#32
  let v69 : BitVec 1 := Scalar.cmpi .sgt c2_i32 c0_i32_30
  let v70 : BitVec 32 := Scalar.extui v69
  let c0_i32_31 : BitVec 32 := 0#32
  let v71 : BitVec 1 := Scalar.cmpi .slt c2_i32 c0_i32_31
  let v72 : BitVec 32 := Scalar.extui v71
  let v73 : BitVec 32 := Scalar.subi v70 v72
  let v74 : BitVec 1 := Scalar.cmpi .ne v68 v73
  let v75 : BitVec 32 := Scalar.remsi arg1 c2_i32
  let c0_i32_32 : BitVec 32 := 0#32
  let v76 : BitVec 1 := Scalar.cmpi .ne v75 c0_i32_32
  let v77 : BitVec 1 := Scalar.andi v74 v76
  let v63 : BitVec 32 := Scalar.divsi arg1 c2_i32
  let c1_i32 : BitVec 32 := 1#32
  let v78 : BitVec 32 := Scalar.subi v63 c1_i32
  let v79 : BitVec 32 := Scalar.select v77 v78 v63
  let v80 : BitVec 32 := Scalar.subi v79 c0_i32_34
  let c1_i32_35 : BitVec 32 := 1#32
  let v82 : BitVec 32 := Scalar.divsi v80 c1_i32_35
  let v83 : BitVec 32 := Scalar.muli v82 c1_i32_35
  let v84 : BitVec 32 := Scalar.addi c0_i32_34 v83
  let c1_i32_37 : BitVec 32 := 1#32
  let arg12 : BitVec 32 := Scf.iv v84 c1_i32_37 k0_t2
  let v110 : BitVec 32 := Scalar.muli c2_i32_56 arg12
  let c1_i32_57 : BitVec 32 := 1#32
  let v111 : BitVec 32 := Scalar.addi v110 c1_i32_57
  let c512_i32_58 : BitVec 32 := 512#32
  let v112 : BitVec 32 := Scalar.muli v111 c512_i32_58
  let v113 : BitVec 32 := v112
  let v114 : Index := Scalar.indexCast v113
  let c0_59 : Index := 0#32
  ![v114.toNat, 0]
def k0_off10 (i : grid0.Coords) (k0_t2 : Fin (k0_t2_loop i).trips) : Fin 2 → Nat :=
  let c2_i32_56 : BitVec 32 := 2#32
  let c0_i32_34 : BitVec 32 := 0#32
  let arg1 : BitVec 32 := BitVec.ofNat 32 (i 1).val
  let c0_i32_28 : BitVec 32 := 0#32
  let v64 : BitVec 1 := Scalar.cmpi .sgt arg1 c0_i32_28
  let v65 : BitVec 32 := Scalar.extui v64
  let c0_i32_29 : BitVec 32 := 0#32
  let v66 : BitVec 1 := Scalar.cmpi .slt arg1 c0_i32_29
  let v67 : BitVec 32 := Scalar.extui v66
  let v68 : BitVec 32 := Scalar.subi v65 v67
  let c2_i32 : BitVec 32 := 2#32
  let c0_i32_30 : BitVec 32 := 0#32
  let v69 : BitVec 1 := Scalar.cmpi .sgt c2_i32 c0_i32_30
  let v70 : BitVec 32 := Scalar.extui v69
  let c0_i32_31 : BitVec 32 := 0#32
  let v71 : BitVec 1 := Scalar.cmpi .slt c2_i32 c0_i32_31
  let v72 : BitVec 32 := Scalar.extui v71
  let v73 : BitVec 32 := Scalar.subi v70 v72
  let v74 : BitVec 1 := Scalar.cmpi .ne v68 v73
  let v75 : BitVec 32 := Scalar.remsi arg1 c2_i32
  let c0_i32_32 : BitVec 32 := 0#32
  let v76 : BitVec 1 := Scalar.cmpi .ne v75 c0_i32_32
  let v77 : BitVec 1 := Scalar.andi v74 v76
  let v63 : BitVec 32 := Scalar.divsi arg1 c2_i32
  let c1_i32 : BitVec 32 := 1#32
  let v78 : BitVec 32 := Scalar.subi v63 c1_i32
  let v79 : BitVec 32 := Scalar.select v77 v78 v63
  let v80 : BitVec 32 := Scalar.subi v79 c0_i32_34
  let c1_i32_35 : BitVec 32 := 1#32
  let v82 : BitVec 32 := Scalar.divsi v80 c1_i32_35
  let v83 : BitVec 32 := Scalar.muli v82 c1_i32_35
  let v84 : BitVec 32 := Scalar.addi c0_i32_34 v83
  let c1_i32_37 : BitVec 32 := 1#32
  let arg12 : BitVec 32 := Scf.iv v84 c1_i32_37 k0_t2
  let v110 : BitVec 32 := Scalar.muli c2_i32_56 arg12
  let c1_i32_57 : BitVec 32 := 1#32
  let v111 : BitVec 32 := Scalar.addi v110 c1_i32_57
  let c512_i32_58 : BitVec 32 := 512#32
  let v112 : BitVec 32 := Scalar.muli v111 c512_i32_58
  let v113 : BitVec 32 := v112
  let v117 : Index := Scalar.indexCast v113
  let c0_61 : Index := 0#32
  ![v117.toNat, 0]
def k0_cond2 (i : grid0.Coords) : BitVec 1 :=
  let arg1 : BitVec 32 := BitVec.ofNat 32 (i 1).val
  let c2_i32_38 : BitVec 32 := 2#32
  let c0_i32_39 : BitVec 32 := 0#32
  let v85 : BitVec 1 := Scalar.cmpi .eq c2_i32_38 c0_i32_39
  let c1_i32_40 : BitVec 32 := 1#32
  let v86 : BitVec 32 := Scalar.select v85 c1_i32_40 c2_i32_38
  let v87 : BitVec 32 := Scalar.remsi arg1 v86
  let c0_i32_42 : BitVec 32 := 0#32
  let v89 : BitVec 1 := Scalar.cmpi .slt v87 c0_i32_42
  let c0_i32_43 : BitVec 32 := 0#32
  let v90 : BitVec 1 := Scalar.cmpi .slt v86 c0_i32_43
  let v91 : BitVec 1 := Scalar.xori v89 v90
  let c0_i32_41 : BitVec 32 := 0#32
  let v88 : BitVec 1 := Scalar.cmpi .ne v87 c0_i32_41
  let v92 : BitVec 1 := Scalar.andi v91 v88
  let v93 : BitVec 32 := Scalar.addi v87 v86
  let v94 : BitVec 32 := Scalar.select v92 v93 v87
  let c1_i32_44 : BitVec 32 := 1#32
  let v95 : BitVec 1 := Scalar.cmpi .eq v94 c1_i32_44
  let v96 : BitVec 32 := Scalar.extui v95
  let c0_i32_45 : BitVec 32 := 0#32
  let v97 : BitVec 1 := Scalar.cmpi .ne v96 c0_i32_45
  v97

def k0_mult6 (i : grid0.Coords) : BitVec 32 :=
  let arg1 : BitVec 32 := BitVec.ofNat 32 (i 1).val
  let c1_i32_50 : BitVec 32 := 1#32
  let v100 : BitVec 32 := Scalar.subi arg1 c1_i32_50
  let c512_i32_51 : BitVec 32 := 512#32
  let v101 : BitVec 32 := Scalar.muli v100 c512_i32_51
  v101
def k0_off11 (i : grid0.Coords) : Fin 2 → Nat :=
  let arg1 : BitVec 32 := BitVec.ofNat 32 (i 1).val
  let c1_i32_50 : BitVec 32 := 1#32
  let v100 : BitVec 32 := Scalar.subi arg1 c1_i32_50
  let c512_i32_51 : BitVec 32 := 512#32
  let v101 : BitVec 32 := Scalar.muli v100 c512_i32_51
  let v102 : BitVec 32 := v101
  let v103 : Index := Scalar.indexCast v102
  let c0_52 : Index := 0#32
  ![v103.toNat, 0]
def k0_off12 (i : grid0.Coords) : Fin 2 → Nat :=
  let arg1 : BitVec 32 := BitVec.ofNat 32 (i 1).val
  let c1_i32_50 : BitVec 32 := 1#32
  let v100 : BitVec 32 := Scalar.subi arg1 c1_i32_50
  let c512_i32_51 : BitVec 32 := 512#32
  let v101 : BitVec 32 := Scalar.muli v100 c512_i32_51
  let v102 : BitVec 32 := v101
  let v106 : Index := Scalar.indexCast v102
  let c0_54 : Index := 0#32
  ![v106.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4096x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== KernelMlaBwdIdeal.lean ====
variable {F : FTy → Type} [FloatOps F] [Named F]
def κ : String → Option EReal := fun
  | "mask" => some ⊥
  | _ => none
-- ==== ReferenceMlaBwdIdeal.lean ====
abbrev S4096x2048 : Shape := ⟨2, ![4096, 2048]⟩
abbrev S4096x1024 : Shape := ⟨2, ![4096, 1024]⟩
abbrev S4096x8x256 : Shape := ⟨3, ![4096, 8, 256]⟩
abbrev S4096x8x128 : Shape := ⟨3, ![4096, 8, 128]⟩
abbrev S8x4096x4096 : Shape := ⟨3, ![8, 4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S1x4096x4096 : Shape := ⟨3, ![1, 4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S4096x8 : Shape := ⟨2, ![4096, 8]⟩
abbrev S8x4096x256 : Shape := ⟨3, ![8, 4096, 256]⟩

abbrev nBuf : Space → Nat
  | .hbm => 132
  | .vmem => 0
  | .smem => 0
  | _ => 0

abbrev hbmTy0_0 (i : Nat) : BufTy := match i % 128 with
  | 0 => ⟨S4096x2048, .bf16⟩
  | 1 => ⟨S4096x2048, .bf16⟩
  | 2 => ⟨S4096x1024, .bf16⟩
  | 3 => ⟨S4096x1024, .f32⟩
  | 4 => ⟨S4096x2048, .f32⟩
  | 5 => ⟨S4096x2048, .f32⟩
  | 6 => ⟨S4096x1024, .f32⟩
  | 7 => ⟨S4096x8x256, .f32⟩
  | 8 => ⟨S4096x8x256, .f32⟩
  | 9 => ⟨S4096x8x128, .f32⟩
  | 10 => ⟨S8x4096x4096, .f32⟩
  | 11 => ⟨S4096, .i32⟩
  | 12 => ⟨S_, .i32⟩
  | 13 => ⟨S_, .i32⟩
  | 14 => ⟨S4096, .i32⟩
  | 15 => ⟨S4096, .i32⟩
  | 16 => ⟨S4096, .i32⟩
  | 17 => ⟨S_, .i32⟩
  | 18 => ⟨S4096, .i32⟩
  | 19 => ⟨S4096, .i1⟩
  | 20 => ⟨S4096, .i32⟩
  | 21 => ⟨S4096, .i32⟩
  | 22 => ⟨S_, .i32⟩
  | 23 => ⟨S4096, .i32⟩
  | 24 => ⟨S4096, .i1⟩
  | 25 => ⟨S4096, .i1⟩
  | 26 => ⟨S_, .i32⟩
  | 27 => ⟨S4096, .i32⟩
  | 28 => ⟨S4096, .i32⟩
  | 29 => ⟨S4096, .i32⟩
  | 30 => ⟨S4096x1, .i32⟩
  | 31 => ⟨S1x4096, .i32⟩
  | 32 => ⟨S4096x4096, .i32⟩
  | 33 => ⟨S4096x4096, .i32⟩
  | 34 => ⟨S4096x4096, .i1⟩
  | 35 => ⟨S1x4096x4096, .i1⟩
  | 36 => ⟨S_, .f32⟩
  | 37 => ⟨S_, .f32⟩
  | 38 => ⟨S8x4096x4096, .i1⟩
  | 39 => ⟨S8x4096x4096, .f32⟩
  | 40 => ⟨S8x4096x4096, .f32⟩
  | 41 => ⟨S_, .f32⟩
  | 42 => ⟨S8x4096x4096, .f32⟩
  | 43 => ⟨S_, .f32⟩
  | 44 => ⟨S8x4096, .f32⟩
  | 45 => ⟨S8x4096x1, .f32⟩
  | 46 => ⟨S8x4096x4096, .f32⟩
  | 47 => ⟨S8x4096x4096, .i1⟩
  | 48 => ⟨S8x4096x4096, .f32⟩
  | 49 => ⟨S_, .f32⟩
  | 50 => ⟨S8x4096, .f32⟩
  | 51 => ⟨S_, .f32⟩
  | 52 => ⟨S8x4096, .f32⟩
  | 53 => ⟨S8x4096, .f32⟩
  | 54 => ⟨S_, .f32⟩
  | 55 => ⟨S8x4096, .f32⟩
  | 56 => ⟨S8x4096, .i1⟩
  | 57 => ⟨S_, .f32⟩
  | 58 => ⟨S8x4096, .f32⟩
  | 59 => ⟨S8x4096, .i1⟩
  | 60 => ⟨S_, .f32⟩
  | 61 => ⟨S8x4096, .f32⟩
  | 62 => ⟨S_, .f32⟩
  | 63 => ⟨S8x4096, .f32⟩
  | 64 => ⟨S_, .f32⟩
  | 65 => ⟨S8x4096, .f32⟩
  | 66 => ⟨S8x4096, .f32⟩
  | 67 => ⟨S8x4096, .f32⟩
  | 68 => ⟨S8x4096x1, .f32⟩
  | 69 => ⟨S8x4096x4096, .f32⟩
  | 70 => ⟨S8x4096x4096, .f32⟩
  | 71 => ⟨S8x4096x4096, .f32⟩
  | 72 => ⟨S_, .f32⟩
  | 73 => ⟨S8x4096, .f32⟩
  | 74 => ⟨S8x4096x1, .f32⟩
  | 75 => ⟨S8x4096x4096, .f32⟩
  | 76 => ⟨S8x4096x4096, .f32⟩
  | 77 => ⟨S8x4096x1, .f32⟩
  | 78 => ⟨S_, .f32⟩
  | 79 => ⟨S8x4096x1, .f32⟩
  | 80 => ⟨S8x4096x1, .f32⟩
  | 81 => ⟨S8x128x4096, .f32⟩
  | 82 => ⟨S4096x8x128, .f32⟩
  | 83 => ⟨S_, .f32⟩
  | 84 => ⟨S8x4096, .f32⟩
  | 85 => ⟨S8x4096x1, .f32⟩
  | 86 => ⟨S8x4096x4096, .f32⟩
  | 87 => ⟨S8x4096x4096, .i1⟩
  | 88 => ⟨S8x4096x4096, .f32⟩
  | 89 => ⟨S_, .f32⟩
  | 90 => ⟨S8x4096, .f32⟩
  | 91 => ⟨S8x4096x1, .f32⟩
  | 92 => ⟨S8x4096x4096, .f32⟩
  | 93 => ⟨S8x4096x4096, .f32⟩
  | 94 => ⟨S8x4096x4096, .f32⟩
  | 95 => ⟨S_, .f32⟩
  | 96 => ⟨S8x4096, .f32⟩
  | 97 => ⟨S8x4096, .f32⟩
  | 98 => ⟨S8x4096, .f32⟩
  | 99 => ⟨S4096x1024, .f32⟩
  | 100 => ⟨S4096x8, .f32⟩
  | 101 => ⟨S4096x8x128, .f32⟩
  | 102 => ⟨S4096x1024, .f32⟩
  | 103 => ⟨S4096x8x128, .f32⟩
  | 104 => ⟨S8x128x4096, .f32⟩
  | 105 => ⟨S8x4096x4096, .f32⟩
  | 106 => ⟨S8x128x4096, .f32⟩
  | 107 => ⟨S4096x8x128, .f32⟩
  | 108 => ⟨S8x4096x4096, .f32⟩
  | 109 => ⟨S8x4096x4096, .f32⟩
  | 110 => ⟨S8x4096x4096, .f32⟩
  | 111 => ⟨S_, .f32⟩
  | 112 => ⟨S8x4096, .f32⟩
  | 113 => ⟨S8x4096x1, .f32⟩
  | 114 => ⟨S8x4096x1, .f32⟩
  | 115 => ⟨S8x4096x4096, .f32⟩
  | 116 => ⟨S8x4096x4096, .f32⟩
  | 117 => ⟨S_, .f32⟩
  | 118 => ⟨S8x4096, .f32⟩
  | 119 => ⟨S8x4096x4096, .f32⟩
  | 120 => ⟨S8x4096x4096, .f32⟩
  | 121 => ⟨S8x4096x4096, .f32⟩
  | 122 => ⟨S_, .f32⟩
  | 123 => ⟨S8x4096x4096, .f32⟩
  | 124 => ⟨S8x4096x4096, .f32⟩
  | 125 => ⟨S8x4096x256, .f32⟩
  | 126 => ⟨S4096x8x256, .f32⟩
  | 127 => ⟨S8x4096x256, .f32⟩
  | _ => ⟨S4096x2048, .bf16⟩

abbrev hbmTy0_1 (i : Nat) : BufTy := match i % 128 with
  | 0 => ⟨S4096x8x256, .f32⟩
  | 1 => ⟨S4096x1024, .f32⟩
  | 2 => ⟨S4096x2048, .f32⟩
  | 3 => ⟨S4096x2048, .f32⟩
  | _ => ⟨S4096x2048, .bf16⟩

abbrev hbmTy (i : Nat) : BufTy := match i / 128 with
  | 0 => hbmTy0_0 i
  | 1 => hbmTy0_1 i
  | _ => ⟨S4096x2048, .bf16⟩

abbrev bufTy : (tb : Table) → Fin (tcTables nBuf tb) → BufTy
  | .hbm, ⟨i, _⟩ => hbmTy i
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst : Ref sig .tc := ⟨.hbm, 36, rfl⟩
abbrev main_call1_v0 : Ref sig .tc := ⟨.hbm, 37, rfl⟩
abbrev main_v15_1 : Ref sig .tc := ⟨.hbm, 38, rfl⟩
abbrev main_call1_v2 : Ref sig .tc := ⟨.hbm, 39, rfl⟩
abbrev main_v15_0 : Ref sig .tc := ⟨.hbm, 40, rfl⟩
abbrev main_call1_cst : Ref sig .tc := ⟨.hbm, 41, rfl⟩
abbrev main_v15_2 : Ref sig .tc := ⟨.hbm, 42, rfl⟩
abbrev main_cst_0 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_cst_1 : Ref sig .tc := ⟨.hbm, 49, rfl⟩
abbrev main_v21 : Ref sig .tc := ⟨.hbm, 50, rfl⟩
abbrev main_cst_2 : Ref sig .tc := ⟨.hbm, 51, rfl⟩
abbrev main_v22 : Ref sig .tc := ⟨.hbm, 52, rfl⟩
abbrev main_v23 : Ref sig .tc := ⟨.hbm, 53, rfl⟩
abbrev main_cst_3 : Ref sig .tc := ⟨.hbm, 54, rfl⟩
abbrev main_v24 : Ref sig .tc := ⟨.hbm, 55, rfl⟩
abbrev main_v25 : Ref sig .tc := ⟨.hbm, 56, rfl⟩
abbrev main_cst_4 : Ref sig .tc := ⟨.hbm, 57, rfl⟩
abbrev main_v26 : Ref sig .tc := ⟨.hbm, 58, rfl⟩
abbrev main_v27 : Ref sig .tc := ⟨.hbm, 59, rfl⟩
abbrev main_cst_5 : Ref sig .tc := ⟨.hbm, 60, rfl⟩
abbrev main_v28 : Ref sig .tc := ⟨.hbm, 61, rfl⟩
abbrev main_cst_6 : Ref sig .tc := ⟨.hbm, 62, rfl⟩
abbrev main_v29 : Ref sig .tc := ⟨.hbm, 63, rfl⟩
abbrev main_cst_7 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_cst_8 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_cst_9 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_cst_10 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_cst_11 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_cst_12 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_cst_13 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_cst_14 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_call2_cst : Ref sig .tc := ⟨.hbm, 122, rfl⟩
abbrev main_call2_v0 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩

abbrev nD : Nat := 1
abbrev τ : Topo := Topo.v7x

variable {F : FTy → Type} [FloatOps F]
-- ==== Proof.Offsets.lean ====
/- Where the blocks of the retention gradient lie: every offset the kernel computes, the trip counts of its two
   loops and the conditions of its two branches, as plain numbers of the grid point and the trip. -/
module

public import proofs.«01_k».proof.Proof.Gen.KernelIdeal.Skeleton
public import proofs.«01_k».proof.Proof.Gen.KernelIdeal.Loops
public import Idealize.ShloMosaic.Lib.Tactic

@[expose] public section

set_option maxRecDepth 16384

noncomputable section

namespace Cert.RetBwd

open Idealize.ShloMosaic Idealize.ShloMosaic.TcCoe Idealize.ShloMosaic.Tactic
open Cert.KernelIdeal

/-- The pair loop makes one trip per two of the key blocks strictly before the diagonal one. -/
theorem trips_t1 : ∀ i : grid0.Coords, (k0_t1_loop i).trips = (i 1).val / 2 := by decide +kernel

/-- The remainder of the pair loop is empty. -/
theorem trips_t2 : ∀ i : grid0.Coords, (k0_t2_loop i).trips = 0 := by decide +kernel

theorem off2_eq : ∀ (i : grid0.Coords) (k : Fin (k0_t1_loop i).trips), k0_off2 i k = ![1024 * k.val, 0] := by
  decide +kernel

theorem off3_eq : ∀ (i : grid0.Coords) (k : Fin (k0_t1_loop i).trips), k0_off3 i k = ![1024 * k.val + 512, 0] := by
  decide +kernel

instance closedOff_off2 (i : grid0.Coords) (k : Fin (k0_t1_loop i).trips) : ClosedOff (k0_off2 i k) :=
  ⟨_, off2_eq i k⟩

instance closedOff_off3 (i : grid0.Coords) (k : Fin (k0_t1_loop i).trips) : ClosedOff (k0_off3 i k) :=
  ⟨_, off3_eq i k⟩

/-- The single block after the pairs is there exactly at the odd query blocks. -/
theorem cond2_iff : ∀ i : grid0.Coords, k0_cond2 i = 1#1 ↔ (i 1).val % 2 = 1 := by decide +kernel

theorem off6_eq_pred : ∀ i : grid0.Coords, (i 1).val % 2 = 1 → k0_off6 i = ![512 * ((i 1).val - 1), 0] := by
  decide +kernel

/-- The clearing of the two accumulators happens at the first query block of a head. -/
theorem cond1_iff : ∀ i : grid0.Coords,
    (Scalar.cmpi .ne (Scalar.extui (Scalar.cmpi .eq (BitVec.ofNat 32 (i 1).val) 0#32) : BitVec 32) 0#32) = 1#1
      ↔ (i 1).val = 0 := by decide +kernel

end Cert.RetBwd

end
-- ==== Proof.Blocks.lean ====
/- The retention gradient block by block, over any floats: what one (query block, key block) step adds to the
   gradients of the values, the keys and the queries, and how rows of 512 are taken from and put back into the
   4096-row arrays the keys' and values' gradients are accumulated in. -/
module

public import proofs.«01_k».proof.Proof.Offsets
public import Idealize.ShloMosaic.Lib.WritesUnit
public import Idealize.ShloMosaic.Lib.Pipeline.ValueKit

@[expose] public section

set_option maxRecDepth 16384

noncomputable section

namespace Cert.RetBwd

open Idealize.ShloMosaic Idealize.ShloMosaic.TcCoe Idealize.ShloMosaic.Tactic
open Cert.KernelIdeal Cert.KernelIdeal.Gen

variable {F : FTy → Type} [FloatOps F]

/-! ## One block step -/

/-- The decay between query block `a` and an earlier key block `j` (both words): `exp (lg · (a - j) · 512)` in every
    lane, times the decay of the rows inside the two blocks. -/
def decOff (a j : BitVec 32) (lg : Vec F S1x1x128 .f32) (rel : Vec F S1x512x512 .f32) : FVec F S512x512 .f32 :=
  have e : FVec F S1x128 .f32 := exp (mulf (shapeCast S1x128 lg shapeCasts_S1x1x128_S1x128)
    (broadcast S1x128 (Scalar.sitofp .f32 (Scalar.muli (Scalar.subi a j) 512#32))))
  mulf (shapeCast S512x512 rel shapeCasts_S1x512x512_S512x512)
    (broadcastTo S512x512 (concatenate S1x512 1 [⟨S1x128, e⟩, ⟨S1x128, e⟩, ⟨S1x128, e⟩, ⟨S1x128, e⟩]
      concatenates_S1x128_S1x128_S1x128_S1x128_S1x512_d1) broadcasts_S1x512_S512x512)

/-- The masked decay inside the diagonal block. -/
def decDiag (reld : Vec F S1x512x512 .f32) : FVec F S512x512 .f32 := shapeCast S512x512 reld shapeCasts_S1x512x512_S512x512

/-- The products of the rows of `x` with the rows of `y`, weighted by the decay and rounded. -/
def wgt (x y : FVec F S512x256 .bf16) (dec : FVec F S512x512 .f32) : FVec F S512x512 .bf16 :=
  truncf .bf16 (mulf (matmul dot_S512x256_S512x256_S512x512_1_1_0_0_n_n none x y (constant S512x512 .f32 0x00000000#32)) dec)
    bitsLt_bf16_f32

/-- `old + wᵀ x`: what a key block's gradient becomes. -/
def addT (w : FVec F S512x512 .bf16) (x : FVec F S512x256 .bf16) (old : FVec F S512x256 .f32) : FVec F S512x256 .f32 :=
  addf (shapeCast S512x256 old shapeCasts_S512x256_S512x256)
    (matmul dot_S512x512_S512x256_S512x256_0_0_1_1_n_n none w x (constant S512x256 .f32 0x00000000#32))

/-- `old + w x`: what a query block's gradient becomes. -/
def addN (w : FVec F S512x512 .bf16) (x : FVec F S512x256 .bf16) (old : FVec F S512x256 .f32) : FVec F S512x256 .f32 :=
  shapeCast S512x256 (addf old
    (matmul dot_S512x512_S512x256_S512x256_1_0_0_1_n_n none w x (constant S512x256 .f32 0x00000000#32)))
    shapeCasts_S512x256_S512x256

/-- The cotangent as the kernel multiplies it. -/
def rnd (x : Vec F S512x256 .bf16) : FVec F S512x256 .bf16 := truncf .bf16 (extf .f32 x bitsLt_bf16_f32) bitsLt_bf16_f32

/-! ## Rows of 512 of a 4096-row array -/

/-- Row `p 0` of block `j`. -/
def rowIx (j : ℕ) (p : S512x256.Idx) : S4096x256.Idx :=
  ix2 (n0 := 4096) (n1 := 256) ⟨(512 * j + (p 0).val) % 4096, Nat.mod_lt _ (by decide)⟩ (p 1)

/-- A row's place inside its block. -/
def inBlk (y : S4096x256.Idx) : S512x256.Idx :=
  ix2 (n0 := 512) (n1 := 256) ⟨(y 0).val % 512, Nat.mod_lt _ (by decide)⟩ (y 1)

/-- Block `j`. -/
def getBlk {e : EltTy} (j : ℕ) (d : Vec F S4096x256 e) : Vec F S512x256 e := fun p => d (rowIx j p)

/-- `d` with block `j` replaced. -/
def putBlk {e : EltTy} (j : ℕ) (w : Vec F S512x256 e) (d : Vec F S4096x256 e) : Vec F S4096x256 e :=
  fun y => if (y 0).val / 512 = j then w (inBlk y) else d y

theorem rowIx_0 {j : ℕ} (hj : j < 8) (p : S512x256.Idx) : (rowIx j p 0).val = 512 * j + (p 0).val := by
  have : (p 0).val < 512 := (p 0).isLt
  exact Nat.mod_eq_of_lt (by omega)

theorem rowIx_1 (j : ℕ) (p : S512x256.Idx) : (rowIx j p 1).val = (p 1).val := rfl

theorem inBlk_0 (y : S4096x256.Idx) : (inBlk y 0).val = (y 0).val % 512 := rfl

theorem inBlk_1 (y : S4096x256.Idx) : (inBlk y 1).val = (y 1).val := rfl

theorem idx2_ext {s : Fin 2 → ℕ} {x y : (⟨2, s⟩ : Shape).Idx} (h0 : (x 0).val = (y 0).val) (h1 : (x 1).val = (y 1).val) : x = y := by
  funext a
  match a with
  | ⟨0, _⟩ => exact Fin.ext h0
  | ⟨1, _⟩ => exact Fin.ext h1

theorem inBlk_rowIx {j : ℕ} (hj : j < 8) (p : S512x256.Idx) : inBlk (rowIx j p) = p := by
  have hp : (p 0).val < 512 := (p 0).isLt
  refine idx2_ext ?_ rfl
  rw [inBlk_0, rowIx_0 hj]; omega

theorem rowIx_inBlk (y : S4096x256.Idx) : rowIx ((y 0).val / 512) (inBlk y) = y := by
  have hp : (y 0).val < 4096 := (y 0).isLt
  refine idx2_ext ?_ rfl
  rw [rowIx_0 (by omega), inBlk_0]; omega

theorem getBlk_putBlk {e : EltTy} {j : ℕ} (hj : j < 8) (w : Vec F S512x256 e) (d : Vec F S4096x256 e) :
    getBlk j (putBlk j w d) = w := by
  funext p
  have hp : (p 0).val < 512 := (p 0).isLt
  show (if (rowIx j p 0).val / 512 = j then w (inBlk (rowIx j p)) else d (rowIx j p)) = w p
  rw [rowIx_0 hj, if_pos (by omega), inBlk_rowIx hj]

theorem getBlk_putBlk_ne {e : EltTy} {j j' : ℕ} (hj : j < 8) (hne : j ≠ j') (w : Vec F S512x256 e) (d : Vec F S4096x256 e) :
    getBlk j (putBlk j' w d) = getBlk j d := by
  funext p
  have hp : (p 0).val < 512 := (p 0).isLt
  show (if (rowIx j p 0).val / 512 = j' then w (inBlk (rowIx j p)) else d (rowIx j p)) = d (rowIx j p)
  rw [rowIx_0 hj, if_neg (by omega)]

/-! ## The kernel's loads and stores of such blocks -/

/-- A load of the 512 rows from `512 · j` on is block `j`. -/
theorem ld_blk {e : EltTy} {off : Fin 2 → ℕ} {j : ℕ} (hj : j < 8) (hoff : off = ![512 * j, 0])
    (inb : ∀ a : Fin 2, off a + S512x256.size a ≤ S4096x256.size a) (d : Vec F S4096x256 e) :
    View.ld d (Rect.unit (s := S4096x256) off S512x256.size inb) = getBlk j d := by
  subst hoff
  funext x
  refine View.ld_unit_apply_of (S := S4096x256) d _ _ inb x _ fun a => ?_
  match a with
  | ⟨0, _⟩ => exact rowIx_0 hj x
  | ⟨1, _⟩ => exact (Nat.zero_add _).symm

variable {sig : RefSig} {κ : Kind} {sp : Space}

/-- A store of the 512 rows from `512 · j` on, read back: block `j` replaced. -/
theorem read_put {e : EltTy} (v : View sig κ sp S4096x256 e) (f : v.ty.Contents (Elt F)) {off : Fin 2 → ℕ} {j : ℕ}
    (hoff : off = ![512 * j, 0]) (inb : ∀ a : Fin 2, off a + S512x256.size a ≤ S4096x256.size a) (w : Vec F S512x256 e)
    (L : List (View.Piece (Elt F) S4096x256 e)) :
    v.read (Elt F) (v.writes (Elt F) f ((⟨Rect.unit (s := S4096x256) off S512x256.size inb, w⟩ : View.Piece (Elt F) S4096x256 e) :: L))
      = putBlk j w (v.read (Elt F) (v.writes (Elt F) f L)) := by
  funext y
  by_cases h : (y 0).val / 512 = j
  · rw [show putBlk j w (v.read (Elt F) (v.writes (Elt F) f L)) y = w (inBlk y) from if_pos h]
    exact View.read_writes_cons_rows_of_mem v f inb w L y (inBlk y) hoff (by rw [inBlk_0]; omega) (inBlk_1 y).symm
  · rw [show putBlk j w (v.read (Elt F) (v.writes (Elt F) f L)) y = v.read (Elt F) (v.writes (Elt F) f L) y from if_neg h]
    exact View.read_writes_cons_rows_of_not_mem (W := 512) v f inb w L y hoff rfl (by omega)

theorem readAt_blk {e : EltTy} (v : View sig κ sp S4096x256 e) (f : v.ty.Contents (Elt F)) {off : Fin 2 → ℕ} {j : ℕ} (hj : j < 8)
    (hoff : off = ![512 * j, 0]) (inb : ∀ a : Fin 2, off a + S512x256.size a ≤ S4096x256.size a) :
    v.readAt (Elt F) (Rect.unit (s := S4096x256) off S512x256.size inb).toLoadRect f = getBlk j (v.read (Elt F) f) :=
  ld_blk hj hoff inb (v.read (Elt F) f)

/-- A load of a whole buffer. -/
theorem readAt_all {s : Shape} {e : EltTy} (v : View sig κ sp s e) (f : v.ty.Contents (Elt F)) {off : Fin s.rank → ℕ}
    (hoff : off = fun _ => 0) (inb : ∀ a, off a + s.size a ≤ s.size a) :
    v.readAt (Elt F) (Rect.unit (s := s) off s.size inb).toLoadRect f = v.read (Elt F) f :=
  View.ld_unit_zero hoff inb (v.read (Elt F) f)

/-- A store of a whole buffer, read back. -/
theorem read_all {s : Shape} {e : EltTy} (v : View sig κ sp s e) (f : v.ty.Contents (Elt F)) {off : Fin s.rank → ℕ}
    (hoff : off = fun _ => 0) (inb : ∀ a, off a + s.size a ≤ s.size a) (w : Vec F s e) (L : List (View.Piece (Elt F) s e)) :
    v.read (Elt F) (v.writes (Elt F) f ((⟨Rect.unit (s := s) off s.size inb, w⟩ : View.Piece (Elt F) s e) :: L)) = w := by
  funext y
  exact View.read_writes_cons_unit_of_mem (off' := fun _ => 0) v f inb w L y y hoff fun a => (Nat.zero_add _).symm

theorem zero2 : (![0, 0] : Fin 2 → ℕ) = fun _ => 0 := by decide
theorem zero3 : (![0, 0, 0] : Fin 3 → ℕ) = fun _ => 0 := by decide

theorem readAt_lg (v : View sig κ sp S1x1x128 .f32) (f : v.ty.Contents (Elt F)) (inb) :
    v.readAt (Elt F) (Rect.unit (s := S1x1x128) ![0, 0, 0] (no_index S1x1x128.size) inb).toLoadRect f = v.read (Elt F) f :=
  readAt_all v f zero3 inb

theorem readAt_rel (v : View sig κ sp S1x512x512 .f32) (f : v.ty.Contents (Elt F)) (inb) :
    v.readAt (Elt F) (Rect.unit (s := S1x512x512) ![0, 0, 0] (no_index S1x512x512.size) inb).toLoadRect f = v.read (Elt F) f :=
  readAt_all v f zero3 inb

theorem readAt_sq {e : EltTy} (v : View sig κ sp S512x256 e) (f : v.ty.Contents (Elt F)) (inb) :
    v.readAt (Elt F) (Rect.unit (s := S512x256) ![0, 0] (no_index S512x256.size) inb).toLoadRect f = v.read (Elt F) f :=
  readAt_all v f zero2 inb

/-- A load of a whole buffer after a store of it. -/
theorem readCov_sq {e : EltTy} (v : View sig κ sp S512x256 e) (inb) (w : Vec F S512x256 e) (L : List (View.Piece (Elt F) S512x256 e)) :
    v.readCov ((⟨Rect.unit (s := S512x256) ![0, 0] (no_index S512x256.size) inb, w⟩ : View.Piece (Elt F) S512x256 e) :: L)
      (Rect.unit (s := S512x256) ![0, 0] (no_index S512x256.size) inb).toLoadRect = w :=
  (readAt_all v _ zero2 inb).trans (read_all v _ zero2 inb w L)

/-! ## All the steps of one query block -/

/-- `f 0`, `f 1`, …, `f (n - 1)` one after another. -/
def upTo {α : Type} (f : ℕ → α → α) : ℕ → α → α
  | 0, d => d
  | n + 1, d => f n (upTo f n d)

/-- What block `j < i` of the keys adds to the values' gradient. -/
def stepDV (a : BitVec 32) (q g : FVec F S512x256 .bf16) (k : Vec F S4096x256 .bf16) (lg : Vec F S1x1x128 .f32)
    (rel : Vec F S1x512x512 .f32) (j : ℕ) (d : Vec F S4096x256 .f32) : Vec F S4096x256 .f32 :=
  putBlk j (addT (wgt q (getBlk j k) (decOff a (BitVec.ofNat 32 j) lg rel)) g (getBlk j d)) d

/-- What block `j < i` adds to the keys' gradient. -/
def stepDK (a : BitVec 32) (q g : FVec F S512x256 .bf16) (v : Vec F S4096x256 .bf16) (lg : Vec F S1x1x128 .f32)
    (rel : Vec F S1x512x512 .f32) (j : ℕ) (d : Vec F S4096x256 .f32) : Vec F S4096x256 .f32 :=
  putBlk j (addT (wgt g (getBlk j v) (decOff a (BitVec.ofNat 32 j) lg rel)) q (getBlk j d)) d

/-- What block `j < i` adds to the queries' gradient. -/
def stepDQ (a : BitVec 32) (g : FVec F S512x256 .bf16) (k v : Vec F S4096x256 .bf16) (lg : Vec F S1x1x128 .f32)
    (rel : Vec F S1x512x512 .f32) (j : ℕ) (d : Vec F S512x256 .f32) : Vec F S512x256 .f32 :=
  addN (wgt g (getBlk j v) (decOff a (BitVec.ofNat 32 j) lg rel)) (getBlk j k) d

end Cert.RetBwd

end
-- ==== Proof.Trip.lean ====
/- One trip of the pair loop of the retention gradient, and the loop: trip `k` takes the key blocks `2k` and `2k + 1`
   through the three accumulators. -/
module

public import proofs.«01_k».proof.Proof.Blocks

@[expose] public section

set_option maxRecDepth 16384

noncomputable section

namespace Cert.RetBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- The words the kernel computes for the two blocks of trip `k`. -/
theorem word_even : ∀ (i : grid0.Coords) (k : Fin (k0_t1_loop i).trips),
    Scalar.muli 2#32 (Scf.iv 0#32 1#32 k) = BitVec.ofNat 32 (2 * k.val) := by decide +kernel

theorem word_odd : ∀ (i : grid0.Coords) (k : Fin (k0_t1_loop i).trips),
    Scalar.addi (Scalar.muli 2#32 (Scf.iv 0#32 1#32 k)) 1#32 = BitVec.ofNat 32 (2 * k.val + 1) := by decide +kernel

theorem off2_blk (i : grid0.Coords) (k : Fin (k0_t1_loop i).trips) : k0_off2 i k = ![512 * (2 * k.val), 0] := by
  rw [off2_eq, show 1024 * k.val = 512 * (2 * k.val) by omega]

theorem off3_blk (i : grid0.Coords) (k : Fin (k0_t1_loop i).trips) : k0_off3 i k = ![512 * (2 * k.val + 1), 0] := by
  rw [off3_eq, show 1024 * k.val + 512 = 512 * (2 * k.val + 1) by omega]

/-- Both blocks of a trip are among the eight. -/
theorem trip_lt (i : grid0.Coords) (k : Fin (k0_t1_loop i).trips) : 2 * k.val + 1 < 8 := by
  have h1 := k.isLt
  have h2 : (i 1).val < 8 := (i 1).isLt
  have h3 := trips_t1 i
  omega

section Payloads

variable (i : grid0.Coords) (k : Fin (k0_t1_loop i).trips) (a : BitVec 32) (q g : FVec F S512x256 .bf16)
  (x y : Vec F S512x256 .bf16) (lg : Vec F S1x1x128 .f32) (rel : Vec F S1x512x512 .f32) (w : FVec F S512x512 .bf16)
  (old : Vec F S512x256 .f32)

theorem pay5_eq : k0_pay7 g (k0_pay5 i a q 0#32 1#32 k x lg rel) old
    = addT (wgt q x (decOff a (BitVec.ofNat 32 (2 * k.val)) lg rel)) g old := by rw [← word_even i k]; rfl
theorem pay6_eq : k0_pay6 i a g 0#32 1#32 k x lg rel = wgt g x (decOff a (BitVec.ofNat 32 (2 * k.val)) lg rel) := by
  rw [← word_even i k]; rfl
theorem pay11_eq : k0_pay37 g (k0_pay11 a (Scf.iv 0#32 1#32 k) (k0_pay2 q x) lg rel) old
    = addT (wgt q x (decOff a (BitVec.ofNat 32 (2 * k.val + 1)) lg rel)) g old := by rw [← word_odd i k]; rfl
theorem pay12_eq : k0_pay12 a (Scf.iv 0#32 1#32 k) (k0_pay3 g x) lg rel
    = wgt g x (decOff a (BitVec.ofNat 32 (2 * k.val + 1)) lg rel) := by rw [← word_odd i k]; rfl
theorem pay8_eq : k0_pay8 q w old = addT w q old := rfl
theorem pay38_eq : k0_pay38 q w old = addT w q old := rfl
theorem pay9_eq : k0_pay9 x w old = addN w x old := rfl
theorem pay39_eq : k0_pay39 x w old = addN w x old := rfl

end Payloads

/-- The two steps of trip `k`. -/
def pair {α : Type} (f : ℕ → α → α) (k : ℕ) (d : α) : α := f (2 * k + 1) (f (2 * k) d)

theorem trip (c : Dev nD) (𝒱 : Variants) (bd : Option 𝒱.V) (E : Set ℕ) (i : grid0.Coords) (arg2 : Memref sig .tc .vmem S512x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S512x256 .bf16) (harg5 : arg5.IsWhole) (arg6 : Memref sig .tc .vmem S1x1x128 .f32) (harg6 : arg6.IsWhole) (arg7 : Memref sig .tc .vmem S1x512x512 .f32) (harg7 : arg7.IsWhole) (arg8 : Memref sig .tc .vmem S1x512x512 .f32) (harg8 : arg8.IsWhole) (arg9 : Memref sig .tc .vmem S512x256 .f32) (harg9 : arg9.IsWhole) (arg10 : Memref sig .tc .vmem S4096x256 .f32) (harg10 : arg10.IsWhole) (arg11 : Memref sig .tc .vmem S4096x256 .f32) (harg11 : arg11.IsWhole) (arg12 : Memref sig .tc .vmem S512x256 .f32) (harg12 : arg12.IsWhole)
  (arg1 : BitVec 32) (v3 : Vec F S512x256 .bf16) (v6 : FVec F S512x256 .bf16) (v12 : BitVec 32) (v14 : Vec F S512x256 .bf16) (v23 : FVec F S512x512 .bf16) (v33 : Vec F S512x256 .f32)
  (X3 : BufTy.Contents (Elt F) arg3.view.ty) (X4 : BufTy.Contents (Elt F) arg4.view.ty)
  (X6 : BufTy.Contents (Elt F) arg6.view.ty) (X7 : BufTy.Contents (Elt F) arg7.view.ty)
  (f10 : BufTy.Contents (Elt F) arg10.view.ty) (f11 : BufTy.Contents (Elt F) arg11.view.ty) (f12 : BufTy.Contents (Elt F) arg12.view.ty) (k : Fin (k0_t1_loop i).trips) :
  (iprop((arg3.view.loc (c : Thread nD τ) ↦[arg3.view.set]{fullShare} X3) ∗ (arg4.view.loc (c : Thread nD τ) ↦[arg4.view.set]{fullShare} X4) ∗ (arg6.view.loc (c : Thread nD τ) ↦[arg6.view.set]{fullShare} X6) ∗ (arg7.view.loc (c : Thread nD τ) ↦[arg7.view.set]{fullShare} X7) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12)) : sProp 𝕄)
   ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg1 v3 v6 v12 v14 v23 v33 k PUnit.unit)
    (fun _ => iprop((arg3.view.loc (c : Thread nD τ) ↦[arg3.view.set]{fullShare} X3) ∗ (arg4.view.loc (c : Thread nD τ) ↦[arg4.view.set]{fullShare} X4) ∗ (arg6.view.loc (c : Thread nD τ) ↦[arg6.view.set]{fullShare} X6) ∗ (arg7.view.loc (c : Thread nD τ) ↦[arg7.view.set]{fullShare} X7)
      ∗ (∃ f, (arg10.view.loc (c : Thread nD τ) ↦[arg10.view.set]{fullShare} f) ∗ ⌜arg10.view.read (Elt F) f = pair (stepDK arg1 v3 v6 (arg4.view.read (Elt F) X4) (arg6.view.read (Elt F) X6) (arg7.view.read (Elt F) X7)) k (arg10.view.read (Elt F) f10)⌝)
      ∗ (∃ f, (arg11.view.loc (c : Thread nD τ) ↦[arg11.view.set]{fullShare} f) ∗ ⌜arg11.view.read (Elt F) f = pair (stepDV arg1 v3 v6 (arg3.view.read (Elt F) X3) (arg6.view.read (Elt F) X6) (arg7.view.read (Elt F) X7)) k (arg11.view.read (Elt F) f11)⌝)
      ∗ (∃ f, (arg12.view.loc (c : Thread nD τ) ↦[arg12.view.set]{fullShare} f) ∗ ⌜arg12.view.read (Elt F) f = pair (stepDQ arg1 v6 (arg3.view.read (Elt F) X3) (arg4.view.read (Elt F) X4) (arg6.view.read (Elt F) X6) (arg7.view.read (Elt F) X7)) k (arg12.view.read (Elt F) f12)⌝))) := by
  have h2 : 2 * k.val < 8 := by have := trip_lt i k; omega
  have hne : 2 * k.val + 1 ≠ 2 * k.val := by omega
  unfold k0_t1_body
  iintro ⟨HR3, HR4, HR6, HR7, HW10, HW11, HW12⟩
  sl_exec
  sl_step
  isplitl [HR3]; · iexact HR3
  isplitl [HR4]; · iexact HR4
  isplitl [HR6]; · iexact HR6
  isplitl [HR7]; · iexact HR7
  isplitl [HW10]
  · iexists _
    isplitl [HW10]; · iexact HW10
    ipureintro
    sl_unfold_run_names
    rw [read_put arg10.view f10 (off3_blk i k), read_put arg10.view f10 (off2_blk i k)]
    simp only [readAt_blk _ _ (trip_lt i k) (off3_blk i k), readAt_blk _ _ h2 (off2_blk i k), readAt_lg, readAt_rel,
      pay6_eq, pay12_eq, pay8_eq, pay38_eq, pair, stepDK, getBlk_putBlk_ne (trip_lt i k) hne]
    rfl
  isplitl [HW11]
  · iexists _
    isplitl [HW11]; · iexact HW11
    ipureintro
    sl_unfold_run_names
    rw [read_put arg11.view f11 (off3_blk i k), read_put arg11.view f11 (off2_blk i k)]
    simp only [readAt_blk _ _ (trip_lt i k) (off3_blk i k), readAt_blk _ _ h2 (off2_blk i k), readAt_lg, readAt_rel,
      pay5_eq, pay11_eq, pair, stepDV, getBlk_putBlk_ne (trip_lt i k) hne]
    rfl
  iexists _
  isplitl [HW12]; · iexact HW12
  ipureintro
  sl_unfold_run_names
  rw [read_all arg12.view f12 zero2]
  simp only [readCov_sq, readAt_blk _ _ (trip_lt i k) (off3_blk i k), readAt_blk _ _ h2 (off2_blk i k), readAt_lg, readAt_rel, readAt_sq,
    pay6_eq, pay12_eq, pay9_eq, pay39_eq, pair, stepDQ]

/-- The pair loop by its invariant: before trip `k` the three accumulators have taken the key blocks below `2k`. -/
@[sl_loop, instance_reducible] def loopInv_k0_t1 (𝒱 : Variants) (c : Dev nD) (bd : Option 𝒱.V) (E : Set ℕ) (i : grid0.Coords) (arg2 : Memref sig .tc .vmem S512x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S512x256 .bf16) (harg5 : arg5.IsWhole) (arg6 : Memref sig .tc .vmem S1x1x128 .f32) (harg6 : arg6.IsWhole) (arg7 : Memref sig .tc .vmem S1x512x512 .f32) (harg7 : arg7.IsWhole) (arg8 : Memref sig .tc .vmem S1x512x512 .f32) (harg8 : arg8.IsWhole) (arg9 : Memref sig .tc .vmem S512x256 .f32) (harg9 : arg9.IsWhole) (arg10 : Memref sig .tc .vmem S4096x256 .f32) (harg10 : arg10.IsWhole) (arg11 : Memref sig .tc .vmem S4096x256 .f32) (harg11 : arg11.IsWhole) (arg12 : Memref sig .tc .vmem S512x256 .f32) (harg12 : arg12.IsWhole)
    (arg1 : BitVec 32) (v3 : Vec F S512x256 .bf16) (v6 : FVec F S512x256 .bf16) (v12 : BitVec 32) (v14 : Vec F S512x256 .bf16) (v23 : FVec F S512x512 .bf16) (v33 : Vec F S512x256 .f32)
    (X3 : BufTy.Contents (Elt F) arg3.view.ty) (X4 : BufTy.Contents (Elt F) arg4.view.ty)
    (X6 : BufTy.Contents (Elt F) arg6.view.ty) (X7 : BufTy.Contents (Elt F) arg7.view.ty)
    (G10 : BufTy.Contents (Elt F) arg10.view.ty) (G11 : BufTy.Contents (Elt F) arg11.view.ty) (G12 : BufTy.Contents (Elt F) arg12.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg1 v3 v6 v12 v14 v23 v33 where
  inv k _ := iprop((arg3.view.loc (c : Thread nD τ) ↦[arg3.view.set]{fullShare} X3) ∗ (arg4.view.loc (c : Thread nD τ) ↦[arg4.view.set]{fullShare} X4) ∗ (arg6.view.loc (c : Thread nD τ) ↦[arg6.view.set]{fullShare} X6) ∗ (arg7.view.loc (c : Thread nD τ) ↦[arg7.view.set]{fullShare} X7)
      ∗ (∃ f, (arg10.view.loc (c : Thread nD τ) ↦[arg10.view.set]{fullShare} f) ∗ ⌜arg10.view.read (Elt F) f = upTo (stepDK arg1 v3 v6 (arg4.view.read (Elt F) X4) (arg6.view.read (Elt F) X6) (arg7.view.read (Elt F) X7)) (2 * k) (arg10.view.read (Elt F) G10)⌝)
      ∗ (∃ f, (arg11.view.loc (c : Thread nD τ) ↦[arg11.view.set]{fullShare} f) ∗ ⌜arg11.view.read (Elt F) f = upTo (stepDV arg1 v3 v6 (arg3.view.read (Elt F) X3) (arg6.view.read (Elt F) X6) (arg7.view.read (Elt F) X7)) (2 * k) (arg11.view.read (Elt F) G11)⌝)
      ∗ (∃ f, (arg12.view.loc (c : Thread nD τ) ↦[arg12.view.set]{fullShare} f) ∗ ⌜arg12.view.read (Elt F) f = upTo (stepDQ arg1 v6 (arg3.view.read (Elt F) X3) (arg4.view.read (Elt F) X4) (arg6.view.read (Elt F) X6) (arg7.view.read (Elt F) X7)) (2 * k) (arg12.view.read (Elt F) G12)⌝))
  step k acc := by
    iintro ⟨H3, H4, H6, H7, ⟨%f10, H10, %e10⟩, ⟨%f11, H11, %e11⟩, ⟨%f12, H12, %e12⟩⟩
    iapply (wp_wand_r Idealize.ShloMosaic.frame (wpE (defs₀ (F := F)) 𝒱 (c : Thread nD τ) bd) E)
    isplitl [H3 H4 H6 H7 H10 H11 H12]
    · iapply (trip c 𝒱 bd E i arg2 harg2 arg3 harg3 arg4 harg4 arg5 harg5 arg6 harg6 arg7 harg7 arg8 harg8 arg9 harg9 arg10 harg10 arg11 harg11 arg12 harg12 arg1 v3 v6 v12 v14 v23 v33 X3 X4 X6 X7 f10 f11 f12 k)
      isplitl [H3]; · iexact H3
      isplitl [H4]; · iexact H4
      isplitl [H6]; · iexact H6
      isplitl [H7]; · iexact H7
      isplitl [H10]; · iexact H10
      isplitl [H11]; · iexact H11
      iexact H12
    · iintro %_ ⟨H3, H4, H6, H7, ⟨%g10, H10, %d10⟩, ⟨%g11, H11, %d11⟩, ⟨%g12, H12, %d12⟩⟩
      isplitl [H3]; · iexact H3
      isplitl [H4]; · iexact H4
      isplitl [H6]; · iexact H6
      isplitl [H7]; · iexact H7
      isplitl [H10]
      · iexists g10
        isplitl [H10]; · iexact H10
        ipureintro; rw [d10, e10]; rfl
      isplitl [H11]
      · iexists g11
        isplitl [H11]; · iexact H11
        ipureintro; rw [d11, e11]; rfl
      iexists g12
      isplitl [H12]; · iexact H12
      ipureintro; rw [d12, e12]; rfl

end Cert.RetBwd

end
-- ==== Proof.Body.lean ====
/- The kernel's body at one grid point, run once: what it leaves in the three gradients' buffers, as a function of the
   blocks it reads. Query block `n` of a head takes the diagonal key block first and then the key blocks `0 … n - 1`. -/
module

public import proofs.«01_k».proof.Proof.Trip

@[expose] public section

set_option maxRecDepth 16384

noncomputable section

namespace Cert.RetBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- The values' gradient after query block `n`, from `d0` before it. -/
def pointDV (n : ℕ) (q do_ : Vec F S512x256 .bf16) (k : Vec F S4096x256 .bf16) (lg : Vec F S1x1x128 .f32)
    (rel reld : Vec F S1x512x512 .f32) (d0 : Vec F S4096x256 .f32) : Vec F S4096x256 .f32 :=
  upTo (stepDV (BitVec.ofNat 32 n) q (rnd do_) k lg rel) n
    (putBlk n (addT (wgt q (getBlk n k) (decDiag reld)) (rnd do_) (getBlk n d0)) d0)

/-- The keys' gradient after query block `n`, from `d0` before it. -/
def pointDK (n : ℕ) (q do_ : Vec F S512x256 .bf16) (v : Vec F S4096x256 .bf16) (lg : Vec F S1x1x128 .f32)
    (rel reld : Vec F S1x512x512 .f32) (d0 : Vec F S4096x256 .f32) : Vec F S4096x256 .f32 :=
  upTo (stepDK (BitVec.ofNat 32 n) q (rnd do_) v lg rel) n
    (putBlk n (addT (wgt (rnd do_) (getBlk n v) (decDiag reld)) q (getBlk n d0)) d0)

/-- The zero the queries' gradient of a block starts from. -/
def zeroQ : FVec F S512x256 .f32 :=
  shapeCast S512x256 (broadcast S512x256 (Scalar.ofBits .f32 0x00000000#32 : F .f32)) shapeCasts_S512x256_S512x256

/-- The zero the keys' and values' gradients of a head start from. -/
def zeroK : FVec F S4096x256 .f32 := broadcast S4096x256 (Scalar.ofBits .f32 0x00000000#32 : F .f32)

/-- The queries' gradient of query block `n`. -/
def pointDQ (n : ℕ) (do_ : Vec F S512x256 .bf16) (k v : Vec F S4096x256 .bf16) (lg : Vec F S1x1x128 .f32)
    (rel reld : Vec F S1x512x512 .f32) : Vec F S512x256 .f32 :=
  upTo (stepDQ (BitVec.ofNat 32 n) (rnd do_) k v lg rel) n
    (addN (wgt (rnd do_) (getBlk n v) (decDiag reld)) (getBlk n k) zeroQ)

/-- The first query block of a head, as the kernel tests it. -/
abbrev first (i : grid0.Coords) : Prop :=
  (Scalar.cmpi .ne (Scalar.extui (Scalar.cmpi .eq (BitVec.ofNat 32 (i 1).val) 0#32) : BitVec 32) 0#32) = 1#1

/-- The word of the last key block before the diagonal, at an odd query block. -/
theorem word_last : ∀ i : grid0.Coords, (i 1).val % 2 = 1 →
    Scalar.subi (BitVec.ofNat 32 (i 1).val) 1#32 = BitVec.ofNat 32 (2 * ((i 1).val / 2)) := by decide +kernel

theorem off6_blk (i : grid0.Coords) (h : (i 1).val % 2 = 1) : k0_off6 i = ![512 * (2 * ((i 1).val / 2)), 0] := by
  rw [off6_eq_pred i h, show (i 1).val - 1 = 2 * ((i 1).val / 2) by omega]

theorem upTo_odd {α : Type} (f : ℕ → α → α) {n : ℕ} (h : n % 2 = 1) (d : α) :
    upTo f n d = f (2 * (n / 2)) (upTo f (2 * (n / 2)) d) := by
  rw [show upTo f n d = upTo f (2 * (n / 2) + 1) d from congrArg (upTo f · d) (by omega)]; rfl

theorem upTo_even {α : Type} (f : ℕ → α → α) {n : ℕ} (h : ¬ n % 2 = 1) (d : α) :
    upTo f n d = upTo f (2 * (n / 2)) d := congrArg (upTo f · d) (by omega)

theorem off1_blk (i : grid0.Coords) : k0_off1 i = ![512 * (i 1).val, 0] := k0_off1_eq i

/-- A block loaded from a buffer just stored whole. -/
theorem readCov_blk {κ : Kind} {sp : Space} {e : EltTy} (v : View sig κ sp S4096x256 e) {off : Fin 2 → ℕ} {j : ℕ} (hj : j < 8)
    (hoff : off = ![512 * j, 0]) (inb : ∀ a : Fin 2, off a + S512x256.size a ≤ S4096x256.size a) (inb') (w : Vec F S4096x256 e)
    (L : List (View.Piece (Elt F) S4096x256 e)) :
    v.readCov ((⟨Rect.unit (s := S4096x256) ![0, 0] (no_index S4096x256.size) inb', w⟩ : View.Piece (Elt F) S4096x256 e) :: L)
      (Rect.unit (s := S4096x256) off (no_index S512x256.size) inb).toLoadRect = getBlk j w :=
  (readAt_blk v _ hj hoff inb).trans (congrArg (getBlk j) (read_all v _ zero2 inb' w L))

section Payloads

variable (i : grid0.Coords) (h : (i 1).val % 2 = 1) (q g x : FVec F S512x256 .bf16) (y : Vec F S512x256 .bf16)
  (lg : Vec F S1x1x128 .f32) (rel : Vec F S1x512x512 .f32) (w : FVec F S512x512 .bf16) (old : Vec F S512x256 .f32)
include h

theorem pay25_eq : k0_pay25 (BitVec.ofNat 32 (i 1).val) g y lg rel
    = wgt g y (decOff (BitVec.ofNat 32 (i 1).val) (BitVec.ofNat 32 (2 * ((i 1).val / 2))) lg rel) := by
  rw [← word_last i h]; rfl
theorem pay26_eq : k0_pay26 (BitVec.ofNat 32 (i 1).val) q g y lg rel old
    = addT (wgt q y (decOff (BitVec.ofNat 32 (i 1).val) (BitVec.ofNat 32 (2 * ((i 1).val / 2))) lg rel)) g old := by
  rw [← word_last i h]; rfl
theorem pay27_eq : k0_pay27 (BitVec.ofNat 32 (i 1).val) q g y lg rel old
    = addT (wgt g y (decOff (BitVec.ofNat 32 (i 1).val) (BitVec.ofNat 32 (2 * ((i 1).val / 2))) lg rel)) q old := by
  rw [← word_last i h]; rfl

omit h
theorem pay1_eq : k0_pay1 y w old = addN w y old := rfl
theorem pay30_eq : k0_pay30 y = rnd y := rfl
theorem pay33_eq (z : Vec F S512x256 .bf16) : k0_pay33 y z rel = wgt (rnd y) z (decDiag rel) := rfl
theorem pay34_eq (z y' : Vec F S512x256 .bf16) : k0_pay34 z y y' rel old = addT (wgt z y' (decDiag rel)) (rnd y) old := rfl
theorem pay35_eq : k0_pay35 y w old = addT w y old := rfl
theorem pay36_eq : k0_pay36 y w old = addN w y old := rfl
theorem pay31_eq : k0_pay31 (F := F) = zeroQ := rfl
theorem pay28_eq : k0_pay28 (F := F) = zeroK := rfl
theorem pay29_eq : k0_pay29 (F := F) = zeroK := rfl

end Payloads

set_option maxHeartbeats 1000000 in
/-- An odd query block: pairs, and one key block more. -/
theorem run_odd (c : Dev nD) (i : grid0.Coords) (arg2 : Memref sig .tc .vmem S512x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S512x256 .bf16) (harg5 : arg5.IsWhole) (arg6 : Memref sig .tc .vmem S1x1x128 .f32) (harg6 : arg6.IsWhole) (arg7 : Memref sig .tc .vmem S1x512x512 .f32) (harg7 : arg7.IsWhole) (arg8 : Memref sig .tc .vmem S1x512x512 .f32) (harg8 : arg8.IsWhole) (arg9 : Memref sig .tc .vmem S512x256 .f32) (harg9 : arg9.IsWhole) (arg10 : Memref sig .tc .vmem S4096x256 .f32) (harg10 : arg10.IsWhole) (arg11 : Memref sig .tc .vmem S4096x256 .f32) (harg11 : arg11.IsWhole) (arg12 : Memref sig .tc .vmem S512x256 .f32) (harg12 : arg12.IsWhole)
    (h1 : ¬ first i) (h2 : k0_cond2 i = 1#1)
    (x0 : Vec F S512x256 .bf16) (x1 : Vec F S4096x256 .bf16) (x2 : Vec F S4096x256 .bf16) (x3 : Vec F S512x256 .bf16) (x4 : Vec F S1x1x128 .f32) (x5 : Vec F S1x512x512 .f32) (x6 : Vec F S1x512x512 .f32)
    (d8 d9 : Vec F S4096x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare d8 ∗ owns (c : Thread nD τ) arg11 fullShare d9 ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (pointDQ (i 1).val x3 x1 x2 x4 x5 x6) ∗ owns (c : Thread nD τ) arg10 fullShare (pointDK (i 1).val x0 x3 x2 x4 x5 x6 d8) ∗ owns (c : Thread nD τ) arg11 fullShare (pointDV (i 1).val x0 x3 x1 x4 x5 x6 d9) ∗ (∃ d, owns (c : Thread nD τ) arg12 fullShare d)) -∗ K ⟨⟩))
      ⊢ wp frame (wpE (defs₀ (F := F)) Variants.none c none) E (cc0_ret_bwd i arg2 harg2 arg3 harg3 arg4 harg4 arg5 harg5 arg6 harg6 arg7 harg7 arg8 harg8 arg9 harg9 arg10 harg10 arg11 harg11 arg12 harg12) K := by
  have htr : (k0_t2_loop i).trips = 0 := trips_t2 i
  have ht : Scf.trips (k0_t1_loop i).lb (k0_t1_loop i).ub (k0_t1_loop i).st = (i 1).val / 2 := trips_t1 i
  have hj : (i 1).val < 8 := (i 1).isLt
  have hodd := (cond2_iff i).mp h2
  have hj6 : 2 * ((i 1).val / 2) < 8 := by omega
  simp only [cc0_ret_bwd_eq_skeleton]; unfold cc0_ret_bwd_skel
  simp only [k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    sl_unfold_run_names
    rw [read_all arg9.view f7 zero2]
    simp only [readAt_blk _ _ hj6 (off6_blk i hodd), pay25_eq i hodd, pay26_eq i hodd, pay27_eq i hodd, pay1_eq, readAt_blk _ _ hj (off1_blk i), readAt_lg, readAt_rel, readAt_sq, readCov_sq, hf0, hf1, hf2, hf3, hf4, hf5, hf6, ht, pay30_eq]
    rw [hL9]
    sl_unfold_run_names
    rw [read_all arg12.view _ zero2]
    simp only [readAt_blk _ _ hj6 (off6_blk i hodd), pay25_eq i hodd, pay26_eq i hodd, pay27_eq i hodd, pay1_eq, readAt_blk _ _ hj (off1_blk i), readAt_lg, readAt_rel, readAt_sq, readCov_sq, hf0, hf1, hf2, hf3, hf4, hf5, hf6, ht, pay30_eq, pay31_eq, pay33_eq, pay36_eq]
    rw [pointDQ, upTo_odd _ hodd]
    rfl
  isplitl [H8]
  · iexists _; isplitr; swap; · iexact H8
    ipureintro
    sl_unfold_run_names
    rw [read_put arg10.view _ (off6_blk i hodd)]
    simp only [readAt_blk _ _ hj6 (off6_blk i hodd), pay25_eq i hodd, pay26_eq i hodd, pay27_eq i hodd, pay1_eq, readAt_blk _ _ hj (off1_blk i), readAt_lg, readAt_rel, readAt_sq, readCov_sq, hf0, hf1, hf2, hf3, hf4, hf5, hf6, ht, pay30_eq]
    rw [show arg10.view.read (Elt F) (arg10.view.writes (Elt F) fL0 []) = arg10.view.read (Elt F) fL0 from rfl, hL5]
    sl_unfold_run_names
    rw [read_put arg10.view _ (off1_blk i), show arg10.view.read (Elt F) (arg10.view.writes (Elt F) f8 []) = d8 from hf8]
    simp only [readAt_blk _ _ hj6 (off6_blk i hodd), pay25_eq i hodd, pay26_eq i hodd, pay27_eq i hodd, pay1_eq, readAt_blk _ _ hj (off1_blk i), readCov_blk _ hj (off1_blk i), readAt_lg, readAt_rel, readAt_sq, readCov_sq, hf0, hf1, hf2, hf3, hf4, hf5, hf6, ht, hf8, pay30_eq, pay28_eq, pay29_eq, pay33_eq, pay34_eq, pay35_eq]
    rw [pointDK, upTo_odd _ hodd]
    rfl
  isplitl [H9]
  · iexists _; isplitr; swap; · iexact H9
    ipureintro
    sl_unfold_run_names
    rw [read_put arg11.view _ (off6_blk i hodd)]
    simp only [readAt_blk _ _ hj6 (off6_blk i hodd), pay25_eq i hodd, pay26_eq i hodd, pay27_eq i hodd, pay1_eq, readAt_blk _ _ hj (off1_blk i), readAt_lg, readAt_rel, readAt_sq, readCov_sq, hf0, hf1, hf2, hf3, hf4, hf5, hf6, ht, pay30_eq]
    rw [show arg11.view.read (Elt F) (arg11.view.writes (Elt F) fL1 []) = arg11.view.read (Elt F) fL1 from rfl, hL7]
    sl_unfold_run_names
    rw [read_put arg11.view _ (off1_blk i), show arg11.view.read (Elt F) (arg11.view.writes (Elt F) f9 []) = d9 from hf9]
    simp only [readAt_blk _ _ hj6 (off6_blk i hodd), pay25_eq i hodd, pay26_eq i hodd, pay27_eq i hodd, pay1_eq, readAt_blk _ _ hj (off1_blk i), readCov_blk _ hj (off1_blk i), readAt_lg, readAt_rel, readAt_sq, readCov_sq, hf0, hf1, hf2, hf3, hf4, hf5, hf6, ht, hf9, pay30_eq, pay28_eq, pay29_eq, pay33_eq, pay34_eq, pay35_eq]
    rw [pointDV, upTo_odd _ hodd]
    rfl
  iexists _, _; isplitr; swap; · iexact HS0
  ipureintro; rfl

set_option maxHeartbeats 1000000 in
/-- An even query block past the first: pairs only. -/
theorem run_even (c : Dev nD) (i : grid0.Coords) (arg2 : Memref sig .tc .vmem S512x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S512x256 .bf16) (harg5 : arg5.IsWhole) (arg6 : Memref sig .tc .vmem S1x1x128 .f32) (harg6 : arg6.IsWhole) (arg7 : Memref sig .tc .vmem S1x512x512 .f32) (harg7 : arg7.IsWhole) (arg8 : Memref sig .tc .vmem S1x512x512 .f32) (harg8 : arg8.IsWhole) (arg9 : Memref sig .tc .vmem S512x256 .f32) (harg9 : arg9.IsWhole) (arg10 : Memref sig .tc .vmem S4096x256 .f32) (harg10 : arg10.IsWhole) (arg11 : Memref sig .tc .vmem S4096x256 .f32) (harg11 : arg11.IsWhole) (arg12 : Memref sig .tc .vmem S512x256 .f32) (harg12 : arg12.IsWhole)
    (h1 : ¬ first i) (h2 : ¬ k0_cond2 i = 1#1)
    (x0 : Vec F S512x256 .bf16) (x1 : Vec F S4096x256 .bf16) (x2 : Vec F S4096x256 .bf16) (x3 : Vec F S512x256 .bf16) (x4 : Vec F S1x1x128 .f32) (x5 : Vec F S1x512x512 .f32) (x6 : Vec F S1x512x512 .f32)
    (d8 d9 : Vec F S4096x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare d8 ∗ owns (c : Thread nD τ) arg11 fullShare d9 ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (pointDQ (i 1).val x3 x1 x2 x4 x5 x6) ∗ owns (c : Thread nD τ) arg10 fullShare (pointDK (i 1).val x0 x3 x2 x4 x5 x6 d8) ∗ owns (c : Thread nD τ) arg11 fullShare (pointDV (i 1).val x0 x3 x1 x4 x5 x6 d9) ∗ (∃ d, owns (c : Thread nD τ) arg12 fullShare d)) -∗ K ⟨⟩))
      ⊢ wp frame (wpE (defs₀ (F := F)) Variants.none c none) E (cc0_ret_bwd i arg2 harg2 arg3 harg3 arg4 harg4 arg5 harg5 arg6 harg6 arg7 harg7 arg8 harg8 arg9 harg9 arg10 harg10 arg11 harg11 arg12 harg12) K := by
  have htr : (k0_t2_loop i).trips = 0 := trips_t2 i
  have ht : Scf.trips (k0_t1_loop i).lb (k0_t1_loop i).ub (k0_t1_loop i).st = (i 1).val / 2 := trips_t1 i
  have hj : (i 1).val < 8 := (i 1).isLt
  have hodd : ¬ (i 1).val % 2 = 1 := fun h => h2 ((cond2_iff i).mpr h)
  simp only [cc0_ret_bwd_eq_skeleton]; unfold cc0_ret_bwd_skel
  simp only [k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    sl_unfold_run_names
    rw [read_all arg9.view f7 zero2]
    simp only [readAt_blk _ _ hj (off1_blk i), readAt_lg, readAt_rel, readAt_sq, readCov_sq, hf0, hf1, hf2, hf3, hf4, hf5, hf6, ht, pay30_eq]
    rw [hL9]
    sl_unfold_run_names
    rw [read_all arg12.view _ zero2]
    simp only [readAt_blk _ _ hj (off1_blk i), readAt_lg, readAt_rel, readAt_sq, readCov_sq, hf0, hf1, hf2, hf3, hf4, hf5, hf6, ht, pay30_eq, pay31_eq, pay33_eq, pay36_eq]
    rw [pointDQ, upTo_even _ hodd]
  isplitl [H8]
  · iexists _; isplitr; swap; · iexact H8
    ipureintro
    rw [hL5]
    sl_unfold_run_names
    rw [read_put arg10.view _ (off1_blk i), show arg10.view.read (Elt F) (arg10.view.writes (Elt F) f8 []) = d8 from hf8]
    simp only [readAt_blk _ _ hj (off1_blk i), readCov_blk _ hj (off1_blk i), readAt_lg, readAt_rel, readAt_sq, readCov_sq, hf0, hf1, hf2, hf3, hf4, hf5, hf6, ht, hf8, pay30_eq, pay28_eq, pay29_eq, pay33_eq, pay34_eq, pay35_eq]
    rw [pointDK, upTo_even _ hodd]
  isplitl [H9]
  · iexists _; isplitr; swap; · iexact H9
    ipureintro
    rw [hL7]
    sl_unfold_run_names
    rw [read_put arg11.view _ (off1_blk i), show arg11.view.read (Elt F) (arg11.view.writes (Elt F) f9 []) = d9 from hf9]
    simp only [readAt_blk _ _ hj (off1_blk i), readCov_blk _ hj (off1_blk i), readAt_lg, readAt_rel, readAt_sq, readCov_sq, hf0, hf1, hf2, hf3, hf4, hf5, hf6, ht, hf9, pay30_eq, pay28_eq, pay29_eq, pay33_eq, pay34_eq, pay35_eq]
    rw [pointDV, upTo_even _ hodd]
  iexists _, _; isplitr; swap; · iexact HS0
  ipureintro; rfl

set_option maxHeartbeats 1000000 in
/-- The first query block of a head: the accumulators start from zero. -/
theorem run_first (c : Dev nD) (i : grid0.Coords) (arg2 : Memref sig .tc .vmem S512x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S512x256 .bf16) (harg5 : arg5.IsWhole) (arg6 : Memref sig .tc .vmem S1x1x128 .f32) (harg6 : arg6.IsWhole) (arg7 : Memref sig .tc .vmem S1x512x512 .f32) (harg7 : arg7.IsWhole) (arg8 : Memref sig .tc .vmem S1x512x512 .f32) (harg8 : arg8.IsWhole) (arg9 : Memref sig .tc .vmem S512x256 .f32) (harg9 : arg9.IsWhole) (arg10 : Memref sig .tc .vmem S4096x256 .f32) (harg10 : arg10.IsWhole) (arg11 : Memref sig .tc .vmem S4096x256 .f32) (harg11 : arg11.IsWhole) (arg12 : Memref sig .tc .vmem S512x256 .f32) (harg12 : arg12.IsWhole)
    (h1 : first i) (h2 : ¬ k0_cond2 i = 1#1)
    (x0 : Vec F S512x256 .bf16) (x1 : Vec F S4096x256 .bf16) (x2 : Vec F S4096x256 .bf16) (x3 : Vec F S512x256 .bf16) (x4 : Vec F S1x1x128 .f32) (x5 : Vec F S1x512x512 .f32) (x6 : Vec F S1x512x512 .f32)
    (d8 d9 : Vec F S4096x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare d8 ∗ owns (c : Thread nD τ) arg11 fullShare d9 ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (pointDQ (i 1).val x3 x1 x2 x4 x5 x6) ∗ owns (c : Thread nD τ) arg10 fullShare (pointDK (i 1).val x0 x3 x2 x4 x5 x6 zeroK) ∗ owns (c : Thread nD τ) arg11 fullShare (pointDV (i 1).val x0 x3 x1 x4 x5 x6 zeroK) ∗ (∃ d, owns (c : Thread nD τ) arg12 fullShare d)) -∗ K ⟨⟩))
      ⊢ wp frame (wpE (defs₀ (F := F)) Variants.none c none) E (cc0_ret_bwd i arg2 harg2 arg3 harg3 arg4 harg4 arg5 harg5 arg6 harg6 arg7 harg7 arg8 harg8 arg9 harg9 arg10 harg10 arg11 harg11 arg12 harg12) K := by
  have htr : (k0_t2_loop i).trips = 0 := trips_t2 i
  have ht : Scf.trips (k0_t1_loop i).lb (k0_t1_loop i).ub (k0_t1_loop i).st = (i 1).val / 2 := trips_t1 i
  have hj : (i 1).val < 8 := (i 1).isLt
  have hodd : ¬ (i 1).val % 2 = 1 := fun h => h2 ((cond2_iff i).mpr h)
  simp only [cc0_ret_bwd_eq_skeleton]; unfold cc0_ret_bwd_skel
  simp only [k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    sl_unfold_run_names
    rw [read_all arg9.view f7 zero2]
    simp only [readAt_blk _ _ hj (off1_blk i), readAt_lg, readAt_rel, readAt_sq, readCov_sq, hf0, hf1, hf2, hf3, hf4, hf5, hf6, ht, pay30_eq]
    rw [hL9]
    sl_unfold_run_names
    rw [read_all arg12.view _ zero2]
    simp only [readAt_blk _ _ hj (off1_blk i), readAt_lg, readAt_rel, readAt_sq, readCov_sq, hf0, hf1, hf2, hf3, hf4, hf5, hf6, ht, pay30_eq, pay31_eq, pay33_eq, pay36_eq]
    rw [pointDQ, upTo_even _ hodd]
  isplitl [H8]
  · iexists _; isplitr; swap; · iexact H8
    ipureintro
    rw [hL5]
    sl_unfold_run_names
    rw [read_put arg10.view _ (off1_blk i), read_all arg10.view _ zero2]
    simp only [readAt_blk _ _ hj (off1_blk i), readCov_blk _ hj (off1_blk i), readAt_lg, readAt_rel, readAt_sq, readCov_sq, hf0, hf1, hf2, hf3, hf4, hf5, hf6, ht, hf8, pay30_eq, pay28_eq, pay29_eq, pay33_eq, pay34_eq, pay35_eq]
    rw [pointDK, upTo_even _ hodd, read_all arg10.view _ zero2]
  isplitl [H9]
  · iexists _; isplitr; swap; · iexact H9
    ipureintro
    rw [hL7]
    sl_unfold_run_names
    rw [read_put arg11.view _ (off1_blk i), read_all arg11.view _ zero2]
    simp only [readAt_blk _ _ hj (off1_blk i), readCov_blk _ hj (off1_blk i), readAt_lg, readAt_rel, readAt_sq, readCov_sq, hf0, hf1, hf2, hf3, hf4, hf5, hf6, ht, hf9, pay30_eq, pay28_eq, pay29_eq, pay33_eq, pay34_eq, pay35_eq]
    rw [pointDV, upTo_even _ hodd, read_all arg11.view _ zero2]
  iexists _, _; isplitr; swap; · iexact HS0
  ipureintro; rfl

end Cert.RetBwd

end
-- ==== Proof.Frames.lean ====
/- The region's proof data: what every window's buffer holds after each grid point, the body's obligation from the three runs
   of `Body`, the region's run, and the two frames. -/
module

public import proofs.«01_k».proof.Proof.Body
public import proofs.«01_k».proof.Proof.Gen.KernelIdeal.Frame
public import Idealize.ShloMosaic.Lib.Claim

@[expose] public section

set_option maxRecDepth 16384

noncomputable section

namespace Cert.RetBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- What an accumulator holds when query block `n` starts adding: zero at the head's first block, else what was there. -/
def start (n : ℕ) (d : Vec F S4096x256 .f32) : Vec F S4096x256 .f32 := if n = 0 then zeroK else d

/-- The body at any grid point. -/
theorem run_point (c : Dev nD) (i : grid0.Coords) (arg2 : Memref sig .tc .vmem S512x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S512x256 .bf16) (harg5 : arg5.IsWhole) (arg6 : Memref sig .tc .vmem S1x1x128 .f32) (harg6 : arg6.IsWhole) (arg7 : Memref sig .tc .vmem S1x512x512 .f32) (harg7 : arg7.IsWhole) (arg8 : Memref sig .tc .vmem S1x512x512 .f32) (harg8 : arg8.IsWhole) (arg9 : Memref sig .tc .vmem S512x256 .f32) (harg9 : arg9.IsWhole) (arg10 : Memref sig .tc .vmem S4096x256 .f32) (harg10 : arg10.IsWhole) (arg11 : Memref sig .tc .vmem S4096x256 .f32) (harg11 : arg11.IsWhole) (arg12 : Memref sig .tc .vmem S512x256 .f32) (harg12 : arg12.IsWhole)
    (x0 : Vec F S512x256 .bf16) (x1 : Vec F S4096x256 .bf16) (x2 : Vec F S4096x256 .bf16) (x3 : Vec F S512x256 .bf16) (x4 : Vec F S1x1x128 .f32) (x5 : Vec F S1x512x512 .f32) (x6 : Vec F S1x512x512 .f32)
    (d8 d9 : Vec F S4096x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare d8 ∗ owns (c : Thread nD τ) arg11 fullShare d9 ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (pointDQ (i 1).val x3 x1 x2 x4 x5 x6) ∗ owns (c : Thread nD τ) arg10 fullShare (pointDK (i 1).val x0 x3 x2 x4 x5 x6 (start (i 1).val d8)) ∗ owns (c : Thread nD τ) arg11 fullShare (pointDV (i 1).val x0 x3 x1 x4 x5 x6 (start (i 1).val d9)) ∗ (∃ d, owns (c : Thread nD τ) arg12 fullShare d)) -∗ K ⟨⟩))
      ⊢ wp frame (wpE (defs₀ (F := F)) Variants.none c none) E (cc0_ret_bwd i arg2 harg2 arg3 harg3 arg4 harg4 arg5 harg5 arg6 harg6 arg7 harg7 arg8 harg8 arg9 harg9 arg10 harg10 arg11 harg11 arg12 harg12) K := by
  by_cases h0 : (i 1).val = 0
  · have e8 : start (i 1).val d8 = zeroK := if_pos h0
    have e9 : start (i 1).val d9 = zeroK := if_pos h0
    rw [e8, e9]
    exact run_first c i arg2 harg2 arg3 harg3 arg4 harg4 arg5 harg5 arg6 harg6 arg7 harg7 arg8 harg8 arg9 harg9 arg10 harg10 arg11 harg11 arg12 harg12 ((cond1_iff i).mpr h0) (fun h => by have := (cond2_iff i).mp h; omega) x0 x1 x2 x3 x4 x5 x6 d8 d9 E K
  · have e8 : start (i 1).val d8 = d8 := if_neg h0
    have e9 : start (i 1).val d9 = d9 := if_neg h0
    rw [e8, e9]
    by_cases h2 : k0_cond2 i = 1#1
    · exact run_odd c i arg2 harg2 arg3 harg3 arg4 harg4 arg5 harg5 arg6 harg6 arg7 harg7 arg8 harg8 arg9 harg9 arg10 harg10 arg11 harg11 arg12 harg12 (fun h => h0 ((cond1_iff i).mp h)) h2 x0 x1 x2 x3 x4 x5 x6 d8 d9 E K
    · exact run_even c i arg2 harg2 arg3 harg3 arg4 harg4 arg5 harg5 arg6 harg6 arg7 harg7 arg8 harg8 arg9 harg9 arg10 harg10 arg11 harg11 arg12 harg12 (fun h => h0 ((cond1_iff i).mp h)) h2 x0 x1 x2 x3 x4 x5 x6 d8 d9 E K

variable (m : (ℓ : Loc nD τ sig) → Buf (Elt F) ℓ) (ρ : Dev nD → PrngReg)

/-! ## What the outputs hold, point by point -/

/-- The queries' gradient after point `t`. -/
def dqAt (c : Dev nD) (t : Fin cfg0.N) : Vec F S512x256 .f32 :=
  pointDQ (t.val % 8) (iblk m c 3 t) (iblk m c 1 t) (iblk m c 2 t) (iblk m c 4 t) (iblk m c 5 t) (iblk m c 6 t)

/-- The keys' gradient after point `t`: from zero at a head's first query block, else from the point before. -/
def dkAt (c : Dev nD) : (n : ℕ) → n < cfg0.N → Vec F S4096x256 .f32
  | 0, h => pointDK 0 (iblk m c 0 ⟨0, h⟩) (iblk m c 3 ⟨0, h⟩) (iblk m c 2 ⟨0, h⟩) (iblk m c 4 ⟨0, h⟩) (iblk m c 5 ⟨0, h⟩)
      (iblk m c 6 ⟨0, h⟩) zeroK
  | n + 1, h => pointDK ((n + 1) % 8) (iblk m c 0 ⟨n + 1, h⟩) (iblk m c 3 ⟨n + 1, h⟩) (iblk m c 2 ⟨n + 1, h⟩)
      (iblk m c 4 ⟨n + 1, h⟩) (iblk m c 5 ⟨n + 1, h⟩) (iblk m c 6 ⟨n + 1, h⟩)
      (start ((n + 1) % 8) (dkAt c n (Nat.lt_of_succ_lt h)))

/-- The values' gradient after point `t`, likewise. -/
def dvAt (c : Dev nD) : (n : ℕ) → n < cfg0.N → Vec F S4096x256 .f32
  | 0, h => pointDV 0 (iblk m c 0 ⟨0, h⟩) (iblk m c 3 ⟨0, h⟩) (iblk m c 1 ⟨0, h⟩) (iblk m c 4 ⟨0, h⟩) (iblk m c 5 ⟨0, h⟩)
      (iblk m c 6 ⟨0, h⟩) zeroK
  | n + 1, h => pointDV ((n + 1) % 8) (iblk m c 0 ⟨n + 1, h⟩) (iblk m c 3 ⟨n + 1, h⟩) (iblk m c 1 ⟨n + 1, h⟩)
      (iblk m c 4 ⟨n + 1, h⟩) (iblk m c 5 ⟨n + 1, h⟩) (iblk m c 6 ⟨n + 1, h⟩)
      (start ((n + 1) % 8) (dvAt c n (Nat.lt_of_succ_lt h)))

/-- The region's proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => dqAt m c t
    | ⟨8, _⟩ => dkAt m c t.val t.isLt
    | ⟨9, _⟩ => dvAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = dqAt m c t := by dsimp only [dats]
theorem after0_8 (c : Dev nD) (t : Fin cfg0.N) : (dats m 0 c).after 8 t = dkAt m c t.val t.isLt := by dsimp only [dats]
theorem after0_9 (c : Dev nD) (t : Fin cfg0.N) : (dats m 0 c).after 9 t = dvAt m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- The query block of point `t`. -/
theorem coord1 (t : Fin cfg0.N) : (grid0.coords t 1).val = t.val % 8 := by
  have e : (grid0.coords t 1).val = t.val / 1 % 8 := Pipeline.Grid.coords_val t 1 (by decide) rfl
  rw [e, Nat.div_one]

/-- The keys' gradient after a point is one body's work on what the buffer held before it. -/
theorem after8_step (c : Dev nD) (t : Fin cfg0.N) (d) : (dats m 0 c).after 8 t
    = pointDK (t.val % 8) (iblk m c 0 t) (iblk m c 3 t) (iblk m c 2 t) (iblk m c 4 t) (iblk m c 5 t) (iblk m c 6 t)
        (start (t.val % 8) ((dats m 0 c).before 8 t d)) := by
  rw [after0_8]
  obtain ⟨n, h⟩ := t
  cases n with
  | zero => rfl
  | succ n =>
    by_cases h0 : (n + 1) % 8 = 0
    · show pointDK _ _ _ _ _ _ _ (start ((n + 1) % 8) _) = pointDK _ _ _ _ _ _ _ (start ((n + 1) % 8) _)
      unfold start; rw [if_pos h0, if_pos h0]
    · rw [(dats m 0 c).before_out_kept 8 (by rfl) ⟨n + 1, h⟩ (Nat.succ_ne_zero n)
        (Bool.eq_false_iff.mpr fun hf => by have := (flush0_8 _).mp hf; simp only [Nat.add_sub_cancel] at this; omega)
        (fun _ => by rfl) (fun _ _ => by rfl) d, after0_8]
      rfl

/-- The values' gradient likewise. -/
theorem after9_step (c : Dev nD) (t : Fin cfg0.N) (d) : (dats m 0 c).after 9 t
    = pointDV (t.val % 8) (iblk m c 0 t) (iblk m c 3 t) (iblk m c 1 t) (iblk m c 4 t) (iblk m c 5 t) (iblk m c 6 t)
        (start (t.val % 8) ((dats m 0 c).before 9 t d)) := by
  rw [after0_9]
  obtain ⟨n, h⟩ := t
  cases n with
  | zero => rfl
  | succ n =>
    by_cases h0 : (n + 1) % 8 = 0
    · show pointDV _ _ _ _ _ _ _ (start ((n + 1) % 8) _) = pointDV _ _ _ _ _ _ _ (start ((n + 1) % 8) _)
      unfold start; rw [if_pos h0, if_pos h0]
    · rw [(dats m 0 c).before_out_kept 9 (by rfl) ⟨n + 1, h⟩ (Nat.succ_ne_zero n)
        (Bool.eq_false_iff.mpr fun hf => by have := (flush0_9 _).mp hf; simp only [Nat.add_sub_cancel] at this; omega)
        (fun _ => by rfl) (fun _ _ => by rfl) d, after0_9]
      rfl

/-! ## The body's obligation -/

/-- The scratch buffer as a memref. -/
abbrev scM : Memref sig .tc .vmem S512x256 .f32 := Memref.whole cc0_scratch0

theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [after8_step m c t d8, after9_step m c t d9, dqAt, ← coord1 t]
  iapply ((run_point c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) ((dats m 0 c).before 8 t d8) ((dats m 0 c).before 9 t d9)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexact H9
  isplitl [HS0]; · iexact HS0
  iintro ⟨H0, H1, H2, H3, H4, H5, H6, H7, H8, H9, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frames -/

set_option backward.isDefEq.respectTransparency.types false in
/-- The launch: the region's arrays end as the proof data says, and every counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame of the kernel's program, at any float type. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.RetBwd

end
-- ==== Proof.SameText.lean ====
/- The kernel's program and its idealized print have one text: the same frame proof serves both. -/
module

public import proofs.«01_k».proof.Proof.Frames
public import proofs.«01_k».proof.Proof.Gen.Kernel.Launch
public import proofs.«01_k».proof.Defs

@[expose] public section

set_option maxRecDepth 16384

noncomputable section

namespace Cert.RetBwd

open Idealize.ShloMosaic Idealize.ShloMosaic.TcCoe Idealize.SL.Sem

variable {F : FTy → Type} [FloatOps F]

set_option maxHeartbeats 4000000

/-- The body, -/
theorem same_body (i a2 h2 a3 h3 a4 h4 a5 h5 a6 h6 a7 h7 a8 h8 a9 h9 a10 h10 a11 h11 a12 h12) :
    Cert.Kernel.cc0_ret_bwd (F := F) i a2 h2 a3 h3 a4 h4 a5 h5 a6 h6 a7 h7 a8 h8 a9 h9 a10 h10 a11 h11 a12 h12
      = Cert.KernelIdeal.cc0_ret_bwd (F := F) i a2 h2 a3 h3 a4 h4 a5 h5 a6 h6 a7 h7 a8 h8 a9 h9 a10 h10 a11 h11 a12 h12 := rfl

/-- the table of bodies, -/
theorem same_defs₀ : Cert.Kernel.defs₀ (F := F) = Cert.KernelIdeal.defs₀ (F := F) := by
  unfold Cert.Kernel.defs₀ Cert.KernelIdeal.defs₀
  congr 1
  funext l x
  match l, x with
  | 0, (t, s) => exact same_body ..

/-- the table with the region's, -/
theorem same_defs : Cert.Kernel.defs (F := F) = Cert.KernelIdeal.defs (F := F) := by
  unfold Cert.Kernel.defs Cert.KernelIdeal.defs
  rw [same_defs₀]
  rfl

/-- the host's operations, -/
theorem same_ops : Cert.Kernel.Gen.hostOps0 (F := F) = Cert.KernelIdeal.Gen.hostOps0 (F := F) := rfl
theorem same_ops1 : Cert.Kernel.Gen.hostOps0_1 (F := F) = Cert.KernelIdeal.Gen.hostOps0_1 (F := F) := rfl
theorem same_ops2 : Cert.Kernel.Gen.hostOps0_2 (F := F) = Cert.KernelIdeal.Gen.hostOps0_2 (F := F) := rfl

/-- and the main program. -/
theorem same_main : Cert.Kernel.main (F := F) = Cert.KernelIdeal.main (F := F) := by
  funext c
  rw [Cert.Kernel.Gen.main_chain, Cert.KernelIdeal.Gen.main_chain, same_ops, same_ops1, same_ops2]
  rfl

/-- The kernel's own frame, from the run over any float type. -/
theorem frame_kernel : Cert.quiescent_Kernel := fun m ρ _ => by
  rw [same_main, same_defs]
  exact frame_main (F := Bits) m ρ

end Cert.RetBwd

end
-- ==== Proof.BlockSums.lean ====
/- One block step of the retention gradient over the extended reals: the products as sums over rows and columns. -/
module

public import proofs.«01_k».proof.Proof.Blocks
public import Idealize.ShloMosaic.Lib.Pointwise
public import Idealize.ShloMosaic.PureOps.Ideal.Laws

@[expose] public section

set_option maxRecDepth 16384

noncomputable section

namespace Cert.RetBwd

open Idealize.ShloMosaic Idealize.ShloMosaic.TcCoe Idealize.ShloMosaic.Tactic
open Cert.KernelIdeal Cert.KernelIdeal.Gen

theorem rnd_ideal (x : FVec Ideal S512x256 .bf16) : rnd (F := Ideal) x = x := by
  funext p
  pointwise [rnd]

theorem wgt_apply (x y : FVec Ideal S512x256 .bf16) (dec : FVec Ideal S512x512 .f32) (p : S512x512.Idx) :
    wgt x y dec p = (∑ k : Fin 256, x (ix2 (p 0) k) * y (ix2 (p 1) k)) * dec p := by
  pointwise [wgt]

theorem addT_apply (w : FVec Ideal S512x512 .bf16) (x : FVec Ideal S512x256 .bf16) (old : FVec Ideal S512x256 .f32)
    (p : S512x256.Idx) : addT w x old p = old p + ∑ k : Fin 512, w (ix2 k (p 0)) * x (ix2 k (p 1)) := by
  pointwise [addT]

theorem addN_apply (w : FVec Ideal S512x512 .bf16) (x : FVec Ideal S512x256 .bf16) (old : FVec Ideal S512x256 .f32)
    (p : S512x256.Idx) : addN w x old p = old p + ∑ k : Fin 512, w (ix2 (p 0) k) * x (ix2 k (p 1)) := by
  pointwise [addN]

theorem decDiag_apply (reld : Vec Ideal S1x512x512 .f32) (p : S512x512.Idx) :
    decDiag (F := Ideal) reld p = reld (ix3 0 (p 0) (p 1)) := by
  pointwise [decDiag]

/-- The difference of two block numbers, times 512, as the kernel computes it in words. -/
theorem offset_word : ∀ a b : Fin 8, b.val ≤ a.val →
    (Scalar.muli (Scalar.subi (BitVec.ofNat 32 a.val) (BitVec.ofNat 32 b.val)) 512#32).toInt = ((a.val - b.val) * 512 : ℕ) := by
  decide

theorem decOff_apply (n j : ℕ) (hn : n < 8) (hj : j ≤ n) (lg : Vec Ideal S1x1x128 .f32) (l : EReal) (hl : ∀ z, lg z = l)
    (rel : Vec Ideal S1x512x512 .f32) (p : S512x512.Idx) :
    decOff (F := Ideal) (BitVec.ofNat 32 n) (BitVec.ofNat 32 j) lg rel p
      = rel (ix3 0 (p 0) (p 1)) * Ideal.exp (l * (((((n - j) * 512 : ℕ) : ℤ) : ℝ) : EReal)) := by
  have hw := offset_word ⟨n, hn⟩ ⟨j, by omega⟩ hj
  pointwise [decOff]
  simp only [hl, dite_eq_ite, ite_self]
  rw [show (Scalar.muli (Scalar.subi (BitVec.ofNat 32 n) (BitVec.ofNat 32 j)) 512#32).toInt = ((n - j) * 512 : ℕ) from hw]

end Cert.RetBwd

end
-- ==== Proof.Gradient.lean ====
/- The gradient of the retention as plain sums over the reals: every earlier key and every key of the query's own
   64-row chunk is seen, with the weight `exp (l · |n - m|)`. Rows and columns are natural numbers. -/
module

public import Idealize.ShloMosaic.PureOps.Ideal

@[expose] public section

noncomputable section

namespace Cert.RetBwd

open Finset

/-- The weight of key row `m` for query row `n`: `exp (l · |n - m|)` if the chunk of `m` is not after the chunk of `n`. -/
def W (l : ℝ) (n m : ℕ) : ℝ := if m / 64 ≤ n / 64 then Real.exp (l * |(n : ℝ) - m|) else 0

/-- The product of row `n` of `A` with row `m` of `B`. -/
def dot (A B : ℕ → ℕ → ℝ) (n m : ℕ) : ℝ := ∑ d ∈ range 256, A n d * B m d

/-- The queries' gradient: row `n`, column `e`. -/
def DQ (l : ℝ) (G K V : ℕ → ℕ → ℝ) (n e : ℕ) : ℝ := ∑ m ∈ range 4096, dot G V n m * W l n m * K m e

/-- The keys' gradient: row `m`, column `e`. -/
def DK (l : ℝ) (Q G V : ℕ → ℕ → ℝ) (m e : ℕ) : ℝ := ∑ n ∈ range 4096, dot G V n m * W l n m * Q n e

/-- The values' gradient: row `m`, column `e`. -/
def DV (l : ℝ) (Q G K : ℕ → ℕ → ℝ) (m e : ℕ) : ℝ := ∑ n ∈ range 4096, dot Q K n m * W l n m * G n e

/-- A sum over `a · b` numbers, block by block. -/
theorem sum_blocks {M : Type} [AddCommMonoid M] (b : ℕ) (f : ℕ → M) (a : ℕ) :
    ∑ n ∈ range (b * a), f n = ∑ i ∈ range a, ∑ x ∈ range b, f (b * i + x) := by
  induction a with
  | zero => simp
  | succ a ih => rw [Nat.mul_succ, Finset.sum_range_add, ih, Finset.sum_range_succ]

/-- A real sum, read in the extended reals. -/
theorem coe_sum (n : ℕ) (f : ℕ → ℝ) : ((∑ i ∈ range n, f i : ℝ) : EReal) = ∑ i ∈ range n, (f i : EReal) := by
  induction n with
  | zero => simp
  | succ n ih => rw [Finset.sum_range_succ, Finset.sum_range_succ, EReal.coe_add, ih]

/-- A sum over `Fin n` of real numbers, read in the extended reals. -/
theorem sum_fin (n : ℕ) (f : ℕ → ℝ) : (∑ i : Fin n, (f i.val : EReal)) = ((∑ i ∈ range n, f i : ℝ) : EReal) := by
  rw [coe_sum, Finset.sum_range]

/-- The same, where the terms are known to be real. -/
theorem sum_fin' (n : ℕ) (g : Fin n → EReal) (f : ℕ → ℝ) (h : ∀ i : Fin n, g i = (f i.val : EReal)) :
    ∑ i, g i = ((∑ i ∈ range n, f i : ℝ) : EReal) := by
  rw [← sum_fin]; exact Finset.sum_congr rfl fun i _ => h i

end Cert.RetBwd

end
-- ==== Proof.PointSums.lean ====
/- What one query block adds to the three gradients, over the real numbers: where every input entry is a real number and
   the decay tables hold the exponentials they should, each addend is the block's part of the plain sums of `Gradient`. -/
module

public import proofs.«01_k».proof.Proof.BlockSums
public import proofs.«01_k».proof.Proof.Body
public import proofs.«01_k».proof.Proof.Gradient

@[expose] public section

set_option maxRecDepth 16384

noncomputable section

namespace Cert.RetBwd

open Idealize.ShloMosaic Idealize.ShloMosaic.TcCoe Idealize.ShloMosaic.Tactic
open Cert.KernelIdeal Cert.KernelIdeal.Gen
open Finset (range)

/-! ## The weights -/

/-- The tables of one head hold the exponentials of `l` times the row distances. -/
structure Tables (l : ℝ) (lg : Vec Ideal S1x1x128 .f32) (rel reld : Vec Ideal S1x512x512 .f32) : Prop where
  lg_eq : ∀ z, lg z = (l : EReal)
  rel_eq : ∀ a b : Fin 512, rel (ix3 0 a b) = ((Real.exp (l * ((a.val : ℝ) - b.val)) : ℝ) : EReal)
  reld_eq : ∀ a b : Fin 512, reld (ix3 0 a b) = ((W l a.val b.val : ℝ) : EReal)

theorem W_diag (l : ℝ) (i a b : ℕ) : W l (512 * i + a) (512 * i + b) = W l a b := by
  unfold W
  have e : ((512 * i + b) / 64 ≤ (512 * i + a) / 64) ↔ b / 64 ≤ a / 64 := by omega
  simp only [e]
  push_cast
  rw [show (512 * (i : ℝ) + a) - (512 * i + b) = a - b by ring]

theorem W_off (l : ℝ) (n j a b : ℕ) (h : j < n) (ha : a < 512) (hb : b < 512) :
    W l (512 * n + a) (512 * j + b) = Real.exp (l * ((a : ℝ) - b)) * Real.exp (l * (((n - j) * 512 : ℕ) : ℝ)) := by
  unfold W
  rw [if_pos (by omega), ← Real.exp_add, ← mul_add]
  congr 2
  rw [Nat.cast_mul, Nat.cast_sub h.le]
  have hnn : (0 : ℝ) ≤ ((512 * n + a : ℕ) : ℝ) - ((512 * j + b : ℕ) : ℝ) := by
    rw [sub_nonneg]; exact_mod_cast (by omega : 512 * j + b ≤ 512 * n + a)
  rw [abs_of_nonneg hnn]
  push_cast; ring

theorem W_after (l : ℝ) (n j a b : ℕ) (h : n < j) (ha : a < 512) : W l (512 * n + a) (512 * j + b) = 0 := by
  unfold W
  rw [if_neg (by omega)]

section
variable {l : ℝ} {lg : Vec Ideal S1x1x128 .f32} {rel reld : Vec Ideal S1x512x512 .f32} (T : Tables l lg rel reld)
include T

theorem decOff_real (n j : ℕ) (hn : n < 8) (hj : j < n) (a b : Fin 512) :
    decOff (F := Ideal) (BitVec.ofNat 32 n) (BitVec.ofNat 32 j) lg rel (ix2 a b) = ((W l (512 * n + a.val) (512 * j + b.val) : ℝ) : EReal) := by
  rw [decOff_apply n j hn hj.le lg l T.lg_eq rel (ix2 a b), W_off l n j a.val b.val hj a.isLt b.isLt, EReal.coe_mul]
  rw [show rel (ix3 0 (ix2 a b 0) (ix2 a b 1)) = _ from T.rel_eq a b]
  rw [← EReal.coe_mul]
  rfl

theorem decDiag_real (n : ℕ) (a b : Fin 512) :
    decDiag (F := Ideal) reld (ix2 a b) = ((W l (512 * n + a.val) (512 * n + b.val) : ℝ) : EReal) := by
  rw [decDiag_apply, W_diag]
  exact T.reld_eq a b
end

/-! ## One block step -/

/-- A block of 512 rows is rows `512 · n, …` of a real array. -/
def IsBlk (x : FVec Ideal S512x256 .bf16) (n : ℕ) (X : ℕ → ℕ → ℝ) : Prop :=
  ∀ (a : Fin 512) (d : Fin 256), x (ix2 a d) = ((X (512 * n + a.val) d.val : ℝ) : EReal)

/-- An array of 4096 rows is a real array. -/
def IsArr (x : FVec Ideal S4096x256 .bf16) (X : ℕ → ℕ → ℝ) : Prop :=
  ∀ (a : Fin 4096) (d : Fin 256), x (ix2 a d) = ((X a.val d.val : ℝ) : EReal)

theorem IsArr.blk {x : FVec Ideal S4096x256 .bf16} {X : ℕ → ℕ → ℝ} (h : IsArr x X) (j : ℕ) (hj : j < 8) :
    IsBlk (getBlk (F := Ideal) (e := .bf16) j x) j X := fun a d => by
  refine (h ⟨(512 * j + a.val) % 4096, Nat.mod_lt _ (by decide)⟩ d).trans ?_
  have : (512 * j + a.val) % 4096 = 512 * j + a.val := Nat.mod_eq_of_lt (by omega)
  simp only [this]

theorem wgt_real {x y : FVec Ideal S512x256 .bf16} {n j : ℕ} {X Y : ℕ → ℕ → ℝ} (hx : IsBlk x n X) (hy : IsBlk y j Y)
    (dec : FVec Ideal S512x512 .f32) {l : ℝ}
    (hd : ∀ a b : Fin 512, dec (ix2 a b) = ((W l (512 * n + a.val) (512 * j + b.val) : ℝ) : EReal)) (a b : Fin 512) :
    wgt x y dec (ix2 a b) = ((dot X Y (512 * n + a.val) (512 * j + b.val) * W l (512 * n + a.val) (512 * j + b.val) : ℝ) : EReal) := by
  rw [wgt_apply, EReal.coe_mul, hd a b]
  congr 1
  exact sum_fin' 256 _ (fun d => X (512 * n + a.val) d * Y (512 * j + b.val) d) fun d => by
    rw [EReal.coe_mul]; exact congrArg₂ _ (hx a d) (hy b d)

/-- What query block `n` adds to row `m`, column `e` of a gradient accumulated over query blocks. -/
def cT (l : ℝ) (X Y Z : ℕ → ℕ → ℝ) (n m e : ℕ) : ℝ :=
  ∑ a ∈ range 512, dot X Y (512 * n + a) m * W l (512 * n + a) m * Z (512 * n + a) e

theorem addT_real {x y z : FVec Ideal S512x256 .bf16} {n j : ℕ} {X Y Z : ℕ → ℕ → ℝ} (hx : IsBlk x n X) (hy : IsBlk y j Y)
    (hz : IsBlk z n Z) (dec : FVec Ideal S512x512 .f32) {l : ℝ}
    (hd : ∀ a b : Fin 512, dec (ix2 a b) = ((W l (512 * n + a.val) (512 * j + b.val) : ℝ) : EReal))
    (old : FVec Ideal S512x256 .f32) (p : S512x256.Idx) :
    addT (wgt x y dec) z old p = old p + ((cT l X Y Z n (512 * j + (p 0).val) (p 1).val : ℝ) : EReal) := by
  rw [addT_apply]
  congr 1
  exact sum_fin' 512 _ (fun a => dot X Y (512 * n + a) (512 * j + (p 0).val) * W l (512 * n + a) (512 * j + (p 0).val) * Z (512 * n + a) (p 1).val) fun a => by
    rw [EReal.coe_mul]; exact congrArg₂ _ (wgt_real hx hy dec hd a (p 0)) (hz a (p 1))

/-- The block step on the 4096-row accumulator, at an index. -/
theorem putT_apply {x y z : FVec Ideal S512x256 .bf16} {n j : ℕ} {X Y Z : ℕ → ℕ → ℝ} (hx : IsBlk x n X) (hy : IsBlk y j Y)
    (hz : IsBlk z n Z) (dec : FVec Ideal S512x512 .f32) {l : ℝ}
    (hd : ∀ a b : Fin 512, dec (ix2 a b) = ((W l (512 * n + a.val) (512 * j + b.val) : ℝ) : EReal))
    (d : FVec Ideal S4096x256 .f32) (y' : S4096x256.Idx) :
    putBlk (F := Ideal) (e := .f32) j (addT (wgt x y dec) z (getBlk (F := Ideal) (e := .f32) j d)) d y'
      = if (y' 0).val / 512 = j then d y' + ((cT l X Y Z n (y' 0).val (y' 1).val : ℝ) : EReal) else d y' := by
  unfold putBlk
  by_cases h : (y' 0).val / 512 = j
  · rw [if_pos h, if_pos h, addT_real hx hy hz dec hd]
    have e : getBlk (F := Ideal) (e := .f32) j d (inBlk y') = d y' := by subst h; exact congrArg d (rowIx_inBlk y')
    rw [e, inBlk_0, inBlk_1, show 512 * j + (y' 0).val % 512 = (y' 0).val by omega]
  · rw [if_neg h, if_neg h]

/-- Block steps `0, …, n - 1` after the diagonal block's step. -/
theorem upTo_put (g : ℕ → FVec Ideal S4096x256 .f32 → FVec Ideal S4096x256 .f32) (c : S4096x256.Idx → EReal)
    (n : ℕ) (hg : ∀ j < n, ∀ d y, g j d y = if (y 0).val / 512 = j then d y + c y else d y)
    (d : FVec Ideal S4096x256 .f32) (y : S4096x256.Idx) :
    upTo g n d y = if (y 0).val / 512 < n then d y + c y else d y := by
  induction n with
  | zero => rw [if_neg (by omega)]; rfl
  | succ n ih =>
    have ih := ih fun j hj => hg j (by omega)
    show g n (upTo g n d) y = _
    rw [hg n (by omega), ih]
    by_cases h1 : (y 0).val / 512 = n
    · rw [if_pos h1, if_neg (by omega), if_pos (by omega)]
    · rw [if_neg h1]
      by_cases h2 : (y 0).val / 512 < n
      · rw [if_pos h2, if_pos (by omega)]
      · rw [if_neg h2, if_neg (by omega)]

theorem cT_after (l : ℝ) (X Y Z : ℕ → ℕ → ℝ) (n m e : ℕ) (h : n < m / 512) : cT l X Y Z n m e = 0 := by
  unfold cT
  refine Finset.sum_eq_zero fun a ha => ?_
  have ha : a < 512 := Finset.mem_range.mp ha
  have e := W_after l n (m / 512) a (m % 512) h ha
  rw [show 512 * (m / 512) + m % 512 = m by omega] at e
  rw [e]; ring

/-! ## One query block -/

section
variable {l : ℝ} {lg : Vec Ideal S1x1x128 .f32} {rel reld : Vec Ideal S1x512x512 .f32} (T : Tables l lg rel reld)
include T

theorem pointDV_real {q g : FVec Ideal S512x256 .bf16} {k : FVec Ideal S4096x256 .bf16} {Q G K : ℕ → ℕ → ℝ} (n : ℕ) (hn : n < 8)
    (hq : IsBlk q n Q) (hg : IsBlk g n G) (hk : IsArr k K) (d : FVec Ideal S4096x256 .f32) (y : S4096x256.Idx) :
    pointDV (F := Ideal) n q g k lg rel reld d y = d y + ((cT l Q K G n (y 0).val (y 1).val : ℝ) : EReal) := by
  unfold pointDV
  rw [rnd_ideal, upTo_put _ (fun y => ((cT l Q K G n (y 0).val (y 1).val : ℝ) : EReal)) n (fun j hj d y => by
    unfold stepDV
    exact putT_apply hq (hk.blk j (by omega)) hg _ (decOff_real T n j hn hj) d y)]
  rw [putT_apply hq (hk.blk n hn) hg _ (decDiag_real T n) d y]
  by_cases h1 : (y 0).val / 512 < n
  · rw [if_pos h1, if_neg (by omega)]
  · rw [if_neg h1]
    by_cases h2 : (y 0).val / 512 = n
    · rw [if_pos h2]
    · rw [if_neg h2, cT_after l Q K G n _ _ (by omega), EReal.coe_zero, add_zero]

theorem pointDK_real {q g : FVec Ideal S512x256 .bf16} {v : FVec Ideal S4096x256 .bf16} {Q G V : ℕ → ℕ → ℝ} (n : ℕ) (hn : n < 8)
    (hq : IsBlk q n Q) (hg : IsBlk g n G) (hv : IsArr v V) (d : FVec Ideal S4096x256 .f32) (y : S4096x256.Idx) :
    pointDK (F := Ideal) n q g v lg rel reld d y = d y + ((cT l G V Q n (y 0).val (y 1).val : ℝ) : EReal) := by
  unfold pointDK
  rw [rnd_ideal, upTo_put _ (fun y => ((cT l G V Q n (y 0).val (y 1).val : ℝ) : EReal)) n (fun j hj d y => by
    unfold stepDK
    exact putT_apply hg (hv.blk j (by omega)) hq _ (decOff_real T n j hn hj) d y)]
  rw [putT_apply hg (hv.blk n hn) hq _ (decDiag_real T n) d y]
  by_cases h1 : (y 0).val / 512 < n
  · rw [if_pos h1, if_neg (by omega)]
  · rw [if_neg h1]
    by_cases h2 : (y 0).val / 512 = n
    · rw [if_pos h2]
    · rw [if_neg h2, cT_after l G V Q n _ _ (by omega), EReal.coe_zero, add_zero]

/-- What key block `j` adds to row `r`, column `e` of the queries' gradient. -/
def cN (l : ℝ) (G V K : ℕ → ℕ → ℝ) (j r e : ℕ) : ℝ :=
  ∑ b ∈ range 512, dot G V r (512 * j + b) * W l r (512 * j + b) * K (512 * j + b) e

omit T in
theorem addN_real {x y z : FVec Ideal S512x256 .bf16} {n j : ℕ} {X Y Z : ℕ → ℕ → ℝ} (hx : IsBlk x n X) (hy : IsBlk y j Y)
    (hz : IsBlk z j Z) (dec : FVec Ideal S512x512 .f32) {l : ℝ}
    (hd : ∀ a b : Fin 512, dec (ix2 a b) = ((W l (512 * n + a.val) (512 * j + b.val) : ℝ) : EReal))
    (old : FVec Ideal S512x256 .f32) (p : S512x256.Idx) :
    addN (wgt x y dec) z old p = old p + ((cN l X Y Z j (512 * n + (p 0).val) (p 1).val : ℝ) : EReal) := by
  rw [addN_apply]
  congr 1
  exact sum_fin' 512 _ (fun b => dot X Y (512 * n + (p 0).val) (512 * j + b) * W l (512 * n + (p 0).val) (512 * j + b) * Z (512 * j + b) (p 1).val) fun b => by
    rw [EReal.coe_mul]; exact congrArg₂ _ (wgt_real hx hy dec hd (p 0) b) (hz b (p 1))

theorem upTo_dq {g : FVec Ideal S512x256 .bf16} {k v : FVec Ideal S4096x256 .bf16} {G K V : ℕ → ℕ → ℝ} (n : ℕ) (hn : n < 8)
    (hg : IsBlk g n G) (hk : IsArr k K) (hv : IsArr v V) (d : FVec Ideal S512x256 .f32) (p : S512x256.Idx) (n' : ℕ) (h : n' ≤ n) :
    upTo (stepDQ (F := Ideal) (BitVec.ofNat 32 n) g k v lg rel) n' d p
      = d p + ((∑ j ∈ range n', cN l G V K j (512 * n + (p 0).val) (p 1).val : ℝ) : EReal) := by
  induction n' with
  | zero => simp [upTo]
  | succ j ih =>
    show stepDQ (F := Ideal) (BitVec.ofNat 32 n) g k v lg rel j (upTo _ j d) p = _
    unfold stepDQ
    rw [addN_real hg (hv.blk j (by omega)) (hk.blk j (by omega)) _ (decOff_real T n j hn h)]
    have ih := ih (by omega)
    unfold stepDQ at ih
    rw [ih, Finset.sum_range_succ, EReal.coe_add, add_assoc]

theorem pointDQ_real {g : FVec Ideal S512x256 .bf16} {k v : FVec Ideal S4096x256 .bf16} {G K V : ℕ → ℕ → ℝ} (n : ℕ) (hn : n < 8)
    (hg : IsBlk g n G) (hk : IsArr k K) (hv : IsArr v V) (p : S512x256.Idx) :
    pointDQ (F := Ideal) n g k v lg rel reld p = ((DQ l G K V (512 * n + (p 0).val) (p 1).val : ℝ) : EReal) := by
  unfold pointDQ
  rw [rnd_ideal, upTo_dq T n hn hg hk hv _ p n le_rfl, addN_real hg (hv.blk n hn) (hk.blk n hn) _ (decDiag_real T n)]
  have hz : zeroQ (F := Ideal) p = 0 := by pointwise [zeroQ]
  rw [hz, zero_add, ← EReal.coe_add, add_comm, ← Finset.sum_range_succ]
  congr 1
  unfold DQ
  rw [show 4096 = 512 * 8 from rfl, sum_blocks 512 _ 8, ← Finset.sum_range_add_sum_Ico _ (show n + 1 ≤ 8 from hn)]
  rw [Finset.sum_eq_zero (s := Finset.Ico (n + 1) 8), add_zero]
  · rfl
  · intro j hj
    refine Finset.sum_eq_zero fun b _ => ?_
    have hj := (Finset.mem_Ico.mp hj).1
    rw [W_after l n j _ b (by omega) (p 0).isLt]; ring
end

/-- The addends of all eight query blocks make the whole sum. -/
theorem sum_cT (l : ℝ) (X Y Z : ℕ → ℕ → ℝ) (m e : ℕ) :
    ∑ n ∈ range 8, cT l X Y Z n m e = ∑ n ∈ range 4096, dot X Y n m * W l n m * Z n e := by
  rw [show 4096 = 512 * 8 from rfl, sum_blocks 512 _ 8]
  rfl

end Cert.RetBwd

end
-- ==== Proof.LogDecay.lean ====
/- The logarithm of a head's decay, `log (1 - 2^(-5-h))` as both programs compute it, is a real number; and the real
   values of the words and casts the decay tables are made from. -/
module

public import proofs.«01_k».proof.Proof.Gradient
public import Idealize.ShloMosaic.PureOps.Ideal.Laws

@[expose] public section

set_option maxRecDepth 16384

noncomputable section

namespace Cert.RetBwd

open Idealize.ShloMosaic

/-- The logarithm of head `h`'s decay over the extended reals: `log1p (-exp (log 2 · (-5 - h)))`. -/
def lgE (h : ℕ) : EReal :=
  Ideal.log1p (-Ideal.exp (Ideal.ofBits FTy.f32 1060205080#32 *
    (Ideal.ofBits FTy.f32 3231711232#32 - FloatOps.sitofp (F := Ideal) FTy.f32 (BitVec.ofNat 32 h))))

/-- The same as a real number. -/
def lgR (h : ℕ) : ℝ := (lgE h).toReal

theorem sitofp_nat (n : ℕ) (hn : n < 2 ^ 31) : FloatOps.sitofp (F := Ideal) FTy.f32 (BitVec.ofNat 32 n) = (((n : ℕ) : ℝ) : EReal) := by
  show (((BitVec.ofNat 32 n).toInt : ℝ) : EReal) = _
  rw [BitVec.toInt_ofNat']
  have : ((n : ℤ)).bmod (2 ^ 32) = n := by
    rw [Int.bmod_def]; split_ifs <;> omega
  rw [this, Int.cast_natCast]

/-- The f32 constant nearest to `log 2` is a positive real number. -/
theorem ln2_real : ∃ r : ℝ, 0 < r ∧ Ideal.ofBits FTy.f32 1060205080#32 = (r : EReal) := by
  refine ⟨11629080 * (1 / 16777216), by norm_num, ?_⟩
  simp [Ideal.ofBits, Ideal.ieee]
  rw [show ((2 : ℝ) ^ 24) = 16777216 by norm_num]

theorem neg5_real : Ideal.ofBits FTy.f32 3231711232#32 = ((-5 : ℝ) : EReal) := by
  simp [Ideal.ofBits, Ideal.ieee]
  rw [← EReal.coe_mul]
  norm_num

theorem lgE_real (h : ℕ) (hh : h < 4) : lgE h = ((lgR h : ℝ) : EReal) := by
  obtain ⟨r, hr, hc⟩ := ln2_real
  have hpos : (0 : ℝ) < 1 - Real.exp (r * (-5 - (h : ℝ))) := by
    rw [sub_pos, Real.exp_lt_one_iff]
    have : (0 : ℝ) ≤ h := Nat.cast_nonneg h
    nlinarith
  have e : lgE h = ((Real.log (1 - Real.exp (r * (-5 - (h : ℝ)))) : ℝ) : EReal) := by
    unfold lgE
    rw [hc, neg5_real, sitofp_nat h (by omega), ← EReal.coe_sub, ← EReal.coe_mul]
    show Ideal.log (1 + -((Real.exp (r * (-5 - (h : ℝ))) : ℝ) : EReal)) = _
    rw [← EReal.coe_neg, ← EReal.coe_one, ← EReal.coe_add, ← sub_eq_add_neg]
    show (if 1 - Real.exp (r * (-5 - (h : ℝ))) ≤ 0 then (⊥ : EReal) else _) = _
    rw [if_neg (not_le.mpr hpos)]
  unfold lgR
  rw [e, EReal.toReal_coe]

theorem abs_real (r : ℝ) : FloatOps.absf (F := Ideal) (φ := .f32) (r : EReal) = ((|r| : ℝ) : EReal) := by
  show max (r : EReal) (-(r : EReal)) = _
  rw [← EReal.coe_neg, abs_eq_max_neg]
  exact (EReal.coe_strictMono.monotone.map_max).symm

theorem bit1_real : FloatOps.uitofp (F := Ideal) FTy.f32 (1#1) = 1 := by
  show ((((1#1 : BitVec 1).toNat : ℝ)) : EReal) = 1
  simp

theorem bit0_real : FloatOps.uitofp (F := Ideal) FTy.f32 (0#1) = 0 := by
  show ((((0#1 : BitVec 1).toNat : ℝ)) : EReal) = 0
  simp

end Cert.RetBwd

end
-- ==== Proof.DecayTables.lean ====
/- The kernel's decay tables, as its host line computes them and as its windows hand them to a grid point: the logarithm of
   the head's decay in every lane, the decay between two rows of different blocks, and the masked decay inside a block. -/
module

public import proofs.«01_k».proof.Proof.PointSums
public import proofs.«01_k».proof.Proof.Frames
public import proofs.«01_k».proof.Proof.LogDecay
public import Idealize.ShloMosaic.Lib.Pipeline.ValueKit
public import Idealize.ShloMosaic.Lib.Claim

@[expose] public section

set_option maxRecDepth 16384

noncomputable section

namespace Cert.RetBwd

open Idealize.ShloMosaic Idealize.ShloMosaic.TcCoe Idealize.ShloMosaic.Tactic
open Cert.KernelIdeal Cert.KernelIdeal.Gen
open Finset (range)

variable (m : (ℓ : Loc nD τ sig) → Buf (Elt Ideal) ℓ)

theorem idx : ∀ t : Fin cfg0.N, win0_0.index t = ![t.val % 8, t.val / 8] ∧ win0_1.index t = ![0, t.val / 8] ∧ win0_2.index t = ![0, t.val / 8]
    ∧ win0_3.index t = ![t.val % 8, t.val / 8] ∧ win0_4.index t = ![t.val / 8, 0, 0] ∧ win0_5.index t = ![t.val / 8, 0, 0]
    ∧ win0_6.index t = ![t.val / 8, 0, 0] ∧ win0_7.index t = ![t.val % 8, t.val / 8] ∧ win0_8.index t = ![0, t.val / 8]
    ∧ win0_9.index t = ![0, t.val / 8] ∧ t.val / 8 < 4 :=
  (by decide +kernel : ∀ t : Fin grid0.N, _)

theorem head_lt (t : Fin cfg0.N) : t.val / 8 < 4 := by
  have h : t.val < 32 := lt_of_lt_of_eq t.isLt N_0
  omega

/-- The floor division by 64 of the host line, on one word. -/
def chunkW (x : BitVec 32) : BitVec 32 :=
  Scalar.select
    (IntOp.andi (IntOp.cmpi CmpIPredicate.ne
        (if x = 0 then (0 : BitVec 32) else if x.msb = true then -1 else 1)
        (if 64#32 = 0 then 0 else if (64#32).msb = true then -1 else 1))
      (IntOp.cmpi CmpIPredicate.ne (IntOp.remsi ArithUnit.host x 64#32) 0#32))
    (IntOp.subi (IntOp.divsi ArithUnit.host x 64#32) 1#32)
    (IntOp.divsi ArithUnit.host x 64#32)

/-- The chunk of a row. -/
theorem chunk_word : ∀ a : Fin 512, chunkW (BitVec.ofNat 32 a.val) = BitVec.ofNat 32 (a.val / 64) := by
  decide +kernel

theorem chunk_le : ∀ x y : Fin 8, IntOp.cmpi CmpIPredicate.sge (BitVec.ofNat 32 x.val) (BitVec.ofNat 32 y.val)
    = if y.val ≤ x.val then 1#1 else 0#1 := by decide

theorem v39_apply (c : Dev nD) (h : Fin 4) (z : Fin 128) :
    (show Vec Ideal S4x1x128 .f32 from V m c main_v39) (ix3 h 0 z) = lgE h.val := by
  simp only [V, hostOps0, hostOps0_1, hostOps0_2, List.flatten_cons, List.flatten_nil, List.cons_append, List.nil_append]
  entry_read
  pointwise
  rfl

theorem v19_apply (c : Dev nD) (h : Fin 4) (a b : Fin 512) :
    (show Vec Ideal S4x512x512 .f32 from V m c main_v19) (ix3 h a b)
      = ((Real.exp (lgR h.val * ((a.val : ℝ) - b.val)) : ℝ) : EReal) := by
  simp only [V, hostOps0, hostOps0_1, hostOps0_2, List.flatten_cons, List.flatten_nil, List.cons_append, List.nil_append]
  entry_read
  pointwise
  show Ideal.exp (lgE h.val * (FloatOps.sitofp (F := Ideal) FTy.f32 (BitVec.ofNat 32 a.val) - FloatOps.sitofp (F := Ideal) FTy.f32 (BitVec.ofNat 32 b.val))) = _
  rw [sitofp_nat _ (by omega), sitofp_nat _ (by omega), lgE_real _ h.isLt, ← EReal.coe_sub, ← EReal.coe_mul]
  rfl

theorem v37_apply (c : Dev nD) (h : Fin 4) (a b : Fin 512) :
    (show Vec Ideal S4x512x512 .f32 from V m c main_v37) (ix3 h a b) = ((W (lgR h.val) a.val b.val : ℝ) : EReal) := by
  simp only [V, hostOps0, hostOps0_1, hostOps0_2, List.flatten_cons, List.flatten_nil, List.cons_append, List.nil_append]
  entry_read
  simp only [StableHlo.TRef.toBuf, StableHlo.TRef.ofBuf, cast_cast, cast_eq]
  pointwise
  show Ideal.exp (lgE h.val * FloatOps.absf (F := Ideal) (φ := .f32) (FloatOps.sitofp (F := Ideal) FTy.f32 (BitVec.ofNat 32 a.val) - FloatOps.sitofp (F := Ideal) FTy.f32 (BitVec.ofNat 32 b.val)))
    * FloatOps.uitofp (F := Ideal) FTy.f32 (IntOp.cmpi CmpIPredicate.sge (chunkW (BitVec.ofNat 32 a.val)) (chunkW (BitVec.ofNat 32 b.val))) = _
  rw [chunk_word a, chunk_word b, chunk_le ⟨a.val / 64, by omega⟩ ⟨b.val / 64, by omega⟩]
  rw [sitofp_nat _ (by omega), sitofp_nat _ (by omega), lgE_real _ h.isLt, ← EReal.coe_sub, abs_real, ← EReal.coe_mul]
  show _ * FloatOps.uitofp (F := Ideal) FTy.f32 (if b.val / 64 ≤ a.val / 64 then 1#1 else 0#1) = _
  unfold W
  by_cases hc : b.val / 64 ≤ a.val / 64
  · rw [if_pos hc, if_pos hc, bit1_real, mul_one]; rfl
  · rw [if_neg hc, if_neg hc, bit0_real, mul_zero, EReal.coe_zero]

theorem lg_at (c : Dev nD) (t : Fin cfg0.N) (z : S1x1x128.Idx) :
    (iblk m c 4 t : Vec Ideal S1x1x128 .f32) z = (show Vec Ideal S4x1x128 .f32 from V m c main_v39) (ix3 ⟨t.val / 8, head_lt t⟩ 0 (z 2)) := by
  blk_ext [iblk, idx t]

theorem rel_at (c : Dev nD) (t : Fin cfg0.N) (a b : Fin 512) :
    (iblk m c 5 t : Vec Ideal S1x512x512 .f32) (ix3 0 a b) = (show Vec Ideal S4x512x512 .f32 from V m c main_v19) (ix3 ⟨t.val / 8, head_lt t⟩ a b) := by
  blk_ext [iblk, idx t]

theorem reld_at (c : Dev nD) (t : Fin cfg0.N) (a b : Fin 512) :
    (iblk m c 6 t : Vec Ideal S1x512x512 .f32) (ix3 0 a b) = (show Vec Ideal S4x512x512 .f32 from V m c main_v37) (ix3 ⟨t.val / 8, head_lt t⟩ a b) := by
  blk_ext [iblk, idx t]

/-- The tables as the kernel's windows read them at point `t`. -/
theorem tables (c : Dev nD) (t : Fin cfg0.N) : Tables (lgR (t.val / 8)) (iblk m c 4 t) (iblk m c 5 t) (iblk m c 6 t) where
  lg_eq z := (lg_at m c t z).trans ((v39_apply m c ⟨t.val / 8, head_lt t⟩ (z 2)).trans (lgE_real _ (head_lt t)))
  rel_eq a b := (rel_at m c t a b).trans (v19_apply m c ⟨t.val / 8, head_lt t⟩ a b)
  reld_eq a b := (reld_at m c t a b).trans (v37_apply m c ⟨t.val / 8, head_lt t⟩ a b)

end Cert.RetBwd

end
-- ==== Proof.KernelValue.lean ====
/- What the kernel's three result arrays hold after the launch, where every argument entry is a real number: head by head
   the plain sums of `Gradient`. -/
module

public import proofs.«01_k».proof.Proof.DecayTables

@[expose] public section

set_option maxRecDepth 16384

noncomputable section

namespace Cert.RetBwd

open Idealize.ShloMosaic Idealize.ShloMosaic.TcCoe Idealize.ShloMosaic.Tactic
open Idealize.ShloMosaic.Pipeline (Dat)
open Cert.KernelIdeal Cert.KernelIdeal.Gen
open Finset (range)

/-- Head `h`'s 256 columns. -/
def hd (h : ℕ) (X : ℕ → ℕ → ℝ) (n d : ℕ) : ℝ := X n (256 * h + d)

/-- An argument array holds the real numbers `X`. -/
def IsReal (x : FVec Ideal S4096x1024 .bf16) (X : ℕ → ℕ → ℝ) : Prop :=
  ∀ (n : Fin 4096) (j : Fin 1024), x (ix2 n j) = ((X n.val j.val : ℝ) : EReal)

variable (m : (ℓ : Loc nD τ sig) → Buf (Elt Ideal) ℓ) (c : Dev nD)

theorem q_at (t : Fin cfg0.N) (a : Fin 512) (d : Fin 256) (h0 : 512 * (t.val % 8) + a.val < 4096) (h1 : 256 * (t.val / 8) + d.val < 1024) :
    (iblk m c 0 t : Vec Ideal S512x256 .bf16) (ix2 a d)
      = (m ((c : Thread nD τ).loc main_arg0) : Vec Ideal S4096x1024 .bf16) (ix2 ⟨512 * (t.val % 8) + a.val, h0⟩ ⟨256 * (t.val / 8) + d.val, h1⟩) := by
  blk_ext [iblk, V, idx t]

theorem k_at (t : Fin cfg0.N) (a : Fin 4096) (d : Fin 256) (h1 : 256 * (t.val / 8) + d.val < 1024) :
    (iblk m c 1 t : Vec Ideal S4096x256 .bf16) (ix2 a d)
      = (m ((c : Thread nD τ).loc main_arg1) : Vec Ideal S4096x1024 .bf16) (ix2 a ⟨256 * (t.val / 8) + d.val, h1⟩) := by
  blk_ext [iblk, V, idx t]

theorem v_at (t : Fin cfg0.N) (a : Fin 4096) (d : Fin 256) (h1 : 256 * (t.val / 8) + d.val < 1024) :
    (iblk m c 2 t : Vec Ideal S4096x256 .bf16) (ix2 a d)
      = (m ((c : Thread nD τ).loc main_arg2) : Vec Ideal S4096x1024 .bf16) (ix2 a ⟨256 * (t.val / 8) + d.val, h1⟩) := by
  blk_ext [iblk, V, idx t]

theorem do_at (t : Fin cfg0.N) (a : Fin 512) (d : Fin 256) (h0 : 512 * (t.val % 8) + a.val < 4096) (h1 : 256 * (t.val / 8) + d.val < 1024) :
    (iblk m c 3 t : Vec Ideal S512x256 .bf16) (ix2 a d)
      = (m ((c : Thread nD τ).loc main_arg3) : Vec Ideal S4096x1024 .bf16) (ix2 ⟨512 * (t.val % 8) + a.val, h0⟩ ⟨256 * (t.val / 8) + d.val, h1⟩) := by
  blk_ext [iblk, V, idx t]

variable {Q K Vv G : ℕ → ℕ → ℝ}

theorem q_blk (hQ : IsReal (m ((c : Thread nD τ).loc main_arg0)) Q) (t : Fin cfg0.N) : IsBlk (iblk m c 0 t) (t.val % 8) (hd (t.val / 8) Q) := fun a d => by
  have := head_lt t
  exact (q_at m c t a d (by omega) (by omega)).trans (hQ ⟨_, by omega⟩ ⟨_, by omega⟩)

theorem do_blk (hG : IsReal (m ((c : Thread nD τ).loc main_arg3)) G) (t : Fin cfg0.N) : IsBlk (iblk m c 3 t) (t.val % 8) (hd (t.val / 8) G) := fun a d => by
  have := head_lt t
  exact (do_at m c t a d (by omega) (by omega)).trans (hG ⟨_, by omega⟩ ⟨_, by omega⟩)

theorem k_arr (hK : IsReal (m ((c : Thread nD τ).loc main_arg1)) K) (t : Fin cfg0.N) : IsArr (iblk m c 1 t) (hd (t.val / 8) K) := fun a d => by
  have := head_lt t
  exact (k_at m c t a d (by omega)).trans (hK a ⟨_, by omega⟩)

theorem v_arr (hV : IsReal (m ((c : Thread nD τ).loc main_arg2)) Vv) (t : Fin cfg0.N) : IsArr (iblk m c 2 t) (hd (t.val / 8) Vv) := fun a d => by
  have := head_lt t
  exact (v_at m c t a d (by omega)).trans (hV a ⟨_, by omega⟩)

theorem zeroK_apply (y : S4096x256.Idx) : zeroK (F := Ideal) y = 0 := by pointwise [zeroK]

/-- The keys' gradient after a point: the sums of the query blocks of its head so far. -/
theorem dkAt_real (hQ : IsReal (m ((c : Thread nD τ).loc main_arg0)) Q) (hV : IsReal (m ((c : Thread nD τ).loc main_arg2)) Vv)
    (hG : IsReal (m ((c : Thread nD τ).loc main_arg3)) G) (n : ℕ) (h : n < cfg0.N) (y : S4096x256.Idx) :
    dkAt m c n h y = ((∑ i ∈ range (n % 8 + 1), cT (lgR (n / 8)) (hd (n / 8) G) (hd (n / 8) Vv) (hd (n / 8) Q) i (y 0).val (y 1).val : ℝ) : EReal) := by
  induction n with
  | zero =>
    refine (pointDK_real (tables m c ⟨0, h⟩) 0 (by omega) (q_blk m c hQ ⟨0, h⟩) (do_blk m c hG ⟨0, h⟩) (v_arr m c hV ⟨0, h⟩) _ y).trans ?_
    rw [zeroK_apply, zero_add, Finset.sum_range_one]
  | succ n ih =>
    refine (pointDK_real (tables m c ⟨n + 1, h⟩) ((n + 1) % 8) (by omega) (q_blk m c hQ ⟨n + 1, h⟩) (do_blk m c hG ⟨n + 1, h⟩) (v_arr m c hV ⟨n + 1, h⟩) _ y).trans ?_
    rw [Finset.sum_range_succ, EReal.coe_add]
    congr 1
    unfold start
    by_cases h0 : (n + 1) % 8 = 0
    · rw [if_pos h0, zeroK_apply, h0, Finset.sum_range_zero, EReal.coe_zero]
    · rw [if_neg h0, ih, show n % 8 + 1 = (n + 1) % 8 by omega, show n / 8 = (n + 1) / 8 by omega]

theorem dvAt_real (hQ : IsReal (m ((c : Thread nD τ).loc main_arg0)) Q) (hK : IsReal (m ((c : Thread nD τ).loc main_arg1)) K)
    (hG : IsReal (m ((c : Thread nD τ).loc main_arg3)) G) (n : ℕ) (h : n < cfg0.N) (y : S4096x256.Idx) :
    dvAt m c n h y = ((∑ i ∈ range (n % 8 + 1), cT (lgR (n / 8)) (hd (n / 8) Q) (hd (n / 8) K) (hd (n / 8) G) i (y 0).val (y 1).val : ℝ) : EReal) := by
  induction n with
  | zero =>
    refine (pointDV_real (tables m c ⟨0, h⟩) 0 (by omega) (q_blk m c hQ ⟨0, h⟩) (do_blk m c hG ⟨0, h⟩) (k_arr m c hK ⟨0, h⟩) _ y).trans ?_
    rw [zeroK_apply, zero_add, Finset.sum_range_one]
  | succ n ih =>
    refine (pointDV_real (tables m c ⟨n + 1, h⟩) ((n + 1) % 8) (by omega) (q_blk m c hQ ⟨n + 1, h⟩) (do_blk m c hG ⟨n + 1, h⟩) (k_arr m c hK ⟨n + 1, h⟩) _ y).trans ?_
    rw [Finset.sum_range_succ, EReal.coe_add]
    congr 1
    unfold start
    by_cases h0 : (n + 1) % 8 = 0
    · rw [if_pos h0, zeroK_apply, h0, Finset.sum_range_zero, EReal.coe_zero]
    · rw [if_neg h0, ih, show n % 8 + 1 = (n + 1) % 8 by omega, show n / 8 = (n + 1) / 8 by omega]

/-- Head by head, the queries' gradient of a whole array, as an array over the extended reals. -/
def outDQ (G K Vv : ℕ → ℕ → ℝ) : FVec Ideal S4096x1024 .f32 := fun y =>
  ((DQ (lgR ((y 1).val / 256)) (hd ((y 1).val / 256) G) (hd ((y 1).val / 256) K) (hd ((y 1).val / 256) Vv) (y 0).val ((y 1).val % 256) : ℝ) : EReal)

/-- The keys' gradient likewise. -/
def outDK (Q G Vv : ℕ → ℕ → ℝ) : FVec Ideal S4096x1024 .f32 := fun y =>
  ((DK (lgR ((y 1).val / 256)) (hd ((y 1).val / 256) Q) (hd ((y 1).val / 256) G) (hd ((y 1).val / 256) Vv) (y 0).val ((y 1).val % 256) : ℝ) : EReal)

/-- The values' gradient likewise. -/
def outDV (Q G K : ℕ → ℕ → ℝ) : FVec Ideal S4096x1024 .f32 := fun y =>
  ((DV (lgR ((y 1).val / 256)) (hd ((y 1).val / 256) Q) (hd ((y 1).val / 256) G) (hd ((y 1).val / 256) K) (y 0).val ((y 1).val % 256) : ℝ) : EReal)

theorem emb7 (t : Fin cfg0.N) (y : S512x256.Idx) : (((cfg0.win 7).blk t).view.emb y 0 : ℕ) = 512 * (t.val % 8) + (y 0).val
    ∧ (((cfg0.win 7).blk t).view.emb y 1 : ℕ) = 256 * (t.val / 8) + (y 1).val := by
  constructor
  · blk_simp [idx t]; simp; ring
  · blk_simp [idx t]; simp; ring

theorem emb8 (t : Fin cfg0.N) (y : S4096x256.Idx) : (((cfg0.win 8).blk t).view.emb y 0 : ℕ) = (y 0).val
    ∧ (((cfg0.win 8).blk t).view.emb y 1 : ℕ) = 256 * (t.val / 8) + (y 1).val := by
  constructor
  · blk_simp [idx t]
  · blk_simp [idx t]; simp; ring

theorem emb9 (t : Fin cfg0.N) (y : S4096x256.Idx) : (((cfg0.win 9).blk t).view.emb y 0 : ℕ) = (y 0).val
    ∧ (((cfg0.win 9).blk t).view.emb y 1 : ℕ) = 256 * (t.val / 8) + (y 1).val := by
  constructor
  · blk_simp [idx t]
  · blk_simp [idx t]; simp; ring

theorem outDQ_of (z : S4096x1024.Idx) (h r e : ℕ) (h0 : (z 0).val = r) (h1 : (z 1).val = 256 * h + e) (he : e < 256) :
    outDQ G K Vv z = ((DQ (lgR h) (hd h G) (hd h K) (hd h Vv) r e : ℝ) : EReal) := by
  unfold outDQ
  rw [h0, h1, show (256 * h + e) / 256 = h by omega, show (256 * h + e) % 256 = e by omega]

theorem outDK_of (z : S4096x1024.Idx) (h r e : ℕ) (h0 : (z 0).val = r) (h1 : (z 1).val = 256 * h + e) (he : e < 256) :
    outDK Q G Vv z = ((DK (lgR h) (hd h Q) (hd h G) (hd h Vv) r e : ℝ) : EReal) := by
  unfold outDK
  rw [h0, h1, show (256 * h + e) / 256 = h by omega, show (256 * h + e) % 256 = e by omega]

theorem outDV_of (z : S4096x1024.Idx) (h r e : ℕ) (h0 : (z 0).val = r) (h1 : (z 1).val = 256 * h + e) (he : e < 256) :
    outDV Q G K z = ((DV (lgR h) (hd h Q) (hd h G) (hd h K) r e : ℝ) : EReal) := by
  unfold outDV
  rw [h0, h1, show (256 * h + e) / 256 = h by omega, show (256 * h + e) % 256 = e by omega]

/-- The queries' gradient after the launch. -/
theorem final7 (hK : IsReal (m ((c : Thread nD τ).loc main_arg1)) K) (hV : IsReal (m ((c : Thread nD τ).loc main_arg2)) Vv)
    (hG : IsReal (m ((c : Thread nD τ).loc main_arg3)) G) : (dats m 0 c).arrAt 7 (cfgs 0).N = outDQ G K Vv := by
  refine (dats m 0 c).arrAt_eq_of_covers 7 _ (by decide +kernel) fun t _ y => ?_
  have e := outDQ_of (G := G) (K := K) (Vv := Vv) _ _ _ _ (emb7 t y).1 (emb7 t y).2 (y 1).isLt
  have p := pointDQ_real (tables m c t) (t.val % 8) (by omega) (do_blk m c hG t) (k_arr m c hK t) (v_arr m c hV t) y
  blk_simp
  rw [after0_7]
  exact p.trans e.symm

/-- The keys' gradient after the launch. -/
theorem final8 (hQ : IsReal (m ((c : Thread nD τ).loc main_arg0)) Q) (hV : IsReal (m ((c : Thread nD τ).loc main_arg2)) Vv)
    (hG : IsReal (m ((c : Thread nD τ).loc main_arg3)) G) : (dats m 0 c).arrAt 8 (cfgs 0).N = outDK Q G Vv := by
  refine (dats m 0 c).arrAt_eq_of_covers 8 _ (by decide +kernel) fun t hf y => ?_
  have e := outDK_of (Q := Q) (G := G) (Vv := Vv) _ _ _ _ (emb8 t y).1 (emb8 t y).2 (y 1).isLt
  have p := dkAt_real m c hQ hV hG t.val t.isLt y
  rw [show t.val % 8 + 1 = 8 by have := (flush0_8 t).mp hf; omega, sum_cT] at p
  blk_simp
  rw [after0_8]
  exact p.trans e.symm

/-- The values' gradient after the launch. -/
theorem final9 (hQ : IsReal (m ((c : Thread nD τ).loc main_arg0)) Q) (hK : IsReal (m ((c : Thread nD τ).loc main_arg1)) K)
    (hG : IsReal (m ((c : Thread nD τ).loc main_arg3)) G) : (dats m 0 c).arrAt 9 (cfgs 0).N = outDV Q G K := by
  refine (dats m 0 c).arrAt_eq_of_covers 9 _ (by decide +kernel) fun t hf y => ?_
  have e := outDV_of (Q := Q) (G := G) (K := K) _ _ _ _ (emb9 t y).1 (emb9 t y).2 (y 1).isLt
  have p := dvAt_real m c hQ hK hG t.val t.isLt y
  rw [show t.val % 8 + 1 = 8 by have := (flush0_9 t).mp hf; omega, sum_cT] at p
  blk_simp
  rw [after0_9]
  exact p.trans e.symm

end Cert.RetBwd

end
-- ==== Proof.KernelRun.lean ====
/- The kernel's run over the extended reals, on real arguments: its three results, head by head the gradients of
   `Gradient.lean`, and its arguments unchanged. -/
module

public import proofs.«01_k».proof.Proof.KernelValue
public import Idealize.ShloMosaic.Lib.Claim

@[expose] public section

set_option maxRecDepth 16384

noncomputable section

namespace Cert.RetBwd

open Idealize.ShloMosaic Idealize.ShloMosaic.TcCoe Idealize.ShloMosaic.Tactic
open Cert.KernelIdeal Cert.KernelIdeal.Gen

variable (m : (ℓ : Loc nD τ sig) → Buf (Elt Ideal) ℓ)

/-- The three results as the launch leaves them. -/
theorem run_results (ρ : Dev nD → PrngReg) : θ_run defs (onTc (τ := τ) (main (F := Ideal))) ⟨m, fun _ => 0, ρ⟩ (fun r => ∀ c : Dev nD,
      r.2.mem ((c.tc : Thread nD τ).loc main_v40_0) = (dats m 0 c).arrAt 7 (cfgs 0).N
      ∧ r.2.mem ((c.tc : Thread nD τ).loc main_v40_1) = (dats m 0 c).arrAt 8 (cfgs 0).N
      ∧ r.2.mem ((c.tc : Thread nD τ).loc main_v40_2) = (dats m 0 c).arrAt 9 (cfgs 0).N) :=
  (θ_run defs _ _).mono (fun r h c => ⟨(h c).1 7, (h c).1 8, (h c).1 9⟩) (run_main m ρ)

/-- The same as gradients. -/
theorem run_values (ρ : Dev nD → PrngReg) (Q K Vv G : Dev nD → ℕ → ℕ → ℝ)
    (hQ : ∀ c : Dev nD, IsReal (m ((c.tc : Thread nD τ).loc main_arg0)) (Q c)) (hK : ∀ c : Dev nD, IsReal (m ((c.tc : Thread nD τ).loc main_arg1)) (K c))
    (hV : ∀ c : Dev nD, IsReal (m ((c.tc : Thread nD τ).loc main_arg2)) (Vv c)) (hG : ∀ c : Dev nD, IsReal (m ((c.tc : Thread nD τ).loc main_arg3)) (G c)) :
    θ_run defs (onTc (τ := τ) (main (F := Ideal))) ⟨m, fun _ => 0, ρ⟩ (fun r => ∀ c : Dev nD,
      r.2.mem ((c.tc : Thread nD τ).loc main_v40_0) = outDQ (G c) (K c) (Vv c)
      ∧ r.2.mem ((c.tc : Thread nD τ).loc main_v40_1) = outDK (Q c) (G c) (Vv c)
      ∧ r.2.mem ((c.tc : Thread nD τ).loc main_v40_2) = outDV (Q c) (G c) (K c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h.1 c).1.trans (final7 m c (hK c) (hV c) (hG c)), (h.1 c).2.1.trans (final8 m c (hQ c) (hV c) (hG c)),
      (h.1 c).2.2.trans (final9 m c (hQ c) (hK c) (hG c)), h.2.1 c⟩)
    (θ_run_and (run_results m ρ) (frame_main m ρ))

end Cert.RetBwd

end
-- ==== Proof.Finite.lean ====
/- What the precondition `finite` gives: each of the four arrays holds real numbers. -/
module

public import proofs.«01_k».proof.Proof.KernelValue
public import proofs.«01_k».proof.Proof.Gen.Pre_finite
public import Idealize.ShloMosaic.Lib.ReduceAll

@[expose] public section

set_option maxRecDepth 16384

noncomputable section

namespace Cert.RetBwd

open Idealize.ShloMosaic
open Cert.KernelIdeal

/-- The real matrix an array holds. -/
def realOf (x : FVec Ideal S4096x1024 .bf16) (n j : ℕ) : ℝ :=
  if h : n < 4096 ∧ j < 1024 then (x (ix2 ⟨n, h.1⟩ ⟨j, h.2⟩) : EReal).toReal else 0

/-- Entries below infinity in absolute value are real numbers. -/
theorem lt_inf_real (x : EReal) (h : max x (-x) < ⊤) : x = ((x.toReal : ℝ) : EReal) := by
  refine (EReal.coe_toReal ?_ ?_).symm
  · rintro rfl; simp at h
  · rintro rfl; simp at h

theorem isReal_of (x : FVec Ideal S4096x1024 .bf16) (h : ∀ i : S4096x1024.Idx, max (x i : EReal) (-(x i : EReal)) < ⊤) : IsReal x (realOf x) := fun n j => by
  unfold realOf
  rw [dif_pos ⟨n.isLt, j.isLt⟩]
  exact lt_inf_real _ (h _)

theorem entry_lt (x : FVec Ideal S4096x1024 .bf16) (i : S4096x1024.Idx)
    (h : cmpf .olt (Host.absf (extf .f32 x Cert.Pre_finite.Facts.bitsLt_bf16_f32))
      (broadcastInDim Cert.Pre_finite.S4096x1024 ![] Cert.Pre_finite.Facts.bcast_S_S4096x1024 (constant (F := Ideal) Cert.Pre_finite.S_ .f32 0x7F800000#32)) i = 1#1) :
    max (x i : EReal) (-(x i : EReal)) < ⊤ := by
  have e : cmpf .olt (Host.absf (extf .f32 x Cert.Pre_finite.Facts.bitsLt_bf16_f32))
      (broadcastInDim Cert.Pre_finite.S4096x1024 ![] Cert.Pre_finite.Facts.bcast_S_S4096x1024 (constant (F := Ideal) Cert.Pre_finite.S_ .f32 0x7F800000#32)) i
      = BitVec.ofBool (decide (max (x i : EReal) (-(x i : EReal)) < Ideal.ofBits .f32 0x7F800000#32)) := rfl
  rw [e, show Ideal.ofBits .f32 0x7F800000#32 = (⊤ : EReal) by simp [Ideal.ofBits, Ideal.ieee]] at h
  by_contra hn
  rw [decide_eq_false hn] at h
  exact absurd h (by decide)

theorem and_one (a b : BitVec 1) (h : IntOp.andi a b = 1#1) : a = 1#1 ∧ b = 1#1 := by
  revert a b; decide

theorem finite_real (q k v g : FVec Ideal S4096x1024 .bf16) (h : Cert.Pre_finite.fn (F := Ideal) q k v g = fun _ => 1#1) :
    IsReal q (realOf q) ∧ IsReal k (realOf k) ∧ IsReal v (realOf v) ∧ IsReal g (realOf g) := by
  haveI : Subsingleton Cert.Pre_finite.S_.Idx := ⟨fun a b => funext fun i => i.elim0⟩
  have e := congrFun h (fun i => i.elim0)
  unfold Cert.Pre_finite.fn Cert.Pre_finite.fn_part1 at e
  obtain ⟨e, e3⟩ := and_one _ _ e
  obtain ⟨e, e2⟩ := and_one _ _ e
  obtain ⟨e0, e1⟩ := and_one _ _ e
  exact ⟨isReal_of _ fun i => entry_lt _ i (Host.reduce_andi_all _ _ _ _ _ e0 i), isReal_of _ fun i => entry_lt _ i (Host.reduce_andi_all _ _ _ _ _ e1 i),
    isReal_of _ fun i => entry_lt _ i (Host.reduce_andi_all _ _ _ _ _ e2 i), isReal_of _ fun i => entry_lt _ i (Host.reduce_andi_all _ _ _ _ _ e3 i)⟩

end Cert.RetBwd

end
-- ==== Proof.RefOps.lean ====
/- The reference's operations, as lists: the stretches of @main between its two loops, and one trip of each loop. -/
module

public import proofs.«01_k».proof.Proof.Gen.ReferenceIdeal
public import Idealize.ShloMosaic.Lib.StableHlo.RunLoop
public import Idealize.ShloMosaic.Lib.Pipeline.Regions

@[expose] public section

set_option maxRecDepth 16384

noncomputable section

namespace Cert.RetRef

open Idealize.ShloMosaic Idealize.ShloMosaic.TcCoe Idealize.SL Idealize.SL.Sem
open Cert.ReferenceIdeal Cert.ReferenceIdeal.Facts₀ Cert.ReferenceIdeal.Facts

/-- The contents of a buffer. -/
abbrev T (F : FTy → Type) (s : Shape) (t : EltTy) : Type := (⟨s, t⟩ : BufTy).Contents (Elt F)

open StableHlo (unary binary nullary reshape unary_bufs_sub binary_bufs_sub nullary_bufs_sub reshape_bufs_sub unaryIndexed_bufs_sub binaryIndexed_bufs_sub)

variable {F : FTy → Type} [FloatOps F]

/-- The first 60 operations of @main. -/
abbrev pre0Ops : List (HloOp τ sig (Elt F)) :=
  [ unary main_arg0 main_v0 ((extf .f32 · bitsLt_bf16_f32) : T F S4096x1024 .bf16 → T F S4096x1024 .f32),
    unary main_arg1 main_v1 ((extf .f32 · bitsLt_bf16_f32) : T F S4096x1024 .bf16 → T F S4096x1024 .f32),
    unary main_arg2 main_v2 ((extf .f32 · bitsLt_bf16_f32) : T F S4096x1024 .bf16 → T F S4096x1024 .f32),
    unary main_arg3 main_v3 ((extf .f32 · bitsLt_bf16_f32) : T F S4096x1024 .bf16 → T F S4096x1024 .f32),
    reshape main_v0 main_v4 (rfl : (.f32 : EltTy) = .f32) shapeCasts_S4096x1024_S1x64x64x4x256,
    reshape main_v1 main_v5 (rfl : (.f32 : EltTy) = .f32) shapeCasts_S4096x1024_S1x64x64x4x256,
    reshape main_v2 main_v6 (rfl : (.f32 : EltTy) = .f32) shapeCasts_S4096x1024_S1x64x64x4x256,
    nullary main_v7 (sitofp .f32 (iotaInDim S4 32 0)),
    nullary main_cst (constant S_ .f32 0xC0A00000#32),
    unary main_cst main_v8 (broadcastInDim S4 ![] bcast_S_S4 : T F S_ .f32 → T F S4 .f32),
    binary main_v8 main_v7 main_v9 (subf : T F S4 .f32 → T F S4 .f32 → T F S4 .f32),
    nullary main_cst_0 (constant S_ .f32 0x3F317218#32),
    unary main_cst_0 main_v10 (broadcastInDim S4 ![] bcast_S_S4 : T F S_ .f32 → T F S4 .f32),
    binary main_v10 main_v9 main_v11 (mulf : T F S4 .f32 → T F S4 .f32 → T F S4 .f32),
    unary main_v11 main_v12 (Host.exp : T F S4 .f32 → T F S4 .f32),
    unary main_v12 main_v13 (Host.negf : T F S4 .f32 → T F S4 .f32),
    unary main_v13 main_v14 (Host.log1p : T F S4 .f32 → T F S4 .f32),
    nullary main_v15 (sitofp .f32 (iotaInDim S64 32 0)),
    unary main_v14 main_v16 (broadcastInDim S4x1x1 ![0] bcast_S4_S4x1x1_0 : T F S4 .f32 → T F S4x1x1 .f32),
    unary main_v15 main_v17 (broadcastInDim S64x1 ![0] bcast_S64_S64x1_0 : T F S64 .f32 → T F S64x1 .f32),
    unary main_v15 main_v18 (broadcastInDim S1x64 ![1] bcast_S64_S1x64_1 : T F S64 .f32 → T F S1x64 .f32),
    unary main_v17 main_v19 (broadcastInDim S64x64 ![0, 1] bcast_S64x1_S64x64_0_1 : T F S64x1 .f32 → T F S64x64 .f32),
    unary main_v18 main_v20 (broadcastInDim S64x64 ![0, 1] bcast_S1x64_S64x64_0_1 : T F S1x64 .f32 → T F S64x64 .f32),
    binary main_v19 main_v20 main_v21 (subf : T F S64x64 .f32 → T F S64x64 .f32 → T F S64x64 .f32),
    unary main_v21 main_v22 (Host.absf : T F S64x64 .f32 → T F S64x64 .f32),
    unary main_v22 main_v23 (broadcastInDim S1x64x64 ![1, 2] bcast_S64x64_S1x64x64_1_2 : T F S64x64 .f32 → T F S1x64x64 .f32),
    unary main_v16 main_v24 (broadcastInDim S4x64x64 ![0, 1, 2] bcast_S4x1x1_S4x64x64_0_1_2 : T F S4x1x1 .f32 → T F S4x64x64 .f32),
    unary main_v23 main_v25 (broadcastInDim S4x64x64 ![0, 1, 2] bcast_S1x64x64_S4x64x64_0_1_2 : T F S1x64x64 .f32 → T F S4x64x64 .f32),
    binary main_v24 main_v25 main_v26 (mulf : T F S4x64x64 .f32 → T F S4x64x64 .f32 → T F S4x64x64 .f32),
    unary main_v26 main_v27 (Host.exp : T F S4x64x64 .f32 → T F S4x64x64 .f32),
    binary main_v4 main_v5 main_v28 ((fun l r => Host.dotGeneral dot_S1x64x64x4x256_S1x64x64x4x256_S1x64x4x64x64_4_4_2_2_013_013 none l r) : T F S1x64x64x4x256 .f32 → T F S1x64x64x4x256 .f32 → T F S1x64x4x64x64 .f32),
    unary main_v27 main_v29 (broadcastInDim S1x1x4x64x64 ![2, 3, 4] bcast_S4x64x64_S1x1x4x64x64_2_3_4 : T F S4x64x64 .f32 → T F S1x1x4x64x64 .f32),
    unary main_v29 main_v30 (broadcastInDim S1x64x4x64x64 ![0, 1, 2, 3, 4] bcast_S1x1x4x64x64_S1x64x4x64x64_0_1_2_3_4 : T F S1x1x4x64x64 .f32 → T F S1x64x4x64x64 .f32),
    binary main_v28 main_v30 main_v31 (mulf : T F S1x64x4x64x64 .f32 → T F S1x64x4x64x64 .f32 → T F S1x64x4x64x64 .f32),
    binary main_v6 main_v31 main_v32 ((fun l r => Host.dotGeneral dot_S1x64x64x4x256_S1x64x4x64x64_S1x64x4x256x64_2_4_4_3_013_012 none l r) : T F S1x64x64x4x256 .f32 → T F S1x64x4x64x64 .f32 → T F S1x64x4x256x64 .f32),
    unary main_v32 main_v33 ((transpose S1x64x64x4x256 [0, 1, 4, 2, 3] · transposes_S1x64x4x256x64_S1x64x64x4x256_0_1_4_2_3) : T F S1x64x4x256x64 .f32 → T F S1x64x64x4x256 .f32),
    unary main_v14 main_v34 (broadcastInDim S4x1 ![0] bcast_S4_S4x1_0 : T F S4 .f32 → T F S4x1 .f32),
    nullary main_cst_1 (constant S_ .f32 0x3F800000#32),
    unary main_cst_1 main_v35 (broadcastInDim S64 ![] bcast_S_S64 : T F S_ .f32 → T F S64 .f32),
    binary main_v15 main_v35 main_v36 (addf : T F S64 .f32 → T F S64 .f32 → T F S64 .f32),
    unary main_v36 main_v37 (broadcastInDim S1x64 ![1] bcast_S64_S1x64_1 : T F S64 .f32 → T F S1x64 .f32),
    unary main_v34 main_v38 (broadcastInDim S4x64 ![0, 1] bcast_S4x1_S4x64_0_1 : T F S4x1 .f32 → T F S4x64 .f32),
    unary main_v37 main_v39 (broadcastInDim S4x64 ![0, 1] bcast_S1x64_S4x64_0_1 : T F S1x64 .f32 → T F S4x64 .f32),
    binary main_v38 main_v39 main_v40 (mulf : T F S4x64 .f32 → T F S4x64 .f32 → T F S4x64 .f32),
    unary main_v40 main_v41 (Host.exp : T F S4x64 .f32 → T F S4x64 .f32),
    unary main_v41 main_v42 (broadcastInDim S1x4x64 ![1, 2] bcast_S4x64_S1x4x64_1_2 : T F S4x64 .f32 → T F S1x4x64 .f32),
    unary main_v14 main_v43 (broadcastInDim S4x1 ![0] bcast_S4_S4x1_0 : T F S4 .f32 → T F S4x1 .f32),
    nullary main_cst_2 (constant S_ .f32 0x427C0000#32),
    unary main_cst_2 main_v44 (broadcastInDim S64 ![] bcast_S_S64 : T F S_ .f32 → T F S64 .f32),
    binary main_v44 main_v15 main_v45 (subf : T F S64 .f32 → T F S64 .f32 → T F S64 .f32),
    unary main_v45 main_v46 (broadcastInDim S1x64 ![1] bcast_S64_S1x64_1 : T F S64 .f32 → T F S1x64 .f32),
    unary main_v43 main_v47 (broadcastInDim S4x64 ![0, 1] bcast_S4x1_S4x64_0_1 : T F S4x1 .f32 → T F S4x64 .f32),
    unary main_v46 main_v48 (broadcastInDim S4x64 ![0, 1] bcast_S1x64_S4x64_0_1 : T F S1x64 .f32 → T F S4x64 .f32),
    binary main_v47 main_v48 main_v49 (mulf : T F S4x64 .f32 → T F S4x64 .f32 → T F S4x64 .f32),
    unary main_v49 main_v50 (Host.exp : T F S4x64 .f32 → T F S4x64 .f32),
    nullary main_cst_3 (constant S_ .f32 0x42800000#32),
    unary main_cst_3 main_v51 (broadcastInDim S4 ![] bcast_S_S4 : T F S_ .f32 → T F S4 .f32),
    binary main_v14 main_v51 main_v52 (mulf : T F S4 .f32 → T F S4 .f32 → T F S4 .f32),
    unary main_v52 main_v53 (Host.exp : T F S4 .f32 → T F S4 .f32),
    reshape main_v42 main_v54 (rfl : (.f32 : EltTy) = .f32) shapeCasts_S1x4x64_S4x64 ]

theorem pre0_sub : (pre0Ops : List (HloOp τ sig (Elt F))).Forall fun op => op.bufs ⊆ StableHlo.tcRefs τ sig := by
  simp [List.Forall, unary_bufs_sub, binary_bufs_sub, nullary_bufs_sub, reshape_bufs_sub, unaryIndexed_bufs_sub, binaryIndexed_bufs_sub]

/-- The operations from there to the first loop. -/
abbrev pre1Ops : List (HloOp τ sig (Elt F)) :=
  [ nullary main_cst_4 (constant S_ .f32 0x00000000#32),
    unary main_cst_4 main_v55 (broadcastInDim S1x4x256x256 ![] bcast_S_S1x4x256x256 : T F S_ .f32 → T F S1x4x256x256 .f32),
    unary main_v4 main_v56 ((transpose S64x1x64x4x256 [1, 0, 2, 3, 4] · transposes_S1x64x64x4x256_S64x1x64x4x256_1_0_2_3_4) : T F S1x64x64x4x256 .f32 → T F S64x1x64x4x256 .f32),
    unary main_v5 main_v57 ((transpose S64x1x64x4x256 [1, 0, 2, 3, 4] · transposes_S1x64x64x4x256_S64x1x64x4x256_1_0_2_3_4) : T F S1x64x64x4x256 .f32 → T F S64x1x64x4x256 .f32),
    unary main_v6 main_v58 ((transpose S64x1x64x4x256 [1, 0, 2, 3, 4] · transposes_S1x64x64x4x256_S64x1x64x4x256_1_0_2_3_4) : T F S1x64x64x4x256 .f32 → T F S64x1x64x4x256 .f32),
    unary main_v54 main_v59 ((transpose S64x4 [1, 0] · transposes_S4x64_S64x4_1_0) : T F S4x64 .f32 → T F S64x4 .f32),
    unary main_v59 main_v60 (broadcastInDim S1x64x4x1 ![1, 2] bcast_S64x4_S1x64x4x1_1_2 : T F S64x4 .f32 → T F S1x64x4x1 .f32),
    unary main_v53 main_v61 (broadcastInDim S1x4x1x1 ![1] bcast_S4_S1x4x1x1_1 : T F S4 .f32 → T F S1x4x1x1 .f32),
    unary main_v50 main_v62 ((transpose S64x4 [1, 0] · transposes_S4x64_S64x4_1_0) : T F S4x64 .f32 → T F S64x4 .f32),
    unary main_v62 main_v63 (broadcastInDim S1x64x4x1 ![1, 2] bcast_S64x4_S1x64x4x1_1_2 : T F S64x4 .f32 → T F S1x64x4x1 .f32),
    nullary main_cst_5 (constant S_ .f32 0x00000000#32),
    unary main_cst_5 main_v64 (broadcastInDim S64x1x64x4x256 ![] bcast_S_S64x1x64x4x256 : T F S_ .f32 → T F S64x1x64x4x256 .f32),
    nullary main_cst_6 (constant S_ .f32 0x00000000#32),
    unary main_cst_6 main_v65 (broadcastInDim S64x1x4x256x256 ![] bcast_S_S64x1x4x256x256 : T F S_ .f32 → T F S64x1x4x256x256 .f32),
    nullary main_cst_7 (constant S_ .f32 0x00000000#32),
    unary main_cst_7 main_v66 (broadcastInDim S64x1x64x4x256 ![] bcast_S_S64x1x64x4x256 : T F S_ .f32 → T F S64x1x64x4x256 .f32),
    nullary main_c (constantI S_ 32 0#32),
    unary main_v56 main_v67_0 id,
    unary main_v57 main_v67_1 id,
    unary main_v58 main_v67_2 id,
    unary main_v61 main_v67_3 id,
    unary main_v63 main_v67_4 id,
    unary main_v60 main_v67_5 id,
    unary main_c main_v67_6 id,
    unary main_v55 main_v67_7 id,
    unary main_v64 main_v67_8 id,
    unary main_v65 main_v67_9 id,
    unary main_v66 main_v67_10 id ]

theorem pre1_sub : (pre1Ops : List (HloOp τ sig (Elt F))).Forall fun op => op.bufs ⊆ StableHlo.tcRefs τ sig := by
  simp [List.Forall, unary_bufs_sub, binary_bufs_sub, nullary_bufs_sub, reshape_bufs_sub, unaryIndexed_bufs_sub, binaryIndexed_bufs_sub]

/-- One trip of the first loop (a chunk, first to last). -/
abbrev body0Ops : List (HloOp τ sig (Elt F)) :=
  [ StableHlo.TRef.nullary (.of main_while0b_call0_c : StableHlo.TRef sig ⟨S_, .i32⟩) (constantI S_ 32 0#32),
    StableHlo.TRef.nullary (.of main_while0b_call0_c_0 : StableHlo.TRef sig ⟨S_, .i32⟩) (constantI S_ 32 0#32),
    StableHlo.TRef.nullary (.of main_while0b_call0_c_1 : StableHlo.TRef sig ⟨S_, .i32⟩) (constantI S_ 32 0#32),
    StableHlo.TRef.nullary (.of main_while0b_call0_c_2 : StableHlo.TRef sig ⟨S_, .i32⟩) (constantI S_ 32 0#32),
    StableHlo.TRef.unaryIndexed (.of main_v67_0 : StableHlo.TRef sig ⟨S64x1x64x4x256, .f32⟩) ![(.of main_v67_6 : StableHlo.TRef sig ⟨S_, .i32⟩), (.of main_while0b_call0_c : StableHlo.TRef sig ⟨S_, .i32⟩), (.of main_while0b_call0_c_0 : StableHlo.TRef sig ⟨S_, .i32⟩), (.of main_while0b_call0_c_1 : StableHlo.TRef sig ⟨S_, .i32⟩), (.of main_while0b_call0_c_2 : StableHlo.TRef sig ⟨S_, .i32⟩)] (.of main_while0b_call0_v0 : StableHlo.TRef sig ⟨S1x1x64x4x256, .f32⟩) (fun x i => Host.dynamicSlice S1x1x64x4x256 x (fun k => (i k (Shape.Idx.first h_S_)).toInt) sliceFits_S64x1x64x4x256_S1x1x64x4x256),
    StableHlo.TRef.reshape (.of main_while0b_call0_v0 : StableHlo.TRef sig ⟨S1x1x64x4x256, .f32⟩) (.of main_while0b_v100 : StableHlo.TRef sig ⟨S1x64x4x256, .f32⟩) (rfl : (.f32 : EltTy) = .f32) shapeCasts_S1x1x64x4x256_S1x64x4x256,
    StableHlo.TRef.nullary (.of main_while0b_call1_c : StableHlo.TRef sig ⟨S_, .i32⟩) (constantI S_ 32 0#32),
    StableHlo.TRef.nullary (.of main_while0b_call1_c_0 : StableHlo.TRef sig ⟨S_, .i32⟩) (constantI S_ 32 0#32),
    StableHlo.TRef.nullary (.of main_while0b_call1_c_1 : StableHlo.TRef sig ⟨S_, .i32⟩) (constantI S_ 32 0#32),
    StableHlo.TRef.nullary (.of main_while0b_call1_c_2 : StableHlo.TRef sig ⟨S_, .i32⟩) (constantI S_ 32 0#32),
    StableHlo.TRef.unaryIndexed (.of main_v67_1 : StableHlo.TRef sig ⟨S64x1x64x4x256, .f32⟩) ![(.of main_v67_6 : StableHlo.TRef sig ⟨S_, .i32⟩), (.of main_while0b_call1_c : StableHlo.TRef sig ⟨S_, .i32⟩), (.of main_while0b_call1_c_0 : StableHlo.TRef sig ⟨S_, .i32⟩), (.of main_while0b_call1_c_1 : StableHlo.TRef sig ⟨S_, .i32⟩), (.of main_while0b_call1_c_2 : StableHlo.TRef sig ⟨S_, .i32⟩)] (.of main_while0b_call1_v0 : StableHlo.TRef sig ⟨S1x1x64x4x256, .f32⟩) (fun x i => Host.dynamicSlice S1x1x64x4x256 x (fun k => (i k (Shape.Idx.first h_S_)).toInt) sliceFits_S64x1x64x4x256_S1x1x64x4x256),
    StableHlo.TRef.reshape (.of main_while0b_call1_v0 : StableHlo.TRef sig ⟨S1x1x64x4x256, .f32⟩) (.of main_while0b_v101 : StableHlo.TRef sig ⟨S1x64x4x256, .f32⟩) (rfl : (.f32 : EltTy) = .f32) shapeCasts_S1x1x64x4x256_S1x64x4x256,
    StableHlo.TRef.nullary (.of main_while0b_call2_c : StableHlo.TRef sig ⟨S_, .i32⟩) (constantI S_ 32 0#32),
    StableHlo.TRef.nullary (.of main_while0b_call2_c_0 : StableHlo.TRef sig ⟨S_, .i32⟩) (constantI S_ 32 0#32),
    StableHlo.TRef.nullary (.of main_while0b_call2_c_1 : StableHlo.TRef sig ⟨S_, .i32⟩) (constantI S_ 32 0#32),
    StableHlo.TRef.nullary (.of main_while0b_call2_c_2 : StableHlo.TRef sig ⟨S_, .i32⟩) (constantI S_ 32 0#32),
    StableHlo.TRef.unaryIndexed (.of main_v67_2 : StableHlo.TRef sig ⟨S64x1x64x4x256, .f32⟩) ![(.of main_v67_6 : StableHlo.TRef sig ⟨S_, .i32⟩), (.of main_while0b_call2_c : StableHlo.TRef sig ⟨S_, .i32⟩), (.of main_while0b_call2_c_0 : StableHlo.TRef sig ⟨S_, .i32⟩), (.of main_while0b_call2_c_1 : StableHlo.TRef sig ⟨S_, .i32⟩), (.of main_while0b_call2_c_2 : StableHlo.TRef sig ⟨S_, .i32⟩)] (.of main_while0b_call2_v0 : StableHlo.TRef sig ⟨S1x1x64x4x256, .f32⟩) (fun x i => Host.dynamicSlice S1x1x64x4x256 x (fun k => (i k (Shape.Idx.first h_S_)).toInt) sliceFits_S64x1x64x4x256_S1x1x64x4x256),
    StableHlo.TRef.reshape (.of main_while0b_call2_v0 : StableHlo.TRef sig ⟨S1x1x64x4x256, .f32⟩) (.of main_while0b_v102 : StableHlo.TRef sig ⟨S1x64x4x256, .f32⟩) (rfl : (.f32 : EltTy) = .f32) shapeCasts_S1x1x64x4x256_S1x64x4x256,
    binary main_v67_7 main_while0b_v100 main_while0b_v103 ((fun l r => Host.dotGeneral dot_S1x4x256x256_S1x64x4x256_S1x4x256x64_2_3_3_1_01_02 none l r) : T F S1x4x256x256 .f32 → T F S1x64x4x256 .f32 → T F S1x4x256x64 .f32),
    unary main_while0b_v103 main_while0b_v104 ((transpose S1x64x4x256 [0, 3, 1, 2] · transposes_S1x4x256x64_S1x64x4x256_0_3_1_2) : T F S1x4x256x64 .f32 → T F S1x64x4x256 .f32),
    unary main_v67_5 main_while0b_v105 (broadcastInDim S1x64x4x256 ![0, 1, 2, 3] bcast_S1x64x4x1_S1x64x4x256_0_1_2_3 : T F S1x64x4x1 .f32 → T F S1x64x4x256 .f32),
    binary main_while0b_v104 main_while0b_v105 main_while0b_v106 (mulf : T F S1x64x4x256 .f32 → T F S1x64x4x256 .f32 → T F S1x64x4x256 .f32),
    unary main_v67_3 main_while0b_v107 (broadcastInDim S1x4x256x256 ![0, 1, 2, 3] bcast_S1x4x1x1_S1x4x256x256_0_1_2_3 : T F S1x4x1x1 .f32 → T F S1x4x256x256 .f32),
    binary main_v67_7 main_while0b_v107 main_while0b_v108 (mulf : T F S1x4x256x256 .f32 → T F S1x4x256x256 .f32 → T F S1x4x256x256 .f32),
    unary main_v67_4 main_while0b_v109 (broadcastInDim S1x64x4x256 ![0, 1, 2, 3] bcast_S1x64x4x1_S1x64x4x256_0_1_2_3 : T F S1x64x4x1 .f32 → T F S1x64x4x256 .f32),
    binary main_while0b_v101 main_while0b_v109 main_while0b_v110 (mulf : T F S1x64x4x256 .f32 → T F S1x64x4x256 .f32 → T F S1x64x4x256 .f32),
    binary main_while0b_v110 main_while0b_v102 main_while0b_v111 ((fun l r => Host.dotGeneral dot_S1x64x4x256_S1x64x4x256_S1x4x256x256_1_1_3_3_02_02 none l r) : T F S1x64x4x256 .f32 → T F S1x64x4x256 .f32 → T F S1x4x256x256 .f32),
    binary main_while0b_v108 main_while0b_v111 main_while0b_v112 (addf : T F S1x4x256x256 .f32 → T F S1x4x256x256 .f32 → T F S1x4x256x256 .f32),
    StableHlo.TRef.unary (.of main_while0b_v106 : StableHlo.TRef sig ⟨S1x64x4x256, .f32⟩) (.of main_while0b_call3_v0 : StableHlo.TRef sig ⟨S1x1x64x4x256, .f32⟩) (broadcastInDim S1x1x64x4x256 ![1, 2, 3, 4] bcast_S1x64x4x256_S1x1x64x4x256_1_2_3_4),
    StableHlo.TRef.nullary (.of main_while0b_call3_c : StableHlo.TRef sig ⟨S_, .i32⟩) (constantI S_ 32 0#32),
    StableHlo.TRef.nullary (.of main_while0b_call3_c_0 : StableHlo.TRef sig ⟨S_, .i32⟩) (constantI S_ 32 0#32),
    StableHlo.TRef.nullary (.of main_while0b_call3_c_1 : StableHlo.TRef sig ⟨S_, .i32⟩) (constantI S_ 32 0#32),
    StableHlo.TRef.nullary (.of main_while0b_call3_c_2 : StableHlo.TRef sig ⟨S_, .i32⟩) (constantI S_ 32 0#32),
    StableHlo.TRef.binaryIndexed (.of main_v67_8 : StableHlo.TRef sig ⟨S64x1x64x4x256, .f32⟩) (.of main_while0b_call3_v0 : StableHlo.TRef sig ⟨S1x1x64x4x256, .f32⟩) ![(.of main_v67_6 : StableHlo.TRef sig ⟨S_, .i32⟩), (.of main_while0b_call3_c : StableHlo.TRef sig ⟨S_, .i32⟩), (.of main_while0b_call3_c_0 : StableHlo.TRef sig ⟨S_, .i32⟩), (.of main_while0b_call3_c_1 : StableHlo.TRef sig ⟨S_, .i32⟩), (.of main_while0b_call3_c_2 : StableHlo.TRef sig ⟨S_, .i32⟩)] (.of main_while0b_v113 : StableHlo.TRef sig ⟨S64x1x64x4x256, .f32⟩) (fun x u i => Host.dynamicUpdateSlice x u (fun k => (i k (Shape.Idx.first h_S_)).toInt) updateFits_S64x1x64x4x256_S1x1x64x4x256),
    StableHlo.TRef.unary (.of main_v67_7 : StableHlo.TRef sig ⟨S1x4x256x256, .f32⟩) (.of main_while0b_call4_v0 : StableHlo.TRef sig ⟨S1x1x4x256x256, .f32⟩) (broadcastInDim S1x1x4x256x256 ![1, 2, 3, 4] bcast_S1x4x256x256_S1x1x4x256x256_1_2_3_4),
    StableHlo.TRef.nullary (.of main_while0b_call4_c : StableHlo.TRef sig ⟨S_, .i32⟩) (constantI S_ 32 0#32),
    StableHlo.TRef.nullary (.of main_while0b_call4_c_0 : StableHlo.TRef sig ⟨S_, .i32⟩) (constantI S_ 32 0#32),
    StableHlo.TRef.nullary (.of main_while0b_call4_c_1 : StableHlo.TRef sig ⟨S_, .i32⟩) (constantI S_ 32 0#32),
    StableHlo.TRef.nullary (.of main_while0b_call4_c_2 : StableHlo.TRef sig ⟨S_, .i32⟩) (constantI S_ 32 0#32),
    StableHlo.TRef.binaryIndexed (.of main_v67_9 : StableHlo.TRef sig ⟨S64x1x4x256x256, .f32⟩) (.of main_while0b_call4_v0 : StableHlo.TRef sig ⟨S1x1x4x256x256, .f32⟩) ![(.of main_v67_6 : StableHlo.TRef sig ⟨S_, .i32⟩), (.of main_while0b_call4_c : StableHlo.TRef sig ⟨S_, .i32⟩), (.of main_while0b_call4_c_0 : StableHlo.TRef sig ⟨S_, .i32⟩), (.of main_while0b_call4_c_1 : StableHlo.TRef sig ⟨S_, .i32⟩), (.of main_while0b_call4_c_2 : StableHlo.TRef sig ⟨S_, .i32⟩)] (.of main_while0b_v114 : StableHlo.TRef sig ⟨S64x1x4x256x256, .f32⟩) (fun x u i => Host.dynamicUpdateSlice x u (fun k => (i k (Shape.Idx.first h_S_)).toInt) updateFits_S64x1x4x256x256_S1x1x4x256x256),
    StableHlo.TRef.unary (.of main_while0b_v110 : StableHlo.TRef sig ⟨S1x64x4x256, .f32⟩) (.of main_while0b_call5_v0 : StableHlo.TRef sig ⟨S1x1x64x4x256, .f32⟩) (broadcastInDim S1x1x64x4x256 ![1, 2, 3, 4] bcast_S1x64x4x256_S1x1x64x4x256_1_2_3_4),
    StableHlo.TRef.nullary (.of main_while0b_call5_c : StableHlo.TRef sig ⟨S_, .i32⟩) (constantI S_ 32 0#32),
    StableHlo.TRef.nullary (.of main_while0b_call5_c_0 : StableHlo.TRef sig ⟨S_, .i32⟩) (constantI S_ 32 0#32),
    StableHlo.TRef.nullary (.of main_while0b_call5_c_1 : StableHlo.TRef sig ⟨S_, .i32⟩) (constantI S_ 32 0#32),
    StableHlo.TRef.nullary (.of main_while0b_call5_c_2 : StableHlo.TRef sig ⟨S_, .i32⟩) (constantI S_ 32 0#32),
    StableHlo.TRef.binaryIndexed (.of main_v67_10 : StableHlo.TRef sig ⟨S64x1x64x4x256, .f32⟩) (.of main_while0b_call5_v0 : StableHlo.TRef sig ⟨S1x1x64x4x256, .f32⟩) ![(.of main_v67_6 : StableHlo.TRef sig ⟨S_, .i32⟩), (.of main_while0b_call5_c : StableHlo.TRef sig ⟨S_, .i32⟩), (.of main_while0b_call5_c_0 : StableHlo.TRef sig ⟨S_, .i32⟩), (.of main_while0b_call5_c_1 : StableHlo.TRef sig ⟨S_, .i32⟩), (.of main_while0b_call5_c_2 : StableHlo.TRef sig ⟨S_, .i32⟩)] (.of main_while0b_v115 : StableHlo.TRef sig ⟨S64x1x64x4x256, .f32⟩) (fun x u i => Host.dynamicUpdateSlice x u (fun k => (i k (Shape.Idx.first h_S_)).toInt) updateFits_S64x1x64x4x256_S1x1x64x4x256),
    nullary main_while0b_c_24 (constantI S_ 32 1#32),
    binary main_v67_6 main_while0b_c_24 main_while0b_v116 (addi : T F S_ .i32 → T F S_ .i32 → T F S_ .i32),
    unary main_while0b_v116 main_v67_6 id,
    unary main_while0b_v112 main_v67_7 id,
    unary main_while0b_v113 main_v67_8 id,
    unary main_while0b_v114 main_v67_9 id,
    unary main_while0b_v115 main_v67_10 id ]

theorem body0_sub : (body0Ops : List (HloOp τ sig (Elt F))).Forall fun op => op.bufs ⊆ StableHlo.tcRefs τ sig := by
  simp [List.Forall, unary_bufs_sub, binary_bufs_sub, nullary_bufs_sub, reshape_bufs_sub, unaryIndexed_bufs_sub, binaryIndexed_bufs_sub]

/-- The operations between the two loops. -/
abbrev midOps : List (HloOp τ sig (Elt F)) :=
  [ unary main_v67_8 main_v68 ((transpose S1x64x64x4x256 [1, 0, 2, 3, 4] · transposes_S64x1x64x4x256_S1x64x64x4x256_1_0_2_3_4) : T F S64x1x64x4x256 .f32 → T F S1x64x64x4x256 .f32),
    binary main_v33 main_v68 main_v69 (addf : T F S1x64x64x4x256 .f32 → T F S1x64x64x4x256 .f32 → T F S1x64x64x4x256 .f32),
    reshape main_v69 main_v70 (rfl : (.f32 : EltTy) = .f32) shapeCasts_S1x64x64x4x256_S1x4096x4x256,
    reshape main_v70 main_v71 (rfl : (.f32 : EltTy) = .f32) shapeCasts_S1x4096x4x256_S4096x1024,
    nullary main_cst_8 (constant S_ .f32 0x00000000#32),
    unary main_cst_8 main_v72 (broadcastInDim S1x4x256x256 ![] bcast_S_S1x4x256x256 : T F S_ .f32 → T F S1x4x256x256 .f32),
    reshape main_v3 main_v73 (rfl : (.f32 : EltTy) = .f32) shapeCasts_S4096x1024_S1x4096x4x256,
    reshape main_v73 main_v74 (rfl : (.f32 : EltTy) = .f32) shapeCasts_S1x4096x4x256_S1x64x64x4x256,
    unary main_v74 main_v75 ((transpose S64x1x64x4x256 [1, 0, 2, 3, 4] · transposes_S1x64x64x4x256_S64x1x64x4x256_1_0_2_3_4) : T F S1x64x64x4x256 .f32 → T F S64x1x64x4x256 .f32),
    nullary main_cst_9 (constant S_ .f32 0x00000000#32),
    unary main_cst_9 main_v76 (broadcastInDim S1x4x256x256 ![] bcast_S_S1x4x256x256 : T F S_ .f32 → T F S1x4x256x256 .f32),
    nullary main_cst_10 (constant S_ .f32 0x00000000#32),
    unary main_cst_10 main_v77 (broadcastInDim S64x1x64x4x256 ![] bcast_S_S64x1x64x4x256 : T F S_ .f32 → T F S64x1x64x4x256 .f32),
    nullary main_cst_11 (constant S_ .f32 0x00000000#32),
    unary main_cst_11 main_v78 (broadcastInDim S64x1x64x4x256 ![] bcast_S_S64x1x64x4x256 : T F S_ .f32 → T F S64x1x64x4x256 .f32),
    nullary main_cst_12 (constant S_ .f32 0x00000000#32),
    unary main_cst_12 main_v79 (broadcastInDim S64x1x64x4x256 ![] bcast_S_S64x1x64x4x256 : T F S_ .f32 → T F S64x1x64x4x256 .f32),
    nullary main_c_13 (constantI S_ 32 0#32),
    unary main_v75 main_v80_0 id,
    unary main_v56 main_v80_1 id,
    unary main_v67_9 main_v80_2 id,
    unary main_v58 main_v80_3 id,
    unary main_v67_10 main_v80_4 id,
    unary main_v60 main_v80_5 id,
    unary main_v61 main_v80_6 id,
    unary main_v63 main_v80_7 id,
    unary main_c_13 main_v80_8 id,
    unary main_v76 main_v80_9 id,
    unary main_v77 main_v80_10 id,
    unary main_v78 main_v80_11 id,
    unary main_v79 main_v80_12 id ]

theorem mid_sub : (midOps : List (HloOp τ sig (Elt F))).Forall fun op => op.bufs ⊆ StableHlo.tcRefs τ sig := by
  simp [List.Forall, unary_bufs_sub, binary_bufs_sub, nullary_bufs_sub, reshape_bufs_sub, unaryIndexed_bufs_sub, binaryIndexed_bufs_sub]

/-- One trip of the second loop (a chunk, last to first). -/
abbrev body1Ops : List (HloOp τ sig (Elt F)) :=
  [ nullary main_while1b_c_26 (constantI S_ 32 64#32),
    binary main_while1b_c_26 main_v80_8 main_while1b_v100 (subi : T F S_ .i32 → T F S_ .i32 → T F S_ .i32),
    nullary main_while1b_c_27 (constantI S_ 32 1#32),
    binary main_while1b_v100 main_while1b_c_27 main_while1b_v101 (subi : T F S_ .i32 → T F S_ .i32 → T F S_ .i32),
    StableHlo.TRef.nullary (.of main_while1b_call6_c : StableHlo.TRef sig ⟨S_, .i32⟩) (constantI S_ 32 0#32),
    StableHlo.TRef.nullary (.of main_while1b_call6_c_0 : StableHlo.TRef sig ⟨S_, .i32⟩) (constantI S_ 32 0#32),
    StableHlo.TRef.nullary (.of main_while1b_call6_c_1 : StableHlo.TRef sig ⟨S_, .i32⟩) (constantI S_ 32 0#32),
    StableHlo.TRef.nullary (.of main_while1b_call6_c_2 : StableHlo.TRef sig ⟨S_, .i32⟩) (constantI S_ 32 0#32),
    StableHlo.TRef.unaryIndexed (.of main_v80_0 : StableHlo.TRef sig ⟨S64x1x64x4x256, .f32⟩) ![(.of main_while1b_v101 : StableHlo.TRef sig ⟨S_, .i32⟩), (.of main_while1b_call6_c : StableHlo.TRef sig ⟨S_, .i32⟩), (.of main_while1b_call6_c_0 : StableHlo.TRef sig ⟨S_, .i32⟩), (.of main_while1b_call6_c_1 : StableHlo.TRef sig ⟨S_, .i32⟩), (.of main_while1b_call6_c_2 : StableHlo.TRef sig ⟨S_, .i32⟩)] (.of main_while1b_call6_v0 : StableHlo.TRef sig ⟨S1x1x64x4x256, .f32⟩) (fun x i => Host.dynamicSlice S1x1x64x4x256 x (fun k => (i k (Shape.Idx.first h_S_)).toInt) sliceFits_S64x1x64x4x256_S1x1x64x4x256),
    StableHlo.TRef.reshape (.of main_while1b_call6_v0 : StableHlo.TRef sig ⟨S1x1x64x4x256, .f32⟩) (.of main_while1b_v102 : StableHlo.TRef sig ⟨S1x64x4x256, .f32⟩) (rfl : (.f32 : EltTy) = .f32) shapeCasts_S1x1x64x4x256_S1x64x4x256,
    StableHlo.TRef.nullary (.of main_while1b_call7_c : StableHlo.TRef sig ⟨S_, .i32⟩) (constantI S_ 32 0#32),
    StableHlo.TRef.nullary (.of main_while1b_call7_c_0 : StableHlo.TRef sig ⟨S_, .i32⟩) (constantI S_ 32 0#32),
    StableHlo.TRef.nullary (.of main_while1b_call7_c_1 : StableHlo.TRef sig ⟨S_, .i32⟩) (constantI S_ 32 0#32),
    StableHlo.TRef.nullary (.of main_while1b_call7_c_2 : StableHlo.TRef sig ⟨S_, .i32⟩) (constantI S_ 32 0#32),
    StableHlo.TRef.unaryIndexed (.of main_v80_1 : StableHlo.TRef sig ⟨S64x1x64x4x256, .f32⟩) ![(.of main_while1b_v101 : StableHlo.TRef sig ⟨S_, .i32⟩), (.of main_while1b_call7_c : StableHlo.TRef sig ⟨S_, .i32⟩), (.of main_while1b_call7_c_0 : StableHlo.TRef sig ⟨S_, .i32⟩), (.of main_while1b_call7_c_1 : StableHlo.TRef sig ⟨S_, .i32⟩), (.of main_while1b_call7_c_2 : StableHlo.TRef sig ⟨S_, .i32⟩)] (.of main_while1b_call7_v0 : StableHlo.TRef sig ⟨S1x1x64x4x256, .f32⟩) (fun x i => Host.dynamicSlice S1x1x64x4x256 x (fun k => (i k (Shape.Idx.first h_S_)).toInt) sliceFits_S64x1x64x4x256_S1x1x64x4x256),
    StableHlo.TRef.reshape (.of main_while1b_call7_v0 : StableHlo.TRef sig ⟨S1x1x64x4x256, .f32⟩) (.of main_while1b_v103 : StableHlo.TRef sig ⟨S1x64x4x256, .f32⟩) (rfl : (.f32 : EltTy) = .f32) shapeCasts_S1x1x64x4x256_S1x64x4x256,
    StableHlo.TRef.nullary (.of main_while1b_call8_c : StableHlo.TRef sig ⟨S_, .i32⟩) (constantI S_ 32 0#32),
    StableHlo.TRef.nullary (.of main_while1b_call8_c_0 : StableHlo.TRef sig ⟨S_, .i32⟩) (constantI S_ 32 0#32),
    StableHlo.TRef.nullary (.of main_while1b_call8_c_1 : StableHlo.TRef sig ⟨S_, .i32⟩) (constantI S_ 32 0#32),
    StableHlo.TRef.nullary (.of main_while1b_call8_c_2 : StableHlo.TRef sig ⟨S_, .i32⟩) (constantI S_ 32 0#32),
    StableHlo.TRef.unaryIndexed (.of main_v80_2 : StableHlo.TRef sig ⟨S64x1x4x256x256, .f32⟩) ![(.of main_while1b_v101 : StableHlo.TRef sig ⟨S_, .i32⟩), (.of main_while1b_call8_c : StableHlo.TRef sig ⟨S_, .i32⟩), (.of main_while1b_call8_c_0 : StableHlo.TRef sig ⟨S_, .i32⟩), (.of main_while1b_call8_c_1 : StableHlo.TRef sig ⟨S_, .i32⟩), (.of main_while1b_call8_c_2 : StableHlo.TRef sig ⟨S_, .i32⟩)] (.of main_while1b_call8_v0 : StableHlo.TRef sig ⟨S1x1x4x256x256, .f32⟩) (fun x i => Host.dynamicSlice S1x1x4x256x256 x (fun k => (i k (Shape.Idx.first h_S_)).toInt) sliceFits_S64x1x4x256x256_S1x1x4x256x256),
    StableHlo.TRef.reshape (.of main_while1b_call8_v0 : StableHlo.TRef sig ⟨S1x1x4x256x256, .f32⟩) (.of main_while1b_v104 : StableHlo.TRef sig ⟨S1x4x256x256, .f32⟩) (rfl : (.f32 : EltTy) = .f32) shapeCasts_S1x1x4x256x256_S1x4x256x256,
    StableHlo.TRef.nullary (.of main_while1b_call9_c : StableHlo.TRef sig ⟨S_, .i32⟩) (constantI S_ 32 0#32),
    StableHlo.TRef.nullary (.of main_while1b_call9_c_0 : StableHlo.TRef sig ⟨S_, .i32⟩) (constantI S_ 32 0#32),
    StableHlo.TRef.nullary (.of main_while1b_call9_c_1 : StableHlo.TRef sig ⟨S_, .i32⟩) (constantI S_ 32 0#32),
    StableHlo.TRef.nullary (.of main_while1b_call9_c_2 : StableHlo.TRef sig ⟨S_, .i32⟩) (constantI S_ 32 0#32),
    StableHlo.TRef.unaryIndexed (.of main_v80_3 : StableHlo.TRef sig ⟨S64x1x64x4x256, .f32⟩) ![(.of main_while1b_v101 : StableHlo.TRef sig ⟨S_, .i32⟩), (.of main_while1b_call9_c : StableHlo.TRef sig ⟨S_, .i32⟩), (.of main_while1b_call9_c_0 : StableHlo.TRef sig ⟨S_, .i32⟩), (.of main_while1b_call9_c_1 : StableHlo.TRef sig ⟨S_, .i32⟩), (.of main_while1b_call9_c_2 : StableHlo.TRef sig ⟨S_, .i32⟩)] (.of main_while1b_call9_v0 : StableHlo.TRef sig ⟨S1x1x64x4x256, .f32⟩) (fun x i => Host.dynamicSlice S1x1x64x4x256 x (fun k => (i k (Shape.Idx.first h_S_)).toInt) sliceFits_S64x1x64x4x256_S1x1x64x4x256),
    StableHlo.TRef.reshape (.of main_while1b_call9_v0 : StableHlo.TRef sig ⟨S1x1x64x4x256, .f32⟩) (.of main_while1b_v105 : StableHlo.TRef sig ⟨S1x64x4x256, .f32⟩) (rfl : (.f32 : EltTy) = .f32) shapeCasts_S1x1x64x4x256_S1x64x4x256,
    StableHlo.TRef.nullary (.of main_while1b_call10_c : StableHlo.TRef sig ⟨S_, .i32⟩) (constantI S_ 32 0#32),
    StableHlo.TRef.nullary (.of main_while1b_call10_c_0 : StableHlo.TRef sig ⟨S_, .i32⟩) (constantI S_ 32 0#32),
    StableHlo.TRef.nullary (.of main_while1b_call10_c_1 : StableHlo.TRef sig ⟨S_, .i32⟩) (constantI S_ 32 0#32),
    StableHlo.TRef.nullary (.of main_while1b_call10_c_2 : StableHlo.TRef sig ⟨S_, .i32⟩) (constantI S_ 32 0#32),
    StableHlo.TRef.unaryIndexed (.of main_v80_4 : StableHlo.TRef sig ⟨S64x1x64x4x256, .f32⟩) ![(.of main_while1b_v101 : StableHlo.TRef sig ⟨S_, .i32⟩), (.of main_while1b_call10_c : StableHlo.TRef sig ⟨S_, .i32⟩), (.of main_while1b_call10_c_0 : StableHlo.TRef sig ⟨S_, .i32⟩), (.of main_while1b_call10_c_1 : StableHlo.TRef sig ⟨S_, .i32⟩), (.of main_while1b_call10_c_2 : StableHlo.TRef sig ⟨S_, .i32⟩)] (.of main_while1b_call10_v0 : StableHlo.TRef sig ⟨S1x1x64x4x256, .f32⟩) (fun x i => Host.dynamicSlice S1x1x64x4x256 x (fun k => (i k (Shape.Idx.first h_S_)).toInt) sliceFits_S64x1x64x4x256_S1x1x64x4x256),
    StableHlo.TRef.reshape (.of main_while1b_call10_v0 : StableHlo.TRef sig ⟨S1x1x64x4x256, .f32⟩) (.of main_while1b_v106 : StableHlo.TRef sig ⟨S1x64x4x256, .f32⟩) (rfl : (.f32 : EltTy) = .f32) shapeCasts_S1x1x64x4x256_S1x64x4x256,
    binary main_v80_9 main_while1b_v106 main_while1b_v107 ((fun l r => Host.dotGeneral dot_S1x4x256x256_S1x64x4x256_S1x4x256x64_2_3_3_1_01_02 none l r) : T F S1x4x256x256 .f32 → T F S1x64x4x256 .f32 → T F S1x4x256x64 .f32),
    unary main_while1b_v107 main_while1b_v108 ((transpose S1x64x4x256 [0, 3, 1, 2] · transposes_S1x4x256x64_S1x64x4x256_0_3_1_2) : T F S1x4x256x64 .f32 → T F S1x64x4x256 .f32),
    binary main_v80_9 main_while1b_v105 main_while1b_v109 ((fun l r => Host.dotGeneral dot_S1x4x256x256_S1x64x4x256_S1x4x256x64_3_3_2_1_01_02 none l r) : T F S1x4x256x256 .f32 → T F S1x64x4x256 .f32 → T F S1x4x256x64 .f32),
    unary main_while1b_v109 main_while1b_v110 ((transpose S1x64x4x256 [0, 3, 1, 2] · transposes_S1x4x256x64_S1x64x4x256_0_3_1_2) : T F S1x4x256x64 .f32 → T F S1x64x4x256 .f32),
    unary main_v80_7 main_while1b_v111 (broadcastInDim S1x64x4x256 ![0, 1, 2, 3] bcast_S1x64x4x1_S1x64x4x256_0_1_2_3 : T F S1x64x4x1 .f32 → T F S1x64x4x256 .f32),
    binary main_while1b_v110 main_while1b_v111 main_while1b_v112 (mulf : T F S1x64x4x256 .f32 → T F S1x64x4x256 .f32 → T F S1x64x4x256 .f32),
    unary main_v80_6 main_while1b_v113 (broadcastInDim S1x4x256x256 ![0, 1, 2, 3] bcast_S1x4x1x1_S1x4x256x256_0_1_2_3 : T F S1x4x1x1 .f32 → T F S1x4x256x256 .f32),
    binary main_v80_9 main_while1b_v113 main_while1b_v114 (mulf : T F S1x4x256x256 .f32 → T F S1x4x256x256 .f32 → T F S1x4x256x256 .f32),
    unary main_v80_5 main_while1b_v115 (broadcastInDim S1x64x4x256 ![0, 1, 2, 3] bcast_S1x64x4x1_S1x64x4x256_0_1_2_3 : T F S1x64x4x1 .f32 → T F S1x64x4x256 .f32),
    binary main_while1b_v102 main_while1b_v115 main_while1b_v116 (mulf : T F S1x64x4x256 .f32 → T F S1x64x4x256 .f32 → T F S1x64x4x256 .f32),
    unary main_while1b_v116 main_while1b_v117 ((transpose S1x4x256x64 [0, 2, 3, 1] · transposes_S1x64x4x256_S1x4x256x64_0_2_3_1) : T F S1x64x4x256 .f32 → T F S1x4x256x64 .f32),
    binary main_while1b_v117 main_while1b_v104 main_while1b_v118 ((fun l r => Host.dotGeneral dot_S1x4x256x64_S1x4x256x256_S1x4x64x256_2_3_3_2_01_01 none l r) : T F S1x4x256x64 .f32 → T F S1x4x256x256 .f32 → T F S1x4x64x256 .f32),
    unary main_while1b_v118 main_while1b_v119 ((transpose S1x64x4x256 [0, 2, 1, 3] · transposes_S1x4x64x256_S1x64x4x256_0_2_1_3) : T F S1x4x64x256 .f32 → T F S1x64x4x256 .f32),
    binary main_while1b_v117 main_while1b_v103 main_while1b_v120 ((fun l r => Host.dotGeneral dot_S1x4x256x64_S1x64x4x256_S1x4x256x256_3_1_2_3_01_02 none l r) : T F S1x4x256x64 .f32 → T F S1x64x4x256 .f32 → T F S1x4x256x256 .f32),
    unary main_while1b_v120 main_while1b_v121 ((transpose S1x4x256x256 [0, 1, 3, 2] · transposes_S1x4x256x256_S1x4x256x256_0_1_3_2) : T F S1x4x256x256 .f32 → T F S1x4x256x256 .f32),
    binary main_while1b_v114 main_while1b_v121 main_while1b_v122 (addf : T F S1x4x256x256 .f32 → T F S1x4x256x256 .f32 → T F S1x4x256x256 .f32),
    StableHlo.TRef.unary (.of main_while1b_v119 : StableHlo.TRef sig ⟨S1x64x4x256, .f32⟩) (.of main_while1b_call11_v0 : StableHlo.TRef sig ⟨S1x1x64x4x256, .f32⟩) (broadcastInDim S1x1x64x4x256 ![1, 2, 3, 4] bcast_S1x64x4x256_S1x1x64x4x256_1_2_3_4),
    StableHlo.TRef.nullary (.of main_while1b_call11_c : StableHlo.TRef sig ⟨S_, .i32⟩) (constantI S_ 32 0#32),
    StableHlo.TRef.nullary (.of main_while1b_call11_c_0 : StableHlo.TRef sig ⟨S_, .i32⟩) (constantI S_ 32 0#32),
    StableHlo.TRef.nullary (.of main_while1b_call11_c_1 : StableHlo.TRef sig ⟨S_, .i32⟩) (constantI S_ 32 0#32),
    StableHlo.TRef.nullary (.of main_while1b_call11_c_2 : StableHlo.TRef sig ⟨S_, .i32⟩) (constantI S_ 32 0#32),
    StableHlo.TRef.binaryIndexed (.of main_v80_10 : StableHlo.TRef sig ⟨S64x1x64x4x256, .f32⟩) (.of main_while1b_call11_v0 : StableHlo.TRef sig ⟨S1x1x64x4x256, .f32⟩) ![(.of main_while1b_v101 : StableHlo.TRef sig ⟨S_, .i32⟩), (.of main_while1b_call11_c : StableHlo.TRef sig ⟨S_, .i32⟩), (.of main_while1b_call11_c_0 : StableHlo.TRef sig ⟨S_, .i32⟩), (.of main_while1b_call11_c_1 : StableHlo.TRef sig ⟨S_, .i32⟩), (.of main_while1b_call11_c_2 : StableHlo.TRef sig ⟨S_, .i32⟩)] (.of main_while1b_v123 : StableHlo.TRef sig ⟨S64x1x64x4x256, .f32⟩) (fun x u i => Host.dynamicUpdateSlice x u (fun k => (i k (Shape.Idx.first h_S_)).toInt) updateFits_S64x1x64x4x256_S1x1x64x4x256),
    StableHlo.TRef.unary (.of main_while1b_v112 : StableHlo.TRef sig ⟨S1x64x4x256, .f32⟩) (.of main_while1b_call12_v0 : StableHlo.TRef sig ⟨S1x1x64x4x256, .f32⟩) (broadcastInDim S1x1x64x4x256 ![1, 2, 3, 4] bcast_S1x64x4x256_S1x1x64x4x256_1_2_3_4),
    StableHlo.TRef.nullary (.of main_while1b_call12_c : StableHlo.TRef sig ⟨S_, .i32⟩) (constantI S_ 32 0#32),
    StableHlo.TRef.nullary (.of main_while1b_call12_c_0 : StableHlo.TRef sig ⟨S_, .i32⟩) (constantI S_ 32 0#32),
    StableHlo.TRef.nullary (.of main_while1b_call12_c_1 : StableHlo.TRef sig ⟨S_, .i32⟩) (constantI S_ 32 0#32),
    StableHlo.TRef.nullary (.of main_while1b_call12_c_2 : StableHlo.TRef sig ⟨S_, .i32⟩) (constantI S_ 32 0#32),
    StableHlo.TRef.binaryIndexed (.of main_v80_11 : StableHlo.TRef sig ⟨S64x1x64x4x256, .f32⟩) (.of main_while1b_call12_v0 : StableHlo.TRef sig ⟨S1x1x64x4x256, .f32⟩) ![(.of main_while1b_v101 : StableHlo.TRef sig ⟨S_, .i32⟩), (.of main_while1b_call12_c : StableHlo.TRef sig ⟨S_, .i32⟩), (.of main_while1b_call12_c_0 : StableHlo.TRef sig ⟨S_, .i32⟩), (.of main_while1b_call12_c_1 : StableHlo.TRef sig ⟨S_, .i32⟩), (.of main_while1b_call12_c_2 : StableHlo.TRef sig ⟨S_, .i32⟩)] (.of main_while1b_v124 : StableHlo.TRef sig ⟨S64x1x64x4x256, .f32⟩) (fun x u i => Host.dynamicUpdateSlice x u (fun k => (i k (Shape.Idx.first h_S_)).toInt) updateFits_S64x1x64x4x256_S1x1x64x4x256),
    StableHlo.TRef.unary (.of main_while1b_v108 : StableHlo.TRef sig ⟨S1x64x4x256, .f32⟩) (.of main_while1b_call13_v0 : StableHlo.TRef sig ⟨S1x1x64x4x256, .f32⟩) (broadcastInDim S1x1x64x4x256 ![1, 2, 3, 4] bcast_S1x64x4x256_S1x1x64x4x256_1_2_3_4),
    StableHlo.TRef.nullary (.of main_while1b_call13_c : StableHlo.TRef sig ⟨S_, .i32⟩) (constantI S_ 32 0#32),
    StableHlo.TRef.nullary (.of main_while1b_call13_c_0 : StableHlo.TRef sig ⟨S_, .i32⟩) (constantI S_ 32 0#32),
    StableHlo.TRef.nullary (.of main_while1b_call13_c_1 : StableHlo.TRef sig ⟨S_, .i32⟩) (constantI S_ 32 0#32),
    StableHlo.TRef.nullary (.of main_while1b_call13_c_2 : StableHlo.TRef sig ⟨S_, .i32⟩) (constantI S_ 32 0#32),
    StableHlo.TRef.binaryIndexed (.of main_v80_12 : StableHlo.TRef sig ⟨S64x1x64x4x256, .f32⟩) (.of main_while1b_call13_v0 : StableHlo.TRef sig ⟨S1x1x64x4x256, .f32⟩) ![(.of main_while1b_v101 : StableHlo.TRef sig ⟨S_, .i32⟩), (.of main_while1b_call13_c : StableHlo.TRef sig ⟨S_, .i32⟩), (.of main_while1b_call13_c_0 : StableHlo.TRef sig ⟨S_, .i32⟩), (.of main_while1b_call13_c_1 : StableHlo.TRef sig ⟨S_, .i32⟩), (.of main_while1b_call13_c_2 : StableHlo.TRef sig ⟨S_, .i32⟩)] (.of main_while1b_v125 : StableHlo.TRef sig ⟨S64x1x64x4x256, .f32⟩) (fun x u i => Host.dynamicUpdateSlice x u (fun k => (i k (Shape.Idx.first h_S_)).toInt) updateFits_S64x1x64x4x256_S1x1x64x4x256),
    nullary main_while1b_c_28 (constantI S_ 32 1#32),
    binary main_v80_8 main_while1b_c_28 main_while1b_v126 (addi : T F S_ .i32 → T F S_ .i32 → T F S_ .i32),
    unary main_while1b_v126 main_v80_8 id,
    unary main_while1b_v122 main_v80_9 id,
    unary main_while1b_v123 main_v80_10 id,
    unary main_while1b_v124 main_v80_11 id,
    unary main_while1b_v125 main_v80_12 id ]

theorem body1_sub : (body1Ops : List (HloOp τ sig (Elt F))).Forall fun op => op.bufs ⊆ StableHlo.tcRefs τ sig := by
  simp [List.Forall, unary_bufs_sub, binary_bufs_sub, nullary_bufs_sub, reshape_bufs_sub, unaryIndexed_bufs_sub, binaryIndexed_bufs_sub]

/-- The operations after the second loop. -/
abbrev postOps : List (HloOp τ sig (Elt F)) :=
  [ unary main_v80_12 main_v81 ((transpose S1x64x64x4x256 [1, 0, 2, 3, 4] · transposes_S64x1x64x4x256_S1x64x64x4x256_1_0_2_3_4) : T F S64x1x64x4x256 .f32 → T F S1x64x64x4x256 .f32),
    unary main_v80_11 main_v82 ((transpose S1x64x64x4x256 [1, 0, 2, 3, 4] · transposes_S64x1x64x4x256_S1x64x64x4x256_1_0_2_3_4) : T F S64x1x64x4x256 .f32 → T F S1x64x64x4x256 .f32),
    unary main_v80_10 main_v83 ((transpose S1x64x64x4x256 [1, 0, 2, 3, 4] · transposes_S64x1x64x4x256_S1x64x64x4x256_1_0_2_3_4) : T F S64x1x64x4x256 .f32 → T F S1x64x64x4x256 .f32),
    unary main_v74 main_v84 ((transpose S1x64x4x256x64 [0, 1, 3, 4, 2] · transposes_S1x64x64x4x256_S1x64x4x256x64_0_1_3_4_2) : T F S1x64x64x4x256 .f32 → T F S1x64x4x256x64 .f32),
    binary main_v84 main_v6 main_v85 ((fun l r => Host.dotGeneral dot_S1x64x4x256x64_S1x64x64x4x256_S1x64x4x64x64_3_4_4_2_012_013 none l r) : T F S1x64x4x256x64 .f32 → T F S1x64x64x4x256 .f32 → T F S1x64x4x64x64 .f32),
    binary main_v84 main_v31 main_v86 ((fun l r => Host.dotGeneral dot_S1x64x4x256x64_S1x64x4x64x64_S1x64x4x256x64_4_3_3_4_012_012 none l r) : T F S1x64x4x256x64 .f32 → T F S1x64x4x64x64 .f32 → T F S1x64x4x256x64 .f32),
    unary main_v86 main_v87 ((transpose S1x64x64x4x256 [0, 1, 4, 2, 3] · transposes_S1x64x4x256x64_S1x64x64x4x256_0_1_4_2_3) : T F S1x64x4x256x64 .f32 → T F S1x64x64x4x256 .f32),
    binary main_v81 main_v87 main_v88 (addf : T F S1x64x64x4x256 .f32 → T F S1x64x64x4x256 .f32 → T F S1x64x64x4x256 .f32),
    unary main_v29 main_v89 (broadcastInDim S1x64x4x64x64 ![0, 1, 2, 3, 4] bcast_S1x1x4x64x64_S1x64x4x64x64_0_1_2_3_4 : T F S1x1x4x64x64 .f32 → T F S1x64x4x64x64 .f32),
    binary main_v85 main_v89 main_v90 (mulf : T F S1x64x4x64x64 .f32 → T F S1x64x4x64x64 .f32 → T F S1x64x4x64x64 .f32),
    binary main_v90 main_v4 main_v91 ((fun l r => Host.dotGeneral dot_S1x64x4x64x64_S1x64x64x4x256_S1x64x4x64x256_3_2_4_4_012_013 none l r) : T F S1x64x4x64x64 .f32 → T F S1x64x64x4x256 .f32 → T F S1x64x4x64x256 .f32),
    unary main_v91 main_v92 ((transpose S1x64x64x4x256 [0, 1, 3, 2, 4] · transposes_S1x64x4x64x256_S1x64x64x4x256_0_1_3_2_4) : T F S1x64x4x64x256 .f32 → T F S1x64x64x4x256 .f32),
    binary main_v82 main_v92 main_v93 (addf : T F S1x64x64x4x256 .f32 → T F S1x64x64x4x256 .f32 → T F S1x64x64x4x256 .f32),
    binary main_v90 main_v5 main_v94 ((fun l r => Host.dotGeneral dot_S1x64x4x64x64_S1x64x64x4x256_S1x64x4x64x256_4_2_3_4_012_013 none l r) : T F S1x64x4x64x64 .f32 → T F S1x64x64x4x256 .f32 → T F S1x64x4x64x256 .f32),
    unary main_v94 main_v95 ((transpose S1x64x64x4x256 [0, 1, 3, 2, 4] · transposes_S1x64x4x64x256_S1x64x64x4x256_0_1_3_2_4) : T F S1x64x4x64x256 .f32 → T F S1x64x64x4x256 .f32),
    binary main_v83 main_v95 main_v96 (addf : T F S1x64x64x4x256 .f32 → T F S1x64x64x4x256 .f32 → T F S1x64x64x4x256 .f32),
    reshape main_v88 main_v97 (rfl : (.f32 : EltTy) = .f32) shapeCasts_S1x64x64x4x256_S4096x1024,
    reshape main_v93 main_v98 (rfl : (.f32 : EltTy) = .f32) shapeCasts_S1x64x64x4x256_S4096x1024,
    reshape main_v96 main_v99 (rfl : (.f32 : EltTy) = .f32) shapeCasts_S1x64x64x4x256_S4096x1024 ]

theorem post_sub : (postOps : List (HloOp τ sig (Elt F))).Forall fun op => op.bufs ⊆ StableHlo.tcRefs τ sig := by
  simp [List.Forall, unary_bufs_sub, binary_bufs_sub, nullary_bufs_sub, reshape_bufs_sub, unaryIndexed_bufs_sub, binaryIndexed_bufs_sub]

/-- What the loops' conditions compute. -/
abbrev cond0Ops : List (HloOp τ sig (Elt F)) :=
  [ nullary main_while0c_c_24 (constantI S_ 32 64#32),
    binary main_v67_6 main_while0c_c_24 main_while0c_v100 (cmpi .slt : T F S_ .i32 → T F S_ .i32 → T F S_ .i1) ]
abbrev cond1Ops : List (HloOp τ sig (Elt F)) :=
  [ nullary main_while1c_c_26 (constantI S_ 32 64#32),
    binary main_v80_8 main_while1c_c_26 main_while1c_v100 (cmpi .slt : T F S_ .i32 → T F S_ .i32 → T F S_ .i1) ]

set_option maxHeartbeats 4000000 in
theorem body0_eq : (main_while0_body (F := F)) = Pipeline.chain ([body0Ops].map fun ops => (StableHlo.seq ops : Prog _ PUnit)) := by
  simp only [List.map_cons, List.map_nil]
  rw [StableHlo.chain_seq_cons]
  chain_rfl

set_option maxHeartbeats 4000000 in
theorem body1_eq : (main_while1_body (F := F)) = Pipeline.chain ([body1Ops].map fun ops => (StableHlo.seq ops : Prog _ PUnit)) := by
  simp only [List.map_cons, List.map_nil]
  rw [StableHlo.chain_seq_cons]
  chain_rfl

set_option maxHeartbeats 4000000 in
theorem part0_eq (c : Dev nD) : main_part0 (F := F) c = Pipeline.chain [StableHlo.seq pre0Ops] := by
  rw [StableHlo.chain_seq_cons]
  chain_rfl

set_option maxHeartbeats 4000000 in
theorem part1_eq (c : Dev nD) : main_part1 (F := F) c = Pipeline.chain [StableHlo.seq pre1Ops, HostLoop.enter 0, StableHlo.seq midOps] := by
  rw [StableHlo.chain_seq_cons, Pipeline.chain_cons, StableHlo.chain_seq_cons]
  chain_rfl

set_option maxHeartbeats 4000000 in
theorem part2_eq (c : Dev nD) : main_part2 (F := F) c = Pipeline.chain [HostLoop.enter 1, StableHlo.seq postOps] := by
  rw [Pipeline.chain_cons, StableHlo.chain_seq_cons]
  chain_rfl

theorem main_eq (c : Dev nD) : main (F := F) c = Pipeline.chain
    [StableHlo.seq pre0Ops, StableHlo.seq pre1Ops, HostLoop.enter 0, StableHlo.seq midOps, HostLoop.enter 1, StableHlo.seq postOps] := by
  unfold main
  rw [part0_eq, part1_eq, part2_eq]
  simp only [Pipeline.chain, Pipeline.chainK, bind_assoc, pure_bind, bind_pure_unit]

end Cert.RetRef

end
-- ==== Proof.RefTrip0.lean ====
/- One trip of the reference's first loop over the extended reals: chunk `k` adds its keys and values to the running state. -/
module

public import proofs.«01_k».proof.Proof.RefOps
public import proofs.«01_k».proof.Proof.Gradient
public import proofs.«01_k».proof.Proof.LogDecay
public import Idealize.ShloMosaic.Lib.Claim
public import Idealize.ShloMosaic.Lib.Pointwise
public import Idealize.ShloMosaic.Lib.StableHlo.RunRead
public import Idealize.ShloMosaic.Lib.StableHlo.RunClose
public import Idealize.ShloMosaic.PureOps.Ideal.Laws

@[expose] public section

set_option maxRecDepth 16384

noncomputable section

namespace Cert.RetRef

open Idealize.ShloMosaic Idealize.ShloMosaic.TcCoe Idealize.ShloMosaic.Tactic
open Cert.ReferenceIdeal Cert.ReferenceIdeal.Gen Cert.RetBwd
open Idealize.ShloMosaic.StableHlo (after)
open Finset (range)

/-- The state after the first `k` chunks, head `h`: each chunk scales it by the decay of 64 rows and adds its keys, each with the
    decay to the chunk's last row, times its values. -/
def St (K V : ℕ → ℕ → ℝ) : ℕ → ℕ → ℕ → ℕ → ℝ
  | 0, _, _, _ => 0
  | k + 1, h, d, e => St K V k h d e * Real.exp (lgR h * 64)
      + ∑ j ∈ range 64, K (64 * k + j) (256 * h + d) * Real.exp (lgR h * (63 - j)) * V (64 * k + j) (256 * h + e)

theorem toInt_small (k : ℕ) (hk : k < 2 ^ 31) : (BitVec.ofNat 32 k).toInt = k := by
  rw [BitVec.toInt_ofNat']
  have : ((k : ℤ)).bmod (2 ^ 32) = k := by
    rw [Int.bmod_def]; split_ifs <;> omega
  exact this

/-- Reading chunk `k` off a stack of 64 chunks; -/
theorem slice_chunk {α : Type} {a b c : ℕ} (x : (⟨5, ![64, 1, a, b, c]⟩ : Shape).Idx → α) (st : Fin 5 → ℤ)
    (hf : (⟨5, ![64, 1, a, b, c]⟩ : Shape).Slices (fun _ => 0) ⟨5, ![1, 1, a, b, c]⟩) (k : Fin 64) (hst : st 0 = (k.val : ℤ))
    (w z : Fin 1) (i : Fin a) (j : Fin b) (l : Fin c) :
    Host.dynamicSlice ⟨5, ![1, 1, a, b, c]⟩ x st hf (ix5 w z i j l) = x (ix5 k z i j l) := by
  rw [Host.dynamicSlice_apply]
  congr 1
  have h0 : Host.clampedStart ⟨5, ![64, 1, a, b, c]⟩ ⟨5, ![1, 1, a, b, c]⟩ hf.1 st 0 = k.val :=
    Host.clampedStart_of_le hf.1 st 0 k.val hst (by show k.val + 1 ≤ 64; omega)
  funext q
  apply Fin.ext
  fin_cases q
  · show Host.clampedStart _ _ hf.1 st 0 + w.val = k.val
    rw [h0]; omega
  · show Host.clampedStart _ _ hf.1 st 1 + z.val = z.val
    unfold Host.clampedStart
    show (min (max (st 1) 0) ((1 - 1 : ℕ) : ℤ)).toNat + _ = _
    omega
  · show Host.clampedStart _ _ hf.1 st 2 + i.val = i.val
    unfold Host.clampedStart
    show (min (max (st 2) 0) ((a - a : ℕ) : ℤ)).toNat + _ = _
    omega
  · show Host.clampedStart _ _ hf.1 st 3 + j.val = j.val
    unfold Host.clampedStart
    show (min (max (st 3) 0) ((b - b : ℕ) : ℤ)).toNat + _ = _
    omega
  · show Host.clampedStart _ _ hf.1 st 4 + l.val = l.val
    unfold Host.clampedStart
    show (min (max (st 4) 0) ((c - c : ℕ) : ℤ)).toNat + _ = _
    omega

theorem updateSlice_at {α : Type} {s u : Shape} (x : s.Idx → α) (upd : u.Idx → α) (start : Fin s.rank → ℤ)
    (h : s.Slices (fun _ => 0) u) (i : s.Idx) (y : u.Idx)
    (hy : ∀ a : Fin s.rank, (i a).val = Host.clampedStart s u h.1 start a + (y (a.cast h.1.symm)).val) :
    Host.dynamicUpdateSlice x upd start h i = upd y := by
  rw [Host.dynamicUpdateSlice_apply, dif_pos fun a => by
    have := hy a
    have := (y (a.cast h.1.symm)).isLt
    omega]
  congr 1
  funext b
  apply Fin.ext
  have := hy (b.cast h.1)
  have e : (b.cast h.1).cast h.1.symm = b := rfl
  rw [e] at this
  show (i (b.cast h.1)).val - Host.clampedStart s u h.1 start (b.cast h.1) = (y b).val
  omega

/-- writing chunk `k` of it: that chunk reads the new one, -/
theorem update_chunk {α : Type} {a b c : ℕ} (x : (⟨5, ![64, 1, a, b, c]⟩ : Shape).Idx → α) (u : (⟨5, ![1, 1, a, b, c]⟩ : Shape).Idx → α)
    (st : Fin 5 → ℤ) (hf : (⟨5, ![64, 1, a, b, c]⟩ : Shape).Slices (fun _ => 0) ⟨5, ![1, 1, a, b, c]⟩) (k : Fin 64) (hst : st 0 = (k.val : ℤ))
    (z : Fin 1) (i : Fin a) (j : Fin b) (l : Fin c) :
    Host.dynamicUpdateSlice x u st hf (ix5 k z i j l) = u (ix5 0 z i j l) := by
  have h0 : Host.clampedStart ⟨5, ![64, 1, a, b, c]⟩ ⟨5, ![1, 1, a, b, c]⟩ hf.1 st 0 = k.val :=
    Host.clampedStart_of_le hf.1 st 0 k.val hst (by show k.val + 1 ≤ 64; omega)
  refine updateSlice_at x u st hf _ _ fun q => ?_
  fin_cases q
  · show k.val = Host.clampedStart _ _ hf.1 st 0 + 0
    rw [h0]; omega
  · show z.val = Host.clampedStart _ _ hf.1 st 1 + z.val
    unfold Host.clampedStart
    show _ = (min (max (st 1) 0) ((1 - 1 : ℕ) : ℤ)).toNat + _
    omega
  · show i.val = Host.clampedStart _ _ hf.1 st 2 + i.val
    unfold Host.clampedStart
    show _ = (min (max (st 2) 0) ((a - a : ℕ) : ℤ)).toNat + _
    omega
  · show j.val = Host.clampedStart _ _ hf.1 st 3 + j.val
    unfold Host.clampedStart
    show _ = (min (max (st 3) 0) ((b - b : ℕ) : ℤ)).toNat + _
    omega
  · show l.val = Host.clampedStart _ _ hf.1 st 4 + l.val
    unfold Host.clampedStart
    show _ = (min (max (st 4) 0) ((c - c : ℕ) : ℤ)).toNat + _
    omega

/-- and every other chunk what it held. -/
theorem update_other {α : Type} {a b c : ℕ} (x : (⟨5, ![64, 1, a, b, c]⟩ : Shape).Idx → α) (u : (⟨5, ![1, 1, a, b, c]⟩ : Shape).Idx → α)
    (st : Fin 5 → ℤ) (hf : (⟨5, ![64, 1, a, b, c]⟩ : Shape).Slices (fun _ => 0) ⟨5, ![1, 1, a, b, c]⟩) (k : Fin 64) (hst : st 0 = (k.val : ℤ))
    (t : Fin 64) (ht : t ≠ k) (z : Fin 1) (i : Fin a) (j : Fin b) (l : Fin c) :
    Host.dynamicUpdateSlice x u st hf (ix5 t z i j l) = x (ix5 t z i j l) := by
  have h0 : Host.clampedStart ⟨5, ![64, 1, a, b, c]⟩ ⟨5, ![1, 1, a, b, c]⟩ hf.1 st 0 = k.val :=
    Host.clampedStart_of_le hf.1 st 0 k.val hst (by show k.val + 1 ≤ 64; omega)
  rw [Host.dynamicUpdateSlice_apply, dif_neg fun h => ht ?_]
  have h1 : Host.clampedStart _ _ hf.1 st 0 ≤ t.val ∧ t.val < Host.clampedStart _ _ hf.1 st 0 + 1 := h 0
  apply Fin.ext
  rw [h0] at h1
  omega

/-- What the first loop's carried buffers hold before trip `k`. -/
structure Inv0 (K V : ℕ → ℕ → ℝ) (k : ℕ) (X : Valuation τ sig (Elt Ideal)) : Prop where
  ctr : X main_v67_6 = fun _ => (BitVec.ofNat 32 k : BitVec 32)
  kk : ∀ (c : Fin 64) (z : Fin 1) (l : Fin 64) (h : Fin 4) (d : Fin 256),
    (X main_v67_1 : FVec Ideal S64x1x64x4x256 .f32) (ix5 c z l h d) = ((K (64 * c.val + l.val) (256 * h.val + d.val) : ℝ) : EReal)
  vv : ∀ (c : Fin 64) (z : Fin 1) (l : Fin 64) (h : Fin 4) (d : Fin 256),
    (X main_v67_2 : FVec Ideal S64x1x64x4x256 .f32) (ix5 c z l h d) = ((V (64 * c.val + l.val) (256 * h.val + d.val) : ℝ) : EReal)
  cd : ∀ (z : Fin 1) (h : Fin 4) (z' z'' : Fin 1),
    (X main_v67_3 : FVec Ideal S1x4x1x1 .f32) (ix4 z h z' z'') = ((Real.exp (lgR h.val * 64) : ℝ) : EReal)
  kd : ∀ (z : Fin 1) (l : Fin 64) (h : Fin 4) (z' : Fin 1),
    (X main_v67_4 : FVec Ideal S1x64x4x1 .f32) (ix4 z l h z') = ((Real.exp (lgR h.val * (63 - l.val)) : ℝ) : EReal)
  st : ∀ (z : Fin 1) (h : Fin 4) (d e : Fin 256),
    (X main_v67_7 : FVec Ideal S1x4x256x256 .f32) (ix4 z h d e) = ((St K V k h.val d.val e.val : ℝ) : EReal)
  stS : ∀ (c : Fin 64), c.val < k → ∀ (z : Fin 1) (h : Fin 4) (d e : Fin 256),
    (X main_v67_9 : FVec Ideal S64x1x4x256x256 .f32) (ix5 c z h d e) = ((St K V c.val h.val d.val e.val : ℝ) : EReal)
  stK : ∀ (c : Fin 64), c.val < k → ∀ (z : Fin 1) (l : Fin 64) (h : Fin 4) (d : Fin 256),
    (X main_v67_10 : FVec Ideal S64x1x64x4x256 .f32) (ix5 c z l h d)
      = ((K (64 * c.val + l.val) (256 * h.val + d.val) * Real.exp (lgR h.val * (63 - l.val)) : ℝ) : EReal)

variable {K V : ℕ → ℕ → ℝ} {k : ℕ} {X : Valuation τ sig (Elt Ideal)}

/-- After the trip the state has one chunk more, -/
theorem Inv0.st_step (I : Inv0 K V k X) (hk : k < 64) (z : Fin 1) (h : Fin 4) (d e : Fin 256) :
    (after body0Ops (after cond0Ops X) main_v67_7 : FVec Ideal S1x4x256x256 .f32) (ix4 z h d e)
      = ((St K V (k + 1) h.val d.val e.val : ℝ) : EReal) := by
  obtain rfl : z = 0 := Subsingleton.elim _ _
  after_reads_simp [StableHlo.unaryIndexed_result_read, StableHlo.binaryIndexed_result_read, StableHlo.indexContents_tref_cons, StableHlo.indexContents_tref_empty]
  rw [I.ctr]
  simp only [id_eq, StableHlo.TRef.toBuf, StableHlo.TRef.ofBuf, cast_cast, cast_eq]
  generalize hx : Host.dynamicSlice _ _ _ _ = x
  have hx' : ∀ (l : Fin 64) (h : Fin 4) (d : Fin 256), x (ix5 0 0 l h d) = ((K (64 * k + l.val) (256 * h.val + d.val) : ℝ) : EReal) := fun l h d => by
    rw [← hx]
    exact (slice_chunk _ _ _ ⟨k, hk⟩ (toInt_small k (by omega)) 0 0 l h d).trans (I.kk ⟨k, hk⟩ 0 l h d)
  clear hx
  generalize hy : Host.dynamicSlice _ _ _ _ = y
  have hy' : ∀ (l : Fin 64) (h : Fin 4) (d : Fin 256), y (ix5 0 0 l h d) = ((V (64 * k + l.val) (256 * h.val + d.val) : ℝ) : EReal) := fun l h d => by
    rw [← hy]
    exact (slice_chunk _ _ _ ⟨k, hk⟩ (toInt_small k (by omega)) 0 0 l h d).trans (I.vv ⟨k, hk⟩ 0 l h d)
  clear hy
  pointwise
  rw [St, EReal.coe_add, EReal.coe_mul]
  congr 1
  · exact congrArg₂ (· * ·) (I.st 0 h d e) (I.cd 0 h 0 0)
  · refine sum_fin' 64 _ _ fun l => ?_
    rw [hx', hy', EReal.coe_mul, EReal.coe_mul]
    exact congrArg (_ * · * _) (I.kd 0 l h 0)

/-- the stack of states holds the state before it, -/
theorem Inv0.stS_step (I : Inv0 K V k X) (hk : k < 64) (c : Fin 64) (hc : c.val < k + 1) (z : Fin 1) (h : Fin 4) (d e : Fin 256) :
    (after body0Ops (after cond0Ops X) main_v67_9 : FVec Ideal S64x1x4x256x256 .f32) (ix5 c z h d e) = ((St K V c.val h.val d.val e.val : ℝ) : EReal) := by
  obtain rfl : z = 0 := Subsingleton.elim _ _
  after_reads_simp [StableHlo.unaryIndexed_result_read, StableHlo.binaryIndexed_result_read, StableHlo.indexContents_tref_cons, StableHlo.indexContents_tref_empty]
  rw [I.ctr]
  simp only [id_eq, StableHlo.TRef.toBuf, StableHlo.TRef.ofBuf, cast_cast, cast_eq]
  by_cases hck : c.val = k
  · obtain rfl : c = ⟨k, hk⟩ := Fin.ext hck
    refine (update_chunk _ _ _ _ ⟨k, hk⟩ (toInt_small k (by omega)) _ _ _ _).trans ?_
    pointwise
    exact I.st 0 h d e
  · exact (update_other _ _ _ _ ⟨k, hk⟩ (toInt_small k (by omega)) _ (fun h => hck (congrArg Fin.val h)) _ _ _ _).trans (I.stS c (by omega) 0 h d e)

/-- and the stack of decayed keys the chunk's. -/
theorem Inv0.stK_step (I : Inv0 K V k X) (hk : k < 64) (c : Fin 64) (hc : c.val < k + 1) (z : Fin 1) (l : Fin 64) (h : Fin 4) (d : Fin 256) :
    (after body0Ops (after cond0Ops X) main_v67_10 : FVec Ideal S64x1x64x4x256 .f32) (ix5 c z l h d)
      = ((K (64 * c.val + l.val) (256 * h.val + d.val) * Real.exp (lgR h.val * (63 - l.val)) : ℝ) : EReal) := by
  obtain rfl : z = 0 := Subsingleton.elim _ _
  after_reads_simp [StableHlo.unaryIndexed_result_read, StableHlo.binaryIndexed_result_read, StableHlo.indexContents_tref_cons, StableHlo.indexContents_tref_empty]
  rw [I.ctr]
  simp only [id_eq, StableHlo.TRef.toBuf, StableHlo.TRef.ofBuf, cast_cast, cast_eq]
  by_cases hck : c.val = k
  · obtain rfl : c = ⟨k, hk⟩ := Fin.ext hck
    refine (update_chunk _ _ _ _ ⟨k, hk⟩ (toInt_small k (by omega)) _ _ _ _).trans ?_
    generalize hx : Host.dynamicSlice _ _ _ _ = x
    have hx' : x (ix5 0 0 l h d) = ((K (64 * k + l.val) (256 * h.val + d.val) : ℝ) : EReal) := by
      rw [← hx]
      exact (slice_chunk _ _ _ ⟨k, hk⟩ (toInt_small k (by omega)) 0 0 l h d).trans (I.kk ⟨k, hk⟩ 0 l h d)
    clear hx
    pointwise
    rw [hx', EReal.coe_mul]
    exact congrArg (_ * ·) (I.kd 0 l h 0)
  · exact (update_other _ _ _ _ ⟨k, hk⟩ (toInt_small k (by omega)) _ (fun h => hck (congrArg Fin.val h)) _ _ _ _).trans (I.stK c (by omega) 0 l h d)

theorem Inv0.step (I : Inv0 K V k X) (hk : k < 64) : Inv0 K V (k + 1) (after body0Ops (after cond0Ops X)) where
  ctr := by
    after_reads_simp [StableHlo.unaryIndexed_result_read, StableHlo.binaryIndexed_result_read, StableHlo.indexContents_tref_cons, StableHlo.indexContents_tref_empty]
    rw [I.ctr]
    simp only [id_eq, StableHlo.TRef.toBuf, StableHlo.TRef.ofBuf, cast_cast, cast_eq]
    funext i
    show BitVec.ofNat 32 k + 1#32 = BitVec.ofNat 32 (k + 1)
    rw [BitVec.ofNat_add]
  kk := by after_reads_simp; exact I.kk
  vv := by after_reads_simp; exact I.vv
  cd := by after_reads_simp; exact I.cd
  kd := by after_reads_simp; exact I.kd
  st := I.st_step hk
  stS := I.stS_step hk
  stK := I.stK_step hk

end Cert.RetRef

end
-- ==== Proof.RefRun.lean ====
/- The reference's run: it ends, every counter reads zero, and each buffer holds what its operations leave, 64 trips of
   each of the two loops included. -/
module

public import proofs.«01_k».proof.Proof.RefOps
public import Idealize.ShloMosaic.Lib.StableHlo.RunLoop
public import Idealize.ShloMosaic.Lib.Claim
public import Idealize.ShloMosaic.Lib.Scf.ExitTest

@[expose] public section

set_option maxRecDepth 16384

noncomputable section

namespace Cert.RetRef

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after held afterL Plain atTrip segsOf loopSeg CondSpec LoopCond launchContents)
open Idealize.ShloMosaic.Pipeline (CSeg Ticket ucRefs sub_ucRefs)

variable {F : FTy → Type} [FloatOps F]

local notation "𝕄" => MT nD τ sig Unit (Elt F) ℕ (Option PUnit) ℕ

/-! ## The loop counters -/

/-- One trip of the first loop, from any contents, raises the counter by one; -/
theorem ctr_body0 (X : Valuation τ sig (Elt F)) :
    after body0Ops (after cond0Ops X) main_v67_6 = addi (X main_v67_6) (constantI S_ 32 1#32) := by
  entry_read; rfl

/-- so does one of the second. -/
theorem ctr_body1 (X : Valuation τ sig (Elt F)) :
    after body1Ops (after cond1Ops X) main_v80_8 = addi (X main_v80_8) (constantI S_ 32 1#32) := by
  entry_read; rfl

/-- Before the `k`-th condition the first loop's counter is `k`; -/
theorem ctr0 (W : Dev nD → Valuation τ sig (Elt F)) (c : Dev nD) (h0 : W c main_v67_6 = fun _ => (0#32 : BitVec 32)) :
    ∀ k, atTrip cond0Ops [body0Ops] W k c main_v67_6 = fun _ => (BitVec.ofNat 32 k : BitVec 32)
  | 0 => h0
  | k + 1 => by
    show after body0Ops (after cond0Ops (atTrip (cond0Ops (F := F)) [body0Ops] W k c)) main_v67_6 = _
    rw [ctr_body0, ctr0 W c h0 k]
    funext i
    show BitVec.ofNat 32 k + 1#32 = BitVec.ofNat 32 (k + 1)
    rw [BitVec.ofNat_add]

/-- and the second's. -/
theorem ctr1 (W : Dev nD → Valuation τ sig (Elt F)) (c : Dev nD) (h0 : W c main_v80_8 = fun _ => (0#32 : BitVec 32)) :
    ∀ k, atTrip cond1Ops [body1Ops] W k c main_v80_8 = fun _ => (BitVec.ofNat 32 k : BitVec 32)
  | 0 => h0
  | k + 1 => by
    show after body1Ops (after cond1Ops (atTrip (cond1Ops (F := F)) [body1Ops] W k c)) main_v80_8 = _
    rw [ctr_body1, ctr1 W c h0 k]
    funext i
    show BitVec.ofNat 32 k + 1#32 = BitVec.ofNat 32 (k + 1)
    rw [BitVec.ofNat_add]

/-- Up to 64 the comparison reads `1` exactly while `k < 64`. -/
theorem pred_iff (k : ℕ) (hk : k ≤ 64) : IntOp.cmpi .slt (BitVec.ofNat 32 k) 64#32 = 1#1 ↔ k < 64 := by
  have h : ∀ k : Fin 65, IntOp.cmpi .slt (BitVec.ofNat 32 k.1) 64#32 = 1#1 ↔ k.1 < 64 := by decide
  exact h ⟨k, by omega⟩

/-! ## The buffers' contents from stretch to stretch -/

variable (m : (ℓ : Loc nD τ sig) → Buf (Elt F) ℓ)

/-- At the first loop's entry, -/
def W0 (c : Dev nD) : Valuation τ sig (Elt F) := afterL [pre0Ops, pre1Ops] (launchContents m c)
/-- before trip `k` of it, -/
def A0 (k : ℕ) (c : Dev nD) : Valuation τ sig (Elt F) := atTrip cond0Ops [body0Ops] (W0 m) k c
/-- at the second loop's entry, -/
def W1 (c : Dev nD) : Valuation τ sig (Elt F) := afterL [midOps] (after cond0Ops (A0 m 64 c))
/-- before trip `k` of that, -/
def A1 (k : ℕ) (c : Dev nD) : Valuation τ sig (Elt F) := atTrip cond1Ops [body1Ops] (W1 m) k c
/-- and at the end. -/
def WF (c : Dev nD) : Valuation τ sig (Elt F) := afterL [postOps] (after cond1Ops (A1 m 64 c))

theorem pre1_ctr (X : Valuation τ sig (Elt F)) : after pre1Ops X main_v67_6 = fun _ => (0#32 : BitVec 32) := by
  entry_read; rfl
theorem mid_ctr (X : Valuation τ sig (Elt F)) : after midOps X main_v80_8 = fun _ => (0#32 : BitVec 32) := by
  entry_read; rfl

theorem A0_ctr (k : ℕ) (c : Dev nD) : A0 m k c main_v67_6 = fun _ => (BitVec.ofNat 32 k : BitVec 32) :=
  ctr0 (W0 m) c (pre1_ctr (after pre0Ops (launchContents m c))) k
theorem A1_ctr (k : ℕ) (c : Dev nD) : A1 m k c main_v80_8 = fun _ => (BitVec.ofNat 32 k : BitVec 32) :=
  ctr1 (W1 m) c (mid_ctr (after cond0Ops (A0 m 64 c))) k

/-! ## The conditions -/

set_option backward.isDefEq.respectTransparency.types false in
/-- The first loop's condition reads `1` exactly before the trips. -/
theorem cond0_spec : CondSpec pcfgs defs₀ loops (main_while0_cond (F := F)) cond0Ops [body0Ops] (W0 m) 64 := fun k hk c bd => by
  have hctr : atTrip cond0Ops [body0Ops] (W0 m) k c main_v67_6 = _ := A0_ctr m k c
  unfold main_while0_cond
  rw [wp_bind]
  iintro ⟨Hb, Hh⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cond0Ops [body0Ops] (W0 m) k c) main_v67_6 HostLoop.idx0)
        (HloOp.result _ (atTrip cond0Ops [body0Ops] (W0 m) k c) main_while0c_c_24 HostLoop.idx0) = 1#1) (k < 64)
    rw [StableHlo.nullary_result_ne _ _ _ _ (by decide), StableHlo.nullary_result, hctr]
    exact pred_iff k hk
  isplitl [Hb]; · iexact Hb
  rw [StableHlo.after_cons, StableHlo.after_cons, StableHlo.after_nil]; iexact Hh

set_option backward.isDefEq.respectTransparency.types false in
/-- So does the second's. -/
theorem cond1_spec : CondSpec pcfgs defs₀ loops (main_while1_cond (F := F)) cond1Ops [body1Ops] (W1 m) 64 := fun k hk c bd => by
  have hctr : atTrip cond1Ops [body1Ops] (W1 m) k c main_v80_8 = _ := A1_ctr m k c
  unfold main_while1_cond
  rw [wp_bind]
  iintro ⟨Hb, Hh⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cond1Ops [body1Ops] (W1 m) k c) main_v80_8 HostLoop.idx0)
        (HloOp.result _ (atTrip cond1Ops [body1Ops] (W1 m) k c) main_while1c_c_26 HostLoop.idx0) = 1#1) (k < 64)
    rw [StableHlo.nullary_result_ne _ _ _ _ (by decide), StableHlo.nullary_result, hctr]
    exact pred_iff k hk
  isplitl [Hb]; · iexact Hb
  rw [StableHlo.after_cons, StableHlo.after_cons, StableHlo.after_nil]; iexact Hh

/-! ## The run -/

/-- No pipeline here, so nothing is admitted, no ticket is issued and no level is set. -/
abbrev adm : (p : Fin 0) → (pcfgs (F := F) p).Adm := fun p => p.elim0
abbrev tk : Fin 0 → Ticket (Ix := Unit) (Name := ℕ) (U := Option PUnit) (Lvl := ℕ) (nD := nD) (τ := τ) (pcfgs (F := F)) adm := fun j => j.elim0
abbrev L : GSem nD τ sig → Finset Unit := fun _ => ∅
abbrev lv : GSem nD τ sig → Unit → ℕ := fun _ _ => 0

theorem cellOf_injective : Function.Injective (Pipeline.cellOf (nD := nD) (τ := τ) (Pipeline.pin (pcfgs (F := F)) adm)) :=
  fun k => k.1.elim0

/-- What rides along beside the buffers. -/
abbrev Rw (F : FTy → Type) [FloatOps F] (c : Dev nD) : sProp (MT nD τ sig Unit (Elt F) ℕ (Option PUnit) ℕ) :=
  iprop(∃ W, owes (c : Thread nD τ) (0 : CellTallies nD τ sig Unit) W)

/-- A condition's specification with that beside it. -/
theorem loopCond {cond : Prog (TpuEff nD τ sig (Elt F) (HostLoop.Sig (Pipeline.Sig Λ₀ (Fin 0) fun p => (pcfgs (F := F) p).Adm) 2) .tc) (Elt F .i1)}
    {condOps : List (HloOp τ sig (Elt F))} {bodyI : List (List (HloOp τ sig (Elt F)))} {W₀ : Dev nD → Valuation τ sig (Elt F)} {n : ℕ}
    (hcond : CondSpec pcfgs defs₀ loops cond condOps bodyI W₀ n) :
    LoopCond pcfgs defs₀ Variants.none loops (Rw F) cond condOps bodyI W₀ n := fun k hk c bd => by
  have hc := hcond k hk c bd
  have hpost : ∀ v : Elt F .i1,
      iprop(iprop(⌜v = 1#1 ↔ k < n⌝ ∗ boundary (c : Thread nD τ) ∗ held (c : Thread nD τ) (ucRefs τ sig) (after condOps (atTrip condOps bodyI W₀ k c))) ∗ Rw F c)
        ⊢ iprop(⌜v = 1#1 ↔ k < n⌝ ∗ boundary (c : Thread nD τ) ∗ held (c : Thread nD τ) (ucRefs τ sig) (after condOps (atTrip condOps bodyI W₀ k c)) ∗ Rw F c) := fun v => by
    iintro ⟨⟨%hv, Hbd, Hh⟩, HR⟩
    isplitr; · ipureintro; exact hv
    isplitl [Hbd]; · iexact Hbd
    isplitl [Hh] <;> iassumption
  refine BIBase.Entails.trans ?_ (((sep_mono_left hc).trans (wp_frame_r _ _ _)).trans (wp_mono _ _ _ hpost))
  iintro ⟨Hbd, Hh, HR⟩
  isplitl [Hbd Hh]; · isplitl [Hbd] <;> iassumption
  iexact HR

theorem pre_plain : Plain [pre0Ops (F := F), pre1Ops] := .cons pre0_sub (.cons pre1_sub .nil)
theorem mid_plain : Plain [midOps (F := F)] := .cons mid_sub .nil
theorem post_plain : Plain [postOps (F := F)] := .cons post_sub .nil
theorem body0_plain : Plain [body0Ops (F := F)] := .cons body0_sub .nil
theorem body1_plain : Plain [body1Ops (F := F)] := .cons body1_sub .nil

/-- @main as segments: the stretch before the first loop, the loop, the stretch between, the second loop, the rest. -/
def segs : List (CSeg (pcfgs (F := F)) adm defs₀ Variants.none L lv loops tk) :=
  segsOf _ _ _ _ _ _ _ _ (Rw F) [pre0Ops, pre1Ops] pre_plain (launchContents m)
    ++ loopSeg _ _ _ _ _ _ _ _ 0 main_while0_cond main_while0_body rfl cond0Ops [body0Ops] body0_plain body0_eq 64 (W0 m) (Rw F) (loopCond (cond0_spec m))
      :: (segsOf _ _ _ _ _ _ _ _ (Rw F) [midOps] mid_plain (fun c => after cond0Ops (A0 m 64 c))
        ++ loopSeg _ _ _ _ _ _ _ _ 1 main_while1_cond main_while1_body rfl cond1Ops [body1Ops] body1_plain body1_eq 64 (W1 m) (Rw F) (loopCond (cond1_spec m))
          :: segsOf _ _ _ _ _ _ _ _ (Rw F) [postOps] post_plain (fun c => after cond1Ops (A1 m 64 c)))

theorem segs_prog : (segs m).map CSeg.prog
    = [StableHlo.seq pre0Ops, StableHlo.seq pre1Ops, HostLoop.enter 0, StableHlo.seq midOps, HostLoop.enter 1, StableHlo.seq (postOps (F := F))] := by
  unfold segs
  rw [List.map_append, List.map_cons, List.map_append, List.map_cons, StableHlo.segsOf_prog, StableHlo.segsOf_prog, StableHlo.segsOf_prog]
  rfl

theorem segs_chains :
    CSeg.Chains (fun c => iprop(held (c : Thread nD τ) (ucRefs τ sig) (launchContents m c) ∗ Rw F c)) (segs m)
      (fun c => iprop(iprop(held (c : Thread nD τ) (ucRefs τ sig) (WF m c)) ∗ ∃ W, owes (c : Thread nD τ) (0 : CellTallies nD τ sig Unit) W)) := by
  unfold segs
  exact CSeg.Chains.append (StableHlo.segsOf_chains _ _ _ _ _ _ _ _ (Rw F) _ pre_plain _)
    ⟨fun _ => .rfl, CSeg.Chains.append (StableHlo.segsOf_chains _ _ _ _ _ _ _ _ (Rw F) _ mid_plain _)
      ⟨fun _ => .rfl, StableHlo.segsOf_chains _ _ _ _ _ _ _ _ (Rw F) _ post_plain _⟩⟩

/-- The run of the reference: every buffer ends at `WF` and every counter at zero. -/
theorem run [∀ e, Nonempty (Elt F e)] (ρ : Dev nD → PrngReg) :
    θ_run defs (onTc (τ := τ) (main (F := F))) ⟨m, fun _ => 0, ρ⟩
      (fun r => (∀ (c : Dev nD) (b : Ref sig .tc), (Proc.devRef .tc b : DevRef τ sig).isScoped = false →
        r.2.mem ((c.tc : Thread nD τ).loc b) = WF m c (Proc.devRef .tc b)) ∧ r.2.sem = fun _ => 0) :=
  Pipeline.θ_run_regions_loop_kit_sems (Ix := Unit) (Name := ℕ) (U := Option PUnit) (Lvl := ℕ) (J := Fin 0) (P := Fin 0) (Val := Elt F)
    pcfgs adm cellOf_injective defs₀ Variants.none L lv loops tk m ρ main (segs m)
    (fun c Q => by
      rw [main_eq c]
      show wp _ _ _ (Pipeline.chain ((segs m).map CSeg.prog)) Q ⊢ _
      rw [segs_prog])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp (MT nD τ sig Unit (Elt F) ℕ (Option PUnit) ℕ)) ⊢ bigSep Finset.univ (fun _ : Dev nD => (BI.emp : sProp (MT nD τ sig Unit (Elt F) ℕ (Option PUnit) ℕ))) from by rw [BI.bigSep_emp_const])
        iempintro)
    (T₀ := fun c => iprop(held (c : Thread nD τ) (ucRefs τ sig) (launchContents m c) ∗ Rw F c))
    (Tₙ := fun c => iprop(held (c : Thread nD τ) (ucRefs τ sig) (WF m c)))
    (hch := segs_chains m)
    (hinit := by
      refine Pipeline.initEach L lv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = WF m c b)
    (hfin := fun c s' => by
      unfold held
      iintro ⟨Hh, HSI⟩
      ihave Hr := (pointsTo_read_all (ucRefs τ sig) (fun b => ((c : Dev nD), b)) (fun b => WF m c b) s') $$ [Hh HSI]
      · isplitl [Hh] <;> iassumption
      icases Hr with ⟨%h, HSI⟩
      imodintro
      isplitr; · ipureintro; exact h
      iexact HSI)
    (hQ := fun s h hs => ⟨fun c b hb => h c _ (StableHlo.devRef_mem_ucRefs b hb), by
      funext g
      refine hs g ?_
      obtain ⟨⟨c, p⟩, w⟩ := g
      by_cases hp : p = .tc
      · subst hp; right
        rcases w with s | s
        · exact s.elim0
        · exact s.elim0
      · left; exact hp⟩)

end Cert.RetRef

end
-- ==== Proof.RefEntry.lean ====
/- What the reference computes before its first loop, over the extended reals: the arguments by chunk and head, the decay
   tables, and the scores of each chunk with their decay. -/
module

public import proofs.«01_k».proof.Proof.RefTrip0
public import proofs.«01_k».proof.Proof.RefRun
public import proofs.«01_k».proof.Proof.LogDecay
public import proofs.«01_k».proof.Proof.KernelValue

@[expose] public section

set_option maxRecDepth 16384

noncomputable section

namespace Cert.RetRef

open Idealize.ShloMosaic Idealize.ShloMosaic.TcCoe Idealize.ShloMosaic.Tactic
open Cert.ReferenceIdeal Cert.ReferenceIdeal.Gen Cert.RetBwd
open Idealize.ShloMosaic.StableHlo (after afterL launchContents)
open Finset (range)

variable {Q K V G : ℕ → ℕ → ℝ} {X : Valuation τ sig (Elt Ideal)}

/-- The decay tables' entries: the exponential of the head's logarithm times a real number. -/
theorem exp_lg (h : Fin 4) (x : EReal) (r : ℝ) (hx : x = (r : EReal)) :
    Ideal.exp (lgE h.val * x) = ((Real.exp (lgR h.val * r) : ℝ) : EReal) := by
  rw [hx, lgE_real _ h.isLt, ← EReal.coe_mul]
  rfl

theorem word64 : Ideal.ofBits FTy.f32 1115684864#32 = ((64 : ℝ) : EReal) := by
  simp [Ideal.ofBits, Ideal.ieee]
  rw [← EReal.coe_mul]
  norm_num
theorem word63 : Ideal.ofBits FTy.f32 1115422720#32 = ((63 : ℝ) : EReal) := by
  simp [Ideal.ofBits, Ideal.ieee]
  rw [← EReal.coe_mul]
  norm_num

theorem row_real {x : FVec Ideal S4096x1024 .bf16} {A : ℕ → ℕ → ℝ} (hA : IsReal x A) (n : Fin 4096) (j : Fin 1024) (a b : ℕ)
    (hn : n.val = a) (hj : j.val = b) : x (ix2 n j) = ((A a b : ℝ) : EReal) := by
  subst hn hj; exact hA n j

/-! ## The arguments -/

theorem pre_v3 (hG : IsReal (X main_arg3 : FVec Ideal S4096x1024 .bf16) G) (n : Fin 4096) (j : Fin 1024) :
    (after pre1Ops (after pre0Ops X) main_v3 : FVec Ideal S4096x1024 .f32) (ix2 n j) = ((G n.val j.val : ℝ) : EReal) := by
  after_reads_simp
  pointwise
  exact hG n j

theorem pre_v4 (hA : IsReal (X main_arg0 : FVec Ideal S4096x1024 .bf16) Q) (z : Fin 1) (c : Fin 64) (l : Fin 64) (h : Fin 4) (d : Fin 256) :
    (after pre1Ops (after pre0Ops X) main_v4 : FVec Ideal S1x64x64x4x256 .f32) (ix5 z c l h d)
      = ((Q (64 * c.val + l.val) (256 * h.val + d.val) : ℝ) : EReal) := by
  after_reads_simp
  pointwise
  exact row_real hA _ _ _ _ (by simp only []; omega) (by simp only []; omega)

theorem pre_v5 (hA : IsReal (X main_arg1 : FVec Ideal S4096x1024 .bf16) K) (z : Fin 1) (c : Fin 64) (l : Fin 64) (h : Fin 4) (d : Fin 256) :
    (after pre1Ops (after pre0Ops X) main_v5 : FVec Ideal S1x64x64x4x256 .f32) (ix5 z c l h d)
      = ((K (64 * c.val + l.val) (256 * h.val + d.val) : ℝ) : EReal) := by
  after_reads_simp
  pointwise
  exact row_real hA _ _ _ _ (by simp only []; omega) (by simp only []; omega)

theorem pre_v6 (hA : IsReal (X main_arg2 : FVec Ideal S4096x1024 .bf16) V) (z : Fin 1) (c : Fin 64) (l : Fin 64) (h : Fin 4) (d : Fin 256) :
    (after pre1Ops (after pre0Ops X) main_v6 : FVec Ideal S1x64x64x4x256 .f32) (ix5 z c l h d)
      = ((V (64 * c.val + l.val) (256 * h.val + d.val) : ℝ) : EReal) := by
  after_reads_simp
  pointwise
  exact row_real hA _ _ _ _ (by simp only []; omega) (by simp only []; omega)

theorem pre_v56 (hA : IsReal (X main_arg0 : FVec Ideal S4096x1024 .bf16) Q) (c : Fin 64) (z : Fin 1) (l : Fin 64) (h : Fin 4) (d : Fin 256) :
    (after pre1Ops (after pre0Ops X) main_v56 : FVec Ideal S64x1x64x4x256 .f32) (ix5 c z l h d)
      = ((Q (64 * c.val + l.val) (256 * h.val + d.val) : ℝ) : EReal) := by
  after_reads_simp
  pointwise
  exact row_real hA _ _ _ _ (by simp only []; omega) (by simp only []; omega)

theorem pre_v58 (hA : IsReal (X main_arg2 : FVec Ideal S4096x1024 .bf16) V) (c : Fin 64) (z : Fin 1) (l : Fin 64) (h : Fin 4) (d : Fin 256) :
    (after pre1Ops (after pre0Ops X) main_v58 : FVec Ideal S64x1x64x4x256 .f32) (ix5 c z l h d)
      = ((V (64 * c.val + l.val) (256 * h.val + d.val) : ℝ) : EReal) := by
  after_reads_simp
  pointwise
  exact row_real hA _ _ _ _ (by simp only []; omega) (by simp only []; omega)

theorem pre_v67_1 (hA : IsReal (X main_arg1 : FVec Ideal S4096x1024 .bf16) K) (c : Fin 64) (z : Fin 1) (l : Fin 64) (h : Fin 4) (d : Fin 256) :
    (after pre1Ops (after pre0Ops X) main_v67_1 : FVec Ideal S64x1x64x4x256 .f32) (ix5 c z l h d)
      = ((K (64 * c.val + l.val) (256 * h.val + d.val) : ℝ) : EReal) := by
  after_reads_simp
  simp only [id_eq]
  pointwise
  exact row_real hA _ _ _ _ (by simp only []; omega) (by simp only []; omega)

theorem pre_v67_2 (hA : IsReal (X main_arg2 : FVec Ideal S4096x1024 .bf16) V) (c : Fin 64) (z : Fin 1) (l : Fin 64) (h : Fin 4) (d : Fin 256) :
    (after pre1Ops (after pre0Ops X) main_v67_2 : FVec Ideal S64x1x64x4x256 .f32) (ix5 c z l h d)
      = ((V (64 * c.val + l.val) (256 * h.val + d.val) : ℝ) : EReal) := by
  after_reads_simp
  simp only [id_eq]
  pointwise
  exact row_real hA _ _ _ _ (by simp only []; omega) (by simp only []; omega)

/-! ## The decay tables -/

theorem pre_v61 (z : Fin 1) (h : Fin 4) (z' z'' : Fin 1) :
    (after pre1Ops (after pre0Ops X) main_v61 : FVec Ideal S1x4x1x1 .f32) (ix4 z h z' z'') = ((Real.exp (lgR h.val * 64) : ℝ) : EReal) := by
  after_reads_simp
  pointwise
  exact exp_lg h _ _ word64

theorem pre_v67_3 (z : Fin 1) (h : Fin 4) (z' z'' : Fin 1) :
    (after pre1Ops (after pre0Ops X) main_v67_3 : FVec Ideal S1x4x1x1 .f32) (ix4 z h z' z'') = ((Real.exp (lgR h.val * 64) : ℝ) : EReal) := by
  after_reads_simp
  simp only [id_eq]
  pointwise
  exact exp_lg h _ _ word64

theorem pre_v63 (z : Fin 1) (l : Fin 64) (h : Fin 4) (z' : Fin 1) :
    (after pre1Ops (after pre0Ops X) main_v63 : FVec Ideal S1x64x4x1 .f32) (ix4 z l h z') = ((Real.exp (lgR h.val * (63 - l.val)) : ℝ) : EReal) := by
  after_reads_simp
  pointwise
  exact exp_lg h _ _ (by rw [word63, sitofp_nat _ (by omega), ← EReal.coe_sub])

theorem pre_v67_4 (z : Fin 1) (l : Fin 64) (h : Fin 4) (z' : Fin 1) :
    (after pre1Ops (after pre0Ops X) main_v67_4 : FVec Ideal S1x64x4x1 .f32) (ix4 z l h z') = ((Real.exp (lgR h.val * (63 - l.val)) : ℝ) : EReal) := by
  after_reads_simp
  simp only [id_eq]
  pointwise
  exact exp_lg h _ _ (by rw [word63, sitofp_nat _ (by omega), ← EReal.coe_sub])

theorem pre_v60 (z : Fin 1) (l : Fin 64) (h : Fin 4) (z' : Fin 1) :
    (after pre1Ops (after pre0Ops X) main_v60 : FVec Ideal S1x64x4x1 .f32) (ix4 z l h z') = ((Real.exp (lgR h.val * (l.val + 1)) : ℝ) : EReal) := by
  after_reads_simp
  pointwise
  exact exp_lg h _ _ (by rw [sitofp_nat _ (by omega), ← EReal.coe_one, ← EReal.coe_add])

theorem pre_v29 (z z' : Fin 1) (h : Fin 4) (a b : Fin 64) :
    (after pre1Ops (after pre0Ops X) main_v29 : FVec Ideal S1x1x4x64x64 .f32) (ix5 z z' h a b) = ((Real.exp (lgR h.val * |(a.val : ℝ) - b.val|) : ℝ) : EReal) := by
  after_reads_simp
  pointwise
  exact exp_lg h _ _ (by rw [sitofp_nat _ (by omega), sitofp_nat _ (by omega), ← EReal.coe_sub, abs_real])

/-- The scores of a chunk with their decay. -/
theorem pre_v31 (hQ : IsReal (X main_arg0 : FVec Ideal S4096x1024 .bf16) Q) (hK : IsReal (X main_arg1 : FVec Ideal S4096x1024 .bf16) K)
    (z : Fin 1) (c : Fin 64) (h : Fin 4) (a b : Fin 64) :
    (after pre1Ops (after pre0Ops X) main_v31 : FVec Ideal S1x64x4x64x64 .f32) (ix5 z c h a b)
      = ((dot (hd h.val Q) (hd h.val K) (64 * c.val + a.val) (64 * c.val + b.val) * Real.exp (lgR h.val * |(a.val : ℝ) - b.val|) : ℝ) : EReal) := by
  after_reads_simp
  pointwise
  rw [EReal.coe_mul]
  refine congrArg₂ (· * ·) ?_ (exp_lg h _ _ (by rw [sitofp_nat _ (by omega), sitofp_nat _ (by omega), ← EReal.coe_sub, abs_real]))
  refine sum_fin' 256 _ _ fun d => ?_
  rw [EReal.coe_mul]
  exact congrArg₂ (· * ·) (row_real hQ _ _ _ _ (by simp only []; omega) (by simp only []; omega))
    (row_real hK _ _ _ _ (by simp only []; omega) (by simp only []; omega))

/-- At the first loop's entry its invariant holds: nothing summed yet. -/
theorem pre_inv0 (hK : IsReal (X main_arg1 : FVec Ideal S4096x1024 .bf16) K) (hV : IsReal (X main_arg2 : FVec Ideal S4096x1024 .bf16) V) :
    Inv0 K V 0 (after pre1Ops (after pre0Ops X)) where
  ctr := pre1_ctr _
  kk := pre_v67_1 hK
  vv := pre_v67_2 hV
  cd := pre_v67_3
  kd := pre_v67_4
  st := fun z h d e => by
    after_reads_simp
    simp only [id_eq]
    pointwise
    rfl
  stS := fun c hc => absurd hc (Nat.not_lt_zero _)
  stK := fun c hc => absurd hc (Nat.not_lt_zero _)

end Cert.RetRef

end
-- ==== Proof.RefTrip1.lean ====
/- One trip of the reference's second loop over the extended reals: chunk `63 - j` reads the stacks of the first loop, leaves
   its parts of the three gradients and adds its queries and output gradients to the running gradient of the state. -/
module

public import proofs.«01_k».proof.Proof.RefTrip0

@[expose] public section

set_option maxRecDepth 16384

noncomputable section

namespace Cert.RetRef

open Idealize.ShloMosaic Idealize.ShloMosaic.TcCoe Idealize.ShloMosaic.Tactic
open Cert.ReferenceIdeal Cert.ReferenceIdeal.Gen Cert.RetBwd
open Idealize.ShloMosaic.StableHlo (after)
open Finset (range)

/-- The state's gradient after the last `j` chunks, head `h`: each chunk scales it by the decay of 64 rows and adds its output
    gradients, each with the decay from the chunk's start, times its queries. -/
def Dt (Q G : ℕ → ℕ → ℝ) : ℕ → ℕ → ℕ → ℕ → ℝ
  | 0, _, _, _ => 0
  | j + 1, h, d, e => Dt Q G j h d e * Real.exp (lgR h * 64)
      + ∑ l ∈ range 64, G (64 * (63 - j) + l) (256 * h + e) * Real.exp (lgR h * (l + 1)) * Q (64 * (63 - j) + l) (256 * h + d)

/-- The part of the queries' gradient that comes from earlier chunks, row `l` of chunk `c`; -/
def dqI (K V G : ℕ → ℕ → ℝ) (c l h d : ℕ) : ℝ :=
  ∑ e ∈ range 256, G (64 * c + l) (256 * h + e) * Real.exp (lgR h * (l + 1)) * St K V c h d e
/-- of the keys' gradient that comes from later chunks; -/
def dkI (Q G V : ℕ → ℕ → ℝ) (c l h d : ℕ) : ℝ :=
  (∑ e ∈ range 256, Dt Q G (63 - c) h d e * V (64 * c + l) (256 * h + e)) * Real.exp (lgR h * (63 - l))
/-- and of the values' gradient. -/
def dvI (Q G K : ℕ → ℕ → ℝ) (c l h e : ℕ) : ℝ :=
  ∑ d ∈ range 256, Dt Q G (63 - c) h d e * (K (64 * c + l) (256 * h + d) * Real.exp (lgR h * (63 - l)))

/-- The chunk's number, as the loop computes it from its counter. -/
theorem rev_word : ∀ j : Fin 64, (IntOp.subi (IntOp.subi 64#32 (BitVec.ofNat 32 j.val)) 1#32).toInt = ((63 - j.val : ℕ) : ℤ) := by
  decide

/-- What the second loop's carried buffers hold before trip `j`. -/
structure Inv1 (Q K V G : ℕ → ℕ → ℝ) (j : ℕ) (X : Valuation τ sig (Elt Ideal)) : Prop where
  ctr : X main_v80_8 = fun _ => (BitVec.ofNat 32 j : BitVec 32)
  gg : ∀ (c : Fin 64) (z : Fin 1) (l : Fin 64) (h : Fin 4) (d : Fin 256),
    (X main_v80_0 : FVec Ideal S64x1x64x4x256 .f32) (ix5 c z l h d) = ((G (64 * c.val + l.val) (256 * h.val + d.val) : ℝ) : EReal)
  qq : ∀ (c : Fin 64) (z : Fin 1) (l : Fin 64) (h : Fin 4) (d : Fin 256),
    (X main_v80_1 : FVec Ideal S64x1x64x4x256 .f32) (ix5 c z l h d) = ((Q (64 * c.val + l.val) (256 * h.val + d.val) : ℝ) : EReal)
  ss : ∀ (c : Fin 64) (z : Fin 1) (h : Fin 4) (d e : Fin 256),
    (X main_v80_2 : FVec Ideal S64x1x4x256x256 .f32) (ix5 c z h d e) = ((St K V c.val h.val d.val e.val : ℝ) : EReal)
  vv : ∀ (c : Fin 64) (z : Fin 1) (l : Fin 64) (h : Fin 4) (d : Fin 256),
    (X main_v80_3 : FVec Ideal S64x1x64x4x256 .f32) (ix5 c z l h d) = ((V (64 * c.val + l.val) (256 * h.val + d.val) : ℝ) : EReal)
  kk : ∀ (c : Fin 64) (z : Fin 1) (l : Fin 64) (h : Fin 4) (d : Fin 256),
    (X main_v80_4 : FVec Ideal S64x1x64x4x256 .f32) (ix5 c z l h d)
      = ((K (64 * c.val + l.val) (256 * h.val + d.val) * Real.exp (lgR h.val * (63 - l.val)) : ℝ) : EReal)
  qd : ∀ (z : Fin 1) (l : Fin 64) (h : Fin 4) (z' : Fin 1),
    (X main_v80_5 : FVec Ideal S1x64x4x1 .f32) (ix4 z l h z') = ((Real.exp (lgR h.val * (l.val + 1)) : ℝ) : EReal)
  cd : ∀ (z : Fin 1) (h : Fin 4) (z' z'' : Fin 1),
    (X main_v80_6 : FVec Ideal S1x4x1x1 .f32) (ix4 z h z' z'') = ((Real.exp (lgR h.val * 64) : ℝ) : EReal)
  kd : ∀ (z : Fin 1) (l : Fin 64) (h : Fin 4) (z' : Fin 1),
    (X main_v80_7 : FVec Ideal S1x64x4x1 .f32) (ix4 z l h z') = ((Real.exp (lgR h.val * (63 - l.val)) : ℝ) : EReal)
  dd : ∀ (z : Fin 1) (h : Fin 4) (d e : Fin 256),
    (X main_v80_9 : FVec Ideal S1x4x256x256 .f32) (ix4 z h d e) = ((Dt Q G j h.val d.val e.val : ℝ) : EReal)
  dq : ∀ (c : Fin 64), 64 ≤ c.val + j → ∀ (z : Fin 1) (l : Fin 64) (h : Fin 4) (d : Fin 256),
    (X main_v80_10 : FVec Ideal S64x1x64x4x256 .f32) (ix5 c z l h d) = ((dqI K V G c.val l.val h.val d.val : ℝ) : EReal)
  dk : ∀ (c : Fin 64), 64 ≤ c.val + j → ∀ (z : Fin 1) (l : Fin 64) (h : Fin 4) (d : Fin 256),
    (X main_v80_11 : FVec Ideal S64x1x64x4x256 .f32) (ix5 c z l h d) = ((dkI Q G V c.val l.val h.val d.val : ℝ) : EReal)
  dv : ∀ (c : Fin 64), 64 ≤ c.val + j → ∀ (z : Fin 1) (l : Fin 64) (h : Fin 4) (d : Fin 256),
    (X main_v80_12 : FVec Ideal S64x1x64x4x256 .f32) (ix5 c z l h d) = ((dvI Q G K c.val l.val h.val d.val : ℝ) : EReal)

variable {Q K V G : ℕ → ℕ → ℝ} {j : ℕ} {X : Valuation τ sig (Elt Ideal)}

/-- After the trip the state's gradient has one chunk more, -/
theorem Inv1.dd_step (I : Inv1 Q K V G j X) (hj : j < 64) (z : Fin 1) (h : Fin 4) (d e : Fin 256) :
    (after body1Ops (after cond1Ops X) main_v80_9 : FVec Ideal S1x4x256x256 .f32) (ix4 z h d e)
      = ((Dt Q G (j + 1) h.val d.val e.val : ℝ) : EReal) := by
  obtain rfl : z = 0 := Subsingleton.elim _ _
  after_reads_simp [StableHlo.unaryIndexed_result_read, StableHlo.binaryIndexed_result_read, StableHlo.indexContents_tref_cons, StableHlo.indexContents_tref_empty]
  rw [I.ctr]
  simp only [id_eq, StableHlo.TRef.toBuf, StableHlo.TRef.ofBuf, cast_cast, cast_eq]
  generalize hx : Host.dynamicSlice _ _ _ _ = x
  have hx' : ∀ (l : Fin 64) (h : Fin 4) (d : Fin 256), x (ix5 0 0 l h d) = ((G (64 * (63 - j) + l.val) (256 * h.val + d.val) : ℝ) : EReal) := fun l h d => by
    rw [← hx]
    exact (slice_chunk _ _ _ ⟨63 - j, by omega⟩ (rev_word ⟨j, hj⟩) 0 0 l h d).trans (I.gg ⟨63 - j, by omega⟩ 0 l h d)
  clear hx
  generalize hy : Host.dynamicSlice _ _ _ _ = y
  have hy' : ∀ (l : Fin 64) (h : Fin 4) (d : Fin 256), y (ix5 0 0 l h d) = ((Q (64 * (63 - j) + l.val) (256 * h.val + d.val) : ℝ) : EReal) := fun l h d => by
    rw [← hy]
    exact (slice_chunk _ _ _ ⟨63 - j, by omega⟩ (rev_word ⟨j, hj⟩) 0 0 l h d).trans (I.qq ⟨63 - j, by omega⟩ 0 l h d)
  clear hy
  pointwise
  rw [Dt, EReal.coe_add, EReal.coe_mul]
  congr 1
  · exact congrArg₂ (· * ·) (I.dd 0 h d e) (I.cd 0 h 0 0)
  · refine sum_fin' 64 _ _ fun l => ?_
    rw [hx', hy', EReal.coe_mul, EReal.coe_mul]
    exact congrArg (_ * · * _) (I.qd 0 l h 0)

/-- and the stacks hold the chunk's parts of the gradients: the queries', -/
theorem Inv1.dq_step (I : Inv1 Q K V G j X) (hj : j < 64) (c : Fin 64) (hc : 64 ≤ c.val + (j + 1)) (z : Fin 1) (l : Fin 64) (h : Fin 4) (d : Fin 256) :
    (after body1Ops (after cond1Ops X) main_v80_10 : FVec Ideal S64x1x64x4x256 .f32) (ix5 c z l h d) = ((dqI K V G c.val l.val h.val d.val : ℝ) : EReal) := by
  obtain rfl : z = 0 := Subsingleton.elim _ _
  after_reads_simp [StableHlo.unaryIndexed_result_read, StableHlo.binaryIndexed_result_read, StableHlo.indexContents_tref_cons, StableHlo.indexContents_tref_empty]
  rw [I.ctr]
  simp only [id_eq, StableHlo.TRef.toBuf, StableHlo.TRef.ofBuf, cast_cast, cast_eq]
  by_cases hck : c.val = 63 - j
  · have hc' : c = ⟨63 - j, Nat.lt_of_le_of_lt (Nat.sub_le _ _) (by decide)⟩ := Fin.ext hck
    clear hck hc
    subst c
    refine (update_chunk _ _ _ _ ⟨63 - j, by omega⟩ (rev_word ⟨j, hj⟩) _ _ _ _).trans ?_
    generalize hx : Host.dynamicSlice _ _ _ _ = x
    have hx' : ∀ (l : Fin 64) (h : Fin 4) (d : Fin 256), x (ix5 0 0 l h d) = ((G (64 * (63 - j) + l.val) (256 * h.val + d.val) : ℝ) : EReal) := fun l h d => by
      rw [← hx]
      exact (slice_chunk _ _ _ ⟨63 - j, by omega⟩ (rev_word ⟨j, hj⟩) 0 0 l h d).trans (I.gg ⟨63 - j, by omega⟩ 0 l h d)
    clear hx
    generalize hy : Host.dynamicSlice _ _ _ _ = y
    have hy' : ∀ (h : Fin 4) (d e : Fin 256), y (ix5 0 0 h d e) = ((St K V (63 - j) h.val d.val e.val : ℝ) : EReal) := fun h d e => by
      rw [← hy]
      exact (slice_chunk _ _ _ ⟨63 - j, by omega⟩ (rev_word ⟨j, hj⟩) 0 0 h d e).trans (I.ss ⟨63 - j, by omega⟩ 0 h d e)
    clear hy
    pointwise
    refine sum_fin' 256 _ _ fun e => ?_
    rw [hx', hy', EReal.coe_mul, EReal.coe_mul]
    exact congrArg (_ * · * _) (I.qd 0 l h 0)
  · exact (update_other _ _ _ _ ⟨63 - j, by omega⟩ (rev_word ⟨j, hj⟩) _ (fun h => hck (congrArg Fin.val h)) _ _ _ _).trans (I.dq c (by omega) 0 l h d)

/-- the keys', -/
theorem Inv1.dk_step (I : Inv1 Q K V G j X) (hj : j < 64) (c : Fin 64) (hc : 64 ≤ c.val + (j + 1)) (z : Fin 1) (l : Fin 64) (h : Fin 4) (d : Fin 256) :
    (after body1Ops (after cond1Ops X) main_v80_11 : FVec Ideal S64x1x64x4x256 .f32) (ix5 c z l h d) = ((dkI Q G V c.val l.val h.val d.val : ℝ) : EReal) := by
  obtain rfl : z = 0 := Subsingleton.elim _ _
  after_reads_simp [StableHlo.unaryIndexed_result_read, StableHlo.binaryIndexed_result_read, StableHlo.indexContents_tref_cons, StableHlo.indexContents_tref_empty]
  rw [I.ctr]
  simp only [id_eq, StableHlo.TRef.toBuf, StableHlo.TRef.ofBuf, cast_cast, cast_eq]
  by_cases hck : c.val = 63 - j
  · have hc' : c = ⟨63 - j, Nat.lt_of_le_of_lt (Nat.sub_le _ _) (by decide)⟩ := Fin.ext hck
    clear hck hc
    subst c
    refine (update_chunk _ _ _ _ ⟨63 - j, by omega⟩ (rev_word ⟨j, hj⟩) _ _ _ _).trans ?_
    generalize hy : Host.dynamicSlice _ _ _ _ = y
    have hy' : ∀ (l : Fin 64) (h : Fin 4) (d : Fin 256), y (ix5 0 0 l h d) = ((V (64 * (63 - j) + l.val) (256 * h.val + d.val) : ℝ) : EReal) := fun l h d => by
      rw [← hy]
      exact (slice_chunk _ _ _ ⟨63 - j, by omega⟩ (rev_word ⟨j, hj⟩) 0 0 l h d).trans (I.vv ⟨63 - j, by omega⟩ 0 l h d)
    clear hy
    pointwise
    unfold dkI
    rw [EReal.coe_mul, show 63 - (63 - j) = j by omega]
    refine congrArg₂ (· * ·) (sum_fin' 256 _ _ fun e => ?_) (I.kd 0 l h 0)
    rw [hy', EReal.coe_mul]
    exact congrArg (· * _) (I.dd 0 h d e)
  · exact (update_other _ _ _ _ ⟨63 - j, by omega⟩ (rev_word ⟨j, hj⟩) _ (fun h => hck (congrArg Fin.val h)) _ _ _ _).trans (I.dk c (by omega) 0 l h d)

/-- the values'. -/
theorem Inv1.dv_step (I : Inv1 Q K V G j X) (hj : j < 64) (c : Fin 64) (hc : 64 ≤ c.val + (j + 1)) (z : Fin 1) (l : Fin 64) (h : Fin 4) (d : Fin 256) :
    (after body1Ops (after cond1Ops X) main_v80_12 : FVec Ideal S64x1x64x4x256 .f32) (ix5 c z l h d) = ((dvI Q G K c.val l.val h.val d.val : ℝ) : EReal) := by
  obtain rfl : z = 0 := Subsingleton.elim _ _
  after_reads_simp [StableHlo.unaryIndexed_result_read, StableHlo.binaryIndexed_result_read, StableHlo.indexContents_tref_cons, StableHlo.indexContents_tref_empty]
  rw [I.ctr]
  simp only [id_eq, StableHlo.TRef.toBuf, StableHlo.TRef.ofBuf, cast_cast, cast_eq]
  by_cases hck : c.val = 63 - j
  · have hc' : c = ⟨63 - j, Nat.lt_of_le_of_lt (Nat.sub_le _ _) (by decide)⟩ := Fin.ext hck
    clear hck hc
    subst c
    refine (update_chunk _ _ _ _ ⟨63 - j, by omega⟩ (rev_word ⟨j, hj⟩) _ _ _ _).trans ?_
    generalize hy : Host.dynamicSlice _ _ _ _ = y
    have hy' : ∀ (l : Fin 64) (h : Fin 4) (d : Fin 256), y (ix5 0 0 l h d) = ((K (64 * (63 - j) + l.val) (256 * h.val + d.val) * Real.exp (lgR h.val * (63 - l.val)) : ℝ) : EReal) := fun l h d => by
      rw [← hy]
      exact (slice_chunk _ _ _ ⟨63 - j, by omega⟩ (rev_word ⟨j, hj⟩) 0 0 l h d).trans (I.kk ⟨63 - j, by omega⟩ 0 l h d)
    clear hy
    pointwise
    unfold dvI
    rw [show 63 - (63 - j) = j by omega]
    refine sum_fin' 256 _ _ fun e => ?_
    rw [hy', EReal.coe_mul]
    exact congrArg (fun t : EReal => t * _) (I.dd 0 h e d)
  · exact (update_other _ _ _ _ ⟨63 - j, by omega⟩ (rev_word ⟨j, hj⟩) _ (fun h => hck (congrArg Fin.val h)) _ _ _ _).trans (I.dv c (by omega) 0 l h d)

theorem Inv1.step (I : Inv1 Q K V G j X) (hj : j < 64) : Inv1 Q K V G (j + 1) (after body1Ops (after cond1Ops X)) where
  ctr := by
    after_reads_simp [StableHlo.unaryIndexed_result_read, StableHlo.binaryIndexed_result_read, StableHlo.indexContents_tref_cons, StableHlo.indexContents_tref_empty]
    rw [I.ctr]
    simp only [id_eq, StableHlo.TRef.toBuf, StableHlo.TRef.ofBuf, cast_cast, cast_eq]
    funext i
    show BitVec.ofNat 32 j + 1#32 = BitVec.ofNat 32 (j + 1)
    rw [BitVec.ofNat_add]
  gg := by after_reads_simp; exact I.gg
  qq := by after_reads_simp; exact I.qq
  ss := by after_reads_simp; exact I.ss
  vv := by after_reads_simp; exact I.vv
  kk := by after_reads_simp; exact I.kk
  qd := by after_reads_simp; exact I.qd
  cd := by after_reads_simp; exact I.cd
  kd := by after_reads_simp; exact I.kd
  dd := I.dd_step hj
  dq := I.dq_step hj
  dk := I.dk_step hj
  dv := I.dv_step hj

end Cert.RetRef

end
-- ==== Proof.RefPost.lean ====
/- What the reference does after its first loop: the stretch that prepares the second, and the last stretch, which adds the
   parts of the three gradients from inside each chunk to the loop's. -/
module

public import proofs.«01_k».proof.Proof.RefTrip1
public import proofs.«01_k».proof.Proof.RefRun
public import proofs.«01_k».proof.Proof.LogDecay
public import proofs.«01_k».proof.Proof.KernelValue

@[expose] public section

set_option maxRecDepth 16384

noncomputable section

namespace Cert.RetRef

open Idealize.ShloMosaic Idealize.ShloMosaic.TcCoe Idealize.ShloMosaic.Tactic
open Cert.ReferenceIdeal Cert.ReferenceIdeal.Gen Cert.RetBwd
open Idealize.ShloMosaic.StableHlo (after afterL launchContents)
open Finset (range)

variable {Q K V G : ℕ → ℕ → ℝ} {Y Z : Valuation τ sig (Elt Ideal)}

/-- The output gradient by chunk and head. -/
theorem mid_v74 (hG : ∀ (n : Fin 4096) (j : Fin 1024), (Y main_v3 : FVec Ideal S4096x1024 .f32) (ix2 n j) = ((G n.val j.val : ℝ) : EReal))
    (z : Fin 1) (c : Fin 64) (l : Fin 64) (h : Fin 4) (d : Fin 256) :
    (after midOps Y main_v74 : FVec Ideal S1x64x64x4x256 .f32) (ix5 z c l h d)
      = ((G (64 * c.val + l.val) (256 * h.val + d.val) : ℝ) : EReal) := by
  after_reads_simp
  pointwise
  refine (hG _ _).trans ?_
  simp only []
  congr 2 <;> omega

/-- At the second loop's entry its invariant holds. -/
theorem mid_inv1
    (hG : ∀ (n : Fin 4096) (j : Fin 1024), (Y main_v3 : FVec Ideal S4096x1024 .f32) (ix2 n j) = ((G n.val j.val : ℝ) : EReal))
    (hQ : ∀ (c : Fin 64) (z : Fin 1) (l : Fin 64) (h : Fin 4) (d : Fin 256),
      (Y main_v56 : FVec Ideal S64x1x64x4x256 .f32) (ix5 c z l h d) = ((Q (64 * c.val + l.val) (256 * h.val + d.val) : ℝ) : EReal))
    (hS : ∀ (c : Fin 64), c.val < 64 → ∀ (z : Fin 1) (h : Fin 4) (d e : Fin 256),
      (Y main_v67_9 : FVec Ideal S64x1x4x256x256 .f32) (ix5 c z h d e) = ((St K V c.val h.val d.val e.val : ℝ) : EReal))
    (hV : ∀ (c : Fin 64) (z : Fin 1) (l : Fin 64) (h : Fin 4) (d : Fin 256),
      (Y main_v58 : FVec Ideal S64x1x64x4x256 .f32) (ix5 c z l h d) = ((V (64 * c.val + l.val) (256 * h.val + d.val) : ℝ) : EReal))
    (hK : ∀ (c : Fin 64), c.val < 64 → ∀ (z : Fin 1) (l : Fin 64) (h : Fin 4) (d : Fin 256),
      (Y main_v67_10 : FVec Ideal S64x1x64x4x256 .f32) (ix5 c z l h d)
        = ((K (64 * c.val + l.val) (256 * h.val + d.val) * Real.exp (lgR h.val * (63 - l.val)) : ℝ) : EReal))
    (hqd : ∀ (z : Fin 1) (l : Fin 64) (h : Fin 4) (z' : Fin 1),
      (Y main_v60 : FVec Ideal S1x64x4x1 .f32) (ix4 z l h z') = ((Real.exp (lgR h.val * (l.val + 1)) : ℝ) : EReal))
    (hcd : ∀ (z : Fin 1) (h : Fin 4) (z' z'' : Fin 1),
      (Y main_v61 : FVec Ideal S1x4x1x1 .f32) (ix4 z h z' z'') = ((Real.exp (lgR h.val * 64) : ℝ) : EReal))
    (hkd : ∀ (z : Fin 1) (l : Fin 64) (h : Fin 4) (z' : Fin 1),
      (Y main_v63 : FVec Ideal S1x64x4x1 .f32) (ix4 z l h z') = ((Real.exp (lgR h.val * (63 - l.val)) : ℝ) : EReal)) :
    Inv1 Q K V G 0 (after midOps Y) where
  ctr := mid_ctr _
  gg := fun c z l h d => by
    after_reads_simp
    simp only [id_eq]
    pointwise
    refine (hG _ _).trans ?_
    simp only []
    congr 2 <;> omega
  qq := by after_reads_simp; exact hQ
  ss := by after_reads_simp; exact fun c => hS c c.isLt
  vv := by after_reads_simp; exact hV
  kk := by after_reads_simp; exact fun c => hK c c.isLt
  qd := by after_reads_simp; exact hqd
  cd := by after_reads_simp; exact hcd
  kd := by after_reads_simp; exact hkd
  dd := fun z h d e => by
    after_reads_simp
    simp only [id_eq]
    pointwise
    rfl
  dq := fun c hc => absurd hc (by omega)
  dk := fun c hc => absurd hc (by omega)
  dv := fun c hc => absurd hc (by omega)

/-- What the last stretch reads beside the second loop's stacks. -/
structure Last (Q K V G : ℕ → ℕ → ℝ) (Z : Valuation τ sig (Elt Ideal)) : Prop where
  qq : ∀ (z : Fin 1) (c : Fin 64) (l : Fin 64) (h : Fin 4) (d : Fin 256),
    (Z main_v4 : FVec Ideal S1x64x64x4x256 .f32) (ix5 z c l h d) = ((Q (64 * c.val + l.val) (256 * h.val + d.val) : ℝ) : EReal)
  kk : ∀ (z : Fin 1) (c : Fin 64) (l : Fin 64) (h : Fin 4) (d : Fin 256),
    (Z main_v5 : FVec Ideal S1x64x64x4x256 .f32) (ix5 z c l h d) = ((K (64 * c.val + l.val) (256 * h.val + d.val) : ℝ) : EReal)
  vv : ∀ (z : Fin 1) (c : Fin 64) (l : Fin 64) (h : Fin 4) (d : Fin 256),
    (Z main_v6 : FVec Ideal S1x64x64x4x256 .f32) (ix5 z c l h d) = ((V (64 * c.val + l.val) (256 * h.val + d.val) : ℝ) : EReal)
  gg : ∀ (z : Fin 1) (c : Fin 64) (l : Fin 64) (h : Fin 4) (d : Fin 256),
    (Z main_v74 : FVec Ideal S1x64x64x4x256 .f32) (ix5 z c l h d) = ((G (64 * c.val + l.val) (256 * h.val + d.val) : ℝ) : EReal)
  w : ∀ (z z' : Fin 1) (h : Fin 4) (a b : Fin 64),
    (Z main_v29 : FVec Ideal S1x1x4x64x64 .f32) (ix5 z z' h a b) = ((Real.exp (lgR h.val * |(a.val : ℝ) - b.val|) : ℝ) : EReal)
  p : ∀ (z : Fin 1) (c : Fin 64) (h : Fin 4) (a b : Fin 64),
    (Z main_v31 : FVec Ideal S1x64x4x64x64 .f32) (ix5 z c h a b)
      = ((dot (hd h.val Q) (hd h.val K) (64 * c.val + a.val) (64 * c.val + b.val) * Real.exp (lgR h.val * |(a.val : ℝ) - b.val|) : ℝ) : EReal)

/-- The queries' gradient: the loop's part and the part from the chunk itself; -/
theorem post_dq (L : Last Q K V G Z) (I : Inv1 Q K V G 64 Z) (n : Fin 4096) (j : Fin 1024) :
    (after postOps Z main_v99 : FVec Ideal S4096x1024 .f32) (ix2 n j)
      = ((dqI K V G (n.val / 64) (n.val % 64) (j.val / 256) (j.val % 256)
          + ∑ b ∈ range 64, dot (hd (j.val / 256) G) (hd (j.val / 256) V) (64 * (n.val / 64) + n.val % 64) (64 * (n.val / 64) + b)
              * Real.exp (lgR (j.val / 256) * |((n.val % 64 : ℕ) : ℝ) - b|) * K (64 * (n.val / 64) + b) (256 * (j.val / 256) + j.val % 256) : ℝ) : EReal) := by
  after_reads_simp
  pointwise
  rw [EReal.coe_add]
  refine congrArg₂ (· + ·) (I.dq _ (Nat.le_add_left _ _) 0 _ _ _) (sum_fin' 64 _ _ fun b => ?_)
  rw [EReal.coe_mul, EReal.coe_mul]
  refine congrArg₂ (· * ·) (congrArg₂ (· * ·) (sum_fin' 256 _ _ fun e => ?_) (L.w 0 0 _ _ _)) (L.kk 0 _ b _ _)
  rw [EReal.coe_mul]
  exact congrArg₂ (· * ·) (L.gg 0 _ _ _ e) (L.vv 0 _ _ _ e)

/-- the keys'; -/
theorem post_dk (L : Last Q K V G Z) (I : Inv1 Q K V G 64 Z) (n : Fin 4096) (j : Fin 1024) :
    (after postOps Z main_v98 : FVec Ideal S4096x1024 .f32) (ix2 n j)
      = ((dkI Q G V (n.val / 64) (n.val % 64) (j.val / 256) (j.val % 256)
          + ∑ a ∈ range 64, dot (hd (j.val / 256) G) (hd (j.val / 256) V) (64 * (n.val / 64) + a) (64 * (n.val / 64) + n.val % 64)
              * Real.exp (lgR (j.val / 256) * |(a : ℝ) - (n.val % 64 : ℕ)|) * Q (64 * (n.val / 64) + a) (256 * (j.val / 256) + j.val % 256) : ℝ) : EReal) := by
  after_reads_simp
  pointwise
  rw [EReal.coe_add]
  refine congrArg₂ (· + ·) (I.dk _ (Nat.le_add_left _ _) 0 _ _ _) (sum_fin' 64 _ _ fun b => ?_)
  rw [EReal.coe_mul, EReal.coe_mul]
  refine congrArg₂ (· * ·) (congrArg₂ (· * ·) (sum_fin' 256 _ _ fun e => ?_) (L.w 0 0 _ _ _)) (L.qq 0 _ b _ _)
  rw [EReal.coe_mul]
  exact congrArg₂ (· * ·) (L.gg 0 _ _ _ e) (L.vv 0 _ _ _ e)

/-- the values'. -/
theorem post_dv (L : Last Q K V G Z) (I : Inv1 Q K V G 64 Z) (n : Fin 4096) (j : Fin 1024) :
    (after postOps Z main_v97 : FVec Ideal S4096x1024 .f32) (ix2 n j)
      = ((dvI Q G K (n.val / 64) (n.val % 64) (j.val / 256) (j.val % 256)
          + ∑ a ∈ range 64, G (64 * (n.val / 64) + a) (256 * (j.val / 256) + j.val % 256)
              * (dot (hd (j.val / 256) Q) (hd (j.val / 256) K) (64 * (n.val / 64) + a) (64 * (n.val / 64) + n.val % 64)
                * Real.exp (lgR (j.val / 256) * |(a : ℝ) - (n.val % 64 : ℕ)|)) : ℝ) : EReal) := by
  after_reads_simp
  pointwise
  rw [EReal.coe_add]
  refine congrArg₂ (· + ·) (I.dv _ (Nat.le_add_left _ _) 0 _ _ _) (sum_fin' 64 _ _ fun b => ?_)
  rw [EReal.coe_mul]
  exact congrArg₂ (· * ·) (L.gg 0 _ b _ _) (L.p 0 _ _ b _)

end Cert.RetRef

end
-- ==== Proof.RefKeep.lean ====
/- What the reference leaves alone: its arguments throughout, and the buffers its last stretch reads through both loops. -/
module

public import proofs.«01_k».proof.Proof.RefRun
public import Idealize.ShloMosaic.Lib.StableHlo.RunRead
public import Idealize.ShloMosaic.Lib.StableHlo.RunClose
public import Idealize.ShloMosaic.PureOps.Ideal

@[expose] public section

set_option maxRecDepth 16384

noncomputable section

namespace Cert.RetRef

open Cert.ReferenceIdeal Cert.ReferenceIdeal.Gen
open Idealize.ShloMosaic Idealize.ShloMosaic.TcCoe Idealize.ShloMosaic.Tactic
open Idealize.ShloMosaic.StableHlo (after afterL atTrip launchContents)

variable (m : (ℓ : Loc nD τ sig) → Buf (Elt Ideal) ℓ) (c : Dev nD)

/-- A buffer no trip of the first loop writes is what it was before it; -/
theorem keep0 (b : DevRef τ sig) (h : ∀ X : Valuation τ sig (Elt Ideal), after body0Ops (after cond0Ops X) b = X b) :
    ∀ k, A0 m k c b = W0 m c b
  | 0 => rfl
  | k + 1 => (h (A0 m k c)).trans (keep0 b h k)

/-- and of the second. -/
theorem keep1 (b : DevRef τ sig) (h : ∀ X : Valuation τ sig (Elt Ideal), after body1Ops (after cond1Ops X) b = X b) :
    ∀ k, A1 m k c b = W1 m c b
  | 0 => rfl
  | k + 1 => (h (A1 m k c)).trans (keep1 b h k)

/-- A buffer the first loop and its last condition leave alone, read after them; -/
theorem past0 (b : DevRef τ sig) (h : ∀ X : Valuation τ sig (Elt Ideal), after body0Ops (after cond0Ops X) b = X b)
    (h' : ∀ X : Valuation τ sig (Elt Ideal), after cond0Ops X b = X b) : after cond0Ops (A0 m 64 c) b = W0 m c b :=
  (h' _).trans (keep0 m c b h 64)

/-- and one the second does. -/
theorem past1 (b : DevRef τ sig) (h : ∀ X : Valuation τ sig (Elt Ideal), after body1Ops (after cond1Ops X) b = X b)
    (h' : ∀ X : Valuation τ sig (Elt Ideal), after cond1Ops X b = X b) : after cond1Ops (A1 m 64 c) b = W1 m c b :=
  (h' _).trans (keep1 m c b h 64)

/-- A buffer nothing writes ends as the launch found it. -/
theorem kept (b : DevRef τ sig)
    (h1 : ∀ X : Valuation τ sig (Elt Ideal), after pre0Ops X b = X b) (h2 : ∀ X : Valuation τ sig (Elt Ideal), after pre1Ops X b = X b)
    (h3 : ∀ X : Valuation τ sig (Elt Ideal), after body0Ops (after cond0Ops X) b = X b) (h3' : ∀ X : Valuation τ sig (Elt Ideal), after cond0Ops X b = X b)
    (h4 : ∀ X : Valuation τ sig (Elt Ideal), after midOps X b = X b)
    (h5 : ∀ X : Valuation τ sig (Elt Ideal), after body1Ops (after cond1Ops X) b = X b) (h5' : ∀ X : Valuation τ sig (Elt Ideal), after cond1Ops X b = X b)
    (h6 : ∀ X : Valuation τ sig (Elt Ideal), after postOps X b = X b) : WF m c b = launchContents m c b :=
  (h6 _).trans ((past1 m c b h5 h5').trans ((h4 _).trans ((past0 m c b h3 h3').trans ((h2 _).trans (h1 _)))))

theorem arg0_kept : WF m c main_arg0 = launchContents m c main_arg0 := by
  apply kept <;> intro X <;> after_reads_simp
theorem arg1_kept : WF m c main_arg1 = launchContents m c main_arg1 := by
  apply kept <;> intro X <;> after_reads_simp
theorem arg2_kept : WF m c main_arg2 = launchContents m c main_arg2 := by
  apply kept <;> intro X <;> after_reads_simp
theorem arg3_kept : WF m c main_arg3 = launchContents m c main_arg3 := by
  apply kept <;> intro X <;> after_reads_simp

end Cert.RetRef

end
-- ==== Proof.Chunks.lean ====
/- The chunked form of the retention's gradient is the plain one, over the reals: the state before a chunk and the state's
   gradient after it in closed form, and each gradient as the loop's part plus the part from the chunk itself. -/
module

public import proofs.«01_k».proof.Proof.RefTrip1
public import proofs.«01_k».proof.Proof.KernelValue

@[expose] public section

noncomputable section

namespace Cert.RetRef

open Cert.RetBwd
open Finset

/-- The state before chunk `c`: each earlier row with the decay to the last row before the chunk. -/
theorem St_closed (K V : ℕ → ℕ → ℝ) (h d e : ℕ) : ∀ c : ℕ, St K V c h d e
    = ∑ m ∈ range (64 * c), Real.exp (lgR h * (64 * c - 1 - m)) * K m (256 * h + d) * V m (256 * h + e)
  | 0 => by simp [St]
  | c + 1 => by
    rw [St, St_closed K V h d e c, Nat.mul_succ, sum_range_add, sum_mul]
    congr 1
    · refine sum_congr rfl fun m _ => ?_
      rw [show lgR h * (64 * ((c + 1 : ℕ) : ℝ) - 1 - m) = lgR h * (64 * c - 1 - m) + lgR h * 64 by push_cast; ring, Real.exp_add]
      ring
    · refine sum_congr rfl fun l _ => ?_
      rw [show lgR h * (64 * ((c + 1 : ℕ) : ℝ) - 1 - ((64 * c + l : ℕ) : ℝ)) = lgR h * (63 - l) by push_cast; ring]
      ring

/-- The state's gradient after the last `j` chunks: each of their rows with the decay from the row before the first of them. -/
theorem Dt_closed (Q G : ℕ → ℕ → ℝ) (h d e : ℕ) : ∀ j : ℕ, j ≤ 64 → Dt Q G j h d e
    = ∑ n ∈ range (64 * j), Real.exp (lgR h * (n + 1)) * G (64 * (64 - j) + n) (256 * h + e) * Q (64 * (64 - j) + n) (256 * h + d)
  | 0, _ => by simp [Dt]
  | j + 1, hj => by
    rw [Dt, Dt_closed Q G h d e j (by omega), Nat.mul_succ, Nat.add_comm (64 * j) 64, sum_range_add, sum_mul, add_comm]
    have e63 : 64 - (j + 1) = 63 - j := by omega
    rw [e63]
    congr 1
    · refine sum_congr rfl fun l _ => ?_
      ring
    · refine sum_congr rfl fun n _ => ?_
      rw [show 64 * (63 - j) + (64 + n) = 64 * (64 - j) + n by omega,
        show lgR h * (((64 + n : ℕ) : ℝ) + 1) = lgR h * (n + 1) + lgR h * 64 by push_cast; ring, Real.exp_add]
      ring

/-- A sum over all rows: the rows before chunk `c`, its own, and those after it. -/
theorem sum_split (f : ℕ → ℝ) (c : ℕ) (hc : c < 64) : ∑ m ∈ range 4096, f m
    = ∑ m ∈ range (64 * c), f m + ∑ b ∈ range 64, f (64 * c + b) + ∑ n ∈ range (64 * (63 - c)), f (64 * (c + 1) + n) := by
  rw [show 4096 = 64 * c + 64 + 64 * (63 - c) by omega, sum_range_add, sum_range_add]
  rfl

/-- The weight of a row before the chunk, -/
theorem W_before (x : ℝ) (c r m : ℕ) (hr : r < 64) (hm : m < 64 * c) :
    W x (64 * c + r) m = Real.exp (x * (r + 1)) * Real.exp (x * (64 * c - 1 - m)) := by
  unfold W
  rw [if_pos (by omega), ← Real.exp_add, abs_of_nonneg]
  · congr 1; push_cast; ring
  · have : (m : ℝ) ≤ ((64 * c + r : ℕ) : ℝ) := by exact_mod_cast (by omega)
    linarith
/-- of a row of the chunk, -/
theorem W_same (x : ℝ) (c r b : ℕ) (hr : r < 64) (hb : b < 64) : W x (64 * c + r) (64 * c + b) = Real.exp (x * |(r : ℝ) - b|) := by
  unfold W
  rw [if_pos (by omega)]
  congr 3; push_cast; ring
/-- of a row of the chunk for one after it, -/
theorem W_from (x : ℝ) (c r n : ℕ) (hr : r < 64) :
    W x (64 * (c + 1) + n) (64 * c + r) = Real.exp (x * (n + 1)) * Real.exp (x * (63 - r)) := by
  unfold W
  rw [if_pos (by omega), ← Real.exp_add, abs_of_nonneg]
  · congr 1; push_cast; ring
  · have : ((64 * c + r : ℕ) : ℝ) ≤ ((64 * (c + 1) + n : ℕ) : ℝ) := by exact_mod_cast (by omega)
    linarith
/-- and of a row after the query's chunk. -/
theorem W_after (x : ℝ) (n m : ℕ) (h : n / 64 < m / 64) : W x n m = 0 := if_neg (by omega)

/-- The queries' gradient, row `r` of chunk `c`. -/
theorem DQ_chunk (Q K V G : ℕ → ℕ → ℝ) (c r h d : ℕ) (hc : c < 64) (hr : r < 64) :
    dqI K V G c r h d + ∑ b ∈ range 64, dot (hd h G) (hd h V) (64 * c + r) (64 * c + b) * Real.exp (lgR h * |(r : ℝ) - b|) * K (64 * c + b) (256 * h + d)
      = DQ (lgR h) (hd h G) (hd h K) (hd h V) (64 * c + r) d := by
  unfold DQ
  rw [sum_split _ c hc]
  have z : ∑ n ∈ range (64 * (63 - c)), dot (hd h G) (hd h V) (64 * c + r) (64 * (c + 1) + n) * W (lgR h) (64 * c + r) (64 * (c + 1) + n) * hd h K (64 * (c + 1) + n) d = 0 :=
    sum_eq_zero fun n _ => by rw [W_after _ _ _ (by omega)]; ring
  rw [z, add_zero]
  congr 1
  · unfold dqI dot
    simp only [St_closed, mul_sum, sum_mul]
    rw [sum_comm]
    refine sum_congr rfl fun m hm => sum_congr rfl fun e _ => ?_
    rw [W_before _ _ _ _ hr (mem_range.mp hm)]
    unfold hd
    ring
  · refine sum_congr rfl fun b hb => ?_
    rw [W_same _ _ _ _ hr (mem_range.mp hb)]
    rfl

/-- The keys' gradient. -/
theorem DK_chunk (Q K V G : ℕ → ℕ → ℝ) (c r h d : ℕ) (hc : c < 64) (hr : r < 64) :
    dkI Q G V c r h d + ∑ a ∈ range 64, dot (hd h G) (hd h V) (64 * c + a) (64 * c + r) * Real.exp (lgR h * |(a : ℝ) - r|) * Q (64 * c + a) (256 * h + d)
      = DK (lgR h) (hd h Q) (hd h G) (hd h V) (64 * c + r) d := by
  unfold DK
  rw [sum_split _ c hc]
  have z : ∑ n ∈ range (64 * c), dot (hd h G) (hd h V) n (64 * c + r) * W (lgR h) n (64 * c + r) * hd h Q n d = 0 :=
    sum_eq_zero fun n hn => by have := mem_range.mp hn; rw [W_after _ _ _ (by omega)]; ring
  rw [z, zero_add, add_comm]
  congr 1
  · refine sum_congr rfl fun b hb => ?_
    rw [W_same _ _ _ _ (mem_range.mp hb) hr]
    rfl
  · unfold dkI dot
    simp only [Dt_closed Q G h d _ (63 - c) (by omega), sum_mul]
    rw [sum_comm]
    refine sum_congr rfl fun n hn => sum_congr rfl fun e _ => ?_
    rw [W_from _ _ _ _ hr, show 64 - (63 - c) = c + 1 by omega]
    unfold hd
    ring

/-- The values' gradient. -/
theorem DV_chunk (Q K V G : ℕ → ℕ → ℝ) (c r h e : ℕ) (hc : c < 64) (hr : r < 64) :
    dvI Q G K c r h e + ∑ a ∈ range 64, G (64 * c + a) (256 * h + e) * (dot (hd h Q) (hd h K) (64 * c + a) (64 * c + r) * Real.exp (lgR h * |(a : ℝ) - r|))
      = DV (lgR h) (hd h Q) (hd h G) (hd h K) (64 * c + r) e := by
  unfold DV
  rw [sum_split _ c hc]
  have z : ∑ n ∈ range (64 * c), dot (hd h Q) (hd h K) n (64 * c + r) * W (lgR h) n (64 * c + r) * hd h G n e = 0 :=
    sum_eq_zero fun n hn => by have := mem_range.mp hn; rw [W_after _ _ _ (by omega)]; ring
  rw [z, zero_add, add_comm]
  congr 1
  · refine sum_congr rfl fun b hb => ?_
    rw [W_same _ _ _ _ (mem_range.mp hb) hr]
    unfold hd
    ring
  · unfold dvI dot
    simp only [Dt_closed Q G h _ e (63 - c) (by omega), sum_mul]
    rw [sum_comm]
    refine sum_congr rfl fun n hn => sum_congr rfl fun d _ => ?_
    rw [W_from _ _ _ _ hr, show 64 - (63 - c) = c + 1 by omega]
    unfold hd
    ring

end Cert.RetRef

end
-- ==== Proof.RefValue.lean ====
/- The reference's three results over the extended reals: head by head the gradients of `Gradient.lean`; and its run. -/
module

public import proofs.«01_k».proof.Proof.RefEntry
public import proofs.«01_k».proof.Proof.RefPost
public import proofs.«01_k».proof.Proof.RefKeep
public import proofs.«01_k».proof.Proof.Chunks

@[expose] public section

set_option maxRecDepth 16384

noncomputable section

namespace Cert.RetRef

open Idealize.ShloMosaic Idealize.ShloMosaic.TcCoe Idealize.ShloMosaic.Tactic
open Cert.ReferenceIdeal Cert.ReferenceIdeal.Gen Cert.RetBwd
open Idealize.ShloMosaic.StableHlo (after afterL atTrip launchContents)
open Finset (range)

variable (m : (ℓ : Loc nD τ sig) → Buf (Elt Ideal) ℓ) (c : Dev nD) {Q K V G : ℕ → ℕ → ℝ}

/-- The first loop's invariant before every trip. -/
theorem inv0 (hK : IsReal (m ((c.tc : Thread nD τ).loc main_arg1)) K) (hV : IsReal (m ((c.tc : Thread nD τ).loc main_arg2)) V) :
    ∀ k, k ≤ 64 → Inv0 K V k (A0 m k c)
  | 0, _ => pre_inv0 (X := launchContents m c) hK hV
  | k + 1, hk => (inv0 hK hV k (by omega)).step (by omega)

/-- The second's at its entry, -/
theorem inv1_base (hQ : IsReal (m ((c.tc : Thread nD τ).loc main_arg0)) Q) (hK : IsReal (m ((c.tc : Thread nD τ).loc main_arg1)) K)
    (hV : IsReal (m ((c.tc : Thread nD τ).loc main_arg2)) V) (hG : IsReal (m ((c.tc : Thread nD τ).loc main_arg3)) G) :
    Inv1 Q K V G 0 (W1 m c) := by
  have I := inv0 m c hK hV 64 le_rfl
  refine mid_inv1 ?_ ?_ ?_ ?_ ?_ ?_ ?_ ?_
  · rw [past0 m c main_v3 (fun X => by after_reads_simp) (fun X => by after_reads_simp)]
    exact pre_v3 (X := launchContents m c) hG
  · rw [past0 m c main_v56 (fun X => by after_reads_simp) (fun X => by after_reads_simp)]
    exact pre_v56 (X := launchContents m c) hQ
  · after_reads_simp; exact I.stS
  · rw [past0 m c main_v58 (fun X => by after_reads_simp) (fun X => by after_reads_simp)]
    exact pre_v58 (X := launchContents m c) hV
  · after_reads_simp; exact I.stK
  · rw [past0 m c main_v60 (fun X => by after_reads_simp) (fun X => by after_reads_simp)]
    exact pre_v60 (X := launchContents m c)
  · rw [past0 m c main_v61 (fun X => by after_reads_simp) (fun X => by after_reads_simp)]
    exact pre_v61 (X := launchContents m c)
  · rw [past0 m c main_v63 (fun X => by after_reads_simp) (fun X => by after_reads_simp)]
    exact pre_v63 (X := launchContents m c)

/-- before every trip, -/
theorem inv1 (hQ : IsReal (m ((c.tc : Thread nD τ).loc main_arg0)) Q) (hK : IsReal (m ((c.tc : Thread nD τ).loc main_arg1)) K)
    (hV : IsReal (m ((c.tc : Thread nD τ).loc main_arg2)) V) (hG : IsReal (m ((c.tc : Thread nD τ).loc main_arg3)) G) :
    ∀ j, j ≤ 64 → Inv1 Q K V G j (A1 m j c)
  | 0, _ => inv1_base m c hQ hK hV hG
  | j + 1, hj => (inv1 hQ hK hV hG j (by omega)).step (by omega)

/-- and past its last condition. -/
theorem inv1_past (X : Valuation τ sig (Elt Ideal)) (I : Inv1 Q K V G 64 X) : Inv1 Q K V G 64 (after cond1Ops X) where
  ctr := by after_reads_simp; exact I.ctr
  gg := by after_reads_simp; exact I.gg
  qq := by after_reads_simp; exact I.qq
  ss := by after_reads_simp; exact I.ss
  vv := by after_reads_simp; exact I.vv
  kk := by after_reads_simp; exact I.kk
  qd := by after_reads_simp; exact I.qd
  cd := by after_reads_simp; exact I.cd
  kd := by after_reads_simp; exact I.kd
  dd := by after_reads_simp; exact I.dd
  dq := by after_reads_simp; exact I.dq
  dk := by after_reads_simp; exact I.dk
  dv := by after_reads_simp; exact I.dv

/-- A buffer written before the first loop and by nothing from there to the last stretch. -/
theorem past_both (b : DevRef τ sig)
    (h3 : ∀ X : Valuation τ sig (Elt Ideal), after body0Ops (after cond0Ops X) b = X b) (h3' : ∀ X : Valuation τ sig (Elt Ideal), after cond0Ops X b = X b)
    (h4 : ∀ X : Valuation τ sig (Elt Ideal), after midOps X b = X b)
    (h5 : ∀ X : Valuation τ sig (Elt Ideal), after body1Ops (after cond1Ops X) b = X b) (h5' : ∀ X : Valuation τ sig (Elt Ideal), after cond1Ops X b = X b) :
    after cond1Ops (A1 m 64 c) b = W0 m c b :=
  (past1 m c b h5 h5').trans ((h4 _).trans (past0 m c b h3 h3'))

theorem last (hQ : IsReal (m ((c.tc : Thread nD τ).loc main_arg0)) Q) (hK : IsReal (m ((c.tc : Thread nD τ).loc main_arg1)) K)
    (hV : IsReal (m ((c.tc : Thread nD τ).loc main_arg2)) V) (hG : IsReal (m ((c.tc : Thread nD τ).loc main_arg3)) G) :
    Last Q K V G (after cond1Ops (A1 m 64 c)) where
  qq := by
    rw [past_both m c main_v4 (fun X => by after_reads_simp) (fun X => by after_reads_simp) (fun X => by after_reads_simp) (fun X => by after_reads_simp) (fun X => by after_reads_simp)]
    exact pre_v4 (X := launchContents m c) hQ
  kk := by
    rw [past_both m c main_v5 (fun X => by after_reads_simp) (fun X => by after_reads_simp) (fun X => by after_reads_simp) (fun X => by after_reads_simp) (fun X => by after_reads_simp)]
    exact pre_v5 (X := launchContents m c) hK
  vv := by
    rw [past_both m c main_v6 (fun X => by after_reads_simp) (fun X => by after_reads_simp) (fun X => by after_reads_simp) (fun X => by after_reads_simp) (fun X => by after_reads_simp)]
    exact pre_v6 (X := launchContents m c) hV
  gg := by
    rw [past1 m c main_v74 (fun X => by after_reads_simp) (fun X => by after_reads_simp)]
    refine mid_v74 (Y := after cond0Ops (A0 m 64 c)) ?_
    rw [past0 m c main_v3 (fun X => by after_reads_simp) (fun X => by after_reads_simp)]
    exact pre_v3 (X := launchContents m c) hG
  w := by
    rw [past_both m c main_v29 (fun X => by after_reads_simp) (fun X => by after_reads_simp) (fun X => by after_reads_simp) (fun X => by after_reads_simp) (fun X => by after_reads_simp)]
    exact pre_v29 (X := launchContents m c)
  p := by
    rw [past_both m c main_v31 (fun X => by after_reads_simp) (fun X => by after_reads_simp) (fun X => by after_reads_simp) (fun X => by after_reads_simp) (fun X => by after_reads_simp)]
    exact pre_v31 (X := launchContents m c) hQ hK

theorem idx2 (y : S4096x1024.Idx) : ix2 (y 0 : Fin 4096) (y 1 : Fin 1024) = y := by
  funext i; fin_cases i <;> rfl

variable (hQ : IsReal (m ((c.tc : Thread nD τ).loc main_arg0)) Q) (hK : IsReal (m ((c.tc : Thread nD τ).loc main_arg1)) K)
  (hV : IsReal (m ((c.tc : Thread nD τ).loc main_arg2)) V) (hG : IsReal (m ((c.tc : Thread nD τ).loc main_arg3)) G)

include hQ hK hV hG

/-- The queries' gradient the reference returns, -/
theorem value_dq : WF m c main_v99 = outDQ G K V := by
  funext y
  obtain ⟨n, j, rfl⟩ : ∃ (n : Fin 4096) (j : Fin 1024), y = ix2 n j := ⟨y 0, y 1, (idx2 y).symm⟩
  refine (post_dq (last m c hQ hK hV hG) (inv1_past _ (inv1 m c hQ hK hV hG 64 le_rfl)) n j).trans ?_
  rw [DQ_chunk Q K V G _ _ _ _ (by omega) (by omega)]
  refine (outDQ_of _ (j.val / 256) _ (j.val % 256) ?_ ?_ (by omega)).symm
  · show n.val = _; omega
  · show j.val = _; omega

/-- the keys', -/
theorem value_dk : WF m c main_v98 = outDK Q G V := by
  funext y
  obtain ⟨n, j, rfl⟩ : ∃ (n : Fin 4096) (j : Fin 1024), y = ix2 n j := ⟨y 0, y 1, (idx2 y).symm⟩
  refine (post_dk (last m c hQ hK hV hG) (inv1_past _ (inv1 m c hQ hK hV hG 64 le_rfl)) n j).trans ?_
  rw [DK_chunk Q K V G _ _ _ _ (by omega) (by omega)]
  refine (outDK_of _ (j.val / 256) _ (j.val % 256) ?_ ?_ (by omega)).symm
  · show n.val = _; omega
  · show j.val = _; omega

/-- and the values'. -/
theorem value_dv : WF m c main_v97 = outDV Q G K := by
  funext y
  obtain ⟨n, j, rfl⟩ : ∃ (n : Fin 4096) (j : Fin 1024), y = ix2 n j := ⟨y 0, y 1, (idx2 y).symm⟩
  refine (post_dv (last m c hQ hK hV hG) (inv1_past _ (inv1 m c hQ hK hV hG 64 le_rfl)) n j).trans ?_
  rw [DV_chunk Q K V G _ _ _ _ (by omega) (by omega)]
  refine (outDV_of _ (j.val / 256) _ (j.val % 256) ?_ ?_ (by omega)).symm
  · show n.val = _; omega
  · show j.val = _; omega

omit hQ hK hV hG

/-- The frame of the reference. -/
theorem frame_ref (ρ : Dev nD → PrngReg) : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨(h.1 c main_arg0 rfl).trans (arg0_kept m c), (h.1 c main_arg1 rfl).trans (arg1_kept m c),
    (h.1 c main_arg2 rfl).trans (arg2_kept m c), (h.1 c main_arg3 rfl).trans (arg3_kept m c)⟩, h.2⟩) (run m ρ)

/-- The run of the reference, on real arguments: its three results and its arguments unchanged. -/
theorem run_values (ρ : Dev nD → PrngReg) (Q K V G : Dev nD → ℕ → ℕ → ℝ)
    (hQ : ∀ c : Dev nD, IsReal (m ((c.tc : Thread nD τ).loc main_arg0)) (Q c)) (hK : ∀ c : Dev nD, IsReal (m ((c.tc : Thread nD τ).loc main_arg1)) (K c))
    (hV : ∀ c : Dev nD, IsReal (m ((c.tc : Thread nD τ).loc main_arg2)) (V c)) (hG : ∀ c : Dev nD, IsReal (m ((c.tc : Thread nD τ).loc main_arg3)) (G c)) :
    θ_run defs (onTc (τ := τ) (main (F := Ideal))) ⟨m, fun _ => 0, ρ⟩ (fun r => ∀ c : Dev nD,
      r.2.mem ((c.tc : Thread nD τ).loc main_v99) = outDQ (G c) (K c) (V c)
      ∧ r.2.mem ((c.tc : Thread nD τ).loc main_v98) = outDK (Q c) (G c) (V c)
      ∧ r.2.mem ((c.tc : Thread nD τ).loc main_v97) = outDV (Q c) (G c) (K c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h.1.1 c main_v99 rfl).trans (value_dq m c (hQ c) (hK c) (hV c) (hG c)),
      (h.1.1 c main_v98 rfl).trans (value_dk m c (hQ c) (hK c) (hV c) (hG c)),
      (h.1.1 c main_v97 rfl).trans (value_dv m c (hQ c) (hK c) (hV c) (hG c)), h.2.1 c⟩)
    (θ_run_and (run m ρ) (frame_ref m ρ))

end Cert.RetRef

end
-- ==== Proof.FwdTrip.lean ====
/- The retention heads' forward call block by block: one trip of its pair loop takes the key blocks `2k` and `2k + 1`
   into the accumulator, with the same step the queries' gradient takes (the queries in the cotangent's place, the keys
   and the values exchanged). -/
module

public import proofs.«01_k».proof.Proof.Body
public import proofs.«01_k».proof.Proof.Gen.KernelRetIdeal.Frame

@[expose] public section

set_option maxRecDepth 16384

noncomputable section

namespace Cert.RetFwd

open Idealize.ShloMosaic Idealize.ShloMosaic.TcCoe Idealize.ShloMosaic.Tactic
open Cert.KernelRetIdeal Cert.KernelRetIdeal.Gen
open Cert.RetBwd (wgt addN decOff decDiag getBlk stepDQ upTo readAt_blk readAt_all readAt_sq readAt_lg readAt_rel read_all readCov_sq zero2 pair)

variable {F : FTy → Type} [FloatOps F]

theorem trips_t1 : ∀ i : grid0.Coords, (k0_t1_loop i).trips = (i 1).val / 2 := by decide +kernel

theorem trips_t2 : ∀ i : grid0.Coords, (k0_t2_loop i).trips = 0 := by decide +kernel

theorem off2_eq : ∀ (i : grid0.Coords) (k : Fin (k0_t1_loop i).trips), k0_off2 i k = ![512 * (2 * k.val), 0] := by
  decide +kernel

theorem off3_eq : ∀ (i : grid0.Coords) (k : Fin (k0_t1_loop i).trips), k0_off3 i k = ![512 * (2 * k.val + 1), 0] := by
  decide +kernel

theorem word_even : ∀ (i : grid0.Coords) (k : Fin (k0_t1_loop i).trips),
    Scalar.muli 2#32 (Scf.iv 0#32 1#32 k) = BitVec.ofNat 32 (2 * k.val) := by decide +kernel

theorem word_odd : ∀ (i : grid0.Coords) (k : Fin (k0_t1_loop i).trips),
    Scalar.addi (Scalar.muli 2#32 (Scf.iv 0#32 1#32 k)) 1#32 = BitVec.ofNat 32 (2 * k.val + 1) := by decide +kernel

theorem trip_lt (i : grid0.Coords) (k : Fin (k0_t1_loop i).trips) : 2 * k.val + 1 < 8 := by
  have h1 := k.isLt
  have h2 : (i 1).val < 8 := (i 1).isLt
  have h3 := trips_t1 i
  omega

/-- The word of the last key block before the diagonal, at an odd query block. -/
theorem word_last : ∀ i : grid0.Coords, (i 1).val % 2 = 1 →
    Scalar.subi (BitVec.ofNat 32 (i 1).val) 1#32 = BitVec.ofNat 32 (2 * ((i 1).val / 2)) := by decide +kernel

theorem off6_blk : ∀ i : grid0.Coords, (i 1).val % 2 = 1 → k0_off6 i = ![512 * (2 * ((i 1).val / 2)), 0] := by decide +kernel

theorem off1_blk (i : grid0.Coords) : k0_off1 i = ![512 * (i 1).val, 0] := k0_off1_eq i

/-- The diagonal key block's part. -/
def diag (w : FVec F S512x512 .bf16) (x : FVec F S512x256 .bf16) : FVec F S512x256 .f32 :=
  shapeCast S512x256 (matmul dot_S512x512_S512x256_S512x256_1_0_0_1_n_n none w x (constant S512x256 .f32 0x00000000#32))
    shapeCasts_S512x256_S512x256

section Payloads

variable (i : grid0.Coords) (k : Fin (k0_t1_loop i).trips) (a : BitVec 32) (q : FVec F S512x256 .bf16)
  (x y : Vec F S512x256 .bf16) (lg : Vec F S1x1x128 .f32) (rel : Vec F S1x512x512 .f32) (old : Vec F S512x256 .f32)

theorem pay7_eq : k0_pay1 (k0_pay7 i a q 0#32 1#32 k x y lg rel old)
    = addN (wgt q x (decOff a (BitVec.ofNat 32 (2 * k.val)) lg rel)) y old := by rw [← word_even i k]; rfl

theorem pay2_eq : k0_pay2 a (Scf.iv 0#32 1#32 k) y (k0_pay6 q x) lg rel old
    = addN (wgt q x (decOff a (BitVec.ofNat 32 (2 * k.val + 1)) lg rel)) y old := by rw [← word_odd i k]; rfl

theorem pay10_eq : k0_pay10 q x y rel = diag (wgt q x (decDiag rel)) y := rfl

theorem pay5_eq (h : (i 1).val % 2 = 1) : k0_pay5 (BitVec.ofNat 32 (i 1).val) q x y lg rel old
    = addN (wgt q x (decOff (BitVec.ofNat 32 (i 1).val) (BitVec.ofNat 32 (2 * ((i 1).val / 2))) lg rel)) y old := by
  rw [← word_last i h]; rfl

end Payloads

section
variable (𝒱 : Variants) (c : Dev nD) (bd : Option 𝒱.V) (i : grid0.Coords) (arg2 : Memref sig .tc .vmem S512x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S1x1x128 .f32) (harg5 : arg5.IsWhole) (arg6 : Memref sig .tc .vmem S1x512x512 .f32) (harg6 : arg6.IsWhole) (arg7 : Memref sig .tc .vmem S1x512x512 .f32) (harg7 : arg7.IsWhole) (arg8 : Memref sig .tc .vmem S512x256 .f32) (harg8 : arg8.IsWhole) (arg9 : Memref sig .tc .vmem S512x256 .f32) (harg9 : arg9.IsWhole)
  (a : BitVec 32) (q : Vec F S512x256 .bf16)
  (X3 : BufTy.Contents (Elt F) arg3.view.ty) (X4 : BufTy.Contents (Elt F) arg4.view.ty)
  (X5 : BufTy.Contents (Elt F) arg5.view.ty) (X6 : BufTy.Contents (Elt F) arg6.view.ty)

/-- One trip. -/
theorem trip (k : Fin (k0_t1_loop i).trips) (f : BufTy.Contents (Elt F) arg9.view.ty) :
    arg9.view.read (Elt F) (arg9.view.writes (Elt F) f (tripL_k0_t1 (F := F) 𝒱 c bd i arg2 harg2 arg3 harg3 arg4 harg4 arg5 harg5 arg6 harg6 arg7 harg7 arg8 harg8 arg9 harg9 a q 0#32 X3 X4 X5 X6 k f))
      = pair (stepDQ a q (arg4.view.read (Elt F) X4) (arg3.view.read (Elt F) X3) (arg5.view.read (Elt F) X5) (arg6.view.read (Elt F) X6)) k
          (arg9.view.read (Elt F) f) := by
  have h2 : 2 * k.val < 8 := by have := trip_lt i k; omega
  unfold tripL_k0_t1 trip_k0_t1
  sl_unfold_run_names
  dsimp only
  rw [read_all arg9.view f zero2]
  simp only [readCov_sq, readAt_blk _ _ (trip_lt i k) (off3_eq i k), readAt_blk _ _ h2 (off2_eq i k), readAt_lg, readAt_rel, readAt_sq,
    pay7_eq, pay2_eq, pair, stepDQ]

/-- The trips before `k`. -/
theorem trips (G : BufTy.Contents (Elt F) arg9.view.ty) : ∀ k : ℕ, k ≤ (k0_t1_loop i).trips →
    arg9.view.read (Elt F) (arg9.view.writes (Elt F) G (pb_k0_t1 (F := F) 𝒱 c bd i arg2 harg2 arg3 harg3 arg4 harg4 arg5 harg5 arg6 harg6 arg7 harg7 arg8 harg8 arg9 harg9 a q 0#32 X3 X4 X5 X6 G k))
      = upTo (stepDQ a q (arg4.view.read (Elt F) X4) (arg3.view.read (Elt F) X3) (arg5.view.read (Elt F) X5) (arg6.view.read (Elt F) X6)) (2 * k)
          (arg9.view.read (Elt F) G)
  | 0, _ => rfl
  | k + 1, h => by
    rw [pb_k0_t1_succ (F := F) 𝒱 c bd i arg2 harg2 arg3 harg3 arg4 harg4 arg5 harg5 arg6 harg6 arg7 harg7 arg8 harg8 arg9 harg9 a q 0#32 X3 X4 X5 X6 G ⟨k, h⟩,
      View.writes_append, trip, trips G k (Nat.le_of_succ_le h)]
    rfl
end

/-- What query block `n` gets. -/
def pointO (n : ℕ) (q : Vec F S512x256 .bf16) (k v : Vec F S4096x256 .bf16) (lg : Vec F S1x1x128 .f32)
    (rel reld : Vec F S1x512x512 .f32) : Vec F S512x256 .f32 :=
  upTo (stepDQ (BitVec.ofNat 32 n) q v k lg rel) n (diag (wgt q (getBlk n k) (decDiag reld)) (getBlk n v))

section
variable (c : Dev nD) (i : grid0.Coords) (arg2 : Memref sig .tc .vmem S512x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S1x1x128 .f32) (harg5 : arg5.IsWhole) (arg6 : Memref sig .tc .vmem S1x512x512 .f32) (harg6 : arg6.IsWhole) (arg7 : Memref sig .tc .vmem S1x512x512 .f32) (harg7 : arg7.IsWhole) (arg8 : Memref sig .tc .vmem S512x256 .f32) (harg8 : arg8.IsWhole) (arg9 : Memref sig .tc .vmem S512x256 .f32) (harg9 : arg9.IsWhole)
  (x0 : Vec F S512x256 .bf16) (x1 : Vec F S4096x256 .bf16) (x2 : Vec F S4096x256 .bf16) (x3 : Vec F S1x1x128 .f32) (x4 : Vec F S1x512x512 .f32) (x5 : Vec F S1x512x512 .f32)

/-- The accumulator after the diagonal block, the pairs and the empty remainder of the loop. -/
theorem acc_read (a v37 : BitVec 32) (q q' : Vec F S512x256 .bf16)
    (X3 X3' : BufTy.Contents (Elt F) arg3.view.ty) (X4 X4' : BufTy.Contents (Elt F) arg4.view.ty)
    (X5 X5' : BufTy.Contents (Elt F) arg5.view.ty) (X6 X6' : BufTy.Contents (Elt F) arg6.view.ty)
    (inb inb') (w : Vec F S512x256 .f32) (G' : BufTy.Contents (Elt F) arg9.view.ty) {T1 T2 : ℕ} (h1 : T1 = (k0_t1_loop i).trips) (h2 : T2 = (k0_t2_loop i).trips) :
    arg9.view.readCov
      (pb_k0_t2 (F := F) Variants.none c none i arg2 harg2 arg3 harg3 arg4 harg4 arg5 harg5 arg6 harg6 arg7 harg7 arg8 harg8 arg9 harg9 a q' v37 X3' X4' X5' X6' G' T2
        ++ (pb_k0_t1 (F := F) Variants.none c none i arg2 harg2 arg3 harg3 arg4 harg4 arg5 harg5 arg6 harg6 arg7 harg7 arg8 harg8 arg9 harg9 a q 0#32 X3 X4 X5 X6
            (arg9.view.writes (Elt F) arg9.view.junk [⟨Rect.unit (s := S512x256) ![0, 0] (no_index S512x256.size) inb, w⟩]) T1
          ++ [⟨Rect.unit (s := S512x256) ![0, 0] (no_index S512x256.size) inb, w⟩]))
      (Rect.unit (s := S512x256) ![0, 0] (no_index S512x256.size) inb').toLoadRect
      = upTo (stepDQ a q (arg4.view.read (Elt F) X4) (arg3.view.read (Elt F) X3) (arg5.view.read (Elt F) X5) (arg6.view.read (Elt F) X6)) (2 * ((i 1).val / 2)) w := by
  rw [h2, trips_t2 i, show pb_k0_t2 (F := F) Variants.none c none i arg2 harg2 arg3 harg3 arg4 harg4 arg5 harg5 arg6 harg6 arg7 harg7 arg8 harg8 arg9 harg9 a q' v37 X3' X4' X5' X6' G' 0 = [] from rfl, List.nil_append]
  refine (readAt_all arg9.view _ zero2 inb').trans ?_
  rw [View.writes_append, h1, trips _ _ _ _ _ _ _ _ _ _ _ _ _ _ _ _ _ _ _ _ _ _ _ _ _ _ _ _ le_rfl, trips_t1, read_all arg9.view _ zero2]

/-- An even query block: pairs only. -/
theorem out_even (hc : ¬cond0_0 i) (h : ¬ (i 1).val % 2 = 1) :
    out0_A_6 c i arg2 harg2 arg3 harg3 arg4 harg4 arg5 harg5 arg6 harg6 arg7 harg7 arg8 harg8 arg9 harg9 hc x0 x1 x2 x3 x4 x5
      = pointO (i 1).val x0 x1 x2 x3 x4 x5 := by
  unfold out0_A_6 kernelRun0_A
  sl_unfold_run_names
  dsimp only
  refine (read_all VO0_6 _ zero2 _ _ _).trans ?_
  refine (acc_read c i arg2 harg2 arg3 harg3 arg4 harg4 arg5 harg5 arg6 harg6 arg7 harg7 arg8 harg8 arg9 harg9 _ _ _ _ _ _ _ _ _ _ _ _ _ _ _ _ rfl rfl).trans ?_
  simp only [readAt_sq, readAt_blk _ _ (i 1).isLt (off1_blk i), readAt_rel, Memref.IsWhole.read_unread, pay10_eq]
  exact (Cert.RetBwd.upTo_even _ h _).symm
/-- An odd query block: pairs, and one key block more. -/
theorem out_odd (hc : cond0_0 i) (h : (i 1).val % 2 = 1) :
    out0_B_6 c i arg2 harg2 arg3 harg3 arg4 harg4 arg5 harg5 arg6 harg6 arg7 harg7 arg8 harg8 arg9 harg9 hc x0 x1 x2 x3 x4 x5
      = pointO (i 1).val x0 x1 x2 x3 x4 x5 := by
  unfold out0_B_6 kernelRun0_B
  sl_unfold_run_names
  dsimp only
  refine (read_all VO0_6 _ zero2 _ _ _).trans ?_
  have hj : 2 * ((i 1).val / 2) < 8 := by have h8 : (i 1).val < 8 := (i 1).isLt; omega
  refine (readCov_sq arg9.view _ _ _).trans ?_
  refine (pay5_eq i _ _ _ _ _ _ h).trans ?_
  refine (congrArg (addN _ _) (acc_read c i arg2 harg2 arg3 harg3 arg4 harg4 arg5 harg5 arg6 harg6 arg7 harg7 arg8 harg8 arg9 harg9 _ _ _ _ _ _ _ _ _ _ _ _ _ _ _ _ rfl rfl)).trans ?_
  simp only [readAt_sq, readAt_blk _ _ (i 1).isLt (off1_blk i), readAt_blk _ _ hj (off6_blk i h), readAt_rel, readAt_lg, Memref.IsWhole.read_unread, pay10_eq]
  exact (Cert.RetBwd.upTo_odd _ h _).symm
end

end Cert.RetFwd

end
-- ==== Proof.FwdValue.lean ====
/- What the forward call of the retention heads leaves in its result on real arguments: head by head the plain weighted
   sums, which are the queries' gradient with the queries in the cotangent's place and the keys and the values exchanged. -/
module

public import proofs.«01_k».proof.Proof.KernelValue
public import proofs.«01_k».proof.Proof.FwdTrip

@[expose] public section

set_option maxRecDepth 16384

noncomputable section

namespace Cert.RetFwd

open Idealize.ShloMosaic Idealize.ShloMosaic.TcCoe Idealize.ShloMosaic.Tactic
open Cert.KernelRetIdeal Cert.KernelRetIdeal.Gen
open Cert.RetBwd (W dot DQ lgR lgE lgE_real Tables IsBlk IsArr IsReal hd cN wgt decDiag getBlk wgt_real decDiag_real sum_fin' upTo_dq sum_blocks W_after
  chunkW chunk_word chunk_le sitofp_nat abs_real bit0_real bit1_real outDQ outDQ_of)

variable (m : (ℓ : Loc nD τ sig) → Buf (Elt Ideal) ℓ)

theorem idx : ∀ t : Fin cfg0.N, win0_0.index t = ![t.val % 8, t.val / 8] ∧ win0_1.index t = ![0, t.val / 8] ∧ win0_2.index t = ![0, t.val / 8]
    ∧ win0_3.index t = ![t.val / 8, 0, 0] ∧ win0_4.index t = ![t.val / 8, 0, 0]
    ∧ win0_5.index t = ![t.val / 8, 0, 0] ∧ win0_6.index t = ![t.val % 8, t.val / 8] ∧ t.val / 8 < 4 ∧ (grid0.coords t 1).val = t.val % 8 :=
  (by decide +kernel : ∀ t : Fin grid0.N, _)

theorem head_lt (t : Fin cfg0.N) : t.val / 8 < 4 := by
  have h : t.val < 32 := lt_of_lt_of_eq t.isLt N_0
  omega

/-! ## The decay tables of the call -/

theorem v39_apply (c : Dev nD) (h : Fin 4) (z : Fin 128) :
    (show Vec Ideal S4x1x128 .f32 from V m c main_v39) (ix3 h 0 z) = lgE h.val := by
  simp only [V, hostOps0, hostOps0_1, hostOps0_2, List.flatten_cons, List.flatten_nil, List.cons_append, List.nil_append]
  entry_read
  pointwise
  rfl

theorem v19_apply (c : Dev nD) (h : Fin 4) (a b : Fin 512) :
    (show Vec Ideal S4x512x512 .f32 from V m c main_v19) (ix3 h a b)
      = ((Real.exp (lgR h.val * ((a.val : ℝ) - b.val)) : ℝ) : EReal) := by
  simp only [V, hostOps0, hostOps0_1, hostOps0_2, List.flatten_cons, List.flatten_nil, List.cons_append, List.nil_append]
  entry_read
  pointwise
  show Ideal.exp (lgE h.val * (FloatOps.sitofp (F := Ideal) FTy.f32 (BitVec.ofNat 32 a.val) - FloatOps.sitofp (F := Ideal) FTy.f32 (BitVec.ofNat 32 b.val))) = _
  rw [sitofp_nat _ (by omega), sitofp_nat _ (by omega), lgE_real _ h.isLt, ← EReal.coe_sub, ← EReal.coe_mul]
  rfl

theorem v37_apply (c : Dev nD) (h : Fin 4) (a b : Fin 512) :
    (show Vec Ideal S4x512x512 .f32 from V m c main_v37) (ix3 h a b) = ((W (lgR h.val) a.val b.val : ℝ) : EReal) := by
  simp only [V, hostOps0, hostOps0_1, hostOps0_2, List.flatten_cons, List.flatten_nil, List.cons_append, List.nil_append]
  entry_read
  simp only [StableHlo.TRef.toBuf, StableHlo.TRef.ofBuf, cast_cast, cast_eq]
  pointwise
  show Ideal.exp (lgE h.val * FloatOps.absf (F := Ideal) (φ := .f32) (FloatOps.sitofp (F := Ideal) FTy.f32 (BitVec.ofNat 32 a.val) - FloatOps.sitofp (F := Ideal) FTy.f32 (BitVec.ofNat 32 b.val)))
    * FloatOps.uitofp (F := Ideal) FTy.f32 (IntOp.cmpi CmpIPredicate.sge (chunkW (BitVec.ofNat 32 a.val)) (chunkW (BitVec.ofNat 32 b.val))) = _
  rw [chunk_word a, chunk_word b, chunk_le ⟨a.val / 64, by omega⟩ ⟨b.val / 64, by omega⟩]
  rw [sitofp_nat _ (by omega), sitofp_nat _ (by omega), lgE_real _ h.isLt, ← EReal.coe_sub, abs_real, ← EReal.coe_mul]
  show _ * FloatOps.uitofp (F := Ideal) FTy.f32 (if b.val / 64 ≤ a.val / 64 then 1#1 else 0#1) = _
  unfold W
  by_cases hc : b.val / 64 ≤ a.val / 64
  · rw [if_pos hc, if_pos hc, bit1_real, mul_one]; rfl
  · rw [if_neg hc, if_neg hc, bit0_real, mul_zero, EReal.coe_zero]

theorem lg_at (c : Dev nD) (t : Fin cfg0.N) (z : S1x1x128.Idx) :
    (iblk m c 3 t : Vec Ideal S1x1x128 .f32) z = (show Vec Ideal S4x1x128 .f32 from V m c main_v39) (ix3 ⟨t.val / 8, head_lt t⟩ 0 (z 2)) := by
  blk_ext [iblk, idx t]

theorem rel_at (c : Dev nD) (t : Fin cfg0.N) (a b : Fin 512) :
    (iblk m c 4 t : Vec Ideal S1x512x512 .f32) (ix3 0 a b) = (show Vec Ideal S4x512x512 .f32 from V m c main_v19) (ix3 ⟨t.val / 8, head_lt t⟩ a b) := by
  blk_ext [iblk, idx t]

theorem reld_at (c : Dev nD) (t : Fin cfg0.N) (a b : Fin 512) :
    (iblk m c 5 t : Vec Ideal S1x512x512 .f32) (ix3 0 a b) = (show Vec Ideal S4x512x512 .f32 from V m c main_v37) (ix3 ⟨t.val / 8, head_lt t⟩ a b) := by
  blk_ext [iblk, idx t]

/-- The tables as the windows read them at point `t`. -/
theorem tables (c : Dev nD) (t : Fin cfg0.N) : Tables (lgR (t.val / 8)) (iblk m c 3 t) (iblk m c 4 t) (iblk m c 5 t) where
  lg_eq z := (lg_at m c t z).trans ((v39_apply m c ⟨t.val / 8, head_lt t⟩ (z 2)).trans (lgE_real _ (head_lt t)))
  rel_eq a b := (rel_at m c t a b).trans (v19_apply m c ⟨t.val / 8, head_lt t⟩ a b)
  reld_eq a b := (reld_at m c t a b).trans (v37_apply m c ⟨t.val / 8, head_lt t⟩ a b)

/-! ## The blocks of the arguments -/

section
variable (c : Dev nD)

theorem q_at (t : Fin cfg0.N) (a : Fin 512) (d : Fin 256) (h0 : 512 * (t.val % 8) + a.val < 4096) (h1 : 256 * (t.val / 8) + d.val < 1024) :
    (iblk m c 0 t : Vec Ideal S512x256 .bf16) (ix2 a d)
      = (m ((c : Thread nD τ).loc main_arg0) : Vec Ideal S4096x1024 .bf16) (ix2 ⟨512 * (t.val % 8) + a.val, h0⟩ ⟨256 * (t.val / 8) + d.val, h1⟩) := by
  blk_ext [iblk, V, idx t]

theorem k_at (t : Fin cfg0.N) (a : Fin 4096) (d : Fin 256) (h1 : 256 * (t.val / 8) + d.val < 1024) :
    (iblk m c 1 t : Vec Ideal S4096x256 .bf16) (ix2 a d)
      = (m ((c : Thread nD τ).loc main_arg1) : Vec Ideal S4096x1024 .bf16) (ix2 a ⟨256 * (t.val / 8) + d.val, h1⟩) := by
  blk_ext [iblk, V, idx t]

theorem v_at (t : Fin cfg0.N) (a : Fin 4096) (d : Fin 256) (h1 : 256 * (t.val / 8) + d.val < 1024) :
    (iblk m c 2 t : Vec Ideal S4096x256 .bf16) (ix2 a d)
      = (m ((c : Thread nD τ).loc main_arg2) : Vec Ideal S4096x1024 .bf16) (ix2 a ⟨256 * (t.val / 8) + d.val, h1⟩) := by
  blk_ext [iblk, V, idx t]

variable {Q K Vv : ℕ → ℕ → ℝ}

theorem q_blk (hQ : IsReal (m ((c : Thread nD τ).loc main_arg0)) Q) (t : Fin cfg0.N) : IsBlk (iblk m c 0 t) (t.val % 8) (hd (t.val / 8) Q) := fun a d => by
  have := head_lt t
  exact (q_at m c t a d (by omega) (by omega)).trans (hQ ⟨_, by omega⟩ ⟨_, by omega⟩)

theorem k_arr (hK : IsReal (m ((c : Thread nD τ).loc main_arg1)) K) (t : Fin cfg0.N) : IsArr (iblk m c 1 t) (hd (t.val / 8) K) := fun a d => by
  have := head_lt t
  exact (k_at m c t a d (by omega)).trans (hK a ⟨_, by omega⟩)

theorem v_arr (hV : IsReal (m ((c : Thread nD τ).loc main_arg2)) Vv) (t : Fin cfg0.N) : IsArr (iblk m c 2 t) (hd (t.val / 8) Vv) := fun a d => by
  have := head_lt t
  exact (v_at m c t a d (by omega)).trans (hV a ⟨_, by omega⟩)
end

/-! ## One query block -/

theorem diag_apply (w : FVec Ideal S512x512 .bf16) (x : FVec Ideal S512x256 .bf16) (p : S512x256.Idx) :
    diag w x p = ∑ b : Fin 512, (w (ix2 (p 0) b) : EReal) * x (ix2 b (p 1)) := by pointwise [diag]

theorem pointO_real {l : ℝ} {lg : Vec Ideal S1x1x128 .f32} {rel reld : Vec Ideal S1x512x512 .f32} (T : Tables l lg rel reld)
    {q : FVec Ideal S512x256 .bf16} {k v : FVec Ideal S4096x256 .bf16} {Q K V : ℕ → ℕ → ℝ} (n : ℕ) (hn : n < 8)
    (hq : IsBlk q n Q) (hk : IsArr k K) (hv : IsArr v V) (p : S512x256.Idx) :
    pointO (F := Ideal) n q k v lg rel reld p = ((DQ l Q V K (512 * n + (p 0).val) (p 1).val : ℝ) : EReal) := by
  unfold pointO
  refine (upTo_dq T n hn hq hv hk _ p n le_rfl).trans ?_
  have hz : diag (F := Ideal) (wgt q (getBlk (F := Ideal) (e := .bf16) n k) (decDiag reld)) (getBlk (F := Ideal) (e := .bf16) n v) p = ((cN l Q K V n (512 * n + (p 0).val) (p 1).val : ℝ) : EReal) := by
    rw [diag_apply]
    exact sum_fin' 512 _ (fun b => dot Q K (512 * n + (p 0).val) (512 * n + b) * W l (512 * n + (p 0).val) (512 * n + b) * V (512 * n + b) (p 1).val) fun b => by
      rw [EReal.coe_mul]; exact congrArg₂ _ (wgt_real hq (hk.blk n hn) _ (decDiag_real T n) (p 0) b) (hv.blk n hn b (p 1))
  rw [hz, ← EReal.coe_add, add_comm, ← Finset.sum_range_succ]
  congr 1
  unfold DQ
  rw [show 4096 = 512 * 8 from rfl, sum_blocks 512 _ 8, ← Finset.sum_range_add_sum_Ico _ (show n + 1 ≤ 8 from hn)]
  rw [Finset.sum_eq_zero (s := Finset.Ico (n + 1) 8), add_zero]
  · rfl
  · intro j hj
    refine Finset.sum_eq_zero fun b _ => ?_
    have hj := (Finset.mem_Ico.mp hj).1
    rw [W_after l n j _ b (by omega) (p 0).isLt]; ring

/-! ## The whole call -/

section
variable (c : Dev nD) {Q K Vv : ℕ → ℕ → ℝ}

/-- The two cases of the body leave the same function of the point. -/
theorem outsAt_eq (t : Fin cfg0.N) : outsAt0 m c t.val t.isLt
    = pointO (t.val % 8) (iblk m c 0 t) (iblk m c 1 t) (iblk m c 2 t) (iblk m c 3 t) (iblk m c 4 t) (iblk m c 5 t) := by
  have hi : (grid0.coords t 1).val = t.val % 8 := (idx t).2.2.2.2.2.2.2.2
  by_cases h : t.val % 2 = 1
  · rw [outsAt0_B m c t h, out_odd _ _ _ _ _ _ _ _ _ _ _ _ _ _ _ _ _ _ _ _ _ _ _ _ _ (by omega), hi]
  · rw [outsAt0_A m c t h, out_even _ _ _ _ _ _ _ _ _ _ _ _ _ _ _ _ _ _ _ _ _ _ _ _ _ (by omega), hi]

theorem emb6 (t : Fin cfg0.N) (y : S512x256.Idx) : (((cfg0.win 6).blk t).view.emb y 0 : ℕ) = 512 * (t.val % 8) + (y 0).val
    ∧ (((cfg0.win 6).blk t).view.emb y 1 : ℕ) = 256 * (t.val / 8) + (y 1).val := by
  constructor
  · blk_simp [idx t]; simp; ring
  · blk_simp [idx t]; simp; ring

/-- The result after the launch. -/
theorem final6 (hQ : IsReal (m ((c : Thread nD τ).loc main_arg0)) Q) (hK : IsReal (m ((c : Thread nD τ).loc main_arg1)) K)
    (hV : IsReal (m ((c : Thread nD τ).loc main_arg2)) Vv) : (dats m 0 c).arrAt 6 (cfgs 0).N = outDQ Q Vv K := by
  refine (dats m 0 c).arrAt_eq_of_covers 6 _ (by decide +kernel) fun t _ y => ?_
  have e := outDQ_of (G := Q) (K := Vv) (Vv := K) _ _ _ _ (emb6 t y).1 (emb6 t y).2 (y 1).isLt
  have p := pointO_real (tables m c t) (t.val % 8) (by omega) (q_blk m c hQ t) (k_arr m c hK t) (v_arr m c hV t) y
  blk_simp
  rw [after0_6, outsAt_eq]
  exact p.trans e.symm
end

/-- The run: the result, and the arguments unchanged. -/
theorem run_values (ρ : Dev nD → PrngReg) (Q K Vv : Dev nD → ℕ → ℕ → ℝ)
    (hQ : ∀ c : Dev nD, IsReal (m ((c.tc : Thread nD τ).loc main_arg0)) (Q c)) (hK : ∀ c : Dev nD, IsReal (m ((c.tc : Thread nD τ).loc main_arg1)) (K c))
    (hV : ∀ c : Dev nD, IsReal (m ((c.tc : Thread nD τ).loc main_arg2)) (Vv c)) :
    θ_run defs (onTc (τ := τ) (main (F := Ideal))) ⟨m, fun _ => 0, ρ⟩ (fun r => ∀ c : Dev nD,
      r.2.mem ((c.tc : Thread nD τ).loc main_v40) = outDQ (Q c) (Vv c) (K c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 6).trans (final6 m c (hQ c) (hK c) (hV c)), h.2 c⟩) (θ_run_and (run_main m ρ) (unchanged m ρ))

end Cert.RetFwd

end
-- ==== Proof.FwdRefOps.lean ====
/- The operations of the forward reference, as lists: the stretches of @main before and after its loop, and one trip of the loop. -/
module

public import proofs.«01_k».proof.Proof.Gen.ReferenceRetIdeal
public import Idealize.ShloMosaic.Lib.StableHlo.RunLoop
public import Idealize.ShloMosaic.Lib.Pipeline.Regions

@[expose] public section

set_option maxRecDepth 16384

noncomputable section

namespace Cert.FwdRef

open Idealize.ShloMosaic Idealize.ShloMosaic.TcCoe Idealize.SL Idealize.SL.Sem
open Cert.ReferenceRetIdeal Cert.ReferenceRetIdeal.Facts₀ Cert.ReferenceRetIdeal.Facts

/-- The contents of a buffer. -/
abbrev T (F : FTy → Type) (s : Shape) (t : EltTy) : Type := (⟨s, t⟩ : BufTy).Contents (Elt F)

open StableHlo (unary binary nullary reshape unary_bufs_sub binary_bufs_sub nullary_bufs_sub reshape_bufs_sub unaryIndexed_bufs_sub binaryIndexed_bufs_sub)

variable {F : FTy → Type} [FloatOps F]

/-- The first 60 operations of @main. -/
abbrev pre0Ops : List (HloOp τ sig (Elt F)) :=
  [ unary main_arg0 main_v0 ((extf .f32 · bitsLt_bf16_f32) : T F S4096x1024 .bf16 → T F S4096x1024 .f32),
    unary main_arg1 main_v1 ((extf .f32 · bitsLt_bf16_f32) : T F S4096x1024 .bf16 → T F S4096x1024 .f32),
    unary main_arg2 main_v2 ((extf .f32 · bitsLt_bf16_f32) : T F S4096x1024 .bf16 → T F S4096x1024 .f32),
    reshape main_v0 main_v3 (rfl : (.f32 : EltTy) = .f32) shapeCasts_S4096x1024_S1x64x64x4x256,
    reshape main_v1 main_v4 (rfl : (.f32 : EltTy) = .f32) shapeCasts_S4096x1024_S1x64x64x4x256,
    reshape main_v2 main_v5 (rfl : (.f32 : EltTy) = .f32) shapeCasts_S4096x1024_S1x64x64x4x256,
    nullary main_v6 (sitofp .f32 (iotaInDim S4 32 0)),
    nullary main_cst (constant S_ .f32 0xC0A00000#32),
    unary main_cst main_v7 (broadcastInDim S4 ![] bcast_S_S4 : T F S_ .f32 → T F S4 .f32),
    binary main_v7 main_v6 main_v8 (subf : T F S4 .f32 → T F S4 .f32 → T F S4 .f32),
    nullary main_cst_0 (constant S_ .f32 0x3F317218#32),
    unary main_cst_0 main_v9 (broadcastInDim S4 ![] bcast_S_S4 : T F S_ .f32 → T F S4 .f32),
    binary main_v9 main_v8 main_v10 (mulf : T F S4 .f32 → T F S4 .f32 → T F S4 .f32),
    unary main_v10 main_v11 (Host.exp : T F S4 .f32 → T F S4 .f32),
    unary main_v11 main_v12 (Host.negf : T F S4 .f32 → T F S4 .f32),
    unary main_v12 main_v13 (Host.log1p : T F S4 .f32 → T F S4 .f32),
    nullary main_v14 (sitofp .f32 (iotaInDim S64 32 0)),
    unary main_v13 main_v15 (broadcastInDim S4x1x1 ![0] bcast_S4_S4x1x1_0 : T F S4 .f32 → T F S4x1x1 .f32),
    unary main_v14 main_v16 (broadcastInDim S64x1 ![0] bcast_S64_S64x1_0 : T F S64 .f32 → T F S64x1 .f32),
    unary main_v14 main_v17 (broadcastInDim S1x64 ![1] bcast_S64_S1x64_1 : T F S64 .f32 → T F S1x64 .f32),
    unary main_v16 main_v18 (broadcastInDim S64x64 ![0, 1] bcast_S64x1_S64x64_0_1 : T F S64x1 .f32 → T F S64x64 .f32),
    unary main_v17 main_v19 (broadcastInDim S64x64 ![0, 1] bcast_S1x64_S64x64_0_1 : T F S1x64 .f32 → T F S64x64 .f32),
    binary main_v18 main_v19 main_v20 (subf : T F S64x64 .f32 → T F S64x64 .f32 → T F S64x64 .f32),
    unary main_v20 main_v21 (Host.absf : T F S64x64 .f32 → T F S64x64 .f32),
    unary main_v21 main_v22 (broadcastInDim S1x64x64 ![1, 2] bcast_S64x64_S1x64x64_1_2 : T F S64x64 .f32 → T F S1x64x64 .f32),
    unary main_v15 main_v23 (broadcastInDim S4x64x64 ![0, 1, 2] bcast_S4x1x1_S4x64x64_0_1_2 : T F S4x1x1 .f32 → T F S4x64x64 .f32),
    unary main_v22 main_v24 (broadcastInDim S4x64x64 ![0, 1, 2] bcast_S1x64x64_S4x64x64_0_1_2 : T F S1x64x64 .f32 → T F S4x64x64 .f32),
    binary main_v23 main_v24 main_v25 (mulf : T F S4x64x64 .f32 → T F S4x64x64 .f32 → T F S4x64x64 .f32),
    unary main_v25 main_v26 (Host.exp : T F S4x64x64 .f32 → T F S4x64x64 .f32),
    binary main_v3 main_v4 main_v27 ((fun l r => Host.dotGeneral dot_S1x64x64x4x256_S1x64x64x4x256_S1x64x4x64x64_4_4_2_2_013_013 none l r) : T F S1x64x64x4x256 .f32 → T F S1x64x64x4x256 .f32 → T F S1x64x4x64x64 .f32),
    unary main_v26 main_v28 (broadcastInDim S1x1x4x64x64 ![2, 3, 4] bcast_S4x64x64_S1x1x4x64x64_2_3_4 : T F S4x64x64 .f32 → T F S1x1x4x64x64 .f32),
    unary main_v28 main_v29 (broadcastInDim S1x64x4x64x64 ![0, 1, 2, 3, 4] bcast_S1x1x4x64x64_S1x64x4x64x64_0_1_2_3_4 : T F S1x1x4x64x64 .f32 → T F S1x64x4x64x64 .f32),
    binary main_v27 main_v29 main_v30 (mulf : T F S1x64x4x64x64 .f32 → T F S1x64x4x64x64 .f32 → T F S1x64x4x64x64 .f32),
    binary main_v5 main_v30 main_v31 ((fun l r => Host.dotGeneral dot_S1x64x64x4x256_S1x64x4x64x64_S1x64x4x256x64_2_4_4_3_013_012 none l r) : T F S1x64x64x4x256 .f32 → T F S1x64x4x64x64 .f32 → T F S1x64x4x256x64 .f32),
    unary main_v31 main_v32 ((transpose S1x64x64x4x256 [0, 1, 4, 2, 3] · transposes_S1x64x4x256x64_S1x64x64x4x256_0_1_4_2_3) : T F S1x64x4x256x64 .f32 → T F S1x64x64x4x256 .f32),
    unary main_v13 main_v33 (broadcastInDim S4x1 ![0] bcast_S4_S4x1_0 : T F S4 .f32 → T F S4x1 .f32),
    nullary main_cst_1 (constant S_ .f32 0x3F800000#32),
    unary main_cst_1 main_v34 (broadcastInDim S64 ![] bcast_S_S64 : T F S_ .f32 → T F S64 .f32),
    binary main_v14 main_v34 main_v35 (addf : T F S64 .f32 → T F S64 .f32 → T F S64 .f32),
    unary main_v35 main_v36 (broadcastInDim S1x64 ![1] bcast_S64_S1x64_1 : T F S64 .f32 → T F S1x64 .f32),
    unary main_v33 main_v37 (broadcastInDim S4x64 ![0, 1] bcast_S4x1_S4x64_0_1 : T F S4x1 .f32 → T F S4x64 .f32),
    unary main_v36 main_v38 (broadcastInDim S4x64 ![0, 1] bcast_S1x64_S4x64_0_1 : T F S1x64 .f32 → T F S4x64 .f32),
    binary main_v37 main_v38 main_v39 (mulf : T F S4x64 .f32 → T F S4x64 .f32 → T F S4x64 .f32),
    unary main_v39 main_v40 (Host.exp : T F S4x64 .f32 → T F S4x64 .f32),
    unary main_v40 main_v41 (broadcastInDim S1x4x64 ![1, 2] bcast_S4x64_S1x4x64_1_2 : T F S4x64 .f32 → T F S1x4x64 .f32),
    unary main_v13 main_v42 (broadcastInDim S4x1 ![0] bcast_S4_S4x1_0 : T F S4 .f32 → T F S4x1 .f32),
    nullary main_cst_2 (constant S_ .f32 0x427C0000#32),
    unary main_cst_2 main_v43 (broadcastInDim S64 ![] bcast_S_S64 : T F S_ .f32 → T F S64 .f32),
    binary main_v43 main_v14 main_v44 (subf : T F S64 .f32 → T F S64 .f32 → T F S64 .f32),
    unary main_v44 main_v45 (broadcastInDim S1x64 ![1] bcast_S64_S1x64_1 : T F S64 .f32 → T F S1x64 .f32),
    unary main_v42 main_v46 (broadcastInDim S4x64 ![0, 1] bcast_S4x1_S4x64_0_1 : T F S4x1 .f32 → T F S4x64 .f32),
    unary main_v45 main_v47 (broadcastInDim S4x64 ![0, 1] bcast_S1x64_S4x64_0_1 : T F S1x64 .f32 → T F S4x64 .f32),
    binary main_v46 main_v47 main_v48 (mulf : T F S4x64 .f32 → T F S4x64 .f32 → T F S4x64 .f32),
    unary main_v48 main_v49 (Host.exp : T F S4x64 .f32 → T F S4x64 .f32),
    nullary main_cst_3 (constant S_ .f32 0x42800000#32),
    unary main_cst_3 main_v50 (broadcastInDim S4 ![] bcast_S_S4 : T F S_ .f32 → T F S4 .f32),
    binary main_v13 main_v50 main_v51 (mulf : T F S4 .f32 → T F S4 .f32 → T F S4 .f32),
    unary main_v51 main_v52 (Host.exp : T F S4 .f32 → T F S4 .f32),
    reshape main_v41 main_v53 (rfl : (.f32 : EltTy) = .f32) shapeCasts_S1x4x64_S4x64,
    nullary main_cst_4 (constant S_ .f32 0x00000000#32) ]

theorem pre0_sub : (pre0Ops : List (HloOp τ sig (Elt F))).Forall fun op => op.bufs ⊆ StableHlo.tcRefs τ sig := by
  simp [List.Forall, unary_bufs_sub, binary_bufs_sub, nullary_bufs_sub, reshape_bufs_sub, unaryIndexed_bufs_sub, binaryIndexed_bufs_sub]

/-- The operations from there to the loop. -/
abbrev pre1Ops : List (HloOp τ sig (Elt F)) :=
  [ unary main_cst_4 main_v54 (broadcastInDim S1x4x256x256 ![] bcast_S_S1x4x256x256 : T F S_ .f32 → T F S1x4x256x256 .f32),
    unary main_v3 main_v55 ((transpose S64x1x64x4x256 [1, 0, 2, 3, 4] · transposes_S1x64x64x4x256_S64x1x64x4x256_1_0_2_3_4) : T F S1x64x64x4x256 .f32 → T F S64x1x64x4x256 .f32),
    unary main_v4 main_v56 ((transpose S64x1x64x4x256 [1, 0, 2, 3, 4] · transposes_S1x64x64x4x256_S64x1x64x4x256_1_0_2_3_4) : T F S1x64x64x4x256 .f32 → T F S64x1x64x4x256 .f32),
    unary main_v5 main_v57 ((transpose S64x1x64x4x256 [1, 0, 2, 3, 4] · transposes_S1x64x64x4x256_S64x1x64x4x256_1_0_2_3_4) : T F S1x64x64x4x256 .f32 → T F S64x1x64x4x256 .f32),
    nullary main_cst_5 (constant S_ .f32 0x00000000#32),
    unary main_cst_5 main_v58 (broadcastInDim S64x1x64x4x256 ![] bcast_S_S64x1x64x4x256 : T F S_ .f32 → T F S64x1x64x4x256 .f32),
    nullary main_c (constantI S_ 32 0#32),
    unary main_v55 main_v59_0 id,
    unary main_v56 main_v59_1 id,
    unary main_v57 main_v59_2 id,
    unary main_v53 main_v59_3 id,
    unary main_v52 main_v59_4 id,
    unary main_v49 main_v59_5 id,
    unary main_c main_v59_6 id,
    unary main_v54 main_v59_7 id,
    unary main_v58 main_v59_8 id ]

theorem pre1_sub : (pre1Ops : List (HloOp τ sig (Elt F))).Forall fun op => op.bufs ⊆ StableHlo.tcRefs τ sig := by
  simp [List.Forall, unary_bufs_sub, binary_bufs_sub, nullary_bufs_sub, reshape_bufs_sub, unaryIndexed_bufs_sub, binaryIndexed_bufs_sub]

/-- One trip of the loop. -/
abbrev bodyOps : List (HloOp τ sig (Elt F)) :=
  [ StableHlo.TRef.nullary (.of main_while0b_call0_c : StableHlo.TRef sig ⟨S_, .i32⟩) (constantI S_ 32 0#32),
    StableHlo.TRef.nullary (.of main_while0b_call0_c_0 : StableHlo.TRef sig ⟨S_, .i32⟩) (constantI S_ 32 0#32),
    StableHlo.TRef.nullary (.of main_while0b_call0_c_1 : StableHlo.TRef sig ⟨S_, .i32⟩) (constantI S_ 32 0#32),
    StableHlo.TRef.nullary (.of main_while0b_call0_c_2 : StableHlo.TRef sig ⟨S_, .i32⟩) (constantI S_ 32 0#32),
    StableHlo.TRef.unaryIndexed (.of main_v59_0 : StableHlo.TRef sig ⟨S64x1x64x4x256, .f32⟩) ![(.of main_v59_6 : StableHlo.TRef sig ⟨S_, .i32⟩), (.of main_while0b_call0_c : StableHlo.TRef sig ⟨S_, .i32⟩), (.of main_while0b_call0_c_0 : StableHlo.TRef sig ⟨S_, .i32⟩), (.of main_while0b_call0_c_1 : StableHlo.TRef sig ⟨S_, .i32⟩), (.of main_while0b_call0_c_2 : StableHlo.TRef sig ⟨S_, .i32⟩)] (.of main_while0b_call0_v0 : StableHlo.TRef sig ⟨S1x1x64x4x256, .f32⟩) (fun x i => Host.dynamicSlice S1x1x64x4x256 x (fun k => (i k (Shape.Idx.first h_S_)).toInt) sliceFits_S64x1x64x4x256_S1x1x64x4x256),
    StableHlo.TRef.reshape (.of main_while0b_call0_v0 : StableHlo.TRef sig ⟨S1x1x64x4x256, .f32⟩) (.of main_while0b_v64 : StableHlo.TRef sig ⟨S1x64x4x256, .f32⟩) (rfl : (.f32 : EltTy) = .f32) shapeCasts_S1x1x64x4x256_S1x64x4x256,
    StableHlo.TRef.nullary (.of main_while0b_call1_c : StableHlo.TRef sig ⟨S_, .i32⟩) (constantI S_ 32 0#32),
    StableHlo.TRef.nullary (.of main_while0b_call1_c_0 : StableHlo.TRef sig ⟨S_, .i32⟩) (constantI S_ 32 0#32),
    StableHlo.TRef.nullary (.of main_while0b_call1_c_1 : StableHlo.TRef sig ⟨S_, .i32⟩) (constantI S_ 32 0#32),
    StableHlo.TRef.nullary (.of main_while0b_call1_c_2 : StableHlo.TRef sig ⟨S_, .i32⟩) (constantI S_ 32 0#32),
    StableHlo.TRef.unaryIndexed (.of main_v59_1 : StableHlo.TRef sig ⟨S64x1x64x4x256, .f32⟩) ![(.of main_v59_6 : StableHlo.TRef sig ⟨S_, .i32⟩), (.of main_while0b_call1_c : StableHlo.TRef sig ⟨S_, .i32⟩), (.of main_while0b_call1_c_0 : StableHlo.TRef sig ⟨S_, .i32⟩), (.of main_while0b_call1_c_1 : StableHlo.TRef sig ⟨S_, .i32⟩), (.of main_while0b_call1_c_2 : StableHlo.TRef sig ⟨S_, .i32⟩)] (.of main_while0b_call1_v0 : StableHlo.TRef sig ⟨S1x1x64x4x256, .f32⟩) (fun x i => Host.dynamicSlice S1x1x64x4x256 x (fun k => (i k (Shape.Idx.first h_S_)).toInt) sliceFits_S64x1x64x4x256_S1x1x64x4x256),
    StableHlo.TRef.reshape (.of main_while0b_call1_v0 : StableHlo.TRef sig ⟨S1x1x64x4x256, .f32⟩) (.of main_while0b_v65 : StableHlo.TRef sig ⟨S1x64x4x256, .f32⟩) (rfl : (.f32 : EltTy) = .f32) shapeCasts_S1x1x64x4x256_S1x64x4x256,
    StableHlo.TRef.nullary (.of main_while0b_call2_c : StableHlo.TRef sig ⟨S_, .i32⟩) (constantI S_ 32 0#32),
    StableHlo.TRef.nullary (.of main_while0b_call2_c_0 : StableHlo.TRef sig ⟨S_, .i32⟩) (constantI S_ 32 0#32),
    StableHlo.TRef.nullary (.of main_while0b_call2_c_1 : StableHlo.TRef sig ⟨S_, .i32⟩) (constantI S_ 32 0#32),
    StableHlo.TRef.nullary (.of main_while0b_call2_c_2 : StableHlo.TRef sig ⟨S_, .i32⟩) (constantI S_ 32 0#32),
    StableHlo.TRef.unaryIndexed (.of main_v59_2 : StableHlo.TRef sig ⟨S64x1x64x4x256, .f32⟩) ![(.of main_v59_6 : StableHlo.TRef sig ⟨S_, .i32⟩), (.of main_while0b_call2_c : StableHlo.TRef sig ⟨S_, .i32⟩), (.of main_while0b_call2_c_0 : StableHlo.TRef sig ⟨S_, .i32⟩), (.of main_while0b_call2_c_1 : StableHlo.TRef sig ⟨S_, .i32⟩), (.of main_while0b_call2_c_2 : StableHlo.TRef sig ⟨S_, .i32⟩)] (.of main_while0b_call2_v0 : StableHlo.TRef sig ⟨S1x1x64x4x256, .f32⟩) (fun x i => Host.dynamicSlice S1x1x64x4x256 x (fun k => (i k (Shape.Idx.first h_S_)).toInt) sliceFits_S64x1x64x4x256_S1x1x64x4x256),
    StableHlo.TRef.reshape (.of main_while0b_call2_v0 : StableHlo.TRef sig ⟨S1x1x64x4x256, .f32⟩) (.of main_while0b_v66 : StableHlo.TRef sig ⟨S1x64x4x256, .f32⟩) (rfl : (.f32 : EltTy) = .f32) shapeCasts_S1x1x64x4x256_S1x64x4x256,
    binary main_v59_7 main_while0b_v64 main_while0b_v67 ((fun l r => Host.dotGeneral dot_S1x4x256x256_S1x64x4x256_S1x4x256x64_2_3_3_1_01_02 none l r) : T F S1x4x256x256 .f32 → T F S1x64x4x256 .f32 → T F S1x4x256x64 .f32),
    unary main_while0b_v67 main_while0b_v68 ((transpose S1x64x4x256 [0, 3, 1, 2] · transposes_S1x4x256x64_S1x64x4x256_0_3_1_2) : T F S1x4x256x64 .f32 → T F S1x64x4x256 .f32),
    unary main_v59_3 main_while0b_v69 ((transpose S64x4 [1, 0] · transposes_S4x64_S64x4_1_0) : T F S4x64 .f32 → T F S64x4 .f32),
    unary main_while0b_v69 main_while0b_v70 (broadcastInDim S1x64x4x1 ![1, 2] bcast_S64x4_S1x64x4x1_1_2 : T F S64x4 .f32 → T F S1x64x4x1 .f32),
    unary main_while0b_v70 main_while0b_v71 (broadcastInDim S1x64x4x256 ![0, 1, 2, 3] bcast_S1x64x4x1_S1x64x4x256_0_1_2_3 : T F S1x64x4x1 .f32 → T F S1x64x4x256 .f32),
    binary main_while0b_v68 main_while0b_v71 main_while0b_v72 (mulf : T F S1x64x4x256 .f32 → T F S1x64x4x256 .f32 → T F S1x64x4x256 .f32),
    unary main_v59_4 main_while0b_v73 (broadcastInDim S1x4x1x1 ![1] bcast_S4_S1x4x1x1_1 : T F S4 .f32 → T F S1x4x1x1 .f32),
    unary main_while0b_v73 main_while0b_v74 (broadcastInDim S1x4x256x256 ![0, 1, 2, 3] bcast_S1x4x1x1_S1x4x256x256_0_1_2_3 : T F S1x4x1x1 .f32 → T F S1x4x256x256 .f32),
    binary main_v59_7 main_while0b_v74 main_while0b_v75 (mulf : T F S1x4x256x256 .f32 → T F S1x4x256x256 .f32 → T F S1x4x256x256 .f32),
    unary main_v59_5 main_while0b_v76 ((transpose S64x4 [1, 0] · transposes_S4x64_S64x4_1_0) : T F S4x64 .f32 → T F S64x4 .f32),
    unary main_while0b_v76 main_while0b_v77 (broadcastInDim S1x64x4x1 ![1, 2] bcast_S64x4_S1x64x4x1_1_2 : T F S64x4 .f32 → T F S1x64x4x1 .f32),
    unary main_while0b_v77 main_while0b_v78 (broadcastInDim S1x64x4x256 ![0, 1, 2, 3] bcast_S1x64x4x1_S1x64x4x256_0_1_2_3 : T F S1x64x4x1 .f32 → T F S1x64x4x256 .f32),
    binary main_while0b_v65 main_while0b_v78 main_while0b_v79 (mulf : T F S1x64x4x256 .f32 → T F S1x64x4x256 .f32 → T F S1x64x4x256 .f32),
    binary main_while0b_v79 main_while0b_v66 main_while0b_v80 ((fun l r => Host.dotGeneral dot_S1x64x4x256_S1x64x4x256_S1x4x256x256_1_1_3_3_02_02 none l r) : T F S1x64x4x256 .f32 → T F S1x64x4x256 .f32 → T F S1x4x256x256 .f32),
    binary main_while0b_v75 main_while0b_v80 main_while0b_v81 (addf : T F S1x4x256x256 .f32 → T F S1x4x256x256 .f32 → T F S1x4x256x256 .f32),
    StableHlo.TRef.unary (.of main_while0b_v72 : StableHlo.TRef sig ⟨S1x64x4x256, .f32⟩) (.of main_while0b_call3_v0 : StableHlo.TRef sig ⟨S1x1x64x4x256, .f32⟩) (broadcastInDim S1x1x64x4x256 ![1, 2, 3, 4] bcast_S1x64x4x256_S1x1x64x4x256_1_2_3_4),
    StableHlo.TRef.nullary (.of main_while0b_call3_c : StableHlo.TRef sig ⟨S_, .i32⟩) (constantI S_ 32 0#32),
    StableHlo.TRef.nullary (.of main_while0b_call3_c_0 : StableHlo.TRef sig ⟨S_, .i32⟩) (constantI S_ 32 0#32),
    StableHlo.TRef.nullary (.of main_while0b_call3_c_1 : StableHlo.TRef sig ⟨S_, .i32⟩) (constantI S_ 32 0#32),
    StableHlo.TRef.nullary (.of main_while0b_call3_c_2 : StableHlo.TRef sig ⟨S_, .i32⟩) (constantI S_ 32 0#32),
    StableHlo.TRef.binaryIndexed (.of main_v59_8 : StableHlo.TRef sig ⟨S64x1x64x4x256, .f32⟩) (.of main_while0b_call3_v0 : StableHlo.TRef sig ⟨S1x1x64x4x256, .f32⟩) ![(.of main_v59_6 : StableHlo.TRef sig ⟨S_, .i32⟩), (.of main_while0b_call3_c : StableHlo.TRef sig ⟨S_, .i32⟩), (.of main_while0b_call3_c_0 : StableHlo.TRef sig ⟨S_, .i32⟩), (.of main_while0b_call3_c_1 : StableHlo.TRef sig ⟨S_, .i32⟩), (.of main_while0b_call3_c_2 : StableHlo.TRef sig ⟨S_, .i32⟩)] (.of main_while0b_v82 : StableHlo.TRef sig ⟨S64x1x64x4x256, .f32⟩) (fun x u i => Host.dynamicUpdateSlice x u (fun k => (i k (Shape.Idx.first h_S_)).toInt) updateFits_S64x1x64x4x256_S1x1x64x4x256),
    nullary main_while0b_c_14 (constantI S_ 32 1#32),
    binary main_v59_6 main_while0b_c_14 main_while0b_v83 (addi : T F S_ .i32 → T F S_ .i32 → T F S_ .i32),
    unary main_while0b_v83 main_v59_6 id,
    unary main_while0b_v81 main_v59_7 id,
    unary main_while0b_v82 main_v59_8 id ]

theorem body_sub : (bodyOps : List (HloOp τ sig (Elt F))).Forall fun op => op.bufs ⊆ StableHlo.tcRefs τ sig := by
  simp [List.Forall, unary_bufs_sub, binary_bufs_sub, nullary_bufs_sub, reshape_bufs_sub, unaryIndexed_bufs_sub, binaryIndexed_bufs_sub]

/-- The operations after the loop. -/
abbrev postOps : List (HloOp τ sig (Elt F)) :=
  [ unary main_v59_8 main_v60 ((transpose S1x64x64x4x256 [1, 0, 2, 3, 4] · transposes_S64x1x64x4x256_S1x64x64x4x256_1_0_2_3_4) : T F S64x1x64x4x256 .f32 → T F S1x64x64x4x256 .f32),
    binary main_v32 main_v60 main_v61 (addf : T F S1x64x64x4x256 .f32 → T F S1x64x64x4x256 .f32 → T F S1x64x64x4x256 .f32),
    reshape main_v61 main_v62 (rfl : (.f32 : EltTy) = .f32) shapeCasts_S1x64x64x4x256_S1x4096x4x256,
    reshape main_v62 main_v63 (rfl : (.f32 : EltTy) = .f32) shapeCasts_S1x4096x4x256_S4096x1024 ]

theorem post_sub : (postOps : List (HloOp τ sig (Elt F))).Forall fun op => op.bufs ⊆ StableHlo.tcRefs τ sig := by
  simp [List.Forall, unary_bufs_sub, binary_bufs_sub, nullary_bufs_sub, reshape_bufs_sub, unaryIndexed_bufs_sub, binaryIndexed_bufs_sub]

/-- What the loop's condition computes. -/
abbrev condOps : List (HloOp τ sig (Elt F)) :=
  [ nullary main_while0c_c_14 (constantI S_ 32 64#32),
    binary main_v59_6 main_while0c_c_14 main_while0c_v64 (cmpi .slt : T F S_ .i32 → T F S_ .i32 → T F S_ .i1) ]

set_option maxHeartbeats 4000000 in
theorem body_eq : (main_while0_body (F := F)) = Pipeline.chain ([bodyOps].map fun ops => (StableHlo.seq ops : Prog _ PUnit)) := by
  simp only [List.map_cons, List.map_nil]
  rw [StableHlo.chain_seq_cons]
  chain_rfl

set_option maxHeartbeats 4000000 in
theorem part0_eq (c : Dev nD) : main_part0 (F := F) c = Pipeline.chain [StableHlo.seq pre0Ops] := by
  rw [StableHlo.chain_seq_cons]
  chain_rfl

set_option maxHeartbeats 4000000 in
theorem part1_eq (c : Dev nD) : main_part1 (F := F) c = Pipeline.chain [StableHlo.seq pre1Ops, HostLoop.enter 0, StableHlo.seq postOps] := by
  rw [StableHlo.chain_seq_cons, Pipeline.chain_cons, StableHlo.chain_seq_cons]
  chain_rfl

theorem main_eq (c : Dev nD) : main (F := F) c = Pipeline.chain
    [StableHlo.seq pre0Ops, StableHlo.seq pre1Ops, HostLoop.enter 0, StableHlo.seq postOps] := by
  unfold main
  rw [part0_eq, part1_eq]
  simp only [Pipeline.chain, Pipeline.chainK, bind_assoc, pure_bind, bind_pure_unit]

end Cert.FwdRef

end
-- ==== Proof.FwdRefRun.lean ====
/- The forward reference's run: it ends, every counter reads zero, and each buffer holds what its operations leave, the
   loop's 64 trips included. -/
module

public import proofs.«01_k».proof.Proof.FwdRefOps
public import proofs.«01_k».proof.Proof.RefRun
public import Idealize.ShloMosaic.Lib.StableHlo.RunLoop
public import Idealize.ShloMosaic.Lib.Claim
public import Idealize.ShloMosaic.Lib.Scf.ExitTest

@[expose] public section

set_option maxRecDepth 16384

noncomputable section

namespace Cert.FwdRef

open Cert.ReferenceRetIdeal Cert.ReferenceRetIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after held afterL Plain atTrip segsOf loopSeg CondSpec LoopCond launchContents)
open Idealize.ShloMosaic.Pipeline (CSeg Ticket ucRefs sub_ucRefs)

variable {F : FTy → Type} [FloatOps F]

local notation "𝕄" => MT nD τ sig Unit (Elt F) ℕ (Option PUnit) ℕ

/-! ## The loop counters -/

/-- One trip of the loop, from any contents, raises the counter by one. -/
theorem ctr_body (X : Valuation τ sig (Elt F)) :
    after bodyOps (after condOps X) main_v59_6 = addi (X main_v59_6) (constantI S_ 32 1#32) := by
  entry_read; rfl

/-- Before the `k`-th condition the counter is `k`. -/
theorem ctr0 (W : Dev nD → Valuation τ sig (Elt F)) (c : Dev nD) (h0 : W c main_v59_6 = fun _ => (0#32 : BitVec 32)) :
    ∀ k, atTrip condOps [bodyOps] W k c main_v59_6 = fun _ => (BitVec.ofNat 32 k : BitVec 32)
  | 0 => h0
  | k + 1 => by
    show after bodyOps (after condOps (atTrip (condOps (F := F)) [bodyOps] W k c)) main_v59_6 = _
    rw [ctr_body, ctr0 W c h0 k]
    funext i
    show BitVec.ofNat 32 k + 1#32 = BitVec.ofNat 32 (k + 1)
    rw [BitVec.ofNat_add]

/-! ## The buffers' contents from stretch to stretch -/

variable (m : (ℓ : Loc nD τ sig) → Buf (Elt F) ℓ)

/-- At the loop's entry, -/
def W0 (c : Dev nD) : Valuation τ sig (Elt F) := afterL [pre0Ops, pre1Ops] (launchContents m c)
/-- before trip `k` of it, -/
def A0 (k : ℕ) (c : Dev nD) : Valuation τ sig (Elt F) := atTrip condOps [bodyOps] (W0 m) k c
/-- and at the end. -/
def WF (c : Dev nD) : Valuation τ sig (Elt F) := afterL [postOps] (after condOps (A0 m 64 c))

theorem pre1_ctr (X : Valuation τ sig (Elt F)) : after pre1Ops X main_v59_6 = fun _ => (0#32 : BitVec 32) := by
  entry_read; rfl
theorem A0_ctr (k : ℕ) (c : Dev nD) : A0 m k c main_v59_6 = fun _ => (BitVec.ofNat 32 k : BitVec 32) :=
  ctr0 (W0 m) c (pre1_ctr (after pre0Ops (launchContents m c))) k
/-! ## The condition -/

set_option backward.isDefEq.respectTransparency.types false in
/-- The loop's condition reads `1` exactly before the trips. -/
theorem cond_spec : CondSpec pcfgs defs₀ loops (main_while0_cond (F := F)) condOps [bodyOps] (W0 m) 64 := fun k hk c bd => by
  have hctr : atTrip condOps [bodyOps] (W0 m) k c main_v59_6 = _ := A0_ctr m k c
  unfold main_while0_cond
  rw [wp_bind]
  iintro ⟨Hb, Hh⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip condOps [bodyOps] (W0 m) k c) main_v59_6 HostLoop.idx0)
        (HloOp.result _ (atTrip condOps [bodyOps] (W0 m) k c) main_while0c_c_14 HostLoop.idx0) = 1#1) (k < 64)
    rw [StableHlo.nullary_result_ne _ _ _ _ (by decide), StableHlo.nullary_result, hctr]
    exact Cert.RetRef.pred_iff k hk
  isplitl [Hb]; · iexact Hb
  rw [StableHlo.after_cons, StableHlo.after_cons, StableHlo.after_nil]; iexact Hh

/-! ## The run -/

/-- No pipeline here, so nothing is admitted, no ticket is issued and no level is set. -/
abbrev adm : (p : Fin 0) → (pcfgs (F := F) p).Adm := fun p => p.elim0
abbrev tk : Fin 0 → Ticket (Ix := Unit) (Name := ℕ) (U := Option PUnit) (Lvl := ℕ) (nD := nD) (τ := τ) (pcfgs (F := F)) adm := fun j => j.elim0
abbrev L : GSem nD τ sig → Finset Unit := fun _ => ∅
abbrev lv : GSem nD τ sig → Unit → ℕ := fun _ _ => 0

theorem cellOf_injective : Function.Injective (Pipeline.cellOf (nD := nD) (τ := τ) (Pipeline.pin (pcfgs (F := F)) adm)) :=
  fun k => k.1.elim0

/-- What rides along beside the buffers. -/
abbrev Rw (F : FTy → Type) [FloatOps F] (c : Dev nD) : sProp (MT nD τ sig Unit (Elt F) ℕ (Option PUnit) ℕ) :=
  iprop(∃ W, owes (c : Thread nD τ) (0 : CellTallies nD τ sig Unit) W)

/-- A condition's specification with that beside it. -/
theorem loopCond {cond : Prog (TpuEff nD τ sig (Elt F) (HostLoop.Sig (Pipeline.Sig Λ₀ (Fin 0) fun p => (pcfgs (F := F) p).Adm) 1) .tc) (Elt F .i1)}
    {condOps : List (HloOp τ sig (Elt F))} {bodyI : List (List (HloOp τ sig (Elt F)))} {W₀ : Dev nD → Valuation τ sig (Elt F)} {n : ℕ}
    (hcond : CondSpec pcfgs defs₀ loops cond condOps bodyI W₀ n) :
    LoopCond pcfgs defs₀ Variants.none loops (Rw F) cond condOps bodyI W₀ n := fun k hk c bd => by
  have hc := hcond k hk c bd
  have hpost : ∀ v : Elt F .i1,
      iprop(iprop(⌜v = 1#1 ↔ k < n⌝ ∗ boundary (c : Thread nD τ) ∗ held (c : Thread nD τ) (ucRefs τ sig) (after condOps (atTrip condOps bodyI W₀ k c))) ∗ Rw F c)
        ⊢ iprop(⌜v = 1#1 ↔ k < n⌝ ∗ boundary (c : Thread nD τ) ∗ held (c : Thread nD τ) (ucRefs τ sig) (after condOps (atTrip condOps bodyI W₀ k c)) ∗ Rw F c) := fun v => by
    iintro ⟨⟨%hv, Hbd, Hh⟩, HR⟩
    isplitr; · ipureintro; exact hv
    isplitl [Hbd]; · iexact Hbd
    isplitl [Hh] <;> iassumption
  refine BIBase.Entails.trans ?_ (((sep_mono_left hc).trans (wp_frame_r _ _ _)).trans (wp_mono _ _ _ hpost))
  iintro ⟨Hbd, Hh, HR⟩
  isplitl [Hbd Hh]; · isplitl [Hbd] <;> iassumption
  iexact HR

theorem pre_plain : Plain [pre0Ops (F := F), pre1Ops] := .cons pre0_sub (.cons pre1_sub .nil)
theorem post_plain : Plain [postOps (F := F)] := .cons post_sub .nil
theorem body_plain : Plain [bodyOps (F := F)] := .cons body_sub .nil
/-- @main as segments: the stretch before the loop, the loop, the rest. -/
def segs : List (CSeg (pcfgs (F := F)) adm defs₀ Variants.none L lv loops tk) :=
  segsOf _ _ _ _ _ _ _ _ (Rw F) [pre0Ops, pre1Ops] pre_plain (launchContents m)
    ++ loopSeg _ _ _ _ _ _ _ _ 0 main_while0_cond main_while0_body rfl condOps [bodyOps] body_plain body_eq 64 (W0 m) (Rw F) (loopCond (cond_spec m))
      :: segsOf _ _ _ _ _ _ _ _ (Rw F) [postOps] post_plain (fun c => after condOps (A0 m 64 c))

theorem segs_prog : (segs m).map CSeg.prog
    = [StableHlo.seq pre0Ops, StableHlo.seq pre1Ops, HostLoop.enter 0, StableHlo.seq (postOps (F := F))] := by
  unfold segs
  rw [List.map_append, List.map_cons, StableHlo.segsOf_prog, StableHlo.segsOf_prog]
  rfl

theorem segs_chains :
    CSeg.Chains (fun c => iprop(held (c : Thread nD τ) (ucRefs τ sig) (launchContents m c) ∗ Rw F c)) (segs m)
      (fun c => iprop(iprop(held (c : Thread nD τ) (ucRefs τ sig) (WF m c)) ∗ ∃ W, owes (c : Thread nD τ) (0 : CellTallies nD τ sig Unit) W)) := by
  unfold segs
  exact CSeg.Chains.append (StableHlo.segsOf_chains _ _ _ _ _ _ _ _ (Rw F) _ pre_plain _)
    ⟨fun _ => .rfl, StableHlo.segsOf_chains _ _ _ _ _ _ _ _ (Rw F) _ post_plain _⟩

/-- The run of the reference: every buffer ends at `WF` and every counter at zero. -/
theorem run [∀ e, Nonempty (Elt F e)] (ρ : Dev nD → PrngReg) :
    θ_run defs (onTc (τ := τ) (main (F := F))) ⟨m, fun _ => 0, ρ⟩
      (fun r => (∀ (c : Dev nD) (b : Ref sig .tc), (Proc.devRef .tc b : DevRef τ sig).isScoped = false →
        r.2.mem ((c.tc : Thread nD τ).loc b) = WF m c (Proc.devRef .tc b)) ∧ r.2.sem = fun _ => 0) :=
  Pipeline.θ_run_regions_loop_kit_sems (Ix := Unit) (Name := ℕ) (U := Option PUnit) (Lvl := ℕ) (J := Fin 0) (P := Fin 0) (Val := Elt F)
    pcfgs adm cellOf_injective defs₀ Variants.none L lv loops tk m ρ main (segs m)
    (fun c Q => by
      rw [main_eq c]
      show wp _ _ _ (Pipeline.chain ((segs m).map CSeg.prog)) Q ⊢ _
      rw [segs_prog])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp (MT nD τ sig Unit (Elt F) ℕ (Option PUnit) ℕ)) ⊢ bigSep Finset.univ (fun _ : Dev nD => (BI.emp : sProp (MT nD τ sig Unit (Elt F) ℕ (Option PUnit) ℕ))) from by rw [BI.bigSep_emp_const])
        iempintro)
    (T₀ := fun c => iprop(held (c : Thread nD τ) (ucRefs τ sig) (launchContents m c) ∗ Rw F c))
    (Tₙ := fun c => iprop(held (c : Thread nD τ) (ucRefs τ sig) (WF m c)))
    (hch := segs_chains m)
    (hinit := by
      refine Pipeline.initEach L lv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = WF m c b)
    (hfin := fun c s' => by
      unfold held
      iintro ⟨Hh, HSI⟩
      ihave Hr := (pointsTo_read_all (ucRefs τ sig) (fun b => ((c : Dev nD), b)) (fun b => WF m c b) s') $$ [Hh HSI]
      · isplitl [Hh] <;> iassumption
      icases Hr with ⟨%h, HSI⟩
      imodintro
      isplitr; · ipureintro; exact h
      iexact HSI)
    (hQ := fun s h hs => ⟨fun c b hb => h c _ (StableHlo.devRef_mem_ucRefs b hb), by
      funext g
      refine hs g ?_
      obtain ⟨⟨c, p⟩, w⟩ := g
      by_cases hp : p = .tc
      · subst hp; right
        rcases w with s | s
        · exact s.elim0
        · exact s.elim0
      · left; exact hp⟩)

end Cert.FwdRef

end
-- ==== Proof.FwdRefTrip.lean ====
/- One trip of the forward reference's loop over the extended reals: chunk `k`'s rows of the result read the running state, and
   the state takes in the chunk's keys and values. And the chunked sum in closed form. -/
module

public import proofs.«01_k».proof.Proof.FwdRefOps
public import proofs.«01_k».proof.Proof.RefTrip0
public import proofs.«01_k».proof.Proof.Chunks

@[expose] public section

set_option maxRecDepth 16384

noncomputable section

namespace Cert.FwdRef

open Idealize.ShloMosaic Idealize.ShloMosaic.TcCoe Idealize.ShloMosaic.Tactic
open Cert.ReferenceRetIdeal Cert.ReferenceRetIdeal.Gen
open Cert.RetBwd (lgR hd dot DQ sum_fin')
open Cert.RetRef (St dqI DQ_chunk toInt_small slice_chunk update_chunk update_other)
open Idealize.ShloMosaic.StableHlo (after)
open Finset (range)

/-- The state with keys and values exchanged is the state transposed. -/
theorem St_swap (K V : ℕ → ℕ → ℝ) : ∀ k h d e : ℕ, St K V k h d e = St V K k h e d
  | 0, _, _, _ => rfl
  | k + 1, h, d, e => by
    rw [St, St, St_swap K V k h d e]
    exact congrArg (_ + ·) (Finset.sum_congr rfl fun j _ => by ring)

/-- The part of the result that comes from earlier chunks, row `l` of chunk `c`. -/
def oI (Q K V : ℕ → ℕ → ℝ) (c l h e : ℕ) : ℝ :=
  (∑ d ∈ range 256, St K V c h d e * Q (64 * c + l) (256 * h + d)) * Real.exp (lgR h * (l + 1))

/-- With the part from the chunk itself it is the plain weighted sum. -/
theorem O_chunk (Q K V : ℕ → ℕ → ℝ) (c r h e : ℕ) (hc : c < 64) (hr : r < 64) :
    (∑ b ∈ range 64, V (64 * c + b) (256 * h + e) * (dot (hd h Q) (hd h K) (64 * c + r) (64 * c + b) * Real.exp (lgR h * |(r : ℝ) - b|))) + oI Q K V c r h e
      = DQ (lgR h) (hd h Q) (hd h V) (hd h K) (64 * c + r) e := by
  rw [← DQ_chunk Q V K Q c r h e hc hr, add_comm]
  congr 1
  · unfold oI dqI
    rw [Finset.sum_mul]
    exact Finset.sum_congr rfl fun d _ => by rw [St_swap K V]; ring
  · exact Finset.sum_congr rfl fun b _ => by ring

/-- What the carried buffers hold before trip `k`. -/
structure Inv (Q K V : ℕ → ℕ → ℝ) (k : ℕ) (X : Valuation τ sig (Elt Ideal)) : Prop where
  ctr : X main_v59_6 = fun _ => (BitVec.ofNat 32 k : BitVec 32)
  qq : ∀ (c : Fin 64) (z : Fin 1) (l : Fin 64) (h : Fin 4) (d : Fin 256),
    (X main_v59_0 : FVec Ideal S64x1x64x4x256 .f32) (ix5 c z l h d) = ((Q (64 * c.val + l.val) (256 * h.val + d.val) : ℝ) : EReal)
  kk : ∀ (c : Fin 64) (z : Fin 1) (l : Fin 64) (h : Fin 4) (d : Fin 256),
    (X main_v59_1 : FVec Ideal S64x1x64x4x256 .f32) (ix5 c z l h d) = ((K (64 * c.val + l.val) (256 * h.val + d.val) : ℝ) : EReal)
  vv : ∀ (c : Fin 64) (z : Fin 1) (l : Fin 64) (h : Fin 4) (d : Fin 256),
    (X main_v59_2 : FVec Ideal S64x1x64x4x256 .f32) (ix5 c z l h d) = ((V (64 * c.val + l.val) (256 * h.val + d.val) : ℝ) : EReal)
  qd : ∀ (h : Fin 4) (l : Fin 64), (X main_v59_3 : FVec Ideal S4x64 .f32) (ix2 h l) = ((Real.exp (lgR h.val * (l.val + 1)) : ℝ) : EReal)
  cd : ∀ h : Fin 4, (X main_v59_4 : FVec Ideal S4 .f32) (ix1 h) = ((Real.exp (lgR h.val * 64) : ℝ) : EReal)
  kd : ∀ (h : Fin 4) (l : Fin 64), (X main_v59_5 : FVec Ideal S4x64 .f32) (ix2 h l) = ((Real.exp (lgR h.val * (63 - l.val)) : ℝ) : EReal)
  st : ∀ (z : Fin 1) (h : Fin 4) (d e : Fin 256),
    (X main_v59_7 : FVec Ideal S1x4x256x256 .f32) (ix4 z h d e) = ((St K V k h.val d.val e.val : ℝ) : EReal)
  oo : ∀ (c : Fin 64), c.val < k → ∀ (z : Fin 1) (l : Fin 64) (h : Fin 4) (e : Fin 256),
    (X main_v59_8 : FVec Ideal S64x1x64x4x256 .f32) (ix5 c z l h e) = ((oI Q K V c.val l.val h.val e.val : ℝ) : EReal)

variable {Q K V : ℕ → ℕ → ℝ} {k : ℕ} {X : Valuation τ sig (Elt Ideal)}

/-- After the trip the state has one chunk more, -/
theorem Inv.st_step (I : Inv Q K V k X) (hk : k < 64) (z : Fin 1) (h : Fin 4) (d e : Fin 256) :
    (after bodyOps (after condOps X) main_v59_7 : FVec Ideal S1x4x256x256 .f32) (ix4 z h d e)
      = ((St K V (k + 1) h.val d.val e.val : ℝ) : EReal) := by
  obtain rfl : z = 0 := Subsingleton.elim _ _
  after_reads_simp [StableHlo.unaryIndexed_result_read, StableHlo.binaryIndexed_result_read, StableHlo.indexContents_tref_cons, StableHlo.indexContents_tref_empty]
  rw [I.ctr]
  simp only [id_eq, StableHlo.TRef.toBuf, StableHlo.TRef.ofBuf, cast_cast, cast_eq]
  generalize hx : Host.dynamicSlice _ _ _ _ = x
  have hx' : ∀ (l : Fin 64) (h : Fin 4) (d : Fin 256), x (ix5 0 0 l h d) = ((K (64 * k + l.val) (256 * h.val + d.val) : ℝ) : EReal) := fun l h d => by
    rw [← hx]
    exact (slice_chunk _ _ _ ⟨k, hk⟩ (toInt_small k (by omega)) 0 0 l h d).trans (I.kk ⟨k, hk⟩ 0 l h d)
  clear hx
  generalize hy : Host.dynamicSlice _ _ _ _ = y
  have hy' : ∀ (l : Fin 64) (h : Fin 4) (d : Fin 256), y (ix5 0 0 l h d) = ((V (64 * k + l.val) (256 * h.val + d.val) : ℝ) : EReal) := fun l h d => by
    rw [← hy]
    exact (slice_chunk _ _ _ ⟨k, hk⟩ (toInt_small k (by omega)) 0 0 l h d).trans (I.vv ⟨k, hk⟩ 0 l h d)
  clear hy
  pointwise
  rw [St, EReal.coe_add, EReal.coe_mul]
  congr 1
  · exact congrArg₂ (· * ·) (I.st 0 h d e) (I.cd h)
  · refine sum_fin' 64 _ _ fun l => ?_
    rw [hx', hy', EReal.coe_mul, EReal.coe_mul]
    exact congrArg (_ * · * _) (I.kd h l)

/-- and the stack of results the chunk's. -/
theorem Inv.oo_step (I : Inv Q K V k X) (hk : k < 64) (c : Fin 64) (hc : c.val < k + 1) (z : Fin 1) (l : Fin 64) (h : Fin 4) (e : Fin 256) :
    (after bodyOps (after condOps X) main_v59_8 : FVec Ideal S64x1x64x4x256 .f32) (ix5 c z l h e) = ((oI Q K V c.val l.val h.val e.val : ℝ) : EReal) := by
  obtain rfl : z = 0 := Subsingleton.elim _ _
  after_reads_simp [StableHlo.unaryIndexed_result_read, StableHlo.binaryIndexed_result_read, StableHlo.indexContents_tref_cons, StableHlo.indexContents_tref_empty]
  rw [I.ctr]
  simp only [id_eq, StableHlo.TRef.toBuf, StableHlo.TRef.ofBuf, cast_cast, cast_eq]
  by_cases hck : c.val = k
  · obtain rfl : c = ⟨k, hk⟩ := Fin.ext hck
    refine (update_chunk _ _ _ _ ⟨k, hk⟩ (toInt_small k (by omega)) _ _ _ _).trans ?_
    generalize hx : Host.dynamicSlice _ _ _ _ = x
    have hx' : ∀ (d : Fin 256), x (ix5 0 0 l h d) = ((Q (64 * k + l.val) (256 * h.val + d.val) : ℝ) : EReal) := fun d => by
      rw [← hx]
      exact (slice_chunk _ _ _ ⟨k, hk⟩ (toInt_small k (by omega)) 0 0 l h d).trans (I.qq ⟨k, hk⟩ 0 l h d)
    clear hx
    pointwise
    unfold oI
    rw [EReal.coe_mul]
    refine congrArg₂ (· * ·) (sum_fin' 256 _ _ fun d => ?_) (I.qd h l)
    rw [hx', EReal.coe_mul]
    exact congrArg (· * _) (I.st 0 h d e)
  · exact (update_other _ _ _ _ ⟨k, hk⟩ (toInt_small k (by omega)) _ (fun h => hck (congrArg Fin.val h)) _ _ _ _).trans (I.oo c (by omega) 0 l h e)

theorem Inv.step (I : Inv Q K V k X) (hk : k < 64) : Inv Q K V (k + 1) (after bodyOps (after condOps X)) where
  ctr := by
    after_reads_simp [StableHlo.unaryIndexed_result_read, StableHlo.binaryIndexed_result_read, StableHlo.indexContents_tref_cons, StableHlo.indexContents_tref_empty]
    rw [I.ctr]
    simp only [id_eq, StableHlo.TRef.toBuf, StableHlo.TRef.ofBuf, cast_cast, cast_eq]
    funext i
    show BitVec.ofNat 32 k + 1#32 = BitVec.ofNat 32 (k + 1)
    rw [BitVec.ofNat_add]
  qq := by after_reads_simp; exact I.qq
  kk := by after_reads_simp; exact I.kk
  vv := by after_reads_simp; exact I.vv
  qd := by after_reads_simp; exact I.qd
  cd := by after_reads_simp; exact I.cd
  kd := by after_reads_simp; exact I.kd
  st := I.st_step hk
  oo := I.oo_step hk

end Cert.FwdRef

end
-- ==== Proof.FwdRefValue.lean ====
/- The forward reference's result over the extended reals: head by head the plain weighted sums; and its run. -/
module

public import proofs.«01_k».proof.Proof.FwdRefRun
public import proofs.«01_k».proof.Proof.FwdRefTrip
public import proofs.«01_k».proof.Proof.RefEntry

@[expose] public section

set_option maxRecDepth 16384

noncomputable section

namespace Cert.FwdRef

open Idealize.ShloMosaic Idealize.ShloMosaic.TcCoe Idealize.ShloMosaic.Tactic
open Cert.ReferenceRetIdeal Cert.ReferenceRetIdeal.Gen
open Cert.RetBwd (lgR hd dot DQ sum_fin' IsReal abs_real sitofp_nat outDQ outDQ_of)
open Cert.RetRef (exp_lg word64 word63 row_real)
open Idealize.ShloMosaic.StableHlo (after afterL atTrip launchContents)
open Finset (range)

variable {Q K V : ℕ → ℕ → ℝ} {X : Valuation τ sig (Elt Ideal)}

/-! ## Before the loop -/

/-- At the loop's entry its invariant holds: nothing summed yet. -/
theorem pre_inv (hQ : IsReal (X main_arg0 : FVec Ideal S4096x1024 .bf16) Q) (hK : IsReal (X main_arg1 : FVec Ideal S4096x1024 .bf16) K)
    (hV : IsReal (X main_arg2 : FVec Ideal S4096x1024 .bf16) V) : Inv Q K V 0 (after pre1Ops (after pre0Ops X)) where
  ctr := pre1_ctr _
  qq c z l h d := by
    after_reads_simp
    simp only [id_eq]
    pointwise
    exact row_real hQ _ _ _ _ (by simp only []; omega) (by simp only []; omega)
  kk c z l h d := by
    after_reads_simp
    simp only [id_eq]
    pointwise
    exact row_real hK _ _ _ _ (by simp only []; omega) (by simp only []; omega)
  vv c z l h d := by
    after_reads_simp
    simp only [id_eq]
    pointwise
    exact row_real hV _ _ _ _ (by simp only []; omega) (by simp only []; omega)
  qd h l := by
    after_reads_simp
    simp only [id_eq]
    pointwise
    exact exp_lg h _ _ (by rw [sitofp_nat _ (by omega), ← EReal.coe_one, ← EReal.coe_add])
  cd h := by
    after_reads_simp
    simp only [id_eq]
    pointwise
    exact exp_lg h _ _ word64
  kd h l := by
    after_reads_simp
    simp only [id_eq]
    pointwise
    exact exp_lg h _ _ (by rw [word63, sitofp_nat _ (by omega), ← EReal.coe_sub])
  st z h d e := by
    after_reads_simp
    simp only [id_eq]
    pointwise
    rfl
  oo c hc := absurd hc (Nat.not_lt_zero _)

/-- The part of the result from inside each chunk. -/
theorem pre_v32 (hQ : IsReal (X main_arg0 : FVec Ideal S4096x1024 .bf16) Q) (hK : IsReal (X main_arg1 : FVec Ideal S4096x1024 .bf16) K)
    (hV : IsReal (X main_arg2 : FVec Ideal S4096x1024 .bf16) V) (z : Fin 1) (c : Fin 64) (a : Fin 64) (h : Fin 4) (e : Fin 256) :
    (after pre1Ops (after pre0Ops X) main_v32 : FVec Ideal S1x64x64x4x256 .f32) (ix5 z c a h e)
      = ((∑ b ∈ range 64, V (64 * c.val + b) (256 * h.val + e.val)
          * (dot (hd h.val Q) (hd h.val K) (64 * c.val + a.val) (64 * c.val + b) * Real.exp (lgR h.val * |(a.val : ℝ) - b|)) : ℝ) : EReal) := by
  after_reads_simp
  pointwise
  refine sum_fin' 64 _ _ fun b => ?_
  rw [EReal.coe_mul, EReal.coe_mul]
  refine congrArg₂ (· * ·) (row_real hV _ _ _ _ (by simp only []; omega) (by simp only []; omega)) (congrArg₂ (· * ·) (sum_fin' 256 _ _ fun d => ?_)
    (exp_lg h _ _ (by rw [sitofp_nat _ (by omega), sitofp_nat _ (by omega), ← EReal.coe_sub, abs_real])))
  rw [EReal.coe_mul]
  exact congrArg₂ (· * ·) (row_real hQ _ _ _ _ (by simp only []; omega) (by simp only []; omega))
    (row_real hK _ _ _ _ (by simp only []; omega) (by simp only []; omega))

/-! ## After it -/

/-- The result: the part from inside each chunk and the loop's. -/
theorem post_o {o : Fin 64 → Fin 64 → Fin 4 → Fin 256 → ℝ} (I : Inv Q K V 64 X)
    (hO : ∀ (z : Fin 1) (c a : Fin 64) (h : Fin 4) (e : Fin 256), (X main_v32 : FVec Ideal S1x64x64x4x256 .f32) (ix5 z c a h e) = ((o c a h e : ℝ) : EReal))
    (n : Fin 4096) (j : Fin 1024) : (after postOps X main_v63 : FVec Ideal S4096x1024 .f32) (ix2 n j)
      = ((o ⟨n.val / 64, by omega⟩ ⟨n.val % 64, by omega⟩ ⟨j.val / 256, by omega⟩ ⟨j.val % 256, by omega⟩
          + oI Q K V (n.val / 64) (n.val % 64) (j.val / 256) (j.val % 256) : ℝ) : EReal) := by
  after_reads_simp
  pointwise
  rw [EReal.coe_add]
  exact congrArg₂ (· + ·) (hO 0 ⟨n.val / 64, by omega⟩ ⟨n.val % 64, by omega⟩ ⟨j.val / 256, by omega⟩ ⟨j.val % 256, by omega⟩)
    (I.oo ⟨n.val / 64, by omega⟩ (by simp only []; omega) 0 ⟨n.val % 64, by omega⟩ ⟨j.val / 256, by omega⟩ ⟨j.val % 256, by omega⟩)

/-! ## The run -/

variable (m : (ℓ : Loc nD τ sig) → Buf (Elt Ideal) ℓ) (c : Dev nD)

/-- The invariant before every trip. -/
theorem inv (hQ : IsReal (m ((c.tc : Thread nD τ).loc main_arg0)) Q) (hK : IsReal (m ((c.tc : Thread nD τ).loc main_arg1)) K)
    (hV : IsReal (m ((c.tc : Thread nD τ).loc main_arg2)) V) : ∀ k, k ≤ 64 → Inv Q K V k (A0 m k c)
  | 0, _ => pre_inv (X := launchContents m c) hQ hK hV
  | k + 1, hk => (inv hQ hK hV k (by omega)).step (by omega)

/-- and past the last condition. -/
theorem inv_past (X : Valuation τ sig (Elt Ideal)) (I : Inv Q K V 64 X) : Inv Q K V 64 (after condOps X) where
  ctr := by after_reads_simp; exact I.ctr
  qq := by after_reads_simp; exact I.qq
  kk := by after_reads_simp; exact I.kk
  vv := by after_reads_simp; exact I.vv
  qd := by after_reads_simp; exact I.qd
  cd := by after_reads_simp; exact I.cd
  kd := by after_reads_simp; exact I.kd
  st := by after_reads_simp; exact I.st
  oo := by after_reads_simp; exact I.oo

/-- A buffer no trip writes is what it was before the loop; -/
theorem keep (b : DevRef τ sig) (h : ∀ X : Valuation τ sig (Elt Ideal), after bodyOps (after condOps X) b = X b) :
    ∀ k, A0 m k c b = W0 m c b
  | 0 => rfl
  | k + 1 => (h (A0 m k c)).trans (keep b h k)

/-- and one that nothing writes ends as the launch found it. -/
theorem kept (b : DevRef τ sig)
    (h1 : ∀ X : Valuation τ sig (Elt Ideal), after pre0Ops X b = X b) (h2 : ∀ X : Valuation τ sig (Elt Ideal), after pre1Ops X b = X b)
    (h3 : ∀ X : Valuation τ sig (Elt Ideal), after bodyOps (after condOps X) b = X b) (h4 : ∀ X : Valuation τ sig (Elt Ideal), after condOps X b = X b)
    (h5 : ∀ X : Valuation τ sig (Elt Ideal), after postOps X b = X b) : WF m c b = launchContents m c b :=
  (h5 _).trans ((h4 _).trans ((keep m c b h3 64).trans ((h2 _).trans (h1 _))))

theorem arg0_kept : WF m c main_arg0 = launchContents m c main_arg0 := by
  apply kept <;> intro X <;> after_reads_simp
theorem arg1_kept : WF m c main_arg1 = launchContents m c main_arg1 := by
  apply kept <;> intro X <;> after_reads_simp
theorem arg2_kept : WF m c main_arg2 = launchContents m c main_arg2 := by
  apply kept <;> intro X <;> after_reads_simp

/-- The result the reference returns. -/
theorem value (hQ : IsReal (m ((c.tc : Thread nD τ).loc main_arg0)) Q) (hK : IsReal (m ((c.tc : Thread nD τ).loc main_arg1)) K)
    (hV : IsReal (m ((c.tc : Thread nD τ).loc main_arg2)) V) : WF m c main_v63 = outDQ Q V K := by
  funext y
  obtain ⟨n, j, rfl⟩ : ∃ (n : Fin 4096) (j : Fin 1024), y = ix2 n j := ⟨y 0, y 1, by funext i; fin_cases i <;> rfl⟩
  refine (post_o (o := fun c a h e => ∑ b ∈ range 64, V (64 * c.val + b) (256 * h.val + e.val)
      * (dot (hd h.val Q) (hd h.val K) (64 * c.val + a.val) (64 * c.val + b) * Real.exp (lgR h.val * |(a.val : ℝ) - b|)))
    (inv_past _ (inv m c hQ hK hV 64 le_rfl)) (fun z c' a h e => ?_) n j).trans ?_
  · rw [show after condOps (A0 m 64 c) main_v32 = W0 m c main_v32 from
      (show after condOps (A0 m 64 c) main_v32 = A0 m 64 c main_v32 by after_reads_simp).trans (keep m c main_v32 (fun X => by after_reads_simp) 64)]
    exact pre_v32 (X := launchContents m c) hQ hK hV z c' a h e
  · rw [O_chunk Q K V _ _ _ _ (by omega) (by omega)]
    refine (outDQ_of _ (j.val / 256) _ (j.val % 256) ?_ ?_ (by omega)).symm
    · show n.val = 64 * (n.val / 64) + n.val % 64; omega
    · show j.val = 256 * (j.val / 256) + j.val % 256; omega

/-- The frame of the reference. -/
theorem frame_ref (ρ : Dev nD → PrngReg) : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨(h.1 c main_arg0 rfl).trans (arg0_kept m c), (h.1 c main_arg1 rfl).trans (arg1_kept m c),
    (h.1 c main_arg2 rfl).trans (arg2_kept m c)⟩, h.2⟩) (run m ρ)

/-- The run of the reference, on real arguments: its result and its arguments unchanged. -/
theorem run_values (ρ : Dev nD → PrngReg) (Q K V : Dev nD → ℕ → ℕ → ℝ)
    (hQ : ∀ c : Dev nD, IsReal (m ((c.tc : Thread nD τ).loc main_arg0)) (Q c)) (hK : ∀ c : Dev nD, IsReal (m ((c.tc : Thread nD τ).loc main_arg1)) (K c))
    (hV : ∀ c : Dev nD, IsReal (m ((c.tc : Thread nD τ).loc main_arg2)) (V c)) :
    θ_run defs (onTc (τ := τ) (main (F := Ideal))) ⟨m, fun _ => 0, ρ⟩ (fun r => ∀ c : Dev nD,
      r.2.mem ((c.tc : Thread nD τ).loc main_v63) = outDQ (Q c) (V c) (K c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h.1.1 c main_v63 rfl).trans (value m c (hQ c) (hK c) (hV c)), h.2.1 c⟩) (θ_run_and (run m ρ) (frame_ref m ρ))

end Cert.FwdRef

end
-- ==== Proof.Fwd.lean ====
/- The forward call of the retention heads: on finite arguments its result is the reference's. -/
module

public import proofs.«01_k».proof.Proof.FwdValue
public import proofs.«01_k».proof.Proof.FwdRefValue
public import proofs.«01_k».proof.Proof.Finite
public import proofs.«01_k».proof.Proof.Gen.Pre_finite_ret
public import proofs.«01_k».proof.Proof.Gen.KernelRetIdeal.Frame
public import proofs.«01_k».proof.Defs

@[expose] public section

set_option maxRecDepth 16384

noncomputable section

namespace Cert.RetFwd

open Idealize.ShloMosaic Idealize.ShloMosaic.TcCoe
open Cert.KernelIdeal (S4096x1024)
open Cert.RetBwd (IsReal realOf isReal_of entry_lt and_one)

/-- What the precondition `finite_ret` gives: each of the three arrays holds real numbers. -/
theorem finite_real (q k v : FVec Ideal S4096x1024 .bf16) (h : Cert.Pre_finite_ret.fn (F := Ideal) q k v = fun _ => 1#1) :
    IsReal q (realOf q) ∧ IsReal k (realOf k) ∧ IsReal v (realOf v) := by
  haveI : Subsingleton Cert.Pre_finite_ret.S_.Idx := ⟨fun a b => funext fun i => i.elim0⟩
  have e := congrFun h (fun i => i.elim0)
  unfold Cert.Pre_finite_ret.fn at e
  obtain ⟨e, e2⟩ := and_one _ _ e
  obtain ⟨e0, e1⟩ := and_one _ _ e
  exact ⟨isReal_of _ fun i => entry_lt _ i (Host.reduce_andi_all _ _ _ _ _ e0 i), isReal_of _ fun i => entry_lt _ i (Host.reduce_andi_all _ _ _ _ _ e1 i),
    isReal_of _ fun i => entry_lt _ i (Host.reduce_andi_all _ _ _ _ _ e2 i)⟩

/-- Over the extended reals, on finite arguments, the kernel's result is the reference's. -/
theorem values : @Cert.algebraic_KernelRetIdeal_ReferenceRetIdeal_pre_finite_ret Cert.KernelRetIdeal.Gen.facts Cert.ReferenceRetIdeal.Gen.facts Cert.Pre_finite_ret.Gen.facts := by
  intro m g m' g' hpre agree
  have hf := fun c => finite_real _ _ _ (hpre c)
  refine ⟨_, run_values m g _ _ _ (fun c => (hf c).1) (fun c => (hf c).2.1) (fun c => (hf c).2.2),
    Cert.FwdRef.run_values m' g' _ _ _ (fun c => ?_) (fun c => ?_) (fun c => ?_)⟩
  · rw [(agree c).1]; exact (hf c).1
  · rw [(agree c).2.1]; exact (hf c).2.1
  · rw [(agree c).2.2]; exact (hf c).2.2

end Cert.RetFwd

end
-- ==== Proof.MlaTrip.lean ====
/- The attention's forward call block by block: one trip of its pair loop takes the key blocks `2k` and `2k + 1` into
   the running maximum and the accumulator, whose right half sums the weights themselves (the values are followed by
   a block of ones). -/
module

public import proofs.«01_k».proof.Proof.Body
public import proofs.«01_k».proof.Proof.Gen.KernelMlaIdeal.Frame

@[expose] public section

set_option maxRecDepth 16384

noncomputable section

namespace Cert.Mla

open Idealize.ShloMosaic Idealize.ShloMosaic.TcCoe Idealize.ShloMosaic.Tactic
open Cert.KernelMlaIdeal Cert.KernelMlaIdeal.Gen
open Cert.RetBwd (getBlk upTo readAt_blk readAt_all readAt_sq read_all readCov_sq zero2 pair)

variable {F : FTy → Type} [FloatOps F] [Named F]

theorem trips_t1 : ∀ i : grid0.Coords, (k0_t1_loop i).trips = (i 1).val / 2 := by decide +kernel

theorem trips_t2 : ∀ i : grid0.Coords, (k0_t2_loop i).trips = 0 := by decide +kernel

theorem off2_eq : ∀ (i : grid0.Coords) (k : Fin (k0_t1_loop i).trips), k0_off2 i k = ![512 * (2 * k.val), 0] := by
  decide +kernel

theorem off3_eq : ∀ (i : grid0.Coords) (k : Fin (k0_t1_loop i).trips), k0_off3 i k = ![512 * (2 * k.val + 1), 0] := by
  decide +kernel

theorem trip_lt (i : grid0.Coords) (k : Fin (k0_t1_loop i).trips) : 2 * k.val + 1 < 8 := by
  have h1 := k.isLt
  have h2 : (i 1).val < 8 := (i 1).isLt
  have h3 := trips_t1 i
  omega

theorem off6_blk : ∀ i : grid0.Coords, (i 1).val % 2 = 1 → k0_off6 i = ![512 * (2 * ((i 1).val / 2)), 0] := by decide +kernel

theorem off1_blk (i : grid0.Coords) : k0_off1 i = ![512 * (i 1).val, 0] := k0_off1_eq i

/-! ## One step -/

/-- The scores of a query block against a key block. -/
def scores (q k : FVec F S512x256 .bf16) : FVec F S512x512 .f32 :=
  matmul dot_S512x256_S512x256_S512x512_1_1_0_0_n_n none q k (constant S512x512 .f32 0x00000000#32)

/-- A row of 128 equal lanes, four times and twice. -/
def lane4 (t : FVec F S512x128 .f32) : FVec F S512x512 .f32 :=
  concatenate S512x512 1 [⟨S512x128, t⟩, ⟨S512x128, t⟩, ⟨S512x128, t⟩, ⟨S512x128, t⟩] concatenates_S512x128_S512x128_S512x128_S512x128_S512x512_d1
def lane2 (t : FVec F S512x128 .f32) : FVec F S512x256 .f32 :=
  concatenate S512x256 1 [⟨S512x128, t⟩, ⟨S512x128, t⟩] concatenates_S512x128_S512x128_S512x256_d1

theorem lane4_eq (t : FVec F S512x128 .f32) (h) :
    concatenate S512x512 1 [⟨S512x128, t⟩, ⟨S512x128, t⟩, ⟨S512x128, t⟩, ⟨S512x128, t⟩] h = lane4 t := rfl
theorem lane2_eq (t : FVec F S512x128 .f32) (h) : concatenate S512x256 1 [⟨S512x128, t⟩, ⟨S512x128, t⟩] h = lane2 t := rfl

/-- The running maximum, in every lane, after scores `s`. -/
def nextTop (s : FVec F S512x512 .f32) (t : FVec F S512x128 .f32) : FVec F S512x128 .f32 :=
  maximumf t (broadcastTo S512x128 (shapeCast S512x1
    (multiReduction .maximumf [1] S512 s 0xFF800000#32 reduces_S512x512_S512 (.inl rfl) rfl) shapeCasts_S512_S512x1) broadcasts_S512x1_S512x128)

theorem scores_eq (q k : FVec F S512x256 .bf16) :
    matmul dot_S512x256_S512x256_S512x512_1_1_0_0_n_n none q k (constant S512x512 .f32 0x00000000#32) = scores q k := rfl

/-- The accumulator after scores `s` and values `v`, the running maximum going from `t` to `t'`. -/
def nextAcc (s : FVec F S512x512 .f32) (v : FVec F S512x256 .bf16) (t t' : FVec F S512x128 .f32) (a : FVec F S512x256 .f32) : FVec F S512x256 .f32 :=
  addf (mulf a (lane2 (exp (subf t t'))))
    (matmul dot_S512x512_S512x256_S512x256_1_0_0_1_n_n none
      (truncf .bf16 (exp (subf s (lane4 t'))) bitsLt_bf16_f32)
      v (constant S512x256 .f32 0x00000000#32))

/-- The running maximum and the accumulator. -/
abbrev St (F : FTy → Type) : Type := Vec F S512x128 .f32 × Vec F S512x256 .f32

/-- Key block `j` taken in. -/
def step (q : FVec F S512x256 .bf16) (k v : Vec F S4096x256 .bf16) (j : ℕ) (z : St F) : St F :=
  (nextTop (scores q (getBlk j k)) z.1,
    nextAcc (scores q (getBlk j k)) (getBlk j v) z.1 (nextTop (scores q (getBlk j k)) z.1) z.2)

/-- The diagonal block, with which a query block starts. -/
def start (q k v : FVec F S512x256 .bf16) : St F := (k0_pay18 q k, k0_pay19 q k v)

section Payloads

variable (q k v : Vec F S512x256 .bf16) (s : FVec F S512x512 .f32) (t : Vec F S512x128 .f32) (a b : Vec F S512x256 .f32)

theorem pay20_eq : k0_pay20 a b = addf a b := shapeCast_self _ _

theorem pay22_eq : k0_pay22 s t = nextTop s t := shapeCast_self _ _

theorem pay23_eq : k0_pay23 v s t a = nextAcc s v t (nextTop s t) a := shapeCast_self _ _

theorem pay30_eq : k0_pay30 q k t = nextTop (scores q k) t := shapeCast_self _ _

theorem pay31_eq : k0_pay31 q k v t a = nextAcc (scores q k) v t (nextTop (scores q k) t) a := by
  unfold k0_pay31
  dsimp only
  rw [shapeCast_self, shapeCast_self]
  rfl

end Payloads

/-! ## Loads of the two scratch buffers -/

theorem readAt_m {κ : Kind} {sp : Space} (v : View sig κ sp S512x128 .f32) (f : v.ty.Contents (Elt F)) (inb) :
    v.readAt (Elt F) (Rect.unit (s := S512x128) ![0, 0] (no_index S512x128.size) inb).toLoadRect f = v.read (Elt F) f :=
  readAt_all v f zero2 inb

theorem readCov_m {κ : Kind} {sp : Space} (v : View sig κ sp S512x128 .f32) (inb) (w : Vec F S512x128 .f32) (L : List (View.Piece (Elt F) S512x128 .f32)) :
    v.readCov ((⟨Rect.unit (s := S512x128) ![0, 0] (no_index S512x128.size) inb, w⟩ : View.Piece (Elt F) S512x128 .f32) :: L)
      (Rect.unit (s := S512x128) ![0, 0] (no_index S512x128.size) inb).toLoadRect = w :=
  (readAt_all v _ zero2 inb).trans (read_all v _ zero2 inb w L)

/-- The left half of the accumulator, and its right half. -/
def lHalf (a : Vec F S512x256 .f32) : Vec F S512x128 .f32 := fun p => a (ix2 (n0 := 512) (n1 := 256) (p 0) ⟨(p 1).val, by have : (p 1).val < 128 := (p 1).isLt; omega⟩)
def rHalf (a : Vec F S512x256 .f32) : Vec F S512x128 .f32 := fun p => a (ix2 (n0 := 512) (n1 := 256) (p 0) ⟨128 + (p 1).val, by have : (p 1).val < 128 := (p 1).isLt; omega⟩)

theorem readAt_l {κ : Kind} {sp : Space} (v : View sig κ sp S512x256 .f32) (f : v.ty.Contents (Elt F)) (inb) :
    v.readAt (Elt F) (Rect.unit (s := S512x256) ![0, 0] (no_index S512x128.size) inb).toLoadRect f = lHalf (v.read (Elt F) f) := by
  funext x
  refine View.ld_unit_apply_of (S := S512x256) (v.read (Elt F) f) _ _ inb x _ fun a => ?_
  match a with
  | ⟨0, _⟩ => exact (Nat.zero_add _).symm
  | ⟨1, _⟩ => exact (Nat.zero_add _).symm

theorem readAt_r {κ : Kind} {sp : Space} (v : View sig κ sp S512x256 .f32) (f : v.ty.Contents (Elt F)) (inb) :
    v.readAt (Elt F) (Rect.unit (s := S512x256) ![0, 128] (no_index S512x128.size) inb).toLoadRect f = rHalf (v.read (Elt F) f) := by
  funext x
  refine View.ld_unit_apply_of (S := S512x256) (v.read (Elt F) f) _ _ inb x _ fun a => ?_
  match a with
  | ⟨0, _⟩ => exact (Nat.zero_add _).symm
  | ⟨1, _⟩ => rfl

section
variable (𝒱 : Variants) (c : Dev nD) (bd : Option 𝒱.V) (i : grid0.Coords) (arg2 : Memref sig .tc .vmem S512x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x256 .f32) (harg8 : arg8.IsWhole)
  (w1 w2 w3 w4 w5 : BitVec 32) (q : Vec F S512x256 .bf16)
  (X3 : BufTy.Contents (Elt F) arg3.view.ty) (X4 : BufTy.Contents (Elt F) arg4.view.ty)

/-- One trip. -/
theorem trip (k : Fin (k0_t1_loop i).trips) (f : BufTy.Contents (Elt F) arg7.view.ty) (g : BufTy.Contents (Elt F) arg8.view.ty) :
    (arg7.view.read (Elt F) (arg7.view.writes (Elt F) f (tripL_k0_t1 (F := F) 𝒱 c bd i arg2 harg2 arg3 harg3 arg4 harg4 arg5 harg5 arg6 harg6 arg7 harg7 arg8 harg8 w1 q w2 w3 w4 w5 X3 X4 k f g).1),
      arg8.view.read (Elt F) (arg8.view.writes (Elt F) g (tripL_k0_t1 (F := F) 𝒱 c bd i arg2 harg2 arg3 harg3 arg4 harg4 arg5 harg5 arg6 harg6 arg7 harg7 arg8 harg8 w1 q w2 w3 w4 w5 X3 X4 k f g).2))
      = pair (step q (arg3.view.read (Elt F) X3) (arg4.view.read (Elt F) X4)) k (arg7.view.read (Elt F) f, arg8.view.read (Elt F) g) := by
  have h2 : 2 * k.val < 8 := by have := trip_lt i k; omega
  unfold tripL_k0_t1 trip_k0_t1
  sl_unfold_run_names
  dsimp only
  rw [read_all arg7.view f zero2, read_all arg8.view g zero2]
  simp only [readCov_sq, readCov_m, readAt_blk _ _ (trip_lt i k) (off3_eq i k), readAt_blk _ _ h2 (off2_eq i k), readAt_m, readAt_sq,
    scores_eq, lane4_eq, lane2_eq, shapeCast_self, pay20_eq, pay22_eq, pay23_eq, pair, step]
  rfl

/-- The trips before `k`. -/
theorem trips (G : BufTy.Contents (Elt F) arg7.view.ty) (G' : BufTy.Contents (Elt F) arg8.view.ty) : ∀ k : ℕ, k ≤ (k0_t1_loop i).trips →
    (arg7.view.read (Elt F) (arg7.view.writes (Elt F) G (pb_k0_t1 (F := F) 𝒱 c bd i arg2 harg2 arg3 harg3 arg4 harg4 arg5 harg5 arg6 harg6 arg7 harg7 arg8 harg8 w1 q w2 w3 w4 w5 X3 X4 G G' k).1),
      arg8.view.read (Elt F) (arg8.view.writes (Elt F) G' (pb_k0_t1 (F := F) 𝒱 c bd i arg2 harg2 arg3 harg3 arg4 harg4 arg5 harg5 arg6 harg6 arg7 harg7 arg8 harg8 w1 q w2 w3 w4 w5 X3 X4 G G' k).2))
      = upTo (step q (arg3.view.read (Elt F) X3) (arg4.view.read (Elt F) X4)) (2 * k) (arg7.view.read (Elt F) G, arg8.view.read (Elt F) G')
  | 0, _ => rfl
  | k + 1, h => by
    rw [pb_k0_t1_succ (F := F) 𝒱 c bd i arg2 harg2 arg3 harg3 arg4 harg4 arg5 harg5 arg6 harg6 arg7 harg7 arg8 harg8 w1 q w2 w3 w4 w5 X3 X4 G G' ⟨k, h⟩,
      View.writes_append, View.writes_append, trip, trips G G' k (Nat.le_of_succ_le h)]
    rfl
end

/-- What query block `n` leaves in the scratch buffers. -/
def pointSt (n : ℕ) (q : Vec F S512x256 .bf16) (k v : Vec F S4096x256 .bf16) : St F :=
  upTo (step q k v) n (start q (getBlk n k) (getBlk n v))

/-- The quotient of the halves, and the logarithm of the sum of the weights. -/
def outO (z : St F) : Vec F S512x128 .f32 := k0_pay32 (rHalf z.2) (lHalf z.2)
def outL (z : St F) : Vec F S512x128 .f32 := k0_pay1 (rHalf z.2) z.1

section
variable (c : Dev nD) (i : grid0.Coords) (arg2 : Memref sig .tc .vmem S512x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x256 .f32) (harg8 : arg8.IsWhole)
  (x0 : Vec F S512x256 .bf16) (x1 : Vec F S4096x256 .bf16) (x2 : Vec F S4096x256 .bf16)

/-- The scratch buffers after the diagonal block, the pairs and the empty remainder of the loop. -/
theorem st_read (w1 w2 w3 w4 w5 v1 v2 v3 v4 v5 v6 : BitVec 32) (q q' : Vec F S512x256 .bf16)
    (X3 X3' : BufTy.Contents (Elt F) arg3.view.ty) (X4 X4' : BufTy.Contents (Elt F) arg4.view.ty)
    (inb inb') (t : Vec F S512x128 .f32) (a : Vec F S512x256 .f32) (G' : BufTy.Contents (Elt F) arg7.view.ty) (G'' : BufTy.Contents (Elt F) arg8.view.ty)
    {T1 T2 : ℕ} (h1 : T1 = (k0_t1_loop i).trips) (h2 : T2 = (k0_t2_loop i).trips) :
    (arg7.view.read (Elt F) (arg7.view.writes (Elt F) arg7.view.junk
      ((pb_k0_t2 (F := F) Variants.none c none i arg2 harg2 arg3 harg3 arg4 harg4 arg5 harg5 arg6 harg6 arg7 harg7 arg8 harg8 v1 q' v2 v3 v4 v5 v6 X3' X4' G' G'' T2).1
        ++ ((pb_k0_t1 (F := F) Variants.none c none i arg2 harg2 arg3 harg3 arg4 harg4 arg5 harg5 arg6 harg6 arg7 harg7 arg8 harg8 w1 q w2 w3 w4 w5 X3 X4
            (arg7.view.writes (Elt F) arg7.view.junk [⟨Rect.unit (s := S512x128) ![0, 0] (no_index S512x128.size) inb, t⟩])
            (arg8.view.writes (Elt F) arg8.view.junk [⟨Rect.unit (s := S512x256) ![0, 0] (no_index S512x256.size) inb', a⟩]) T1).1
          ++ [⟨Rect.unit (s := S512x128) ![0, 0] (no_index S512x128.size) inb, t⟩]))),
     arg8.view.read (Elt F) (arg8.view.writes (Elt F) arg8.view.junk
      ((pb_k0_t2 (F := F) Variants.none c none i arg2 harg2 arg3 harg3 arg4 harg4 arg5 harg5 arg6 harg6 arg7 harg7 arg8 harg8 v1 q' v2 v3 v4 v5 v6 X3' X4' G' G'' T2).2
        ++ ((pb_k0_t1 (F := F) Variants.none c none i arg2 harg2 arg3 harg3 arg4 harg4 arg5 harg5 arg6 harg6 arg7 harg7 arg8 harg8 w1 q w2 w3 w4 w5 X3 X4
            (arg7.view.writes (Elt F) arg7.view.junk [⟨Rect.unit (s := S512x128) ![0, 0] (no_index S512x128.size) inb, t⟩])
            (arg8.view.writes (Elt F) arg8.view.junk [⟨Rect.unit (s := S512x256) ![0, 0] (no_index S512x256.size) inb', a⟩]) T1).2
          ++ [⟨Rect.unit (s := S512x256) ![0, 0] (no_index S512x256.size) inb', a⟩]))))
      = upTo (step q (arg3.view.read (Elt F) X3) (arg4.view.read (Elt F) X4)) (2 * ((i 1).val / 2)) (t, a) := by
  rw [h2, trips_t2 i, show pb_k0_t2 (F := F) Variants.none c none i arg2 harg2 arg3 harg3 arg4 harg4 arg5 harg5 arg6 harg6 arg7 harg7 arg8 harg8 v1 q' v2 v3 v4 v5 v6 X3' X4' G' G'' 0 = ([], []) from rfl]
  dsimp only
  rw [List.nil_append, List.nil_append, View.writes_append, View.writes_append, h1, trips _ _ _ _ _ _ _ _ _ _ _ _ _ _ _ _ _ _ _ _ _ _ _ _ _ _ _ _ _ le_rfl, trips_t1,
    read_all arg7.view _ zero2, read_all arg8.view _ zero2]

/-- An even query block: pairs only. -/
theorem out_even (hc : ¬cond0_0 i) (h : ¬ (i 1).val % 2 = 1) :
    out0_A_3 c i arg2 harg2 arg3 harg3 arg4 harg4 arg5 harg5 arg6 harg6 arg7 harg7 arg8 harg8 hc x0 x1 x2 = outO (pointSt (i 1).val x0 x1 x2)
      ∧ out0_A_4 c i arg2 harg2 arg3 harg3 arg4 harg4 arg5 harg5 arg6 harg6 arg7 harg7 arg8 harg8 hc x0 x1 x2 = outL (pointSt (i 1).val x0 x1 x2) := by
  have e : pointSt (i 1).val x0 x1 x2 = _ := Cert.RetBwd.upTo_even (step x0 x1 x2) h _
  unfold out0_A_3 out0_A_4 kernelRun0_A
  sl_unfold_run_names
  dsimp only
  rw [e]
  refine ⟨(read_all VO0_3 _ zero2 _ _ _).trans (congrArg₂ k0_pay32 ((readAt_r _ _ _).trans (congrArg rHalf ?_)) ((readAt_l _ _ _).trans (congrArg lHalf ?_))),
    (read_all VO0_4 _ zero2 _ _ _).trans (congrArg₂ k0_pay1 ((readAt_r _ _ _).trans (congrArg rHalf ?_)) ((readAt_m _ _ _).trans ?_))⟩
  · refine (congrArg Prod.snd (st_read c i arg2 harg2 arg3 harg3 arg4 harg4 arg5 harg5 arg6 harg6 arg7 harg7 arg8 harg8 _ _ _ _ _ _ _ _ _ _ _ _ _ _ _ _ _ _ _ _ _ _ _ rfl rfl)).trans ?_
    simp only [readAt_sq, readAt_blk _ _ (i 1).isLt (off1_blk i), Memref.IsWhole.read_unread, start]
  · refine (congrArg Prod.snd (st_read c i arg2 harg2 arg3 harg3 arg4 harg4 arg5 harg5 arg6 harg6 arg7 harg7 arg8 harg8 _ _ _ _ _ _ _ _ _ _ _ _ _ _ _ _ _ _ _ _ _ _ _ rfl rfl)).trans ?_
    simp only [readAt_sq, readAt_blk _ _ (i 1).isLt (off1_blk i), Memref.IsWhole.read_unread, start]
  · refine (congrArg Prod.snd (st_read c i arg2 harg2 arg3 harg3 arg4 harg4 arg5 harg5 arg6 harg6 arg7 harg7 arg8 harg8 _ _ _ _ _ _ _ _ _ _ _ _ _ _ _ _ _ _ _ _ _ _ _ rfl rfl)).trans ?_
    simp only [readAt_sq, readAt_blk _ _ (i 1).isLt (off1_blk i), Memref.IsWhole.read_unread, start]
  · refine (congrArg Prod.fst (st_read c i arg2 harg2 arg3 harg3 arg4 harg4 arg5 harg5 arg6 harg6 arg7 harg7 arg8 harg8 _ _ _ _ _ _ _ _ _ _ _ _ _ _ _ _ _ _ _ _ _ _ _ rfl rfl)).trans ?_
    simp only [readAt_sq, readAt_blk _ _ (i 1).isLt (off1_blk i), Memref.IsWhole.read_unread, start]

theorem step_fst {q : FVec F S512x256 .bf16} {k : Vec F S4096x256 .bf16} (v : Vec F S4096x256 .bf16) {j : ℕ} {z : St F} {t : Vec F S512x128 .f32}
    (h : t = z.1) : k0_pay30 q (getBlk j k) t = (step q k v j z).1 := by subst h; exact pay30_eq _ _ _

theorem step_snd {q : FVec F S512x256 .bf16} {k v : Vec F S4096x256 .bf16} {j : ℕ} {z : St F} {t : Vec F S512x128 .f32} {a : Vec F S512x256 .f32}
    (h : t = z.1) (h' : a = z.2) : k0_pay31 q (getBlk j k) (getBlk j v) t a = (step q k v j z).2 := by subst h h'; exact pay31_eq _ _ _ _ _

/-- An odd query block: pairs, and one key block more. -/
theorem out_odd (hc : cond0_0 i) (h : (i 1).val % 2 = 1) :
    out0_B_3 c i arg2 harg2 arg3 harg3 arg4 harg4 arg5 harg5 arg6 harg6 arg7 harg7 arg8 harg8 hc x0 x1 x2 = outO (pointSt (i 1).val x0 x1 x2)
      ∧ out0_B_4 c i arg2 harg2 arg3 harg3 arg4 harg4 arg5 harg5 arg6 harg6 arg7 harg7 arg8 harg8 hc x0 x1 x2 = outL (pointSt (i 1).val x0 x1 x2) := by
  have e : pointSt (i 1).val x0 x1 x2 = _ := Cert.RetBwd.upTo_odd (step x0 x1 x2) h _
  have hj : 2 * ((i 1).val / 2) < 8 := by have h8 : (i 1).val < 8 := (i 1).isLt; omega
  unfold out0_B_3 out0_B_4 kernelRun0_B
  sl_unfold_run_names
  dsimp only
  rw [e]
  refine ⟨(read_all VO0_3 _ zero2 _ _ _).trans (congrArg₂ k0_pay32 ((readAt_r _ _ _).trans (congrArg rHalf ?_)) ((readAt_l _ _ _).trans (congrArg lHalf ?_))),
    (read_all VO0_4 _ zero2 _ _ _).trans (congrArg₂ k0_pay1 ((readAt_r _ _ _).trans (congrArg rHalf ?_)) ((readAt_m _ _ _).trans ?_))⟩
  · refine (read_all arg8.view _ zero2 _ _ _).trans ?_
    simp only [readAt_sq, readAt_blk _ _ (i 1).isLt (off1_blk i), readAt_blk _ _ hj (off6_blk i h), Memref.IsWhole.read_unread]
    refine step_snd ((readAt_m _ _ _).trans ((congrArg Prod.fst (st_read c i arg2 harg2 arg3 harg3 arg4 harg4 arg5 harg5 arg6 harg6 arg7 harg7 arg8 harg8 _ _ _ _ _ _ _ _ _ _ _ _ _ _ _ _ _ _ _ _ _ _ _ rfl rfl)).trans ?_)) ((readAt_sq _ _ _).trans ((congrArg Prod.snd (st_read c i arg2 harg2 arg3 harg3 arg4 harg4 arg5 harg5 arg6 harg6 arg7 harg7 arg8 harg8 _ _ _ _ _ _ _ _ _ _ _ _ _ _ _ _ _ _ _ _ _ _ _ rfl rfl)).trans ?_))
    · simp only [readAt_sq, readAt_blk _ _ (i 1).isLt (off1_blk i), Memref.IsWhole.read_unread, start]
    · simp only [readAt_sq, readAt_blk _ _ (i 1).isLt (off1_blk i), Memref.IsWhole.read_unread, start]
  · refine (read_all arg8.view _ zero2 _ _ _).trans ?_
    simp only [readAt_sq, readAt_blk _ _ (i 1).isLt (off1_blk i), readAt_blk _ _ hj (off6_blk i h), Memref.IsWhole.read_unread]
    refine step_snd ((readAt_m _ _ _).trans ((congrArg Prod.fst (st_read c i arg2 harg2 arg3 harg3 arg4 harg4 arg5 harg5 arg6 harg6 arg7 harg7 arg8 harg8 _ _ _ _ _ _ _ _ _ _ _ _ _ _ _ _ _ _ _ _ _ _ _ rfl rfl)).trans ?_)) ((readAt_sq _ _ _).trans ((congrArg Prod.snd (st_read c i arg2 harg2 arg3 harg3 arg4 harg4 arg5 harg5 arg6 harg6 arg7 harg7 arg8 harg8 _ _ _ _ _ _ _ _ _ _ _ _ _ _ _ _ _ _ _ _ _ _ _ rfl rfl)).trans ?_))
    · simp only [readAt_sq, readAt_blk _ _ (i 1).isLt (off1_blk i), Memref.IsWhole.read_unread, start]
    · simp only [readAt_sq, readAt_blk _ _ (i 1).isLt (off1_blk i), Memref.IsWhole.read_unread, start]
  · refine (read_all arg8.view _ zero2 _ _ _).trans ?_
    simp only [readAt_sq, readAt_blk _ _ (i 1).isLt (off1_blk i), readAt_blk _ _ hj (off6_blk i h), Memref.IsWhole.read_unread]
    refine step_snd ((readAt_m _ _ _).trans ((congrArg Prod.fst (st_read c i arg2 harg2 arg3 harg3 arg4 harg4 arg5 harg5 arg6 harg6 arg7 harg7 arg8 harg8 _ _ _ _ _ _ _ _ _ _ _ _ _ _ _ _ _ _ _ _ _ _ _ rfl rfl)).trans ?_)) ((readAt_sq _ _ _).trans ((congrArg Prod.snd (st_read c i arg2 harg2 arg3 harg3 arg4 harg4 arg5 harg5 arg6 harg6 arg7 harg7 arg8 harg8 _ _ _ _ _ _ _ _ _ _ _ _ _ _ _ _ _ _ _ _ _ _ _ rfl rfl)).trans ?_))
    · simp only [readAt_sq, readAt_blk _ _ (i 1).isLt (off1_blk i), Memref.IsWhole.read_unread, start]
    · simp only [readAt_sq, readAt_blk _ _ (i 1).isLt (off1_blk i), Memref.IsWhole.read_unread, start]
  · refine (read_all arg7.view _ zero2 _ _ _).trans ?_
    simp only [readAt_sq, readAt_blk _ _ (i 1).isLt (off1_blk i), readAt_blk _ _ hj (off6_blk i h), Memref.IsWhole.read_unread]
    refine step_fst x2 ((readAt_m _ _ _).trans ((congrArg Prod.fst (st_read c i arg2 harg2 arg3 harg3 arg4 harg4 arg5 harg5 arg6 harg6 arg7 harg7 arg8 harg8 _ _ _ _ _ _ _ _ _ _ _ _ _ _ _ _ _ _ _ _ _ _ _ rfl rfl)).trans ?_))
    simp only [readAt_sq, readAt_blk _ _ (i 1).isLt (off1_blk i), Memref.IsWhole.read_unread, start]
end

end Cert.Mla

end
-- ==== Proof.Softmax.lean ====
/- The attention's weights as plain sums over the reals: every earlier key and every key of the query's own 64-row chunk
   is seen, with the exponential of its score. Subtracting any real number from the scores first changes no quotient. -/
module

public import proofs.«01_k».proof.Proof.Gradient

@[expose] public section

noncomputable section

namespace Cert.Mla

open Idealize.ShloMosaic
open Finset (range)
open Cert.RetBwd (dot sum_blocks)

/-- The weight of key row `b` for query row `p`. -/
def E (Q K : ℕ → ℕ → ℝ) (p b : ℕ) : ℝ := if b / 64 ≤ p / 64 then Real.exp (dot Q K p b) else 0

/-- The weighted sum of column `e` of the values, for query row `p`. -/
def Num (Q K V : ℕ → ℕ → ℝ) (p e : ℕ) : ℝ := ∑ b ∈ range 4096, E Q K p b * V b e

/-- The sum of the weights. -/
def Den (Q K : ℕ → ℕ → ℝ) (p : ℕ) : ℝ := ∑ b ∈ range 4096, E Q K p b

theorem E_nonneg (Q K : ℕ → ℕ → ℝ) (p b : ℕ) : 0 ≤ E Q K p b := by
  unfold E
  split
  · exact (Real.exp_pos _).le
  · exact le_rfl

theorem Den_pos (Q K : ℕ → ℕ → ℝ) (p : ℕ) (h : p < 4096) : 0 < Den Q K p := by
  refine lt_of_lt_of_le ?_ (Finset.single_le_sum (f := E Q K p) (fun b _ => E_nonneg Q K p b) (Finset.mem_range.mpr h))
  unfold E
  rw [if_pos le_rfl]
  exact Real.exp_pos _

/-- The part of key block `j` in the sum of query row `p`. -/
def bN (Q K V : ℕ → ℕ → ℝ) (p j e : ℕ) : ℝ := ∑ b ∈ range 512, E Q K p (512 * j + b) * V (512 * j + b) e

/-- The blocks up to the query's own make up the whole sum. -/
theorem Num_blocks (Q K V : ℕ → ℕ → ℝ) (n a e : ℕ) (hn : n < 8) (ha : a < 512) :
    Num Q K V (512 * n + a) e = bN Q K V (512 * n + a) n e + ∑ j ∈ range n, bN Q K V (512 * n + a) j e := by
  rw [add_comm (bN Q K V _ n e), ← Finset.sum_range_succ]
  unfold Num
  rw [show 4096 = 512 * 8 from rfl, sum_blocks 512 _ 8, ← Finset.sum_range_add_sum_Ico _ (show n + 1 ≤ 8 from hn)]
  rw [Finset.sum_eq_zero (s := Finset.Ico (n + 1) 8), add_zero]
  · rfl
  · intro j hj
    refine Finset.sum_eq_zero fun b _ => ?_
    have hj := (Finset.mem_Ico.mp hj).1
    unfold E
    rw [if_neg (by omega), zero_mul]

/-- An earlier block is seen whole. -/
theorem bN_before (Q K V : ℕ → ℕ → ℝ) (n a j e : ℕ) (h : j < n) (ha : a < 512) :
    bN Q K V (512 * n + a) j e = ∑ b ∈ range 512, Real.exp (dot Q K (512 * n + a) (512 * j + b)) * V (512 * j + b) e := by
  refine Finset.sum_congr rfl fun b hb => ?_
  have hb := Finset.mem_range.mp hb
  unfold E
  rw [if_pos (by omega)]

/-- The maximum of finitely many extended reals below the top, one of them a real number, is a real number. -/
theorem fold_max_real {n : ℕ} (f : Fin n → EReal) (h : ∀ i, f i ≠ ⊤) (i : Fin n) (hi : f i ≠ ⊥) :
    ∃ M : ℝ, (Finset.univ : Finset (Fin n)).fold max ⊥ f = (M : EReal) := by
  have hlt : (Finset.univ : Finset (Fin n)).fold max ⊥ f < ⊤ :=
    (Finset.fold_max_lt _).mpr ⟨bot_lt_top, fun x _ => lt_top_iff_ne_top.mpr (h x)⟩
  have hge : f i ≤ (Finset.univ : Finset (Fin n)).fold max ⊥ f :=
    (Finset.le_fold_max _).mpr (.inr ⟨i, Finset.mem_univ i, le_rfl⟩)
  refine ⟨_, (EReal.coe_toReal hlt.ne ?_).symm⟩
  intro e
  rw [e, le_bot_iff] at hge
  exact hi hge

/-- The larger of two real numbers is a real number. -/
theorem max_real (a b : ℝ) : ∃ M : ℝ, max (a : EReal) b = (M : EReal) := by
  rcases le_total (a : EReal) b with h | h
  · exact ⟨b, max_eq_right h⟩
  · exact ⟨a, max_eq_left h⟩

/-- The masked score of key row `b` for query row `p`. -/
def S (Q K : ℕ → ℕ → ℝ) (p b : ℕ) : EReal := if b / 64 ≤ p / 64 then ((dot Q K p b : ℝ) : EReal) else ⊥

theorem S_ne_top (Q K : ℕ → ℕ → ℝ) (p b : ℕ) : S Q K p b ≠ ⊤ := by
  unfold S
  split
  · exact EReal.coe_ne_top _
  · exact bot_ne_top

theorem S_self (Q K : ℕ → ℕ → ℝ) (p : ℕ) : S Q K p p ≠ ⊥ := by
  unfold S
  rw [if_pos le_rfl]
  exact EReal.coe_ne_bot _

/-- The exponential of a masked score less a real number. -/
theorem exp_S (Q K : ℕ → ℕ → ℝ) (p b : ℕ) (M : ℝ) : Ideal.exp (S Q K p b - (M : EReal)) = ((Real.exp (-M) * E Q K p b : ℝ) : EReal) := by
  unfold S E
  split
  · rw [← EReal.coe_sub, Ideal.exp_coe, sub_eq_neg_add, Real.exp_add]
  · rw [EReal.bot_sub, Ideal.exp_bot, mul_zero, EReal.coe_zero]

end Cert.Mla

end
-- ==== Proof.MlaStep.lean ====
/- What the attention's running maximum and accumulator hold over the real numbers: the accumulator is the sum of the
   weighted values so far, times the exponential of minus the running maximum, whatever that maximum is. -/
module

public import proofs.«01_k».proof.Proof.MlaTrip
public import proofs.«01_k».proof.Proof.Softmax
public import proofs.«01_k».proof.Proof.PointSums
public import Idealize.ShloMosaic.Lib.Pointwise
public import Idealize.ShloMosaic.PureOps.Ideal.Laws

@[expose] public section

set_option maxRecDepth 16384

noncomputable section

namespace Cert.Mla

open Idealize.ShloMosaic Idealize.ShloMosaic.TcCoe Idealize.ShloMosaic.Tactic
open Cert.KernelMlaIdeal Cert.KernelMlaIdeal.Gen
open Finset (range)
open Cert.RetBwd (getBlk upTo dot IsBlk IsArr sum_fin')

theorem negInf : Ideal.ofBits .f32 0xFF800000#32 = ⊥ := by
  simp [Ideal.ofBits, Ideal.ieee]

theorem scores_apply (q k : FVec Ideal S512x256 .bf16) (a b : Fin 512) :
    scores q k (ix2 a b) = ∑ d : Fin 256, (q (ix2 a d) : EReal) * k (ix2 b d) := by
  pointwise [scores]

theorem nextTop_apply (s : FVec Ideal S512x512 .f32) (t : FVec Ideal S512x128 .f32) (a : Fin 512) (l : Fin 128) :
    nextTop s t (ix2 a l) = max (t (ix2 a l) : EReal) ((Finset.univ : Finset (Fin 512)).fold max ⊥ fun b => (s (ix2 a b) : EReal)) := by
  pointwise [nextTop]
  rw [negInf]

theorem lane4_of (t : FVec Ideal S512x128 .f32) (a b : Fin 512) (x : EReal) (h : ∀ l, t (ix2 a l) = x) : lane4 t (ix2 a b) = x := by
  pointwise [lane4]
  simp only [h, dite_eq_ite, ite_self]

theorem lane2_of (t : FVec Ideal S512x128 .f32) (a : Fin 512) (e : Fin 256) (x : EReal) (h : ∀ l, t (ix2 a l) = x) : lane2 t (ix2 a e) = x := by
  pointwise [lane2]
  simp only [h, dite_eq_ite, ite_self]

theorem nextAcc_apply (s : FVec Ideal S512x512 .f32) (v : FVec Ideal S512x256 .bf16) (t t' : FVec Ideal S512x128 .f32) (z : FVec Ideal S512x256 .f32)
    (a : Fin 512) (e : Fin 256) : nextAcc s v t t' z (ix2 a e)
      = z (ix2 a e) * lane2 (exp (subf t t')) (ix2 a e)
        + ∑ b : Fin 512, Ideal.exp ((s (ix2 a b) : EReal) - lane4 t' (ix2 a b)) * (v (ix2 b e) : EReal) := by
  pointwise [nextAcc]

theorem shift_word : ∀ a : Fin 512, IntOp.shrui ArithUnit.vector (BitVec.ofNat 32 a.val) 6#32 = BitVec.ofNat 32 (a.val / 64) := by
  decide +kernel

theorem chunk_le : ∀ x y : Fin 8, IntOp.cmpi CmpIPredicate.sge (BitVec.ofNat 32 x.val) (BitVec.ofNat 32 y.val)
    = if y.val ≤ x.val then 1#1 else 0#1 := by decide

theorem mask_bot : (Named.named (F := Ideal) κ "mask" (φ := .f32) 0xF149F2CA#32 : EReal) = ⊥ :=
  IdealRules.named_const.ideal_named_scalar _ _ _ _ rfl

theorem pay16_apply (q k : FVec Ideal S512x256 .bf16) (a b : Fin 512) :
    k0_pay16 (F := Ideal) q k (ix2 a b) = (if b.val / 64 ≤ a.val / 64 then ∑ d : Fin 256, (q (ix2 a d) : EReal) * k (ix2 b d) else ⊥) := by
  pointwise [k0_pay16]
  rw [shift_word a, shift_word b, chunk_le ⟨a.val / 64, by omega⟩ ⟨b.val / 64, by omega⟩, mask_bot]
  by_cases hc : b.val / 64 ≤ a.val / 64
  · simp only [if_pos hc]; rfl
  · simp only [if_neg hc]; rfl

theorem pay17_apply (q k : FVec Ideal S512x256 .bf16) (a : Fin 512) :
    k0_pay17 (F := Ideal) q k (ix2 a 0) = (Finset.univ : Finset (Fin 512)).fold max ⊥ fun b => (k0_pay16 (F := Ideal) q k (ix2 a b) : EReal) := by
  pointwise [k0_pay17]
  rw [negInf]

theorem pay18_apply (q k : FVec Ideal S512x256 .bf16) (a : Fin 512) (l : Fin 128) : k0_pay18 (F := Ideal) q k (ix2 a l) = k0_pay17 (F := Ideal) q k (ix2 a 0) := by
  pointwise [k0_pay18]

theorem pay19_apply (q k v : FVec Ideal S512x256 .bf16) (a : Fin 512) (e : Fin 256) : k0_pay19 (F := Ideal) q k v (ix2 a e)
    = ∑ b : Fin 512, Ideal.exp ((k0_pay16 (F := Ideal) q k (ix2 a b) : EReal) - k0_pay17 (F := Ideal) q k (ix2 a 0)) * (v (ix2 b e) : EReal) := by
  pointwise [k0_pay19]

/-! ## The invariant -/

/-- The running maximum `M`, the same in every lane, and the accumulator of the sums `N` taken against it. -/
def Inv (z : St Ideal) (N : Fin 512 → Fin 256 → ℝ) : Prop :=
  ∃ M : Fin 512 → ℝ, (∀ a l, z.1 (ix2 a l) = ((M a : ℝ) : EReal)) ∧ ∀ a e, z.2 (ix2 a e) = ((Real.exp (-M a) * N a e : ℝ) : EReal)

section
variable {q : FVec Ideal S512x256 .bf16} {k v : FVec Ideal S4096x256 .bf16} {Q K V : ℕ → ℕ → ℝ} {n : ℕ}

theorem dot_real {x y : FVec Ideal S512x256 .bf16} {j : ℕ} {X Y : ℕ → ℕ → ℝ} (hx : IsBlk x n X) (hy : IsBlk y j Y) (a b : Fin 512) :
    ∑ d : Fin 256, (x (ix2 a d) : EReal) * y (ix2 b d) = ((dot X Y (512 * n + a.val) (512 * j + b.val) : ℝ) : EReal) :=
  sum_fin' 256 _ _ fun d => by rw [EReal.coe_mul]; exact congrArg₂ _ (hx a d) (hy b d)

/-- The diagonal block. -/
theorem start_inv (hn : n < 8) (hq : IsBlk q n Q) (hk : IsArr k K) (hv : IsArr v V) :
    Inv (start q (getBlk (F := Ideal) (e := .bf16) n k) (getBlk (F := Ideal) (e := .bf16) n v)) (fun a e => bN Q K V (512 * n + a.val) n e.val) := by
  have h16 : ∀ a b : Fin 512, (k0_pay16 (F := Ideal) q (getBlk (F := Ideal) (e := .bf16) n k) (ix2 a b) : EReal) = S Q K (512 * n + a.val) (512 * n + b.val) := fun a b => by
    rw [pay16_apply, dot_real hq (hk.blk n hn)]
    unfold S
    have e : ((512 * n + b.val) / 64 ≤ (512 * n + a.val) / 64) ↔ b.val / 64 ≤ a.val / 64 := by omega
    simp only [e]
  have h17 : ∀ a : Fin 512, ∃ M : ℝ, (k0_pay17 (F := Ideal) q (getBlk (F := Ideal) (e := .bf16) n k) (ix2 a 0) : EReal) = (M : EReal) := fun a => by
    rw [pay17_apply]
    refine fold_max_real _ (fun b => ?_) a ?_
    · rw [h16]; exact S_ne_top _ _ _ _
    · rw [h16]; exact S_self _ _ _
  choose M hM using h17
  unfold start
  refine ⟨M, fun a l => ?_, fun a e => ?_⟩
  · dsimp only
    rw [pay18_apply, hM]
  dsimp only
  rw [pay19_apply]
  rw [show Real.exp (-M a) * bN Q K V (512 * n + a.val) n e.val = ∑ b ∈ range 512, Real.exp (-M a) * E Q K (512 * n + a.val) (512 * n + b) * V (512 * n + b) e.val by
    unfold bN; rw [Finset.mul_sum]; exact Finset.sum_congr rfl fun b _ => by ring]
  refine sum_fin' 512 _ _ fun b => ?_
  rw [h16, hM, exp_S, EReal.coe_mul (_ * _)]
  exact congrArg _ (hv.blk n hn b e)

/-- One earlier block. -/
theorem step_inv {z : St Ideal} {N : Fin 512 → Fin 256 → ℝ} (hz : Inv z N) (j : ℕ) (hj : j < n) (hn : n < 8) (hq : IsBlk q n Q) (hk : IsArr k K) (hv : IsArr v V) :
    Inv (step q k v j z) (fun a e => N a e + bN Q K V (512 * n + a.val) j e.val) := by
  obtain ⟨M, hM, hN⟩ := hz
  have hs : ∀ a b : Fin 512, (scores q (getBlk (F := Ideal) (e := .bf16) j k) (ix2 a b) : EReal) = ((dot Q K (512 * n + a.val) (512 * j + b.val) : ℝ) : EReal) := fun a b =>
    (scores_apply _ _ a b).trans (dot_real hq (hk.blk j (by omega)) a b)
  have ht : ∀ a : Fin 512, ∃ M' : ℝ, ∀ l : Fin 128, (nextTop (scores q (getBlk (F := Ideal) (e := .bf16) j k)) z.1 (ix2 a l) : EReal) = (M' : EReal) := fun a => by
    obtain ⟨r, hr⟩ := fold_max_real (fun b : Fin 512 => (scores q (getBlk (F := Ideal) (e := .bf16) j k) (ix2 a b) : EReal))
      (fun b => by rw [hs]; exact EReal.coe_ne_top _) 0 (by rw [hs]; exact EReal.coe_ne_bot _)
    obtain ⟨s, hs⟩ := max_real (M a) r
    exact ⟨s, fun l => by rw [nextTop_apply, hM, hr, hs]⟩
  choose M' hM' using ht
  refine ⟨M', hM', fun a e => (nextAcc_apply _ _ _ _ _ a e).trans ?_⟩
  have hl : lane2 (exp (subf z.1 (nextTop (scores q (getBlk (F := Ideal) (e := .bf16) j k)) z.1))) (ix2 a e) = ((Real.exp (M a - M' a) : ℝ) : EReal) :=
    lane2_of _ _ _ _ fun l => by
      show Ideal.exp ((z.1 (ix2 a l) : EReal) - nextTop (scores q (getBlk (F := Ideal) (e := .bf16) j k)) z.1 (ix2 a l)) = _
      rw [hM, hM', ← EReal.coe_sub, Ideal.exp_coe]
  rw [hN, hl, ← EReal.coe_mul]
  rw [sum_fin' 512 _ (fun b => Real.exp (-M' a) * Real.exp (dot Q K (512 * n + a.val) (512 * j + b)) * V (512 * j + b) e.val) fun b => ?_, ← EReal.coe_add]
  · beta_reduce
    rw [bN_before _ _ _ _ _ _ _ hj a.isLt, mul_add, Finset.mul_sum]
    congr 2
    · rw [mul_right_comm, ← Real.exp_add]
      congr 2; ring
    · exact Finset.sum_congr rfl fun b _ => by ring
  · rw [hs, lane4_of _ a b _ (hM' a), ← EReal.coe_sub, Ideal.exp_coe, sub_eq_neg_add, Real.exp_add, EReal.coe_mul (_ * _)]
    exact congrArg _ (hv.blk j (by omega) b e)

/-- All the blocks of one query block. -/
theorem point_inv (hn : n < 8) (hq : IsBlk q n Q) (hk : IsArr k K) (hv : IsArr v V) :
    Inv (pointSt (F := Ideal) n q k v) (fun a e => Num Q K V (512 * n + a.val) e.val) := by
  have h : ∀ i, i ≤ n → Inv (upTo (step q k v) i (start q (getBlk (F := Ideal) (e := .bf16) n k) (getBlk (F := Ideal) (e := .bf16) n v)))
      (fun a e => bN Q K V (512 * n + a.val) n e.val + ∑ j ∈ range i, bN Q K V (512 * n + a.val) j e.val) := by
    intro i
    induction i with
    | zero => intro _; simpa [upTo] using start_inv hn hq hk hv
    | succ i ih =>
      intro hi
      have := step_inv (ih (by omega)) i hi hn hq hk hv
      simp only [Finset.sum_range_succ, ← add_assoc]
      exact this
  have h := h n le_rfl
  have e : (fun (a : Fin 512) (e : Fin 256) => Num Q K V (512 * n + a.val) e.val)
      = fun a e => bN Q K V (512 * n + a.val) n e.val + ∑ j ∈ range n, bN Q K V (512 * n + a.val) j e.val :=
    funext fun a => funext fun e => Num_blocks _ _ _ _ _ _ hn a.isLt
  rw [e]
  exact h

/-- Where the columns of the values from 128 on are ones, the two results are the weighted mean and the logarithm of the
    sum of the weights. -/
theorem point_out (hn : n < 8) (hq : IsBlk q n Q) (hk : IsArr k K) (hv : IsArr v V) (h1 : ∀ b e, 128 ≤ e → V b e = 1) (p : S512x128.Idx) :
    outO (pointSt (F := Ideal) n q k v) p = ((Num Q K V (512 * n + (p 0).val) (p 1).val / Den Q K (512 * n + (p 0).val) : ℝ) : EReal)
      ∧ outL (pointSt (F := Ideal) n q k v) p = ((Real.log (Den Q K (512 * n + (p 0).val)) : ℝ) : EReal) := by
  obtain ⟨M, hM, hN⟩ := point_inv hn hq hk hv
  have hp0 : (p 0).val < 512 := (p 0).isLt
  have hp1 : (p 1).val < 128 := (p 1).isLt
  have hD := Den_pos Q K (512 * n + (p 0).val) (by omega)
  have hE := Real.exp_pos (-M (p 0))
  have hl : (lHalf (pointSt (F := Ideal) n q k v).2 p : EReal) = ((Real.exp (-M (p 0)) * Num Q K V (512 * n + (p 0).val) (p 1).val : ℝ) : EReal) := hN _ _
  have hr : (rHalf (pointSt (F := Ideal) n q k v).2 p : EReal) = ((Real.exp (-M (p 0)) * Den Q K (512 * n + (p 0).val) : ℝ) : EReal) := by
    refine (hN _ _).trans (congrArg (fun x : ℝ => ((Real.exp (-M (p 0)) * x : ℝ) : EReal)) ?_)
    unfold Num Den
    exact Finset.sum_congr rfl fun b _ => by rw [h1 _ _ (by show 128 ≤ 128 + (p 1).val; omega), mul_one]
  constructor
  · show Ideal.div (lHalf (pointSt (F := Ideal) n q k v).2 p) (rHalf (pointSt (F := Ideal) n q k v).2 p) = _
    rw [hl, hr, Ideal.div_coe (by positivity), ← EReal.coe_mul]
    congr 1
    field_simp
  · show ((pointSt (F := Ideal) n q k v).1 p : EReal) + Ideal.log (rHalf (pointSt (F := Ideal) n q k v).2 p) = _
    rw [hr, Ideal.log_coe, if_neg (not_le.mpr (mul_pos hE hD))]
    rw [show ((pointSt (F := Ideal) n q k v).1 p : EReal) = _ from (congrArg _ (eq_ix2 p)).trans (hM (p 0) (p 1)), ← EReal.coe_add, Real.log_mul hE.ne' hD.ne', Real.log_exp]
    congr 1
    ring
end

end Cert.Mla

end
-- ==== Proof.MlaValue.lean ====
/- What the attention's forward call leaves in its two results on real arguments: head by head the weighted means of the
   values, and the logarithms of the sums of the weights, each repeated along the head's 128 columns. -/
module

public import proofs.«01_k».proof.Proof.KernelValue
public import proofs.«01_k».proof.Proof.MlaStep

@[expose] public section

set_option maxRecDepth 16384

noncomputable section

namespace Cert.Mla

open Idealize.ShloMosaic Idealize.ShloMosaic.TcCoe Idealize.ShloMosaic.Tactic
open Cert.KernelMlaIdeal Cert.KernelMlaIdeal.Gen
open Cert.RetBwd (IsBlk IsArr IsReal hd)

/-- An array of 2048 columns holds the real numbers `X`. -/
def IsReal2 (x : FVec Ideal S4096x2048 .bf16) (X : ℕ → ℕ → ℝ) : Prop :=
  ∀ (n : Fin 4096) (j : Fin 2048), x (ix2 n j) = ((X n.val j.val : ℝ) : EReal)

/-- The values of head `h`, followed by ones. -/
def vOne (h : ℕ) (V : ℕ → ℕ → ℝ) (n e : ℕ) : ℝ := if e < 128 then V n (128 * h + e) else 1

/-- The two results. -/
def resO (Q K V : ℕ → ℕ → ℝ) : FVec Ideal S4096x1024 .f32 := fun y =>
  ((Num (hd ((y 1).val / 128) Q) (hd ((y 1).val / 128) K) (vOne ((y 1).val / 128) V) (y 0).val ((y 1).val % 128)
    / Den (hd ((y 1).val / 128) Q) (hd ((y 1).val / 128) K) (y 0).val : ℝ) : EReal)
def resL (Q K : ℕ → ℕ → ℝ) : FVec Ideal S4096x1024 .f32 := fun y =>
  ((Real.log (Den (hd ((y 1).val / 128) Q) (hd ((y 1).val / 128) K) (y 0).val) : ℝ) : EReal)

theorem resO_of {Q K V : ℕ → ℕ → ℝ} (z : S4096x1024.Idx) (h r e : ℕ) (h0 : (z 0).val = r) (h1 : (z 1).val = 128 * h + e) (he : e < 128) :
    resO Q K V z = ((Num (hd h Q) (hd h K) (vOne h V) r e / Den (hd h Q) (hd h K) r : ℝ) : EReal) := by
  unfold resO
  rw [h0, h1, show (128 * h + e) / 128 = h by omega, show (128 * h + e) % 128 = e by omega]

theorem resL_of {Q K : ℕ → ℕ → ℝ} (z : S4096x1024.Idx) (h r e : ℕ) (h0 : (z 0).val = r) (h1 : (z 1).val = 128 * h + e) (he : e < 128) :
    resL Q K z = ((Real.log (Den (hd h Q) (hd h K) r) : ℝ) : EReal) := by
  unfold resL
  rw [h0, h1, show (128 * h + e) / 128 = h by omega]

variable (m : (ℓ : Loc nD τ sig) → Buf (Elt Ideal) ℓ)

theorem idx : ∀ t : Fin cfg0.N, win0_0.index t = ![t.val % 8, t.val / 8] ∧ win0_1.index t = ![0, t.val / 8] ∧ win0_2.index t = ![0, t.val / 8]
    ∧ win0_3.index t = ![t.val % 8, t.val / 8] ∧ win0_4.index t = ![t.val % 8, t.val / 8] ∧ (grid0.coords t 1).val = t.val % 8 :=
  (by decide +kernel : ∀ t : Fin grid0.N, _)

theorem head_lt (t : Fin cfg0.N) : t.val / 8 < 8 := by
  have h : t.val < 64 := lt_of_lt_of_eq t.isLt N_0
  omega

section
variable (c : Dev nD)

theorem q_at (t : Fin cfg0.N) (a : Fin 512) (d : Fin 256) (h0 : 512 * (t.val % 8) + a.val < 4096) (h1 : 256 * (t.val / 8) + d.val < 2048) :
    (iblk m c 0 t : Vec Ideal S512x256 .bf16) (ix2 a d)
      = (m ((c : Thread nD τ).loc main_arg0) : Vec Ideal S4096x2048 .bf16) (ix2 ⟨512 * (t.val % 8) + a.val, h0⟩ ⟨256 * (t.val / 8) + d.val, h1⟩) := by
  blk_ext [iblk, V, idx t]

theorem k_at (t : Fin cfg0.N) (a : Fin 4096) (d : Fin 256) (h1 : 256 * (t.val / 8) + d.val < 2048) :
    (iblk m c 1 t : Vec Ideal S4096x256 .bf16) (ix2 a d)
      = (m ((c : Thread nD τ).loc main_arg1) : Vec Ideal S4096x2048 .bf16) (ix2 a ⟨256 * (t.val / 8) + d.val, h1⟩) := by
  blk_ext [iblk, V, idx t]

theorem v_at (t : Fin cfg0.N) (a : Fin 4096) (d : Fin 256) (h1 : 256 * (t.val / 8) + d.val < 2048) :
    (iblk m c 2 t : Vec Ideal S4096x256 .bf16) (ix2 a d)
      = (show Vec Ideal S4096x2048 .bf16 from V m c main_v3) (ix2 a ⟨256 * (t.val / 8) + d.val, h1⟩) := by
  blk_ext [iblk, idx t]

/-- The values' array as the host lays it out: each head's 128 columns, then 128 columns of ones. -/
theorem v3_apply (n : Fin 4096) (h : Fin 8) (e : Fin 256) :
    (show Vec Ideal S4096x2048 .bf16 from V m c main_v3) (ix2 n ⟨256 * h.val + e.val, by omega⟩)
      = (if he : e.val < 128 then (m ((c : Thread nD τ).loc main_arg2) : Vec Ideal S4096x1024 .bf16) (ix2 n ⟨128 * h.val + e.val, by omega⟩) else (1 : EReal)) := by
  simp only [V, hostOps0, List.flatten_cons, List.flatten_nil, List.cons_append, List.nil_append]
  entry_read
  pointwise
  simp only [Nat.mul_comm h.val 128]

variable {Q K Vv : ℕ → ℕ → ℝ}

theorem q_blk (hQ : IsReal2 (m ((c : Thread nD τ).loc main_arg0)) Q) (t : Fin cfg0.N) : IsBlk (iblk m c 0 t) (t.val % 8) (hd (t.val / 8) Q) := fun a d => by
  have := head_lt t
  exact (q_at m c t a d (by omega) (by omega)).trans (hQ ⟨_, by omega⟩ ⟨_, by omega⟩)

theorem k_arr (hK : IsReal2 (m ((c : Thread nD τ).loc main_arg1)) K) (t : Fin cfg0.N) : IsArr (iblk m c 1 t) (hd (t.val / 8) K) := fun a d => by
  have := head_lt t
  exact (k_at m c t a d (by omega)).trans (hK a ⟨_, by omega⟩)

theorem v_arr (hV : IsReal (m ((c : Thread nD τ).loc main_arg2)) Vv) (t : Fin cfg0.N) : IsArr (iblk m c 2 t) (vOne (t.val / 8) Vv) := fun a d => by
  have := head_lt t
  refine (v_at m c t a d (by omega)).trans ((v3_apply m c a ⟨t.val / 8, head_lt t⟩ d).trans ?_)
  unfold vOne
  by_cases h : d.val < 128
  · rw [dif_pos h, if_pos h]; exact hV a ⟨_, by omega⟩
  · rw [dif_neg h, if_neg h, EReal.coe_one]

/-- The two cases of the body leave the same functions of the point. -/
theorem outsAt_eq (t : Fin cfg0.N) : outsAt0 m c t.val t.isLt
    = (outO (pointSt (t.val % 8) (iblk m c 0 t) (iblk m c 1 t) (iblk m c 2 t)), outL (pointSt (t.val % 8) (iblk m c 0 t) (iblk m c 1 t) (iblk m c 2 t))) := by
  have hi : (grid0.coords t 1).val = t.val % 8 := (idx t).2.2.2.2.2
  by_cases h : t.val % 2 = 1
  · rw [outsAt0_B m c t h, (out_odd _ _ _ _ _ _ _ _ _ _ _ _ _ _ _ _ _ _ _ _ (by omega)).1, (out_odd _ _ _ _ _ _ _ _ _ _ _ _ _ _ _ _ _ _ _ _ (by omega)).2, hi]
  · rw [outsAt0_A m c t h, (out_even _ _ _ _ _ _ _ _ _ _ _ _ _ _ _ _ _ _ _ _ (by omega)).1, (out_even _ _ _ _ _ _ _ _ _ _ _ _ _ _ _ _ _ _ _ _ (by omega)).2, hi]

theorem emb3 (t : Fin cfg0.N) (y : S512x128.Idx) : (((cfg0.win 3).blk t).view.emb y 0 : ℕ) = 512 * (t.val % 8) + (y 0).val
    ∧ (((cfg0.win 3).blk t).view.emb y 1 : ℕ) = 128 * (t.val / 8) + (y 1).val := by
  constructor
  · blk_simp [idx t]; simp; ring
  · blk_simp [idx t]; simp; ring

theorem emb4 (t : Fin cfg0.N) (y : S512x128.Idx) : (((cfg0.win 4).blk t).view.emb y 0 : ℕ) = 512 * (t.val % 8) + (y 0).val
    ∧ (((cfg0.win 4).blk t).view.emb y 1 : ℕ) = 128 * (t.val / 8) + (y 1).val := by
  constructor
  · blk_simp [idx t]; simp; ring
  · blk_simp [idx t]; simp; ring

section
variable (hQ : IsReal2 (m ((c : Thread nD τ).loc main_arg0)) Q) (hK : IsReal2 (m ((c : Thread nD τ).loc main_arg1)) K)
  (hV : IsReal (m ((c : Thread nD τ).loc main_arg2)) Vv)
include hQ hK hV

theorem point (t : Fin cfg0.N) (y : S512x128.Idx) :
    outO (pointSt (F := Ideal) (t.val % 8) (iblk m c 0 t) (iblk m c 1 t) (iblk m c 2 t)) y
      = ((Num (hd (t.val / 8) Q) (hd (t.val / 8) K) (vOne (t.val / 8) Vv) (512 * (t.val % 8) + (y 0).val) (y 1).val / Den (hd (t.val / 8) Q) (hd (t.val / 8) K) (512 * (t.val % 8) + (y 0).val) : ℝ) : EReal)
    ∧ outL (pointSt (F := Ideal) (t.val % 8) (iblk m c 0 t) (iblk m c 1 t) (iblk m c 2 t)) y
      = ((Real.log (Den (hd (t.val / 8) Q) (hd (t.val / 8) K) (512 * (t.val % 8) + (y 0).val)) : ℝ) : EReal) :=
  point_out (n := t.val % 8) (by omega) (q_blk m c hQ t) (k_arr m c hK t) (v_arr m c hV t)
  (fun b e h => by unfold vOne; rw [if_neg (by omega)]) y

/-- The results after the launch. -/
theorem final3 : (dats m 0 c).arrAt 3 (cfgs 0).N = resO Q K Vv := by
  refine (dats m 0 c).arrAt_eq_of_covers 3 _ (by decide +kernel) fun t _ y => ?_
  have e := resO_of (Q := Q) (K := K) (V := Vv) _ _ _ _ (emb3 t y).1 (emb3 t y).2 (y 1).isLt
  have p := (point m c hQ hK hV t y).1
  blk_simp
  rw [after0_3, outsAt_eq]
  exact p.trans e.symm

theorem final4 : (dats m 0 c).arrAt 4 (cfgs 0).N = resL Q K := by
  refine (dats m 0 c).arrAt_eq_of_covers 4 _ (by decide +kernel) fun t _ y => ?_
  have e := resL_of (Q := Q) (K := K) _ _ _ _ (emb4 t y).1 (emb4 t y).2 (y 1).isLt
  have p := (point m c hQ hK hV t y).2
  blk_simp
  rw [after0_4, outsAt_eq]
  exact p.trans e.symm
end
end

/-- The run: the results, and the arguments unchanged. -/
theorem run_values (ρ : Dev nD → PrngReg) (Q K Vv : Dev nD → ℕ → ℕ → ℝ)
    (hQ : ∀ c : Dev nD, IsReal2 (m ((c.tc : Thread nD τ).loc main_arg0)) (Q c)) (hK : ∀ c : Dev nD, IsReal2 (m ((c.tc : Thread nD τ).loc main_arg1)) (K c))
    (hV : ∀ c : Dev nD, IsReal (m ((c.tc : Thread nD τ).loc main_arg2)) (Vv c)) :
    θ_run defs (onTc (τ := τ) (main (F := Ideal))) ⟨m, fun _ => 0, ρ⟩ (fun r => ∀ c : Dev nD,
      r.2.mem ((c.tc : Thread nD τ).loc main_v4_0) = resO (Q c) (K c) (Vv c)
      ∧ r.2.mem ((c.tc : Thread nD τ).loc main_v4_1) = resL (Q c) (K c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 3).trans (final3 m c (hQ c) (hK c) (hV c)), ((h.1 c).1 4).trans (final4 m c (hQ c) (hK c) (hV c)), h.2 c⟩)
    (θ_run_and (run_main m ρ) (unchanged m ρ))

end Cert.Mla

end
-- ==== Proof.MlaRef.lean ====
/- The attention's reference over the extended reals: the masked scores, their row maximum, the exponentials of the scores
   less that maximum, and the two results made of them. -/
module

public import proofs.«01_k».proof.Proof.MlaValue
public import proofs.«01_k».proof.Proof.Gen.ReferenceMlaIdeal.Run

@[expose] public section

set_option maxRecDepth 16384

noncomputable section

namespace Cert.MlaRef

open Idealize.ShloMosaic Idealize.ShloMosaic.TcCoe Idealize.ShloMosaic.Tactic
open Cert.ReferenceMlaIdeal Cert.ReferenceMlaIdeal.Gen
open Cert.RetBwd (hd dot sum_fin' IsReal chunkW)
open Cert.Mla (S S_ne_top S_self exp_S E Num Den Den_pos IsReal2 vOne resO resL resO_of resL_of fold_max_real negInf)
open Finset (range)

/-! ## The reference's terms -/

/-- Every row's chunk. -/
def chunks : IVec S4096 32 :=
  select (andi (cmpi .ne (signi (iotaInDim S4096 32 0)) (broadcastInDim S4096 ![] bcast_S_S4096 (signi (id (constantI S_ 32 64#32)))))
      (cmpi .ne (Host.remsi (iotaInDim S4096 32 0) (broadcastInDim S4096 ![] bcast_S_S4096 (id (constantI S_ 32 64#32)))) (broadcastInDim S4096 ![] bcast_S_S4096 (constantI S_ 32 0#32))))
    (subi (Host.divsi (iotaInDim S4096 32 0) (broadcastInDim S4096 ![] bcast_S_S4096 (id (constantI S_ 32 64#32)))) (broadcastInDim S4096 ![] bcast_S_S4096 (constantI S_ 32 1#32)))
    (Host.divsi (iotaInDim S4096 32 0) (broadcastInDim S4096 ![] bcast_S_S4096 (id (constantI S_ 32 64#32))))

/-- The masked scores. -/
def masked (q k : FVec Ideal S4096x2048 .bf16) : FVec Ideal S8x4096x4096 .f32 :=
  select (broadcastInDim S8x4096x4096 ![0, 1, 2] bcast_S1x4096x4096_S8x4096x4096_0_1_2 (broadcastInDim S1x4096x4096 ![1, 2] bcast_S4096x4096_S1x4096x4096_1_2
      (cmpi .sge (broadcastInDim S4096x4096 ![0, 1] bcast_S4096x1_S4096x4096_0_1 (broadcastInDim S4096x1 ![0] bcast_S4096_S4096x1_0 chunks))
        (broadcastInDim S4096x4096 ![0, 1] bcast_S1x4096_S4096x4096_0_1 (broadcastInDim S1x4096 ![1] bcast_S4096_S1x4096_1 chunks)))))
    (Host.dotGeneral dot_S4096x8x256_S4096x8x256_S8x4096x4096_2_2_0_0_1_1 none
      (shapeCast _ (extf .f32 q bitsLt_bf16_f32) shapeCasts_S4096x2048_S4096x8x256) (shapeCast _ (extf .f32 k bitsLt_bf16_f32) shapeCasts_S4096x2048_S4096x8x256))
    (broadcastInDim S8x4096x4096 ![] bcast_S_S8x4096x4096 (id (constant S_ .f32 0xFF800000#32)))

def rowMax (s : FVec Ideal S8x4096x4096 .f32) : FVec Ideal S8x4096 .f32 :=
  Host.reduce FloatOps.maximumf s (constant S_ .f32 0xFF800000#32) reducesTo_S8x4096x4096_S8x4096_d2 h_S_

def rowSum (s : FVec Ideal S8x4096x4096 .f32) : FVec Ideal S8x4096 .f32 :=
  Host.reduceAdd s (constant S_ .f32 0x00000000#32) reducesTo_S8x4096x4096_S8x4096_d2 h_S_

/-- A number for every row, along the row. -/
def along (t : FVec Ideal S8x4096 .f32) : FVec Ideal S8x4096x4096 .f32 :=
  broadcastInDim S8x4096x4096 ![0, 1, 2] bcast_S8x4096x1_S8x4096x4096_0_1_2 (broadcastInDim S8x4096x1 ![0, 1] bcast_S8x4096_S8x4096x1_0_1 t)

/-- The exponentials of the scores less a number for every row. -/
def expLess (s : FVec Ideal S8x4096x4096 .f32) (t : FVec Ideal S8x4096 .f32) : FVec Ideal S8x4096x4096 .f32 := Host.exp (subf s (along t))

/-- The weighted means of the values. -/
def mean (v : FVec Ideal S4096x1024 .bf16) (e : FVec Ideal S8x4096x4096 .f32) : FVec Ideal S4096x1024 .f32 :=
  shapeCast _ (transpose S4096x8x128 [2, 0, 1] (Host.dotGeneral dot_S4096x8x128_S8x4096x4096_S8x128x4096_0_2_2_1_1_0 none
    (shapeCast _ (extf .f32 v bitsLt_bf16_f32) shapeCasts_S4096x1024_S4096x8x128) (Host.divf e (along (rowSum e))))
    transposes_S8x128x4096_S4096x8x128_2_0_1) shapeCasts_S4096x8x128_S4096x1024

/-- The maximum and the logarithm of the sum, along each head's columns. -/
def logs (t : FVec Ideal S8x4096 .f32) (e : FVec Ideal S8x4096x4096 .f32) : FVec Ideal S4096x1024 .f32 :=
  shapeCast _ (broadcastInDim S4096x8x128 ![0, 1] bcast_S4096x8_S4096x8x128_0_1
    (transpose S4096x8 [1, 0] (addf t (Host.log (rowSum e))) transposes_S8x4096_S4096x8_1_0)) shapeCasts_S4096x8x128_S4096x1024

section
variable (m : (ℓ : Loc nD τ sig) → Buf (Elt Ideal) ℓ) (c : Dev nD)

theorem res0_eq : Value.res_main_v37 m c = mean (m ((c.tc : Thread nD τ).loc main_arg2))
    (expLess (masked (m ((c.tc : Thread nD τ).loc main_arg0)) (m ((c.tc : Thread nD τ).loc main_arg1)))
      (maximumf (broadcastInDim S8x4096 ![] bcast_S_S8x4096 (constant S_ .f32 0xFF800000#32))
        (rowMax (masked (m ((c.tc : Thread nD τ).loc main_arg0)) (m ((c.tc : Thread nD τ).loc main_arg1)))))) := rfl

theorem res1_eq : Value.res_main_v40 m c = logs (rowMax (masked (m ((c.tc : Thread nD τ).loc main_arg0)) (m ((c.tc : Thread nD τ).loc main_arg1))))
    (expLess (masked (m ((c.tc : Thread nD τ).loc main_arg0)) (m ((c.tc : Thread nD τ).loc main_arg1)))
      (rowMax (masked (m ((c.tc : Thread nD τ).loc main_arg0)) (m ((c.tc : Thread nD τ).loc main_arg1))))) := rfl
end

/-! ## Their entries -/

theorem chunk_word : ∀ a : Fin 4096, chunkW (BitVec.ofNat 32 a.val) = BitVec.ofNat 32 (a.val / 64) := by
  decide +kernel

theorem chunk_le : ∀ x y : Fin 64, IntOp.cmpi CmpIPredicate.sge (BitVec.ofNat 32 x.val) (BitVec.ofNat 32 y.val)
    = if y.val ≤ x.val then 1#1 else 0#1 := by decide +kernel

theorem chunks_apply (a : Fin 4096) : chunks (ix1 a) = BitVec.ofNat 32 (a.val / 64) := by
  rw [← chunk_word a]
  rfl

theorem masked_apply (q k : FVec Ideal S4096x2048 .bf16) (h : Fin 8) (p b : Fin 4096) : masked q k (ix3 h p b)
    = (if b.val / 64 ≤ p.val / 64 then ∑ d : Fin 256, (q (ix2 p ⟨256 * h.val + d.val, by omega⟩) : EReal) * k (ix2 b ⟨256 * h.val + d.val, by omega⟩) else ⊥) := by
  pointwise [masked]
  rw [chunks_apply, chunks_apply, chunk_le ⟨p.val / 64, by omega⟩ ⟨b.val / 64, by omega⟩]
  simp only [Nat.mul_comm h.val 256]
  by_cases hc : b.val / 64 ≤ p.val / 64
  · simp only [if_pos hc]; rfl
  · simp only [if_neg hc]; exact negInf

theorem rowMax_apply (s : FVec Ideal S8x4096x4096 .f32) (h : Fin 8) (p : Fin 4096) :
    rowMax s (ix2 h p) = (Finset.univ : Finset (Fin 4096)).fold max ⊥ fun b => (s (ix3 h p b) : EReal) := by
  pointwise [rowMax]
  rw [negInf]

/-- Taking the maximum with −∞ changes nothing. -/
theorem floor_apply (t : FVec Ideal S8x4096 .f32) (i : S8x4096.Idx) :
    maximumf (broadcastInDim S8x4096 ![] bcast_S_S8x4096 (constant S_ .f32 0xFF800000#32)) t i = t i := by
  have e : maximumf (broadcastInDim S8x4096 ![] bcast_S_S8x4096 (constant S_ .f32 0xFF800000#32)) t i
      = max (Ideal.ofBits .f32 0xFF800000#32) (t i : EReal) := rfl
  rw [e, negInf]
  exact max_eq_right bot_le

theorem rowSum_apply (s : FVec Ideal S8x4096x4096 .f32) (h : Fin 8) (p : Fin 4096) :
    rowSum s (ix2 h p) = ∑ b : Fin 4096, (s (ix3 h p b) : EReal) := by
  pointwise [rowSum]

theorem expLess_apply (s : FVec Ideal S8x4096x4096 .f32) (t : FVec Ideal S8x4096 .f32) (h : Fin 8) (p b : Fin 4096) :
    expLess s t (ix3 h p b) = Ideal.exp ((s (ix3 h p b) : EReal) - t (ix2 h p)) := by
  pointwise [expLess, along]

theorem mean_apply (v : FVec Ideal S4096x1024 .bf16) (e : FVec Ideal S8x4096x4096 .f32) (n : Fin 4096) (h : Fin 8) (j : Fin 128) :
    mean v e (ix2 n ⟨128 * h.val + j.val, by omega⟩)
      = ∑ b : Fin 4096, (v (ix2 b ⟨128 * h.val + j.val, by omega⟩) : EReal) * Ideal.div (e (ix3 h n b)) (rowSum e (ix2 h n)) := by
  pointwise [mean, along]
  simp only [Nat.mul_comm h.val 128]

theorem logs_apply (t : FVec Ideal S8x4096 .f32) (e : FVec Ideal S8x4096x4096 .f32) (n : Fin 4096) (h : Fin 8) (j : Fin 128) :
    logs t e (ix2 n ⟨128 * h.val + j.val, by omega⟩) = (t (ix2 h n) : EReal) + Ideal.log (rowSum e (ix2 h n)) := by
  pointwise [logs]

/-! ## The results on real arguments -/

section
variable {q k : FVec Ideal S4096x2048 .bf16} {v : FVec Ideal S4096x1024 .bf16} {Q K V : ℕ → ℕ → ℝ}

theorem masked_real (hQ : IsReal2 q Q) (hK : IsReal2 k K) (h : Fin 8) (p b : Fin 4096) :
    (masked q k (ix3 h p b) : EReal) = S (hd h.val Q) (hd h.val K) p.val b.val := by
  rw [masked_apply]
  unfold S
  rw [sum_fin' 256 _ (fun d => hd h.val Q p.val d * hd h.val K b.val d) fun d => by
    rw [EReal.coe_mul]; exact congrArg₂ _ (hQ p ⟨256 * h.val + d.val, by omega⟩) (hK b ⟨256 * h.val + d.val, by omega⟩)]
  rfl

/-- The row maxima are real numbers: every query sees its own key. -/
theorem rowMax_real (hQ : IsReal2 q Q) (hK : IsReal2 k K) (h : Fin 8) (p : Fin 4096) :
    ∃ M : ℝ, (rowMax (masked q k) (ix2 h p) : EReal) = (M : EReal) := by
  rw [rowMax_apply]
  refine fold_max_real _ (fun b => ?_) p ?_
  · rw [masked_real hQ hK]; exact S_ne_top _ _ _ _
  · rw [masked_real hQ hK]; exact S_self _ _ _

/-- The exponentials less a real number, and their sum. -/
theorem expLess_real (hQ : IsReal2 q Q) (hK : IsReal2 k K) (t : FVec Ideal S8x4096 .f32) (h : Fin 8) (p b : Fin 4096) (M : ℝ)
    (ht : (t (ix2 h p) : EReal) = (M : EReal)) :
    (expLess (masked q k) t (ix3 h p b) : EReal) = ((Real.exp (-M) * E (hd h.val Q) (hd h.val K) p.val b.val : ℝ) : EReal) := by
  rw [expLess_apply, ht, masked_real hQ hK, exp_S]

theorem rowSum_real (hQ : IsReal2 q Q) (hK : IsReal2 k K) (t : FVec Ideal S8x4096 .f32) (h : Fin 8) (p : Fin 4096) (M : ℝ)
    (ht : (t (ix2 h p) : EReal) = (M : EReal)) :
    (rowSum (expLess (masked q k) t) (ix2 h p) : EReal) = ((Real.exp (-M) * Den (hd h.val Q) (hd h.val K) p.val : ℝ) : EReal) := by
  rw [rowSum_apply, sum_fin' 4096 _ (fun b => Real.exp (-M) * E (hd h.val Q) (hd h.val K) p.val b) fun b => expLess_real hQ hK t h p b M ht]
  unfold Den
  rw [Finset.mul_sum]

theorem mean_real (hQ : IsReal2 q Q) (hK : IsReal2 k K) (hV : IsReal v V) (t : FVec Ideal S8x4096 .f32) (n : Fin 4096) (h : Fin 8) (j : Fin 128) (M : ℝ)
    (ht : (t (ix2 h n) : EReal) = (M : EReal)) : (mean v (expLess (masked q k) t) (ix2 n ⟨128 * h.val + j.val, by omega⟩) : EReal)
      = ((Num (hd h.val Q) (hd h.val K) (vOne h.val V) n.val j.val / Den (hd h.val Q) (hd h.val K) n.val : ℝ) : EReal) := by
  have hD := Den_pos (hd h.val Q) (hd h.val K) n.val n.isLt
  have hE := Real.exp_pos (-M)
  rw [mean_apply, rowSum_real hQ hK t h n M ht]
  rw [sum_fin' 4096 _ (fun b => E (hd h.val Q) (hd h.val K) n.val b * vOne h.val V b j.val / Den (hd h.val Q) (hd h.val K) n.val) fun b => ?_]
  · unfold Num
    rw [Finset.sum_div]
  · rw [expLess_real hQ hK t h n b M ht, Ideal.div_coe (mul_pos hE hD).ne', hV b ⟨128 * h.val + j.val, by omega⟩, ← EReal.coe_mul, ← EReal.coe_mul]
    unfold vOne
    rw [if_pos j.isLt]
    congr 1
    field_simp

theorem logs_real (hQ : IsReal2 q Q) (hK : IsReal2 k K) (t : FVec Ideal S8x4096 .f32) (n : Fin 4096) (h : Fin 8) (j : Fin 128) (M : ℝ)
    (ht : (t (ix2 h n) : EReal) = (M : EReal)) : (logs t (expLess (masked q k) t) (ix2 n ⟨128 * h.val + j.val, by omega⟩) : EReal)
      = ((Real.log (Den (hd h.val Q) (hd h.val K) n.val) : ℝ) : EReal) := by
  have hD := Den_pos (hd h.val Q) (hd h.val K) n.val n.isLt
  have hE := Real.exp_pos (-M)
  rw [logs_apply, rowSum_real hQ hK t h n M ht, ht, Ideal.log_coe, if_neg (not_le.mpr (mul_pos hE hD)), ← EReal.coe_add,
    Real.log_mul hE.ne' hD.ne', Real.log_exp]
  congr 1
  ring

theorem split_col (y : S4096x1024.Idx) : ∃ (n : Fin 4096) (h : Fin 8) (j : Fin 128), y = ix2 n ⟨128 * h.val + j.val, by omega⟩ := by
  have h1 : (y 1).val < 1024 := (y 1).isLt
  refine ⟨y 0, ⟨(y 1).val / 128, by omega⟩, ⟨(y 1).val % 128, by omega⟩, (eq_ix2 y).trans (congrArg _ (Fin.ext ?_))⟩
  show (y 1).val = 128 * ((y 1).val / 128) + (y 1).val % 128
  omega

theorem ref_o (hQ : IsReal2 q Q) (hK : IsReal2 k K) (hV : IsReal v V) : mean v (expLess (masked q k)
    (maximumf (broadcastInDim S8x4096 ![] bcast_S_S8x4096 (constant S_ .f32 0xFF800000#32)) (rowMax (masked q k)))) = resO Q K V := by
  funext y
  obtain ⟨n, h, j, rfl⟩ := split_col y
  obtain ⟨M, hM⟩ := rowMax_real hQ hK h n
  have hf := (floor_apply (rowMax (masked q k)) (ix2 h n)).trans hM
  exact (mean_real hQ hK hV _ n h j M hf).trans (resO_of _ h.val n.val j.val rfl rfl j.isLt).symm

theorem ref_l (hQ : IsReal2 q Q) (hK : IsReal2 k K) : logs (rowMax (masked q k)) (expLess (masked q k) (rowMax (masked q k))) = resL Q K := by
  funext y
  obtain ⟨n, h, j, rfl⟩ := split_col y
  obtain ⟨M, hM⟩ := rowMax_real hQ hK h n
  exact (logs_real hQ hK _ n h j M hM).trans (resL_of _ h.val n.val j.val rfl rfl j.isLt).symm
end

end Cert.MlaRef

end
-- ==== Proof.Mla.lean ====
/- The attention's forward call: on finite arguments its two results are the reference's. -/
module

public import proofs.«01_k».proof.Proof.MlaValue
public import proofs.«01_k».proof.Proof.MlaRef
public import proofs.«01_k».proof.Proof.Finite
public import proofs.«01_k».proof.Proof.Gen.Pre_finite_mla
public import proofs.«01_k».proof.Proof.Gen.KernelMla.Frame
public import proofs.«01_k».proof.Defs

@[expose] public section

set_option maxRecDepth 16384

noncomputable section

namespace Cert.Mla

open Idealize.ShloMosaic Idealize.ShloMosaic.TcCoe
open Cert.KernelMlaIdeal (S4096x1024 S4096x2048)
open Cert.RetBwd (IsReal realOf isReal_of entry_lt and_one lt_inf_real)

/-- The real matrix an array of 2048 columns holds. -/
def realOf2 (x : FVec Ideal S4096x2048 .bf16) (n j : ℕ) : ℝ :=
  if h : n < 4096 ∧ j < 2048 then (x (ix2 ⟨n, h.1⟩ ⟨j, h.2⟩) : EReal).toReal else 0

theorem isReal2_of (x : FVec Ideal S4096x2048 .bf16) (h : ∀ i : S4096x2048.Idx, max (x i : EReal) (-(x i : EReal)) < ⊤) : IsReal2 x (realOf2 x) := fun n j => by
  unfold realOf2
  rw [dif_pos ⟨n.isLt, j.isLt⟩]
  exact lt_inf_real _ (h _)

theorem entry_lt2 (x : FVec Ideal S4096x2048 .bf16) (i : S4096x2048.Idx)
    (h : cmpf .olt (Host.absf (extf .f32 x Cert.Pre_finite_mla.Facts.bitsLt_bf16_f32))
      (broadcastInDim Cert.Pre_finite_mla.S4096x2048 ![] Cert.Pre_finite_mla.Facts.bcast_S_S4096x2048 (constant (F := Ideal) Cert.Pre_finite_mla.S_ .f32 0x7F800000#32)) i = 1#1) :
    max (x i : EReal) (-(x i : EReal)) < ⊤ := by
  have e : cmpf .olt (Host.absf (extf .f32 x Cert.Pre_finite_mla.Facts.bitsLt_bf16_f32))
      (broadcastInDim Cert.Pre_finite_mla.S4096x2048 ![] Cert.Pre_finite_mla.Facts.bcast_S_S4096x2048 (constant (F := Ideal) Cert.Pre_finite_mla.S_ .f32 0x7F800000#32)) i
      = BitVec.ofBool (decide (max (x i : EReal) (-(x i : EReal)) < Ideal.ofBits .f32 0x7F800000#32)) := rfl
  rw [e, show Ideal.ofBits .f32 0x7F800000#32 = (⊤ : EReal) by simp [Ideal.ofBits, Ideal.ieee]] at h
  by_contra hn
  rw [decide_eq_false hn] at h
  exact absurd h (by decide)

/-- What the precondition `finite_mla` gives: each of the three arrays holds real numbers. -/
theorem finite_real (q k : FVec Ideal S4096x2048 .bf16) (v : FVec Ideal S4096x1024 .bf16) (h : Cert.Pre_finite_mla.fn (F := Ideal) q k v = fun _ => 1#1) :
    IsReal2 q (realOf2 q) ∧ IsReal2 k (realOf2 k) ∧ IsReal v (realOf v) := by
  haveI : Subsingleton Cert.Pre_finite_mla.S_.Idx := ⟨fun a b => funext fun i => i.elim0⟩
  have e := congrFun h (fun i => i.elim0)
  unfold Cert.Pre_finite_mla.fn at e
  obtain ⟨e, e2⟩ := and_one _ _ e
  obtain ⟨e0, e1⟩ := and_one _ _ e
  exact ⟨isReal2_of _ fun i => entry_lt2 _ i (Host.reduce_andi_all _ _ _ _ _ e0 i), isReal2_of _ fun i => entry_lt2 _ i (Host.reduce_andi_all _ _ _ _ _ e1 i),
    isReal_of _ fun i => entry_lt _ i (Host.reduce_andi_all _ _ _ _ _ e2 i)⟩

/-- The mask's number is the one that is named. -/
theorem preserves : Cert.preserves_KernelMla_KernelMlaIdeal := IdealRules.named_const.statement Cert.KernelMlaIdeal.κ "mask" .f32 0xF149F2CA#32 ⊥ rfl

/-- The reference's frame. -/
theorem frame_ref : @Cert.quiescent_ReferenceMlaIdeal Cert.ReferenceMlaIdeal.Gen.facts := fun m ρ _ =>
  (θ_run Cert.ReferenceMlaIdeal.defs _ _).mono (fun r h => ⟨fun c => (h c).2.2, sem_eq_zero_of_no_sems (by decide) r.2⟩) (Cert.ReferenceMlaIdeal.Value.run m ρ)

/-- Over the extended reals, on finite arguments, the kernel's results are the reference's. -/
theorem values : @Cert.algebraic_KernelMlaIdeal_ReferenceMlaIdeal_pre_finite_mla Cert.KernelMlaIdeal.Gen.facts Cert.ReferenceMlaIdeal.Gen.facts Cert.Pre_finite_mla.Gen.facts := by
  intro m g m' g' hpre agree
  have hf := fun c => finite_real _ _ _ (hpre c)
  refine ⟨_, _, run_values m g _ _ _ (fun c => (hf c).1) (fun c => (hf c).2.1) (fun c => (hf c).2.2),
    (θ_run Cert.ReferenceMlaIdeal.defs _ _).mono (fun r h c => ⟨(h c).1.trans ?_, (h c).2.1.trans ?_, (h c).2.2⟩) (Cert.ReferenceMlaIdeal.Value.run m' g')⟩
  · rw [Cert.MlaRef.res0_eq, (agree c).1, (agree c).2.1, (agree c).2.2]
    exact Cert.MlaRef.ref_o (hf c).1 (hf c).2.1 (hf c).2.2
  · rw [Cert.MlaRef.res1_eq, (agree c).1, (agree c).2.1]
    exact Cert.MlaRef.ref_l (hf c).1 (hf c).2.1

end Cert.Mla

end
-- ==== Proof.MlaGradTrip.lean ====
/- The gradient of the attention block by block, over any floats: what one (query block, key block) step adds to the three
   gradients, and one trip of the kernel's pair loop, which takes the key blocks `2k` and `2k + 1` in. -/
module

public import proofs.«01_k».proof.Proof.Body
public import proofs.«01_k».proof.Proof.Gen.KernelMlaBwdIdeal.Loops

@[expose] public section

set_option maxRecDepth 16384

noncomputable section

namespace Cert.MlaBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelMlaBwdIdeal Cert.KernelMlaBwdIdeal.Gen
open Cert.RetBwd (getBlk putBlk upTo pair addT addN readAt_blk readAt_all readAt_sq read_all readCov_sq read_put getBlk_putBlk_ne zero2)

variable {F : FTy → Type} [FloatOps F] [Named F]

local notation "𝕄" => MT nD τ sig Unit (Elt F) ℕ (UR sig nD τ) ℕ

/-! ## Where the blocks lie -/

theorem trips_t1 : ∀ i : grid0.Coords, (k0_t1_loop i).trips = (i 1).val / 2 := by decide +kernel
theorem trips_t2 : ∀ i : grid0.Coords, (k0_t2_loop i).trips = 0 := by decide +kernel

theorem off3_eq : ∀ (i : grid0.Coords) (k : Fin (k0_t1_loop i).trips), k0_off3 i k = ![1024 * k.val, 0] := by decide +kernel
theorem off4_eq : ∀ (i : grid0.Coords) (k : Fin (k0_t1_loop i).trips), k0_off4 i k = ![1024 * k.val, 0] := by decide +kernel
theorem off5_eq : ∀ (i : grid0.Coords) (k : Fin (k0_t1_loop i).trips), k0_off5 i k = ![1024 * k.val + 512, 0] := by decide +kernel
theorem off6_eq : ∀ (i : grid0.Coords) (k : Fin (k0_t1_loop i).trips), k0_off6 i k = ![1024 * k.val + 512, 0] := by decide +kernel

instance (i : grid0.Coords) (k : Fin (k0_t1_loop i).trips) : ClosedOff (k0_off3 i k) := ⟨_, off3_eq i k⟩
instance (i : grid0.Coords) (k : Fin (k0_t1_loop i).trips) : ClosedOff (k0_off4 i k) := ⟨_, off4_eq i k⟩
instance (i : grid0.Coords) (k : Fin (k0_t1_loop i).trips) : ClosedOff (k0_off5 i k) := ⟨_, off5_eq i k⟩
instance (i : grid0.Coords) (k : Fin (k0_t1_loop i).trips) : ClosedOff (k0_off6 i k) := ⟨_, off6_eq i k⟩

theorem even_off (k : ℕ) : (![1024 * k, 0] : Fin 2 → ℕ) = ![512 * (2 * k), 0] := by rw [show 1024 * k = 512 * (2 * k) by omega]
theorem odd_off (k : ℕ) : (![1024 * k + 512, 0] : Fin 2 → ℕ) = ![512 * (2 * k + 1), 0] := by rw [show 1024 * k + 512 = 512 * (2 * k + 1) by omega]

theorem trip_lt (i : grid0.Coords) (k : Fin (k0_t1_loop i).trips) : 2 * k.val + 1 < 8 := by
  have h1 := k.isLt
  have h2 : (i 1).val < 8 := (i 1).isLt
  have h3 := trips_t1 i
  omega

/-! ## Rows of 512 of the 128 columns of a head's values -/

/-- Block `j`. -/
def getV {e : EltTy} (j : ℕ) (d : Vec F S4096x128 e) : Vec F S512x128 e := fun p =>
  d (ix2 (n0 := 4096) (n1 := 128) ⟨(512 * j + (p 0).val) % 4096, Nat.mod_lt _ (by decide)⟩ (p 1))

/-- `d` with block `j` replaced. -/
def putV {e : EltTy} (j : ℕ) (w : Vec F S512x128 e) (d : Vec F S4096x128 e) : Vec F S4096x128 e := fun y =>
  if (y 0).val / 512 = j then w (ix2 (n0 := 512) (n1 := 128) ⟨(y 0).val % 512, Nat.mod_lt _ (by decide)⟩ (y 1)) else d y

theorem getV_putV_ne {e : EltTy} {j j' : ℕ} (hj : j < 8) (hne : j ≠ j') (w : Vec F S512x128 e) (d : Vec F S4096x128 e) :
    getV j (putV j' w d) = getV j d := by
  funext p
  have hp : (p 0).val < 512 := (p 0).isLt
  show (if (512 * j + (p 0).val) % 4096 / 512 = j' then _ else _) = _
  rw [if_neg (by omega)]
  rfl

section
variable {κ : Kind} {sp : Space} {e : EltTy} {j : ℕ} {off : Fin 2 → ℕ}

theorem readAt_v (v : View sig κ sp S4096x128 e) (f : v.ty.Contents (Elt F)) (hj : j < 8)
    (hoff : off = ![512 * j, 0]) (inb : ∀ a : Fin 2, off a + S512x128.size a ≤ S4096x128.size a) :
    v.readAt (Elt F) (Rect.unit (s := S4096x128) off S512x128.size inb).toLoadRect f = getV j (v.read (Elt F) f) := by
  subst hoff
  funext x
  have hx : (x 0).val < 512 := (x 0).isLt
  refine View.ld_unit_apply_of (S := S4096x128) (v.read (Elt F) f) _ _ inb x _ fun a => ?_
  match a with
  | ⟨0, _⟩ => exact Nat.mod_eq_of_lt (by omega)
  | ⟨1, _⟩ => exact (Nat.zero_add _).symm

theorem read_putV (v : View sig κ sp S4096x128 e) (f : v.ty.Contents (Elt F)) (hoff : off = ![512 * j, 0])
    (inb : ∀ a : Fin 2, off a + S512x128.size a ≤ S4096x128.size a) (w : Vec F S512x128 e) (L : List (View.Piece (Elt F) S4096x128 e)) :
    v.read (Elt F) (v.writes (Elt F) f ((⟨Rect.unit (s := S4096x128) off S512x128.size inb, w⟩ : View.Piece (Elt F) S4096x128 e) :: L))
      = putV j w (v.read (Elt F) (v.writes (Elt F) f L)) := by
  funext y
  by_cases h : (y 0).val / 512 = j
  · rw [show putV j w (v.read (Elt F) (v.writes (Elt F) f L)) y = _ from if_pos h]
    refine View.read_writes_cons_rows_of_mem v f inb w L y _ hoff ?_ rfl
    show (y 0).val = 512 * j + (y 0).val % 512
    omega
  · rw [show putV j w (v.read (Elt F) (v.writes (Elt F) f L)) y = v.read (Elt F) (v.writes (Elt F) f L) y from if_neg h]
    exact View.read_writes_cons_rows_of_not_mem (W := 512) v f inb w L y hoff rfl (by omega)

theorem readCov_v (v : View sig κ sp S4096x128 e) (hj : j < 8) (hoff : off = ![512 * j, 0])
    (inb : ∀ a : Fin 2, off a + S512x128.size a ≤ S4096x128.size a) (inb') (w : Vec F S4096x128 e) (L : List (View.Piece (Elt F) S4096x128 e)) :
    v.readCov ((⟨Rect.unit (s := S4096x128) ![0, 0] (no_index S4096x128.size) inb', w⟩ : View.Piece (Elt F) S4096x128 e) :: L)
      (Rect.unit (s := S4096x128) off (no_index S512x128.size) inb).toLoadRect = getV j w :=
  (readAt_v v _ hj hoff inb).trans (congrArg (getV j) (read_all v _ zero2 inb' w L))

theorem readAt_d (v : View sig κ sp S512x128 e) (f : v.ty.Contents (Elt F)) (inb) :
    v.readAt (Elt F) (Rect.unit (s := S512x128) ![0, 0] (no_index S512x128.size) inb).toLoadRect f = v.read (Elt F) f :=
  readAt_all v f zero2 inb
end

/-! ## One step -/

/-- What a query block brings: its queries, its cotangent, the product of cotangent and output row by row, and the
    logarithm of each row's weights, in every lane. -/
structure Row (F : FTy → Type) where
  q : FVec F S512x256 .bf16
  g : FVec F S512x128 .bf16
  dl : FVec F S512x1 .f32
  L : FVec F S512x512 .f32

/-- The row data from the blocks the kernel reads. -/
def row (q : Vec F S512x256 .bf16) (do_ o l : Vec F S512x128 .f32) : Row F := ⟨q, k0_pay36 do_, k0_pay37 do_ o, k0_pay38 l⟩

/-- The scores of a query block against a key block, and the diagonal block's, masked. -/
def scores (q k : FVec F S512x256 .bf16) : FVec F S512x512 .f32 :=
  matmul dot_S512x256_S512x256_S512x512_1_1_0_0_n_n none q k (constant S512x512 .f32 0x00000000#32)
def masked (s : FVec F S512x512 .f32) : FVec F S512x512 .f32 :=
  select k0_pay42 s (broadcast S512x512 (Named.named κ "mask" 0xF149F2CA#32 : F .f32))

/-- The probabilities of scores `s`. -/
def prob (r : Row F) (s : FVec F S512x512 .f32) : FVec F S512x512 .f32 := exp (subf s r.L)

/-- The scores' cotangent, rounded. -/
def dS (r : Row F) (s : FVec F S512x512 .f32) (v : Vec F S512x128 .bf16) : FVec F S512x512 .bf16 :=
  truncf .bf16 (mulf (prob r s) (subf (matmul dot_S512x128_S512x128_S512x512_1_1_0_0_n_n none r.g
    (shapeCast S512x128 v shapeCasts_S512x128_S512x128) (constant S512x512 .f32 0x00000000#32))
    (broadcastTo S512x512 r.dl broadcasts_S512x1_S512x512))) bitsLt_bf16_f32

/-- `old + pᵀ g`: what a block of the values' gradient becomes. -/
def addV (p : FVec F S512x512 .f32) (g : FVec F S512x128 .bf16) (old : Vec F S512x128 .f32) : FVec F S512x128 .f32 :=
  addf (shapeCast S512x128 old shapeCasts_S512x128_S512x128)
    (matmul dot_S512x512_S512x128_S512x128_0_0_1_1_n_n none (truncf .bf16 p bitsLt_bf16_f32) g (constant S512x128 .f32 0x00000000#32))

variable (r : Row F) (k : Vec F S4096x256 .bf16) (v : Vec F S4096x128 .bf16)

/-- What key block `j` adds to the gradients of the values, the keys and the queries. -/
def stepDV (j : ℕ) (d : Vec F S4096x128 .f32) : Vec F S4096x128 .f32 :=
  putV j (addV (prob r (scores r.q (getBlk j k))) r.g (getV j d)) d
def stepDK (j : ℕ) (d : Vec F S4096x256 .f32) : Vec F S4096x256 .f32 :=
  putBlk j (addT (dS r (scores r.q (getBlk j k)) (getV j v)) r.q (getBlk j d)) d
def stepDQ (j : ℕ) (d : Vec F S512x256 .f32) : Vec F S512x256 .f32 :=
  addN (dS r (scores r.q (getBlk j k)) (getV j v)) (getBlk j k) d

section Payloads
variable (q x : Vec F S512x256 .bf16) (g : FVec F S512x128 .bf16) (dl : FVec F S512x1 .f32) (L : FVec F S512x512 .f32)
  (y : Vec F S512x128 .bf16) (old : Vec F S512x256 .f32) (oldV : Vec F S512x128 .f32)

theorem pay11_eq : k0_pay11 q g dl L x y = dS ⟨q, g, dl, L⟩ (scores q x) y := rfl
theorem pay12_eq : k0_pay12 q g L x oldV = addV (prob ⟨q, g, dl, L⟩ (scores q x)) g oldV := rfl
theorem pay14_eq (w : FVec F S512x512 .bf16) : k0_pay14 q w (k0_pay13 old) (constant S512x256 .f32 0x00000000#32) = addT w q old := rfl
theorem pay15_eq (w : FVec F S512x512 .bf16) : k0_pay15 x w old = addN w x old := rfl
theorem pay18_eq : k0_pay18 g L (k0_pay8 q x) oldV = addV (prob ⟨q, g, dl, L⟩ (scores q x)) g oldV := rfl
theorem pay19_eq : k0_pay19 q dl L (k0_pay8 q x) (k0_pay9 g y) old = addT (dS ⟨q, g, dl, L⟩ (scores q x) y) q old := rfl
theorem pay20_eq : k0_pay1 (k0_pay20 dl L x (k0_pay8 q x) (k0_pay9 g y) old) = addN (dS ⟨q, g, dl, L⟩ (scores q x) y) x old := rfl
end Payloads

section
variable (c : Dev nD) (𝒱 : Variants) (bd : Option 𝒱.V) (E : Set ℕ) (i : grid0.Coords) (arg2 : Memref sig .tc .vmem S512x256 .bf16) (harg2 : arg2.IsWhole) (arg3 : Memref sig .tc .vmem S4096x256 .bf16) (harg3 : arg3.IsWhole) (arg4 : Memref sig .tc .vmem S4096x128 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x256 .f32) (harg8 : arg8.IsWhole) (arg9 : Memref sig .tc .vmem S4096x256 .f32) (harg9 : arg9.IsWhole) (arg10 : Memref sig .tc .vmem S4096x128 .f32) (harg10 : arg10.IsWhole) (arg11 : Memref sig .tc .vmem S512x256 .f32) (harg11 : arg11.IsWhole)
  (q : Vec F S512x256 .bf16) (g : FVec F S512x128 .bf16) (dl : FVec F S512x1 .f32) (L : FVec F S512x512 .f32)
  (X3 : BufTy.Contents (Elt F) arg3.view.ty) (X4 : BufTy.Contents (Elt F) arg4.view.ty)

/-- The key and value blocks, and the three accumulators after the change `u` of each. -/
def held (x9 : Vec F S4096x256 .f32) (x10 : Vec F S4096x128 .f32) (x11 : Vec F S512x256 .f32) : sProp 𝕄 :=
  iprop((arg3.view.loc (c : Thread nD τ) ↦[arg3.view.set]{fullShare} X3) ∗ (arg4.view.loc (c : Thread nD τ) ↦[arg4.view.set]{fullShare} X4)
    ∗ (∃ f, (arg9.view.loc (c : Thread nD τ) ↦[arg9.view.set]{fullShare} f) ∗ ⌜arg9.view.read (Elt F) f = x9⌝)
    ∗ (∃ f, (arg10.view.loc (c : Thread nD τ) ↦[arg10.view.set]{fullShare} f) ∗ ⌜arg10.view.read (Elt F) f = x10⌝)
    ∗ (∃ f, (arg11.view.loc (c : Thread nD τ) ↦[arg11.view.set]{fullShare} f) ∗ ⌜arg11.view.read (Elt F) f = x11⌝))

set_option maxHeartbeats 1000000 in
/-- One trip. -/
theorem trip (x9 : Vec F S4096x256 .f32) (x10 : Vec F S4096x128 .f32) (x11 : Vec F S512x256 .f32) (n : Fin (k0_t1_loop i).trips) :
  held c arg3 arg4 arg9 arg10 arg11 X3 X4 x9 x10 x11
   ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 q g dl L n PUnit.unit)
    (fun _ => held c arg3 arg4 arg9 arg10 arg11 X3 X4
      (pair (stepDK ⟨q, g, dl, L⟩ (arg3.view.read (Elt F) X3) (arg4.view.read (Elt F) X4)) n x9)
      (pair (stepDV ⟨q, g, dl, L⟩ (arg3.view.read (Elt F) X3)) n x10)
      (pair (stepDQ ⟨q, g, dl, L⟩ (arg3.view.read (Elt F) X3) (arg4.view.read (Elt F) X4)) n x11)) := by
  have h2 : 2 * n.val < 8 := by have := trip_lt i n; omega
  have hne : 2 * n.val + 1 ≠ 2 * n.val := by omega
  have o3 := (off3_eq i n).trans (even_off n)
  have o4 := (off4_eq i n).trans (even_off n)
  have o5 := (off5_eq i n).trans (odd_off n)
  have o6 := (off6_eq i n).trans (odd_off n)
  unfold held k0_t1_body
  iintro ⟨HR3, HR4, ⟨%f9, HW9, %e9⟩, ⟨%f10, HW10, %e10⟩, ⟨%f11, HW11, %e11⟩⟩
  subst e9 e10 e11
  sl_exec
  sl_step
  isplitl [HR3]; · iexact HR3
  isplitl [HR4]; · iexact HR4
  isplitl [HW9]
  · iexists _
    isplitl [HW9]; · iexact HW9
    ipureintro
    sl_unfold_run_names
    rw [read_put arg9.view f9 o5, read_put arg9.view f9 o3]
    simp only [readAt_blk _ _ (trip_lt i n) o5, readAt_blk _ _ h2 o3, readAt_v _ _ (trip_lt i n) o6, readAt_v _ _ h2 o4,
      pay11_eq, pay14_eq, pay19_eq, pair, stepDK, getBlk_putBlk_ne (trip_lt i n) hne]
    rfl
  isplitl [HW10]
  · iexists _
    isplitl [HW10]; · iexact HW10
    ipureintro
    sl_unfold_run_names
    rw [read_putV arg10.view f10 o6, read_putV arg10.view f10 o4]
    simp only [readAt_blk _ _ (trip_lt i n) o5, readAt_blk _ _ h2 o3, readAt_v _ _ (trip_lt i n) o6, readAt_v _ _ h2 o4,
      pay12_eq (dl := dl), pay18_eq (dl := dl), pair, stepDV, getV_putV_ne (trip_lt i n) hne]
    rfl
  iexists _
  isplitl [HW11]; · iexact HW11
  ipureintro
  sl_unfold_run_names
  rw [read_all arg11.view f11 zero2]
  simp only [readCov_sq, readAt_blk _ _ (trip_lt i n) o5, readAt_blk _ _ h2 o3, readAt_v _ _ (trip_lt i n) o6, readAt_v _ _ h2 o4, readAt_sq,
    pay11_eq, pay15_eq, pay20_eq, pair, stepDQ]
  rfl

/-- The pair loop by its invariant: before trip `n` the three accumulators have taken the key blocks below `2n`. -/
@[sl_loop, instance_reducible] def loopInv_k0_t1 (G9 : BufTy.Contents (Elt F) arg9.view.ty) (G10 : BufTy.Contents (Elt F) arg10.view.ty) (G11 : BufTy.Contents (Elt F) arg11.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 q g dl L where
  inv n _ := held c arg3 arg4 arg9 arg10 arg11 X3 X4
      (upTo (stepDK ⟨q, g, dl, L⟩ (arg3.view.read (Elt F) X3) (arg4.view.read (Elt F) X4)) (2 * n) (arg9.view.read (Elt F) G9))
      (upTo (stepDV ⟨q, g, dl, L⟩ (arg3.view.read (Elt F) X3)) (2 * n) (arg10.view.read (Elt F) G10))
      (upTo (stepDQ ⟨q, g, dl, L⟩ (arg3.view.read (Elt F) X3) (arg4.view.read (Elt F) X4)) (2 * n) (arg11.view.read (Elt F) G11))
  step n acc := trip c 𝒱 bd E i arg2 harg2 arg3 harg3 arg4 harg4 arg5 harg5 arg6 harg6 arg7 harg7 arg8 harg8 arg9 harg9 arg10 harg10 arg11 harg11 q g dl L X3 X4 _ _ _ n
end

end Cert.MlaBwd

end
-- ==== Proof.MlaGradBody.lean ====
/- The body of the attention's gradient at one grid point, run once: what it leaves in the three gradients' buffers, as a function
   of the blocks it reads. Query block `n` of a head takes the diagonal key block first and then the key blocks `0 … n - 1`. -/
module

public import proofs.«01_k».proof.Proof.MlaGradTrip

@[expose] public section

set_option maxRecDepth 16384

noncomputable section

namespace Cert.MlaBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelMlaBwdIdeal Cert.KernelMlaBwdIdeal.Gen
open Cert.RetBwd (getBlk putBlk upTo addT addN readAt_blk readAt_all readAt_sq read_all readCov_sq readCov_blk read_put zero2 upTo_odd upTo_even)

variable {F : FTy → Type} [FloatOps F] [Named F]

local notation "𝕄" => MT nD τ sig Unit (Elt F) ℕ (UR sig nD τ) ℕ

section
variable (n : ℕ) (r : Row F) (k : Vec F S4096x256 .bf16) (v : Vec F S4096x128 .bf16)

/-- The values', the keys' and the queries' gradient after query block `n`, the first two from `d0` before it. -/
def pointDV (d0 : Vec F S4096x128 .f32) : Vec F S4096x128 .f32 :=
  upTo (stepDV r k) n (putV n (addV (prob r (masked (scores r.q (getBlk n k)))) r.g (getV n d0)) d0)
def pointDK (d0 : Vec F S4096x256 .f32) : Vec F S4096x256 .f32 :=
  upTo (stepDK r k v) n (putBlk n (addT (dS r (masked (scores r.q (getBlk n k))) (getV n v)) r.q (getBlk n d0)) d0)
def pointDQ : Vec F S512x256 .f32 :=
  upTo (stepDQ r k v) n (addN (dS r (masked (scores r.q (getBlk n k))) (getV n v)) (getBlk n k) k0_pay39)
end

/-- The first query block of a head, as the kernel tests it. -/
abbrev first (i : grid0.Coords) : Prop :=
  (Scalar.cmpi .ne (Scalar.extui (Scalar.cmpi .eq (BitVec.ofNat 32 (i 1).val) 0#32) : BitVec 32) 0#32) = 1#1

theorem cond1_iff : ∀ i : grid0.Coords, first i ↔ (i 1).val = 0 := by decide +kernel
theorem cond2_iff : ∀ i : grid0.Coords, k0_cond2 i = 1#1 ↔ (i 1).val % 2 = 1 := by decide +kernel
theorem off1_blk : ∀ i : grid0.Coords, k0_off1 i = ![512 * (i 1).val, 0] := by decide +kernel
theorem off2_blk : ∀ i : grid0.Coords, k0_off2 i = ![512 * (i 1).val, 0] := by decide +kernel
theorem off11_blk : ∀ i : grid0.Coords, (i 1).val % 2 = 1 → k0_off11 i = ![512 * (2 * ((i 1).val / 2)), 0] := by decide +kernel
theorem off12_blk : ∀ i : grid0.Coords, (i 1).val % 2 = 1 → k0_off12 i = ![512 * (2 * ((i 1).val / 2)), 0] := by decide +kernel

section Payloads
variable (q x : Vec F S512x256 .bf16) (g : FVec F S512x128 .bf16) (dl : FVec F S512x1 .f32) (L : FVec F S512x512 .f32)
  (y : Vec F S512x128 .bf16) (do_ o l : Vec F S512x128 .f32) (old : Vec F S512x256 .f32) (oldV : Vec F S512x128 .f32)

theorem pay5_eq : k0_pay5 q g L x oldV = addV (prob ⟨q, g, dl, L⟩ (scores q x)) g oldV := rfl
theorem pay6_eq : k0_pay6 q g dl L x y old = addT (dS ⟨q, g, dl, L⟩ (scores q x) y) q old := rfl
theorem pay7_eq : k0_pay7 q g dl L x y old = addN (dS ⟨q, g, dl, L⟩ (scores q x) y) x old := rfl
theorem pay45_eq : k0_pay45 g L (k0_pay40 q x) k0_pay42 (Named.named κ "mask" 0xF149F2CA#32 : F .f32) oldV
    = addV (prob ⟨q, g, dl, L⟩ (masked (scores q x))) g oldV := rfl
theorem pay46_eq : k0_pay46 q dl L (k0_pay40 q x) (k0_pay41 do_ y) k0_pay42 (Named.named κ "mask" 0xF149F2CA#32 : F .f32) old
    = addT (dS ⟨q, k0_pay36 do_, dl, L⟩ (masked (scores q x)) y) q old := rfl
theorem pay47_eq : k0_pay47 dl L x (k0_pay40 q x) (k0_pay41 do_ y) k0_pay42 (Named.named κ "mask" 0xF149F2CA#32 : F .f32) old
    = addN (dS ⟨q, k0_pay36 do_, dl, L⟩ (masked (scores q x)) y) x old := rfl
end Payloads

section
variable (c : Dev nD) (i : grid0.Coords) (arg2 : Memref sig .tc .vmem S512x256 .bf16) (harg2 : arg2.IsWhole) (arg3 : Memref sig .tc .vmem S4096x256 .bf16) (harg3 : arg3.IsWhole) (arg4 : Memref sig .tc .vmem S4096x128 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x256 .f32) (harg8 : arg8.IsWhole) (arg9 : Memref sig .tc .vmem S4096x256 .f32) (harg9 : arg9.IsWhole) (arg10 : Memref sig .tc .vmem S4096x128 .f32) (harg10 : arg10.IsWhole) (arg11 : Memref sig .tc .vmem S512x256 .f32) (harg11 : arg11.IsWhole)
  (x0 : Vec F S512x256 .bf16) (x1 : Vec F S4096x256 .bf16) (x2 : Vec F S4096x128 .bf16) (x3 x4 x5 : Vec F S512x128 .f32)
  (d7 : Vec F S4096x256 .f32) (d8 : Vec F S4096x128 .f32)

/-- The blocks read, held. -/
def ins : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5)

/-- The body's triple at one point, the accumulated gradients starting from `s7` and `s8`. -/
def Runs (s7 : Vec F S4096x256 .f32) (s8 : Vec F S4096x128 .f32) : Prop :=
  ∀ (E : Set ℕ) (K : PUnit → sProp 𝕄),
    iprop(ins c arg2 arg3 arg4 arg5 arg6 arg7 x0 x1 x2 x3 x4 x5 ∗ (∃ d, owns (c : Thread nD τ) arg8 fullShare d) ∗ owns (c : Thread nD τ) arg9 fullShare d7 ∗ owns (c : Thread nD τ) arg10 fullShare d8 ∗ (∃ d, owns (c : Thread nD τ) arg11 fullShare d)
        ∗ (iprop(ins c arg2 arg3 arg4 arg5 arg6 arg7 x0 x1 x2 x3 x4 x5 ∗ owns (c : Thread nD τ) arg8 fullShare (pointDQ (i 1).val (row x0 x3 x4 x5) x1 x2) ∗ owns (c : Thread nD τ) arg9 fullShare (pointDK (i 1).val (row x0 x3 x4 x5) x1 x2 s7) ∗ owns (c : Thread nD τ) arg10 fullShare (pointDV (i 1).val (row x0 x3 x4 x5) x1 s8) ∗ (∃ d, owns (c : Thread nD τ) arg11 fullShare d)) -∗ K ⟨⟩))
      ⊢ wp frame (wpE (defs₀ (F := F)) Variants.none c none) E (cc0_mla_bwd i arg2 harg2 arg3 harg3 arg4 harg4 arg5 harg5 arg6 harg6 arg7 harg7 arg8 harg8 arg9 harg9 arg10 harg10 arg11 harg11) K

set_option maxHeartbeats 1000000 in
include harg2 harg3 harg4 harg5 harg6 harg7 in
/-- An odd query block: pairs, and one key block more. -/
theorem run_odd (h1 : ¬ first i) (h2 : k0_cond2 i = 1#1) : Runs c i arg2 harg2 arg3 harg3 arg4 harg4 arg5 harg5 arg6 harg6 arg7 harg7 arg8 harg8 arg9 harg9 arg10 harg10 arg11 harg11 x0 x1 x2 x3 x4 x5 d7 d8 d7 d8 := by
  intro E K
  have htr : (k0_t2_loop i).trips = 0 := trips_t2 i
  have ht : Scf.trips (k0_t1_loop i).lb (k0_t1_loop i).ub (k0_t1_loop i).st = (i 1).val / 2 := trips_t1 i
  have hj : (i 1).val < 8 := (i 1).isLt
  have hodd := (cond2_iff i).mp h2
  have hj6 : 2 * ((i 1).val / 2) < 8 := by omega
  have o11 := off11_blk i hodd
  have o12 := off12_blk i hodd
  simp only [Runs, cc0_mla_bwd_eq_skeleton]; unfold cc0_mla_bwd_skel
  simp only [k0_part5_eq_skeleton, k0_part6_eq_skeleton]
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%d6, %f6, -, H6⟩, ⟨%f7, %hf7, H7⟩, ⟨%f8, %hf8, H8⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact h1 | sl_exact h2)
  sl_step
  iapply Hk
  isplitl [H0 H1 H2 H3 H4 H5]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; isplitr; · ipureintro; exact harg7.read_unread _
    iexact H5
  isplitl [H6]
  · iexists _; isplitr; swap; · iexact H6
    ipureintro
    sl_unfold_run_names
    rw [read_all arg8.view f6 zero2]
    simp only [readAt_blk _ _ hj6 o11, readAt_v _ _ hj6 o12, readAt_blk _ _ hj (off1_blk i), readAt_v _ _ hj (off2_blk i), readAt_sq, readAt_d, readCov_sq, hf0, hf1, hf2, hf3, hf4, hf5, ht]
    rw [hL7]
    sl_unfold_run_names
    rw [read_all arg11.view _ zero2]
    simp only [readAt_blk _ _ hj6 o11, readAt_v _ _ hj6 o12, readAt_blk _ _ hj (off1_blk i), readAt_v _ _ hj (off2_blk i), readAt_sq, readAt_d, readCov_sq, hf0, hf1, hf2, hf3, hf4, hf5, ht, pay45_eq (dl := k0_pay37 x3 x4), pay46_eq, pay47_eq, pay5_eq (dl := k0_pay37 x3 x4), pay6_eq, pay7_eq]
    rw [pointDQ, upTo_odd _ hodd]
    rfl
  isplitl [H7]
  · iexists _; isplitr; swap; · iexact H7
    ipureintro
    sl_unfold_run_names
    rw [read_put arg9.view _ o11]
    simp only [readAt_blk _ _ hj6 o11, readAt_v _ _ hj6 o12, readAt_blk _ _ hj (off1_blk i), readAt_v _ _ hj (off2_blk i), readAt_sq, readAt_d, readCov_sq, hf0, hf1, hf2, hf3, hf4, hf5, ht]
    rw [show arg9.view.read (Elt F) (arg9.view.writes (Elt F) fL0 []) = arg9.view.read (Elt F) fL0 from rfl, hL3]
    sl_unfold_run_names
    rw [read_put arg9.view _ (off1_blk i), show arg9.view.read (Elt F) (arg9.view.writes (Elt F) f7 []) = d7 from hf7]
    simp only [readAt_blk _ _ hj6 o11, readAt_v _ _ hj6 o12, readAt_blk _ _ hj (off1_blk i), readAt_v _ _ hj (off2_blk i), readAt_sq, readAt_d, readCov_sq, hf0, hf1, hf2, hf3, hf4, hf5, ht, hf7, pay45_eq (dl := k0_pay37 x3 x4), pay46_eq, pay47_eq, pay5_eq (dl := k0_pay37 x3 x4), pay6_eq, pay7_eq]
    rw [pointDK, upTo_odd _ hodd]
    rfl
  isplitl [H8]
  · iexists _; isplitr; swap; · iexact H8
    ipureintro
    sl_unfold_run_names
    rw [read_putV arg10.view _ o12]
    simp only [readAt_blk _ _ hj6 o11, readAt_v _ _ hj6 o12, readAt_blk _ _ hj (off1_blk i), readAt_v _ _ hj (off2_blk i), readAt_sq, readAt_d, readCov_sq, hf0, hf1, hf2, hf3, hf4, hf5, ht]
    rw [show arg10.view.read (Elt F) (arg10.view.writes (Elt F) fL1 []) = arg10.view.read (Elt F) fL1 from rfl, hL5]
    sl_unfold_run_names
    rw [read_putV arg10.view _ (off2_blk i), show arg10.view.read (Elt F) (arg10.view.writes (Elt F) f8 []) = d8 from hf8]
    simp only [readAt_blk _ _ hj6 o11, readAt_v _ _ hj6 o12, readAt_blk _ _ hj (off1_blk i), readAt_v _ _ hj (off2_blk i), readAt_sq, readAt_d, readCov_sq, hf0, hf1, hf2, hf3, hf4, hf5, ht, hf8, pay45_eq (dl := k0_pay37 x3 x4), pay46_eq, pay47_eq, pay5_eq (dl := k0_pay37 x3 x4), pay6_eq, pay7_eq]
    rw [pointDV, upTo_odd _ hodd]
    rfl
  iexists _, _; isplitr; swap; · iexact HS0
  ipureintro; rfl

set_option maxHeartbeats 1000000 in
include harg2 harg3 harg4 harg5 harg6 harg7 in
/-- An even query block past the first: pairs only. -/
theorem run_even (h1 : ¬ first i) (h2 : ¬ k0_cond2 i = 1#1) : Runs c i arg2 harg2 arg3 harg3 arg4 harg4 arg5 harg5 arg6 harg6 arg7 harg7 arg8 harg8 arg9 harg9 arg10 harg10 arg11 harg11 x0 x1 x2 x3 x4 x5 d7 d8 d7 d8 := by
  intro E K
  have htr : (k0_t2_loop i).trips = 0 := trips_t2 i
  have ht : Scf.trips (k0_t1_loop i).lb (k0_t1_loop i).ub (k0_t1_loop i).st = (i 1).val / 2 := trips_t1 i
  have hj : (i 1).val < 8 := (i 1).isLt
  have hodd : ¬ (i 1).val % 2 = 1 := fun h => h2 ((cond2_iff i).mpr h)
  simp only [Runs, cc0_mla_bwd_eq_skeleton]; unfold cc0_mla_bwd_skel
  simp only [k0_part5_eq_skeleton, k0_part6_eq_skeleton]
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%d6, %f6, -, H6⟩, ⟨%f7, %hf7, H7⟩, ⟨%f8, %hf8, H8⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact h1 | sl_exact h2)
  sl_step
  iapply Hk
  isplitl [H0 H1 H2 H3 H4 H5]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; isplitr; · ipureintro; exact harg7.read_unread _
    iexact H5
  isplitl [H6]
  · iexists _; isplitr; swap; · iexact H6
    ipureintro
    sl_unfold_run_names
    rw [read_all arg8.view f6 zero2]
    simp only [readAt_blk _ _ hj (off1_blk i), readAt_v _ _ hj (off2_blk i), readAt_sq, readAt_d, readCov_sq, hf0, hf1, hf2, hf3, hf4, hf5, ht]
    rw [hL7]
    sl_unfold_run_names
    rw [read_all arg11.view _ zero2]
    simp only [readAt_blk _ _ hj (off1_blk i), readAt_v _ _ hj (off2_blk i), readAt_sq, readAt_d, readCov_sq, hf0, hf1, hf2, hf3, hf4, hf5, ht, pay45_eq (dl := k0_pay37 x3 x4), pay46_eq, pay47_eq]
    rw [pointDQ, upTo_even _ hodd]
    rfl
  isplitl [H7]
  · iexists _; isplitr; swap; · iexact H7
    ipureintro
    rw [hL3]
    sl_unfold_run_names
    rw [read_put arg9.view _ (off1_blk i), show arg9.view.read (Elt F) (arg9.view.writes (Elt F) f7 []) = d7 from hf7]
    simp only [readAt_blk _ _ hj (off1_blk i), readAt_v _ _ hj (off2_blk i), readAt_sq, readAt_d, readCov_sq, hf0, hf1, hf2, hf3, hf4, hf5, ht, hf7, pay45_eq (dl := k0_pay37 x3 x4), pay46_eq, pay47_eq]
    rw [pointDK, upTo_even _ hodd]
    rfl
  isplitl [H8]
  · iexists _; isplitr; swap; · iexact H8
    ipureintro
    rw [hL5]
    sl_unfold_run_names
    rw [read_putV arg10.view _ (off2_blk i), show arg10.view.read (Elt F) (arg10.view.writes (Elt F) f8 []) = d8 from hf8]
    simp only [readAt_blk _ _ hj (off1_blk i), readAt_v _ _ hj (off2_blk i), readAt_sq, readAt_d, readCov_sq, hf0, hf1, hf2, hf3, hf4, hf5, ht, hf8, pay45_eq (dl := k0_pay37 x3 x4), pay46_eq, pay47_eq]
    rw [pointDV, upTo_even _ hodd]
    rfl
  iexists _, _; isplitr; swap; · iexact HS0
  ipureintro; rfl

set_option maxHeartbeats 1000000 in
include harg2 harg3 harg4 harg5 harg6 harg7 in
/-- The first query block of a head: the accumulators start from zero. -/
theorem run_first (h1 : first i) (h2 : ¬ k0_cond2 i = 1#1) : Runs c i arg2 harg2 arg3 harg3 arg4 harg4 arg5 harg5 arg6 harg6 arg7 harg7 arg8 harg8 arg9 harg9 arg10 harg10 arg11 harg11 x0 x1 x2 x3 x4 x5 d7 d8 k0_pay34 k0_pay35 := by
  intro E K
  have htr : (k0_t2_loop i).trips = 0 := trips_t2 i
  have ht : Scf.trips (k0_t1_loop i).lb (k0_t1_loop i).ub (k0_t1_loop i).st = (i 1).val / 2 := trips_t1 i
  have hj : (i 1).val < 8 := (i 1).isLt
  have hodd : ¬ (i 1).val % 2 = 1 := fun h => h2 ((cond2_iff i).mpr h)
  simp only [Runs, cc0_mla_bwd_eq_skeleton]; unfold cc0_mla_bwd_skel
  simp only [k0_part5_eq_skeleton, k0_part6_eq_skeleton]
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%d6, %f6, -, H6⟩, ⟨%f7, %hf7, H7⟩, ⟨%f8, %hf8, H8⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact h1 | sl_exact h2)
  sl_step
  iapply Hk
  isplitl [H0 H1 H2 H3 H4 H5]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; isplitr; · ipureintro; exact harg7.read_unread _
    iexact H5
  isplitl [H6]
  · iexists _; isplitr; swap; · iexact H6
    ipureintro
    sl_unfold_run_names
    rw [read_all arg8.view f6 zero2]
    simp only [readAt_blk _ _ hj (off1_blk i), readAt_v _ _ hj (off2_blk i), readAt_sq, readAt_d, readCov_sq, hf0, hf1, hf2, hf3, hf4, hf5, ht]
    rw [hL7]
    sl_unfold_run_names
    rw [read_all arg11.view _ zero2]
    simp only [readAt_blk _ _ hj (off1_blk i), readAt_v _ _ hj (off2_blk i), readAt_sq, readAt_d, readCov_sq, hf0, hf1, hf2, hf3, hf4, hf5, ht, pay45_eq (dl := k0_pay37 x3 x4), pay46_eq, pay47_eq]
    rw [pointDQ, upTo_even _ hodd]
    rfl
  isplitl [H7]
  · iexists _; isplitr; swap; · iexact H7
    ipureintro
    rw [hL3]
    sl_unfold_run_names
    rw [read_put arg9.view _ (off1_blk i), read_all arg9.view _ zero2]
    simp only [readAt_blk _ _ hj (off1_blk i), readAt_v _ _ hj (off2_blk i), readAt_sq, readAt_d, readCov_sq, hf0, hf1, hf2, hf3, hf4, hf5, ht, readCov_blk _ hj (off1_blk i), pay45_eq (dl := k0_pay37 x3 x4), pay46_eq, pay47_eq]
    rw [pointDK, upTo_even _ hodd]
    try simp only [read_all arg9.view _ zero2]
    rfl
  isplitl [H8]
  · iexists _; isplitr; swap; · iexact H8
    ipureintro
    rw [hL5]
    sl_unfold_run_names
    rw [read_putV arg10.view _ (off2_blk i), read_all arg10.view _ zero2]
    simp only [readAt_blk _ _ hj (off1_blk i), readAt_v _ _ hj (off2_blk i), readAt_sq, readAt_d, readCov_sq, hf0, hf1, hf2, hf3, hf4, hf5, ht, readCov_v _ hj (off2_blk i), pay45_eq (dl := k0_pay37 x3 x4), pay46_eq, pay47_eq]
    rw [pointDV, upTo_even _ hodd]
    try simp only [read_all arg10.view _ zero2]
    rfl
  iexists _, _; isplitr; swap; · iexact HS0
  ipureintro; rfl
end

end Cert.MlaBwd

end
-- ==== Proof.MlaGradSums.lean ====
/- What one query block adds to the three gradients of the attention, over the real numbers: the probabilities are the weights
   over their sum, the scores' cotangent follows from them, and each gradient takes the block's part of a plain sum. -/
module

public import proofs.«01_k».proof.Proof.MlaGradBody
public import proofs.«01_k».proof.Proof.MlaStep

@[expose] public section

set_option maxRecDepth 16384

noncomputable section

namespace Cert.MlaBwd

open Idealize.ShloMosaic Idealize.ShloMosaic.TcCoe Idealize.ShloMosaic.Tactic
open Cert.KernelMlaBwdIdeal Cert.KernelMlaBwdIdeal.Gen
open Finset (range)
open Cert.RetBwd (getBlk putBlk upTo addT addN addT_apply addN_apply dot sum_blocks sum_fin' IsBlk IsArr inBlk rowIx_inBlk inBlk_0 inBlk_1)
open Cert.Mla (E Num Den Den_pos S exp_S dot_real shift_word chunk_le)

/-! ## The plain sums -/

/-- The product of two rows of 128. -/
def dotV (A B : ℕ → ℕ → ℝ) (n m : ℕ) : ℝ := ∑ d ∈ range 128, A n d * B m d

/-- The probability of key row `b` for query row `p`, the product of a row's cotangent and output, and the score's cotangent. -/
def P (Q K : ℕ → ℕ → ℝ) (p b : ℕ) : ℝ := E Q K p b / Den Q K p
def delta (Q K G V : ℕ → ℕ → ℝ) (p : ℕ) : ℝ := ∑ e ∈ range 128, G p e * (Num Q K V p e / Den Q K p)
def DS (Q K G V : ℕ → ℕ → ℝ) (p b : ℕ) : ℝ := P Q K p b * (dotV G V p b - delta Q K G V p)

/-- A weighted sum over the keys, and one over the queries. -/
def overK (w Z : ℕ → ℕ → ℝ) (p d : ℕ) : ℝ := ∑ b ∈ range 4096, w p b * Z b d
def overQ (w Z : ℕ → ℕ → ℝ) (b d : ℕ) : ℝ := ∑ p ∈ range 4096, w p b * Z p d

/-- Their parts. -/
def partK (w Z : ℕ → ℕ → ℝ) (j p d : ℕ) : ℝ := ∑ b ∈ range 512, w p (512 * j + b) * Z (512 * j + b) d
def partQ (w Z : ℕ → ℕ → ℝ) (n b d : ℕ) : ℝ := ∑ a ∈ range 512, w (512 * n + a) b * Z (512 * n + a) d

theorem sum_partQ (w Z : ℕ → ℕ → ℝ) (b d : ℕ) : ∑ n ∈ range 8, partQ w Z n b d = overQ w Z b d :=
  (sum_blocks 512 (fun p => w p b * Z p d) 8).symm

/-- Weights that see no later block. -/
def Sees (w : ℕ → ℕ → ℝ) : Prop := ∀ p b, p / 512 < b / 512 → w p b = 0

theorem sees_P (Q K : ℕ → ℕ → ℝ) : Sees (P Q K) := fun p b h => by
  unfold P E
  rw [if_neg (by omega), zero_div]

theorem sees_DS (Q K G V : ℕ → ℕ → ℝ) : Sees (DS Q K G V) := fun p b h => by
  unfold DS
  rw [sees_P Q K p b h, zero_mul]

theorem partQ_after {w : ℕ → ℕ → ℝ} (hw : Sees w) (Z : ℕ → ℕ → ℝ) (n b d : ℕ) (h : n < b / 512) : partQ w Z n b d = 0 :=
  Finset.sum_eq_zero fun a ha => by
    have := Finset.mem_range.mp ha
    rw [hw _ _ (by omega), zero_mul]

theorem overK_blocks {w : ℕ → ℕ → ℝ} (hw : Sees w) (Z : ℕ → ℕ → ℝ) (n p d : ℕ) (hn : n < 8) (hp : p / 512 = n) :
    overK w Z p d = ∑ j ∈ range (n + 1), partK w Z j p d := by
  unfold overK
  rw [show 4096 = 512 * 8 from rfl, sum_blocks 512 _ 8, ← Finset.sum_range_add_sum_Ico _ (show n + 1 ≤ 8 from hn),
    Finset.sum_eq_zero (s := Finset.Ico (n + 1) 8), add_zero]
  · rfl
  · intro j hj
    have := (Finset.mem_Ico.mp hj).1
    exact Finset.sum_eq_zero fun b hb => by
      have := Finset.mem_range.mp hb
      rw [hw _ _ (by omega), zero_mul]

/-! ## One block step -/

/-- The weights of one pair of blocks. -/
def IsW (x : Vec Ideal S512x512 .f32) (w : ℕ → ℕ → ℝ) (n j : ℕ) : Prop :=
  ∀ a b : Fin 512, (x (ix2 a b) : EReal) = ((w (512 * n + a.val) (512 * j + b.val) : ℝ) : EReal)

/-- An array of 128 columns holds the real numbers `X`; and a block of it. -/
def IsArrV (x : Vec Ideal S4096x128 .bf16) (X : ℕ → ℕ → ℝ) : Prop :=
  ∀ (a : Fin 4096) (d : Fin 128), (x (ix2 a d) : EReal) = ((X a.val d.val : ℝ) : EReal)
def IsBlkV (x : Vec Ideal S512x128 .bf16) (n : ℕ) (X : ℕ → ℕ → ℝ) : Prop :=
  ∀ (a : Fin 512) (d : Fin 128), (x (ix2 a d) : EReal) = ((X (512 * n + a.val) d.val : ℝ) : EReal)

theorem IsArrV.blk {x : Vec Ideal S4096x128 .bf16} {X : ℕ → ℕ → ℝ} (h : IsArrV x X) (j : ℕ) (hj : j < 8) :
    IsBlkV (getV (F := Ideal) (e := .bf16) j x) j X := fun a d => by
  refine (h ⟨(512 * j + a.val) % 4096, Nat.mod_lt _ (by decide)⟩ d).trans ?_
  have : (512 * j + a.val) % 4096 = 512 * j + a.val := Nat.mod_eq_of_lt (by omega)
  simp only [this]

/-- The row data of query block `n`. -/
structure IsRow (r : Row Ideal) (n : ℕ) (Q K G V : ℕ → ℕ → ℝ) : Prop where
  q : IsBlk r.q n Q
  g : IsBlkV r.g n G
  dl : ∀ a : Fin 512, (r.dl (ix2 a 0) : EReal) = ((delta Q K G V (512 * n + a.val) : ℝ) : EReal)
  L : ∀ a b : Fin 512, (r.L (ix2 a b) : EReal) = ((Real.log (Den Q K (512 * n + a.val)) : ℝ) : EReal)

theorem scores_apply (q k : FVec Ideal S512x256 .bf16) (a b : Fin 512) :
    scores q k (ix2 a b) = ∑ d : Fin 256, (q (ix2 a d) : EReal) * k (ix2 b d) := by
  pointwise [scores]

theorem mask_bot : (Named.named (F := Ideal) κ "mask" (φ := .f32) 0xF149F2CA#32 : EReal) = ⊥ :=
  IdealRules.named_const.ideal_named_scalar _ _ _ _ rfl

theorem masked_apply (s : FVec Ideal S512x512 .f32) (a b : Fin 512) :
    masked s (ix2 a b) = (if b.val / 64 ≤ a.val / 64 then (s (ix2 a b) : EReal) else ⊥) := by
  pointwise [masked, k0_pay42]
  rw [shift_word a, shift_word b, chunk_le ⟨a.val / 64, by omega⟩ ⟨b.val / 64, by omega⟩, mask_bot]
  by_cases hc : b.val / 64 ≤ a.val / 64
  · simp only [if_pos hc]; rfl
  · simp only [if_neg hc]; rfl

theorem dS_apply (r : Row Ideal) (s : FVec Ideal S512x512 .f32) (v : Vec Ideal S512x128 .bf16) (a b : Fin 512) :
    dS r s v (ix2 a b) = (prob r s (ix2 a b) : EReal) * ((∑ e : Fin 128, (r.g (ix2 a e) : EReal) * v (ix2 b e)) - r.dl (ix2 a 0)) := by
  pointwise [dS]

theorem addV_apply (p : FVec Ideal S512x512 .f32) (g : FVec Ideal S512x128 .bf16) (old : Vec Ideal S512x128 .f32) (y : S512x128.Idx) :
    addV p g old y = (old y : EReal) + ∑ k : Fin 512, (p (ix2 k (y 0)) : EReal) * g (ix2 k (y 1)) := by
  pointwise [addV]

section
variable {n j : ℕ} {w Z : ℕ → ℕ → ℝ}

theorem putK_w {x : FVec Ideal S512x512 .bf16} {z : FVec Ideal S512x256 .bf16} (hx : IsW x w n j) (hz : IsBlk z n Z) (d : FVec Ideal S4096x256 .f32)
    (y : S4096x256.Idx) : putBlk (F := Ideal) (e := .f32) j (addT x z (getBlk (F := Ideal) (e := .f32) j d)) d y
      = if (y 0).val / 512 = j then (d y : EReal) + ((partQ w Z n (y 0).val (y 1).val : ℝ) : EReal) else d y := by
  unfold putBlk
  by_cases h : (y 0).val / 512 = j
  · rw [if_pos h, if_pos h, addT_apply]
    have e : getBlk (F := Ideal) (e := .f32) j d (inBlk y) = d y := by subst h; exact congrArg d (rowIx_inBlk y)
    rw [e]
    congr 1
    refine sum_fin' 512 _ (fun a => w (512 * n + a) (y 0).val * Z (512 * n + a) (y 1).val) fun a => ?_
    rw [EReal.coe_mul]
    refine congrArg₂ _ ((hx a _).trans ?_) ((hz a _).trans ?_)
    · rw [inBlk_0, show 512 * j + (y 0).val % 512 = (y 0).val by omega]
    · rw [inBlk_1]
  · rw [if_neg h, if_neg h]

theorem putV_w {x : FVec Ideal S512x512 .f32} {z : FVec Ideal S512x128 .bf16} (hx : IsW x w n j) (hz : IsBlkV z n Z) (d : FVec Ideal S4096x128 .f32)
    (y : S4096x128.Idx) : putV (F := Ideal) (e := .f32) j (addV x z (getV (F := Ideal) (e := .f32) j d)) d y
      = if (y 0).val / 512 = j then (d y : EReal) + ((partQ w Z n (y 0).val (y 1).val : ℝ) : EReal) else d y := by
  unfold putV
  have h0 : (y 0).val < 4096 := (y 0).isLt
  by_cases h : (y 0).val / 512 = j
  · rw [if_pos h, if_pos h, addV_apply]
    have e : getV (F := Ideal) (e := .f32) j d (ix2 (n0 := 512) (n1 := 128) ⟨(y 0).val % 512, Nat.mod_lt _ (by decide)⟩ (y 1)) = d y := by
      refine congrArg d (Eq.trans ?_ (eq_ix2 y).symm)
      refine congrArg (fun a => ix2 a (y 1)) (Fin.ext ?_)
      show (512 * j + (y 0).val % 512) % 4096 = (y 0).val
      omega
    rw [e]
    congr 1
    refine sum_fin' 512 _ (fun a => w (512 * n + a) (y 0).val * Z (512 * n + a) (y 1).val) fun a => ?_
    rw [EReal.coe_mul]
    refine congrArg₂ _ ((hx a ⟨(y 0).val % 512, Nat.mod_lt _ (by decide)⟩).trans ?_) (hz a (y 1))
    rw [show 512 * j + (y 0).val % 512 = (y 0).val by omega]
  · rw [if_neg h, if_neg h]

theorem addN_w {x : FVec Ideal S512x512 .bf16} {z : FVec Ideal S512x256 .bf16} (hx : IsW x w n j) (hz : IsBlk z j Z) (old : FVec Ideal S512x256 .f32)
    (p : S512x256.Idx) : addN x z old p = (old p : EReal) + ((partK w Z j (512 * n + (p 0).val) (p 1).val : ℝ) : EReal) := by
  rw [addN_apply]
  congr 1
  exact sum_fin' 512 _ (fun b => w (512 * n + (p 0).val) (512 * j + b) * Z (512 * j + b) (p 1).val) fun b => by
    rw [EReal.coe_mul]; exact congrArg₂ _ (hx (p 0) b) (hz b (p 1))

/-- Steps that each change the rows of their own block, the last block's taken first, change every row the weights see. -/
theorem upTo_all {s : Shape} (row : s.Idx → ℕ) (g : ℕ → FVec Ideal s .f32 → FVec Ideal s .f32) (c : s.Idx → EReal) (n : ℕ)
    (hg : ∀ j < n, ∀ d y, g j d y = if row y = j then (d y : EReal) + c y else d y) (d0 d : FVec Ideal s .f32)
    (h0 : ∀ y, d0 y = if row y = n then (d y : EReal) + c y else d y) (hc : ∀ y, n < row y → c y = 0) (y : s.Idx) :
    upTo g n d0 y = (d y : EReal) + c y := by
  have h : ∀ i ≤ n, upTo g i d0 y = if row y < i then (d0 y : EReal) + c y else d0 y := by
    intro i
    induction i with
    | zero => intro _; rw [if_neg (by omega)]; rfl
    | succ i ih =>
      intro hi
      show g i (upTo g i d0) y = _
      rw [hg i (by omega), ih (by omega)]
      by_cases h1 : row y = i
      · rw [if_pos h1, if_neg (by omega), if_pos (by omega)]
      · rw [if_neg h1]
        by_cases h2 : row y < i
        · rw [if_pos h2, if_pos (by omega)]
        · rw [if_neg h2, if_neg (by omega)]
  rw [h n le_rfl, h0]
  by_cases h1 : row y < n
  · rw [if_pos h1, if_neg (by omega)]
  · rw [if_neg h1]
    by_cases h2 : row y = n
    · rw [if_pos h2]
    · rw [if_neg h2, hc y (by omega), add_zero]
end

/-! ## One query block -/

section
variable {n : ℕ} {r : Row Ideal} {k : Vec Ideal S4096x256 .bf16} {v : Vec Ideal S4096x128 .bf16} {Q K G V : ℕ → ℕ → ℝ}
  (hn : n < 8) (hr : IsRow r n Q K G V) (hk : IsArr k K) (hv : IsArrV v V)

section
include hn hr
theorem prob_real {s : FVec Ideal S512x512 .f32} {j : ℕ} (hs : ∀ a b : Fin 512, (s (ix2 a b) : EReal) = S Q K (512 * n + a.val) (512 * j + b.val)) :
    IsW (prob r s) (P Q K) n j := fun a b => by
  have e : prob r s (ix2 a b) = Ideal.exp ((s (ix2 a b) : EReal) - r.L (ix2 a b)) := rfl
  rw [e, hs, hr.L, exp_S, Real.exp_neg, Real.exp_log (Den_pos Q K _ (by omega)), inv_mul_eq_div]
  rfl

include hv
theorem dS_real {s : FVec Ideal S512x512 .f32} {j : ℕ} (hj : j < 8) (hs : ∀ a b : Fin 512, (s (ix2 a b) : EReal) = S Q K (512 * n + a.val) (512 * j + b.val)) :
    IsW (dS r s (getV (F := Ideal) (e := .bf16) j v)) (DS Q K G V) n j := fun a b => by
  rw [dS_apply, prob_real hn hr hs a b, hr.dl,
    sum_fin' 128 _ (fun e => G (512 * n + a.val) e * V (512 * j + b.val) e) fun e => by
      rw [EReal.coe_mul]; exact congrArg₂ _ (hr.g a e) (hv.blk j hj b e), ← EReal.coe_sub, ← EReal.coe_mul]
  rfl
end

section
include hn hr hk
theorem diag_S (a b : Fin 512) : (masked (scores r.q (getBlk (F := Ideal) (e := .bf16) n k)) (ix2 a b) : EReal) = S Q K (512 * n + a.val) (512 * n + b.val) := by
  rw [masked_apply, scores_apply, dot_real hr.q (hk.blk n hn)]
  unfold S
  have e : ((512 * n + b.val) / 64 ≤ (512 * n + a.val) / 64) ↔ b.val / 64 ≤ a.val / 64 := by omega
  simp only [e]

theorem before_S {j : ℕ} (hj : j < n) (a b : Fin 512) : (scores r.q (getBlk (F := Ideal) (e := .bf16) j k) (ix2 a b) : EReal) = S Q K (512 * n + a.val) (512 * j + b.val) := by
  rw [scores_apply, dot_real hr.q (hk.blk j (by omega))]
  unfold S
  rw [if_pos (by omega)]

theorem pointDV_real (d : FVec Ideal S4096x128 .f32) (y : S4096x128.Idx) :
    pointDV (F := Ideal) n r k d y = (d y : EReal) + ((partQ (P Q K) G n (y 0).val (y 1).val : ℝ) : EReal) :=
  upTo_all (fun y : S4096x128.Idx => (y 0).val / 512) (stepDV r k) (fun y => ((partQ (P Q K) G n (y 0).val (y 1).val : ℝ) : EReal)) n
    (fun j hj d y => putV_w (prob_real hn hr (before_S hn hr hk hj)) hr.g d y) _ d
    (putV_w (prob_real hn hr (diag_S hn hr hk)) hr.g d)
    (fun y h => by rw [partQ_after (sees_P Q K) _ _ _ _ h, EReal.coe_zero]) y

include hv
theorem pointDK_real (d : FVec Ideal S4096x256 .f32) (y : S4096x256.Idx) :
    pointDK (F := Ideal) n r k v d y = (d y : EReal) + ((partQ (DS Q K G V) Q n (y 0).val (y 1).val : ℝ) : EReal) :=
  upTo_all (fun y : S4096x256.Idx => (y 0).val / 512) (stepDK r k v) (fun y => ((partQ (DS Q K G V) Q n (y 0).val (y 1).val : ℝ) : EReal)) n
    (fun j hj d y => putK_w (dS_real hn hr hv (by omega) (before_S hn hr hk hj)) hr.q d y) _ d
    (putK_w (dS_real hn hr hv hn (diag_S hn hr hk)) hr.q d)
    (fun y h => by rw [partQ_after (sees_DS Q K G V) _ _ _ _ h, EReal.coe_zero]) y

theorem upTo_dq (d : FVec Ideal S512x256 .f32) (p : S512x256.Idx) (i : ℕ) (hi : i ≤ n) :
    upTo (stepDQ (F := Ideal) r k v) i d p = (d p : EReal) + ((∑ j ∈ range i, partK (DS Q K G V) K j (512 * n + (p 0).val) (p 1).val : ℝ) : EReal) := by
  induction i with
  | zero => simp [upTo]
  | succ j ih =>
    refine (addN_w (dS_real hn hr hv (by omega) (before_S hn hr hk hi)) (hk.blk j (by omega)) (upTo (stepDQ (F := Ideal) r k v) j d) p).trans ?_
    rw [ih (by omega), Finset.sum_range_succ, EReal.coe_add, add_assoc]

theorem pointDQ_real (p : S512x256.Idx) :
    pointDQ (F := Ideal) n r k v p = ((overK (DS Q K G V) K (512 * n + (p 0).val) (p 1).val : ℝ) : EReal) := by
  have hp : (p 0).val < 512 := (p 0).isLt
  have hz : (k0_pay39 (F := Ideal) p : EReal) = 0 := by pointwise [k0_pay39]
  unfold pointDQ
  rw [upTo_dq hn hr hk hv _ p n le_rfl, addN_w (dS_real hn hr hv hn (diag_S hn hr hk)) (hk.blk n hn), hz, zero_add, ← EReal.coe_add,
    add_comm, ← Finset.sum_range_succ, overK_blocks (sees_DS Q K G V) K n _ _ hn (by omega)]
end
end

end Cert.MlaBwd

end
-- ==== Proof.MlaGradHost.lean ====
/- What the host hands the attention's gradient: the forward pass's two results, by reference.py's lines, and the values with
   ones beside them. -/
module

public import proofs.«01_k».proof.Proof.MlaRef
public import proofs.«01_k».proof.Proof.Gen.KernelMlaBwdIdeal.Frame

@[expose] public section

set_option maxRecDepth 16384

noncomputable section

namespace Cert.MlaBwd

open Idealize.ShloMosaic Idealize.ShloMosaic.TcCoe Idealize.ShloMosaic.Tactic
open Cert.KernelMlaBwdIdeal Cert.KernelMlaBwdIdeal.Gen
open Cert.RetBwd (IsReal)
open Cert.Mla (IsReal2 resO resL)
open Idealize.ShloMosaic.StableHlo

variable (m : (ℓ : Loc nD τ sig) → Buf (Elt Ideal) ℓ) (c : Dev nD)

/-- The values' array: each head's 128 columns, then 128 columns of ones. -/
theorem v44_apply (n : Fin 4096) (h : Fin 8) (e : Fin 128) :
    (show Vec Ideal S4096x2048 .bf16 from V m c main_v44) (ix2 n ⟨256 * h.val + e.val, by omega⟩)
      = (m ((c : Thread nD τ).loc main_arg2) : Vec Ideal S4096x1024 .bf16) (ix2 n ⟨128 * h.val + e.val, by omega⟩) := by
  have he : e.val < 128 := e.isLt
  simp only [V, hostOps0, hostOps0_1, hostOps0_2, hostOps0_3, hostOps0_4, List.flatten_cons, List.flatten_nil, List.cons_append, List.nil_append]
  entry_read
  pointwise
  have hm : (256 * h.val + e.val) % 256 = e.val := by omega
  simp only [Nat.mul_comm h.val 128, hm, dif_pos he]

/-- The two saved arrays are the reference's terms. -/
theorem o_eq : (show FVec Ideal S4096x1024 .f32 from V m c main_v37) = MlaRef.mean (m ((c : Thread nD τ).loc main_arg2))
    (MlaRef.expLess (MlaRef.masked (m ((c : Thread nD τ).loc main_arg0)) (m ((c : Thread nD τ).loc main_arg1)))
      (maximumf (broadcastInDim S8x4096 ![] bcast_S_S8x4096 (constant S_ .f32 0xFF800000#32))
        (MlaRef.rowMax (MlaRef.masked (m ((c : Thread nD τ).loc main_arg0)) (m ((c : Thread nD τ).loc main_arg1)))))) := by
  simp only [V, hostOps0, hostOps0_1, hostOps0_2, hostOps0_3, hostOps0_4, List.flatten_cons, List.flatten_nil, List.cons_append, List.nil_append,
    TRef.binary, TRef.nullary, TRef.ternary, TRef.unary, TRef.toBuf, TRef.ofBuf, cast_eq]
  after_results_simp <;> rfl

theorem l_eq : (show FVec Ideal S4096x1024 .f32 from V m c main_v40) = MlaRef.logs (MlaRef.rowMax (MlaRef.masked (m ((c : Thread nD τ).loc main_arg0)) (m ((c : Thread nD τ).loc main_arg1))))
    (MlaRef.expLess (MlaRef.masked (m ((c : Thread nD τ).loc main_arg0)) (m ((c : Thread nD τ).loc main_arg1)))
      (MlaRef.rowMax (MlaRef.masked (m ((c : Thread nD τ).loc main_arg0)) (m ((c : Thread nD τ).loc main_arg1))))) := by
  simp only [V, hostOps0, hostOps0_1, hostOps0_2, hostOps0_3, hostOps0_4, List.flatten_cons, List.flatten_nil, List.cons_append, List.nil_append,
    TRef.binary, TRef.nullary, TRef.ternary, TRef.unary, TRef.toBuf, TRef.ofBuf, cast_eq]
  after_results_simp <;> rfl

/-- On real arguments: the weighted means of the values and the logarithms of the sums of the weights. -/
theorem o_real {Q K Vv : ℕ → ℕ → ℝ} (hQ : IsReal2 (m ((c : Thread nD τ).loc main_arg0)) Q) (hK : IsReal2 (m ((c : Thread nD τ).loc main_arg1)) K)
    (hV : IsReal (m ((c : Thread nD τ).loc main_arg2)) Vv) : (show FVec Ideal S4096x1024 .f32 from V m c main_v37) = resO Q K Vv :=
  (o_eq m c).trans (MlaRef.ref_o hQ hK hV)

theorem l_real {Q K : ℕ → ℕ → ℝ} (hQ : IsReal2 (m ((c : Thread nD τ).loc main_arg0)) Q) (hK : IsReal2 (m ((c : Thread nD τ).loc main_arg1)) K) :
    (show FVec Ideal S4096x1024 .f32 from V m c main_v40) = resL Q K :=
  (l_eq m c).trans (MlaRef.ref_l hQ hK)

end Cert.MlaBwd

end
-- ==== Proof.MlaGradRun.lean ====
/- The attention's gradient as a region: what every window's buffer holds after each grid point, the body's obligation from the
   three runs of `MlaGradBody`, the region's run, and the two programs' frames. -/
module

public import proofs.«01_k».proof.Proof.MlaGradBody
public import proofs.«01_k».proof.Proof.Gen.KernelMlaBwdIdeal.Frame
public import proofs.«01_k».proof.Proof.Gen.KernelMlaBwd.Launch
public import proofs.«01_k».proof.Defs
public import Idealize.ShloMosaic.Lib.Claim

@[expose] public section

set_option maxRecDepth 16384

noncomputable section

namespace Cert.MlaBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelMlaBwdIdeal Cert.KernelMlaBwdIdeal.Gen

variable {F : FTy → Type} [FloatOps F] [Named F]

local notation "𝕄" => MT nD τ sig Unit (Elt F) ℕ (UR sig nD τ) ℕ

/-- What an accumulator holds when query block `n` starts adding: zero at the head's first block, else what was there. -/
def start {s : Shape} (z : Vec F s .f32) (n : ℕ) (d : Vec F s .f32) : Vec F s .f32 := if n = 0 then z else d

/-- The body at any grid point. -/
theorem run_point (c : Dev nD) (i : grid0.Coords) (arg2 : Memref sig .tc .vmem S512x256 .bf16) (harg2 : arg2.IsWhole) (arg3 : Memref sig .tc .vmem S4096x256 .bf16) (harg3 : arg3.IsWhole) (arg4 : Memref sig .tc .vmem S4096x128 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x256 .f32) (harg8 : arg8.IsWhole) (arg9 : Memref sig .tc .vmem S4096x256 .f32) (harg9 : arg9.IsWhole) (arg10 : Memref sig .tc .vmem S4096x128 .f32) (harg10 : arg10.IsWhole) (arg11 : Memref sig .tc .vmem S512x256 .f32) (harg11 : arg11.IsWhole)
    (x0 : Vec F S512x256 .bf16) (x1 : Vec F S4096x256 .bf16) (x2 : Vec F S4096x128 .bf16) (x3 x4 x5 : Vec F S512x128 .f32)
    (d7 : Vec F S4096x256 .f32) (d8 : Vec F S4096x128 .f32) :
    Runs c i arg2 harg2 arg3 harg3 arg4 harg4 arg5 harg5 arg6 harg6 arg7 harg7 arg8 harg8 arg9 harg9 arg10 harg10 arg11 harg11 x0 x1 x2 x3 x4 x5 d7 d8 (start k0_pay34 (i 1).val d7) (start k0_pay35 (i 1).val d8) := by
  by_cases h0 : (i 1).val = 0
  · rw [start, start, if_pos h0, if_pos h0]
    exact run_first c i arg2 harg2 arg3 harg3 arg4 harg4 arg5 harg5 arg6 harg6 arg7 harg7 arg8 harg8 arg9 harg9 arg10 harg10 arg11 harg11 x0 x1 x2 x3 x4 x5 d7 d8 ((cond1_iff i).mpr h0) (fun h => by have := (cond2_iff i).mp h; omega)
  · rw [start, start, if_neg h0, if_neg h0]
    by_cases h2 : k0_cond2 i = 1#1
    · exact run_odd c i arg2 harg2 arg3 harg3 arg4 harg4 arg5 harg5 arg6 harg6 arg7 harg7 arg8 harg8 arg9 harg9 arg10 harg10 arg11 harg11 x0 x1 x2 x3 x4 x5 d7 d8 (fun h => h0 ((cond1_iff i).mp h)) h2
    · exact run_even c i arg2 harg2 arg3 harg3 arg4 harg4 arg5 harg5 arg6 harg6 arg7 harg7 arg8 harg8 arg9 harg9 arg10 harg10 arg11 harg11 x0 x1 x2 x3 x4 x5 d7 d8 (fun h => h0 ((cond1_iff i).mp h)) h2

variable (m : (ℓ : Loc nD τ sig) → Buf (Elt F) ℓ) (ρ : Dev nD → PrngReg)

/-! ## What the outputs hold, point by point -/

/-- What the query block of point `t` brings. -/
def rowAt (c : Dev nD) (t : Fin cfg0.N) : Row F := row (iblk m c 0 t) (iblk m c 3 t) (iblk m c 4 t) (iblk m c 5 t)

/-- The queries' gradient after point `t`. -/
def dqAt (c : Dev nD) (t : Fin cfg0.N) : Vec F S512x256 .f32 :=
  pointDQ (t.val % 8) (rowAt m c t) (iblk m c 1 t) (iblk m c 2 t)

/-- The keys' gradient after point `t`: from zero at a head's first query block, else from the point before. -/
def dkAt (c : Dev nD) : (n : ℕ) → n < cfg0.N → Vec F S4096x256 .f32
  | 0, h => pointDK 0 (rowAt m c ⟨0, h⟩) (iblk m c 1 ⟨0, h⟩) (iblk m c 2 ⟨0, h⟩) k0_pay34
  | n + 1, h => pointDK ((n + 1) % 8) (rowAt m c ⟨n + 1, h⟩) (iblk m c 1 ⟨n + 1, h⟩) (iblk m c 2 ⟨n + 1, h⟩)
      (start k0_pay34 ((n + 1) % 8) (dkAt c n (Nat.lt_of_succ_lt h)))

/-- The values' gradient after point `t`, likewise. -/
def dvAt (c : Dev nD) : (n : ℕ) → n < cfg0.N → Vec F S4096x128 .f32
  | 0, h => pointDV 0 (rowAt m c ⟨0, h⟩) (iblk m c 1 ⟨0, h⟩) k0_pay35
  | n + 1, h => pointDV ((n + 1) % 8) (rowAt m c ⟨n + 1, h⟩) (iblk m c 1 ⟨n + 1, h⟩)
      (start k0_pay35 ((n + 1) % 8) (dvAt c n (Nat.lt_of_succ_lt h)))

/-- The region's proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dqAt m c t
    | ⟨7, _⟩ => dkAt m c t.val t.isLt
    | ⟨8, _⟩ => dvAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

section
variable (c : Dev nD) (t : Fin cfg0.N)

theorem after0_0 : (dats m 0 c).after 0 t = iblk m c 0 t := by dsimp only [dats]
theorem after0_1 : (dats m 0 c).after 1 t = iblk m c 1 t := by dsimp only [dats]
theorem after0_2 : (dats m 0 c).after 2 t = iblk m c 2 t := by dsimp only [dats]
theorem after0_3 : (dats m 0 c).after 3 t = iblk m c 3 t := by dsimp only [dats]
theorem after0_4 : (dats m 0 c).after 4 t = iblk m c 4 t := by dsimp only [dats]
theorem after0_5 : (dats m 0 c).after 5 t = iblk m c 5 t := by dsimp only [dats]
theorem after0_6 : (dats m 0 c).after 6 t = dqAt m c t := by dsimp only [dats]
theorem after0_7 : (dats m 0 c).after 7 t = dkAt m c t.val t.isLt := by dsimp only [dats]
theorem after0_8 : (dats m 0 c).after 8 t = dvAt m c t.val t.isLt := by dsimp only [dats]

theorem before0_0 (d) : (dats m 0 c).before 0 t d = iblk m c 0 t :=
  before0_0_of m (dats m 0 c) (A_eq m c 0) (after0_0 m c) t d
theorem before0_1 (d) : (dats m 0 c).before 1 t d = iblk m c 1 t :=
  before0_1_of m (dats m 0 c) (A_eq m c 1) (after0_1 m c) t d
theorem before0_2 (d) : (dats m 0 c).before 2 t d = iblk m c 2 t :=
  before0_2_of m (dats m 0 c) (A_eq m c 2) (after0_2 m c) t d
theorem before0_3 (d) : (dats m 0 c).before 3 t d = iblk m c 3 t :=
  before0_3_of m (dats m 0 c) (A_eq m c 3) (after0_3 m c) t d
theorem before0_4 (d) : (dats m 0 c).before 4 t d = iblk m c 4 t :=
  before0_4_of m (dats m 0 c) (A_eq m c 4) (after0_4 m c) t d
theorem before0_5 (d) : (dats m 0 c).before 5 t d = iblk m c 5 t :=
  before0_5_of m (dats m 0 c) (A_eq m c 5) (after0_5 m c) t d

/-- The query block of point `t`. -/
theorem coord1 : (grid0.coords t 1).val = t.val % 8 := by
  have e : (grid0.coords t 1).val = t.val / 1 % 8 := Pipeline.Grid.coords_val t 1 (by decide) rfl
  rw [e, Nat.div_one]

/-- The keys' gradient after a point is one body's work on what the buffer held before it. -/
theorem after7_step (d) : (dats m 0 c).after 7 t
    = pointDK (t.val % 8) (rowAt m c t) (iblk m c 1 t) (iblk m c 2 t) (start k0_pay34 (t.val % 8) ((dats m 0 c).before 7 t d)) := by
  rw [after0_7]
  obtain ⟨n, h⟩ := t
  cases n with
  | zero => rfl
  | succ n =>
    by_cases h0 : (n + 1) % 8 = 0
    · show pointDK _ _ _ _ (start _ ((n + 1) % 8) _) = pointDK _ _ _ _ (start _ ((n + 1) % 8) _)
      unfold start; rw [if_pos h0, if_pos h0]
    · rw [(dats m 0 c).before_out_kept 7 (by rfl) ⟨n + 1, h⟩ (Nat.succ_ne_zero n)
        (Bool.eq_false_iff.mpr fun hf => by have := (flush0_7 _).mp hf; simp only [Nat.add_sub_cancel] at this; omega)
        (fun _ => by rfl) (fun _ _ => by rfl) d, after0_7]
      rfl

/-- The values' gradient likewise. -/
theorem after8_step (d) : (dats m 0 c).after 8 t
    = pointDV (t.val % 8) (rowAt m c t) (iblk m c 1 t) (start k0_pay35 (t.val % 8) ((dats m 0 c).before 8 t d)) := by
  rw [after0_8]
  obtain ⟨n, h⟩ := t
  cases n with
  | zero => rfl
  | succ n =>
    by_cases h0 : (n + 1) % 8 = 0
    · show pointDV _ _ _ (start _ ((n + 1) % 8) _) = pointDV _ _ _ (start _ ((n + 1) % 8) _)
      unfold start; rw [if_pos h0, if_pos h0]
    · rw [(dats m 0 c).before_out_kept 8 (by rfl) ⟨n + 1, h⟩ (Nat.succ_ne_zero n)
        (Bool.eq_false_iff.mpr fun hf => by have := (flush0_8 _).mp hf; simp only [Nat.add_sub_cancel] at this; omega)
        (fun _ => by rfl) (fun _ _ => by rfl) d, after0_8]
      rfl
end

/-! ## The body's obligation -/

/-- The scratch buffer as a memref. -/
abbrev scM : Memref sig .tc .vmem S512x256 .f32 := Memref.whole cc0_scratch0

theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [after7_step m c t d7, after8_step m c t d8, dqAt, rowAt, ← coord1 t]
  iapply ((run_point c (grid0.coords t) _ _ _ _ _ _ _ _ _ _ _ _ _ _ _ _ _ _ _ _ (iblk m c 0 t) (iblk m c 1 t) (iblk m c 2 t) (iblk m c 3 t) (iblk m c 4 t) (iblk m c 5 t) ((dats m 0 c).before 7 t d7) ((dats m 0 c).before 8 t d8)) Set.univ _)
  unfold ins
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H6]; · iexists _; iexact H6
  isplitl [H7]; · iexact H7
  isplitl [H8]; · iexact H8
  isplitl [HS0]; · iexact HS0
  iintro ⟨⟨H0, H1, H2, H3, H4, H5⟩, H6, H7, H8, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frames -/

set_option backward.isDefEq.respectTransparency.types false in
/-- The launch: the region's arrays end as the proof data says, and every counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame of the kernel's program, at any float type. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

/-! ## The kernel's own program

It is the same text but for the mask's number: read at words, where a named constant is its number, the two are equal. -/

/-- A named constant as its number. -/
local instance : Named Bits := ⟨fun _ _ {φ} bits => Scalar.ofBits φ bits⟩

set_option maxHeartbeats 4000000

theorem same_body (i a2 h2 a3 h3 a4 h4 a5 h5 a6 h6 a7 h7 a8 h8 a9 h9 a10 h10 a11 h11) :
    Cert.KernelMlaBwd.cc0_mla_bwd (F := Bits) i a2 h2 a3 h3 a4 h4 a5 h5 a6 h6 a7 h7 a8 h8 a9 h9 a10 h10 a11 h11
      = cc0_mla_bwd (F := Bits) i a2 h2 a3 h3 a4 h4 a5 h5 a6 h6 a7 h7 a8 h8 a9 h9 a10 h10 a11 h11 := rfl

theorem same_defs₀ : Cert.KernelMlaBwd.defs₀ (F := Bits) = defs₀ (F := Bits) := by
  unfold Cert.KernelMlaBwd.defs₀ Cert.KernelMlaBwdIdeal.defs₀
  congr 1
  funext l x
  match l, x with
  | 0, (t, s) => exact same_body ..

theorem same_defs : Cert.KernelMlaBwd.defs (F := Bits) = defs (F := Bits) := by
  unfold Cert.KernelMlaBwd.defs Cert.KernelMlaBwdIdeal.defs
  rw [same_defs₀]
  rfl

theorem same_ops : Cert.KernelMlaBwd.Gen.hostOps0 (F := Bits) = hostOps0 (F := Bits) := rfl
theorem same_ops_1 : Cert.KernelMlaBwd.Gen.hostOps0_1 (F := Bits) = hostOps0_1 (F := Bits) := rfl
theorem same_ops_2 : Cert.KernelMlaBwd.Gen.hostOps0_2 (F := Bits) = hostOps0_2 (F := Bits) := rfl
theorem same_ops_3 : Cert.KernelMlaBwd.Gen.hostOps0_3 (F := Bits) = hostOps0_3 (F := Bits) := rfl
theorem same_ops_4 : Cert.KernelMlaBwd.Gen.hostOps0_4 (F := Bits) = hostOps0_4 (F := Bits) := rfl

theorem same_main : Cert.KernelMlaBwd.main (F := Bits) = main (F := Bits) := by
  funext c
  rw [Cert.KernelMlaBwd.Gen.main_chain, main_chain, same_ops, same_ops_1, same_ops_2, same_ops_3, same_ops_4]
  rfl

/-- The kernel's own frame. -/
theorem frame_kernel : Cert.quiescent_KernelMlaBwd := fun m ρ _ => by
  rw [same_main, same_defs]
  exact frame_main (F := Bits) m ρ

end Cert.MlaBwd

end
-- ==== Proof.MlaGradValue.lean ====
/- What the attention's gradient call leaves in its three results on real arguments: head by head the plain sums of
   `MlaGradSums`. -/
module

public import proofs.«01_k».proof.Proof.MlaGradSums
public import proofs.«01_k».proof.Proof.MlaGradHost
public import proofs.«01_k».proof.Proof.MlaGradRun

@[expose] public section

set_option maxRecDepth 16384

noncomputable section

namespace Cert.MlaBwd

open Idealize.ShloMosaic Idealize.ShloMosaic.TcCoe Idealize.ShloMosaic.Tactic
open Idealize.ShloMosaic.Pipeline (Dat)
open Cert.KernelMlaBwdIdeal Cert.KernelMlaBwdIdeal.Gen
open Finset (range)
open Cert.RetBwd (hd IsReal IsBlk IsArr sum_fin')
open Cert.Mla (IsReal2 vOne resO resL resO_of resL_of Num Den)

/-- The cotangent's array holds the real numbers `X`. -/
def IsReal32 (x : FVec Ideal S4096x1024 .f32) (X : ℕ → ℕ → ℝ) : Prop :=
  ∀ (n : Fin 4096) (j : Fin 1024), (x (ix2 n j) : EReal) = ((X n.val j.val : ℝ) : EReal)

/-- Head `h`'s scores' cotangent and probabilities. -/
def dsH (Q K V G : ℕ → ℕ → ℝ) (h : ℕ) : ℕ → ℕ → ℝ := DS (hd h Q) (hd h K) (vOne h G) (vOne h V)
def pH (Q K : ℕ → ℕ → ℝ) (h : ℕ) : ℕ → ℕ → ℝ := P (hd h Q) (hd h K)

/-- The three results. -/
def outDQ (Q K V G : ℕ → ℕ → ℝ) : FVec Ideal S4096x2048 .f32 := fun y =>
  ((overK (dsH Q K V G ((y 1).val / 256)) (hd ((y 1).val / 256) K) (y 0).val ((y 1).val % 256) : ℝ) : EReal)
def outDK (Q K V G : ℕ → ℕ → ℝ) : FVec Ideal S4096x2048 .f32 := fun y =>
  ((overQ (dsH Q K V G ((y 1).val / 256)) (hd ((y 1).val / 256) Q) (y 0).val ((y 1).val % 256) : ℝ) : EReal)
def outDV (Q K G : ℕ → ℕ → ℝ) : FVec Ideal S4096x1024 .f32 := fun y =>
  ((overQ (pH Q K ((y 1).val / 128)) (vOne ((y 1).val / 128) G) (y 0).val ((y 1).val % 128) : ℝ) : EReal)

section
variable {Q K V G : ℕ → ℕ → ℝ}

theorem outDQ_of (z : S4096x2048.Idx) (h r e : ℕ) (h0 : (z 0).val = r) (h1 : (z 1).val = 256 * h + e) (he : e < 256) :
    outDQ Q K V G z = ((overK (dsH Q K V G h) (hd h K) r e : ℝ) : EReal) := by
  unfold outDQ
  rw [h0, h1, show (256 * h + e) / 256 = h by omega, show (256 * h + e) % 256 = e by omega]

theorem outDK_of (z : S4096x2048.Idx) (h r e : ℕ) (h0 : (z 0).val = r) (h1 : (z 1).val = 256 * h + e) (he : e < 256) :
    outDK Q K V G z = ((overQ (dsH Q K V G h) (hd h Q) r e : ℝ) : EReal) := by
  unfold outDK
  rw [h0, h1, show (256 * h + e) / 256 = h by omega, show (256 * h + e) % 256 = e by omega]

theorem outDV_of (z : S4096x1024.Idx) (h r e : ℕ) (h0 : (z 0).val = r) (h1 : (z 1).val = 128 * h + e) (he : e < 128) :
    outDV Q K G z = ((overQ (pH Q K h) (vOne h G) r e : ℝ) : EReal) := by
  unfold outDV
  rw [h0, h1, show (128 * h + e) / 128 = h by omega, show (128 * h + e) % 128 = e by omega]
end

/-! ## The row data's entries -/

theorem pay37_apply (g o : Vec Ideal S512x128 .f32) (a : Fin 512) :
    k0_pay37 (F := Ideal) g o (ix2 a 0) = ∑ e : Fin 128, (g (ix2 a e) : EReal) * o (ix2 a e) := by
  pointwise [k0_pay37]

theorem pay38_of (l : Vec Ideal S512x128 .f32) (a b : Fin 512) (x : EReal) (h : ∀ e, l (ix2 a e) = x) : k0_pay38 (F := Ideal) l (ix2 a b) = x := by
  pointwise [k0_pay38]
  simp only [h, dite_eq_ite, ite_self]

theorem idx : ∀ t : Fin cfg0.N, win0_0.index t = ![t.val % 8, t.val / 8] ∧ win0_1.index t = ![0, t.val / 8] ∧ win0_2.index t = ![0, 2 * (t.val / 8)]
    ∧ win0_3.index t = ![t.val % 8, t.val / 8] ∧ win0_4.index t = ![t.val % 8, t.val / 8] ∧ win0_5.index t = ![t.val % 8, t.val / 8]
    ∧ win0_6.index t = ![t.val % 8, t.val / 8] ∧ win0_7.index t = ![0, t.val / 8] ∧ win0_8.index t = ![0, t.val / 8] :=
  (by decide +kernel : ∀ t : Fin grid0.N, _)

theorem head_lt (t : Fin cfg0.N) : t.val / 8 < 8 := by
  have h : t.val < 64 := lt_of_lt_of_eq t.isLt N_0
  omega

variable (m : (ℓ : Loc nD τ sig) → Buf (Elt Ideal) ℓ)

section
variable (c : Dev nD) (t : Fin cfg0.N)

theorem q_at (a : Fin 512) (d : Fin 256) (h0 : 512 * (t.val % 8) + a.val < 4096) (h1 : 256 * (t.val / 8) + d.val < 2048) :
    (iblk m c 0 t : Vec Ideal S512x256 .bf16) (ix2 a d)
      = (show Vec Ideal S4096x2048 .bf16 from V m c main_arg0) (ix2 ⟨512 * (t.val % 8) + a.val, h0⟩ ⟨256 * (t.val / 8) + d.val, h1⟩) := by
  blk_ext [iblk, idx t]

theorem k_at (a : Fin 4096) (d : Fin 256) (h1 : 256 * (t.val / 8) + d.val < 2048) :
    (iblk m c 1 t : Vec Ideal S4096x256 .bf16) (ix2 a d)
      = (show Vec Ideal S4096x2048 .bf16 from V m c main_arg1) (ix2 a ⟨256 * (t.val / 8) + d.val, h1⟩) := by
  blk_ext [iblk, idx t]

theorem v_at (a : Fin 4096) (d : Fin 128) (h1 : 256 * (t.val / 8) + d.val < 2048) :
    (iblk m c 2 t : Vec Ideal S4096x128 .bf16) (ix2 a d)
      = (show Vec Ideal S4096x2048 .bf16 from V m c main_v44) (ix2 a ⟨256 * (t.val / 8) + d.val, h1⟩) := by
  blk_ext [iblk, idx t]

theorem g_at (a : Fin 512) (d : Fin 128) (h0 : 512 * (t.val % 8) + a.val < 4096) (h1 : 128 * (t.val / 8) + d.val < 1024) :
    (iblk m c 3 t : Vec Ideal S512x128 .f32) (ix2 a d)
      = (show Vec Ideal S4096x1024 .f32 from V m c main_arg3) (ix2 ⟨512 * (t.val % 8) + a.val, h0⟩ ⟨128 * (t.val / 8) + d.val, h1⟩) := by
  blk_ext [iblk, idx t]

theorem read4 (X : Vec Ideal S4096x1024 .f32) (a : Fin 512) (d : Fin 128) (h0 : 512 * (t.val % 8) + a.val < 4096) (h1 : 128 * (t.val / 8) + d.val < 1024) :
    (((cfg0.win 4).blk t).view.read (Elt Ideal) X : Vec Ideal S512x128 .f32) (ix2 a d) = X (ix2 ⟨512 * (t.val % 8) + a.val, h0⟩ ⟨128 * (t.val / 8) + d.val, h1⟩) := by
  blk_ext [idx t]

theorem read5 (X : Vec Ideal S4096x1024 .f32) (a : Fin 512) (d : Fin 128) (h0 : 512 * (t.val % 8) + a.val < 4096) (h1 : 128 * (t.val / 8) + d.val < 1024) :
    (((cfg0.win 5).blk t).view.read (Elt Ideal) X : Vec Ideal S512x128 .f32) (ix2 a d) = X (ix2 ⟨512 * (t.val % 8) + a.val, h0⟩ ⟨128 * (t.val / 8) + d.val, h1⟩) := by
  blk_ext [idx t]

variable {Q K Vv G : ℕ → ℕ → ℝ} (hQ : IsReal2 (m ((c : Thread nD τ).loc main_arg0)) Q) (hK : IsReal2 (m ((c : Thread nD τ).loc main_arg1)) K)
  (hV : IsReal (m ((c : Thread nD τ).loc main_arg2)) Vv) (hG : IsReal32 (m ((c : Thread nD τ).loc main_arg3)) G)

include hK in
theorem k_arr : IsArr (iblk m c 1 t) (hd (t.val / 8) K) := fun a d => by
  have := head_lt t
  refine (k_at m c t a d (by omega)).trans ?_
  rw [V_main_arg1]
  exact hK a ⟨_, by omega⟩

include hV in
theorem v_arr : IsArrV (iblk m c 2 t) (vOne (t.val / 8) Vv) := fun a d => by
  have := head_lt t
  refine (v_at m c t a d (by omega)).trans ((v44_apply m c a ⟨t.val / 8, head_lt t⟩ d).trans ?_)
  unfold vOne
  rw [if_pos d.isLt]
  exact hV a ⟨_, by omega⟩

include hG in
theorem g_real (a : Fin 512) (e : Fin 128) : ((iblk m c 3 t : Vec Ideal S512x128 .f32) (ix2 a e) : EReal)
    = ((vOne (t.val / 8) G (512 * (t.val % 8) + a.val) e.val : ℝ) : EReal) := by
  have := head_lt t
  refine (g_at m c t a e (by omega) (by omega)).trans ?_
  rw [V_main_arg3]
  unfold vOne
  rw [if_pos e.isLt]
  exact hG ⟨_, by omega⟩ ⟨_, by omega⟩

include hQ hK hV hG in
theorem row_real : IsRow (rowAt m c t) (t.val % 8) (hd (t.val / 8) Q) (hd (t.val / 8) K) (vOne (t.val / 8) G) (vOne (t.val / 8) Vv) := by
  have := head_lt t
  refine ⟨fun a d => ?_, fun a e => g_real m c t hG a e, fun a => ?_, fun a b => ?_⟩
  · refine (q_at m c t a d (by omega) (by omega)).trans ?_
    rw [V_main_arg0]
    exact hQ ⟨_, by omega⟩ ⟨_, by omega⟩
  · refine (pay37_apply _ _ a).trans (sum_fin' 128 _ (fun e => vOne (t.val / 8) G (512 * (t.val % 8) + a.val) e
      * (Num (hd (t.val / 8) Q) (hd (t.val / 8) K) (vOne (t.val / 8) Vv) (512 * (t.val % 8) + a.val) e / Den (hd (t.val / 8) Q) (hd (t.val / 8) K) (512 * (t.val % 8) + a.val))) fun e => ?_)
    rw [EReal.coe_mul]
    refine congrArg₂ _ (g_real m c t hG a e) ((read4 t (V m c main_v37) a e (by omega) (by omega)).trans ?_)
    exact (congrFun (o_real m c hQ hK hV) _).trans (resO_of _ _ _ _ rfl rfl e.isLt)
  · refine pay38_of _ a b _ fun e => (read5 t (V m c main_v40) a e (by omega) (by omega)).trans ?_
    exact (congrFun (l_real m c hQ hK) _).trans (resL_of _ _ _ _ rfl rfl e.isLt)

theorem pay34_apply (y : S4096x256.Idx) : (k0_pay34 (F := Ideal) y : EReal) = 0 := by pointwise [k0_pay34]
theorem pay35_apply (y : S4096x128.Idx) : (k0_pay35 (F := Ideal) y : EReal) = 0 := by pointwise [k0_pay35]

include hQ hK hV hG in
/-- The accumulated gradients after a point: the sums of the query blocks of its head so far. -/
theorem acc_real (n : ℕ) (h : n < cfg0.N) :
    (∀ y, dkAt m c n h y = ((∑ i ∈ range (n % 8 + 1), partQ (dsH Q K Vv G (n / 8)) (hd (n / 8) Q) i (y 0).val (y 1).val : ℝ) : EReal))
    ∧ ∀ y, dvAt m c n h y = ((∑ i ∈ range (n % 8 + 1), partQ (pH Q K (n / 8)) (vOne (n / 8) G) i (y 0).val (y 1).val : ℝ) : EReal) := by
  induction n with
  | zero =>
    have hr := row_real m c ⟨0, h⟩ hQ hK hV hG
    constructor <;> intro y
    · refine (pointDK_real (Nat.mod_lt _ (by decide)) hr (k_arr m c ⟨0, h⟩ hK) (v_arr m c ⟨0, h⟩ hV) _ y).trans ?_
      rw [pay34_apply, zero_add, Finset.sum_range_one]; rfl
    · refine (pointDV_real (Nat.mod_lt _ (by decide)) hr (k_arr m c ⟨0, h⟩ hK) _ y).trans ?_
      rw [pay35_apply, zero_add, Finset.sum_range_one]; rfl
  | succ n ih =>
    have hr := row_real m c ⟨n + 1, h⟩ hQ hK hV hG
    have ih := ih (Nat.lt_of_succ_lt h)
    constructor <;> intro y
    · refine (pointDK_real (by omega) hr (k_arr m c ⟨n + 1, h⟩ hK) (v_arr m c ⟨n + 1, h⟩ hV) _ y).trans ?_
      rw [Finset.sum_range_succ, EReal.coe_add]
      congr 1
      unfold start
      by_cases h0 : (n + 1) % 8 = 0
      · rw [if_pos h0, pay34_apply, h0, Finset.sum_range_zero, EReal.coe_zero]
      · rw [if_neg h0, ih.1, show n % 8 + 1 = (n + 1) % 8 by omega, show n / 8 = (n + 1) / 8 by omega]
    · refine (pointDV_real (by omega) hr (k_arr m c ⟨n + 1, h⟩ hK) _ y).trans ?_
      rw [Finset.sum_range_succ, EReal.coe_add]
      congr 1
      unfold start
      by_cases h0 : (n + 1) % 8 = 0
      · rw [if_pos h0, pay35_apply, h0, Finset.sum_range_zero, EReal.coe_zero]
      · rw [if_neg h0, ih.2, show n % 8 + 1 = (n + 1) % 8 by omega, show n / 8 = (n + 1) / 8 by omega]

theorem emb6 (y : S512x256.Idx) : (((cfg0.win 6).blk t).view.emb y 0 : ℕ) = 512 * (t.val % 8) + (y 0).val
    ∧ (((cfg0.win 6).blk t).view.emb y 1 : ℕ) = 256 * (t.val / 8) + (y 1).val := by
  constructor
  · blk_simp [idx t]; simp; ring
  · blk_simp [idx t]; simp; ring

theorem emb7 (y : S4096x256.Idx) : (((cfg0.win 7).blk t).view.emb y 0 : ℕ) = (y 0).val
    ∧ (((cfg0.win 7).blk t).view.emb y 1 : ℕ) = 256 * (t.val / 8) + (y 1).val := by
  constructor
  · blk_simp [idx t]
  · blk_simp [idx t]; simp; ring

theorem emb8 (y : S4096x128.Idx) : (((cfg0.win 8).blk t).view.emb y 0 : ℕ) = (y 0).val
    ∧ (((cfg0.win 8).blk t).view.emb y 1 : ℕ) = 128 * (t.val / 8) + (y 1).val := by
  constructor
  · blk_simp [idx t]
  · blk_simp [idx t]; simp; ring
end

section
variable (c : Dev nD) {Q K Vv G : ℕ → ℕ → ℝ} (hQ : IsReal2 (m ((c : Thread nD τ).loc main_arg0)) Q) (hK : IsReal2 (m ((c : Thread nD τ).loc main_arg1)) K)
  (hV : IsReal (m ((c : Thread nD τ).loc main_arg2)) Vv) (hG : IsReal32 (m ((c : Thread nD τ).loc main_arg3)) G)
include hQ hK hV hG

/-! ## The results after the launch -/

theorem final6 : (dats m 0 c).arrAt 6 (cfgs 0).N = outDQ Q K Vv G := by
  refine (dats m 0 c).arrAt_eq_of_covers 6 _ (by decide +kernel) fun t _ y => ?_
  have e := outDQ_of (Q := Q) (K := K) (V := Vv) (G := G) _ _ _ _ (emb6 t y).1 (emb6 t y).2 (y 1).isLt
  have p := pointDQ_real (by omega) (row_real m c t hQ hK hV hG) (k_arr m c t hK) (v_arr m c t hV) y
  blk_simp
  rw [after0_6]
  exact p.trans e.symm

theorem final7 : (dats m 0 c).arrAt 7 (cfgs 0).N = outDK Q K Vv G := by
  refine (dats m 0 c).arrAt_eq_of_covers 7 _ (by decide +kernel) fun t hf y => ?_
  have e := outDK_of (Q := Q) (K := K) (V := Vv) (G := G) _ _ _ _ (emb7 t y).1 (emb7 t y).2 (y 1).isLt
  have p := (acc_real m c hQ hK hV hG t.val t.isLt).1 y
  rw [show t.val % 8 + 1 = 8 by have := (flush0_7 t).mp hf; omega, sum_partQ] at p
  blk_simp
  rw [after0_7]
  exact p.trans e.symm

theorem final8 : (dats m 0 c).arrAt 8 (cfgs 0).N = outDV Q K G := by
  refine (dats m 0 c).arrAt_eq_of_covers 8 _ (by decide +kernel) fun t hf y => ?_
  have e := outDV_of (Q := Q) (K := K) (G := G) _ _ _ _ (emb8 t y).1 (emb8 t y).2 (y 1).isLt
  have p := (acc_real m c hQ hK hV hG t.val t.isLt).2 y
  rw [show t.val % 8 + 1 = 8 by have := (flush0_8 t).mp hf; omega, sum_partQ] at p
  blk_simp
  rw [after0_8]
  exact p.trans e.symm
end

/-- The run: the results, and the arguments unchanged. -/
theorem run_values (ρ : Dev nD → PrngReg) (Q K Vv G : Dev nD → ℕ → ℕ → ℝ)
    (hQ : ∀ c : Dev nD, IsReal2 (m ((c.tc : Thread nD τ).loc main_arg0)) (Q c)) (hK : ∀ c : Dev nD, IsReal2 (m ((c.tc : Thread nD τ).loc main_arg1)) (K c))
    (hV : ∀ c : Dev nD, IsReal (m ((c.tc : Thread nD τ).loc main_arg2)) (Vv c)) (hG : ∀ c : Dev nD, IsReal32 (m ((c.tc : Thread nD τ).loc main_arg3)) (G c)) :
    θ_run defs (onTc (τ := τ) (main (F := Ideal))) ⟨m, fun _ => 0, ρ⟩ (fun r => ∀ c : Dev nD,
      r.2.mem ((c.tc : Thread nD τ).loc main_v45_0) = outDQ (Q c) (K c) (Vv c) (G c)
      ∧ r.2.mem ((c.tc : Thread nD τ).loc main_v45_1) = outDK (Q c) (K c) (Vv c) (G c)
      ∧ r.2.mem ((c.tc : Thread nD τ).loc main_v45_2) = outDV (Q c) (K c) (G c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1 c).1 6).trans (final6 m c (hQ c) (hK c) (hV c) (hG c)), ((h.1 c).1 7).trans (final7 m c (hQ c) (hK c) (hV c) (hG c)),
      ((h.1 c).1 8).trans (final8 m c (hQ c) (hK c) (hV c) (hG c)), h.2 c⟩)
    (θ_run_and (run_main m ρ) (frame_of m ρ (dats m) (A_eq m) (run_main m ρ)))

end Cert.MlaBwd

end
-- ==== Proof.MlaGradRef.lean ====
/- The reference of the attention's gradient over the extended reals: its three results from the exponentials of the scores
   less the row maximum, and their entries on real arguments. -/
module

public import proofs.«01_k».proof.Proof.MlaRef
public import proofs.«01_k».proof.Proof.MlaGradValue
public import proofs.«01_k».proof.Proof.Gen.ReferenceMlaBwdIdeal.Run

@[expose] public section

set_option maxRecDepth 16384

noncomputable section

namespace Cert.MlaBwdRef

open Idealize.ShloMosaic Idealize.ShloMosaic.TcCoe Idealize.ShloMosaic.Tactic
open Cert.ReferenceMlaBwdIdeal Cert.ReferenceMlaBwdIdeal.Gen
open Cert.RetBwd (hd sum_fin' IsReal)
open Cert.Mla (E Num Den Den_pos IsReal2 vOne)
open Cert.MlaRef (chunks chunks_apply chunk_le masked rowMax rowSum along expLess rowSum_apply rowMax_real expLess_real rowSum_real split_col)
open Cert.MlaBwd (IsReal32 dotV P DS delta overK overQ dsH pH outDQ outDK outDV outDQ_of outDK_of outDV_of)
open Finset (range)

/-! ## The terms -/

def mask : IVec S8x4096x4096 1 :=
  broadcastInDim S8x4096x4096 ![0, 1, 2] bcast_S1x4096x4096_S8x4096x4096_0_1_2 (broadcastInDim S1x4096x4096 ![1, 2] bcast_S4096x4096_S1x4096x4096_1_2
    (cmpi .sge (broadcastInDim S4096x4096 ![0, 1] bcast_S4096x1_S4096x4096_0_1 (broadcastInDim S4096x1 ![0] bcast_S4096_S4096x1_0 chunks))
      (broadcastInDim S4096x4096 ![0, 1] bcast_S1x4096_S4096x4096_0_1 (broadcastInDim S1x4096 ![1] bcast_S4096_S1x4096_1 chunks))))

/-- The exponentials of the scores less their row maximum. -/
def wts (q k : FVec Ideal S4096x2048 .bf16) : FVec Ideal S8x4096x4096 .f32 :=
  expLess (masked q k) (maximumf (broadcastInDim S8x4096 ![] bcast_S_S8x4096 (constant S_ .f32 0xFF800000#32)) (rowMax (masked q k)))

/-- The cotangent, head by head, and the probabilities' cotangent. -/
def gT (g : FVec Ideal S4096x1024 .f32) : FVec Ideal S8x128x4096 .f32 :=
  transpose S8x128x4096 [1, 2, 0] (shapeCast _ g shapeCasts_S4096x1024_S4096x8x128) transposes_S4096x8x128_S8x128x4096_1_2_0
def dP (v : FVec Ideal S4096x1024 .bf16) (g : FVec Ideal S4096x1024 .f32) : FVec Ideal S8x4096x4096 .f32 :=
  Host.dotGeneral dot_S8x128x4096_S4096x8x128_S8x4096x4096_1_2_2_0_0_1 none (gT g)
    (shapeCast _ (extf .f32 v bitsLt_bf16_f32) shapeCasts_S4096x1024_S4096x8x128)

/-- `x e / r²`, the part of the quotient's cotangent that its denominator takes, and minus a sum over a row. -/
def part (x e : FVec Ideal S8x4096x4096 .f32) (r : FVec Ideal S8x4096 .f32) : FVec Ideal S8x4096x4096 .f32 :=
  mulf (mulf x (broadcastInDim S8x4096x4096 ![0, 1, 2] bcast_S8x4096x1_S8x4096x4096_0_1_2
    (Host.divf (broadcastInDim S8x4096x1 ![] bcast_S_S8x4096x1 (constant S_ .f32 0x3F800000#32))
      (mulf (broadcastInDim S8x4096x1 ![0, 1] bcast_S8x4096_S8x4096x1_0_1 r) (broadcastInDim S8x4096x1 ![0, 1] bcast_S8x4096_S8x4096x1_0_1 r))))) e
def minus (t : FVec Ideal S8x4096 .f32) : FVec Ideal S8x4096 .f32 :=
  Host.reduceAdd (Host.negf (shapeCast _ t shapeCasts_S8x4096_S8x4096x1)) (constant S_ .f32 0x00000000#32) reducesTo_S8x4096x1_S8x4096_d2 h_S_

/-- The scores' cotangent. -/
def cot (x e : FVec Ideal S8x4096x4096 .f32) : FVec Ideal S8x4096x4096 .f32 :=
  select mask (mulf (addf (Host.divf x (along (rowSum e)))
      (broadcastInDim S8x4096x4096 ![0, 1] bcast_S8x4096_S8x4096x4096_0_1 (minus (rowSum (part x e (rowSum e)))))) e)
    (broadcastInDim S8x4096x4096 ![] bcast_S_S8x4096x4096 (constant S_ .f32 0x00000000#32))

/-- The three results. -/
def dV (g : FVec Ideal S4096x1024 .f32) (e : FVec Ideal S8x4096x4096 .f32) : FVec Ideal S4096x1024 .f32 :=
  shapeCast _ (transpose S4096x8x128 [2, 0, 1] (Host.dotGeneral dot_S8x128x4096_S8x4096x4096_S8x128x4096_2_1_1_2_0_0 none (gT g)
    (Host.divf e (along (rowSum e)))) transposes_S8x128x4096_S4096x8x128_2_0_1) shapeCasts_S4096x8x128_S4096x1024
def dK (d : FVec Ideal S8x4096x4096 .f32) (q : FVec Ideal S4096x2048 .bf16) : FVec Ideal S4096x2048 .f32 :=
  shapeCast _ (transpose S4096x8x256 [1, 0, 2] (Host.dotGeneral dot_S8x4096x4096_S4096x8x256_S8x4096x256_1_0_2_2_0_1 none d
    (shapeCast _ (extf .f32 q bitsLt_bf16_f32) shapeCasts_S4096x2048_S4096x8x256)) transposes_S8x4096x256_S4096x8x256_1_0_2) shapeCasts_S4096x8x256_S4096x2048
def dQ (d : FVec Ideal S8x4096x4096 .f32) (k : FVec Ideal S4096x2048 .bf16) : FVec Ideal S4096x2048 .f32 :=
  shapeCast _ (transpose S4096x8x256 [1, 0, 2] (Host.dotGeneral dot_S8x4096x4096_S4096x8x256_S8x4096x256_2_0_1_2_0_1 none d
    (shapeCast _ (extf .f32 k bitsLt_bf16_f32) shapeCasts_S4096x2048_S4096x8x256)) transposes_S8x4096x256_S4096x8x256_1_0_2) shapeCasts_S4096x8x256_S4096x2048

section
variable (m : (ℓ : Loc nD τ sig) → Buf (Elt Ideal) ℓ) (c : Dev nD)

theorem res2_eq : Value.res_main_v85 m c = dV (m ((c.tc : Thread nD τ).loc main_arg3))
    (wts (m ((c.tc : Thread nD τ).loc main_arg0)) (m ((c.tc : Thread nD τ).loc main_arg1))) := rfl
theorem res1_eq : Value.res_main_v86 m c = dK (cot (dP (m ((c.tc : Thread nD τ).loc main_arg2)) (m ((c.tc : Thread nD τ).loc main_arg3)))
    (wts (m ((c.tc : Thread nD τ).loc main_arg0)) (m ((c.tc : Thread nD τ).loc main_arg1)))) (m ((c.tc : Thread nD τ).loc main_arg0)) := rfl
theorem res0_eq : Value.res_main_v87 m c = dQ (cot (dP (m ((c.tc : Thread nD τ).loc main_arg2)) (m ((c.tc : Thread nD τ).loc main_arg3)))
    (wts (m ((c.tc : Thread nD τ).loc main_arg0)) (m ((c.tc : Thread nD τ).loc main_arg1)))) (m ((c.tc : Thread nD τ).loc main_arg1)) := rfl
end

/-! ## Their entries -/

theorem dP_apply (v : FVec Ideal S4096x1024 .bf16) (g : FVec Ideal S4096x1024 .f32) (h : Fin 8) (p b : Fin 4096) : dP v g (ix3 h p b)
    = ∑ e : Fin 128, (g (ix2 p ⟨128 * h.val + e.val, by omega⟩) : EReal) * v (ix2 b ⟨128 * h.val + e.val, by omega⟩) := by
  pointwise [dP, gT]
  simp only [Nat.mul_comm h.val 128]

theorem part_apply (x e : FVec Ideal S8x4096x4096 .f32) (r : FVec Ideal S8x4096 .f32) (h : Fin 8) (p b : Fin 4096) : part x e r (ix3 h p b)
    = (x (ix3 h p b) : EReal) * Ideal.div 1 ((r (ix2 h p) : EReal) * r (ix2 h p)) * e (ix3 h p b) := by
  pointwise [part]

theorem minus_apply (t : FVec Ideal S8x4096 .f32) (h : Fin 8) (p : Fin 4096) : minus t (ix2 h p) = -(t (ix2 h p) : EReal) := by
  pointwise [minus]
  simp

theorem cot_apply (x e : FVec Ideal S8x4096x4096 .f32) (h : Fin 8) (p b : Fin 4096) : cot x e (ix3 h p b)
    = (if b.val / 64 ≤ p.val / 64 then (Ideal.div (x (ix3 h p b)) (rowSum e (ix2 h p)) + minus (rowSum (part x e (rowSum e))) (ix2 h p)) * (e (ix3 h p b) : EReal) else 0) := by
  pointwise [cot, mask, along]
  rw [chunks_apply, chunks_apply, chunk_le ⟨p.val / 64, by omega⟩ ⟨b.val / 64, by omega⟩]
  by_cases hc : b.val / 64 ≤ p.val / 64
  · simp only [if_pos hc]; rfl
  · simp only [if_neg hc]; rfl

theorem dV_apply (g : FVec Ideal S4096x1024 .f32) (w : FVec Ideal S8x4096x4096 .f32) (n : Fin 4096) (h : Fin 8) (j : Fin 128) :
    dV g w (ix2 n ⟨128 * h.val + j.val, by omega⟩)
      = ∑ p : Fin 4096, (g (ix2 p ⟨128 * h.val + j.val, by omega⟩) : EReal) * Ideal.div (w (ix3 h p n)) (rowSum w (ix2 h p)) := by
  pointwise [dV, gT, along]
  simp only [Nat.mul_comm h.val 128]

theorem dK_apply (d : FVec Ideal S8x4096x4096 .f32) (q : FVec Ideal S4096x2048 .bf16) (n : Fin 4096) (h : Fin 8) (j : Fin 256) :
    dK d q (ix2 n ⟨256 * h.val + j.val, by omega⟩) = ∑ p : Fin 4096, (d (ix3 h p n) : EReal) * q (ix2 p ⟨256 * h.val + j.val, by omega⟩) := by
  pointwise [dK]
  simp only [Nat.mul_comm h.val 256]

theorem dQ_apply (d : FVec Ideal S8x4096x4096 .f32) (k : FVec Ideal S4096x2048 .bf16) (n : Fin 4096) (h : Fin 8) (j : Fin 256) :
    dQ d k (ix2 n ⟨256 * h.val + j.val, by omega⟩) = ∑ b : Fin 4096, (d (ix3 h n b) : EReal) * k (ix2 b ⟨256 * h.val + j.val, by omega⟩) := by
  pointwise [dQ]
  simp only [Nat.mul_comm h.val 256]

/-! ## On real arguments -/

theorem delta_eq (Q K G V : ℕ → ℕ → ℝ) (p : ℕ) : delta Q K G V p = ∑ b ∈ range 4096, P Q K p b * dotV G V p b := by
  unfold delta P dotV Num
  simp only [Finset.sum_div, Finset.mul_sum]
  rw [Finset.sum_comm]
  exact Finset.sum_congr rfl fun b _ => Finset.sum_congr rfl fun e _ => by ring

section
variable {x e : FVec Ideal S8x4096x4096 .f32} {r : FVec Ideal S8x4096 .f32} {h : Fin 8} {p : Fin 4096}

/-- A row of `part`, summed, where the row holds `X` and the weights `w Y`, with sum `w D`. -/
theorem part_real (X Y : ℕ → ℝ) (w D : ℝ) (hw : 0 < w) (hD : 0 < D) (hx : ∀ b : Fin 4096, (x (ix3 h p b) : EReal) = (X b.val : EReal))
    (he : ∀ b : Fin 4096, (e (ix3 h p b) : EReal) = ((w * Y b.val : ℝ) : EReal)) (hr : (r (ix2 h p) : EReal) = ((w * D : ℝ) : EReal)) :
    (rowSum (part x e r) (ix2 h p) : EReal) = (((∑ b ∈ range 4096, Y b / D * X b) / (w * D) : ℝ) : EReal) := by
  have hz := mul_pos hw hD
  rw [rowSum_apply, sum_fin' 4096 _ (fun b => X b * (1 * (1 / (w * D * (w * D)))) * (w * Y b)) fun b => by
    rw [part_apply, hx, he, hr, ← EReal.coe_mul, Ideal.div_coe (mul_pos hz hz).ne', ← EReal.coe_one, ← EReal.coe_mul, ← EReal.coe_mul, ← EReal.coe_mul]]
  congr 1
  rw [Finset.sum_div]
  exact Finset.sum_congr rfl fun b _ => by field_simp

end

section
variable {q k : FVec Ideal S4096x2048 .bf16} {v : FVec Ideal S4096x1024 .bf16} {g : FVec Ideal S4096x1024 .f32} {Q K V G : ℕ → ℕ → ℝ}

theorem dP_real (hV : IsReal v V) (hG : IsReal32 g G) (h : Fin 8) (p b : Fin 4096) :
    (dP v g (ix3 h p b) : EReal) = ((dotV (vOne h.val G) (vOne h.val V) p.val b.val : ℝ) : EReal) := by
  rw [dP_apply]
  unfold dotV
  exact sum_fin' 128 _ (fun d => vOne h.val G p.val d * vOne h.val V b.val d) fun d => by
    rw [EReal.coe_mul, hG p ⟨128 * h.val + d.val, by omega⟩, hV b ⟨128 * h.val + d.val, by omega⟩]
    unfold vOne
    rw [if_pos d.isLt, if_pos d.isLt]

/-- A row of the weights: `w` times the exponentials, for a positive `w`. -/
theorem wts_real (hQ : IsReal2 q Q) (hK : IsReal2 k K) (h : Fin 8) (p : Fin 4096) : ∃ w : ℝ, 0 < w
    ∧ (∀ b : Fin 4096, (wts q k (ix3 h p b) : EReal) = ((w * E (hd h.val Q) (hd h.val K) p.val b.val : ℝ) : EReal))
    ∧ (rowSum (wts q k) (ix2 h p) : EReal) = ((w * Den (hd h.val Q) (hd h.val K) p.val : ℝ) : EReal) := by
  obtain ⟨M, hM⟩ := rowMax_real hQ hK h p
  have hf := (Cert.MlaRef.floor_apply (rowMax (masked q k)) (ix2 h p)).trans hM
  exact ⟨Real.exp (-M), Real.exp_pos _, fun b => expLess_real hQ hK _ h p b M hf, rowSum_real hQ hK _ h p M hf⟩

theorem cot_real (hQ : IsReal2 q Q) (hK : IsReal2 k K) (hV : IsReal v V) (hG : IsReal32 g G) (h : Fin 8) (p b : Fin 4096) :
    (cot (dP v g) (wts q k) (ix3 h p b) : EReal) = ((dsH Q K V G h.val p.val b.val : ℝ) : EReal) := by
  obtain ⟨w, hw, he, hr⟩ := wts_real hQ hK h p
  have hD := Den_pos (hd h.val Q) (hd h.val K) p.val p.isLt
  rw [cot_apply, minus_apply, part_real _ _ w _ hw hD (dP_real hV hG h p) he hr, he, hr, Ideal.div_coe (mul_pos hw hD).ne', dP_real hV hG]
  show _ = ((DS (hd h.val Q) (hd h.val K) (vOne h.val G) (vOne h.val V) p.val b.val : ℝ) : EReal)
  unfold DS
  rw [delta_eq]
  have hs : (∑ b ∈ range 4096, E (hd h.val Q) (hd h.val K) p.val b / Den (hd h.val Q) (hd h.val K) p.val * dotV (vOne h.val G) (vOne h.val V) p.val b)
      = ∑ b ∈ range 4096, P (hd h.val Q) (hd h.val K) p.val b * dotV (vOne h.val G) (vOne h.val V) p.val b := rfl
  rw [hs]
  generalize (∑ b ∈ range 4096, P (hd h.val Q) (hd h.val K) p.val b * dotV (vOne h.val G) (vOne h.val V) p.val b) = T
  generalize dotV (vOne h.val G) (vOne h.val V) p.val b.val = X
  unfold P
  by_cases hc : b.val / 64 ≤ p.val / 64
  · rw [if_pos hc, ← EReal.coe_mul, ← EReal.coe_neg, ← EReal.coe_add, ← EReal.coe_mul]
    congr 1
    field_simp
    try ring
  · rw [if_neg hc, show E (hd h.val Q) (hd h.val K) p.val b.val = 0 from if_neg hc, zero_div, zero_mul, EReal.coe_zero]

theorem split_col2 (y : S4096x2048.Idx) : ∃ (n : Fin 4096) (h : Fin 8) (j : Fin 256), y = ix2 n ⟨256 * h.val + j.val, by omega⟩ := by
  have h1 : (y 1).val < 2048 := (y 1).isLt
  refine ⟨y 0, ⟨(y 1).val / 256, by omega⟩, ⟨(y 1).val % 256, by omega⟩, (eq_ix2 y).trans (congrArg _ (Fin.ext ?_))⟩
  show (y 1).val = 256 * ((y 1).val / 256) + (y 1).val % 256
  omega

theorem ref_dq (hQ : IsReal2 q Q) (hK : IsReal2 k K) (hV : IsReal v V) (hG : IsReal32 g G) : dQ (cot (dP v g) (wts q k)) k = outDQ Q K V G := by
  funext y
  obtain ⟨n, h, j, rfl⟩ := split_col2 y
  refine (dQ_apply _ _ n h j).trans (Eq.trans ?_ (outDQ_of _ h.val n.val j.val rfl rfl j.isLt).symm)
  exact sum_fin' 4096 _ (fun b => dsH Q K V G h.val n.val b * hd h.val K b j.val) fun b => by
    rw [EReal.coe_mul, cot_real hQ hK hV hG]
    exact congrArg _ (hK b ⟨256 * h.val + j.val, by omega⟩)

theorem ref_dk (hQ : IsReal2 q Q) (hK : IsReal2 k K) (hV : IsReal v V) (hG : IsReal32 g G) : dK (cot (dP v g) (wts q k)) q = outDK Q K V G := by
  funext y
  obtain ⟨n, h, j, rfl⟩ := split_col2 y
  refine (dK_apply _ _ n h j).trans (Eq.trans ?_ (outDK_of _ h.val n.val j.val rfl rfl j.isLt).symm)
  exact sum_fin' 4096 _ (fun p => dsH Q K V G h.val p n.val * hd h.val Q p j.val) fun p => by
    rw [EReal.coe_mul, cot_real hQ hK hV hG]
    exact congrArg _ (hQ p ⟨256 * h.val + j.val, by omega⟩)

theorem ref_dv (hQ : IsReal2 q Q) (hK : IsReal2 k K) (hG : IsReal32 g G) : dV g (wts q k) = outDV Q K G := by
  funext y
  obtain ⟨n, h, j, rfl⟩ := split_col y
  refine (dV_apply _ _ n h j).trans (Eq.trans ?_ (outDV_of _ h.val n.val j.val rfl rfl j.isLt).symm)
  exact sum_fin' 4096 _ (fun p => pH Q K h.val p n.val * vOne h.val G p j.val) fun p => by
    obtain ⟨w, hw, he, hr⟩ := wts_real hQ hK h p
    have hD := Den_pos (hd h.val Q) (hd h.val K) p.val p.isLt
    rw [he, hr, Ideal.div_coe (mul_pos hw hD).ne', hG p ⟨128 * h.val + j.val, by omega⟩, ← EReal.coe_mul, ← EReal.coe_mul]
    unfold pH P vOne
    rw [if_pos j.isLt]
    congr 1
    field_simp

end

end Cert.MlaBwdRef

end
-- ==== Proof.Products.lean ====
/- Matrices indexed by natural numbers, and the product of two of them: the plain statement that the blocked products of
   the step are proved equal to. -/
module

public import Idealize.ShloMosaic.Lib.Claim
public import Idealize.ShloMosaic.Lib.Pipeline.ValueKit

@[expose] public section

noncomputable section

namespace Cert.Products

open Idealize.ShloMosaic
open Finset (range)

/-- An array's entries as a matrix over the natural numbers, zero outside. -/
def mat {A B : ℕ} (x : (⟨2, ![A, B]⟩ : Shape).Idx → EReal) (a b : ℕ) : EReal :=
  if h : a < A ∧ b < B then x (ix2 ⟨a, h.1⟩ ⟨b, h.2⟩) else 0

theorem mat_apply {A B : ℕ} (x : (⟨2, ![A, B]⟩ : Shape).Idx → EReal) (a : Fin A) (b : Fin B) : mat x a.val b.val = x (ix2 a b) := by
  unfold mat
  rw [dif_pos ⟨a.isLt, b.isLt⟩]

theorem mat_of_lt {A B : ℕ} (x : (⟨2, ![A, B]⟩ : Shape).Idx → EReal) (a b : ℕ) (ha : a < A) (hb : b < B) : x (ix2 ⟨a, ha⟩ ⟨b, hb⟩) = mat x a b :=
  (mat_apply x ⟨a, ha⟩ ⟨b, hb⟩).symm

/-- The transposed matrix. -/
def matT {A B : ℕ} (x : (⟨2, ![A, B]⟩ : Shape).Idx → EReal) (b a : ℕ) : EReal := mat x a b

/-- The sum over `K` of products, entry `(p, q)`; each factor is given with the summed index first. -/
def prod (K : ℕ) (X Y : ℕ → ℕ → EReal) (p q : ℕ) : EReal := ∑ k ∈ range K, X k p * Y k q

/-- The part of it that `L` summed indices from `L * n` on contribute. -/
def part (L : ℕ) (X Y : ℕ → ℕ → EReal) (n p q : ℕ) : EReal := ∑ a ∈ range L, X (L * n + a) p * Y (L * n + a) q

theorem sum_part (L J : ℕ) (X Y : ℕ → ℕ → EReal) (p q : ℕ) : ∑ n ∈ range J, part L X Y n p q = prod (L * J) X Y p q := by
  unfold part prod
  induction J with
  | zero => simp
  | succ J ih => rw [Finset.sum_range_succ, ih, Nat.mul_succ, Finset.sum_range_add]

/-- A block that every sweep of `J` grid points sets to zero and adds one part to at each point ends the sweep holding the
    product. The block's place, `(p, q)` at the entry `j`, depends on the sweep alone. -/
theorem of_sweep {N : ℕ} {ι : Type} (f : (n : ℕ) → n < N → ι → EReal) (L J : ℕ) (X Y : ℕ → ℕ → EReal) (p q : ℕ → ι → ℕ)
    (first : ∀ (t : Fin N), t.val % J = 0 → ∀ j, f t.val t.isLt j = 0 + part L X Y (t.val % J) (p (t.val / J) j) (q (t.val / J) j))
    (next : ∀ (t : Fin N), ¬t.val % J = 0 → ∀ j, f t.val t.isLt j
      = f (t.val - 1) (Nat.lt_of_le_of_lt (Nat.sub_le _ _) t.isLt) j + part L X Y (t.val % J) (p (t.val / J) j) (q (t.val / J) j))
    (t : Fin N) (h : t.val % J + 1 = J) (j : ι) : f t.val t.isLt j = prod (L * J) X Y (p (t.val / J) j) (q (t.val / J) j) := by
  refine (Pipeline.eq_sum_of_reset_step_apply f J (fun _ => 0) (fun n j => part L X Y (n % J) (p (n / J) j) (q (n / J) j)) first next t j).trans ?_
  rw [zero_add, h, ← sum_part]
  refine Finset.sum_congr rfl fun k hk => ?_
  have hk' := Finset.mem_range.mp hk
  rw [Nat.mul_add_mod, Nat.mod_eq_of_lt hk', Nat.mul_add_div (by omega), Nat.div_eq_of_lt hk', add_zero]

end Cert.Products

end
-- ==== Proof.Act.lean ====
/- The gradient that goes back through the down product and the gate, to the gate and up columns. -/
module

public import proofs.«01_k».proof.Proof.Finite
public import proofs.«01_k».proof.Proof.Products
public import proofs.«01_k».proof.Proof.Gen.KernelActIdeal.Frame
public import proofs.«01_k».proof.Proof.Gen.ReferenceActIdeal.Run
public import proofs.«01_k».proof.Proof.Gen.Pre_finite_act
public import proofs.«01_k».proof.Defs
public import Idealize.ShloMosaic.Lib.ReduceAll

@[expose] public section

set_option maxRecDepth 16384

noncomputable section

namespace Cert.Act

open Idealize.ShloMosaic Idealize.ShloMosaic.TcCoe Idealize.ShloMosaic.Tactic
open Cert.KernelActIdeal Cert.KernelActIdeal.Gen
open Cert.Products

/-! ## The derivative of the gate -/

/-- What goes back to a gate column and to an up column: `d` comes back through the down product, `g` and `u` are gate and up. -/
def toGate (d g u : EReal) : EReal := d * u * (Ideal.logistic g * (1 + g * (1 - Ideal.logistic g)))
def toUp (d g : EReal) : EReal := d * (g * Ideal.logistic g)

theorem logistic_real (g : ℝ) : ∃ s : ℝ, Ideal.logistic (g : EReal) = (s : EReal) := by
  refine ⟨1 / (1 + Real.exp (-g)), ?_⟩
  unfold Ideal.logistic
  rw [← EReal.coe_neg, Ideal.exp_coe, ← EReal.coe_one, ← EReal.coe_add, Ideal.div_coe (by positivity), EReal.coe_one, one_mul]

/-- The two terms of the product rule, added, are the one factor: for numbers a product distributes over the sum. -/
theorem ref_gate {d g u d' g' u' : EReal} (hd : d = d') (hg : g = g') (hu : u = u') (rd : ∃ a : ℝ, d' = a) (rg : ∃ a : ℝ, g' = a) (ru : ∃ a : ℝ, u' = a) :
    d * u * Ideal.div 1 (1 + Ideal.exp (-g)) + g * (d * u) * (Ideal.div 1 (1 + Ideal.exp (-g)) * (1 - Ideal.div 1 (1 + Ideal.exp (-g)))) = toGate d' g' u' := by
  obtain ⟨a, rfl⟩ := rd
  obtain ⟨b, rfl⟩ := rg
  obtain ⟨e, rfl⟩ := ru
  subst hd hg hu
  obtain ⟨s, hs⟩ := logistic_real b
  unfold toGate
  rw [show Ideal.div 1 (1 + Ideal.exp (-(b : EReal))) = (s : EReal) from hs, hs]
  norm_cast
  ring

theorem ref_up {d g d' g' : EReal} (hd : d = d') (hg : g = g') : g * Ideal.div 1 (1 + Ideal.exp (-g)) * d = toUp d' g' := by
  subst hd hg
  exact mul_comm _ _

theorem prod_real (K : ℕ) (X Y : ℕ → ℕ → EReal) (hX : ∀ k p, ∃ a : ℝ, X k p = a) (hY : ∀ k p, ∃ a : ℝ, Y k p = a) (p q : ℕ) :
    ∃ s : ℝ, prod K X Y p q = s := by
  unfold prod
  induction K with
  | zero => exact ⟨0, by simp⟩
  | succ K ih =>
    obtain ⟨s, hs⟩ := ih
    obtain ⟨a, ha⟩ := hX K p
    obtain ⟨b, hb⟩ := hY K q
    refine ⟨s + a * b, ?_⟩
    rw [Finset.sum_range_succ, hs, ha, hb]
    norm_cast

/-- The two as the body writes them: it takes the gate column from zero where the logistic has its negative. -/
theorem toUp_of {d g d' g' : EReal} (hd : d = d') (hg : g = g') : d * (g * Ideal.div 1 (1 + Ideal.exp (0 - g))) = toUp d' g' := by
  rw [sub_eq_add_neg, zero_add, hd, hg]
  rfl

theorem toGate_of {d g u d' g' u' : EReal} (hd : d = d') (hg : g = g') (hu : u = u') :
    d * u * (Ideal.div 1 (1 + Ideal.exp (0 - g)) * (1 + g * (1 - Ideal.div 1 (1 + Ideal.exp (0 - g))))) = toGate d' g' u' := by
  rw [sub_eq_add_neg 0 g, zero_add, hd, hg, hu]
  rfl

/-! ## The result, entry by entry -/

/-- Column `j` of the result belongs to block `j / 2816`, and is there the gate or the up column of number `j % 1408`. -/
def entry (x : Vec Ideal S4096x2048 .bf16) (w : Vec Ideal S5632x2048 .bf16) (z : Vec Ideal S4096x11264 .bf16) (r j : ℕ) : EReal :=
  if j / 1408 % 2 < 1 then
    toGate (prod 2048 (matT (A := 4096) (B := 2048) x) (matT (A := 5632) (B := 2048) w) r (j / 2816 * 1408 + j % 1408))
      (mat (A := 4096) (B := 11264) z r (j / 2816 * 2816 + j % 1408)) (mat (A := 4096) (B := 11264) z r (j / 2816 * 2816 + (1408 + j % 1408)))
  else
    toUp (prod 2048 (matT (A := 4096) (B := 2048) x) (matT (A := 5632) (B := 2048) w) r (j / 2816 * 1408 + j % 1408))
      (mat (A := 4096) (B := 11264) z r (j / 2816 * 2816 + j % 1408))

/-! ## The kernel -/

section Kernel

variable (m : (ℓ : Loc nD τ sig) → Buf (Elt Ideal) ℓ) (c : Dev nD)

/-- Which blocks a grid point works on. -/
theorem idx : ∀ t : Fin cfg0.N, win0_0.index t = ![t.val % 8, 0] ∧ win0_1.index t = ![t.val / 8, 0]
    ∧ win0_2.index t = ![t.val % 8, t.val / 8] ∧ win0_3.index t = ![t.val % 8, t.val / 8] :=
  (by decide +kernel : ∀ t : Fin grid0.N, win0_0.index t = ![t.val % 8, 0] ∧ win0_1.index t = ![t.val / 8, 0]
    ∧ win0_2.index t = ![t.val % 8, t.val / 8] ∧ win0_3.index t = ![t.val % 8, t.val / 8])

theorem sum_at (x0 : Vec Ideal S512x2048 .bf16) (x1 : Vec Ideal S1408x2048 .bf16) (p : Fin 512) (q : Fin 1408) :
    (∑ k : Fin 2048, (x0 (ix2 p k) : EReal) * x1 (ix2 q k)) = prod 2048 (matT (A := 512) (B := 2048) x0) (matT (A := 1408) (B := 2048) x1) p.val q.val := by
  unfold prod
  rw [Finset.sum_range]
  exact Finset.sum_congr rfl fun k _ => congrArg₂ (fun t u : EReal => t * u) (mat_apply x0 p k).symm (mat_apply x1 q k).symm

/-- What the body leaves in a block of the result: gate columns in front, up columns behind. -/
theorem block (x0 : Vec Ideal S512x2048 .bf16) (x1 : Vec Ideal S1408x2048 .bf16) (x2 : Vec Ideal S512x2816 .bf16) (y : S512x2816.Idx) :
    out0_3 x0 x1 x2 y = if (y 1).val / 1408 % 2 < 1 then
        toGate (prod 2048 (matT (A := 512) (B := 2048) x0) (matT (A := 1408) (B := 2048) x1) (y 0).val ((y 1).val % 1408))
          (mat (A := 512) (B := 2816) x2 (y 0).val ((y 1).val % 1408)) (mat (A := 512) (B := 2816) x2 (y 0).val (1408 + (y 1).val % 1408))
      else toUp (prod 2048 (matT (A := 512) (B := 2048) x0) (matT (A := 1408) (B := 2048) x1) (y 0).val ((y 1).val % 1408))
          (mat (A := 512) (B := 2816) x2 (y 0).val ((y 1).val % 1408)) := by
  unfold out0_3
  canon_tiles x h
  · rw [if_neg (by omega), h0, show (y 1).val % 1408 = (x 1).val by omega]
    open_payloads
    pointwise
    exact toUp_of (sum_at x0 x1 (x 0) (x 1)) (mat_of_lt x2 _ _ _ _)
  · rw [if_pos (by omega), h0, show (y 1).val % 1408 = (x 1).val by omega]
    open_payloads
    pointwise
    exact toGate_of (sum_at x0 x1 (x 0) (x 1)) (mat_of_lt x2 _ _ _ _) (mat_of_lt x2 _ _ _ _)

/-- The blocks a grid point reads, in their arrays. -/
theorem d_at (t : Fin cfg0.N) (p q : ℕ) (hp : p < 512) (hq : q < 1408) :
    prod 2048 (matT (A := 512) (B := 2048) (iblk m c 0 t)) (matT (A := 1408) (B := 2048) (iblk m c 1 t)) p q
      = prod 2048 (matT (A := 4096) (B := 2048) (m ((c : Thread nD τ).loc main_arg0))) (matT (A := 5632) (B := 2048) (m ((c : Thread nD τ).loc main_arg1)))
          (512 * (t.val % 8) + p) (1408 * (t.val / 8) + q) := by
  have hN := lt_of_lt_of_eq t.isLt N_0
  unfold prod matT
  refine Finset.sum_congr rfl fun k hk => ?_
  have hk := Finset.mem_range.mp hk
  rw [← mat_of_lt _ _ _ hp hk, ← mat_of_lt _ _ _ hq hk, ← mat_of_lt _ (512 * (t.val % 8) + p) k (by omega) hk,
    ← mat_of_lt _ (1408 * (t.val / 8) + q) k (by omega) hk]
  refine congrArg₂ (fun t u : EReal => t * u) ?_ ?_ <;> blk_ext [iblk, V, idx t]

theorem z_at (t : Fin cfg0.N) (p q : ℕ) (hp : p < 512) (hq : q < 2816) : mat (A := 512) (B := 2816) (iblk m c 2 t) p q
    = mat (A := 4096) (B := 11264) (m ((c : Thread nD τ).loc main_arg2)) (512 * (t.val % 8) + p) (2816 * (t.val / 8) + q) := by
  have hN := lt_of_lt_of_eq t.isLt N_0
  rw [← mat_of_lt _ _ _ hp hq, ← mat_of_lt _ (512 * (t.val % 8) + p) _ (by omega) (by omega)]
  blk_ext [iblk, V, idx t]

/-- The result array after the run. -/
theorem result : (dats m 0 c).arrAt 3 cfg0.N = fun i => entry (m ((c : Thread nD τ).loc main_arg0)) (m ((c : Thread nD τ).loc main_arg1))
    (m ((c : Thread nD τ).loc main_arg2)) (i 0).val (i 1).val := by
  refine (dats m 0 c).arrAt_eq_of_covers 3 _ (by decide +kernel) fun t hf y => ?_
  have hN := lt_of_lt_of_eq t.isLt N_0
  blk_simp [idx t]
  have h0 : (y 0).val < 512 := (y 0).isLt
  have h1 : (y 1).val < 2816 := (y 1).isLt
  rw [after0_3, block, d_at m c t _ _ h0 (by omega), z_at m c t _ _ h0 (by omega), z_at m c t _ _ h0 (by omega)]
  unfold entry
  rw [show (t.val / 8 * 2816 + (y 1).val) / 1408 % 2 = (y 1).val / 1408 % 2 by omega, show (t.val / 8 * 2816 + (y 1).val) / 2816 = t.val / 8 by omega,
    show (t.val / 8 * 2816 + (y 1).val) % 1408 = (y 1).val % 1408 by omega, Nat.mul_comm 512, Nat.mul_comm 1408, Nat.mul_comm 2816]

/-- The whole run: the result and the arguments. -/
theorem run (ρ : Dev nD → PrngReg) : θ_run defs (onTc (τ := τ) (main (F := Ideal))) ⟨m, fun _ => 0, ρ⟩ (fun r => ∀ c : Dev nD,
      r.2.mem ((c.tc : Thread nD τ).loc main_v0) = (fun i => entry (m ((c : Thread nD τ).loc main_arg0)) (m ((c : Thread nD τ).loc main_arg1))
        (m ((c : Thread nD τ).loc main_arg2)) (i 0).val (i 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 3).trans (result m c), h.2 c⟩) (θ_run_and (run_main m ρ) (unchanged m ρ))

end Kernel

/-! ## What the precondition gives -/

/-- Every entry of the array is a number. -/
abbrev Real2 {A B : ℕ} (x : (⟨2, ![A, B]⟩ : Shape).Idx → EReal) : Prop := ∀ a b : ℕ, ∃ s : ℝ, mat x a b = s

theorem real_of {A B : ℕ} (x : (⟨2, ![A, B]⟩ : Shape).Idx → EReal) (h : ∀ i, max (x i) (-(x i)) < ⊤) : Real2 x := fun a b => by
  unfold mat
  split
  · exact ⟨_, Cert.RetBwd.lt_inf_real _ (h _)⟩
  · exact ⟨0, rfl⟩

/-- A comparison of the precondition, read: the entry is below infinity in absolute value. -/
theorem entry_lt (a : EReal) (h : BitVec.ofBool (decide (max a (-a) < Ideal.ofBits .f32 0x7F800000#32)) = 1#1) : max a (-a) < ⊤ := by
  rw [show Ideal.ofBits .f32 0x7F800000#32 = (⊤ : EReal) by simp [Ideal.ofBits, Ideal.ieee]] at h
  by_contra hn
  rw [decide_eq_false hn] at h
  exact absurd h (by decide)

theorem finite_real (x : FVec Ideal S4096x2048 .bf16) (w : FVec Ideal S5632x2048 .bf16) (z : FVec Ideal S4096x11264 .bf16)
    (h : Cert.Pre_finite_act.fn (F := Ideal) x w z = fun _ => 1#1) : Real2 (A := 4096) (B := 2048) x ∧ Real2 (A := 5632) (B := 2048) w ∧ Real2 (A := 4096) (B := 11264) z := by
  haveI : Subsingleton Cert.Pre_finite_act.S_.Idx := ⟨fun a b => funext fun i => i.elim0⟩
  have e := congrFun h (fun i => i.elim0)
  unfold Cert.Pre_finite_act.fn at e
  obtain ⟨e, e2⟩ := Cert.RetBwd.and_one _ _ e
  obtain ⟨e0, e1⟩ := Cert.RetBwd.and_one _ _ e
  exact ⟨real_of _ fun i => entry_lt _ (Host.reduce_andi_all _ _ _ _ _ e0 i), real_of _ fun i => entry_lt _ (Host.reduce_andi_all _ _ _ _ _ e1 i),
    real_of _ fun i => entry_lt _ (Host.reduce_andi_all _ _ _ _ _ e2 i)⟩

/-! ## The reference -/

set_option maxHeartbeats 1000000 in
theorem reference (m : (ℓ : Loc Cert.ReferenceActIdeal.nD Cert.ReferenceActIdeal.τ Cert.ReferenceActIdeal.sig) → Buf (Elt Ideal) ℓ)
    (c : Dev Cert.ReferenceActIdeal.nD) (x : Vec Ideal S4096x2048 .bf16) (w : Vec Ideal S5632x2048 .bf16) (z : Vec Ideal S4096x11264 .bf16)
    (h0 : m ((c.tc : Thread Cert.ReferenceActIdeal.nD Cert.ReferenceActIdeal.τ).loc Cert.ReferenceActIdeal.main_arg0) = x)
    (h1 : m ((c.tc : Thread Cert.ReferenceActIdeal.nD Cert.ReferenceActIdeal.τ).loc Cert.ReferenceActIdeal.main_arg1) = w)
    (h2 : m ((c.tc : Thread Cert.ReferenceActIdeal.nD Cert.ReferenceActIdeal.τ).loc Cert.ReferenceActIdeal.main_arg2) = z)
    (hx : Real2 (A := 4096) (B := 2048) x) (hw : Real2 (A := 5632) (B := 2048) w) (hz : Real2 (A := 4096) (B := 11264) z)
    (i : S4096x11264.Idx) : Cert.ReferenceActIdeal.Value.res_main_v25 m c i = entry x w z (i 0).val (i 1).val := by
  have hi : (i 1).val < 11264 := (i 1).isLt
  have hr : (i 0).val < 4096 := (i 0).isLt
  unfold Cert.ReferenceActIdeal.Value.res_main_v25
  rw [h0, h1, h2]
  pointwise
  simp only [show ((i 1).val / 2816 * 1408 + (i 1).val % 1408) / 1408 = (i 1).val / 2816 by omega,
    show ((i 1).val / 2816 * 1408 + (i 1).val % 1408) % 1408 = (i 1).val % 1408 by omega]
  have hd : (∑ k : Fin 2048, (x (ix2 (i 0) k) : EReal) * w (ix2 ⟨(i 1).val / 2816 * 1408 + (i 1).val % 1408, by omega⟩ k))
      = prod 2048 (matT (A := 4096) (B := 2048) x) (matT (A := 5632) (B := 2048) w) (i 0).val ((i 1).val / 2816 * 1408 + (i 1).val % 1408) := by
    unfold prod
    rw [Finset.sum_range]
    exact Finset.sum_congr rfl fun k _ => congrArg₂ (fun t u : EReal => t * u) (mat_apply x (i 0) k).symm (mat_of_lt w _ _ _ _)
  unfold entry
  by_cases h : (i 1).val / 1408 % 2 < 1
  · rw [dif_pos h, if_pos h]
    refine ref_gate hd (mat_of_lt z _ _ hr (by omega)) ((mat_of_lt z _ _ hr (by omega)).trans (congrArg (mat (A := 4096) (B := 11264) z _) (by omega))) ?_ (hz _ _) (hz _ _)
    exact prod_real 2048 _ _ (fun k p => hx p k) (fun k p => hw p k) _ _
  · rw [dif_neg h, if_neg h]
    exact ref_up hd (mat_of_lt z _ _ hr (by omega))

/-- The reference's frame. -/
theorem frame_ref : @Cert.quiescent_ReferenceActIdeal Cert.ReferenceActIdeal.Gen.facts := fun m ρ _ =>
  (θ_run Cert.ReferenceActIdeal.defs _ _).mono (fun r h => ⟨fun c => (h c).2, sem_eq_zero_of_no_sems (by decide) r.2⟩) (Cert.ReferenceActIdeal.Value.run m ρ)

/-- The result is the reference's, where every entry of the three arrays is a number. -/
theorem values : @Cert.algebraic_KernelActIdeal_ReferenceActIdeal_pre_finite_act Cert.KernelActIdeal.Gen.facts Cert.ReferenceActIdeal.Gen.facts
    Cert.Pre_finite_act.Gen.facts := by
  intro m g m' g' pre agree
  refine ⟨_, run m g, (θ_run Cert.ReferenceActIdeal.defs _ _).mono (fun r h c => ⟨(h c).1.trans ?_, (h c).2⟩) (Cert.ReferenceActIdeal.Value.run m' g')⟩
  obtain ⟨hx, hw, hz⟩ := finite_real _ _ _ (pre c)
  exact funext (reference m' c _ _ _ (agree c).1 (agree c).2.1 (agree c).2.2 hx hw hz)

end Cert.Act

end
-- ==== Proof.MlaBwd.lean ====
/- The attention's gradient: on finite arguments its three results are the reference's. -/
module

public import proofs.«01_k».proof.Proof.MlaGradRef
public import proofs.«01_k».proof.Proof.Mla
public import proofs.«01_k».proof.Proof.Act
public import proofs.«01_k».proof.Proof.Gen.KernelMlaBwd.Launch
public import proofs.«01_k».proof.Proof.Gen.KernelMlaBwdIdeal.Frame
public import proofs.«01_k».proof.Proof.Gen.KernelMlaBwdIdeal.Loops
public import proofs.«01_k».proof.Proof.Gen.Pre_finite_mla_bwd
public import proofs.«01_k».proof.Defs

@[expose] public section

set_option maxRecDepth 16384

noncomputable section

namespace Cert.MlaBwd

open Idealize.ShloMosaic Idealize.ShloMosaic.TcCoe
open Cert.KernelMlaBwdIdeal (S4096x1024 S4096x2048)
open Cert.RetBwd (IsReal realOf isReal_of and_one lt_inf_real)
open Cert.Mla (IsReal2 realOf2 isReal2_of)
open Cert.Act (entry_lt)

/-- The real matrix the cotangent holds. -/
def realOf32 (x : FVec Ideal S4096x1024 .f32) (n j : ℕ) : ℝ :=
  if h : n < 4096 ∧ j < 1024 then (x (ix2 ⟨n, h.1⟩ ⟨j, h.2⟩) : EReal).toReal else 0

theorem isReal32_of (x : FVec Ideal S4096x1024 .f32) (h : ∀ i : S4096x1024.Idx, max (x i : EReal) (-(x i : EReal)) < ⊤) : IsReal32 x (realOf32 x) := fun n j => by
  unfold realOf32
  rw [dif_pos ⟨n.isLt, j.isLt⟩]
  exact lt_inf_real _ (h _)

/-- What the precondition `finite_mla_bwd` gives: each of the four arrays holds real numbers. -/
theorem finite_real (q k : FVec Ideal S4096x2048 .bf16) (v : FVec Ideal S4096x1024 .bf16) (g : FVec Ideal S4096x1024 .f32)
    (h : Cert.Pre_finite_mla_bwd.fn (F := Ideal) q k v g = fun _ => 1#1) :
    IsReal2 q (realOf2 q) ∧ IsReal2 k (realOf2 k) ∧ IsReal v (realOf v) ∧ IsReal32 g (realOf32 g) := by
  haveI : Subsingleton Cert.Pre_finite_mla_bwd.S_.Idx := ⟨fun a b => funext fun i => i.elim0⟩
  have e := congrFun h (fun i => i.elim0)
  unfold Cert.Pre_finite_mla_bwd.fn Cert.Pre_finite_mla_bwd.fn_part1 at e
  obtain ⟨e, e3⟩ := and_one _ _ e
  obtain ⟨e, e2⟩ := and_one _ _ e
  obtain ⟨e0, e1⟩ := and_one _ _ e
  exact ⟨isReal2_of _ fun i => entry_lt _ (Host.reduce_andi_all _ _ _ _ _ e0 i), isReal2_of _ fun i => entry_lt _ (Host.reduce_andi_all _ _ _ _ _ e1 i),
    isReal_of _ fun i => entry_lt _ (Host.reduce_andi_all _ _ _ _ _ e2 i), isReal32_of _ fun i => entry_lt _ (Host.reduce_andi_all _ _ _ _ _ e3 i)⟩

/-- The mask's number is the one that is named. -/
theorem preserves : Cert.preserves_KernelMlaBwd_KernelMlaBwdIdeal := IdealRules.named_const.statement Cert.KernelMlaBwdIdeal.κ "mask" .f32 0xF149F2CA#32 ⊥ rfl

/-- The frames. -/
theorem frame_ideal : @Cert.quiescent_KernelMlaBwdIdeal Cert.KernelMlaBwdIdeal.Gen.facts := fun m ρ _ => frame_main (F := Ideal) m ρ
theorem frame_ref : @Cert.quiescent_ReferenceMlaBwdIdeal Cert.ReferenceMlaBwdIdeal.Gen.facts := fun m ρ _ =>
  (θ_run Cert.ReferenceMlaBwdIdeal.defs _ _).mono (fun r h => ⟨fun c => (h c).2.2.2, sem_eq_zero_of_no_sems (by decide) r.2⟩) (Cert.ReferenceMlaBwdIdeal.Value.run m ρ)

/-- Over the extended reals, on finite arguments, the kernel's results are the reference's. -/
theorem values : @Cert.algebraic_KernelMlaBwdIdeal_ReferenceMlaBwdIdeal_pre_finite_mla_bwd Cert.KernelMlaBwdIdeal.Gen.facts Cert.ReferenceMlaBwdIdeal.Gen.facts
    Cert.Pre_finite_mla_bwd.Gen.facts := by
  intro m g m' g' hpre agree
  have hf := fun c => finite_real _ _ _ _ (hpre c)
  refine ⟨_, _, _, run_values m g _ _ _ _ (fun c => (hf c).1) (fun c => (hf c).2.1) (fun c => (hf c).2.2.1) (fun c => (hf c).2.2.2),
    (θ_run Cert.ReferenceMlaBwdIdeal.defs _ _).mono (fun r h c => ⟨(h c).1.trans ?_, (h c).2.1.trans ?_, (h c).2.2.1.trans ?_, (h c).2.2.2⟩)
      (Cert.ReferenceMlaBwdIdeal.Value.run m' g')⟩
  · rw [Cert.MlaBwdRef.res0_eq, (agree c).1, (agree c).2.1, (agree c).2.2.1, (agree c).2.2.2]
    exact Cert.MlaBwdRef.ref_dq (hf c).1 (hf c).2.1 (hf c).2.2.1 (hf c).2.2.2
  · rw [Cert.MlaBwdRef.res1_eq, (agree c).1, (agree c).2.1, (agree c).2.2.1, (agree c).2.2.2]
    exact Cert.MlaBwdRef.ref_dk (hf c).1 (hf c).2.1 (hf c).2.2.1 (hf c).2.2.2
  · rw [Cert.MlaBwdRef.res2_eq, (agree c).1, (agree c).2.1, (agree c).2.2.2]
    exact Cert.MlaBwdRef.ref_dv (hf c).1 (hf c).2.1 (hf c).2.2.2

end Cert.MlaBwd

end
-- ==== Proof.DwGu.lean ====
/- The gradient of the gate and up weights: what the blocked product leaves in its result. -/
module

public import proofs.«01_k».proof.Proof.Products
public import proofs.«01_k».proof.Proof.Gen.KernelDwGuIdeal.Frame
public import proofs.«01_k».proof.Proof.Gen.ReferenceDwGuIdeal.Run
public import proofs.«01_k».proof.Defs
public import Idealize.ShloMosaic.Lib.Pipeline.ReadBack

@[expose] public section

set_option maxRecDepth 16384

noncomputable section

namespace Cert.DwGu

open Idealize.ShloMosaic Idealize.ShloMosaic.TcCoe Idealize.ShloMosaic.Tactic
open Cert.KernelDwGuIdeal Cert.KernelDwGuIdeal.Gen
open Cert.Products

variable (m : (ℓ : Loc nD τ sig) → Buf (Elt Ideal) ℓ) (c : Dev nD)

/-- Which blocks a grid point works on. -/
theorem idx : ∀ t : Fin cfg0.N, win0_0.index t = ![t.val % 2, t.val / 2 / 11] ∧ win0_1.index t = ![t.val % 2, t.val / 2 % 11]
    ∧ win0_2.index t = ![t.val / 2 / 11, t.val / 2 % 11] :=
  (by decide +kernel : ∀ t : Fin grid0.N, win0_0.index t = ![t.val % 2, t.val / 2 / 11] ∧ win0_1.index t = ![t.val % 2, t.val / 2 % 11]
    ∧ win0_2.index t = ![t.val / 2 / 11, t.val / 2 % 11])

/-- The two factors, the summed index first. -/
def X : ℕ → ℕ → EReal := mat (A := 4096) (B := 2048) (m ((c : Thread nD τ).loc main_arg0))
def Y : ℕ → ℕ → EReal := mat (A := 4096) (B := 11264) (m ((c : Thread nD τ).loc main_arg1))

theorem x_at (t : Fin cfg0.N) (a : Fin 2048) (d : Fin 1024) :
    (iblk m c 0 t : Vec Ideal S2048x1024 .bf16) (ix2 a d) = X m c (2048 * (t.val % 2) + a.val) (1024 * (t.val / 2 / 11) + d.val) := by
  have hN := lt_of_lt_of_eq t.isLt N_0
  unfold X
  rw [← mat_of_lt _ _ _ (by omega) (by omega)]
  blk_ext [iblk, V, idx t]

theorem y_at (t : Fin cfg0.N) (a : Fin 2048) (d : Fin 1024) :
    (iblk m c 1 t : Vec Ideal S2048x1024 .bf16) (ix2 a d) = Y m c (2048 * (t.val % 2) + a.val) (1024 * (t.val / 2 % 11) + d.val) := by
  have hN := lt_of_lt_of_eq t.isLt N_0
  unfold Y
  rw [← mat_of_lt _ _ _ (by omega) (by omega)]
  blk_ext [iblk, V, idx t]

/-- What a grid point adds to the block it works on. -/
theorem step (t : Fin cfg0.N) (v : Vec Ideal S1024x1024 .f32) (j : S1024x1024.Idx) :
    k0_pay2 v (iblk m c 0 t) (iblk m c 1 t) j
      = v j + part 2048 (X m c) (Y m c) (t.val % 2) (1024 * (t.val / 2 / 11) + (j 0).val) (1024 * (t.val / 2 % 11) + (j 1).val) := by
  unfold k0_pay2 part
  rw [Finset.sum_range]
  pointwise
  exact congrArg (fun t : EReal => v j + t) (Finset.sum_congr rfl fun a _ =>
    congrArg₂ (fun t u : EReal => t * u) (x_at m c t a (j 0)) (y_at m c t a (j 1)))

/-- The accumulator after the last point of a sweep. -/
theorem acc (t : Fin cfg0.N) (h : t.val % 2 = 1) (j : S1024x1024.Idx) : (outsAt0 m c t.val t.isLt).2 j
    = prod 4096 (X m c) (Y m c) (1024 * (t.val / 2 / 11) + (j 0).val) (1024 * (t.val / 2 % 11) + (j 1).val) := by
  refine of_sweep (fun n h => (outsAt0 m c n h).2) 2048 2 (X m c) (Y m c) (fun n j => 1024 * (n / 11) + (j 0).val) (fun n j => 1024 * (n % 11) + (j 1).val)
    (fun t h j => ?_) (fun t h j => ?_) t (by omega) j
  · rw [outsAt0_A m c t h (by omega)]
    frame_out
    rw [step]
    exact congrArg (fun t : EReal => t + _) Ideal.ofBits_zero_f32
  · rw [outsAt0_B m c t h (by omega)]
    frame_out
    simp only [read_unread_whole]
    rw [step]

/-- The last point of a sweep copies the accumulator out. -/
theorem out_eq (t : Fin cfg0.N) (h : t.val % 2 = 1) (j : S1024x1024.Idx) : (outsAt0 m c t.val t.isLt).1 j = (outsAt0 m c t.val t.isLt).2 j := by
  rw [outsAt0_B m c t (by omega) h]
  frame_out
  simp only [read_unread_whole]
  rfl

/-- The result array after the run. -/
theorem result : (dats m 0 c).arrAt 2 cfg0.N = fun i => prod 4096 (X m c) (Y m c) (i 0).val (i 1).val := by
  refine (dats m 0 c).arrAt_eq_of_covers 2 _ (by decide +kernel) fun t hf y => ?_
  have ht := (flush0_2 t).mp hf
  blk_simp [idx t]
  rw [after0_2, out_eq m c t ht, acc m c t ht, Nat.mul_comm 1024, Nat.mul_comm 1024]

/-- The whole run: the result and the arguments. -/
theorem run (ρ : Dev nD → PrngReg) : θ_run defs (onTc (τ := τ) (main (F := Ideal))) ⟨m, fun _ => 0, ρ⟩ (fun r => ∀ c : Dev nD,
      r.2.mem ((c.tc : Thread nD τ).loc main_v0) = (fun i => prod 4096 (X m c) (Y m c) (i 0).val (i 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.1 c).1 2).trans (result m c), h.2 c⟩) (θ_run_and (run_main m ρ) (unchanged m ρ))

/-- The reference's transposed product, entry by entry. -/
theorem reference (x : Vec Ideal S4096x2048 .bf16) (y : Vec Ideal S4096x11264 .bf16) (i : S2048x11264.Idx) :
    truncf .bf16 (transpose Cert.ReferenceDwGuIdeal.S2048x11264 [1, 0] (Host.dotGeneral (F := Ideal) Cert.ReferenceDwGuIdeal.dot_S4096x11264_S4096x2048_S11264x2048_0_0_1_1_n_n none
      (extf .f32 y Cert.ReferenceDwGuIdeal.Facts₀.bitsLt_bf16_f32) (extf .f32 x Cert.ReferenceDwGuIdeal.Facts₀.bitsLt_bf16_f32))
      Cert.ReferenceDwGuIdeal.Facts₀.transposes_S11264x2048_S2048x11264_1_0) Cert.ReferenceDwGuIdeal.Facts₀.bitsLt_bf16_f32 i
      = prod 4096 (mat (A := 4096) (B := 2048) x) (mat (A := 4096) (B := 11264) y) (i 0).val (i 1).val := by
  unfold prod
  rw [Finset.sum_range]
  pointwise
  exact Finset.sum_congr rfl fun a _ => (mul_comm (G := EReal) _ _).trans
    (congrArg₂ (fun t u : EReal => t * u) (mat_apply x a (i 0)).symm (mat_apply y a (i 1)).symm)

/-- The reference's frame. -/
theorem frame_ref : @Cert.quiescent_ReferenceDwGuIdeal Cert.ReferenceDwGuIdeal.Gen.facts := fun m ρ _ =>
  (θ_run Cert.ReferenceDwGuIdeal.defs _ _).mono (fun r h => ⟨fun c => (h c).2, sem_eq_zero_of_no_sems (by decide) r.2⟩) (Cert.ReferenceDwGuIdeal.Value.run m ρ)

/-- The result is the reference's. -/
theorem values : @Cert.algebraic_KernelDwGuIdeal_ReferenceDwGuIdeal Cert.KernelDwGuIdeal.Gen.facts Cert.ReferenceDwGuIdeal.Gen.facts := by
  intro m g m' g' _ agree
  refine ⟨_, run m g, (θ_run Cert.ReferenceDwGuIdeal.defs _ _).mono (fun r h c => ⟨(h c).1.trans ?_, (h c).2⟩) (Cert.ReferenceDwGuIdeal.Value.run m' g')⟩
  rw [(agree c).1, (agree c).2]
  exact funext (reference _ _)

end Cert.DwGu
-- ==== Proof.Dx1.lean ====
/- The gradient that goes back through the gate and up products: what the blocked product leaves in its result. -/
module

public import proofs.«01_k».proof.Proof.Products
public import proofs.«01_k».proof.Proof.Gen.KernelDx1Ideal.Frame
public import proofs.«01_k».proof.Proof.Gen.ReferenceDx1Ideal.Run
public import proofs.«01_k».proof.Defs
public import Idealize.ShloMosaic.Lib.Pipeline.ReadBack

@[expose] public section

set_option maxRecDepth 16384

noncomputable section

namespace Cert.Dx1

open Idealize.ShloMosaic Idealize.ShloMosaic.TcCoe Idealize.ShloMosaic.Tactic
open Cert.KernelDx1Ideal Cert.KernelDx1Ideal.Gen
open Cert.Products

variable (m : (ℓ : Loc nD τ sig) → Buf (Elt Ideal) ℓ) (c : Dev nD)

/-- Which blocks a grid point works on. -/
theorem idx : ∀ t : Fin cfg0.N, win0_0.index t = ![t.val / 4 / 2, t.val % 4] ∧ win0_1.index t = ![t.val / 4 % 2, t.val % 4]
    ∧ win0_2.index t = ![t.val / 4 / 2, t.val / 4 % 2] :=
  (by decide +kernel : ∀ t : Fin grid0.N, win0_0.index t = ![t.val / 4 / 2, t.val % 4] ∧ win0_1.index t = ![t.val / 4 % 2, t.val % 4]
    ∧ win0_2.index t = ![t.val / 4 / 2, t.val / 4 % 2])

/-- The two factors, the summed index first. -/
def X : ℕ → ℕ → EReal := matT (A := 4096) (B := 11264) (m ((c : Thread nD τ).loc main_arg0))
def Y : ℕ → ℕ → EReal := matT (A := 2048) (B := 11264) (m ((c : Thread nD τ).loc main_arg1))

theorem x_at (t : Fin cfg0.N) (d : Fin 1024) (a : Fin 2816) :
    (iblk m c 0 t : Vec Ideal S1024x2816 .bf16) (ix2 d a) = X m c (2816 * (t.val % 4) + a.val) (1024 * (t.val / 4 / 2) + d.val) := by
  have hN := lt_of_lt_of_eq t.isLt N_0
  unfold X matT
  rw [← mat_of_lt _ _ _ (by omega) (by omega)]
  blk_ext [iblk, V, idx t]

theorem y_at (t : Fin cfg0.N) (d : Fin 1024) (a : Fin 2816) :
    (iblk m c 1 t : Vec Ideal S1024x2816 .bf16) (ix2 d a) = Y m c (2816 * (t.val % 4) + a.val) (1024 * (t.val / 4 % 2) + d.val) := by
  have hN := lt_of_lt_of_eq t.isLt N_0
  unfold Y matT
  rw [← mat_of_lt _ _ _ (by omega) (by omega)]
  blk_ext [iblk, V, idx t]

/-- What a grid point adds to the block it works on. -/
theorem step (t : Fin cfg0.N) (v : Vec Ideal S1024x1024 .f32) (j : S1024x1024.Idx) :
    k0_pay2 v (iblk m c 0 t) (iblk m c 1 t) j
      = v j + part 2816 (X m c) (Y m c) (t.val % 4) (1024 * (t.val / 4 / 2) + (j 0).val) (1024 * (t.val / 4 % 2) + (j 1).val) := by
  unfold k0_pay2 part
  rw [Finset.sum_range]
  pointwise
  exact congrArg (fun t : EReal => v j + t) (Finset.sum_congr rfl fun a _ =>
    congrArg₂ (fun t u : EReal => t * u) (x_at m c t (j 0) a) (y_at m c t (j 1) a))

/-- The accumulator after the last point of a sweep. -/
theorem acc (t : Fin cfg0.N) (h : t.val % 4 = 3) (j : S1024x1024.Idx) : (outsAt0 m c t.val t.isLt).2 j
    = prod 11264 (X m c) (Y m c) (1024 * (t.val / 4 / 2) + (j 0).val) (1024 * (t.val / 4 % 2) + (j 1).val) := by
  refine of_sweep (fun n h => (outsAt0 m c n h).2) 2816 4 (X m c) (Y m c) (fun n j => 1024 * (n / 2) + (j 0).val) (fun n j => 1024 * (n % 2) + (j 1).val)
    (fun t h j => ?_) (fun t h j => ?_) t (by omega) j
  · rw [outsAt0_A m c t h (by omega)]
    frame_out
    rw [step]
    exact congrArg (fun t : EReal => t + _) Ideal.ofBits_zero_f32
  · by_cases h' : t.val % 4 = 3
    · rw [outsAt0_C m c t h h']
      frame_out
      simp only [read_unread_whole]
      rw [step]
    · rw [outsAt0_B m c t h h']
      frame_out
      simp only [read_unread_whole]
      rw [step]

/-- The last point of a sweep copies the accumulator out. -/
theorem out_eq (t : Fin cfg0.N) (h : t.val % 4 = 3) (j : S1024x1024.Idx) : (outsAt0 m c t.val t.isLt).1 j = (outsAt0 m c t.val t.isLt).2 j := by
  rw [outsAt0_C m c t (by omega) h]
  frame_out

/-- The result array after the run. -/
theorem result : (dats m 0 c).arrAt 2 cfg0.N = fun i => prod 11264 (X m c) (Y m c) (i 0).val (i 1).val := by
  refine (dats m 0 c).arrAt_eq_of_covers 2 _ (by decide +kernel) fun t hf y => ?_
  have ht := (flush0_2 t).mp hf
  blk_simp [idx t]
  rw [after0_2, out_eq m c t ht, acc m c t ht, Nat.mul_comm 1024, Nat.mul_comm 1024]

/-- The whole run: the result and the arguments. -/
theorem run (ρ : Dev nD → PrngReg) : θ_run defs (onTc (τ := τ) (main (F := Ideal))) ⟨m, fun _ => 0, ρ⟩ (fun r => ∀ c : Dev nD,
      r.2.mem ((c.tc : Thread nD τ).loc main_v0) = (fun i => prod 11264 (X m c) (Y m c) (i 0).val (i 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.1 c).1 2).trans (result m c), h.2 c⟩) (θ_run_and (run_main m ρ) (unchanged m ρ))

/-- The reference's product, entry by entry. -/
theorem reference (x : Vec Ideal S4096x11264 .bf16) (y : Vec Ideal S2048x11264 .bf16) (i : S4096x2048.Idx) :
    Host.dotGeneral (F := Ideal) Cert.ReferenceDx1Ideal.dot_S4096x11264_S2048x11264_S4096x2048_1_1_0_0_n_n none
      (extf .f32 x Cert.ReferenceDx1Ideal.Facts₀.bitsLt_bf16_f32) (extf .f32 y Cert.ReferenceDx1Ideal.Facts₀.bitsLt_bf16_f32) i
      = prod 11264 (matT (A := 4096) (B := 11264) x) (matT (A := 2048) (B := 11264) y) (i 0).val (i 1).val := by
  unfold prod
  rw [Finset.sum_range]
  pointwise
  exact Finset.sum_congr rfl fun a _ => congrArg₂ (fun t u : EReal => t * u) (mat_apply x (i 0) a).symm (mat_apply y (i 1) a).symm

/-- The reference's frame. -/
theorem frame_ref : @Cert.quiescent_ReferenceDx1Ideal Cert.ReferenceDx1Ideal.Gen.facts := fun m ρ _ =>
  (θ_run Cert.ReferenceDx1Ideal.defs _ _).mono (fun r h => ⟨fun c => (h c).2, sem_eq_zero_of_no_sems (by decide) r.2⟩) (Cert.ReferenceDx1Ideal.Value.run m ρ)

/-- The result is the reference's. -/
theorem values : @Cert.algebraic_KernelDx1Ideal_ReferenceDx1Ideal Cert.KernelDx1Ideal.Gen.facts Cert.ReferenceDx1Ideal.Gen.facts := by
  intro m g m' g' _ agree
  refine ⟨_, run m g, (θ_run Cert.ReferenceDx1Ideal.defs _ _).mono (fun r h c => ⟨(h c).1.trans ?_, (h c).2⟩) (Cert.ReferenceDx1Ideal.Value.run m' g')⟩
  rw [(agree c).1, (agree c).2]
  exact funext (reference _ _)

end Cert.Dx1
-- ==== Proof.DwDown.lean ====
/- The gradient of the weights that lead down from the gated layer: what the blocked product leaves in its result. -/
module

public import proofs.«01_k».proof.Proof.Products
public import proofs.«01_k».proof.Proof.Gen.KernelDwDownIdeal.Frame
public import proofs.«01_k».proof.Proof.Gen.ReferenceDwDownIdeal.Run
public import proofs.«01_k».proof.Defs
public import Idealize.ShloMosaic.Lib.Pipeline.ReadBack

@[expose] public section

set_option maxRecDepth 16384

noncomputable section

namespace Cert.DwDown

open Idealize.ShloMosaic Idealize.ShloMosaic.TcCoe Idealize.ShloMosaic.Tactic
open Cert.KernelDwDownIdeal Cert.KernelDwDownIdeal.Gen
open Cert.Products

variable (m : (ℓ : Loc nD τ sig) → Buf (Elt Ideal) ℓ) (c : Dev nD)

/-- Which blocks a grid point works on. -/
theorem idx : ∀ t : Fin cfg0.N, win0_0.index t = ![t.val % 2, t.val / 2 / 2] ∧ win0_1.index t = ![t.val % 2, t.val / 2 % 2]
    ∧ win0_2.index t = ![t.val / 2 / 2, t.val / 2 % 2] :=
  (by decide +kernel : ∀ t : Fin grid0.N, win0_0.index t = ![t.val % 2, t.val / 2 / 2] ∧ win0_1.index t = ![t.val % 2, t.val / 2 % 2]
    ∧ win0_2.index t = ![t.val / 2 / 2, t.val / 2 % 2])

/-- The two factors, the summed index first. -/
def X : ℕ → ℕ → EReal := mat (A := 4096) (B := 5632) (m ((c : Thread nD τ).loc main_arg0))
def Y : ℕ → ℕ → EReal := mat (A := 4096) (B := 2048) (m ((c : Thread nD τ).loc main_arg1))

theorem x_at (t : Fin cfg0.N) (a : Fin 2048) (d : Fin 1408) :
    (iblk m c 0 t : Vec Ideal S2048x1408 .bf16) (ix2 a d) = X m c (2048 * (t.val % 2) + a.val) (1408 * (t.val / 2 / 2) + d.val) := by
  have hN := lt_of_lt_of_eq t.isLt N_0
  unfold X
  rw [← mat_of_lt _ _ _ (by omega) (by omega)]
  blk_ext [iblk, V, idx t]

theorem y_at (t : Fin cfg0.N) (a : Fin 2048) (d : Fin 1024) :
    (iblk m c 1 t : Vec Ideal S2048x1024 .bf16) (ix2 a d) = Y m c (2048 * (t.val % 2) + a.val) (1024 * (t.val / 2 % 2) + d.val) := by
  have hN := lt_of_lt_of_eq t.isLt N_0
  unfold Y
  rw [← mat_of_lt _ _ _ (by omega) (by omega)]
  blk_ext [iblk, V, idx t]

/-- What a grid point adds to the block it works on. -/
theorem step (t : Fin cfg0.N) (v : Vec Ideal S1408x1024 .f32) (j : S1408x1024.Idx) :
    k0_pay2 v (iblk m c 0 t) (iblk m c 1 t) j
      = v j + part 2048 (X m c) (Y m c) (t.val % 2) (1408 * (t.val / 2 / 2) + (j 0).val) (1024 * (t.val / 2 % 2) + (j 1).val) := by
  unfold k0_pay2 part
  rw [Finset.sum_range]
  pointwise
  exact congrArg (fun t : EReal => v j + t) (Finset.sum_congr rfl fun a _ =>
    congrArg₂ (fun t u : EReal => t * u) (x_at m c t a (j 0)) (y_at m c t a (j 1)))

/-- The accumulator after the last point of a sweep. -/
theorem acc (t : Fin cfg0.N) (h : t.val % 2 = 1) (j : S1408x1024.Idx) : (outsAt0 m c t.val t.isLt).2 j
    = prod 4096 (X m c) (Y m c) (1408 * (t.val / 2 / 2) + (j 0).val) (1024 * (t.val / 2 % 2) + (j 1).val) := by
  refine of_sweep (fun n h => (outsAt0 m c n h).2) 2048 2 (X m c) (Y m c) (fun n j => 1408 * (n / 2) + (j 0).val) (fun n j => 1024 * (n % 2) + (j 1).val)
    (fun t h j => ?_) (fun t h j => ?_) t (by omega) j
  · rw [outsAt0_A m c t h (by omega)]
    frame_out
    rw [step]
    exact congrArg (fun t : EReal => t + _) Ideal.ofBits_zero_f32
  · rw [outsAt0_B m c t h (by omega)]
    frame_out
    simp only [read_unread_whole]
    rw [step]

/-- The last point of a sweep copies the accumulator out. -/
theorem out_eq (t : Fin cfg0.N) (h : t.val % 2 = 1) (j : S1408x1024.Idx) : (outsAt0 m c t.val t.isLt).1 j = (outsAt0 m c t.val t.isLt).2 j := by
  rw [outsAt0_B m c t (by omega) h]
  frame_out
  simp only [read_unread_whole]
  rfl

/-- The result array after the run. -/
theorem result : (dats m 0 c).arrAt 2 cfg0.N = fun i => prod 4096 (X m c) (Y m c) (i 0).val (i 1).val := by
  refine (dats m 0 c).arrAt_eq_of_covers 2 _ (by decide +kernel) fun t hf y => ?_
  have ht := (flush0_2 t).mp hf
  blk_simp [idx t]
  rw [after0_2, out_eq m c t ht, acc m c t ht, Nat.mul_comm 1408, Nat.mul_comm 1024]

/-- The whole run: the result and the arguments. -/
theorem run (ρ : Dev nD → PrngReg) : θ_run defs (onTc (τ := τ) (main (F := Ideal))) ⟨m, fun _ => 0, ρ⟩ (fun r => ∀ c : Dev nD,
      r.2.mem ((c.tc : Thread nD τ).loc main_v0) = (fun i => prod 4096 (X m c) (Y m c) (i 0).val (i 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.1 c).1 2).trans (result m c), h.2 c⟩) (θ_run_and (run_main m ρ) (unchanged m ρ))

/-- The reference's transposed product, entry by entry. -/
theorem reference (x : Vec Ideal S4096x5632 .bf16) (y : Vec Ideal S4096x2048 .bf16) (i : S5632x2048.Idx) :
    truncf .bf16 (transpose Cert.ReferenceDwDownIdeal.S5632x2048 [1, 0] (Host.dotGeneral (F := Ideal) Cert.ReferenceDwDownIdeal.dot_S4096x2048_S4096x5632_S2048x5632_0_0_1_1_n_n none
      (extf .f32 y Cert.ReferenceDwDownIdeal.Facts₀.bitsLt_bf16_f32) (extf .f32 x Cert.ReferenceDwDownIdeal.Facts₀.bitsLt_bf16_f32))
      Cert.ReferenceDwDownIdeal.Facts₀.transposes_S2048x5632_S5632x2048_1_0) Cert.ReferenceDwDownIdeal.Facts₀.bitsLt_bf16_f32 i
      = prod 4096 (mat (A := 4096) (B := 5632) x) (mat (A := 4096) (B := 2048) y) (i 0).val (i 1).val := by
  unfold prod
  rw [Finset.sum_range]
  pointwise
  exact Finset.sum_congr rfl fun a _ => (mul_comm (G := EReal) _ _).trans
    (congrArg₂ (fun t u : EReal => t * u) (mat_apply x a (i 0)).symm (mat_apply y a (i 1)).symm)

/-- The reference's frame. -/
theorem frame_ref : @Cert.quiescent_ReferenceDwDownIdeal Cert.ReferenceDwDownIdeal.Gen.facts := fun m ρ _ =>
  (θ_run Cert.ReferenceDwDownIdeal.defs _ _).mono (fun r h => ⟨fun c => (h c).2, sem_eq_zero_of_no_sems (by decide) r.2⟩) (Cert.ReferenceDwDownIdeal.Value.run m ρ)

/-- The result is the reference's. -/
theorem values : @Cert.algebraic_KernelDwDownIdeal_ReferenceDwDownIdeal Cert.KernelDwDownIdeal.Gen.facts Cert.ReferenceDwDownIdeal.Gen.facts := by
  intro m g m' g' _ agree
  refine ⟨_, run m g, (θ_run Cert.ReferenceDwDownIdeal.defs _ _).mono (fun r h c => ⟨(h c).1.trans ?_, (h c).2⟩) (Cert.ReferenceDwDownIdeal.Value.run m' g')⟩
  rw [(agree c).1, (agree c).2]
  exact funext (reference _ _)

end Cert.DwDown
-- ==== Proof.DwIn.lean ====
/- The gradient of the input weights: what the blocked product leaves in its result. -/
module

public import proofs.«01_k».proof.Proof.Products
public import proofs.«01_k».proof.Proof.Gen.KernelDwInIdeal.Frame
public import proofs.«01_k».proof.Proof.Gen.ReferenceDwInIdeal.Run
public import proofs.«01_k».proof.Defs
public import Idealize.ShloMosaic.Lib.Pipeline.ReadBack

@[expose] public section

set_option maxRecDepth 16384

noncomputable section

namespace Cert.DwIn

open Idealize.ShloMosaic Idealize.ShloMosaic.TcCoe Idealize.ShloMosaic.Tactic
open Cert.KernelDwInIdeal Cert.KernelDwInIdeal.Gen
open Cert.Products

variable (m : (ℓ : Loc nD τ sig) → Buf (Elt Ideal) ℓ) (c : Dev nD)

/-- Which blocks a grid point works on. -/
theorem idx : ∀ t : Fin cfg0.N, win0_0.index t = ![t.val % 2, t.val / 2 / 5] ∧ win0_1.index t = ![t.val % 2, t.val / 2 % 5]
    ∧ win0_2.index t = ![t.val / 2 / 5, t.val / 2 % 5] :=
  (by decide +kernel : ∀ t : Fin grid0.N, win0_0.index t = ![t.val % 2, t.val / 2 / 5] ∧ win0_1.index t = ![t.val % 2, t.val / 2 % 5]
    ∧ win0_2.index t = ![t.val / 2 / 5, t.val / 2 % 5])

/-- The two factors, the summed index first. -/
def X : ℕ → ℕ → EReal := mat (A := 4096) (B := 2048) (m ((c : Thread nD τ).loc main_arg0))
def Y : ℕ → ℕ → EReal := mat (A := 4096) (B := 5120) (m ((c : Thread nD τ).loc main_arg1))

theorem x_at (t : Fin cfg0.N) (a : Fin 2048) (d : Fin 1024) :
    (iblk m c 0 t : Vec Ideal S2048x1024 .bf16) (ix2 a d) = X m c (2048 * (t.val % 2) + a.val) (1024 * (t.val / 2 / 5) + d.val) := by
  have hN := lt_of_lt_of_eq t.isLt N_0
  unfold X
  rw [← mat_of_lt _ _ _ (by omega) (by omega)]
  blk_ext [iblk, V, idx t]

theorem y_at (t : Fin cfg0.N) (a : Fin 2048) (d : Fin 1024) :
    (iblk m c 1 t : Vec Ideal S2048x1024 .bf16) (ix2 a d) = Y m c (2048 * (t.val % 2) + a.val) (1024 * (t.val / 2 % 5) + d.val) := by
  have hN := lt_of_lt_of_eq t.isLt N_0
  unfold Y
  rw [← mat_of_lt _ _ _ (by omega) (by omega)]
  blk_ext [iblk, V, idx t]

/-- What a grid point adds to the block it works on. -/
theorem step (t : Fin cfg0.N) (v : Vec Ideal S1024x1024 .f32) (j : S1024x1024.Idx) :
    k0_pay2 v (iblk m c 0 t) (iblk m c 1 t) j
      = v j + part 2048 (X m c) (Y m c) (t.val % 2) (1024 * (t.val / 2 / 5) + (j 0).val) (1024 * (t.val / 2 % 5) + (j 1).val) := by
  unfold k0_pay2 part
  rw [Finset.sum_range]
  pointwise
  exact congrArg (fun t : EReal => v j + t) (Finset.sum_congr rfl fun a _ =>
    congrArg₂ (fun t u : EReal => t * u) (x_at m c t a (j 0)) (y_at m c t a (j 1)))

/-- The accumulator after the last point of a sweep. -/
theorem acc (t : Fin cfg0.N) (h : t.val % 2 = 1) (j : S1024x1024.Idx) : (outsAt0 m c t.val t.isLt).2 j
    = prod 4096 (X m c) (Y m c) (1024 * (t.val / 2 / 5) + (j 0).val) (1024 * (t.val / 2 % 5) + (j 1).val) := by
  refine of_sweep (fun n h => (outsAt0 m c n h).2) 2048 2 (X m c) (Y m c) (fun n j => 1024 * (n / 5) + (j 0).val) (fun n j => 1024 * (n % 5) + (j 1).val)
    (fun t h j => ?_) (fun t h j => ?_) t (by omega) j
  · rw [outsAt0_A m c t h (by omega)]
    frame_out
    rw [step]
    exact congrArg (fun t : EReal => t + _) Ideal.ofBits_zero_f32
  · rw [outsAt0_B m c t h (by omega)]
    frame_out
    simp only [read_unread_whole]
    rw [step]

/-- The last point of a sweep copies the accumulator out. -/
theorem out_eq (t : Fin cfg0.N) (h : t.val % 2 = 1) (j : S1024x1024.Idx) : (outsAt0 m c t.val t.isLt).1 j = (outsAt0 m c t.val t.isLt).2 j := by
  rw [outsAt0_B m c t (by omega) h]
  frame_out
  simp only [read_unread_whole]
  rfl

/-- The result array after the run. -/
theorem result : (dats m 0 c).arrAt 2 cfg0.N = fun i => prod 4096 (X m c) (Y m c) (i 0).val (i 1).val := by
  refine (dats m 0 c).arrAt_eq_of_covers 2 _ (by decide +kernel) fun t hf y => ?_
  have ht := (flush0_2 t).mp hf
  blk_simp [idx t]
  rw [after0_2, out_eq m c t ht, acc m c t ht, Nat.mul_comm 1024, Nat.mul_comm 1024]

/-- The whole run: the result and the arguments. -/
theorem run (ρ : Dev nD → PrngReg) : θ_run defs (onTc (τ := τ) (main (F := Ideal))) ⟨m, fun _ => 0, ρ⟩ (fun r => ∀ c : Dev nD,
      r.2.mem ((c.tc : Thread nD τ).loc main_v0) = (fun i => prod 4096 (X m c) (Y m c) (i 0).val (i 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.1 c).1 2).trans (result m c), h.2 c⟩) (θ_run_and (run_main m ρ) (unchanged m ρ))

/-- The reference's transposed product, entry by entry. -/
theorem reference (x : Vec Ideal S4096x2048 .bf16) (y : Vec Ideal S4096x5120 .bf16) (i : S2048x5120.Idx) :
    truncf .bf16 (transpose Cert.ReferenceDwInIdeal.S2048x5120 [1, 0] (Host.dotGeneral (F := Ideal) Cert.ReferenceDwInIdeal.dot_S4096x5120_S4096x2048_S5120x2048_0_0_1_1_n_n none
      (extf .f32 y Cert.ReferenceDwInIdeal.Facts₀.bitsLt_bf16_f32) (extf .f32 x Cert.ReferenceDwInIdeal.Facts₀.bitsLt_bf16_f32))
      Cert.ReferenceDwInIdeal.Facts₀.transposes_S5120x2048_S2048x5120_1_0) Cert.ReferenceDwInIdeal.Facts₀.bitsLt_bf16_f32 i
      = prod 4096 (mat (A := 4096) (B := 2048) x) (mat (A := 4096) (B := 5120) y) (i 0).val (i 1).val := by
  unfold prod
  rw [Finset.sum_range]
  pointwise
  exact Finset.sum_congr rfl fun a _ => (mul_comm (G := EReal) _ _).trans
    (congrArg₂ (fun t u : EReal => t * u) (mat_apply x a (i 0)).symm (mat_apply y a (i 1)).symm)

/-- The reference's frame. -/
theorem frame_ref : @Cert.quiescent_ReferenceDwInIdeal Cert.ReferenceDwInIdeal.Gen.facts := fun m ρ _ =>
  (θ_run Cert.ReferenceDwInIdeal.defs _ _).mono (fun r h => ⟨fun c => (h c).2, sem_eq_zero_of_no_sems (by decide) r.2⟩) (Cert.ReferenceDwInIdeal.Value.run m ρ)

/-- The result is the reference's. -/
theorem values : @Cert.algebraic_KernelDwInIdeal_ReferenceDwInIdeal Cert.KernelDwInIdeal.Gen.facts Cert.ReferenceDwInIdeal.Gen.facts := by
  intro m g m' g' _ agree
  refine ⟨_, run m g, (θ_run Cert.ReferenceDwInIdeal.defs _ _).mono (fun r h c => ⟨(h c).1.trans ?_, (h c).2⟩) (Cert.ReferenceDwInIdeal.Value.run m' g')⟩
  rw [(agree c).1, (agree c).2]
  exact funext (reference _ _)

end Cert.DwIn
-- ==== Proof.Dxl.lean ====
/- The gradient that goes back to the layer's input: what the blocked product leaves in its result. -/
module

public import proofs.«01_k».proof.Proof.Products
public import proofs.«01_k».proof.Proof.Gen.KernelDxlIdeal.Frame
public import proofs.«01_k».proof.Proof.Gen.ReferenceDxlIdeal.Run
public import proofs.«01_k».proof.Defs
public import Idealize.ShloMosaic.Lib.Pipeline.ReadBack

@[expose] public section

set_option maxRecDepth 16384

noncomputable section

namespace Cert.Dxl

open Idealize.ShloMosaic Idealize.ShloMosaic.TcCoe Idealize.ShloMosaic.Tactic
open Cert.KernelDxlIdeal Cert.KernelDxlIdeal.Gen
open Cert.Products

variable (m : (ℓ : Loc nD τ sig) → Buf (Elt Ideal) ℓ) (c : Dev nD)

/-- Which blocks a grid point works on. -/
theorem idx : ∀ t : Fin cfg0.N, win0_0.index t = ![t.val / 2 / 2, t.val % 2] ∧ win0_1.index t = ![t.val / 2 % 2, t.val % 2]
    ∧ win0_2.index t = ![t.val / 2 / 2, t.val / 2 % 2] :=
  (by decide +kernel : ∀ t : Fin grid0.N, win0_0.index t = ![t.val / 2 / 2, t.val % 2] ∧ win0_1.index t = ![t.val / 2 % 2, t.val % 2]
    ∧ win0_2.index t = ![t.val / 2 / 2, t.val / 2 % 2])

/-- The two factors, the summed index first. -/
def X : ℕ → ℕ → EReal := matT (A := 4096) (B := 5120) (m ((c : Thread nD τ).loc main_arg0))
def Y : ℕ → ℕ → EReal := matT (A := 2048) (B := 5120) (m ((c : Thread nD τ).loc main_arg1))

theorem x_at (t : Fin cfg0.N) (d : Fin 1024) (a : Fin 2560) :
    (iblk m c 0 t : Vec Ideal S1024x2560 .bf16) (ix2 d a) = X m c (2560 * (t.val % 2) + a.val) (1024 * (t.val / 2 / 2) + d.val) := by
  have hN := lt_of_lt_of_eq t.isLt N_0
  unfold X matT
  rw [← mat_of_lt _ _ _ (by omega) (by omega)]
  blk_ext [iblk, V, idx t]

theorem y_at (t : Fin cfg0.N) (d : Fin 1024) (a : Fin 2560) :
    (iblk m c 1 t : Vec Ideal S1024x2560 .bf16) (ix2 d a) = Y m c (2560 * (t.val % 2) + a.val) (1024 * (t.val / 2 % 2) + d.val) := by
  have hN := lt_of_lt_of_eq t.isLt N_0
  unfold Y matT
  rw [← mat_of_lt _ _ _ (by omega) (by omega)]
  blk_ext [iblk, V, idx t]

/-- What a grid point adds to the block it works on. -/
theorem step (t : Fin cfg0.N) (v : Vec Ideal S1024x1024 .f32) (j : S1024x1024.Idx) :
    k0_pay2 v (iblk m c 0 t) (iblk m c 1 t) j
      = v j + part 2560 (X m c) (Y m c) (t.val % 2) (1024 * (t.val / 2 / 2) + (j 0).val) (1024 * (t.val / 2 % 2) + (j 1).val) := by
  unfold k0_pay2 part
  rw [Finset.sum_range]
  pointwise
  exact congrArg (fun t : EReal => v j + t) (Finset.sum_congr rfl fun a _ =>
    congrArg₂ (fun t u : EReal => t * u) (x_at m c t (j 0) a) (y_at m c t (j 1) a))

/-- The accumulator after the last point of a sweep. -/
theorem acc (t : Fin cfg0.N) (h : t.val % 2 = 1) (j : S1024x1024.Idx) : (outsAt0 m c t.val t.isLt).2 j
    = prod 5120 (X m c) (Y m c) (1024 * (t.val / 2 / 2) + (j 0).val) (1024 * (t.val / 2 % 2) + (j 1).val) := by
  refine of_sweep (fun n h => (outsAt0 m c n h).2) 2560 2 (X m c) (Y m c) (fun n j => 1024 * (n / 2) + (j 0).val) (fun n j => 1024 * (n % 2) + (j 1).val)
    (fun t h j => ?_) (fun t h j => ?_) t (by omega) j
  · rw [outsAt0_A m c t h (by omega)]
    frame_out
    rw [step]
    exact congrArg (fun t : EReal => t + _) Ideal.ofBits_zero_f32
  · rw [outsAt0_B m c t h (by omega)]
    frame_out
    simp only [read_unread_whole]
    rw [step]

/-- The last point of a sweep copies the accumulator out. -/
theorem out_eq (t : Fin cfg0.N) (h : t.val % 2 = 1) (j : S1024x1024.Idx) : (outsAt0 m c t.val t.isLt).1 j = (outsAt0 m c t.val t.isLt).2 j := by
  rw [outsAt0_B m c t (by omega) h]
  frame_out

/-- The result array after the run. -/
theorem result : (dats m 0 c).arrAt 2 cfg0.N = fun i => prod 5120 (X m c) (Y m c) (i 0).val (i 1).val := by
  refine (dats m 0 c).arrAt_eq_of_covers 2 _ (by decide +kernel) fun t hf y => ?_
  have ht := (flush0_2 t).mp hf
  blk_simp [idx t]
  rw [after0_2, out_eq m c t ht, acc m c t ht, Nat.mul_comm 1024, Nat.mul_comm 1024]

/-- The whole run: the result and the arguments. -/
theorem run (ρ : Dev nD → PrngReg) : θ_run defs (onTc (τ := τ) (main (F := Ideal))) ⟨m, fun _ => 0, ρ⟩ (fun r => ∀ c : Dev nD,
      r.2.mem ((c.tc : Thread nD τ).loc main_v0) = (fun i => prod 5120 (X m c) (Y m c) (i 0).val (i 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.1 c).1 2).trans (result m c), h.2 c⟩) (θ_run_and (run_main m ρ) (unchanged m ρ))

/-- The reference's product, entry by entry. -/
theorem reference (x : Vec Ideal S4096x5120 .bf16) (y : Vec Ideal S2048x5120 .bf16) (i : S4096x2048.Idx) :
    Host.dotGeneral (F := Ideal) Cert.ReferenceDxlIdeal.dot_S4096x5120_S2048x5120_S4096x2048_1_1_0_0_n_n none
      (extf .f32 x Cert.ReferenceDxlIdeal.Facts₀.bitsLt_bf16_f32) (extf .f32 y Cert.ReferenceDxlIdeal.Facts₀.bitsLt_bf16_f32) i
      = prod 5120 (matT (A := 4096) (B := 5120) x) (matT (A := 2048) (B := 5120) y) (i 0).val (i 1).val := by
  unfold prod
  rw [Finset.sum_range]
  pointwise
  exact Finset.sum_congr rfl fun a _ => congrArg₂ (fun t u : EReal => t * u) (mat_apply x (i 0) a).symm (mat_apply y (i 1) a).symm

/-- The reference's frame. -/
theorem frame_ref : @Cert.quiescent_ReferenceDxlIdeal Cert.ReferenceDxlIdeal.Gen.facts := fun m ρ _ =>
  (θ_run Cert.ReferenceDxlIdeal.defs _ _).mono (fun r h => ⟨fun c => (h c).2, sem_eq_zero_of_no_sems (by decide) r.2⟩) (Cert.ReferenceDxlIdeal.Value.run m ρ)

/-- The result is the reference's. -/
theorem values : @Cert.algebraic_KernelDxlIdeal_ReferenceDxlIdeal Cert.KernelDxlIdeal.Gen.facts Cert.ReferenceDxlIdeal.Gen.facts := by
  intro m g m' g' _ agree
  refine ⟨_, run m g, (θ_run Cert.ReferenceDxlIdeal.defs _ _).mono (fun r h c => ⟨(h c).1.trans ?_, (h c).2⟩) (Cert.ReferenceDxlIdeal.Value.run m' g')⟩
  rw [(agree c).1, (agree c).2]
  exact funext (reference _ _)

end Cert.Dxl
-- ==== Proof.DwOut.lean ====
/- The gradient of the output weights: what the blocked product leaves in its result. -/
module

public import proofs.«01_k».proof.Proof.Products
public import proofs.«01_k».proof.Proof.Gen.KernelDwOutIdeal.Frame
public import proofs.«01_k».proof.Proof.Gen.ReferenceDwOutIdeal.Run
public import proofs.«01_k».proof.Defs
public import Idealize.ShloMosaic.Lib.Pipeline.ReadBack

@[expose] public section

set_option maxRecDepth 16384

noncomputable section

namespace Cert.DwOut

open Idealize.ShloMosaic Idealize.ShloMosaic.TcCoe Idealize.ShloMosaic.Tactic
open Cert.KernelDwOutIdeal Cert.KernelDwOutIdeal.Gen
open Cert.Products

variable (m : (ℓ : Loc nD τ sig) → Buf (Elt Ideal) ℓ) (c : Dev nD)

/-- Which blocks a grid point works on. -/
theorem idx : ∀ t : Fin cfg0.N, win0_0.index t = ![t.val % 2, t.val / 2 / 2] ∧ win0_1.index t = ![t.val % 2, t.val / 2 % 2]
    ∧ win0_2.index t = ![t.val / 2 / 2, t.val / 2 % 2] :=
  (by decide +kernel : ∀ t : Fin grid0.N, win0_0.index t = ![t.val % 2, t.val / 2 / 2] ∧ win0_1.index t = ![t.val % 2, t.val / 2 % 2]
    ∧ win0_2.index t = ![t.val / 2 / 2, t.val / 2 % 2])

/-- The two factors, the summed index first. -/
def X : ℕ → ℕ → EReal := mat (A := 4096) (B := 2048) (m ((c : Thread nD τ).loc main_arg0))
def Y : ℕ → ℕ → EReal := mat (A := 4096) (B := 2048) (m ((c : Thread nD τ).loc main_arg1))

theorem x_at (t : Fin cfg0.N) (a : Fin 2048) (d : Fin 1024) :
    (iblk m c 0 t : Vec Ideal S2048x1024 .bf16) (ix2 a d) = X m c (2048 * (t.val % 2) + a.val) (1024 * (t.val / 2 / 2) + d.val) := by
  have hN := lt_of_lt_of_eq t.isLt N_0
  unfold X
  rw [← mat_of_lt _ _ _ (by omega) (by omega)]
  blk_ext [iblk, V, idx t]

theorem y_at (t : Fin cfg0.N) (a : Fin 2048) (d : Fin 1024) :
    (iblk m c 1 t : Vec Ideal S2048x1024 .bf16) (ix2 a d) = Y m c (2048 * (t.val % 2) + a.val) (1024 * (t.val / 2 % 2) + d.val) := by
  have hN := lt_of_lt_of_eq t.isLt N_0
  unfold Y
  rw [← mat_of_lt _ _ _ (by omega) (by omega)]
  blk_ext [iblk, V, idx t]

/-- What a grid point adds to the block it works on. -/
theorem step (t : Fin cfg0.N) (v : Vec Ideal S1024x1024 .f32) (j : S1024x1024.Idx) :
    k0_pay2 v (iblk m c 0 t) (iblk m c 1 t) j
      = v j + part 2048 (X m c) (Y m c) (t.val % 2) (1024 * (t.val / 2 / 2) + (j 0).val) (1024 * (t.val / 2 % 2) + (j 1).val) := by
  unfold k0_pay2 part
  rw [Finset.sum_range]
  pointwise
  exact congrArg (fun t : EReal => v j + t) (Finset.sum_congr rfl fun a _ =>
    congrArg₂ (fun t u : EReal => t * u) (x_at m c t a (j 0)) (y_at m c t a (j 1)))

/-- The accumulator after the last point of a sweep. -/
theorem acc (t : Fin cfg0.N) (h : t.val % 2 = 1) (j : S1024x1024.Idx) : (outsAt0 m c t.val t.isLt).2 j
    = prod 4096 (X m c) (Y m c) (1024 * (t.val / 2 / 2) + (j 0).val) (1024 * (t.val / 2 % 2) + (j 1).val) := by
  refine of_sweep (fun n h => (outsAt0 m c n h).2) 2048 2 (X m c) (Y m c) (fun n j => 1024 * (n / 2) + (j 0).val) (fun n j => 1024 * (n % 2) + (j 1).val)
    (fun t h j => ?_) (fun t h j => ?_) t (by omega) j
  · rw [outsAt0_A m c t h (by omega)]
    frame_out
    rw [step]
    exact congrArg (fun t : EReal => t + _) Ideal.ofBits_zero_f32
  · rw [outsAt0_B m c t h (by omega)]
    frame_out
    simp only [read_unread_whole]
    rw [step]

/-- The last point of a sweep copies the accumulator out. -/
theorem out_eq (t : Fin cfg0.N) (h : t.val % 2 = 1) (j : S1024x1024.Idx) : (outsAt0 m c t.val t.isLt).1 j = (outsAt0 m c t.val t.isLt).2 j := by
  rw [outsAt0_B m c t (by omega) h]
  frame_out
  simp only [read_unread_whole]
  rfl

/-- The result array after the run. -/
theorem result : (dats m 0 c).arrAt 2 cfg0.N = fun i => prod 4096 (X m c) (Y m c) (i 0).val (i 1).val := by
  refine (dats m 0 c).arrAt_eq_of_covers 2 _ (by decide +kernel) fun t hf y => ?_
  have ht := (flush0_2 t).mp hf
  blk_simp [idx t]
  rw [after0_2, out_eq m c t ht, acc m c t ht, Nat.mul_comm 1024, Nat.mul_comm 1024]

/-- The whole run: the result and the arguments. -/
theorem run (ρ : Dev nD → PrngReg) : θ_run defs (onTc (τ := τ) (main (F := Ideal))) ⟨m, fun _ => 0, ρ⟩ (fun r => ∀ c : Dev nD,
      r.2.mem ((c.tc : Thread nD τ).loc main_v0) = (fun i => prod 4096 (X m c) (Y m c) (i 0).val (i 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.1 c).1 2).trans (result m c), h.2 c⟩) (θ_run_and (run_main m ρ) (unchanged m ρ))

/-- The reference's transposed product, entry by entry. -/
theorem reference (x : Vec Ideal S4096x2048 .bf16) (y : Vec Ideal S4096x2048 .bf16) (i : S2048x2048.Idx) :
    truncf .bf16 (transpose Cert.ReferenceDwOutIdeal.S2048x2048 [1, 0] (Host.dotGeneral (F := Ideal) Cert.ReferenceDwOutIdeal.dot_S4096x2048_S4096x2048_S2048x2048_0_0_1_1_n_n none
      (extf .f32 y Cert.ReferenceDwOutIdeal.Facts₀.bitsLt_bf16_f32) (extf .f32 x Cert.ReferenceDwOutIdeal.Facts₀.bitsLt_bf16_f32))
      Cert.ReferenceDwOutIdeal.Facts₀.transposes_S2048x2048_S2048x2048_1_0) Cert.ReferenceDwOutIdeal.Facts₀.bitsLt_bf16_f32 i
      = prod 4096 (mat (A := 4096) (B := 2048) x) (mat (A := 4096) (B := 2048) y) (i 0).val (i 1).val := by
  unfold prod
  rw [Finset.sum_range]
  pointwise
  exact Finset.sum_congr rfl fun a _ => (mul_comm (G := EReal) _ _).trans
    (congrArg₂ (fun t u : EReal => t * u) (mat_apply x a (i 0)).symm (mat_apply y a (i 1)).symm)

/-- The reference's frame. -/
theorem frame_ref : @Cert.quiescent_ReferenceDwOutIdeal Cert.ReferenceDwOutIdeal.Gen.facts := fun m ρ _ =>
  (θ_run Cert.ReferenceDwOutIdeal.defs _ _).mono (fun r h => ⟨fun c => (h c).2, sem_eq_zero_of_no_sems (by decide) r.2⟩) (Cert.ReferenceDwOutIdeal.Value.run m ρ)

/-- The result is the reference's. -/
theorem values : @Cert.algebraic_KernelDwOutIdeal_ReferenceDwOutIdeal Cert.KernelDwOutIdeal.Gen.facts Cert.ReferenceDwOutIdeal.Gen.facts := by
  intro m g m' g' _ agree
  refine ⟨_, run m g, (θ_run Cert.ReferenceDwOutIdeal.defs _ _).mono (fun r h c => ⟨(h c).1.trans ?_, (h c).2⟩) (Cert.ReferenceDwOutIdeal.Value.run m' g')⟩
  rw [(agree c).1, (agree c).2]
  exact funext (reference _ _)

end Cert.DwOut
-- ==== Proof.Dmixin.lean ====
/- The gradient that goes back through the output product: what the blocked product leaves in its result. -/
module

public import proofs.«01_k».proof.Proof.Products
public import proofs.«01_k».proof.Proof.Gen.KernelDmixinIdeal.Frame
public import proofs.«01_k».proof.Proof.Gen.ReferenceDmixinIdeal.Run
public import proofs.«01_k».proof.Defs
public import Idealize.ShloMosaic.Lib.Pipeline.ReadBack

@[expose] public section

set_option maxRecDepth 16384

noncomputable section

namespace Cert.Dmixin

open Idealize.ShloMosaic Idealize.ShloMosaic.TcCoe Idealize.ShloMosaic.Tactic
open Cert.KernelDmixinIdeal Cert.KernelDmixinIdeal.Gen
open Cert.Products

variable (m : (ℓ : Loc nD τ sig) → Buf (Elt Ideal) ℓ) (c : Dev nD)

/-- Which blocks a grid point works on. -/
theorem idx : ∀ t : Fin cfg0.N, win0_0.index t = ![t.val / 2, 0] ∧ win0_1.index t = ![t.val % 2, 0]
    ∧ win0_2.index t = ![t.val / 2, t.val % 2] :=
  (by decide +kernel : ∀ t : Fin grid0.N, win0_0.index t = ![t.val / 2, 0] ∧ win0_1.index t = ![t.val % 2, 0]
    ∧ win0_2.index t = ![t.val / 2, t.val % 2])

/-- The two factors, the summed index first. -/
def X : ℕ → ℕ → EReal := matT (A := 4096) (B := 2048) (m ((c : Thread nD τ).loc main_arg0))
def Y : ℕ → ℕ → EReal := matT (A := 2048) (B := 2048) (m ((c : Thread nD τ).loc main_arg1))

theorem x_at (t : Fin cfg0.N) (d : Fin 1024) (a : Fin 2048) :
    (iblk m c 0 t : Vec Ideal S1024x2048 .bf16) (ix2 d a) = X m c (a.val) (1024 * (t.val / 2) + d.val) := by
  have hN := lt_of_lt_of_eq t.isLt N_0
  unfold X matT
  rw [← mat_of_lt _ _ _ (by omega) (by omega)]
  blk_ext [iblk, V, idx t]

theorem y_at (t : Fin cfg0.N) (d : Fin 1024) (a : Fin 2048) :
    (iblk m c 1 t : Vec Ideal S1024x2048 .bf16) (ix2 d a) = Y m c (a.val) (1024 * (t.val % 2) + d.val) := by
  have hN := lt_of_lt_of_eq t.isLt N_0
  unfold Y matT
  rw [← mat_of_lt _ _ _ (by omega) (by omega)]
  blk_ext [iblk, V, idx t]

/-- The block that a grid point writes. -/
theorem block (t : Fin cfg0.N) (j : S1024x1024.Idx) : outsAt0 m c t j = prod 2048 (X m c) (Y m c) (1024 * (t.val / 2) + (j 0).val) (1024 * (t.val % 2) + (j 1).val) := by
  unfold outsAt0
  frame_out
  unfold k0_pay1 prod
  rw [Finset.sum_range]
  pointwise
  exact Finset.sum_congr rfl fun a _ => congrArg₂ (fun t u : EReal => t * u) (x_at m c t (j 0) a) (y_at m c t (j 1) a)

/-- The result array after the run. -/
theorem result : (dats m 0 c).arrAt 2 cfg0.N = fun i => prod 2048 (X m c) (Y m c) (i 0).val (i 1).val := by
  refine (dats m 0 c).arrAt_eq_of_covers 2 _ (by decide +kernel) fun t hf y => ?_
  blk_simp [idx t]
  rw [after0_2, block m c t, Nat.mul_comm 1024, Nat.mul_comm 1024]

/-- The whole run: the result and the arguments. -/
theorem run (ρ : Dev nD → PrngReg) : θ_run defs (onTc (τ := τ) (main (F := Ideal))) ⟨m, fun _ => 0, ρ⟩ (fun r => ∀ c : Dev nD,
      r.2.mem ((c.tc : Thread nD τ).loc main_v0) = (fun i => prod 2048 (X m c) (Y m c) (i 0).val (i 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.1 c).1 2).trans (result m c), h.2 c⟩) (θ_run_and (run_main m ρ) (unchanged m ρ))

/-- The reference's product, entry by entry. -/
theorem reference (x : Vec Ideal S4096x2048 .bf16) (y : Vec Ideal S2048x2048 .bf16) (i : S4096x2048.Idx) :
    Host.dotGeneral (F := Ideal) Cert.ReferenceDmixinIdeal.dot_S4096x2048_S2048x2048_S4096x2048_1_1_0_0_n_n none
      (extf .f32 x Cert.ReferenceDmixinIdeal.Facts₀.bitsLt_bf16_f32) (extf .f32 y Cert.ReferenceDmixinIdeal.Facts₀.bitsLt_bf16_f32) i
      = prod 2048 (matT (A := 4096) (B := 2048) x) (matT (A := 2048) (B := 2048) y) (i 0).val (i 1).val := by
  unfold prod
  rw [Finset.sum_range]
  pointwise
  exact Finset.sum_congr rfl fun a _ => congrArg₂ (fun t u : EReal => t * u) (mat_apply x (i 0) a).symm (mat_apply y (i 1) a).symm

/-- The reference's frame. -/
theorem frame_ref : @Cert.quiescent_ReferenceDmixinIdeal Cert.ReferenceDmixinIdeal.Gen.facts := fun m ρ _ =>
  (θ_run Cert.ReferenceDmixinIdeal.defs _ _).mono (fun r h => ⟨fun c => (h c).2, sem_eq_zero_of_no_sems (by decide) r.2⟩) (Cert.ReferenceDmixinIdeal.Value.run m ρ)

/-- The result is the reference's. -/
theorem values : @Cert.algebraic_KernelDmixinIdeal_ReferenceDmixinIdeal Cert.KernelDmixinIdeal.Gen.facts Cert.ReferenceDmixinIdeal.Gen.facts := by
  intro m g m' g' _ agree
  refine ⟨_, run m g, (θ_run Cert.ReferenceDmixinIdeal.defs _ _).mono (fun r h c => ⟨(h c).1.trans ?_, (h c).2⟩) (Cert.ReferenceDmixinIdeal.Value.run m' g')⟩
  rw [(agree c).1, (agree c).2]
  exact funext (reference _ _)

end Cert.Dmixin
-- ==== Proof.DwUq.lean ====
/- The gradient of the weights that widen the queries: what the blocked product leaves in its result. -/
module

public import proofs.«01_k».proof.Proof.Products
public import proofs.«01_k».proof.Proof.Gen.KernelDwUqIdeal.Frame
public import proofs.«01_k».proof.Proof.Gen.ReferenceDwUqIdeal.Run
public import proofs.«01_k».proof.Defs
public import Idealize.ShloMosaic.Lib.Pipeline.ReadBack

@[expose] public section

set_option maxRecDepth 16384

noncomputable section

namespace Cert.DwUq

open Idealize.ShloMosaic Idealize.ShloMosaic.TcCoe Idealize.ShloMosaic.Tactic
open Cert.KernelDwUqIdeal Cert.KernelDwUqIdeal.Gen
open Cert.Products

variable (m : (ℓ : Loc nD τ sig) → Buf (Elt Ideal) ℓ) (c : Dev nD)

/-- Which blocks a grid point works on. -/
theorem idx : ∀ t : Fin cfg0.N, win0_0.index t = ![t.val % 2, 0] ∧ win0_1.index t = ![t.val % 2, t.val / 2]
    ∧ win0_2.index t = ![0, t.val / 2] :=
  (by decide +kernel : ∀ t : Fin grid0.N, win0_0.index t = ![t.val % 2, 0] ∧ win0_1.index t = ![t.val % 2, t.val / 2]
    ∧ win0_2.index t = ![0, t.val / 2])

/-- The two factors, the summed index first. -/
def X : ℕ → ℕ → EReal := mat (A := 4096) (B := 512) (m ((c : Thread nD τ).loc main_arg0))
def Y : ℕ → ℕ → EReal := mat (A := 4096) (B := 2048) (m ((c : Thread nD τ).loc main_arg1))

theorem x_at (t : Fin cfg0.N) (a : Fin 2048) (d : Fin 512) :
    (iblk m c 0 t : Vec Ideal S2048x512 .bf16) (ix2 a d) = X m c (2048 * (t.val % 2) + a.val) (d.val) := by
  have hN := lt_of_lt_of_eq t.isLt N_0
  unfold X
  rw [← mat_of_lt _ _ _ (by omega) (by omega)]
  blk_ext [iblk, V, idx t]

theorem y_at (t : Fin cfg0.N) (a : Fin 2048) (d : Fin 1024) :
    (iblk m c 1 t : Vec Ideal S2048x1024 .bf16) (ix2 a d) = Y m c (2048 * (t.val % 2) + a.val) (1024 * (t.val / 2) + d.val) := by
  have hN := lt_of_lt_of_eq t.isLt N_0
  unfold Y
  rw [← mat_of_lt _ _ _ (by omega) (by omega)]
  blk_ext [iblk, V, idx t]

/-- What a grid point adds to the block it works on. -/
theorem step (t : Fin cfg0.N) (v : Vec Ideal S512x1024 .f32) (j : S512x1024.Idx) :
    k0_pay2 v (iblk m c 0 t) (iblk m c 1 t) j
      = v j + part 2048 (X m c) (Y m c) (t.val % 2) ((j 0).val) (1024 * (t.val / 2) + (j 1).val) := by
  unfold k0_pay2 part
  rw [Finset.sum_range]
  pointwise
  exact congrArg (fun t : EReal => v j + t) (Finset.sum_congr rfl fun a _ =>
    congrArg₂ (fun t u : EReal => t * u) (x_at m c t a (j 0)) (y_at m c t a (j 1)))

/-- The accumulator after the last point of a sweep. -/
theorem acc (t : Fin cfg0.N) (h : t.val % 2 = 1) (j : S512x1024.Idx) : (outsAt0 m c t.val t.isLt).2 j
    = prod 4096 (X m c) (Y m c) ((j 0).val) (1024 * (t.val / 2) + (j 1).val) := by
  refine of_sweep (fun n h => (outsAt0 m c n h).2) 2048 2 (X m c) (Y m c) (fun n j => (j 0).val) (fun n j => 1024 * n + (j 1).val)
    (fun t h j => ?_) (fun t h j => ?_) t (by omega) j
  · rw [outsAt0_A m c t h (by omega)]
    frame_out
    rw [step]
    exact congrArg (fun t : EReal => t + _) Ideal.ofBits_zero_f32
  · rw [outsAt0_B m c t h (by omega)]
    frame_out
    simp only [read_unread_whole]
    rw [step]

/-- The last point of a sweep copies the accumulator out. -/
theorem out_eq (t : Fin cfg0.N) (h : t.val % 2 = 1) (j : S512x1024.Idx) : (outsAt0 m c t.val t.isLt).1 j = (outsAt0 m c t.val t.isLt).2 j := by
  rw [outsAt0_B m c t (by omega) h]
  frame_out
  simp only [read_unread_whole]
  rfl

/-- The result array after the run. -/
theorem result : (dats m 0 c).arrAt 2 cfg0.N = fun i => prod 4096 (X m c) (Y m c) (i 0).val (i 1).val := by
  refine (dats m 0 c).arrAt_eq_of_covers 2 _ (by decide +kernel) fun t hf y => ?_
  have ht := (flush0_2 t).mp hf
  blk_simp [idx t]
  rw [after0_2, out_eq m c t ht, acc m c t ht, Nat.mul_comm 1024]

/-- The whole run: the result and the arguments. -/
theorem run (ρ : Dev nD → PrngReg) : θ_run defs (onTc (τ := τ) (main (F := Ideal))) ⟨m, fun _ => 0, ρ⟩ (fun r => ∀ c : Dev nD,
      r.2.mem ((c.tc : Thread nD τ).loc main_v0) = (fun i => prod 4096 (X m c) (Y m c) (i 0).val (i 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.1 c).1 2).trans (result m c), h.2 c⟩) (θ_run_and (run_main m ρ) (unchanged m ρ))

/-- The reference's transposed product, entry by entry. -/
theorem reference (x : Vec Ideal S4096x512 .bf16) (y : Vec Ideal S4096x2048 .bf16) (i : S512x2048.Idx) :
    truncf .bf16 (transpose Cert.ReferenceDwUqIdeal.S512x2048 [1, 0] (Host.dotGeneral (F := Ideal) Cert.ReferenceDwUqIdeal.dot_S4096x2048_S4096x512_S2048x512_0_0_1_1_n_n none
      (extf .f32 y Cert.ReferenceDwUqIdeal.Facts₀.bitsLt_bf16_f32) (extf .f32 x Cert.ReferenceDwUqIdeal.Facts₀.bitsLt_bf16_f32))
      Cert.ReferenceDwUqIdeal.Facts₀.transposes_S2048x512_S512x2048_1_0) Cert.ReferenceDwUqIdeal.Facts₀.bitsLt_bf16_f32 i
      = prod 4096 (mat (A := 4096) (B := 512) x) (mat (A := 4096) (B := 2048) y) (i 0).val (i 1).val := by
  unfold prod
  rw [Finset.sum_range]
  pointwise
  exact Finset.sum_congr rfl fun a _ => (mul_comm (G := EReal) _ _).trans
    (congrArg₂ (fun t u : EReal => t * u) (mat_apply x a (i 0)).symm (mat_apply y a (i 1)).symm)

/-- The reference's frame. -/
theorem frame_ref : @Cert.quiescent_ReferenceDwUqIdeal Cert.ReferenceDwUqIdeal.Gen.facts := fun m ρ _ =>
  (θ_run Cert.ReferenceDwUqIdeal.defs _ _).mono (fun r h => ⟨fun c => (h c).2, sem_eq_zero_of_no_sems (by decide) r.2⟩) (Cert.ReferenceDwUqIdeal.Value.run m ρ)

/-- The result is the reference's. -/
theorem values : @Cert.algebraic_KernelDwUqIdeal_ReferenceDwUqIdeal Cert.KernelDwUqIdeal.Gen.facts Cert.ReferenceDwUqIdeal.Gen.facts := by
  intro m g m' g' _ agree
  refine ⟨_, run m g, (θ_run Cert.ReferenceDwUqIdeal.defs _ _).mono (fun r h c => ⟨(h c).1.trans ?_, (h c).2⟩) (Cert.ReferenceDwUqIdeal.Value.run m' g')⟩
  rw [(agree c).1, (agree c).2]
  exact funext (reference _ _)

end Cert.DwUq
-- ==== Proof.Dqn.lean ====
/- The gradient that goes back to the narrow queries: what the blocked product leaves in its result. -/
module

public import proofs.«01_k».proof.Proof.Products
public import proofs.«01_k».proof.Proof.Gen.KernelDqnIdeal.Frame
public import proofs.«01_k».proof.Proof.Gen.ReferenceDqnIdeal.Run
public import proofs.«01_k».proof.Defs
public import Idealize.ShloMosaic.Lib.Pipeline.ReadBack

@[expose] public section

set_option maxRecDepth 16384

noncomputable section

namespace Cert.Dqn

open Idealize.ShloMosaic Idealize.ShloMosaic.TcCoe Idealize.ShloMosaic.Tactic
open Cert.KernelDqnIdeal Cert.KernelDqnIdeal.Gen
open Cert.Products

variable (m : (ℓ : Loc nD τ sig) → Buf (Elt Ideal) ℓ) (c : Dev nD)

/-- Which blocks a grid point works on. -/
theorem idx : ∀ t : Fin cfg0.N, win0_0.index t = ![t.val, 0] ∧ win0_1.index t = ![0, 0]
    ∧ win0_2.index t = ![t.val, 0] :=
  (by decide +kernel : ∀ t : Fin grid0.N, win0_0.index t = ![t.val, 0] ∧ win0_1.index t = ![0, 0]
    ∧ win0_2.index t = ![t.val, 0])

/-- The two factors, the summed index first. -/
def X : ℕ → ℕ → EReal := matT (A := 4096) (B := 2048) (m ((c : Thread nD τ).loc main_arg0))
def Y : ℕ → ℕ → EReal := matT (A := 512) (B := 2048) (m ((c : Thread nD τ).loc main_arg1))

theorem x_at (t : Fin cfg0.N) (d : Fin 1024) (a : Fin 2048) :
    (iblk m c 0 t : Vec Ideal S1024x2048 .bf16) (ix2 d a) = X m c (a.val) (1024 * t.val + d.val) := by
  have hN := lt_of_lt_of_eq t.isLt N_0
  unfold X matT
  rw [← mat_of_lt _ _ _ (by omega) (by omega)]
  blk_ext [iblk, V, idx t]

theorem y_at (t : Fin cfg0.N) (d : Fin 512) (a : Fin 2048) :
    (iblk m c 1 t : Vec Ideal S512x2048 .bf16) (ix2 d a) = Y m c (a.val) (d.val) := by
  have hN := lt_of_lt_of_eq t.isLt N_0
  unfold Y matT
  rw [← mat_of_lt _ _ _ (by omega) (by omega)]
  blk_ext [iblk, V, idx t]

/-- The block that a grid point writes. -/
theorem block (t : Fin cfg0.N) (j : S1024x512.Idx) : outsAt0 m c t j = prod 2048 (X m c) (Y m c) (1024 * t.val + (j 0).val) ((j 1).val) := by
  unfold outsAt0
  frame_out
  unfold k0_pay1 prod
  rw [Finset.sum_range]
  pointwise
  exact Finset.sum_congr rfl fun a _ => congrArg₂ (fun t u : EReal => t * u) (x_at m c t (j 0) a) (y_at m c t (j 1) a)

/-- The result array after the run. -/
theorem result : (dats m 0 c).arrAt 2 cfg0.N = fun i => prod 2048 (X m c) (Y m c) (i 0).val (i 1).val := by
  refine (dats m 0 c).arrAt_eq_of_covers 2 _ (by decide +kernel) fun t hf y => ?_
  blk_simp [idx t]
  rw [after0_2, block m c t, Nat.mul_comm 1024]

/-- The whole run: the result and the arguments. -/
theorem run (ρ : Dev nD → PrngReg) : θ_run defs (onTc (τ := τ) (main (F := Ideal))) ⟨m, fun _ => 0, ρ⟩ (fun r => ∀ c : Dev nD,
      r.2.mem ((c.tc : Thread nD τ).loc main_v0) = (fun i => prod 2048 (X m c) (Y m c) (i 0).val (i 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.1 c).1 2).trans (result m c), h.2 c⟩) (θ_run_and (run_main m ρ) (unchanged m ρ))

/-- The reference's product, entry by entry. -/
theorem reference (x : Vec Ideal S4096x2048 .bf16) (y : Vec Ideal S512x2048 .bf16) (i : S4096x512.Idx) :
    Host.dotGeneral (F := Ideal) Cert.ReferenceDqnIdeal.dot_S4096x2048_S512x2048_S4096x512_1_1_0_0_n_n none
      (extf .f32 x Cert.ReferenceDqnIdeal.Facts₀.bitsLt_bf16_f32) (extf .f32 y Cert.ReferenceDqnIdeal.Facts₀.bitsLt_bf16_f32) i
      = prod 2048 (matT (A := 4096) (B := 2048) x) (matT (A := 512) (B := 2048) y) (i 0).val (i 1).val := by
  unfold prod
  rw [Finset.sum_range]
  pointwise
  exact Finset.sum_congr rfl fun a _ => congrArg₂ (fun t u : EReal => t * u) (mat_apply x (i 0) a).symm (mat_apply y (i 1) a).symm

/-- The reference's frame. -/
theorem frame_ref : @Cert.quiescent_ReferenceDqnIdeal Cert.ReferenceDqnIdeal.Gen.facts := fun m ρ _ =>
  (θ_run Cert.ReferenceDqnIdeal.defs _ _).mono (fun r h => ⟨fun c => (h c).2, sem_eq_zero_of_no_sems (by decide) r.2⟩) (Cert.ReferenceDqnIdeal.Value.run m ρ)

/-- The result is the reference's. -/
theorem values : @Cert.algebraic_KernelDqnIdeal_ReferenceDqnIdeal Cert.KernelDqnIdeal.Gen.facts Cert.ReferenceDqnIdeal.Gen.facts := by
  intro m g m' g' _ agree
  refine ⟨_, run m g, (θ_run Cert.ReferenceDqnIdeal.defs _ _).mono (fun r h c => ⟨(h c).1.trans ?_, (h c).2⟩) (Cert.ReferenceDqnIdeal.Value.run m' g')⟩
  rw [(agree c).1, (agree c).2]
  exact funext (reference _ _)

end Cert.Dqn
-- ==== Proof.DwUkv.lean ====
/- The gradient of the weights that widen the keys and values: what the blocked product leaves in its result. -/
module

public import proofs.«01_k».proof.Proof.Products
public import proofs.«01_k».proof.Proof.Gen.KernelDwUkvIdeal.Frame
public import proofs.«01_k».proof.Proof.Gen.ReferenceDwUkvIdeal.Run
public import proofs.«01_k».proof.Defs
public import Idealize.ShloMosaic.Lib.Pipeline.ReadBack

@[expose] public section

set_option maxRecDepth 16384

noncomputable section

namespace Cert.DwUkv

open Idealize.ShloMosaic Idealize.ShloMosaic.TcCoe Idealize.ShloMosaic.Tactic
open Cert.KernelDwUkvIdeal Cert.KernelDwUkvIdeal.Gen
open Cert.Products

variable (m : (ℓ : Loc nD τ sig) → Buf (Elt Ideal) ℓ) (c : Dev nD)

/-- Which blocks a grid point works on. -/
theorem idx : ∀ t : Fin cfg0.N, win0_0.index t = ![t.val % 2, 0] ∧ win0_1.index t = ![t.val % 2, t.val / 2]
    ∧ win0_2.index t = ![0, t.val / 2] :=
  (by decide +kernel : ∀ t : Fin grid0.N, win0_0.index t = ![t.val % 2, 0] ∧ win0_1.index t = ![t.val % 2, t.val / 2]
    ∧ win0_2.index t = ![0, t.val / 2])

/-- The two factors, the summed index first. -/
def X : ℕ → ℕ → EReal := mat (A := 4096) (B := 256) (m ((c : Thread nD τ).loc main_arg0))
def Y : ℕ → ℕ → EReal := mat (A := 4096) (B := 2048) (m ((c : Thread nD τ).loc main_arg1))

theorem x_at (t : Fin cfg0.N) (a : Fin 2048) (d : Fin 256) :
    (iblk m c 0 t : Vec Ideal S2048x256 .bf16) (ix2 a d) = X m c (2048 * (t.val % 2) + a.val) (d.val) := by
  have hN := lt_of_lt_of_eq t.isLt N_0
  unfold X
  rw [← mat_of_lt _ _ _ (by omega) (by omega)]
  blk_ext [iblk, V, idx t]

theorem y_at (t : Fin cfg0.N) (a : Fin 2048) (d : Fin 1024) :
    (iblk m c 1 t : Vec Ideal S2048x1024 .bf16) (ix2 a d) = Y m c (2048 * (t.val % 2) + a.val) (1024 * (t.val / 2) + d.val) := by
  have hN := lt_of_lt_of_eq t.isLt N_0
  unfold Y
  rw [← mat_of_lt _ _ _ (by omega) (by omega)]
  blk_ext [iblk, V, idx t]

/-- What a grid point adds to the block it works on. -/
theorem step (t : Fin cfg0.N) (v : Vec Ideal S256x1024 .f32) (j : S256x1024.Idx) :
    k0_pay2 v (iblk m c 0 t) (iblk m c 1 t) j
      = v j + part 2048 (X m c) (Y m c) (t.val % 2) ((j 0).val) (1024 * (t.val / 2) + (j 1).val) := by
  unfold k0_pay2 part
  rw [Finset.sum_range]
  pointwise
  exact congrArg (fun t : EReal => v j + t) (Finset.sum_congr rfl fun a _ =>
    congrArg₂ (fun t u : EReal => t * u) (x_at m c t a (j 0)) (y_at m c t a (j 1)))

/-- The accumulator after the last point of a sweep. -/
theorem acc (t : Fin cfg0.N) (h : t.val % 2 = 1) (j : S256x1024.Idx) : (outsAt0 m c t.val t.isLt).2 j
    = prod 4096 (X m c) (Y m c) ((j 0).val) (1024 * (t.val / 2) + (j 1).val) := by
  refine of_sweep (fun n h => (outsAt0 m c n h).2) 2048 2 (X m c) (Y m c) (fun n j => (j 0).val) (fun n j => 1024 * n + (j 1).val)
    (fun t h j => ?_) (fun t h j => ?_) t (by omega) j
  · rw [outsAt0_A m c t h (by omega)]
    frame_out
    rw [step]
    exact congrArg (fun t : EReal => t + _) Ideal.ofBits_zero_f32
  · rw [outsAt0_B m c t h (by omega)]
    frame_out
    simp only [read_unread_whole]
    rw [step]

/-- The last point of a sweep copies the accumulator out. -/
theorem out_eq (t : Fin cfg0.N) (h : t.val % 2 = 1) (j : S256x1024.Idx) : (outsAt0 m c t.val t.isLt).1 j = (outsAt0 m c t.val t.isLt).2 j := by
  rw [outsAt0_B m c t (by omega) h]
  frame_out
  simp only [read_unread_whole]
  rfl

/-- The result array after the run. -/
theorem result : (dats m 0 c).arrAt 2 cfg0.N = fun i => prod 4096 (X m c) (Y m c) (i 0).val (i 1).val := by
  refine (dats m 0 c).arrAt_eq_of_covers 2 _ (by decide +kernel) fun t hf y => ?_
  have ht := (flush0_2 t).mp hf
  blk_simp [idx t]
  rw [after0_2, out_eq m c t ht, acc m c t ht, Nat.mul_comm 1024]

/-- The whole run: the result and the arguments. -/
theorem run (ρ : Dev nD → PrngReg) : θ_run defs (onTc (τ := τ) (main (F := Ideal))) ⟨m, fun _ => 0, ρ⟩ (fun r => ∀ c : Dev nD,
      r.2.mem ((c.tc : Thread nD τ).loc main_v0) = (fun i => prod 4096 (X m c) (Y m c) (i 0).val (i 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.1 c).1 2).trans (result m c), h.2 c⟩) (θ_run_and (run_main m ρ) (unchanged m ρ))

/-- The reference's transposed product, entry by entry. -/
theorem reference (x : Vec Ideal S4096x256 .bf16) (y : Vec Ideal S4096x2048 .bf16) (i : S256x2048.Idx) :
    truncf .bf16 (transpose Cert.ReferenceDwUkvIdeal.S256x2048 [1, 0] (Host.dotGeneral (F := Ideal) Cert.ReferenceDwUkvIdeal.dot_S4096x2048_S4096x256_S2048x256_0_0_1_1_n_n none
      (extf .f32 y Cert.ReferenceDwUkvIdeal.Facts₀.bitsLt_bf16_f32) (extf .f32 x Cert.ReferenceDwUkvIdeal.Facts₀.bitsLt_bf16_f32))
      Cert.ReferenceDwUkvIdeal.Facts₀.transposes_S2048x256_S256x2048_1_0) Cert.ReferenceDwUkvIdeal.Facts₀.bitsLt_bf16_f32 i
      = prod 4096 (mat (A := 4096) (B := 256) x) (mat (A := 4096) (B := 2048) y) (i 0).val (i 1).val := by
  unfold prod
  rw [Finset.sum_range]
  pointwise
  exact Finset.sum_congr rfl fun a _ => (mul_comm (G := EReal) _ _).trans
    (congrArg₂ (fun t u : EReal => t * u) (mat_apply x a (i 0)).symm (mat_apply y a (i 1)).symm)

/-- The reference's frame. -/
theorem frame_ref : @Cert.quiescent_ReferenceDwUkvIdeal Cert.ReferenceDwUkvIdeal.Gen.facts := fun m ρ _ =>
  (θ_run Cert.ReferenceDwUkvIdeal.defs _ _).mono (fun r h => ⟨fun c => (h c).2, sem_eq_zero_of_no_sems (by decide) r.2⟩) (Cert.ReferenceDwUkvIdeal.Value.run m ρ)

/-- The result is the reference's. -/
theorem values : @Cert.algebraic_KernelDwUkvIdeal_ReferenceDwUkvIdeal Cert.KernelDwUkvIdeal.Gen.facts Cert.ReferenceDwUkvIdeal.Gen.facts := by
  intro m g m' g' _ agree
  refine ⟨_, run m g, (θ_run Cert.ReferenceDwUkvIdeal.defs _ _).mono (fun r h c => ⟨(h c).1.trans ?_, (h c).2⟩) (Cert.ReferenceDwUkvIdeal.Value.run m' g')⟩
  rw [(agree c).1, (agree c).2]
  exact funext (reference _ _)

end Cert.DwUkv
-- ==== Proof.Dkvn.lean ====
/- The gradient that goes back to the narrow keys and values: what the blocked product leaves in its result. -/
module

public import proofs.«01_k».proof.Proof.Products
public import proofs.«01_k».proof.Proof.Gen.KernelDkvnIdeal.Frame
public import proofs.«01_k».proof.Proof.Gen.ReferenceDkvnIdeal.Run
public import proofs.«01_k».proof.Defs
public import Idealize.ShloMosaic.Lib.Pipeline.ReadBack

@[expose] public section

set_option maxRecDepth 16384

noncomputable section

namespace Cert.Dkvn

open Idealize.ShloMosaic Idealize.ShloMosaic.TcCoe Idealize.ShloMosaic.Tactic
open Cert.KernelDkvnIdeal Cert.KernelDkvnIdeal.Gen
open Cert.Products

variable (m : (ℓ : Loc nD τ sig) → Buf (Elt Ideal) ℓ) (c : Dev nD)

/-- Which blocks a grid point works on. -/
theorem idx : ∀ t : Fin cfg0.N, win0_0.index t = ![t.val, 0] ∧ win0_1.index t = ![0, 0]
    ∧ win0_2.index t = ![t.val, 0] :=
  (by decide +kernel : ∀ t : Fin grid0.N, win0_0.index t = ![t.val, 0] ∧ win0_1.index t = ![0, 0]
    ∧ win0_2.index t = ![t.val, 0])

/-- The two factors, the summed index first. -/
def X : ℕ → ℕ → EReal := matT (A := 4096) (B := 2048) (m ((c : Thread nD τ).loc main_arg0))
def Y : ℕ → ℕ → EReal := matT (A := 256) (B := 2048) (m ((c : Thread nD τ).loc main_arg1))

theorem x_at (t : Fin cfg0.N) (d : Fin 1024) (a : Fin 2048) :
    (iblk m c 0 t : Vec Ideal S1024x2048 .bf16) (ix2 d a) = X m c (a.val) (1024 * t.val + d.val) := by
  have hN := lt_of_lt_of_eq t.isLt N_0
  unfold X matT
  rw [← mat_of_lt _ _ _ (by omega) (by omega)]
  blk_ext [iblk, V, idx t]

theorem y_at (t : Fin cfg0.N) (d : Fin 256) (a : Fin 2048) :
    (iblk m c 1 t : Vec Ideal S256x2048 .bf16) (ix2 d a) = Y m c (a.val) (d.val) := by
  have hN := lt_of_lt_of_eq t.isLt N_0
  unfold Y matT
  rw [← mat_of_lt _ _ _ (by omega) (by omega)]
  blk_ext [iblk, V, idx t]

/-- The block that a grid point writes. -/
theorem block (t : Fin cfg0.N) (j : S1024x256.Idx) : outsAt0 m c t j = prod 2048 (X m c) (Y m c) (1024 * t.val + (j 0).val) ((j 1).val) := by
  unfold outsAt0
  frame_out
  unfold k0_pay1 prod
  rw [Finset.sum_range]
  pointwise
  exact Finset.sum_congr rfl fun a _ => congrArg₂ (fun t u : EReal => t * u) (x_at m c t (j 0) a) (y_at m c t (j 1) a)

/-- The result array after the run. -/
theorem result : (dats m 0 c).arrAt 2 cfg0.N = fun i => prod 2048 (X m c) (Y m c) (i 0).val (i 1).val := by
  refine (dats m 0 c).arrAt_eq_of_covers 2 _ (by decide +kernel) fun t hf y => ?_
  blk_simp [idx t]
  rw [after0_2, block m c t, Nat.mul_comm 1024]

/-- The whole run: the result and the arguments. -/
theorem run (ρ : Dev nD → PrngReg) : θ_run defs (onTc (τ := τ) (main (F := Ideal))) ⟨m, fun _ => 0, ρ⟩ (fun r => ∀ c : Dev nD,
      r.2.mem ((c.tc : Thread nD τ).loc main_v0) = (fun i => prod 2048 (X m c) (Y m c) (i 0).val (i 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.1 c).1 2).trans (result m c), h.2 c⟩) (θ_run_and (run_main m ρ) (unchanged m ρ))

/-- The reference's product, entry by entry. -/
theorem reference (x : Vec Ideal S4096x2048 .bf16) (y : Vec Ideal S256x2048 .bf16) (i : S4096x256.Idx) :
    Host.dotGeneral (F := Ideal) Cert.ReferenceDkvnIdeal.dot_S4096x2048_S256x2048_S4096x256_1_1_0_0_n_n none
      (extf .f32 x Cert.ReferenceDkvnIdeal.Facts₀.bitsLt_bf16_f32) (extf .f32 y Cert.ReferenceDkvnIdeal.Facts₀.bitsLt_bf16_f32) i
      = prod 2048 (matT (A := 4096) (B := 2048) x) (matT (A := 256) (B := 2048) y) (i 0).val (i 1).val := by
  unfold prod
  rw [Finset.sum_range]
  pointwise
  exact Finset.sum_congr rfl fun a _ => congrArg₂ (fun t u : EReal => t * u) (mat_apply x (i 0) a).symm (mat_apply y (i 1) a).symm

/-- The reference's frame. -/
theorem frame_ref : @Cert.quiescent_ReferenceDkvnIdeal Cert.ReferenceDkvnIdeal.Gen.facts := fun m ρ _ =>
  (θ_run Cert.ReferenceDkvnIdeal.defs _ _).mono (fun r h => ⟨fun c => (h c).2, sem_eq_zero_of_no_sems (by decide) r.2⟩) (Cert.ReferenceDkvnIdeal.Value.run m ρ)

/-- The result is the reference's. -/
theorem values : @Cert.algebraic_KernelDkvnIdeal_ReferenceDkvnIdeal Cert.KernelDkvnIdeal.Gen.facts Cert.ReferenceDkvnIdeal.Gen.facts := by
  intro m g m' g' _ agree
  refine ⟨_, run m g, (θ_run Cert.ReferenceDkvnIdeal.defs _ _).mono (fun r h c => ⟨(h c).1.trans ?_, (h c).2⟩) (Cert.ReferenceDkvnIdeal.Value.run m' g')⟩
  rw [(agree c).1, (agree c).2]
  exact funext (reference _ _)

end Cert.Dkvn
-- ==== Proof.Gu.lean ====
/- The gate and up product, with the gated activation taken of it. -/
module

public import proofs.«01_k».proof.Proof.Products
public import proofs.«01_k».proof.Proof.Gen.KernelGuIdeal.Frame
public import proofs.«01_k».proof.Proof.Gen.ReferenceGuIdeal.Run
public import proofs.«01_k».proof.Defs

@[expose] public section

set_option maxRecDepth 16384

noncomputable section

namespace Cert.Gu

open Idealize.ShloMosaic Idealize.ShloMosaic.TcCoe Idealize.ShloMosaic.Tactic
open Cert.KernelGuIdeal Cert.KernelGuIdeal.Gen
open Cert.Products

/-! ## The two results, entry by entry -/

/-- The product of the two arrays. -/
def gu (x : Vec Ideal S4096x2048 .bf16) (w : Vec Ideal S2048x11264 .bf16) : ℕ → ℕ → EReal :=
  prod 2048 (matT (A := 4096) (B := 2048) x) (mat (A := 2048) (B := 11264) w)

/-- A gate entry times its logistic, times its up entry. -/
def gated (g u : EReal) : EReal := g * Ideal.logistic g * u

/-- Column `j` of the activation takes the gate and the up column of number `j % 1408` in block `j / 1408`. -/
def act (x : Vec Ideal S4096x2048 .bf16) (w : Vec Ideal S2048x11264 .bf16) (r j : ℕ) : EReal :=
  gated (gu x w r (j / 1408 * 2816 + j % 1408)) (gu x w r (j / 1408 * 2816 + (1408 + j % 1408)))

/-- The body takes the gate entry from zero where the logistic has its negative. -/
theorem gated_body {g u g' u' : EReal} (hg : g = g') (hu : u = u') : g * Ideal.div 1 (1 + Ideal.exp (0 - g)) * u = gated g' u' := by
  rw [sub_eq_add_neg, zero_add, hg, hu]
  rfl

theorem gated_ref {g u g' u' : EReal} (hg : g = g') (hu : u = u') : g * Ideal.div 1 (1 + Ideal.exp (-g)) * u = gated g' u' := by
  rw [hg, hu]
  rfl

/-! ## The kernel -/

section Kernel

variable (m : (ℓ : Loc nD τ sig) → Buf (Elt Ideal) ℓ) (c : Dev nD)

/-- Which blocks a grid point works on. -/
theorem idx : ∀ t : Fin cfg0.N, win0_0.index t = ![t.val % 8, 0] ∧ win0_1.index t = ![0, t.val / 8]
    ∧ win0_2.index t = ![t.val % 8, t.val / 8] ∧ win0_3.index t = ![t.val % 8, t.val / 8] :=
  (by decide +kernel : ∀ t : Fin grid0.N, win0_0.index t = ![t.val % 8, 0] ∧ win0_1.index t = ![0, t.val / 8]
    ∧ win0_2.index t = ![t.val % 8, t.val / 8] ∧ win0_3.index t = ![t.val % 8, t.val / 8])

theorem sum_at (x0 : Vec Ideal S512x2048 .bf16) (x1 : Vec Ideal S2048x2816 .bf16) (p : Fin 512) (q : Fin 2816) :
    (∑ k : Fin 2048, (x0 (ix2 p k) : EReal) * x1 (ix2 k q)) = prod 2048 (matT (A := 512) (B := 2048) x0) (mat (A := 2048) (B := 2816) x1) p.val q.val := by
  unfold prod
  rw [Finset.sum_range]
  exact Finset.sum_congr rfl fun k _ => congrArg₂ (fun t u : EReal => t * u) (mat_apply x0 p k).symm (mat_apply x1 k q).symm

/-- What the body leaves in a block of the product, and in a block of the activation. -/
theorem block_gu (x0 : Vec Ideal S512x2048 .bf16) (x1 : Vec Ideal S2048x2816 .bf16) (y : S512x2816.Idx) :
    out0_2 x0 x1 y = prod 2048 (matT (A := 512) (B := 2048) x0) (mat (A := 2048) (B := 2816) x1) (y 0).val (y 1).val := by
  unfold out0_2
  frame_out
  open_payloads
  pointwise
  exact sum_at x0 x1 (y 0) (y 1)

theorem block_act (x0 : Vec Ideal S512x2048 .bf16) (x1 : Vec Ideal S2048x2816 .bf16) (y : S512x1408.Idx) :
    out0_3 x0 x1 y = gated (prod 2048 (matT (A := 512) (B := 2048) x0) (mat (A := 2048) (B := 2816) x1) (y 0).val (y 1).val)
      (prod 2048 (matT (A := 512) (B := 2048) x0) (mat (A := 2048) (B := 2816) x1) (y 0).val (1408 + (y 1).val)) := by
  have h1 : (y 1).val < 1408 := (y 1).isLt
  unfold out0_3
  frame_out
  open_payloads
  pointwise
  exact gated_body (sum_at x0 x1 (y 0) ⟨(y 1).val, by omega⟩) (sum_at x0 x1 (y 0) ⟨1408 + (y 1).val, by omega⟩)

/-- The blocks a grid point reads, in their arrays. -/
theorem gu_at (t : Fin cfg0.N) (p q : ℕ) (hp : p < 512) (hq : q < 2816) :
    prod 2048 (matT (A := 512) (B := 2048) (iblk m c 0 t)) (mat (A := 2048) (B := 2816) (iblk m c 1 t)) p q
      = gu (m ((c : Thread nD τ).loc main_arg0)) (m ((c : Thread nD τ).loc main_arg1)) (512 * (t.val % 8) + p) (2816 * (t.val / 8) + q) := by
  have hN := lt_of_lt_of_eq t.isLt N_0
  unfold gu prod matT
  refine Finset.sum_congr rfl fun k hk => ?_
  have hk := Finset.mem_range.mp hk
  rw [← mat_of_lt _ _ _ hp hk, ← mat_of_lt _ _ _ hk hq, ← mat_of_lt _ (512 * (t.val % 8) + p) k (by omega) hk,
    ← mat_of_lt _ k (2816 * (t.val / 8) + q) hk (by omega)]
  refine congrArg₂ (fun t u : EReal => t * u) ?_ ?_ <;> blk_ext [iblk, V, idx t]

/-- The two result arrays after the run. -/
theorem result_gu : (dats m 0 c).arrAt 2 cfg0.N = fun i => gu (m ((c : Thread nD τ).loc main_arg0)) (m ((c : Thread nD τ).loc main_arg1)) (i 0).val (i 1).val := by
  refine (dats m 0 c).arrAt_eq_of_covers 2 _ (by decide +kernel) fun t hf y => ?_
  blk_simp [idx t]
  have h0 : (y 0).val < 512 := (y 0).isLt
  have h1 : (y 1).val < 2816 := (y 1).isLt
  rw [after0_2, block_gu, gu_at m c t _ _ h0 h1, Nat.mul_comm 512, Nat.mul_comm 2816]

theorem result_act : (dats m 0 c).arrAt 3 cfg0.N = fun i => act (m ((c : Thread nD τ).loc main_arg0)) (m ((c : Thread nD τ).loc main_arg1)) (i 0).val (i 1).val := by
  refine (dats m 0 c).arrAt_eq_of_covers 3 _ (by decide +kernel) fun t hf y => ?_
  blk_simp [idx t]
  have h0 : (y 0).val < 512 := (y 0).isLt
  have h1 : (y 1).val < 1408 := (y 1).isLt
  rw [after0_3, block_act, gu_at m c t _ _ h0 (by omega), gu_at m c t _ _ h0 (by omega)]
  unfold act
  rw [show (t.val / 8 * 1408 + (y 1).val) / 1408 = t.val / 8 by omega, show (t.val / 8 * 1408 + (y 1).val) % 1408 = (y 1).val by omega,
    Nat.mul_comm 512, Nat.mul_comm 2816]

/-- The whole run: the two results and the arguments. -/
theorem run (ρ : Dev nD → PrngReg) : θ_run defs (onTc (τ := τ) (main (F := Ideal))) ⟨m, fun _ => 0, ρ⟩ (fun r => ∀ c : Dev nD,
      r.2.mem ((c.tc : Thread nD τ).loc main_v0_0) = (fun i => gu (m ((c : Thread nD τ).loc main_arg0)) (m ((c : Thread nD τ).loc main_arg1)) (i 0).val (i 1).val)
      ∧ r.2.mem ((c.tc : Thread nD τ).loc main_v0_1) = (fun i => act (m ((c : Thread nD τ).loc main_arg0)) (m ((c : Thread nD τ).loc main_arg1)) (i 0).val (i 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.1 c).1 2).trans (result_gu m c), ((h.1 c).1 3).trans (result_act m c), h.2 c⟩)
    (θ_run_and (run_main m ρ) (unchanged m ρ))

end Kernel

/-! ## The reference -/

theorem prod_at (x : Vec Ideal S4096x2048 .bf16) (w : Vec Ideal S2048x11264 .bf16) (p : Fin 4096) (q q' : ℕ) (hq : q < 11264) (h : q = q') :
    (∑ k : Fin 2048, (x (ix2 p k) : EReal) * w (ix2 k ⟨q, hq⟩)) = gu x w p.val q' := by
  subst h
  unfold gu prod
  rw [Finset.sum_range]
  exact Finset.sum_congr rfl fun k _ => congrArg₂ (fun t u : EReal => t * u) (mat_apply x p k).symm (mat_apply w k ⟨q, hq⟩).symm

/-- The reference's frame. -/
theorem frame_ref : @Cert.quiescent_ReferenceGuIdeal Cert.ReferenceGuIdeal.Gen.facts := fun m ρ _ =>
  (θ_run Cert.ReferenceGuIdeal.defs _ _).mono (fun r h => ⟨fun c => (h c).2.2, sem_eq_zero_of_no_sems (by decide) r.2⟩) (Cert.ReferenceGuIdeal.Value.run m ρ)

set_option maxHeartbeats 2000000 in
/-- The two results are the reference's. -/
theorem values : @Cert.algebraic_KernelGuIdeal_ReferenceGuIdeal Cert.KernelGuIdeal.Gen.facts Cert.ReferenceGuIdeal.Gen.facts := by
  intro m g m' g' _ agree
  refine ⟨_, _, run m g, (θ_run Cert.ReferenceGuIdeal.defs _ _).mono (fun r h c => ⟨(h c).1.trans ?_, (h c).2.1.trans ?_, (h c).2.2⟩) (Cert.ReferenceGuIdeal.Value.run m' g')⟩
  · rw [(agree c).1, (agree c).2]
    clear h
    funext i
    pointwise
    have h1 : (i 1).val < 11264 := (i 1).isLt
    by_cases h : (i 1).val / 1408 % 2 < 1
    · rw [dif_pos h]
      exact prod_at _ _ (i 0) _ _ _ (by omega)
    · rw [dif_neg h]
      exact prod_at _ _ (i 0) _ _ _ (by omega)
  · rw [(agree c).1, (agree c).2]
    clear h
    funext i
    pointwise
    exact gated_ref (prod_at _ _ (i 0) _ _ _ rfl) (prod_at _ _ (i 0) _ _ _ (by omega))

end Cert.Gu

end
-- ==== Proof.Down.lean ====
/- The product that leads down from the gated layer: what the blocked product leaves in its result. -/
module

public import proofs.«01_k».proof.Proof.Products
public import proofs.«01_k».proof.Proof.Gen.KernelDownIdeal.Frame
public import proofs.«01_k».proof.Proof.Gen.ReferenceDownIdeal.Run
public import proofs.«01_k».proof.Defs
public import Idealize.ShloMosaic.Lib.Pipeline.ReadBack

@[expose] public section

set_option maxRecDepth 16384

noncomputable section

namespace Cert.Down

open Idealize.ShloMosaic Idealize.ShloMosaic.TcCoe Idealize.ShloMosaic.Tactic
open Cert.KernelDownIdeal Cert.KernelDownIdeal.Gen
open Cert.Products

variable (m : (ℓ : Loc nD τ sig) → Buf (Elt Ideal) ℓ) (c : Dev nD)

/-- Which blocks a grid point works on. -/
theorem idx : ∀ t : Fin cfg0.N, win0_0.index t = ![t.val / 2 / 2, t.val % 2] ∧ win0_1.index t = ![t.val % 2, t.val / 2 % 2]
    ∧ win0_2.index t = ![t.val / 2 / 2, t.val / 2 % 2] :=
  (by decide +kernel : ∀ t : Fin grid0.N, win0_0.index t = ![t.val / 2 / 2, t.val % 2] ∧ win0_1.index t = ![t.val % 2, t.val / 2 % 2]
    ∧ win0_2.index t = ![t.val / 2 / 2, t.val / 2 % 2])

/-- The two factors, the summed index first. -/
def X : ℕ → ℕ → EReal := matT (A := 4096) (B := 5632) (m ((c : Thread nD τ).loc main_arg0))
def Y : ℕ → ℕ → EReal := mat (A := 5632) (B := 2048) (m ((c : Thread nD τ).loc main_arg1))

theorem x_at (t : Fin cfg0.N) (d : Fin 1024) (a : Fin 2816) :
    (iblk m c 0 t : Vec Ideal S1024x2816 .bf16) (ix2 d a) = X m c (2816 * (t.val % 2) + a.val) (1024 * (t.val / 2 / 2) + d.val) := by
  have hN := lt_of_lt_of_eq t.isLt N_0
  unfold X matT
  rw [← mat_of_lt _ _ _ (by omega) (by omega)]
  blk_ext [iblk, V, idx t]

theorem y_at (t : Fin cfg0.N) (a : Fin 2816) (d : Fin 1024) :
    (iblk m c 1 t : Vec Ideal S2816x1024 .bf16) (ix2 a d) = Y m c (2816 * (t.val % 2) + a.val) (1024 * (t.val / 2 % 2) + d.val) := by
  have hN := lt_of_lt_of_eq t.isLt N_0
  unfold Y
  rw [← mat_of_lt _ _ _ (by omega) (by omega)]
  blk_ext [iblk, V, idx t]

/-- What a grid point adds to the block it works on. -/
theorem step (t : Fin cfg0.N) (v : Vec Ideal S1024x1024 .f32) (j : S1024x1024.Idx) :
    k0_pay2 v (iblk m c 0 t) (iblk m c 1 t) j
      = v j + part 2816 (X m c) (Y m c) (t.val % 2) (1024 * (t.val / 2 / 2) + (j 0).val) (1024 * (t.val / 2 % 2) + (j 1).val) := by
  unfold k0_pay2 part
  rw [Finset.sum_range]
  pointwise
  exact congrArg (fun t : EReal => v j + t) (Finset.sum_congr rfl fun a _ =>
    congrArg₂ (fun t u : EReal => t * u) (x_at m c t (j 0) a) (y_at m c t a (j 1)))

/-- The accumulator after the last point of a sweep. -/
theorem acc (t : Fin cfg0.N) (h : t.val % 2 = 1) (j : S1024x1024.Idx) : (outsAt0 m c t.val t.isLt).2 j
    = prod 5632 (X m c) (Y m c) (1024 * (t.val / 2 / 2) + (j 0).val) (1024 * (t.val / 2 % 2) + (j 1).val) := by
  refine of_sweep (fun n h => (outsAt0 m c n h).2) 2816 2 (X m c) (Y m c) (fun n j => 1024 * (n / 2) + (j 0).val) (fun n j => 1024 * (n % 2) + (j 1).val)
    (fun t h j => ?_) (fun t h j => ?_) t (by omega) j
  · rw [outsAt0_A m c t h (by omega)]
    frame_out
    rw [step]
    exact congrArg (fun t : EReal => t + _) Ideal.ofBits_zero_f32
  · rw [outsAt0_B m c t h (by omega)]
    frame_out
    simp only [read_unread_whole]
    rw [step]

/-- The last point of a sweep copies the accumulator out. -/
theorem out_eq (t : Fin cfg0.N) (h : t.val % 2 = 1) (j : S1024x1024.Idx) : (outsAt0 m c t.val t.isLt).1 j = (outsAt0 m c t.val t.isLt).2 j := by
  rw [outsAt0_B m c t (by omega) h]
  frame_out

/-- The result array after the run. -/
theorem result : (dats m 0 c).arrAt 2 cfg0.N = fun i => prod 5632 (X m c) (Y m c) (i 0).val (i 1).val := by
  refine (dats m 0 c).arrAt_eq_of_covers 2 _ (by decide +kernel) fun t hf y => ?_
  have ht := (flush0_2 t).mp hf
  blk_simp [idx t]
  rw [after0_2, out_eq m c t ht, acc m c t ht, Nat.mul_comm 1024, Nat.mul_comm 1024]

/-- The whole run: the result and the arguments. -/
theorem run (ρ : Dev nD → PrngReg) : θ_run defs (onTc (τ := τ) (main (F := Ideal))) ⟨m, fun _ => 0, ρ⟩ (fun r => ∀ c : Dev nD,
      r.2.mem ((c.tc : Thread nD τ).loc main_v0) = (fun i => prod 5632 (X m c) (Y m c) (i 0).val (i 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.1 c).1 2).trans (result m c), h.2 c⟩) (θ_run_and (run_main m ρ) (unchanged m ρ))

/-- The reference's product, entry by entry. -/
theorem reference (x : Vec Ideal S4096x5632 .bf16) (y : Vec Ideal S5632x2048 .bf16) (i : S4096x2048.Idx) :
    Host.dotGeneral (F := Ideal) Cert.ReferenceDownIdeal.dot_S4096x5632_S5632x2048_S4096x2048_1_0_0_1_n_n none
      (extf .f32 x Cert.ReferenceDownIdeal.Facts₀.bitsLt_bf16_f32) (extf .f32 y Cert.ReferenceDownIdeal.Facts₀.bitsLt_bf16_f32) i
      = prod 5632 (matT (A := 4096) (B := 5632) x) (mat (A := 5632) (B := 2048) y) (i 0).val (i 1).val := by
  unfold prod
  rw [Finset.sum_range]
  pointwise
  exact Finset.sum_congr rfl fun a _ => congrArg₂ (fun t u : EReal => t * u) (mat_apply x (i 0) a).symm (mat_apply y a (i 1)).symm

/-- The reference's frame. -/
theorem frame_ref : @Cert.quiescent_ReferenceDownIdeal Cert.ReferenceDownIdeal.Gen.facts := fun m ρ _ =>
  (θ_run Cert.ReferenceDownIdeal.defs _ _).mono (fun r h => ⟨fun c => (h c).2, sem_eq_zero_of_no_sems (by decide) r.2⟩) (Cert.ReferenceDownIdeal.Value.run m ρ)

/-- The result is the reference's. -/
theorem values : @Cert.algebraic_KernelDownIdeal_ReferenceDownIdeal Cert.KernelDownIdeal.Gen.facts Cert.ReferenceDownIdeal.Gen.facts := by
  intro m g m' g' _ agree
  refine ⟨_, run m g, (θ_run Cert.ReferenceDownIdeal.defs _ _).mono (fun r h c => ⟨(h c).1.trans ?_, (h c).2⟩) (Cert.ReferenceDownIdeal.Value.run m' g')⟩
  rw [(agree c).1, (agree c).2]
  exact funext (reference _ _)

end Cert.Down
-- ==== Proof.H.lean ====
/- The product with the input weights: what the blocked product leaves in its result. -/
module

public import proofs.«01_k».proof.Proof.Products
public import proofs.«01_k».proof.Proof.Gen.KernelHIdeal.Frame
public import proofs.«01_k».proof.Proof.Gen.ReferenceHIdeal.Run
public import proofs.«01_k».proof.Defs
public import Idealize.ShloMosaic.Lib.Pipeline.ReadBack

@[expose] public section

set_option maxRecDepth 16384

noncomputable section

namespace Cert.H

open Idealize.ShloMosaic Idealize.ShloMosaic.TcCoe Idealize.ShloMosaic.Tactic
open Cert.KernelHIdeal Cert.KernelHIdeal.Gen
open Cert.Products

variable (m : (ℓ : Loc nD τ sig) → Buf (Elt Ideal) ℓ) (c : Dev nD)

/-- Which blocks a grid point works on. -/
theorem idx : ∀ t : Fin cfg0.N, win0_0.index t = ![t.val / 5, 0] ∧ win0_1.index t = ![0, t.val % 5]
    ∧ win0_2.index t = ![t.val / 5, t.val % 5] :=
  (by decide +kernel : ∀ t : Fin grid0.N, win0_0.index t = ![t.val / 5, 0] ∧ win0_1.index t = ![0, t.val % 5]
    ∧ win0_2.index t = ![t.val / 5, t.val % 5])

/-- The two factors, the summed index first. -/
def X : ℕ → ℕ → EReal := matT (A := 4096) (B := 2048) (m ((c : Thread nD τ).loc main_arg0))
def Y : ℕ → ℕ → EReal := mat (A := 2048) (B := 5120) (m ((c : Thread nD τ).loc main_arg1))

theorem x_at (t : Fin cfg0.N) (d : Fin 1024) (a : Fin 2048) :
    (iblk m c 0 t : Vec Ideal S1024x2048 .bf16) (ix2 d a) = X m c (a.val) (1024 * (t.val / 5) + d.val) := by
  have hN := lt_of_lt_of_eq t.isLt N_0
  unfold X matT
  rw [← mat_of_lt _ _ _ (by omega) (by omega)]
  blk_ext [iblk, V, idx t]

theorem y_at (t : Fin cfg0.N) (a : Fin 2048) (d : Fin 1024) :
    (iblk m c 1 t : Vec Ideal S2048x1024 .bf16) (ix2 a d) = Y m c (a.val) (1024 * (t.val % 5) + d.val) := by
  have hN := lt_of_lt_of_eq t.isLt N_0
  unfold Y
  rw [← mat_of_lt _ _ _ (by omega) (by omega)]
  blk_ext [iblk, V, idx t]

/-- The block that a grid point writes. -/
theorem block (t : Fin cfg0.N) (j : S1024x1024.Idx) : outsAt0 m c t j = prod 2048 (X m c) (Y m c) (1024 * (t.val / 5) + (j 0).val) (1024 * (t.val % 5) + (j 1).val) := by
  unfold outsAt0
  frame_out
  unfold k0_pay1 prod
  rw [Finset.sum_range]
  pointwise
  exact Finset.sum_congr rfl fun a _ => congrArg₂ (fun t u : EReal => t * u) (x_at m c t (j 0) a) (y_at m c t a (j 1))

/-- The result array after the run. -/
theorem result : (dats m 0 c).arrAt 2 cfg0.N = fun i => prod 2048 (X m c) (Y m c) (i 0).val (i 1).val := by
  refine (dats m 0 c).arrAt_eq_of_covers 2 _ (by decide +kernel) fun t hf y => ?_
  blk_simp [idx t]
  rw [after0_2, block m c t, Nat.mul_comm 1024, Nat.mul_comm 1024]

/-- The whole run: the result and the arguments. -/
theorem run (ρ : Dev nD → PrngReg) : θ_run defs (onTc (τ := τ) (main (F := Ideal))) ⟨m, fun _ => 0, ρ⟩ (fun r => ∀ c : Dev nD,
      r.2.mem ((c.tc : Thread nD τ).loc main_v0) = (fun i => prod 2048 (X m c) (Y m c) (i 0).val (i 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.1 c).1 2).trans (result m c), h.2 c⟩) (θ_run_and (run_main m ρ) (unchanged m ρ))

/-- The reference's product, entry by entry. -/
theorem reference (x : Vec Ideal S4096x2048 .bf16) (y : Vec Ideal S2048x5120 .bf16) (i : S4096x5120.Idx) :
    Host.dotGeneral (F := Ideal) Cert.ReferenceHIdeal.dot_S4096x2048_S2048x5120_S4096x5120_1_0_0_1_n_n none
      (extf .f32 x Cert.ReferenceHIdeal.Facts₀.bitsLt_bf16_f32) (extf .f32 y Cert.ReferenceHIdeal.Facts₀.bitsLt_bf16_f32) i
      = prod 2048 (matT (A := 4096) (B := 2048) x) (mat (A := 2048) (B := 5120) y) (i 0).val (i 1).val := by
  unfold prod
  rw [Finset.sum_range]
  pointwise
  exact Finset.sum_congr rfl fun a _ => congrArg₂ (fun t u : EReal => t * u) (mat_apply x (i 0) a).symm (mat_apply y a (i 1)).symm

/-- The reference's frame. -/
theorem frame_ref : @Cert.quiescent_ReferenceHIdeal Cert.ReferenceHIdeal.Gen.facts := fun m ρ _ =>
  (θ_run Cert.ReferenceHIdeal.defs _ _).mono (fun r h => ⟨fun c => (h c).2, sem_eq_zero_of_no_sems (by decide) r.2⟩) (Cert.ReferenceHIdeal.Value.run m ρ)

/-- The result is the reference's. -/
theorem values : @Cert.algebraic_KernelHIdeal_ReferenceHIdeal Cert.KernelHIdeal.Gen.facts Cert.ReferenceHIdeal.Gen.facts := by
  intro m g m' g' _ agree
  refine ⟨_, run m g, (θ_run Cert.ReferenceHIdeal.defs _ _).mono (fun r h c => ⟨(h c).1.trans ?_, (h c).2⟩) (Cert.ReferenceHIdeal.Value.run m' g')⟩
  rw [(agree c).1, (agree c).2]
  exact funext (reference _ _)

end Cert.H
-- ==== Proof.Q.lean ====
/- The product that widens the queries: what the blocked product leaves in its result. -/
module

public import proofs.«01_k».proof.Proof.Products
public import proofs.«01_k».proof.Proof.Gen.KernelQIdeal.Frame
public import proofs.«01_k».proof.Proof.Gen.ReferenceQIdeal.Run
public import proofs.«01_k».proof.Defs
public import Idealize.ShloMosaic.Lib.Pipeline.ReadBack

@[expose] public section

set_option maxRecDepth 16384

noncomputable section

namespace Cert.Q

open Idealize.ShloMosaic Idealize.ShloMosaic.TcCoe Idealize.ShloMosaic.Tactic
open Cert.KernelQIdeal Cert.KernelQIdeal.Gen
open Cert.Products

variable (m : (ℓ : Loc nD τ sig) → Buf (Elt Ideal) ℓ) (c : Dev nD)

/-- Which blocks a grid point works on. -/
theorem idx : ∀ t : Fin cfg0.N, win0_0.index t = ![t.val / 2, 0] ∧ win0_1.index t = ![0, t.val % 2]
    ∧ win0_2.index t = ![t.val / 2, t.val % 2] :=
  (by decide +kernel : ∀ t : Fin grid0.N, win0_0.index t = ![t.val / 2, 0] ∧ win0_1.index t = ![0, t.val % 2]
    ∧ win0_2.index t = ![t.val / 2, t.val % 2])

/-- The two factors, the summed index first. -/
def X : ℕ → ℕ → EReal := matT (A := 4096) (B := 512) (m ((c : Thread nD τ).loc main_arg0))
def Y : ℕ → ℕ → EReal := mat (A := 512) (B := 2048) (m ((c : Thread nD τ).loc main_arg1))

theorem x_at (t : Fin cfg0.N) (d : Fin 1024) (a : Fin 512) :
    (iblk m c 0 t : Vec Ideal S1024x512 .bf16) (ix2 d a) = X m c (a.val) (1024 * (t.val / 2) + d.val) := by
  have hN := lt_of_lt_of_eq t.isLt N_0
  unfold X matT
  rw [← mat_of_lt _ _ _ (by omega) (by omega)]
  blk_ext [iblk, V, idx t]

theorem y_at (t : Fin cfg0.N) (a : Fin 512) (d : Fin 1024) :
    (iblk m c 1 t : Vec Ideal S512x1024 .bf16) (ix2 a d) = Y m c (a.val) (1024 * (t.val % 2) + d.val) := by
  have hN := lt_of_lt_of_eq t.isLt N_0
  unfold Y
  rw [← mat_of_lt _ _ _ (by omega) (by omega)]
  blk_ext [iblk, V, idx t]

/-- The block that a grid point writes. -/
theorem block (t : Fin cfg0.N) (j : S1024x1024.Idx) : outsAt0 m c t j = prod 512 (X m c) (Y m c) (1024 * (t.val / 2) + (j 0).val) (1024 * (t.val % 2) + (j 1).val) := by
  unfold outsAt0
  frame_out
  unfold k0_pay1 prod
  rw [Finset.sum_range]
  pointwise
  exact Finset.sum_congr rfl fun a _ => congrArg₂ (fun t u : EReal => t * u) (x_at m c t (j 0) a) (y_at m c t a (j 1))

/-- The result array after the run. -/
theorem result : (dats m 0 c).arrAt 2 cfg0.N = fun i => prod 512 (X m c) (Y m c) (i 0).val (i 1).val := by
  refine (dats m 0 c).arrAt_eq_of_covers 2 _ (by decide +kernel) fun t hf y => ?_
  blk_simp [idx t]
  rw [after0_2, block m c t, Nat.mul_comm 1024, Nat.mul_comm 1024]

/-- The whole run: the result and the arguments. -/
theorem run (ρ : Dev nD → PrngReg) : θ_run defs (onTc (τ := τ) (main (F := Ideal))) ⟨m, fun _ => 0, ρ⟩ (fun r => ∀ c : Dev nD,
      r.2.mem ((c.tc : Thread nD τ).loc main_v0) = (fun i => prod 512 (X m c) (Y m c) (i 0).val (i 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.1 c).1 2).trans (result m c), h.2 c⟩) (θ_run_and (run_main m ρ) (unchanged m ρ))

/-- The reference's product, entry by entry. -/
theorem reference (x : Vec Ideal S4096x512 .bf16) (y : Vec Ideal S512x2048 .bf16) (i : S4096x2048.Idx) :
    Host.dotGeneral (F := Ideal) Cert.ReferenceQIdeal.dot_S4096x512_S512x2048_S4096x2048_1_0_0_1_n_n none
      (extf .f32 x Cert.ReferenceQIdeal.Facts₀.bitsLt_bf16_f32) (extf .f32 y Cert.ReferenceQIdeal.Facts₀.bitsLt_bf16_f32) i
      = prod 512 (matT (A := 4096) (B := 512) x) (mat (A := 512) (B := 2048) y) (i 0).val (i 1).val := by
  unfold prod
  rw [Finset.sum_range]
  pointwise
  exact Finset.sum_congr rfl fun a _ => congrArg₂ (fun t u : EReal => t * u) (mat_apply x (i 0) a).symm (mat_apply y a (i 1)).symm

/-- The reference's frame. -/
theorem frame_ref : @Cert.quiescent_ReferenceQIdeal Cert.ReferenceQIdeal.Gen.facts := fun m ρ _ =>
  (θ_run Cert.ReferenceQIdeal.defs _ _).mono (fun r h => ⟨fun c => (h c).2, sem_eq_zero_of_no_sems (by decide) r.2⟩) (Cert.ReferenceQIdeal.Value.run m ρ)

/-- The result is the reference's. -/
theorem values : @Cert.algebraic_KernelQIdeal_ReferenceQIdeal Cert.KernelQIdeal.Gen.facts Cert.ReferenceQIdeal.Gen.facts := by
  intro m g m' g' _ agree
  refine ⟨_, run m g, (θ_run Cert.ReferenceQIdeal.defs _ _).mono (fun r h c => ⟨(h c).1.trans ?_, (h c).2⟩) (Cert.ReferenceQIdeal.Value.run m' g')⟩
  rw [(agree c).1, (agree c).2]
  exact funext (reference _ _)

end Cert.Q
-- ==== Proof.Kv.lean ====
/- The product that widens the keys and values: what the blocked product leaves in its result. -/
module

public import proofs.«01_k».proof.Proof.Products
public import proofs.«01_k».proof.Proof.Gen.KernelKvIdeal.Frame
public import proofs.«01_k».proof.Proof.Gen.ReferenceKvIdeal.Run
public import proofs.«01_k».proof.Defs
public import Idealize.ShloMosaic.Lib.Pipeline.ReadBack

@[expose] public section

set_option maxRecDepth 16384

noncomputable section

namespace Cert.Kv

open Idealize.ShloMosaic Idealize.ShloMosaic.TcCoe Idealize.ShloMosaic.Tactic
open Cert.KernelKvIdeal Cert.KernelKvIdeal.Gen
open Cert.Products

variable (m : (ℓ : Loc nD τ sig) → Buf (Elt Ideal) ℓ) (c : Dev nD)

/-- Which blocks a grid point works on. -/
theorem idx : ∀ t : Fin cfg0.N, win0_0.index t = ![t.val / 2, 0] ∧ win0_1.index t = ![0, t.val % 2]
    ∧ win0_2.index t = ![t.val / 2, t.val % 2] :=
  (by decide +kernel : ∀ t : Fin grid0.N, win0_0.index t = ![t.val / 2, 0] ∧ win0_1.index t = ![0, t.val % 2]
    ∧ win0_2.index t = ![t.val / 2, t.val % 2])

/-- The two factors, the summed index first. -/
def X : ℕ → ℕ → EReal := matT (A := 4096) (B := 256) (m ((c : Thread nD τ).loc main_arg0))
def Y : ℕ → ℕ → EReal := mat (A := 256) (B := 2048) (m ((c : Thread nD τ).loc main_arg1))

theorem x_at (t : Fin cfg0.N) (d : Fin 1024) (a : Fin 256) :
    (iblk m c 0 t : Vec Ideal S1024x256 .bf16) (ix2 d a) = X m c (a.val) (1024 * (t.val / 2) + d.val) := by
  have hN := lt_of_lt_of_eq t.isLt N_0
  unfold X matT
  rw [← mat_of_lt _ _ _ (by omega) (by omega)]
  blk_ext [iblk, V, idx t]

theorem y_at (t : Fin cfg0.N) (a : Fin 256) (d : Fin 1024) :
    (iblk m c 1 t : Vec Ideal S256x1024 .bf16) (ix2 a d) = Y m c (a.val) (1024 * (t.val % 2) + d.val) := by
  have hN := lt_of_lt_of_eq t.isLt N_0
  unfold Y
  rw [← mat_of_lt _ _ _ (by omega) (by omega)]
  blk_ext [iblk, V, idx t]

/-- The block that a grid point writes. -/
theorem block (t : Fin cfg0.N) (j : S1024x1024.Idx) : outsAt0 m c t j = prod 256 (X m c) (Y m c) (1024 * (t.val / 2) + (j 0).val) (1024 * (t.val % 2) + (j 1).val) := by
  unfold outsAt0
  frame_out
  unfold k0_pay1 prod
  rw [Finset.sum_range]
  pointwise
  exact Finset.sum_congr rfl fun a _ => congrArg₂ (fun t u : EReal => t * u) (x_at m c t (j 0) a) (y_at m c t a (j 1))

/-- The result array after the run. -/
theorem result : (dats m 0 c).arrAt 2 cfg0.N = fun i => prod 256 (X m c) (Y m c) (i 0).val (i 1).val := by
  refine (dats m 0 c).arrAt_eq_of_covers 2 _ (by decide +kernel) fun t hf y => ?_
  blk_simp [idx t]
  rw [after0_2, block m c t, Nat.mul_comm 1024, Nat.mul_comm 1024]

/-- The whole run: the result and the arguments. -/
theorem run (ρ : Dev nD → PrngReg) : θ_run defs (onTc (τ := τ) (main (F := Ideal))) ⟨m, fun _ => 0, ρ⟩ (fun r => ∀ c : Dev nD,
      r.2.mem ((c.tc : Thread nD τ).loc main_v0) = (fun i => prod 256 (X m c) (Y m c) (i 0).val (i 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.1 c).1 2).trans (result m c), h.2 c⟩) (θ_run_and (run_main m ρ) (unchanged m ρ))

/-- The reference's product, entry by entry. -/
theorem reference (x : Vec Ideal S4096x256 .bf16) (y : Vec Ideal S256x2048 .bf16) (i : S4096x2048.Idx) :
    Host.dotGeneral (F := Ideal) Cert.ReferenceKvIdeal.dot_S4096x256_S256x2048_S4096x2048_1_0_0_1_n_n none
      (extf .f32 x Cert.ReferenceKvIdeal.Facts₀.bitsLt_bf16_f32) (extf .f32 y Cert.ReferenceKvIdeal.Facts₀.bitsLt_bf16_f32) i
      = prod 256 (matT (A := 4096) (B := 256) x) (mat (A := 256) (B := 2048) y) (i 0).val (i 1).val := by
  unfold prod
  rw [Finset.sum_range]
  pointwise
  exact Finset.sum_congr rfl fun a _ => congrArg₂ (fun t u : EReal => t * u) (mat_apply x (i 0) a).symm (mat_apply y a (i 1)).symm

/-- The reference's frame. -/
theorem frame_ref : @Cert.quiescent_ReferenceKvIdeal Cert.ReferenceKvIdeal.Gen.facts := fun m ρ _ =>
  (θ_run Cert.ReferenceKvIdeal.defs _ _).mono (fun r h => ⟨fun c => (h c).2, sem_eq_zero_of_no_sems (by decide) r.2⟩) (Cert.ReferenceKvIdeal.Value.run m ρ)

/-- The result is the reference's. -/
theorem values : @Cert.algebraic_KernelKvIdeal_ReferenceKvIdeal Cert.KernelKvIdeal.Gen.facts Cert.ReferenceKvIdeal.Gen.facts := by
  intro m g m' g' _ agree
  refine ⟨_, run m g, (θ_run Cert.ReferenceKvIdeal.defs _ _).mono (fun r h c => ⟨(h c).1.trans ?_, (h c).2⟩) (Cert.ReferenceKvIdeal.Value.run m' g')⟩
  rw [(agree c).1, (agree c).2]
  exact funext (reference _ _)

end Cert.Kv
-- ==== Proof.LayerNorm.lean ====
/- The layer norm of a row of 2048 numbers, with the stream's scale and the constants the step takes. -/
module

public import proofs.«01_k».proof.Proof.Products

@[expose] public section

noncomputable section

namespace Cert.LayerNorm

open Idealize.ShloMosaic
open Cert.Products

theorem mat_idx {A B : ℕ} (x : (⟨2, ![A, B]⟩ : Shape).Idx → EReal) (i : (⟨2, ![A, B]⟩ : Shape).Idx) : mat x (i 0).val (i 1).val = x i :=
  (mat_apply x (i 0) (i 1)).trans (congrArg x (funext fun d => by fin_cases d <;> rfl))

/-- The factor of the residual stream, the row's length, and what is added to the variance: the numbers of their words. -/
def alpha : EReal := Ideal.ofBits .f32 0x3FB504F3#32
def width : EReal := Ideal.ofBits .f32 0x45000000#32
def epsilon : EReal := Ideal.ofBits .f32 0x3727C5AC#32

def mean (f : Fin 2048 → EReal) : EReal := Ideal.div (∑ k, f k) width

/-- One over the deviation of the row. -/
def scale (f : Fin 2048 → EReal) : EReal := Ideal.rsqrt (mean (fun k => (f k - mean f) * (f k - mean f)) + epsilon)

/-- The entry `v` of the row `f`, normed, under the gain `g` and the bias `b`. -/
def norm (f : Fin 2048 → EReal) (v g b : EReal) : EReal := (v - mean f) * scale f * g + b

/-- Equal rows have equal norms. -/
theorem norm_congr {f f' : Fin 2048 → EReal} {v v' g g' b b' : EReal} (hf : ∀ k, f k = f' k) (hv : v = v') (hg : g = g') (hb : b = b') :
    norm f v g b = norm f' v' g' b' := by
  rw [funext hf, hv, hg, hb]

/-- The norm of a whole array, given row by row; the gain and the bias are arrays of one row. -/
def rows (z : ℕ → ℕ → EReal) (g b : Vec Ideal ⟨2, ![1, 2048]⟩ .f32) (r j : ℕ) : EReal :=
  norm (fun k => z r k.val) (z r j) (mat (A := 1) (B := 2048) g 0 j) (mat (A := 1) (B := 2048) b 0 j)

end Cert.LayerNorm

end
-- ==== Proof.Mix.lean ====
/- The product with the output weights, added to the scaled stream, and the first layer norm of a layer. -/
module

public import proofs.«01_k».proof.Proof.LayerNorm
public import proofs.«01_k».proof.Proof.Gen.KernelMixIdeal.Frame
public import proofs.«01_k».proof.Proof.Gen.ReferenceMixIdeal.Run
public import proofs.«01_k».proof.Defs

@[expose] public section

set_option maxRecDepth 16384

noncomputable section

namespace Cert.Mix

open Idealize.ShloMosaic Idealize.ShloMosaic.TcCoe Idealize.ShloMosaic.Tactic
open Cert.KernelMixIdeal Cert.KernelMixIdeal.Gen
open Cert.Products Cert.LayerNorm

/-- What is normed. -/
def z (a : Vec Ideal S4096x2048 .bf16) (w : Vec Ideal S2048x2048 .bf16) (x : Vec Ideal S4096x2048 .f32) (r j : ℕ) : EReal :=
  alpha * mat (A := 4096) (B := 2048) x r j + prod 2048 (matT (A := 4096) (B := 2048) a) (mat (A := 2048) (B := 2048) w) r j

/-- A sum of products of entries is the product of the matrices. -/
theorem sum_at {A : ℕ} (a : (⟨2, ![A, 2048]⟩ : Shape).Idx → EReal) (w : (⟨2, ![2048, 2048]⟩ : Shape).Idx → EReal) (p : Fin A) (q : Fin 2048) :
    (∑ k : Fin 2048, a (ix2 p k) * w (ix2 k q)) = prod 2048 (matT a) (mat w) p.val q.val := by
  unfold prod
  rw [Finset.sum_range]
  exact Finset.sum_congr rfl fun k _ => congrArg₂ (fun t u : EReal => t * u) (mat_apply a p k).symm (mat_apply w k q).symm

/-! ## The kernel -/

section Kernel

variable (m : (ℓ : Loc nD τ sig) → Buf (Elt Ideal) ℓ) (c : Dev nD)

/-- Which blocks a grid point works on. -/
theorem idx : ∀ t : Fin cfg0.N, win0_0.index t = ![t.val, 0] ∧ win0_1.index t = ![0, 0] ∧ win0_2.index t = ![t.val, 0] ∧ win0_3.index t = ![0, 0]
    ∧ win0_4.index t = ![0, 0] ∧ win0_5.index t = ![t.val, 0] ∧ win0_6.index t = ![t.val, 0] ∧ win0_7.index t = ![t.val, 0] :=
  (by decide +kernel : ∀ t : Fin grid0.N, win0_0.index t = ![t.val, 0] ∧ win0_1.index t = ![0, 0] ∧ win0_2.index t = ![t.val, 0] ∧ win0_3.index t = ![0, 0]
    ∧ win0_4.index t = ![0, 0] ∧ win0_5.index t = ![t.val, 0] ∧ win0_6.index t = ![t.val, 0] ∧ win0_7.index t = ![t.val, 0])

/-- An entry of a block of the normed array. -/
def zb (x0 : Vec Ideal S256x2048 .bf16) (x1 : Vec Ideal S2048x2048 .bf16) (x2 : Vec Ideal S256x2048 .f32) (y : S256x2048.Idx) : EReal :=
  alpha * x2 y + ∑ k : Fin 2048, (x0 (ix2 (y 0) k) : EReal) * x1 (ix2 k (y 1))

variable (x0 : Vec Ideal S256x2048 .bf16) (x1 : Vec Ideal S2048x2048 .bf16) (x2 : Vec Ideal S256x2048 .f32) (x3 x4 : Vec Ideal S1x2048 .f32)

/-- What the body leaves in a block of each result. -/
theorem block_z (y : S256x2048.Idx) : out0_5 x0 x1 x2 x3 x4 y = zb x0 x1 x2 y := by
  unfold out0_5
  frame_out
  open_payloads
  pointwise
  rfl

theorem block_y (y : S256x2048.Idx) :
    out0_6 x0 x1 x2 x3 x4 y = norm (fun k => zb x0 x1 x2 (ix2 (y 0) k)) (zb x0 x1 x2 y) (x3 (ix2 0 (y 1))) (x4 (ix2 0 (y 1))) := by
  unfold out0_6
  frame_out
  open_payloads
  pointwise
  rfl

theorem block_yb (y : S256x2048.Idx) :
    out0_7 x0 x1 x2 x3 x4 y = norm (fun k => zb x0 x1 x2 (ix2 (y 0) k)) (zb x0 x1 x2 y) (x3 (ix2 0 (y 1))) (x4 (ix2 0 (y 1))) := by
  unfold out0_7
  frame_out
  open_payloads
  pointwise
  rfl

/-- The blocks a grid point reads, in their arrays. -/
theorem z_at (t : Fin cfg0.N) (y : S256x2048.Idx) :
    zb (iblk m c 0 t) (iblk m c 1 t) (iblk m c 2 t) y
      = z (m ((c : Thread nD τ).loc main_arg0)) (m ((c : Thread nD τ).loc main_arg1)) (m ((c : Thread nD τ).loc main_arg2)) (256 * t.val + (y 0).val) (y 1).val := by
  have hN := lt_of_lt_of_eq t.isLt N_0
  have hp : (y 0).val < 256 := (y 0).isLt
  have hq : (y 1).val < 2048 := (y 1).isLt
  unfold zb z
  refine congrArg₂ (fun t u : EReal => alpha * t + u) ?_ ?_
  · rw [← mat_of_lt _ (256 * t.val + (y 0).val) (y 1).val (by omega) hq]
    blk_ext [iblk, V, idx t]
  · unfold prod matT
    rw [Finset.sum_range]
    refine Finset.sum_congr rfl fun k _ => ?_
    rw [← mat_of_lt _ (256 * t.val + (y 0).val) k.val (by omega) k.isLt, ← mat_of_lt _ k.val (y 1).val k.isLt hq]
    refine congrArg₂ (fun t u : EReal => t * u) ?_ ?_ <;> blk_ext [iblk, V, idx t]

theorem rows_at (t : Fin cfg0.N) (y : S256x2048.Idx) :
    norm (fun k => zb (iblk m c 0 t) (iblk m c 1 t) (iblk m c 2 t) (ix2 (y 0) k)) (zb (iblk m c 0 t) (iblk m c 1 t) (iblk m c 2 t) y)
        ((iblk m c 3 t : Vec Ideal S1x2048 .f32) (ix2 0 (y 1))) ((iblk m c 4 t : Vec Ideal S1x2048 .f32) (ix2 0 (y 1)))
      = rows (z (m ((c : Thread nD τ).loc main_arg0)) (m ((c : Thread nD τ).loc main_arg1)) (m ((c : Thread nD τ).loc main_arg2)))
          (m ((c : Thread nD τ).loc main_arg3)) (m ((c : Thread nD τ).loc main_arg4)) (256 * t.val + (y 0).val) (y 1).val := by
  have hq : (y 1).val < 2048 := (y 1).isLt
  refine norm_congr (fun k => z_at m c t (ix2 (y 0) k)) (z_at m c t y) ?_ ?_ <;>
  · rw [← mat_of_lt _ 0 (y 1).val (by omega) hq]
    blk_ext [iblk, V, idx t]

/-- The result arrays after the run. -/
theorem result_z : (dats m 0 c).arrAt 5 cfg0.N = fun i => z (m ((c : Thread nD τ).loc main_arg0)) (m ((c : Thread nD τ).loc main_arg1))
    (m ((c : Thread nD τ).loc main_arg2)) (i 0).val (i 1).val := by
  refine (dats m 0 c).arrAt_eq_of_covers 5 _ (by decide +kernel) fun t hf y => ?_
  blk_simp [idx t]
  rw [after0_5, Nat.mul_comm t.val]
  exact (block_z _ _ _ _ _ _).trans (z_at m c t y)

theorem result_y : (dats m 0 c).arrAt 6 cfg0.N = fun i => rows (z (m ((c : Thread nD τ).loc main_arg0)) (m ((c : Thread nD τ).loc main_arg1))
    (m ((c : Thread nD τ).loc main_arg2))) (m ((c : Thread nD τ).loc main_arg3)) (m ((c : Thread nD τ).loc main_arg4)) (i 0).val (i 1).val := by
  refine (dats m 0 c).arrAt_eq_of_covers 6 _ (by decide +kernel) fun t hf y => ?_
  blk_simp [idx t]
  rw [after0_6, Nat.mul_comm t.val]
  exact (block_y _ _ _ _ _ _).trans (rows_at m c t y)

theorem result_yb : (dats m 0 c).arrAt 7 cfg0.N = fun i => rows (z (m ((c : Thread nD τ).loc main_arg0)) (m ((c : Thread nD τ).loc main_arg1))
    (m ((c : Thread nD τ).loc main_arg2))) (m ((c : Thread nD τ).loc main_arg3)) (m ((c : Thread nD τ).loc main_arg4)) (i 0).val (i 1).val := by
  refine (dats m 0 c).arrAt_eq_of_covers 7 _ (by decide +kernel) fun t hf y => ?_
  blk_simp [idx t]
  rw [after0_7, Nat.mul_comm t.val]
  exact (block_yb _ _ _ _ _ _).trans (rows_at m c t y)

/-- The whole run: the three results and the arguments. -/
theorem run (ρ : Dev nD → PrngReg) : θ_run defs (onTc (τ := τ) (main (F := Ideal))) ⟨m, fun _ => 0, ρ⟩ (fun r => ∀ c : Dev nD,
      r.2.mem ((c.tc : Thread nD τ).loc main_v0_0) = (fun i => z (m ((c : Thread nD τ).loc main_arg0)) (m ((c : Thread nD τ).loc main_arg1))
          (m ((c : Thread nD τ).loc main_arg2)) (i 0).val (i 1).val)
      ∧ r.2.mem ((c.tc : Thread nD τ).loc main_v0_1) = (fun i => rows (z (m ((c : Thread nD τ).loc main_arg0)) (m ((c : Thread nD τ).loc main_arg1))
          (m ((c : Thread nD τ).loc main_arg2))) (m ((c : Thread nD τ).loc main_arg3)) (m ((c : Thread nD τ).loc main_arg4)) (i 0).val (i 1).val)
      ∧ r.2.mem ((c.tc : Thread nD τ).loc main_v0_2) = (fun i => rows (z (m ((c : Thread nD τ).loc main_arg0)) (m ((c : Thread nD τ).loc main_arg1))
          (m ((c : Thread nD τ).loc main_arg2))) (m ((c : Thread nD τ).loc main_arg3)) (m ((c : Thread nD τ).loc main_arg4)) (i 0).val (i 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.1 c).1 5).trans (result_z m c), ((h.1 c).1 6).trans (result_y m c), ((h.1 c).1 7).trans (result_yb m c), h.2 c⟩)
    (θ_run_and (run_main m ρ) (unchanged m ρ))

end Kernel

/-! ## The reference -/

/-- The reference's frame. -/
theorem frame_ref : @Cert.quiescent_ReferenceMixIdeal Cert.ReferenceMixIdeal.Gen.facts := fun m ρ _ =>
  (θ_run Cert.ReferenceMixIdeal.defs _ _).mono (fun r h => ⟨fun c => (h c).2.2.2, sem_eq_zero_of_no_sems (by decide) r.2⟩) (Cert.ReferenceMixIdeal.Value.run m ρ)

variable (a : Vec Ideal S4096x2048 .bf16) (w : Vec Ideal S2048x2048 .bf16) (x : Vec Ideal S4096x2048 .f32) (g b : Vec Ideal S1x2048 .f32)

/-- An entry of the array the reference norms. -/
theorem z_ref (i : S4096x2048.Idx) :
    alpha * x i + (∑ k : Fin 2048, (a (ix2 (i 0) k) : EReal) * w (ix2 k (i 1))) = z a w x (i 0).val (i 1).val :=
  congrArg₂ (fun t u : EReal => alpha * t + u) (mat_idx x i).symm (sum_at a w (i 0) (i 1))

/-- The reference's norm at an entry is the plain norm. -/
theorem rows_ref (i : S4096x2048.Idx) :
    norm (fun k => alpha * x (ix2 (i 0) k) + ∑ l : Fin 2048, (a (ix2 (i 0) l) : EReal) * w (ix2 l k))
        (alpha * x i + ∑ l : Fin 2048, (a (ix2 (i 0) l) : EReal) * w (ix2 l (i 1))) (g (ix2 0 (i 1))) (b (ix2 0 (i 1)))
      = rows (z a w x) g b (i 0).val (i 1).val :=
  norm_congr (fun k => z_ref a w x (ix2 (i 0) k)) (z_ref a w x i) (mat_apply g 0 (i 1)).symm (mat_apply b 0 (i 1)).symm

set_option maxHeartbeats 2000000 in
/-- The three results are the reference's. -/
theorem values : @Cert.algebraic_KernelMixIdeal_ReferenceMixIdeal Cert.KernelMixIdeal.Gen.facts Cert.ReferenceMixIdeal.Gen.facts := by
  intro m g m' g' _ agree
  refine ⟨_, _, _, run m g, (θ_run Cert.ReferenceMixIdeal.defs _ _).mono
    (fun r h c => ⟨(h c).1.trans ?_, (h c).2.1.trans ?_, (h c).2.2.1.trans ?_, (h c).2.2.2⟩) (Cert.ReferenceMixIdeal.Value.run m' g')⟩
  · rw [(agree c).1, (agree c).2.1, (agree c).2.2.1]
    clear h
    funext i
    pointwise
    exact z_ref (m ((c : Thread nD τ).loc main_arg0)) (m ((c : Thread nD τ).loc main_arg1)) (m ((c : Thread nD τ).loc main_arg2)) i
  all_goals
    rw [(agree c).1, (agree c).2.1, (agree c).2.2.1, (agree c).2.2.2.1, (agree c).2.2.2.2]
    clear h
    funext i
    pointwise
    exact rows_ref (m ((c : Thread nD τ).loc main_arg0)) (m ((c : Thread nD τ).loc main_arg1)) (m ((c : Thread nD τ).loc main_arg2))
      (m ((c : Thread nD τ).loc main_arg3)) (m ((c : Thread nD τ).loc main_arg4)) i

end Cert.Mix

end
-- ==== Proof.Norm.lean ====
/- The second layer norm of a layer: of the scaled stream with the feed-forward result added. -/
module

public import proofs.«01_k».proof.Proof.LayerNorm
public import proofs.«01_k».proof.Proof.Gen.KernelNormIdeal.Frame
public import proofs.«01_k».proof.Proof.Gen.ReferenceNormIdeal.Run
public import proofs.«01_k».proof.Defs

@[expose] public section

set_option maxRecDepth 16384

noncomputable section

namespace Cert.Norm

open Idealize.ShloMosaic Idealize.ShloMosaic.TcCoe Idealize.ShloMosaic.Tactic
open Cert.KernelNormIdeal Cert.KernelNormIdeal.Gen
open Cert.Products Cert.LayerNorm

/-- What is normed. -/
def z (x f : Vec Ideal S4096x2048 .f32) (r j : ℕ) : EReal := alpha * mat (A := 4096) (B := 2048) x r j + mat (A := 4096) (B := 2048) f r j

/-! ## The kernel -/

section Kernel

variable (m : (ℓ : Loc nD τ sig) → Buf (Elt Ideal) ℓ) (c : Dev nD)

/-- Which blocks a grid point works on. -/
theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![t.val, 0] ∧ win0_6.index t = ![t.val, 0] :=
  (by decide +kernel : ∀ t : Fin grid0.N, win0_0.index t = ![t.val, 0] ∧ win0_1.index t = ![t.val, 0] ∧ win0_2.index t = ![0, 0] ∧ win0_3.index t = ![0, 0]
    ∧ win0_4.index t = ![t.val, 0] ∧ win0_5.index t = ![t.val, 0] ∧ win0_6.index t = ![t.val, 0])

/-- An entry of a block of the normed array. -/
def zb (x0 x1 : Vec Ideal S512x2048 .f32) (y : S512x2048.Idx) : EReal := alpha * x0 y + x1 y

/-- What the body leaves in a block of each result. -/
theorem block_z (x0 x1 : Vec Ideal S512x2048 .f32) (x2 x3 : Vec Ideal S1x2048 .f32) (y : S512x2048.Idx) : out0_4 x0 x1 x2 x3 y = zb x0 x1 y := by
  unfold out0_4
  frame_out
  open_payloads
  pointwise
  rfl

theorem block_y (x0 x1 : Vec Ideal S512x2048 .f32) (x2 x3 : Vec Ideal S1x2048 .f32) (y : S512x2048.Idx) :
    out0_5 x0 x1 x2 x3 y = norm (fun k => zb x0 x1 (ix2 (y 0) k)) (zb x0 x1 y) (x2 (ix2 0 (y 1))) (x3 (ix2 0 (y 1))) := by
  unfold out0_5
  frame_out
  open_payloads
  pointwise
  rfl

theorem block_yb (x0 x1 : Vec Ideal S512x2048 .f32) (x2 x3 : Vec Ideal S1x2048 .f32) (y : S512x2048.Idx) :
    out0_6 x0 x1 x2 x3 y = norm (fun k => zb x0 x1 (ix2 (y 0) k)) (zb x0 x1 y) (x2 (ix2 0 (y 1))) (x3 (ix2 0 (y 1))) := by
  unfold out0_6
  frame_out
  open_payloads
  pointwise
  rfl

/-- The blocks a grid point reads, in their arrays. -/
theorem z_at (t : Fin cfg0.N) (y : S512x2048.Idx) :
    zb (iblk m c 0 t) (iblk m c 1 t) y = z (m ((c : Thread nD τ).loc main_arg0)) (m ((c : Thread nD τ).loc main_arg1)) (512 * t.val + (y 0).val) (y 1).val := by
  have hN := lt_of_lt_of_eq t.isLt N_0
  have hp : (y 0).val < 512 := (y 0).isLt
  have hq : (y 1).val < 2048 := (y 1).isLt
  unfold zb z
  rw [← mat_of_lt _ (512 * t.val + (y 0).val) (y 1).val (by omega) hq, ← mat_of_lt _ (512 * t.val + (y 0).val) (y 1).val (by omega) hq]
  refine congrArg₂ (fun t u : EReal => alpha * t + u) ?_ ?_ <;> blk_ext [iblk, V, idx t]

theorem rows_at (t : Fin cfg0.N) (y : S512x2048.Idx) :
    norm (fun k => zb (iblk m c 0 t) (iblk m c 1 t) (ix2 (y 0) k)) (zb (iblk m c 0 t) (iblk m c 1 t) y)
        ((iblk m c 2 t : Vec Ideal S1x2048 .f32) (ix2 0 (y 1))) ((iblk m c 3 t : Vec Ideal S1x2048 .f32) (ix2 0 (y 1)))
      = rows (z (m ((c : Thread nD τ).loc main_arg0)) (m ((c : Thread nD τ).loc main_arg1))) (m ((c : Thread nD τ).loc main_arg2)) (m ((c : Thread nD τ).loc main_arg3))
          (512 * t.val + (y 0).val) (y 1).val := by
  have hq : (y 1).val < 2048 := (y 1).isLt
  refine norm_congr (fun k => z_at m c t (ix2 (y 0) k)) (z_at m c t y) ?_ ?_ <;>
  · rw [← mat_of_lt _ 0 (y 1).val (by omega) hq]
    blk_ext [iblk, V, idx t]

/-- The result arrays after the run. -/
theorem result_z : (dats m 0 c).arrAt 4 cfg0.N = fun i => z (m ((c : Thread nD τ).loc main_arg0)) (m ((c : Thread nD τ).loc main_arg1)) (i 0).val (i 1).val := by
  refine (dats m 0 c).arrAt_eq_of_covers 4 _ (by decide +kernel) fun t hf y => ?_
  blk_simp [idx t]
  rw [after0_4, Nat.mul_comm t.val]
  exact (block_z _ _ _ _ _).trans (z_at m c t y)

theorem result_y : (dats m 0 c).arrAt 5 cfg0.N = fun i => rows (z (m ((c : Thread nD τ).loc main_arg0)) (m ((c : Thread nD τ).loc main_arg1)))
    (m ((c : Thread nD τ).loc main_arg2)) (m ((c : Thread nD τ).loc main_arg3)) (i 0).val (i 1).val := by
  refine (dats m 0 c).arrAt_eq_of_covers 5 _ (by decide +kernel) fun t hf y => ?_
  blk_simp [idx t]
  rw [after0_5, Nat.mul_comm t.val]
  exact (block_y _ _ _ _ _).trans (rows_at m c t y)

theorem result_yb : (dats m 0 c).arrAt 6 cfg0.N = fun i => rows (z (m ((c : Thread nD τ).loc main_arg0)) (m ((c : Thread nD τ).loc main_arg1)))
    (m ((c : Thread nD τ).loc main_arg2)) (m ((c : Thread nD τ).loc main_arg3)) (i 0).val (i 1).val := by
  refine (dats m 0 c).arrAt_eq_of_covers 6 _ (by decide +kernel) fun t hf y => ?_
  blk_simp [idx t]
  rw [after0_6, Nat.mul_comm t.val]
  exact (block_yb _ _ _ _ _).trans (rows_at m c t y)

/-- The whole run: the three results and the arguments. -/
theorem run (ρ : Dev nD → PrngReg) : θ_run defs (onTc (τ := τ) (main (F := Ideal))) ⟨m, fun _ => 0, ρ⟩ (fun r => ∀ c : Dev nD,
      r.2.mem ((c.tc : Thread nD τ).loc main_v0_0) = (fun i => z (m ((c : Thread nD τ).loc main_arg0)) (m ((c : Thread nD τ).loc main_arg1)) (i 0).val (i 1).val)
      ∧ r.2.mem ((c.tc : Thread nD τ).loc main_v0_1) = (fun i => rows (z (m ((c : Thread nD τ).loc main_arg0)) (m ((c : Thread nD τ).loc main_arg1)))
          (m ((c : Thread nD τ).loc main_arg2)) (m ((c : Thread nD τ).loc main_arg3)) (i 0).val (i 1).val)
      ∧ r.2.mem ((c.tc : Thread nD τ).loc main_v0_2) = (fun i => rows (z (m ((c : Thread nD τ).loc main_arg0)) (m ((c : Thread nD τ).loc main_arg1)))
          (m ((c : Thread nD τ).loc main_arg2)) (m ((c : Thread nD τ).loc main_arg3)) (i 0).val (i 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1 c).1 4).trans (result_z m c), ((h.1 c).1 5).trans (result_y m c), ((h.1 c).1 6).trans (result_yb m c), h.2 c⟩)
    (θ_run_and (run_main m ρ) (unchanged m ρ))

end Kernel

/-! ## The reference -/

/-- The reference's frame. -/
theorem frame_ref : @Cert.quiescent_ReferenceNormIdeal Cert.ReferenceNormIdeal.Gen.facts := fun m ρ _ =>
  (θ_run Cert.ReferenceNormIdeal.defs _ _).mono (fun r h => ⟨fun c => (h c).2.2.2, sem_eq_zero_of_no_sems (by decide) r.2⟩) (Cert.ReferenceNormIdeal.Value.run m ρ)

theorem z_ref (x f : Vec Ideal S4096x2048 .f32) (i : S4096x2048.Idx) : alpha * x i + f i = z x f (i 0).val (i 1).val :=
  congrArg₂ (fun t u : EReal => alpha * t + u) (mat_idx x i).symm (mat_idx f i).symm

theorem z_row (x f : Vec Ideal S4096x2048 .f32) (p : Fin 4096) (q : Fin 2048) : alpha * x (ix2 p q) + f (ix2 p q) = z x f p.val q.val :=
  congrArg₂ (fun t u : EReal => alpha * t + u) (mat_apply x p q).symm (mat_apply f p q).symm

/-- The reference's norm at an entry is the plain norm. -/
theorem rows_ref (x f : Vec Ideal S4096x2048 .f32) (g b : Vec Ideal S1x2048 .f32) (i : S4096x2048.Idx) :
    norm (fun k => alpha * x (ix2 (i 0) k) + f (ix2 (i 0) k)) (alpha * x i + f i) (g (ix2 0 (i 1))) (b (ix2 0 (i 1)))
      = rows (z x f) g b (i 0).val (i 1).val :=
  norm_congr (fun k => z_row x f (i 0) k) (z_ref x f i) (mat_apply g 0 (i 1)).symm (mat_apply b 0 (i 1)).symm

set_option maxHeartbeats 2000000 in
/-- The three results are the reference's. -/
theorem values : @Cert.algebraic_KernelNormIdeal_ReferenceNormIdeal Cert.KernelNormIdeal.Gen.facts Cert.ReferenceNormIdeal.Gen.facts := by
  intro m g m' g' _ agree
  refine ⟨_, _, _, run m g, (θ_run Cert.ReferenceNormIdeal.defs _ _).mono
    (fun r h c => ⟨(h c).1.trans ?_, (h c).2.1.trans ?_, (h c).2.2.1.trans ?_, (h c).2.2.2⟩) (Cert.ReferenceNormIdeal.Value.run m' g')⟩
  · rw [(agree c).1, (agree c).2.1]
    clear h
    funext i
    pointwise
    exact z_ref (m ((c : Thread nD τ).loc main_arg0)) (m ((c : Thread nD τ).loc main_arg1)) i
  all_goals
    rw [(agree c).1, (agree c).2.1, (agree c).2.2.1, (agree c).2.2.2]
    clear h
    funext i
    pointwise
    exact rows_ref (m ((c : Thread nD τ).loc main_arg0)) (m ((c : Thread nD τ).loc main_arg1)) (m ((c : Thread nD τ).loc main_arg2)) (m ((c : Thread nD τ).loc main_arg3)) i

end Cert.Norm

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Gen.KernelAct.Frame
public import proofs.«01_k».proof.Proof.Gen.KernelDwGu.Frame
public import proofs.«01_k».proof.Proof.Gen.KernelDx1.Frame
public import proofs.«01_k».proof.Proof.Gen.KernelDwDown.Frame
public import proofs.«01_k».proof.Proof.Gen.KernelDwIn.Frame
public import proofs.«01_k».proof.Proof.Gen.KernelDxl.Frame
public import proofs.«01_k».proof.Proof.Gen.KernelDwOut.Frame
public import proofs.«01_k».proof.Proof.Gen.KernelDmixin.Frame
public import proofs.«01_k».proof.Proof.Gen.KernelDwUq.Frame
public import proofs.«01_k».proof.Proof.Gen.KernelDqn.Frame
public import proofs.«01_k».proof.Proof.Gen.KernelDwUkv.Frame
public import proofs.«01_k».proof.Proof.Gen.KernelDkvn.Frame
public import proofs.«01_k».proof.Proof.Gen.KernelGu.Frame
public import proofs.«01_k».proof.Proof.Gen.KernelDown.Frame
public import proofs.«01_k».proof.Proof.Gen.KernelH.Frame
public import proofs.«01_k».proof.Proof.Gen.KernelQ.Frame
public import proofs.«01_k».proof.Proof.Gen.KernelKv.Frame
public import proofs.«01_k».proof.Proof.Gen.KernelMix.Frame
public import proofs.«01_k».proof.Proof.Gen.KernelNorm.Frame
public import proofs.«01_k».proof.Proof.Gen.KernelRet.Frame
public import proofs.«01_k».proof.Proof.Frames
public import proofs.«01_k».proof.Proof.SameText
public import proofs.«01_k».proof.Proof.KernelRun
public import proofs.«01_k».proof.Proof.Finite
public import proofs.«01_k».proof.Proof.RefValue
public import proofs.«01_k».proof.Proof.Fwd
public import proofs.«01_k».proof.Proof.Mla
public import proofs.«01_k».proof.Proof.MlaBwd
public import proofs.«01_k».proof.Proof.Act
public import proofs.«01_k».proof.Proof.DwGu
public import proofs.«01_k».proof.Proof.Dx1
public import proofs.«01_k».proof.Proof.DwDown
public import proofs.«01_k».proof.Proof.DwIn
public import proofs.«01_k».proof.Proof.Dxl
public import proofs.«01_k».proof.Proof.DwOut
public import proofs.«01_k».proof.Proof.Dmixin
public import proofs.«01_k».proof.Proof.DwUq
public import proofs.«01_k».proof.Proof.Dqn
public import proofs.«01_k».proof.Proof.DwUkv
public import proofs.«01_k».proof.Proof.Dkvn
public import proofs.«01_k».proof.Proof.Gu
public import proofs.«01_k».proof.Proof.Down
public import proofs.«01_k».proof.Proof.H
public import proofs.«01_k».proof.Proof.Q
public import proofs.«01_k».proof.Proof.Kv
public import proofs.«01_k».proof.Proof.Mix
public import proofs.«01_k».proof.Proof.Norm

@[expose] public section

noncomputable section

namespace Cert.Proof

open Idealize.ShloMosaic Idealize.ShloMosaic.TcCoe

/-- Over the extended reals, on finite arguments, the kernel's three results are the reference's. -/
theorem values : @Cert.algebraic_KernelIdeal_ReferenceIdeal_pre_finite Cert.KernelIdeal.Gen.facts Cert.ReferenceIdeal.Gen.facts Cert.Pre_finite.Gen.facts := by
  intro m g m' g' hpre agree
  have hf := fun c => Cert.RetBwd.finite_real _ _ _ _ (hpre c)
  refine ⟨_, _, _, Cert.RetBwd.run_values m g _ _ _ _ (fun c => (hf c).1) (fun c => (hf c).2.1) (fun c => (hf c).2.2.1) (fun c => (hf c).2.2.2),
    Cert.RetRef.run_values m' g' _ _ _ _ (fun c => ?_) (fun c => ?_) (fun c => ?_) (fun c => ?_)⟩
  · rw [(agree c).1]; exact (hf c).1
  · rw [(agree c).2.1]; exact (hf c).2.1
  · rw [(agree c).2.2.1]; exact (hf c).2.2.1
  · rw [(agree c).2.2.2]; exact (hf c).2.2.2

/-- All the claims: the programs' side conditions, the frames, and program by program `preserves` and `algebraic`. -/
theorem claim : Cert.Claim :=
  ⟨Cert.Kernel.Gen.facts, Cert.KernelIdeal.Gen.facts, Cert.ReferenceIdeal.Gen.facts,
    Cert.KernelAct.Gen.facts, Cert.KernelActIdeal.Gen.facts, Cert.ReferenceActIdeal.Gen.facts,
    Cert.KernelDwGu.Gen.facts, Cert.KernelDwGuIdeal.Gen.facts, Cert.ReferenceDwGuIdeal.Gen.facts,
    Cert.KernelDx1.Gen.facts, Cert.KernelDx1Ideal.Gen.facts, Cert.ReferenceDx1Ideal.Gen.facts,
    Cert.KernelDwDown.Gen.facts, Cert.KernelDwDownIdeal.Gen.facts, Cert.ReferenceDwDownIdeal.Gen.facts,
    Cert.KernelDwIn.Gen.facts, Cert.KernelDwInIdeal.Gen.facts, Cert.ReferenceDwInIdeal.Gen.facts,
    Cert.KernelDxl.Gen.facts, Cert.KernelDxlIdeal.Gen.facts, Cert.ReferenceDxlIdeal.Gen.facts,
    Cert.KernelDwOut.Gen.facts, Cert.KernelDwOutIdeal.Gen.facts, Cert.ReferenceDwOutIdeal.Gen.facts,
    Cert.KernelDmixin.Gen.facts, Cert.KernelDmixinIdeal.Gen.facts, Cert.ReferenceDmixinIdeal.Gen.facts,
    Cert.KernelDwUq.Gen.facts, Cert.KernelDwUqIdeal.Gen.facts, Cert.ReferenceDwUqIdeal.Gen.facts,
    Cert.KernelDqn.Gen.facts, Cert.KernelDqnIdeal.Gen.facts, Cert.ReferenceDqnIdeal.Gen.facts,
    Cert.KernelDwUkv.Gen.facts, Cert.KernelDwUkvIdeal.Gen.facts, Cert.ReferenceDwUkvIdeal.Gen.facts,
    Cert.KernelDkvn.Gen.facts, Cert.KernelDkvnIdeal.Gen.facts, Cert.ReferenceDkvnIdeal.Gen.facts,
    Cert.KernelGu.Gen.facts, Cert.KernelGuIdeal.Gen.facts, Cert.ReferenceGuIdeal.Gen.facts,
    Cert.KernelDown.Gen.facts, Cert.KernelDownIdeal.Gen.facts, Cert.ReferenceDownIdeal.Gen.facts,
    Cert.KernelH.Gen.facts, Cert.KernelHIdeal.Gen.facts, Cert.ReferenceHIdeal.Gen.facts,
    Cert.KernelQ.Gen.facts, Cert.KernelQIdeal.Gen.facts, Cert.ReferenceQIdeal.Gen.facts,
    Cert.KernelKv.Gen.facts, Cert.KernelKvIdeal.Gen.facts, Cert.ReferenceKvIdeal.Gen.facts,
    Cert.KernelMix.Gen.facts, Cert.KernelMixIdeal.Gen.facts, Cert.ReferenceMixIdeal.Gen.facts,
    Cert.KernelNorm.Gen.facts, Cert.KernelNormIdeal.Gen.facts, Cert.ReferenceNormIdeal.Gen.facts,
    Cert.KernelRet.Gen.facts, Cert.KernelRetIdeal.Gen.facts, Cert.ReferenceRetIdeal.Gen.facts,
    Cert.KernelMla.Gen.facts, Cert.KernelMlaIdeal.Gen.facts, Cert.ReferenceMlaIdeal.Gen.facts,
    Cert.KernelMlaBwd.Gen.facts, Cert.KernelMlaBwdIdeal.Gen.facts, Cert.ReferenceMlaBwdIdeal.Gen.facts,
    Cert.Pre_finite.Gen.facts, Cert.Pre_finite_act.Gen.facts, Cert.Pre_finite_ret.Gen.facts, Cert.Pre_finite_mla.Gen.facts,
    Cert.Pre_finite_mla_bwd.Gen.facts,
    Cert.RetBwd.frame_kernel, fun m ρ _ => Cert.RetBwd.frame_main m ρ, fun m ρ _ => Cert.RetBwd.frame_main m ρ,
    fun m ρ _ => Cert.RetRef.frame_ref m ρ, fun m ρ _ => Cert.RetRef.frame_ref m ρ,
    fun m ρ _ => Cert.KernelAct.Gen.frame m ρ, fun m ρ _ => Cert.KernelActIdeal.Gen.frame m ρ, fun m ρ _ => Cert.KernelActIdeal.Gen.frame m ρ,
    Cert.Act.frame_ref, fun m ρ _ => Cert.Act.frame_ref m ρ trivial,
    fun m ρ _ => Cert.KernelDwGu.Gen.frame m ρ, fun m ρ _ => Cert.KernelDwGuIdeal.Gen.frame m ρ, Cert.DwGu.frame_ref,
    fun m ρ _ => Cert.KernelDx1.Gen.frame m ρ, fun m ρ _ => Cert.KernelDx1Ideal.Gen.frame m ρ, Cert.Dx1.frame_ref,
    fun m ρ _ => Cert.KernelDwDown.Gen.frame m ρ, fun m ρ _ => Cert.KernelDwDownIdeal.Gen.frame m ρ, Cert.DwDown.frame_ref,
    fun m ρ _ => Cert.KernelDwIn.Gen.frame m ρ, fun m ρ _ => Cert.KernelDwInIdeal.Gen.frame m ρ, Cert.DwIn.frame_ref,
    fun m ρ _ => Cert.KernelDxl.Gen.frame m ρ, fun m ρ _ => Cert.KernelDxlIdeal.Gen.frame m ρ, Cert.Dxl.frame_ref,
    fun m ρ _ => Cert.KernelDwOut.Gen.frame m ρ, fun m ρ _ => Cert.KernelDwOutIdeal.Gen.frame m ρ, Cert.DwOut.frame_ref,
    fun m ρ _ => Cert.KernelDmixin.Gen.frame m ρ, fun m ρ _ => Cert.KernelDmixinIdeal.Gen.frame m ρ, Cert.Dmixin.frame_ref,
    fun m ρ _ => Cert.KernelDwUq.Gen.frame m ρ, fun m ρ _ => Cert.KernelDwUqIdeal.Gen.frame m ρ, Cert.DwUq.frame_ref,
    fun m ρ _ => Cert.KernelDqn.Gen.frame m ρ, fun m ρ _ => Cert.KernelDqnIdeal.Gen.frame m ρ, Cert.Dqn.frame_ref,
    fun m ρ _ => Cert.KernelDwUkv.Gen.frame m ρ, fun m ρ _ => Cert.KernelDwUkvIdeal.Gen.frame m ρ, Cert.DwUkv.frame_ref,
    fun m ρ _ => Cert.KernelDkvn.Gen.frame m ρ, fun m ρ _ => Cert.KernelDkvnIdeal.Gen.frame m ρ, Cert.Dkvn.frame_ref,
    fun m ρ _ => Cert.KernelGu.Gen.frame m ρ, fun m ρ _ => Cert.KernelGuIdeal.Gen.frame m ρ, Cert.Gu.frame_ref,
    fun m ρ _ => Cert.KernelDown.Gen.frame m ρ, fun m ρ _ => Cert.KernelDownIdeal.Gen.frame m ρ, Cert.Down.frame_ref,
    fun m ρ _ => Cert.KernelH.Gen.frame m ρ, fun m ρ _ => Cert.KernelHIdeal.Gen.frame m ρ, Cert.H.frame_ref,
    fun m ρ _ => Cert.KernelQ.Gen.frame m ρ, fun m ρ _ => Cert.KernelQIdeal.Gen.frame m ρ, Cert.Q.frame_ref,
    fun m ρ _ => Cert.KernelKv.Gen.frame m ρ, fun m ρ _ => Cert.KernelKvIdeal.Gen.frame m ρ, Cert.Kv.frame_ref,
    fun m ρ _ => Cert.KernelMix.Gen.frame m ρ, fun m ρ _ => Cert.KernelMixIdeal.Gen.frame m ρ, Cert.Mix.frame_ref,
    fun m ρ _ => Cert.KernelNorm.Gen.frame m ρ, fun m ρ _ => Cert.KernelNormIdeal.Gen.frame m ρ, Cert.Norm.frame_ref,
    fun m ρ _ => Cert.KernelRet.Gen.frame m ρ, fun m ρ _ => Cert.KernelRetIdeal.Gen.frame m ρ, fun m ρ _ => Cert.KernelRetIdeal.Gen.frame m ρ,
    fun m ρ _ => Cert.FwdRef.frame_ref m ρ, fun m ρ _ => Cert.FwdRef.frame_ref m ρ,
    fun m ρ _ => Cert.KernelMla.Gen.frame m ρ, fun m ρ _ => Cert.KernelMlaIdeal.Gen.frame m ρ, fun m ρ _ => Cert.KernelMlaIdeal.Gen.frame m ρ,
    Cert.Mla.frame_ref, fun m ρ _ => Cert.Mla.frame_ref m ρ trivial,
    Cert.MlaBwd.frame_kernel, Cert.MlaBwd.frame_ideal, fun m ρ _ => Cert.MlaBwd.frame_ideal m ρ trivial,
    Cert.MlaBwd.frame_ref, fun m ρ _ => Cert.MlaBwd.frame_ref m ρ trivial,
    trivial, values, trivial, Cert.Act.values, trivial, Cert.DwGu.values, trivial, Cert.Dx1.values, trivial, Cert.DwDown.values, trivial,
    Cert.DwIn.values, trivial, Cert.Dxl.values, trivial, Cert.DwOut.values, trivial, Cert.Dmixin.values, trivial, Cert.DwUq.values, trivial,
    Cert.Dqn.values, trivial, Cert.DwUkv.values, trivial, Cert.Dkvn.values, trivial, Cert.Gu.values, trivial, Cert.Down.values, trivial,
    Cert.H.values, trivial, Cert.Q.values, trivial, Cert.Kv.values, trivial, Cert.Mix.values, trivial, Cert.Norm.values,
    trivial, Cert.RetFwd.values, Cert.Mla.preserves, Cert.Mla.values,
    Cert.MlaBwd.preserves, Cert.MlaBwd.values⟩

end Cert.Proof

end
